-- ==== Defs.lean ====
def Pre_Relu2 (m : (ℓ : Loc Cert.Relu2.nD Cert.Relu2.τ Cert.Relu2.sig) → Buf (Elt Bits) ℓ) : Prop :=
  True

def Pre_Relu2Ideal (m : (ℓ : Loc Cert.Relu2Ideal.nD Cert.Relu2Ideal.τ Cert.Relu2Ideal.sig) → Buf (Elt Ideal) ℓ) : Prop :=
  True

def Pre_Relu2RefIdeal (m : (ℓ : Loc Cert.Relu2RefIdeal.nD Cert.Relu2RefIdeal.τ Cert.Relu2RefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))) = (fun _ => 1#1)

def Pre_Norm2 (m : (ℓ : Loc Cert.Norm2.nD Cert.Norm2.τ Cert.Norm2.sig) → Buf (Elt Bits) ℓ) : Prop :=
  True

def Pre_Norm2Ideal (m : (ℓ : Loc Cert.Norm2Ideal.nD Cert.Norm2Ideal.τ Cert.Norm2Ideal.sig) → Buf (Elt Ideal) ℓ) : Prop :=
  True

def Pre_Norm2Ideal_finite_norm2 [hPre_finite_norm2 : Cert.Pre_finite_norm2.Facts] (m : (ℓ : Loc Cert.Norm2Ideal.nD Cert.Norm2Ideal.τ Cert.Norm2Ideal.sig) → Buf (Elt Ideal) ℓ) : Prop :=
  ∀ c : Dev Cert.Norm2Ideal.nD,
    (Cert.Pre_finite_norm2.fn (F := Ideal) (m ((c.tc : Thread Cert.Norm2Ideal.nD Cert.Norm2Ideal.τ).loc Cert.Norm2Ideal.main_arg0)) (m ((c.tc : Thread Cert.Norm2Ideal.nD Cert.Norm2Ideal.τ).loc Cert.Norm2Ideal.main_arg1)) (m ((c.tc : Thread Cert.Norm2Ideal.nD Cert.Norm2Ideal.τ).loc Cert.Norm2Ideal.main_arg2)) (m ((c.tc : Thread Cert.Norm2Ideal.nD Cert.Norm2Ideal.τ).loc Cert.Norm2Ideal.main_arg3)) (m ((c.tc : Thread Cert.Norm2Ideal.nD Cert.Norm2Ideal.τ).loc Cert.Norm2Ideal.main_arg4))) = (fun _ => 1#1)

def Pre_Norm2RefIdeal (m : (ℓ : Loc Cert.Norm2RefIdeal.nD Cert.Norm2RefIdeal.τ Cert.Norm2RefIdeal.sig) → Buf (Elt Ideal) ℓ) : Prop :=
  True

def Pre_Norm2RefIdeal_finite_norm2 [hPre_finite_norm2 : Cert.Pre_finite_norm2.Facts] (m : (ℓ : Loc Cert.Norm2RefIdeal.nD Cert.Norm2RefIdeal.τ Cert.Norm2RefIdeal.sig) → Buf (Elt Ideal) ℓ) : Prop :=
  ∀ c : Dev Cert.Norm2RefIdeal.nD,
    (Cert.Pre_finite_norm2.fn (F := Ideal) (m ((c.tc : Thread Cert.Norm2RefIdeal.nD Cert.Norm2RefIdeal.τ).loc Cert.Norm2RefIdeal.main_arg0)) (m ((c.tc : Thread Cert.Norm2RefIdeal.nD Cert.Norm2RefIdeal.τ).loc Cert.Norm2RefIdeal.main_arg1)) (m ((c.tc : Thread Cert.Norm2RefIdeal.nD Cert.Norm2RefIdeal.τ).loc Cert.Norm2RefIdeal.main_arg2)) (m ((c.tc : Thread Cert.Norm2RefIdeal.nD Cert.Norm2RefIdeal.τ).loc Cert.Norm2RefIdeal.main_arg3)) (m ((c.tc : Thread Cert.Norm2RefIdeal.nD Cert.Norm2RefIdeal.τ).loc Cert.Norm2RefIdeal.main_arg4))) = (fun _ => 1#1)

def Pre_Norm1 (m : (ℓ : Loc Cert.Norm1.nD Cert.Norm1.τ Cert.Norm1.sig) → Buf (Elt Bits) ℓ) : Prop :=
  True

def Pre_Norm1Ideal (m : (ℓ : Loc Cert.Norm1Ideal.nD Cert.Norm1Ideal.τ Cert.Norm1Ideal.sig) → Buf (Elt Ideal) ℓ) : Prop :=
  True

def Pre_Norm1Ideal_finite_norm1 [hPre_finite_norm1 : Cert.Pre_finite_norm1.Facts] (m : (ℓ : Loc Cert.Norm1Ideal.nD Cert.Norm1Ideal.τ Cert.Norm1Ideal.sig) → Buf (Elt Ideal) ℓ) : Prop :=
  ∀ c : Dev Cert.Norm1Ideal.nD,
    (Cert.Pre_finite_norm1.fn (F := Ideal) (m ((c.tc : Thread Cert.Norm1Ideal.nD Cert.Norm1Ideal.τ).loc Cert.Norm1Ideal.main_arg0)) (m ((c.tc : Thread Cert.Norm1Ideal.nD Cert.Norm1Ideal.τ).loc Cert.Norm1Ideal.main_arg1)) (m ((c.tc : Thread Cert.Norm1Ideal.nD Cert.Norm1Ideal.τ).loc Cert.Norm1Ideal.main_arg2)) (m ((c.tc : Thread Cert.Norm1Ideal.nD Cert.Norm1Ideal.τ).loc Cert.Norm1Ideal.main_arg3)) (m ((c.tc : Thread Cert.Norm1Ideal.nD Cert.Norm1Ideal.τ).loc Cert.Norm1Ideal.main_arg4))) = (fun _ => 1#1)

def Pre_Norm1RefIdeal (m : (ℓ : Loc Cert.Norm1RefIdeal.nD Cert.Norm1RefIdeal.τ Cert.Norm1RefIdeal.sig) → Buf (Elt Ideal) ℓ) : Prop :=
  True

def Pre_Norm1RefIdeal_finite_norm1 [hPre_finite_norm1 : Cert.Pre_finite_norm1.Facts] (m : (ℓ : Loc Cert.Norm1RefIdeal.nD Cert.Norm1RefIdeal.τ Cert.Norm1RefIdeal.sig) → Buf (Elt Ideal) ℓ) : Prop :=
  ∀ c : Dev Cert.Norm1RefIdeal.nD,
    (Cert.Pre_finite_norm1.fn (F := Ideal) (m ((c.tc : Thread Cert.Norm1RefIdeal.nD Cert.Norm1RefIdeal.τ).loc Cert.Norm1RefIdeal.main_arg0)) (m ((c.tc : Thread Cert.Norm1RefIdeal.nD Cert.Norm1RefIdeal.τ).loc Cert.Norm1RefIdeal.main_arg1)) (m ((c.tc : Thread Cert.Norm1RefIdeal.nD Cert.Norm1RefIdeal.τ).loc Cert.Norm1RefIdeal.main_arg2)) (m ((c.tc : Thread Cert.Norm1RefIdeal.nD Cert.Norm1RefIdeal.τ).loc Cert.Norm1RefIdeal.main_arg3)) (m ((c.tc : Thread Cert.Norm1RefIdeal.nD Cert.Norm1RefIdeal.τ).loc Cert.Norm1RefIdeal.main_arg4))) = (fun _ => 1#1)

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutIdeal_finite_attnout [hPre_finite_attnout : Cert.Pre_finite_attnout.Facts] (m : (ℓ : Loc Cert.AttnOutIdeal.nD Cert.AttnOutIdeal.τ Cert.AttnOutIdeal.sig) → Buf (Elt Ideal) ℓ) : Prop :=
  ∀ c : Dev Cert.AttnOutIdeal.nD,
    (Cert.Pre_finite_attnout.fn (F := Ideal) (m ((c.tc : Thread Cert.AttnOutIdeal.nD Cert.AttnOutIdeal.τ).loc Cert.AttnOutIdeal.main_arg0)) (m ((c.tc : Thread Cert.AttnOutIdeal.nD Cert.AttnOutIdeal.τ).loc Cert.AttnOutIdeal.main_arg1)) (m ((c.tc : Thread Cert.AttnOutIdeal.nD Cert.AttnOutIdeal.τ).loc Cert.AttnOutIdeal.main_arg2)) (m ((c.tc : Thread Cert.AttnOutIdeal.nD Cert.AttnOutIdeal.τ).loc Cert.AttnOutIdeal.main_arg3)) (m ((c.tc : Thread Cert.AttnOutIdeal.nD Cert.AttnOutIdeal.τ).loc Cert.AttnOutIdeal.main_arg4)) (m ((c.tc : Thread Cert.AttnOutIdeal.nD Cert.AttnOutIdeal.τ).loc Cert.AttnOutIdeal.main_arg5))) = (fun _ => 1#1)

def Pre_AttnOutRefIdeal (m : (ℓ : Loc Cert.AttnOutRefIdeal.nD Cert.AttnOutRefIdeal.τ Cert.AttnOutRefIdeal.sig) → Buf (Elt Ideal) ℓ) : Prop :=
  True

def Pre_AttnOutRefIdeal_finite_attnout [hPre_finite_attnout : Cert.Pre_finite_attnout.Facts] (m : (ℓ : Loc Cert.AttnOutRefIdeal.nD Cert.AttnOutRefIdeal.τ Cert.AttnOutRefIdeal.sig) → Buf (Elt Ideal) ℓ) : Prop :=
  ∀ c : Dev Cert.AttnOutRefIdeal.nD,
    (Cert.Pre_finite_attnout.fn (F := Ideal) (m ((c.tc : Thread Cert.AttnOutRefIdeal.nD Cert.AttnOutRefIdeal.τ).loc Cert.AttnOutRefIdeal.main_arg0)) (m ((c.tc : Thread Cert.AttnOutRefIdeal.nD Cert.AttnOutRefIdeal.τ).loc Cert.AttnOutRefIdeal.main_arg1)) (m ((c.tc : Thread Cert.AttnOutRefIdeal.nD Cert.AttnOutRefIdeal.τ).loc Cert.AttnOutRefIdeal.main_arg2)) (m ((c.tc : Thread Cert.AttnOutRefIdeal.nD Cert.AttnOutRefIdeal.τ).loc Cert.AttnOutRefIdeal.main_arg3)) (m ((c.tc : Thread Cert.AttnOutRefIdeal.nD Cert.AttnOutRefIdeal.τ).loc Cert.AttnOutRefIdeal.main_arg4)) (m ((c.tc : Thread Cert.AttnOutRefIdeal.nD Cert.AttnOutRefIdeal.τ).loc Cert.AttnOutRefIdeal.main_arg5))) = (fun _ => 1#1)

def Pre_Forget (m : (ℓ : Loc Cert.Forget.nD Cert.Forget.τ Cert.Forget.sig) → Buf (Elt Bits) ℓ) : Prop :=
  True

def Pre_ForgetIdeal (m : (ℓ : Loc Cert.ForgetIdeal.nD Cert.ForgetIdeal.τ Cert.ForgetIdeal.sig) → Buf (Elt Ideal) ℓ) : Prop :=
  True

def Pre_ForgetIdeal_finite_forget [hPre_finite_forget : Cert.Pre_finite_forget.Facts] (m : (ℓ : Loc Cert.ForgetIdeal.nD Cert.ForgetIdeal.τ Cert.ForgetIdeal.sig) → Buf (Elt Ideal) ℓ) : Prop :=
  ∀ c : Dev Cert.ForgetIdeal.nD,
    (Cert.Pre_finite_forget.fn (F := Ideal) (m ((c.tc : Thread Cert.ForgetIdeal.nD Cert.ForgetIdeal.τ).loc Cert.ForgetIdeal.main_arg0)) (m ((c.tc : Thread Cert.ForgetIdeal.nD Cert.ForgetIdeal.τ).loc Cert.ForgetIdeal.main_arg1)) (m ((c.tc : Thread Cert.ForgetIdeal.nD Cert.ForgetIdeal.τ).loc Cert.ForgetIdeal.main_arg2)) (m ((c.tc : Thread Cert.ForgetIdeal.nD Cert.ForgetIdeal.τ).loc Cert.ForgetIdeal.main_arg3))) = (fun _ => 1#1)

def Pre_ForgetRefIdeal (m : (ℓ : Loc Cert.ForgetRefIdeal.nD Cert.ForgetRefIdeal.τ Cert.ForgetRefIdeal.sig) → Buf (Elt Ideal) ℓ) : Prop :=
  True

def Pre_ForgetRefIdeal_finite_forget [hPre_finite_forget : Cert.Pre_finite_forget.Facts] (m : (ℓ : Loc Cert.ForgetRefIdeal.nD Cert.ForgetRefIdeal.τ Cert.ForgetRefIdeal.sig) → Buf (Elt Ideal) ℓ) : Prop :=
  ∀ c : Dev Cert.ForgetRefIdeal.nD,
    (Cert.Pre_finite_forget.fn (F := Ideal) (m ((c.tc : Thread Cert.ForgetRefIdeal.nD Cert.ForgetRefIdeal.τ).loc Cert.ForgetRefIdeal.main_arg0)) (m ((c.tc : Thread Cert.ForgetRefIdeal.nD Cert.ForgetRefIdeal.τ).loc Cert.ForgetRefIdeal.main_arg1)) (m ((c.tc : Thread Cert.ForgetRefIdeal.nD Cert.ForgetRefIdeal.τ).loc Cert.ForgetRefIdeal.main_arg2)) (m ((c.tc : Thread Cert.ForgetRefIdeal.nD Cert.ForgetRefIdeal.τ).loc Cert.ForgetRefIdeal.main_arg3))) = (fun _ => 1#1)

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguIdeal_finite_sgu [hPre_finite_sgu : Cert.Pre_finite_sgu.Facts] (m : (ℓ : Loc Cert.SguIdeal.nD Cert.SguIdeal.τ Cert.SguIdeal.sig) → Buf (Elt Ideal) ℓ) : Prop :=
  ∀ c : Dev Cert.SguIdeal.nD,
    (Cert.Pre_finite_sgu.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5)) (m ((c.tc : Thread Cert.SguIdeal.nD Cert.SguIdeal.τ).loc Cert.SguIdeal.main_arg6))) = (fun _ => 1#1)

def Pre_SguRefIdeal (m : (ℓ : Loc Cert.SguRefIdeal.nD Cert.SguRefIdeal.τ Cert.SguRefIdeal.sig) → Buf (Elt Ideal) ℓ) : Prop :=
  True

def Pre_SguRefIdeal_finite_sgu [hPre_finite_sgu : Cert.Pre_finite_sgu.Facts] (m : (ℓ : Loc Cert.SguRefIdeal.nD Cert.SguRefIdeal.τ Cert.SguRefIdeal.sig) → Buf (Elt Ideal) ℓ) : Prop :=
  ∀ c : Dev Cert.SguRefIdeal.nD,
    (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5)) (m ((c.tc : Thread Cert.SguRefIdeal.nD Cert.SguRefIdeal.τ).loc Cert.SguRefIdeal.main_arg6))) = (fun _ => 1#1)

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_ResidRefIdeal (m : (ℓ : Loc Cert.ResidRefIdeal.nD Cert.ResidRefIdeal.τ Cert.ResidRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_Cum (m : (ℓ : Loc Cert.Cum.nD Cert.Cum.τ Cert.Cum.sig) → Buf (Elt Bits) ℓ) : Prop :=
  True

def Pre_CumIdeal (m : (ℓ : Loc Cert.CumIdeal.nD Cert.CumIdeal.τ Cert.CumIdeal.sig) → Buf (Elt Ideal) ℓ) : Prop :=
  True

def Pre_CumIdeal_finite_cum [hPre_finite_cum : Cert.Pre_finite_cum.Facts] (m : (ℓ : Loc Cert.CumIdeal.nD Cert.CumIdeal.τ Cert.CumIdeal.sig) → Buf (Elt Ideal) ℓ) : Prop :=
  ∀ c : Dev Cert.CumIdeal.nD,
    (Cert.Pre_finite_cum.fn (F := Ideal) (m ((c.tc : Thread Cert.CumIdeal.nD Cert.CumIdeal.τ).loc Cert.CumIdeal.main_arg0)) (m ((c.tc : Thread Cert.CumIdeal.nD Cert.CumIdeal.τ).loc Cert.CumIdeal.main_arg1))) = (fun _ => 1#1)

def Pre_CumRefIdeal (m : (ℓ : Loc Cert.CumRefIdeal.nD Cert.CumRefIdeal.τ Cert.CumRefIdeal.sig) → Buf (Elt Ideal) ℓ) : Prop :=
  True

def Pre_CumRefIdeal_finite_cum [hPre_finite_cum : Cert.Pre_finite_cum.Facts] (m : (ℓ : Loc Cert.CumRefIdeal.nD Cert.CumRefIdeal.τ Cert.CumRefIdeal.sig) → Buf (Elt Ideal) ℓ) : Prop :=
  ∀ c : Dev Cert.CumRefIdeal.nD,
    (Cert.Pre_finite_cum.fn (F := Ideal) (m ((c.tc : Thread Cert.CumRefIdeal.nD Cert.CumRefIdeal.τ).loc Cert.CumRefIdeal.main_arg0)) (m ((c.tc : Thread Cert.CumRefIdeal.nD Cert.CumRefIdeal.τ).loc Cert.CumRefIdeal.main_arg1))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Gw (m : (ℓ : Loc Cert.Gw.nD Cert.Gw.τ Cert.Gw.sig) → Buf (Elt Bits) ℓ) : Prop :=
  True

def Pre_GwIdeal (m : (ℓ : Loc Cert.GwIdeal.nD Cert.GwIdeal.τ Cert.GwIdeal.sig) → Buf (Elt Ideal) ℓ) : Prop :=
  True

def Pre_GwRefIdeal (m : (ℓ : Loc Cert.GwRefIdeal.nD Cert.GwRefIdeal.τ Cert.GwRefIdeal.sig) → Buf (Elt Ideal) ℓ) : Prop :=
  True

def Pre_Rest (m : (ℓ : Loc Cert.Rest.nD Cert.Rest.τ Cert.Rest.sig) → Buf (Elt Bits) ℓ) : Prop :=
  True

def Pre_RestIdeal (m : (ℓ : Loc Cert.RestIdeal.nD Cert.RestIdeal.τ Cert.RestIdeal.sig) → Buf (Elt Ideal) ℓ) : Prop :=
  True

def Pre_RestRefIdeal (m : (ℓ : Loc Cert.RestRefIdeal.nD Cert.RestRefIdeal.τ Cert.RestRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Tiny (m : (ℓ : Loc Cert.Tiny.nD Cert.Tiny.τ Cert.Tiny.sig) → Buf (Elt Bits) ℓ) : Prop :=
  True

def Pre_TinyIdeal (m : (ℓ : Loc Cert.TinyIdeal.nD Cert.TinyIdeal.τ Cert.TinyIdeal.sig) → Buf (Elt Ideal) ℓ) : Prop :=
  True

def Pre_TinyRefIdeal (m : (ℓ : Loc Cert.TinyRefIdeal.nD Cert.TinyRefIdeal.τ Cert.TinyRefIdeal.sig) → Buf (Elt Ideal) ℓ) : Prop :=
  True

def quiescent_Relu2 [hRelu2 : Cert.Relu2.Facts] : Prop :=
  ∀ (m : (ℓ : Loc Cert.Relu2.nD Cert.Relu2.τ Cert.Relu2.sig) → Buf (Elt Bits) ℓ) (g : Dev Cert.Relu2.nD → PrngReg), Pre_Relu2 m →
    θ_run (Cert.Relu2.defs (F := Bits)) (onTc (τ := Cert.Relu2.τ) (Cert.Relu2.main (F := Bits))) ⟨m, fun _ => 0, g⟩ (fun r => (∀ c : Dev Cert.Relu2.nD,
      r.2.mem ((c.tc : Thread Cert.Relu2.nD Cert.Relu2.τ).loc Cert.Relu2.main_arg0) = m ((c.tc : Thread Cert.Relu2.nD Cert.Relu2.τ).loc Cert.Relu2.main_arg0)
      ∧ r.2.mem ((c.tc : Thread Cert.Relu2.nD Cert.Relu2.τ).loc Cert.Relu2.main_arg1) = m ((c.tc : Thread Cert.Relu2.nD Cert.Relu2.τ).loc Cert.Relu2.main_arg1)
      ∧ r.2.mem ((c.tc : Thread Cert.Relu2.nD Cert.Relu2.τ).loc Cert.Relu2.main_arg2) = m ((c.tc : Thread Cert.Relu2.nD Cert.Relu2.τ).loc Cert.Relu2.main_arg2))
      ∧ r.2.sem = fun _ => 0)

def quiescent_Relu2Ideal [hRelu2Ideal : Cert.Relu2Ideal.Facts] : Prop :=
  ∀ (m : (ℓ : Loc Cert.Relu2Ideal.nD Cert.Relu2Ideal.τ Cert.Relu2Ideal.sig) → Buf (Elt Ideal) ℓ) (g : Dev Cert.Relu2Ideal.nD → PrngReg), Pre_Relu2Ideal m →
    θ_run (Cert.Relu2Ideal.defs (F := Ideal)) (onTc (τ := Cert.Relu2Ideal.τ) (Cert.Relu2Ideal.main (F := Ideal))) ⟨m, fun _ => 0, g⟩ (fun r => (∀ c : Dev Cert.Relu2Ideal.nD,
      r.2.mem ((c.tc : Thread Cert.Relu2Ideal.nD Cert.Relu2Ideal.τ).loc Cert.Relu2Ideal.main_arg0) = m ((c.tc : Thread Cert.Relu2Ideal.nD Cert.Relu2Ideal.τ).loc Cert.Relu2Ideal.main_arg0)
      ∧ r.2.mem ((c.tc : Thread Cert.Relu2Ideal.nD Cert.Relu2Ideal.τ).loc Cert.Relu2Ideal.main_arg1) = m ((c.tc : Thread Cert.Relu2Ideal.nD Cert.Relu2Ideal.τ).loc Cert.Relu2Ideal.main_arg1)
      ∧ r.2.mem ((c.tc : Thread Cert.Relu2Ideal.nD Cert.Relu2Ideal.τ).loc Cert.Relu2Ideal.main_arg2) = m ((c.tc : Thread Cert.Relu2Ideal.nD Cert.Relu2Ideal.τ).loc Cert.Relu2Ideal.main_arg2))
      ∧ r.2.sem = fun _ => 0)

def quiescent_Relu2RefIdeal [hRelu2RefIdeal : Cert.Relu2RefIdeal.Facts] : Prop :=
  ∀ (m : (ℓ : Loc Cert.Relu2RefIdeal.nD Cert.Relu2RefIdeal.τ Cert.Relu2RefIdeal.sig) → Buf (Elt Ideal) ℓ) (g : Dev Cert.Relu2RefIdeal.nD → PrngReg), Pre_Relu2RefIdeal m →
    θ_run (Cert.Relu2RefIdeal.defs (F := Ideal)) (onTc (τ := Cert.Relu2RefIdeal.τ) (Cert.Relu2RefIdeal.main (F := Ideal))) ⟨m, fun _ => 0, g⟩ (fun r => (∀ c : Dev Cert.Relu2RefIdeal.nD,
      r.2.mem ((c.tc : Thread Cert.Relu2RefIdeal.nD Cert.Relu2RefIdeal.τ).loc Cert.Relu2RefIdeal.main_arg0) = m ((c.tc : Thread Cert.Relu2RefIdeal.nD Cert.Relu2RefIdeal.τ).loc Cert.Relu2RefIdeal.main_arg0)
      ∧ r.2.mem ((c.tc : Thread Cert.Relu2RefIdeal.nD Cert.Relu2RefIdeal.τ).loc Cert.Relu2RefIdeal.main_arg1) = m ((c.tc : Thread Cert.Relu2RefIdeal.nD Cert.Relu2RefIdeal.τ).loc Cert.Relu2RefIdeal.main_arg1)
      ∧ r.2.mem ((c.tc : Thread Cert.Relu2RefIdeal.nD Cert.Relu2RefIdeal.τ).loc Cert.Relu2RefIdeal.main_arg2) = m ((c.tc : Thread Cert.Relu2RefIdeal.nD Cert.Relu2RefIdeal.τ).loc Cert.Relu2RefIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3)
      ∧ r.2.mem ((c.tc : Thread Cert.GatesRefIdeal.nD Cert.GatesRefIdeal.τ).loc Cert.GatesRefIdeal.main_arg4) = m ((c.tc : Thread Cert.GatesRefIdeal.nD Cert.GatesRefIdeal.τ).loc Cert.GatesRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Norm2 [hNorm2 : Cert.Norm2.Facts] : Prop :=
  ∀ (m : (ℓ : Loc Cert.Norm2.nD Cert.Norm2.τ Cert.Norm2.sig) → Buf (Elt Bits) ℓ) (g : Dev Cert.Norm2.nD → PrngReg), Pre_Norm2 m →
    θ_run (Cert.Norm2.defs (F := Bits)) (onTc (τ := Cert.Norm2.τ) (Cert.Norm2.main (F := Bits))) ⟨m, fun _ => 0, g⟩ (fun r => (∀ c : Dev Cert.Norm2.nD,
      r.2.mem ((c.tc : Thread Cert.Norm2.nD Cert.Norm2.τ).loc Cert.Norm2.main_arg0) = m ((c.tc : Thread Cert.Norm2.nD Cert.Norm2.τ).loc Cert.Norm2.main_arg0)
      ∧ r.2.mem ((c.tc : Thread Cert.Norm2.nD Cert.Norm2.τ).loc Cert.Norm2.main_arg1) = m ((c.tc : Thread Cert.Norm2.nD Cert.Norm2.τ).loc Cert.Norm2.main_arg1)
      ∧ r.2.mem ((c.tc : Thread Cert.Norm2.nD Cert.Norm2.τ).loc Cert.Norm2.main_arg2) = m ((c.tc : Thread Cert.Norm2.nD Cert.Norm2.τ).loc Cert.Norm2.main_arg2)
      ∧ r.2.mem ((c.tc : Thread Cert.Norm2.nD Cert.Norm2.τ).loc Cert.Norm2.main_arg3) = m ((c.tc : Thread Cert.Norm2.nD Cert.Norm2.τ).loc Cert.Norm2.main_arg3)
      ∧ r.2.mem ((c.tc : Thread Cert.Norm2.nD Cert.Norm2.τ).loc Cert.Norm2.main_arg4) = m ((c.tc : Thread Cert.Norm2.nD Cert.Norm2.τ).loc Cert.Norm2.main_arg4))
      ∧ r.2.sem = fun _ => 0)

def quiescent_Norm2Ideal [hNorm2Ideal : Cert.Norm2Ideal.Facts] : Prop :=
  ∀ (m : (ℓ : Loc Cert.Norm2Ideal.nD Cert.Norm2Ideal.τ Cert.Norm2Ideal.sig) → Buf (Elt Ideal) ℓ) (g : Dev Cert.Norm2Ideal.nD → PrngReg), Pre_Norm2Ideal m →
    θ_run (Cert.Norm2Ideal.defs (F := Ideal)) (onTc (τ := Cert.Norm2Ideal.τ) (Cert.Norm2Ideal.main (F := Ideal))) ⟨m, fun _ => 0, g⟩ (fun r => (∀ c : Dev Cert.Norm2Ideal.nD,
      r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
      ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
      ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
      ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
      ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4))
      ∧ r.2.sem = fun _ => 0)

def quiescent_Norm2Ideal_pre_finite_norm2 [hNorm2Ideal : Cert.Norm2Ideal.Facts] [hPre_finite_norm2 : Cert.Pre_finite_norm2.Facts] : Prop :=
  ∀ (m : (ℓ : Loc Cert.Norm2Ideal.nD Cert.Norm2Ideal.τ Cert.Norm2Ideal.sig) → Buf (Elt Ideal) ℓ) (g : Dev Cert.Norm2Ideal.nD → PrngReg), Pre_Norm2Ideal_finite_norm2 m →
    θ_run (Cert.Norm2Ideal.defs (F := Ideal)) (onTc (τ := Cert.Norm2Ideal.τ) (Cert.Norm2Ideal.main (F := Ideal))) ⟨m, fun _ => 0, g⟩ (fun r => (∀ c : Dev Cert.Norm2Ideal.nD,
      r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
      ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
      ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
      ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
      ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4))
      ∧ r.2.sem = fun _ => 0)

def quiescent_Norm2RefIdeal [hNorm2RefIdeal : Cert.Norm2RefIdeal.Facts] : Prop :=
  ∀ (m : (ℓ : Loc Cert.Norm2RefIdeal.nD Cert.Norm2RefIdeal.τ Cert.Norm2RefIdeal.sig) → Buf (Elt Ideal) ℓ) (g : Dev Cert.Norm2RefIdeal.nD → PrngReg), Pre_Norm2RefIdeal m →
    θ_run (Cert.Norm2RefIdeal.defs (F := Ideal)) (onTc (τ := Cert.Norm2RefIdeal.τ) (Cert.Norm2RefIdeal.main (F := Ideal))) ⟨m, fun _ => 0, g⟩ (fun r => (∀ c : Dev Cert.Norm2RefIdeal.nD,
      r.2.mem ((c.tc : Thread Cert.Norm2RefIdeal.nD Cert.Norm2RefIdeal.τ).loc Cert.Norm2RefIdeal.main_arg0) = m ((c.tc : Thread Cert.Norm2RefIdeal.nD Cert.Norm2RefIdeal.τ).loc Cert.Norm2RefIdeal.main_arg0)
      ∧ r.2.mem ((c.tc : Thread Cert.Norm2RefIdeal.nD Cert.Norm2RefIdeal.τ).loc Cert.Norm2RefIdeal.main_arg1) = m ((c.tc : Thread Cert.Norm2RefIdeal.nD Cert.Norm2RefIdeal.τ).loc Cert.Norm2RefIdeal.main_arg1)
      ∧ r.2.mem ((c.tc : Thread Cert.Norm2RefIdeal.nD Cert.Norm2RefIdeal.τ).loc Cert.Norm2RefIdeal.main_arg2) = m ((c.tc : Thread Cert.Norm2RefIdeal.nD Cert.Norm2RefIdeal.τ).loc Cert.Norm2RefIdeal.main_arg2)
      ∧ r.2.mem ((c.tc : Thread Cert.Norm2RefIdeal.nD Cert.Norm2RefIdeal.τ).loc Cert.Norm2RefIdeal.main_arg3) = m ((c.tc : Thread Cert.Norm2RefIdeal.nD Cert.Norm2RefIdeal.τ).loc Cert.Norm2RefIdeal.main_arg3)
      ∧ r.2.mem ((c.tc : Thread Cert.Norm2RefIdeal.nD Cert.Norm2RefIdeal.τ).loc Cert.Norm2RefIdeal.main_arg4) = m ((c.tc : Thread Cert.Norm2RefIdeal.nD Cert.Norm2RefIdeal.τ).loc Cert.Norm2RefIdeal.main_arg4))
      ∧ r.2.sem = fun _ => 0)

def quiescent_Norm2RefIdeal_pre_finite_norm2 [hNorm2RefIdeal : Cert.Norm2RefIdeal.Facts] [hPre_finite_norm2 : Cert.Pre_finite_norm2.Facts] : Prop :=
  ∀ (m : (ℓ : Loc Cert.Norm2RefIdeal.nD Cert.Norm2RefIdeal.τ Cert.Norm2RefIdeal.sig) → Buf (Elt Ideal) ℓ) (g : Dev Cert.Norm2RefIdeal.nD → PrngReg), Pre_Norm2RefIdeal_finite_norm2 m →
    θ_run (Cert.Norm2RefIdeal.defs (F := Ideal)) (onTc (τ := Cert.Norm2RefIdeal.τ) (Cert.Norm2RefIdeal.main (F := Ideal))) ⟨m, fun _ => 0, g⟩ (fun r => (∀ c : Dev Cert.Norm2RefIdeal.nD,
      r.2.mem ((c.tc : Thread Cert.Norm2RefIdeal.nD Cert.Norm2RefIdeal.τ).loc Cert.Norm2RefIdeal.main_arg0) = m ((c.tc : Thread Cert.Norm2RefIdeal.nD Cert.Norm2RefIdeal.τ).loc Cert.Norm2RefIdeal.main_arg0)
      ∧ r.2.mem ((c.tc : Thread Cert.Norm2RefIdeal.nD Cert.Norm2RefIdeal.τ).loc Cert.Norm2RefIdeal.main_arg1) = m ((c.tc : Thread Cert.Norm2RefIdeal.nD Cert.Norm2RefIdeal.τ).loc Cert.Norm2RefIdeal.main_arg1)
      ∧ r.2.mem ((c.tc : Thread Cert.Norm2RefIdeal.nD Cert.Norm2RefIdeal.τ).loc Cert.Norm2RefIdeal.main_arg2) = m ((c.tc : Thread Cert.Norm2RefIdeal.nD Cert.Norm2RefIdeal.τ).loc Cert.Norm2RefIdeal.main_arg2)
      ∧ r.2.mem ((c.tc : Thread Cert.Norm2RefIdeal.nD Cert.Norm2RefIdeal.τ).loc Cert.Norm2RefIdeal.main_arg3) = m ((c.tc : Thread Cert.Norm2RefIdeal.nD Cert.Norm2RefIdeal.τ).loc Cert.Norm2RefIdeal.main_arg3)
      ∧ r.2.mem ((c.tc : Thread Cert.Norm2RefIdeal.nD Cert.Norm2RefIdeal.τ).loc Cert.Norm2RefIdeal.main_arg4) = m ((c.tc : Thread Cert.Norm2RefIdeal.nD Cert.Norm2RefIdeal.τ).loc Cert.Norm2RefIdeal.main_arg4))
      ∧ r.2.sem = fun _ => 0)

def quiescent_Norm1 [hNorm1 : Cert.Norm1.Facts] : Prop :=
  ∀ (m : (ℓ : Loc Cert.Norm1.nD Cert.Norm1.τ Cert.Norm1.sig) → Buf (Elt Bits) ℓ) (g : Dev Cert.Norm1.nD → PrngReg), Pre_Norm1 m →
    θ_run (Cert.Norm1.defs (F := Bits)) (onTc (τ := Cert.Norm1.τ) (Cert.Norm1.main (F := Bits))) ⟨m, fun _ => 0, g⟩ (fun r => (∀ c : Dev Cert.Norm1.nD,
      r.2.mem ((c.tc : Thread Cert.Norm1.nD Cert.Norm1.τ).loc Cert.Norm1.main_arg0) = m ((c.tc : Thread Cert.Norm1.nD Cert.Norm1.τ).loc Cert.Norm1.main_arg0)
      ∧ r.2.mem ((c.tc : Thread Cert.Norm1.nD Cert.Norm1.τ).loc Cert.Norm1.main_arg1) = m ((c.tc : Thread Cert.Norm1.nD Cert.Norm1.τ).loc Cert.Norm1.main_arg1)
      ∧ r.2.mem ((c.tc : Thread Cert.Norm1.nD Cert.Norm1.τ).loc Cert.Norm1.main_arg2) = m ((c.tc : Thread Cert.Norm1.nD Cert.Norm1.τ).loc Cert.Norm1.main_arg2)
      ∧ r.2.mem ((c.tc : Thread Cert.Norm1.nD Cert.Norm1.τ).loc Cert.Norm1.main_arg3) = m ((c.tc : Thread Cert.Norm1.nD Cert.Norm1.τ).loc Cert.Norm1.main_arg3)
      ∧ r.2.mem ((c.tc : Thread Cert.Norm1.nD Cert.Norm1.τ).loc Cert.Norm1.main_arg4) = m ((c.tc : Thread Cert.Norm1.nD Cert.Norm1.τ).loc Cert.Norm1.main_arg4))
      ∧ r.2.sem = fun _ => 0)

def quiescent_Norm1Ideal [hNorm1Ideal : Cert.Norm1Ideal.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
      ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
      ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3)
      ∧ r.2.mem ((c.tc : Thread Cert.Norm1Ideal.nD Cert.Norm1Ideal.τ).loc Cert.Norm1Ideal.main_arg4) = m ((c.tc : Thread Cert.Norm1Ideal.nD Cert.Norm1Ideal.τ).loc Cert.Norm1Ideal.main_arg4))
      ∧ r.2.sem = fun _ => 0)

def quiescent_Norm1Ideal_pre_finite_norm1 [hNorm1Ideal : Cert.Norm1Ideal.Facts] [hPre_finite_norm1 : Cert.Pre_finite_norm1.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal_finite_norm1 m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
      ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
      ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3)
      ∧ r.2.mem ((c.tc : Thread Cert.Norm1Ideal.nD Cert.Norm1Ideal.τ).loc Cert.Norm1Ideal.main_arg4) = m ((c.tc : Thread Cert.Norm1Ideal.nD Cert.Norm1Ideal.τ).loc Cert.Norm1Ideal.main_arg4))
      ∧ r.2.sem = fun _ => 0)

def quiescent_Norm1RefIdeal [hNorm1RefIdeal : Cert.Norm1RefIdeal.Facts] : Prop :=
  ∀ (m : (ℓ : Loc Cert.Norm1RefIdeal.nD Cert.Norm1RefIdeal.τ Cert.Norm1RefIdeal.sig) → Buf (Elt Ideal) ℓ) (g : Dev Cert.Norm1RefIdeal.nD → PrngReg), Pre_Norm1RefIdeal m →
    θ_run (Cert.Norm1RefIdeal.defs (F := Ideal)) (onTc (τ := Cert.Norm1RefIdeal.τ) (Cert.Norm1RefIdeal.main (F := Ideal))) ⟨m, fun _ => 0, g⟩ (fun r => (∀ c : Dev Cert.Norm1RefIdeal.nD,
      r.2.mem ((c.tc : Thread Cert.Norm1RefIdeal.nD Cert.Norm1RefIdeal.τ).loc Cert.Norm1RefIdeal.main_arg0) = m ((c.tc : Thread Cert.Norm1RefIdeal.nD Cert.Norm1RefIdeal.τ).loc Cert.Norm1RefIdeal.main_arg0)
      ∧ r.2.mem ((c.tc : Thread Cert.Norm1RefIdeal.nD Cert.Norm1RefIdeal.τ).loc Cert.Norm1RefIdeal.main_arg1) = m ((c.tc : Thread Cert.Norm1RefIdeal.nD Cert.Norm1RefIdeal.τ).loc Cert.Norm1RefIdeal.main_arg1)
      ∧ r.2.mem ((c.tc : Thread Cert.Norm1RefIdeal.nD Cert.Norm1RefIdeal.τ).loc Cert.Norm1RefIdeal.main_arg2) = m ((c.tc : Thread Cert.Norm1RefIdeal.nD Cert.Norm1RefIdeal.τ).loc Cert.Norm1RefIdeal.main_arg2)
      ∧ r.2.mem ((c.tc : Thread Cert.Norm1RefIdeal.nD Cert.Norm1RefIdeal.τ).loc Cert.Norm1RefIdeal.main_arg3) = m ((c.tc : Thread Cert.Norm1RefIdeal.nD Cert.Norm1RefIdeal.τ).loc Cert.Norm1RefIdeal.main_arg3)
      ∧ r.2.mem ((c.tc : Thread Cert.Norm1RefIdeal.nD Cert.Norm1RefIdeal.τ).loc Cert.Norm1RefIdeal.main_arg4) = m ((c.tc : Thread Cert.Norm1RefIdeal.nD Cert.Norm1RefIdeal.τ).loc Cert.Norm1RefIdeal.main_arg4))
      ∧ r.2.sem = fun _ => 0)

def quiescent_Norm1RefIdeal_pre_finite_norm1 [hNorm1RefIdeal : Cert.Norm1RefIdeal.Facts] [hPre_finite_norm1 : Cert.Pre_finite_norm1.Facts] : Prop :=
  ∀ (m : (ℓ : Loc Cert.Norm1RefIdeal.nD Cert.Norm1RefIdeal.τ Cert.Norm1RefIdeal.sig) → Buf (Elt Ideal) ℓ) (g : Dev Cert.Norm1RefIdeal.nD → PrngReg), Pre_Norm1RefIdeal_finite_norm1 m →
    θ_run (Cert.Norm1RefIdeal.defs (F := Ideal)) (onTc (τ := Cert.Norm1RefIdeal.τ) (Cert.Norm1RefIdeal.main (F := Ideal))) ⟨m, fun _ => 0, g⟩ (fun r => (∀ c : Dev Cert.Norm1RefIdeal.nD,
      r.2.mem ((c.tc : Thread Cert.Norm1RefIdeal.nD Cert.Norm1RefIdeal.τ).loc Cert.Norm1RefIdeal.main_arg0) = m ((c.tc : Thread Cert.Norm1RefIdeal.nD Cert.Norm1RefIdeal.τ).loc Cert.Norm1RefIdeal.main_arg0)
      ∧ r.2.mem ((c.tc : Thread Cert.Norm1RefIdeal.nD Cert.Norm1RefIdeal.τ).loc Cert.Norm1RefIdeal.main_arg1) = m ((c.tc : Thread Cert.Norm1RefIdeal.nD Cert.Norm1RefIdeal.τ).loc Cert.Norm1RefIdeal.main_arg1)
      ∧ r.2.mem ((c.tc : Thread Cert.Norm1RefIdeal.nD Cert.Norm1RefIdeal.τ).loc Cert.Norm1RefIdeal.main_arg2) = m ((c.tc : Thread Cert.Norm1RefIdeal.nD Cert.Norm1RefIdeal.τ).loc Cert.Norm1RefIdeal.main_arg2)
      ∧ r.2.mem ((c.tc : Thread Cert.Norm1RefIdeal.nD Cert.Norm1RefIdeal.τ).loc Cert.Norm1RefIdeal.main_arg3) = m ((c.tc : Thread Cert.Norm1RefIdeal.nD Cert.Norm1RefIdeal.τ).loc Cert.Norm1RefIdeal.main_arg3)
      ∧ r.2.mem ((c.tc : Thread Cert.Norm1RefIdeal.nD Cert.Norm1RefIdeal.τ).loc Cert.Norm1RefIdeal.main_arg4) = m ((c.tc : Thread Cert.Norm1RefIdeal.nD Cert.Norm1RefIdeal.τ).loc Cert.Norm1RefIdeal.main_arg4))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3)
      ∧ r.2.mem ((c.tc : Thread Cert.AttnOut.nD Cert.AttnOut.τ).loc Cert.AttnOut.main_arg4) = m ((c.tc : Thread Cert.AttnOut.nD Cert.AttnOut.τ).loc Cert.AttnOut.main_arg4)
      ∧ r.2.mem ((c.tc : Thread Cert.AttnOut.nD Cert.AttnOut.τ).loc Cert.AttnOut.main_arg5) = m ((c.tc : Thread Cert.AttnOut.nD Cert.AttnOut.τ).loc Cert.AttnOut.main_arg5))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
      ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4)
      ∧ r.2.mem ((c.tc : Thread Cert.AttnOutIdeal.nD Cert.AttnOutIdeal.τ).loc Cert.AttnOutIdeal.main_arg5) = m ((c.tc : Thread Cert.AttnOutIdeal.nD Cert.AttnOutIdeal.τ).loc Cert.AttnOutIdeal.main_arg5))
      ∧ r.2.sem = fun _ => 0)

def quiescent_AttnOutIdeal_pre_finite_attnout [hAttnOutIdeal : Cert.AttnOutIdeal.Facts] [hPre_finite_attnout : Cert.Pre_finite_attnout.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal_finite_attnout m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
      ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4)
      ∧ r.2.mem ((c.tc : Thread Cert.AttnOutIdeal.nD Cert.AttnOutIdeal.τ).loc Cert.AttnOutIdeal.main_arg5) = m ((c.tc : Thread Cert.AttnOutIdeal.nD Cert.AttnOutIdeal.τ).loc Cert.AttnOutIdeal.main_arg5))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3)
      ∧ r.2.mem ((c.tc : Thread Cert.AttnOutRefIdeal.nD Cert.AttnOutRefIdeal.τ).loc Cert.AttnOutRefIdeal.main_arg4) = m ((c.tc : Thread Cert.AttnOutRefIdeal.nD Cert.AttnOutRefIdeal.τ).loc Cert.AttnOutRefIdeal.main_arg4)
      ∧ r.2.mem ((c.tc : Thread Cert.AttnOutRefIdeal.nD Cert.AttnOutRefIdeal.τ).loc Cert.AttnOutRefIdeal.main_arg5) = m ((c.tc : Thread Cert.AttnOutRefIdeal.nD Cert.AttnOutRefIdeal.τ).loc Cert.AttnOutRefIdeal.main_arg5))
      ∧ r.2.sem = fun _ => 0)

def quiescent_AttnOutRefIdeal_pre_finite_attnout [hAttnOutRefIdeal : Cert.AttnOutRefIdeal.Facts] [hPre_finite_attnout : Cert.Pre_finite_attnout.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal_finite_attnout m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3)
      ∧ r.2.mem ((c.tc : Thread Cert.AttnOutRefIdeal.nD Cert.AttnOutRefIdeal.τ).loc Cert.AttnOutRefIdeal.main_arg4) = m ((c.tc : Thread Cert.AttnOutRefIdeal.nD Cert.AttnOutRefIdeal.τ).loc Cert.AttnOutRefIdeal.main_arg4)
      ∧ r.2.mem ((c.tc : Thread Cert.AttnOutRefIdeal.nD Cert.AttnOutRefIdeal.τ).loc Cert.AttnOutRefIdeal.main_arg5) = m ((c.tc : Thread Cert.AttnOutRefIdeal.nD Cert.AttnOutRefIdeal.τ).loc Cert.AttnOutRefIdeal.main_arg5))
      ∧ r.2.sem = fun _ => 0)

def quiescent_Forget [hForget : Cert.Forget.Facts] : Prop :=
  ∀ (m : (ℓ : Loc Cert.Forget.nD Cert.Forget.τ Cert.Forget.sig) → Buf (Elt Bits) ℓ) (g : Dev Cert.Forget.nD → PrngReg), Pre_Forget m →
    θ_run (Cert.Forget.defs (F := Bits)) (onTc (τ := Cert.Forget.τ) (Cert.Forget.main (F := Bits))) ⟨m, fun _ => 0, g⟩ (fun r => (∀ c : Dev Cert.Forget.nD,
      r.2.mem ((c.tc : Thread Cert.Forget.nD Cert.Forget.τ).loc Cert.Forget.main_arg0) = m ((c.tc : Thread Cert.Forget.nD Cert.Forget.τ).loc Cert.Forget.main_arg0)
      ∧ r.2.mem ((c.tc : Thread Cert.Forget.nD Cert.Forget.τ).loc Cert.Forget.main_arg1) = m ((c.tc : Thread Cert.Forget.nD Cert.Forget.τ).loc Cert.Forget.main_arg1)
      ∧ r.2.mem ((c.tc : Thread Cert.Forget.nD Cert.Forget.τ).loc Cert.Forget.main_arg2) = m ((c.tc : Thread Cert.Forget.nD Cert.Forget.τ).loc Cert.Forget.main_arg2)
      ∧ r.2.mem ((c.tc : Thread Cert.Forget.nD Cert.Forget.τ).loc Cert.Forget.main_arg3) = m ((c.tc : Thread Cert.Forget.nD Cert.Forget.τ).loc Cert.Forget.main_arg3))
      ∧ r.2.sem = fun _ => 0)

def quiescent_ForgetIdeal [hForgetIdeal : Cert.ForgetIdeal.Facts] : Prop :=
  ∀ (m : (ℓ : Loc Cert.ForgetIdeal.nD Cert.ForgetIdeal.τ Cert.ForgetIdeal.sig) → Buf (Elt Ideal) ℓ) (g : Dev Cert.ForgetIdeal.nD → PrngReg), Pre_ForgetIdeal m →
    θ_run (Cert.ForgetIdeal.defs (F := Ideal)) (onTc (τ := Cert.ForgetIdeal.τ) (Cert.ForgetIdeal.main (F := Ideal))) ⟨m, fun _ => 0, g⟩ (fun r => (∀ c : Dev Cert.ForgetIdeal.nD,
      r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
      ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
      ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2)
      ∧ r.2.mem ((c.tc : Thread Cert.ForgetIdeal.nD Cert.ForgetIdeal.τ).loc Cert.ForgetIdeal.main_arg3) = m ((c.tc : Thread Cert.ForgetIdeal.nD Cert.ForgetIdeal.τ).loc Cert.ForgetIdeal.main_arg3))
      ∧ r.2.sem = fun _ => 0)

def quiescent_ForgetIdeal_pre_finite_forget [hForgetIdeal : Cert.ForgetIdeal.Facts] [hPre_finite_forget : Cert.Pre_finite_forget.Facts] : Prop :=
  ∀ (m : (ℓ : Loc Cert.ForgetIdeal.nD Cert.ForgetIdeal.τ Cert.ForgetIdeal.sig) → Buf (Elt Ideal) ℓ) (g : Dev Cert.ForgetIdeal.nD → PrngReg), Pre_ForgetIdeal_finite_forget m →
    θ_run (Cert.ForgetIdeal.defs (F := Ideal)) (onTc (τ := Cert.ForgetIdeal.τ) (Cert.ForgetIdeal.main (F := Ideal))) ⟨m, fun _ => 0, g⟩ (fun r => (∀ c : Dev Cert.ForgetIdeal.nD,
      r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
      ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
      ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2)
      ∧ r.2.mem ((c.tc : Thread Cert.ForgetIdeal.nD Cert.ForgetIdeal.τ).loc Cert.ForgetIdeal.main_arg3) = m ((c.tc : Thread Cert.ForgetIdeal.nD Cert.ForgetIdeal.τ).loc Cert.ForgetIdeal.main_arg3))
      ∧ r.2.sem = fun _ => 0)

def quiescent_ForgetRefIdeal [hForgetRefIdeal : Cert.ForgetRefIdeal.Facts] : Prop :=
  ∀ (m : (ℓ : Loc Cert.ForgetRefIdeal.nD Cert.ForgetRefIdeal.τ Cert.ForgetRefIdeal.sig) → Buf (Elt Ideal) ℓ) (g : Dev Cert.ForgetRefIdeal.nD → PrngReg), Pre_ForgetRefIdeal m →
    θ_run (Cert.ForgetRefIdeal.defs (F := Ideal)) (onTc (τ := Cert.ForgetRefIdeal.τ) (Cert.ForgetRefIdeal.main (F := Ideal))) ⟨m, fun _ => 0, g⟩ (fun r => (∀ c : Dev Cert.ForgetRefIdeal.nD,
      r.2.mem ((c.tc : Thread Cert.ForgetRefIdeal.nD Cert.ForgetRefIdeal.τ).loc Cert.ForgetRefIdeal.main_arg0) = m ((c.tc : Thread Cert.ForgetRefIdeal.nD Cert.ForgetRefIdeal.τ).loc Cert.ForgetRefIdeal.main_arg0)
      ∧ r.2.mem ((c.tc : Thread Cert.ForgetRefIdeal.nD Cert.ForgetRefIdeal.τ).loc Cert.ForgetRefIdeal.main_arg1) = m ((c.tc : Thread Cert.ForgetRefIdeal.nD Cert.ForgetRefIdeal.τ).loc Cert.ForgetRefIdeal.main_arg1)
      ∧ r.2.mem ((c.tc : Thread Cert.ForgetRefIdeal.nD Cert.ForgetRefIdeal.τ).loc Cert.ForgetRefIdeal.main_arg2) = m ((c.tc : Thread Cert.ForgetRefIdeal.nD Cert.ForgetRefIdeal.τ).loc Cert.ForgetRefIdeal.main_arg2)
      ∧ r.2.mem ((c.tc : Thread Cert.ForgetRefIdeal.nD Cert.ForgetRefIdeal.τ).loc Cert.ForgetRefIdeal.main_arg3) = m ((c.tc : Thread Cert.ForgetRefIdeal.nD Cert.ForgetRefIdeal.τ).loc Cert.ForgetRefIdeal.main_arg3))
      ∧ r.2.sem = fun _ => 0)

def quiescent_ForgetRefIdeal_pre_finite_forget [hForgetRefIdeal : Cert.ForgetRefIdeal.Facts] [hPre_finite_forget : Cert.Pre_finite_forget.Facts] : Prop :=
  ∀ (m : (ℓ : Loc Cert.ForgetRefIdeal.nD Cert.ForgetRefIdeal.τ Cert.ForgetRefIdeal.sig) → Buf (Elt Ideal) ℓ) (g : Dev Cert.ForgetRefIdeal.nD → PrngReg), Pre_ForgetRefIdeal_finite_forget m →
    θ_run (Cert.ForgetRefIdeal.defs (F := Ideal)) (onTc (τ := Cert.ForgetRefIdeal.τ) (Cert.ForgetRefIdeal.main (F := Ideal))) ⟨m, fun _ => 0, g⟩ (fun r => (∀ c : Dev Cert.ForgetRefIdeal.nD,
      r.2.mem ((c.tc : Thread Cert.ForgetRefIdeal.nD Cert.ForgetRefIdeal.τ).loc Cert.ForgetRefIdeal.main_arg0) = m ((c.tc : Thread Cert.ForgetRefIdeal.nD Cert.ForgetRefIdeal.τ).loc Cert.ForgetRefIdeal.main_arg0)
      ∧ r.2.mem ((c.tc : Thread Cert.ForgetRefIdeal.nD Cert.ForgetRefIdeal.τ).loc Cert.ForgetRefIdeal.main_arg1) = m ((c.tc : Thread Cert.ForgetRefIdeal.nD Cert.ForgetRefIdeal.τ).loc Cert.ForgetRefIdeal.main_arg1)
      ∧ r.2.mem ((c.tc : Thread Cert.ForgetRefIdeal.nD Cert.ForgetRefIdeal.τ).loc Cert.ForgetRefIdeal.main_arg2) = m ((c.tc : Thread Cert.ForgetRefIdeal.nD Cert.ForgetRefIdeal.τ).loc Cert.ForgetRefIdeal.main_arg2)
      ∧ r.2.mem ((c.tc : Thread Cert.ForgetRefIdeal.nD Cert.ForgetRefIdeal.τ).loc Cert.ForgetRefIdeal.main_arg3) = m ((c.tc : Thread Cert.ForgetRefIdeal.nD Cert.ForgetRefIdeal.τ).loc Cert.ForgetRefIdeal.main_arg3))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5)
      ∧ r.2.mem ((c.tc : Thread Cert.Sgu.nD Cert.Sgu.τ).loc Cert.Sgu.main_arg6) = m ((c.tc : Thread Cert.Sgu.nD Cert.Sgu.τ).loc Cert.Sgu.main_arg6))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
      ∧ r.2.mem ((c.tc : Thread Cert.SguIdeal.nD Cert.SguIdeal.τ).loc Cert.SguIdeal.main_arg6) = m ((c.tc : Thread Cert.SguIdeal.nD Cert.SguIdeal.τ).loc Cert.SguIdeal.main_arg6))
      ∧ r.2.sem = fun _ => 0)

def quiescent_SguIdeal_pre_finite_sgu [hSguIdeal : Cert.SguIdeal.Facts] [hPre_finite_sgu : Cert.Pre_finite_sgu.Facts] : Prop :=
  ∀ (m : (ℓ : Loc Cert.SguIdeal.nD Cert.SguIdeal.τ Cert.SguIdeal.sig) → Buf (Elt Ideal) ℓ) (g : Dev Cert.SguIdeal.nD → PrngReg), Pre_SguIdeal_finite_sgu m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
      ∧ r.2.mem ((c.tc : Thread Cert.SguIdeal.nD Cert.SguIdeal.τ).loc Cert.SguIdeal.main_arg6) = m ((c.tc : Thread Cert.SguIdeal.nD Cert.SguIdeal.τ).loc Cert.SguIdeal.main_arg6))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5)
      ∧ r.2.mem ((c.tc : Thread Cert.SguRefIdeal.nD Cert.SguRefIdeal.τ).loc Cert.SguRefIdeal.main_arg6) = m ((c.tc : Thread Cert.SguRefIdeal.nD Cert.SguRefIdeal.τ).loc Cert.SguRefIdeal.main_arg6))
      ∧ r.2.sem = fun _ => 0)

def quiescent_SguRefIdeal_pre_finite_sgu [hSguRefIdeal : Cert.SguRefIdeal.Facts] [hPre_finite_sgu : Cert.Pre_finite_sgu.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal_finite_sgu m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5)
      ∧ r.2.mem ((c.tc : Thread Cert.SguRefIdeal.nD Cert.SguRefIdeal.τ).loc Cert.SguRefIdeal.main_arg6) = m ((c.tc : Thread Cert.SguRefIdeal.nD Cert.SguRefIdeal.τ).loc Cert.SguRefIdeal.main_arg6))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2)
      ∧ r.2.mem ((c.tc : Thread Cert.Resid.nD Cert.Resid.τ).loc Cert.Resid.main_arg3) = m ((c.tc : Thread Cert.Resid.nD Cert.Resid.τ).loc Cert.Resid.main_arg3))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
      ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3))
      ∧ r.2.sem = fun _ => 0)

def quiescent_ResidRefIdeal [hResidRefIdeal : Cert.ResidRefIdeal.Facts] : Prop :=
  ∀ (m : (ℓ : Loc Cert.ResidRefIdeal.nD Cert.ResidRefIdeal.τ Cert.ResidRefIdeal.sig) → Buf (Elt Ideal) ℓ) (g : Dev Cert.ResidRefIdeal.nD → PrngReg), Pre_ResidRefIdeal m →
    θ_run (Cert.ResidRefIdeal.defs (F := Ideal)) (onTc (τ := Cert.ResidRefIdeal.τ) (Cert.ResidRefIdeal.main (F := Ideal))) ⟨m, fun _ => 0, g⟩ (fun r => (∀ c : Dev Cert.ResidRefIdeal.nD,
      r.2.mem ((c.tc : Thread Cert.ResidRefIdeal.nD Cert.ResidRefIdeal.τ).loc Cert.ResidRefIdeal.main_arg0) = m ((c.tc : Thread Cert.ResidRefIdeal.nD Cert.ResidRefIdeal.τ).loc Cert.ResidRefIdeal.main_arg0)
      ∧ r.2.mem ((c.tc : Thread Cert.ResidRefIdeal.nD Cert.ResidRefIdeal.τ).loc Cert.ResidRefIdeal.main_arg1) = m ((c.tc : Thread Cert.ResidRefIdeal.nD Cert.ResidRefIdeal.τ).loc Cert.ResidRefIdeal.main_arg1)
      ∧ r.2.mem ((c.tc : Thread Cert.ResidRefIdeal.nD Cert.ResidRefIdeal.τ).loc Cert.ResidRefIdeal.main_arg2) = m ((c.tc : Thread Cert.ResidRefIdeal.nD Cert.ResidRefIdeal.τ).loc Cert.ResidRefIdeal.main_arg2)
      ∧ r.2.mem ((c.tc : Thread Cert.ResidRefIdeal.nD Cert.ResidRefIdeal.τ).loc Cert.ResidRefIdeal.main_arg3) = m ((c.tc : Thread Cert.ResidRefIdeal.nD Cert.ResidRefIdeal.τ).loc Cert.ResidRefIdeal.main_arg3))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1))
      ∧ r.2.sem = fun _ => 0)

def quiescent_Cum [hCum : Cert.Cum.Facts] : Prop :=
  ∀ (m : (ℓ : Loc Cert.Cum.nD Cert.Cum.τ Cert.Cum.sig) → Buf (Elt Bits) ℓ) (g : Dev Cert.Cum.nD → PrngReg), Pre_Cum m →
    θ_run (Cert.Cum.defs (F := Bits)) (onTc (τ := Cert.Cum.τ) (Cert.Cum.main (F := Bits))) ⟨m, fun _ => 0, g⟩ (fun r => (∀ c : Dev Cert.Cum.nD,
      r.2.mem ((c.tc : Thread Cert.Cum.nD Cert.Cum.τ).loc Cert.Cum.main_arg0) = m ((c.tc : Thread Cert.Cum.nD Cert.Cum.τ).loc Cert.Cum.main_arg0)
      ∧ r.2.mem ((c.tc : Thread Cert.Cum.nD Cert.Cum.τ).loc Cert.Cum.main_arg1) = m ((c.tc : Thread Cert.Cum.nD Cert.Cum.τ).loc Cert.Cum.main_arg1))
      ∧ r.2.sem = fun _ => 0)

def quiescent_CumIdeal [hCumIdeal : Cert.CumIdeal.Facts] : Prop :=
  ∀ (m : (ℓ : Loc Cert.CumIdeal.nD Cert.CumIdeal.τ Cert.CumIdeal.sig) → Buf (Elt Ideal) ℓ) (g : Dev Cert.CumIdeal.nD → PrngReg), Pre_CumIdeal m →
    θ_run (Cert.CumIdeal.defs (F := Ideal)) (onTc (τ := Cert.CumIdeal.τ) (Cert.CumIdeal.main (F := Ideal))) ⟨m, fun _ => 0, g⟩ (fun r => (∀ c : Dev Cert.CumIdeal.nD,
      r.2.mem ((c.tc : Thread Cert.CumIdeal.nD Cert.CumIdeal.τ).loc Cert.CumIdeal.main_arg0) = m ((c.tc : Thread Cert.CumIdeal.nD Cert.CumIdeal.τ).loc Cert.CumIdeal.main_arg0)
      ∧ r.2.mem ((c.tc : Thread Cert.CumIdeal.nD Cert.CumIdeal.τ).loc Cert.CumIdeal.main_arg1) = m ((c.tc : Thread Cert.CumIdeal.nD Cert.CumIdeal.τ).loc Cert.CumIdeal.main_arg1))
      ∧ r.2.sem = fun _ => 0)

def quiescent_CumIdeal_pre_finite_cum [hCumIdeal : Cert.CumIdeal.Facts] [hPre_finite_cum : Cert.Pre_finite_cum.Facts] : Prop :=
  ∀ (m : (ℓ : Loc Cert.CumIdeal.nD Cert.CumIdeal.τ Cert.CumIdeal.sig) → Buf (Elt Ideal) ℓ) (g : Dev Cert.CumIdeal.nD → PrngReg), Pre_CumIdeal_finite_cum m →
    θ_run (Cert.CumIdeal.defs (F := Ideal)) (onTc (τ := Cert.CumIdeal.τ) (Cert.CumIdeal.main (F := Ideal))) ⟨m, fun _ => 0, g⟩ (fun r => (∀ c : Dev Cert.CumIdeal.nD,
      r.2.mem ((c.tc : Thread Cert.CumIdeal.nD Cert.CumIdeal.τ).loc Cert.CumIdeal.main_arg0) = m ((c.tc : Thread Cert.CumIdeal.nD Cert.CumIdeal.τ).loc Cert.CumIdeal.main_arg0)
      ∧ r.2.mem ((c.tc : Thread Cert.CumIdeal.nD Cert.CumIdeal.τ).loc Cert.CumIdeal.main_arg1) = m ((c.tc : Thread Cert.CumIdeal.nD Cert.CumIdeal.τ).loc Cert.CumIdeal.main_arg1))
      ∧ r.2.sem = fun _ => 0)

def quiescent_CumRefIdeal [hCumRefIdeal : Cert.CumRefIdeal.Facts] : Prop :=
  ∀ (m : (ℓ : Loc Cert.CumRefIdeal.nD Cert.CumRefIdeal.τ Cert.CumRefIdeal.sig) → Buf (Elt Ideal) ℓ) (g : Dev Cert.CumRefIdeal.nD → PrngReg), Pre_CumRefIdeal m →
    θ_run (Cert.CumRefIdeal.defs (F := Ideal)) (onTc (τ := Cert.CumRefIdeal.τ) (Cert.CumRefIdeal.main (F := Ideal))) ⟨m, fun _ => 0, g⟩ (fun r => (∀ c : Dev Cert.CumRefIdeal.nD,
      r.2.mem ((c.tc : Thread Cert.CumRefIdeal.nD Cert.CumRefIdeal.τ).loc Cert.CumRefIdeal.main_arg0) = m ((c.tc : Thread Cert.CumRefIdeal.nD Cert.CumRefIdeal.τ).loc Cert.CumRefIdeal.main_arg0)
      ∧ r.2.mem ((c.tc : Thread Cert.CumRefIdeal.nD Cert.CumRefIdeal.τ).loc Cert.CumRefIdeal.main_arg1) = m ((c.tc : Thread Cert.CumRefIdeal.nD Cert.CumRefIdeal.τ).loc Cert.CumRefIdeal.main_arg1))
      ∧ r.2.sem = fun _ => 0)

def quiescent_CumRefIdeal_pre_finite_cum [hCumRefIdeal : Cert.CumRefIdeal.Facts] [hPre_finite_cum : Cert.Pre_finite_cum.Facts] : Prop :=
  ∀ (m : (ℓ : Loc Cert.CumRefIdeal.nD Cert.CumRefIdeal.τ Cert.CumRefIdeal.sig) → Buf (Elt Ideal) ℓ) (g : Dev Cert.CumRefIdeal.nD → PrngReg), Pre_CumRefIdeal_finite_cum m →
    θ_run (Cert.CumRefIdeal.defs (F := Ideal)) (onTc (τ := Cert.CumRefIdeal.τ) (Cert.CumRefIdeal.main (F := Ideal))) ⟨m, fun _ => 0, g⟩ (fun r => (∀ c : Dev Cert.CumRefIdeal.nD,
      r.2.mem ((c.tc : Thread Cert.CumRefIdeal.nD Cert.CumRefIdeal.τ).loc Cert.CumRefIdeal.main_arg0) = m ((c.tc : Thread Cert.CumRefIdeal.nD Cert.CumRefIdeal.τ).loc Cert.CumRefIdeal.main_arg0)
      ∧ r.2.mem ((c.tc : Thread Cert.CumRefIdeal.nD Cert.CumRefIdeal.τ).loc Cert.CumRefIdeal.main_arg1) = m ((c.tc : Thread Cert.CumRefIdeal.nD Cert.CumRefIdeal.τ).loc Cert.CumRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_Gw [hGw : Cert.Gw.Facts] : Prop :=
  ∀ (m : (ℓ : Loc Cert.Gw.nD Cert.Gw.τ Cert.Gw.sig) → Buf (Elt Bits) ℓ) (g : Dev Cert.Gw.nD → PrngReg), Pre_Gw m →
    θ_run (Cert.Gw.defs (F := Bits)) (onTc (τ := Cert.Gw.τ) (Cert.Gw.main (F := Bits))) ⟨m, fun _ => 0, g⟩ (fun r => (∀ c : Dev Cert.Gw.nD,
      r.2.mem ((c.tc : Thread Cert.Gw.nD Cert.Gw.τ).loc Cert.Gw.main_arg0) = m ((c.tc : Thread Cert.Gw.nD Cert.Gw.τ).loc Cert.Gw.main_arg0)
      ∧ r.2.mem ((c.tc : Thread Cert.Gw.nD Cert.Gw.τ).loc Cert.Gw.main_arg1) = m ((c.tc : Thread Cert.Gw.nD Cert.Gw.τ).loc Cert.Gw.main_arg1))
      ∧ r.2.sem = fun _ => 0)

def quiescent_GwIdeal [hGwIdeal : Cert.GwIdeal.Facts] : Prop :=
  ∀ (m : (ℓ : Loc Cert.GwIdeal.nD Cert.GwIdeal.τ Cert.GwIdeal.sig) → Buf (Elt Ideal) ℓ) (g : Dev Cert.GwIdeal.nD → PrngReg), Pre_GwIdeal m →
    θ_run (Cert.GwIdeal.defs (F := Ideal)) (onTc (τ := Cert.GwIdeal.τ) (Cert.GwIdeal.main (F := Ideal))) ⟨m, fun _ => 0, g⟩ (fun r => (∀ c : Dev Cert.GwIdeal.nD,
      r.2.mem ((c.tc : Thread Cert.GwIdeal.nD Cert.GwIdeal.τ).loc Cert.GwIdeal.main_arg0) = m ((c.tc : Thread Cert.GwIdeal.nD Cert.GwIdeal.τ).loc Cert.GwIdeal.main_arg0)
      ∧ r.2.mem ((c.tc : Thread Cert.GwIdeal.nD Cert.GwIdeal.τ).loc Cert.GwIdeal.main_arg1) = m ((c.tc : Thread Cert.GwIdeal.nD Cert.GwIdeal.τ).loc Cert.GwIdeal.main_arg1))
      ∧ r.2.sem = fun _ => 0)

def quiescent_GwRefIdeal [hGwRefIdeal : Cert.GwRefIdeal.Facts] : Prop :=
  ∀ (m : (ℓ : Loc Cert.GwRefIdeal.nD Cert.GwRefIdeal.τ Cert.GwRefIdeal.sig) → Buf (Elt Ideal) ℓ) (g : Dev Cert.GwRefIdeal.nD → PrngReg), Pre_GwRefIdeal m →
    θ_run (Cert.GwRefIdeal.defs (F := Ideal)) (onTc (τ := Cert.GwRefIdeal.τ) (Cert.GwRefIdeal.main (F := Ideal))) ⟨m, fun _ => 0, g⟩ (fun r => (∀ c : Dev Cert.GwRefIdeal.nD,
      r.2.mem ((c.tc : Thread Cert.GwRefIdeal.nD Cert.GwRefIdeal.τ).loc Cert.GwRefIdeal.main_arg0) = m ((c.tc : Thread Cert.GwRefIdeal.nD Cert.GwRefIdeal.τ).loc Cert.GwRefIdeal.main_arg0)
      ∧ r.2.mem ((c.tc : Thread Cert.GwRefIdeal.nD Cert.GwRefIdeal.τ).loc Cert.GwRefIdeal.main_arg1) = m ((c.tc : Thread Cert.GwRefIdeal.nD Cert.GwRefIdeal.τ).loc Cert.GwRefIdeal.main_arg1))
      ∧ r.2.sem = fun _ => 0)

def quiescent_Rest [hRest : Cert.Rest.Facts] : Prop :=
  ∀ (m : (ℓ : Loc Cert.Rest.nD Cert.Rest.τ Cert.Rest.sig) → Buf (Elt Bits) ℓ) (g : Dev Cert.Rest.nD → PrngReg), Pre_Rest m →
    θ_run (Cert.Rest.defs (F := Bits)) (onTc (τ := Cert.Rest.τ) (Cert.Rest.main (F := Bits))) ⟨m, fun _ => 0, g⟩ (fun r => (∀ c : Dev Cert.Rest.nD,
      r.2.mem ((c.tc : Thread Cert.Rest.nD Cert.Rest.τ).loc Cert.Rest.main_arg0) = m ((c.tc : Thread Cert.Rest.nD Cert.Rest.τ).loc Cert.Rest.main_arg0)
      ∧ r.2.mem ((c.tc : Thread Cert.Rest.nD Cert.Rest.τ).loc Cert.Rest.main_arg1) = m ((c.tc : Thread Cert.Rest.nD Cert.Rest.τ).loc Cert.Rest.main_arg1))
      ∧ r.2.sem = fun _ => 0)

def quiescent_RestIdeal [hRestIdeal : Cert.RestIdeal.Facts] : Prop :=
  ∀ (m : (ℓ : Loc Cert.RestIdeal.nD Cert.RestIdeal.τ Cert.RestIdeal.sig) → Buf (Elt Ideal) ℓ) (g : Dev Cert.RestIdeal.nD → PrngReg), Pre_RestIdeal m →
    θ_run (Cert.RestIdeal.defs (F := Ideal)) (onTc (τ := Cert.RestIdeal.τ) (Cert.RestIdeal.main (F := Ideal))) ⟨m, fun _ => 0, g⟩ (fun r => (∀ c : Dev Cert.RestIdeal.nD,
      r.2.mem ((c.tc : Thread Cert.RestIdeal.nD Cert.RestIdeal.τ).loc Cert.RestIdeal.main_arg0) = m ((c.tc : Thread Cert.RestIdeal.nD Cert.RestIdeal.τ).loc Cert.RestIdeal.main_arg0)
      ∧ r.2.mem ((c.tc : Thread Cert.RestIdeal.nD Cert.RestIdeal.τ).loc Cert.RestIdeal.main_arg1) = m ((c.tc : Thread Cert.RestIdeal.nD Cert.RestIdeal.τ).loc Cert.RestIdeal.main_arg1))
      ∧ r.2.sem = fun _ => 0)

def quiescent_RestRefIdeal [hRestRefIdeal : Cert.RestRefIdeal.Facts] : Prop :=
  ∀ (m : (ℓ : Loc Cert.RestRefIdeal.nD Cert.RestRefIdeal.τ Cert.RestRefIdeal.sig) → Buf (Elt Ideal) ℓ) (g : Dev Cert.RestRefIdeal.nD → PrngReg), Pre_RestRefIdeal m →
    θ_run (Cert.RestRefIdeal.defs (F := Ideal)) (onTc (τ := Cert.RestRefIdeal.τ) (Cert.RestRefIdeal.main (F := Ideal))) ⟨m, fun _ => 0, g⟩ (fun r => (∀ c : Dev Cert.RestRefIdeal.nD,
      r.2.mem ((c.tc : Thread Cert.RestRefIdeal.nD Cert.RestRefIdeal.τ).loc Cert.RestRefIdeal.main_arg0) = m ((c.tc : Thread Cert.RestRefIdeal.nD Cert.RestRefIdeal.τ).loc Cert.RestRefIdeal.main_arg0)
      ∧ r.2.mem ((c.tc : Thread Cert.RestRefIdeal.nD Cert.RestRefIdeal.τ).loc Cert.RestRefIdeal.main_arg1) = m ((c.tc : Thread Cert.RestRefIdeal.nD Cert.RestRefIdeal.τ).loc Cert.RestRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4))
      ∧ r.2.sem = fun _ => 0)

def quiescent_Tiny [hTiny : Cert.Tiny.Facts] : Prop :=
  ∀ (m : (ℓ : Loc Cert.Tiny.nD Cert.Tiny.τ Cert.Tiny.sig) → Buf (Elt Bits) ℓ) (g : Dev Cert.Tiny.nD → PrngReg), Pre_Tiny m →
    θ_run (Cert.Tiny.defs (F := Bits)) (onTc (τ := Cert.Tiny.τ) (Cert.Tiny.main (F := Bits))) ⟨m, fun _ => 0, g⟩ (fun r => (∀ c : Dev Cert.Tiny.nD,
      r.2.mem ((c.tc : Thread Cert.Tiny.nD Cert.Tiny.τ).loc Cert.Tiny.main_arg0) = m ((c.tc : Thread Cert.Tiny.nD Cert.Tiny.τ).loc Cert.Tiny.main_arg0)
      ∧ r.2.mem ((c.tc : Thread Cert.Tiny.nD Cert.Tiny.τ).loc Cert.Tiny.main_arg1) = m ((c.tc : Thread Cert.Tiny.nD Cert.Tiny.τ).loc Cert.Tiny.main_arg1)
      ∧ r.2.mem ((c.tc : Thread Cert.Tiny.nD Cert.Tiny.τ).loc Cert.Tiny.main_arg2) = m ((c.tc : Thread Cert.Tiny.nD Cert.Tiny.τ).loc Cert.Tiny.main_arg2)
      ∧ r.2.mem ((c.tc : Thread Cert.Tiny.nD Cert.Tiny.τ).loc Cert.Tiny.main_arg3) = m ((c.tc : Thread Cert.Tiny.nD Cert.Tiny.τ).loc Cert.Tiny.main_arg3)
      ∧ r.2.mem ((c.tc : Thread Cert.Tiny.nD Cert.Tiny.τ).loc Cert.Tiny.main_arg4) = m ((c.tc : Thread Cert.Tiny.nD Cert.Tiny.τ).loc Cert.Tiny.main_arg4)
      ∧ r.2.mem ((c.tc : Thread Cert.Tiny.nD Cert.Tiny.τ).loc Cert.Tiny.main_arg5) = m ((c.tc : Thread Cert.Tiny.nD Cert.Tiny.τ).loc Cert.Tiny.main_arg5)
      ∧ r.2.mem ((c.tc : Thread Cert.Tiny.nD Cert.Tiny.τ).loc Cert.Tiny.main_arg6) = m ((c.tc : Thread Cert.Tiny.nD Cert.Tiny.τ).loc Cert.Tiny.main_arg6)
      ∧ r.2.mem ((c.tc : Thread Cert.Tiny.nD Cert.Tiny.τ).loc Cert.Tiny.main_arg7) = m ((c.tc : Thread Cert.Tiny.nD Cert.Tiny.τ).loc Cert.Tiny.main_arg7)
      ∧ r.2.mem ((c.tc : Thread Cert.Tiny.nD Cert.Tiny.τ).loc Cert.Tiny.main_arg8) = m ((c.tc : Thread Cert.Tiny.nD Cert.Tiny.τ).loc Cert.Tiny.main_arg8)
      ∧ r.2.mem ((c.tc : Thread Cert.Tiny.nD Cert.Tiny.τ).loc Cert.Tiny.main_arg9) = m ((c.tc : Thread Cert.Tiny.nD Cert.Tiny.τ).loc Cert.Tiny.main_arg9)
      ∧ r.2.mem ((c.tc : Thread Cert.Tiny.nD Cert.Tiny.τ).loc Cert.Tiny.main_arg10) = m ((c.tc : Thread Cert.Tiny.nD Cert.Tiny.τ).loc Cert.Tiny.main_arg10)
      ∧ r.2.mem ((c.tc : Thread Cert.Tiny.nD Cert.Tiny.τ).loc Cert.Tiny.main_arg11) = m ((c.tc : Thread Cert.Tiny.nD Cert.Tiny.τ).loc Cert.Tiny.main_arg11)
      ∧ r.2.mem ((c.tc : Thread Cert.Tiny.nD Cert.Tiny.τ).loc Cert.Tiny.main_arg12) = m ((c.tc : Thread Cert.Tiny.nD Cert.Tiny.τ).loc Cert.Tiny.main_arg12)
      ∧ r.2.mem ((c.tc : Thread Cert.Tiny.nD Cert.Tiny.τ).loc Cert.Tiny.main_arg13) = m ((c.tc : Thread Cert.Tiny.nD Cert.Tiny.τ).loc Cert.Tiny.main_arg13)
      ∧ r.2.mem ((c.tc : Thread Cert.Tiny.nD Cert.Tiny.τ).loc Cert.Tiny.main_arg14) = m ((c.tc : Thread Cert.Tiny.nD Cert.Tiny.τ).loc Cert.Tiny.main_arg14)
      ∧ r.2.mem ((c.tc : Thread Cert.Tiny.nD Cert.Tiny.τ).loc Cert.Tiny.main_arg15) = m ((c.tc : Thread Cert.Tiny.nD Cert.Tiny.τ).loc Cert.Tiny.main_arg15))
      ∧ r.2.sem = fun _ => 0)

def quiescent_TinyIdeal [hTinyIdeal : Cert.TinyIdeal.Facts] : Prop :=
  ∀ (m : (ℓ : Loc Cert.TinyIdeal.nD Cert.TinyIdeal.τ Cert.TinyIdeal.sig) → Buf (Elt Ideal) ℓ) (g : Dev Cert.TinyIdeal.nD → PrngReg), Pre_TinyIdeal m →
    θ_run (Cert.TinyIdeal.defs (F := Ideal)) (onTc (τ := Cert.TinyIdeal.τ) (Cert.TinyIdeal.main (F := Ideal))) ⟨m, fun _ => 0, g⟩ (fun r => (∀ c : Dev Cert.TinyIdeal.nD,
      r.2.mem ((c.tc : Thread Cert.TinyIdeal.nD Cert.TinyIdeal.τ).loc Cert.TinyIdeal.main_arg0) = m ((c.tc : Thread Cert.TinyIdeal.nD Cert.TinyIdeal.τ).loc Cert.TinyIdeal.main_arg0)
      ∧ r.2.mem ((c.tc : Thread Cert.TinyIdeal.nD Cert.TinyIdeal.τ).loc Cert.TinyIdeal.main_arg1) = m ((c.tc : Thread Cert.TinyIdeal.nD Cert.TinyIdeal.τ).loc Cert.TinyIdeal.main_arg1)
      ∧ r.2.mem ((c.tc : Thread Cert.TinyIdeal.nD Cert.TinyIdeal.τ).loc Cert.TinyIdeal.main_arg2) = m ((c.tc : Thread Cert.TinyIdeal.nD Cert.TinyIdeal.τ).loc Cert.TinyIdeal.main_arg2)
      ∧ r.2.mem ((c.tc : Thread Cert.TinyIdeal.nD Cert.TinyIdeal.τ).loc Cert.TinyIdeal.main_arg3) = m ((c.tc : Thread Cert.TinyIdeal.nD Cert.TinyIdeal.τ).loc Cert.TinyIdeal.main_arg3)
      ∧ r.2.mem ((c.tc : Thread Cert.TinyIdeal.nD Cert.TinyIdeal.τ).loc Cert.TinyIdeal.main_arg4) = m ((c.tc : Thread Cert.TinyIdeal.nD Cert.TinyIdeal.τ).loc Cert.TinyIdeal.main_arg4)
      ∧ r.2.mem ((c.tc : Thread Cert.TinyIdeal.nD Cert.TinyIdeal.τ).loc Cert.TinyIdeal.main_arg5) = m ((c.tc : Thread Cert.TinyIdeal.nD Cert.TinyIdeal.τ).loc Cert.TinyIdeal.main_arg5)
      ∧ r.2.mem ((c.tc : Thread Cert.TinyIdeal.nD Cert.TinyIdeal.τ).loc Cert.TinyIdeal.main_arg6) = m ((c.tc : Thread Cert.TinyIdeal.nD Cert.TinyIdeal.τ).loc Cert.TinyIdeal.main_arg6)
      ∧ r.2.mem ((c.tc : Thread Cert.TinyIdeal.nD Cert.TinyIdeal.τ).loc Cert.TinyIdeal.main_arg7) = m ((c.tc : Thread Cert.TinyIdeal.nD Cert.TinyIdeal.τ).loc Cert.TinyIdeal.main_arg7)
      ∧ r.2.mem ((c.tc : Thread Cert.TinyIdeal.nD Cert.TinyIdeal.τ).loc Cert.TinyIdeal.main_arg8) = m ((c.tc : Thread Cert.TinyIdeal.nD Cert.TinyIdeal.τ).loc Cert.TinyIdeal.main_arg8)
      ∧ r.2.mem ((c.tc : Thread Cert.TinyIdeal.nD Cert.TinyIdeal.τ).loc Cert.TinyIdeal.main_arg9) = m ((c.tc : Thread Cert.TinyIdeal.nD Cert.TinyIdeal.τ).loc Cert.TinyIdeal.main_arg9)
      ∧ r.2.mem ((c.tc : Thread Cert.TinyIdeal.nD Cert.TinyIdeal.τ).loc Cert.TinyIdeal.main_arg10) = m ((c.tc : Thread Cert.TinyIdeal.nD Cert.TinyIdeal.τ).loc Cert.TinyIdeal.main_arg10)
      ∧ r.2.mem ((c.tc : Thread Cert.TinyIdeal.nD Cert.TinyIdeal.τ).loc Cert.TinyIdeal.main_arg11) = m ((c.tc : Thread Cert.TinyIdeal.nD Cert.TinyIdeal.τ).loc Cert.TinyIdeal.main_arg11)
      ∧ r.2.mem ((c.tc : Thread Cert.TinyIdeal.nD Cert.TinyIdeal.τ).loc Cert.TinyIdeal.main_arg12) = m ((c.tc : Thread Cert.TinyIdeal.nD Cert.TinyIdeal.τ).loc Cert.TinyIdeal.main_arg12)
      ∧ r.2.mem ((c.tc : Thread Cert.TinyIdeal.nD Cert.TinyIdeal.τ).loc Cert.TinyIdeal.main_arg13) = m ((c.tc : Thread Cert.TinyIdeal.nD Cert.TinyIdeal.τ).loc Cert.TinyIdeal.main_arg13)
      ∧ r.2.mem ((c.tc : Thread Cert.TinyIdeal.nD Cert.TinyIdeal.τ).loc Cert.TinyIdeal.main_arg14) = m ((c.tc : Thread Cert.TinyIdeal.nD Cert.TinyIdeal.τ).loc Cert.TinyIdeal.main_arg14)
      ∧ r.2.mem ((c.tc : Thread Cert.TinyIdeal.nD Cert.TinyIdeal.τ).loc Cert.TinyIdeal.main_arg15) = m ((c.tc : Thread Cert.TinyIdeal.nD Cert.TinyIdeal.τ).loc Cert.TinyIdeal.main_arg15))
      ∧ r.2.sem = fun _ => 0)

def quiescent_TinyRefIdeal [hTinyRefIdeal : Cert.TinyRefIdeal.Facts] : Prop :=
  ∀ (m : (ℓ : Loc Cert.TinyRefIdeal.nD Cert.TinyRefIdeal.τ Cert.TinyRefIdeal.sig) → Buf (Elt Ideal) ℓ) (g : Dev Cert.TinyRefIdeal.nD → PrngReg), Pre_TinyRefIdeal m →
    θ_run (Cert.TinyRefIdeal.defs (F := Ideal)) (onTc (τ := Cert.TinyRefIdeal.τ) (Cert.TinyRefIdeal.main (F := Ideal))) ⟨m, fun _ => 0, g⟩ (fun r => (∀ c : Dev Cert.TinyRefIdeal.nD,
      r.2.mem ((c.tc : Thread Cert.TinyRefIdeal.nD Cert.TinyRefIdeal.τ).loc Cert.TinyRefIdeal.main_arg0) = m ((c.tc : Thread Cert.TinyRefIdeal.nD Cert.TinyRefIdeal.τ).loc Cert.TinyRefIdeal.main_arg0)
      ∧ r.2.mem ((c.tc : Thread Cert.TinyRefIdeal.nD Cert.TinyRefIdeal.τ).loc Cert.TinyRefIdeal.main_arg1) = m ((c.tc : Thread Cert.TinyRefIdeal.nD Cert.TinyRefIdeal.τ).loc Cert.TinyRefIdeal.main_arg1)
      ∧ r.2.mem ((c.tc : Thread Cert.TinyRefIdeal.nD Cert.TinyRefIdeal.τ).loc Cert.TinyRefIdeal.main_arg2) = m ((c.tc : Thread Cert.TinyRefIdeal.nD Cert.TinyRefIdeal.τ).loc Cert.TinyRefIdeal.main_arg2)
      ∧ r.2.mem ((c.tc : Thread Cert.TinyRefIdeal.nD Cert.TinyRefIdeal.τ).loc Cert.TinyRefIdeal.main_arg3) = m ((c.tc : Thread Cert.TinyRefIdeal.nD Cert.TinyRefIdeal.τ).loc Cert.TinyRefIdeal.main_arg3)
      ∧ r.2.mem ((c.tc : Thread Cert.TinyRefIdeal.nD Cert.TinyRefIdeal.τ).loc Cert.TinyRefIdeal.main_arg4) = m ((c.tc : Thread Cert.TinyRefIdeal.nD Cert.TinyRefIdeal.τ).loc Cert.TinyRefIdeal.main_arg4)
      ∧ r.2.mem ((c.tc : Thread Cert.TinyRefIdeal.nD Cert.TinyRefIdeal.τ).loc Cert.TinyRefIdeal.main_arg5) = m ((c.tc : Thread Cert.TinyRefIdeal.nD Cert.TinyRefIdeal.τ).loc Cert.TinyRefIdeal.main_arg5)
      ∧ r.2.mem ((c.tc : Thread Cert.TinyRefIdeal.nD Cert.TinyRefIdeal.τ).loc Cert.TinyRefIdeal.main_arg6) = m ((c.tc : Thread Cert.TinyRefIdeal.nD Cert.TinyRefIdeal.τ).loc Cert.TinyRefIdeal.main_arg6)
      ∧ r.2.mem ((c.tc : Thread Cert.TinyRefIdeal.nD Cert.TinyRefIdeal.τ).loc Cert.TinyRefIdeal.main_arg7) = m ((c.tc : Thread Cert.TinyRefIdeal.nD Cert.TinyRefIdeal.τ).loc Cert.TinyRefIdeal.main_arg7)
      ∧ r.2.mem ((c.tc : Thread Cert.TinyRefIdeal.nD Cert.TinyRefIdeal.τ).loc Cert.TinyRefIdeal.main_arg8) = m ((c.tc : Thread Cert.TinyRefIdeal.nD Cert.TinyRefIdeal.τ).loc Cert.TinyRefIdeal.main_arg8)
      ∧ r.2.mem ((c.tc : Thread Cert.TinyRefIdeal.nD Cert.TinyRefIdeal.τ).loc Cert.TinyRefIdeal.main_arg9) = m ((c.tc : Thread Cert.TinyRefIdeal.nD Cert.TinyRefIdeal.τ).loc Cert.TinyRefIdeal.main_arg9)
      ∧ r.2.mem ((c.tc : Thread Cert.TinyRefIdeal.nD Cert.TinyRefIdeal.τ).loc Cert.TinyRefIdeal.main_arg10) = m ((c.tc : Thread Cert.TinyRefIdeal.nD Cert.TinyRefIdeal.τ).loc Cert.TinyRefIdeal.main_arg10)
      ∧ r.2.mem ((c.tc : Thread Cert.TinyRefIdeal.nD Cert.TinyRefIdeal.τ).loc Cert.TinyRefIdeal.main_arg11) = m ((c.tc : Thread Cert.TinyRefIdeal.nD Cert.TinyRefIdeal.τ).loc Cert.TinyRefIdeal.main_arg11)
      ∧ r.2.mem ((c.tc : Thread Cert.TinyRefIdeal.nD Cert.TinyRefIdeal.τ).loc Cert.TinyRefIdeal.main_arg12) = m ((c.tc : Thread Cert.TinyRefIdeal.nD Cert.TinyRefIdeal.τ).loc Cert.TinyRefIdeal.main_arg12)
      ∧ r.2.mem ((c.tc : Thread Cert.TinyRefIdeal.nD Cert.TinyRefIdeal.τ).loc Cert.TinyRefIdeal.main_arg13) = m ((c.tc : Thread Cert.TinyRefIdeal.nD Cert.TinyRefIdeal.τ).loc Cert.TinyRefIdeal.main_arg13)
      ∧ r.2.mem ((c.tc : Thread Cert.TinyRefIdeal.nD Cert.TinyRefIdeal.τ).loc Cert.TinyRefIdeal.main_arg14) = m ((c.tc : Thread Cert.TinyRefIdeal.nD Cert.TinyRefIdeal.τ).loc Cert.TinyRefIdeal.main_arg14)
      ∧ r.2.mem ((c.tc : Thread Cert.TinyRefIdeal.nD Cert.TinyRefIdeal.τ).loc Cert.TinyRefIdeal.main_arg15) = m ((c.tc : Thread Cert.TinyRefIdeal.nD Cert.TinyRefIdeal.τ).loc Cert.TinyRefIdeal.main_arg15))
      ∧ r.2.sem = fun _ => 0)

def preserves_Relu2_Relu2Ideal : Prop :=
  True

def algebraic_Relu2Ideal_Relu2RefIdeal [hRelu2Ideal : Cert.Relu2Ideal.Facts] [hRelu2RefIdeal : Cert.Relu2RefIdeal.Facts] : Prop :=
  ∀ (m : (ℓ : Loc Cert.Relu2Ideal.nD Cert.Relu2Ideal.τ Cert.Relu2Ideal.sig) → Buf (Elt Ideal) ℓ) (g : Dev Cert.Relu2Ideal.nD → PrngReg)
    (m' : (ℓ : Loc Cert.Relu2RefIdeal.nD Cert.Relu2RefIdeal.τ Cert.Relu2RefIdeal.sig) → Buf (Elt Ideal) ℓ) (g' : Dev Cert.Relu2RefIdeal.nD → PrngReg), Pre_Relu2Ideal m →
    (∀ c : Dev Cert.Relu2Ideal.nD,
      m' ((c.tc : Thread Cert.Relu2RefIdeal.nD Cert.Relu2RefIdeal.τ).loc Cert.Relu2RefIdeal.main_arg0) = m ((c.tc : Thread Cert.Relu2Ideal.nD Cert.Relu2Ideal.τ).loc Cert.Relu2Ideal.main_arg0)
      ∧ m' ((c.tc : Thread Cert.Relu2RefIdeal.nD Cert.Relu2RefIdeal.τ).loc Cert.Relu2RefIdeal.main_arg1) = m ((c.tc : Thread Cert.Relu2Ideal.nD Cert.Relu2Ideal.τ).loc Cert.Relu2Ideal.main_arg1)
      ∧ m' ((c.tc : Thread Cert.Relu2RefIdeal.nD Cert.Relu2RefIdeal.τ).loc Cert.Relu2RefIdeal.main_arg2) = m ((c.tc : Thread Cert.Relu2Ideal.nD Cert.Relu2Ideal.τ).loc Cert.Relu2Ideal.main_arg2)) →
    ∃ (v0 : (c : Dev Cert.Relu2Ideal.nD) → Buf (Elt Ideal) ((c.tc : Thread Cert.Relu2Ideal.nD Cert.Relu2Ideal.τ).loc Cert.Relu2Ideal.main_v6)),
      θ_run (Cert.Relu2Ideal.defs (F := Ideal)) (onTc (τ := Cert.Relu2Ideal.τ) (Cert.Relu2Ideal.main (F := Ideal))) ⟨m, fun _ => 0, g⟩ (fun r => ∀ c : Dev Cert.Relu2Ideal.nD,
          r.2.mem ((c.tc : Thread Cert.Relu2Ideal.nD Cert.Relu2Ideal.τ).loc Cert.Relu2Ideal.main_v6) = v0 c
          ∧ r.2.mem ((c.tc : Thread Cert.Relu2Ideal.nD Cert.Relu2Ideal.τ).loc Cert.Relu2Ideal.main_arg0) = m ((c.tc : Thread Cert.Relu2Ideal.nD Cert.Relu2Ideal.τ).loc Cert.Relu2Ideal.main_arg0)
          ∧ r.2.mem ((c.tc : Thread Cert.Relu2Ideal.nD Cert.Relu2Ideal.τ).loc Cert.Relu2Ideal.main_arg1) = m ((c.tc : Thread Cert.Relu2Ideal.nD Cert.Relu2Ideal.τ).loc Cert.Relu2Ideal.main_arg1)
          ∧ r.2.mem ((c.tc : Thread Cert.Relu2Ideal.nD Cert.Relu2Ideal.τ).loc Cert.Relu2Ideal.main_arg2) = m ((c.tc : Thread Cert.Relu2Ideal.nD Cert.Relu2Ideal.τ).loc Cert.Relu2Ideal.main_arg2))
      ∧ θ_run (Cert.Relu2RefIdeal.defs (F := Ideal)) (onTc (τ := Cert.Relu2RefIdeal.τ) (Cert.Relu2RefIdeal.main (F := Ideal))) ⟨m', fun _ => 0, g'⟩ (fun r => ∀ c : Dev Cert.Relu2RefIdeal.nD,
          r.2.mem ((c.tc : Thread Cert.Relu2RefIdeal.nD Cert.Relu2RefIdeal.τ).loc Cert.Relu2RefIdeal.main_v12) = v0 c
          ∧ r.2.mem ((c.tc : Thread Cert.Relu2RefIdeal.nD Cert.Relu2RefIdeal.τ).loc Cert.Relu2RefIdeal.main_arg0) = m' ((c.tc : Thread Cert.Relu2RefIdeal.nD Cert.Relu2RefIdeal.τ).loc Cert.Relu2RefIdeal.main_arg0)
          ∧ r.2.mem ((c.tc : Thread Cert.Relu2RefIdeal.nD Cert.Relu2RefIdeal.τ).loc Cert.Relu2RefIdeal.main_arg1) = m' ((c.tc : Thread Cert.Relu2RefIdeal.nD Cert.Relu2RefIdeal.τ).loc Cert.Relu2RefIdeal.main_arg1)
          ∧ r.2.mem ((c.tc : Thread Cert.Relu2RefIdeal.nD Cert.Relu2RefIdeal.τ).loc Cert.Relu2RefIdeal.main_arg2) = m' ((c.tc : Thread Cert.Relu2RefIdeal.nD Cert.Relu2RefIdeal.τ).loc Cert.Relu2RefIdeal.main_arg2))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)
      ∧ m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3)
      ∧ m' ((c.tc : Thread Cert.GatesRefIdeal.nD Cert.GatesRefIdeal.τ).loc Cert.GatesRefIdeal.main_arg4) = m ((c.tc : Thread Cert.GatesIdeal.nD Cert.GatesIdeal.τ).loc Cert.GatesIdeal.main_arg4)) →
    ∃ (v0 : (c : Dev Cert.GatesIdeal.nD) → Buf (Elt Ideal) ((c.tc : Thread Cert.GatesIdeal.nD Cert.GatesIdeal.τ).loc Cert.GatesIdeal.main_v5_0)) (v1 : (c : Dev Cert.GatesIdeal.nD) → Buf (Elt Ideal) ((c.tc : Thread Cert.GatesIdeal.nD Cert.GatesIdeal.τ).loc Cert.GatesIdeal.main_v5_1)) (v2 : (c : Dev Cert.GatesIdeal.nD) → Buf (Elt Ideal) ((c.tc : Thread Cert.GatesIdeal.nD Cert.GatesIdeal.τ).loc Cert.GatesIdeal.main_v5_2)) (v3 : (c : Dev Cert.GatesIdeal.nD) → Buf (Elt Ideal) ((c.tc : Thread Cert.GatesIdeal.nD Cert.GatesIdeal.τ).loc Cert.GatesIdeal.main_v5_3)) (v4 : (c : Dev Cert.GatesIdeal.nD) → Buf (Elt Ideal) ((c.tc : Thread Cert.GatesIdeal.nD Cert.GatesIdeal.τ).loc Cert.GatesIdeal.main_v5_4)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v5_0) = v0 c
          ∧ r.2.mem ((c.tc : Thread Cert.GatesIdeal.nD Cert.GatesIdeal.τ).loc Cert.GatesIdeal.main_v5_1) = v1 c
          ∧ r.2.mem ((c.tc : Thread Cert.GatesIdeal.nD Cert.GatesIdeal.τ).loc Cert.GatesIdeal.main_v5_2) = v2 c
          ∧ r.2.mem ((c.tc : Thread Cert.GatesIdeal.nD Cert.GatesIdeal.τ).loc Cert.GatesIdeal.main_v5_3) = v3 c
          ∧ r.2.mem ((c.tc : Thread Cert.GatesIdeal.nD Cert.GatesIdeal.τ).loc Cert.GatesIdeal.main_v5_4) = v4 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v33) = v0 c
          ∧ r.2.mem ((c.tc : Thread Cert.GatesRefIdeal.nD Cert.GatesRefIdeal.τ).loc Cert.GatesRefIdeal.main_v34) = v1 c
          ∧ r.2.mem ((c.tc : Thread Cert.GatesRefIdeal.nD Cert.GatesRefIdeal.τ).loc Cert.GatesRefIdeal.main_v35) = v2 c
          ∧ r.2.mem ((c.tc : Thread Cert.GatesRefIdeal.nD Cert.GatesRefIdeal.τ).loc Cert.GatesRefIdeal.main_v36) = v3 c
          ∧ r.2.mem ((c.tc : Thread Cert.GatesRefIdeal.nD Cert.GatesRefIdeal.τ).loc Cert.GatesRefIdeal.main_v37) = v4 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3)
          ∧ r.2.mem ((c.tc : Thread Cert.GatesRefIdeal.nD Cert.GatesRefIdeal.τ).loc Cert.GatesRefIdeal.main_arg4) = m' ((c.tc : Thread Cert.GatesRefIdeal.nD Cert.GatesRefIdeal.τ).loc Cert.GatesRefIdeal.main_arg4))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v3_0)) (v1 : (c : Dev Cert.LossIdeal.nD) → Buf (Elt Ideal) ((c.tc : Thread Cert.LossIdeal.nD Cert.LossIdeal.τ).loc Cert.LossIdeal.main_v3_1)) (v2 : (c : Dev Cert.LossIdeal.nD) → Buf (Elt Ideal) ((c.tc : Thread Cert.LossIdeal.nD Cert.LossIdeal.τ).loc Cert.LossIdeal.main_v3_2)) (v3 : (c : Dev Cert.LossIdeal.nD) → Buf (Elt Ideal) ((c.tc : Thread Cert.LossIdeal.nD Cert.LossIdeal.τ).loc Cert.LossIdeal.main_v3_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3_0) = v0 c
          ∧ r.2.mem ((c.tc : Thread Cert.LossIdeal.nD Cert.LossIdeal.τ).loc Cert.LossIdeal.main_v3_1) = v1 c
          ∧ r.2.mem ((c.tc : Thread Cert.LossIdeal.nD Cert.LossIdeal.τ).loc Cert.LossIdeal.main_v3_2) = v2 c
          ∧ r.2.mem ((c.tc : Thread Cert.LossIdeal.nD Cert.LossIdeal.τ).loc Cert.LossIdeal.main_v3_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v52) = v0 c
          ∧ r.2.mem ((c.tc : Thread Cert.LossRefIdeal.nD Cert.LossRefIdeal.τ).loc Cert.LossRefIdeal.main_v53) = v1 c
          ∧ r.2.mem ((c.tc : Thread Cert.LossRefIdeal.nD Cert.LossRefIdeal.τ).loc Cert.LossRefIdeal.main_v54) = v2 c
          ∧ r.2.mem ((c.tc : Thread Cert.LossRefIdeal.nD Cert.LossRefIdeal.τ).loc Cert.LossRefIdeal.main_v55) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Norm2_Norm2Ideal : Prop :=
  True

def algebraic_Norm2Ideal_Norm2RefIdeal_pre_finite_norm2 [hNorm2Ideal : Cert.Norm2Ideal.Facts] [hNorm2RefIdeal : Cert.Norm2RefIdeal.Facts] [hPre_finite_norm2 : Cert.Pre_finite_norm2.Facts] : Prop :=
  ∀ (m : (ℓ : Loc Cert.Norm2Ideal.nD Cert.Norm2Ideal.τ Cert.Norm2Ideal.sig) → Buf (Elt Ideal) ℓ) (g : Dev Cert.Norm2Ideal.nD → PrngReg)
    (m' : (ℓ : Loc Cert.Norm2RefIdeal.nD Cert.Norm2RefIdeal.τ Cert.Norm2RefIdeal.sig) → Buf (Elt Ideal) ℓ) (g' : Dev Cert.Norm2RefIdeal.nD → PrngReg), Pre_Norm2Ideal_finite_norm2 m →
    (∀ c : Dev Cert.Norm2Ideal.nD,
      m' ((c.tc : Thread Cert.Norm2RefIdeal.nD Cert.Norm2RefIdeal.τ).loc Cert.Norm2RefIdeal.main_arg0) = m ((c.tc : Thread Cert.Norm2Ideal.nD Cert.Norm2Ideal.τ).loc Cert.Norm2Ideal.main_arg0)
      ∧ m' ((c.tc : Thread Cert.Norm2RefIdeal.nD Cert.Norm2RefIdeal.τ).loc Cert.Norm2RefIdeal.main_arg1) = m ((c.tc : Thread Cert.Norm2Ideal.nD Cert.Norm2Ideal.τ).loc Cert.Norm2Ideal.main_arg1)
      ∧ m' ((c.tc : Thread Cert.Norm2RefIdeal.nD Cert.Norm2RefIdeal.τ).loc Cert.Norm2RefIdeal.main_arg2) = m ((c.tc : Thread Cert.Norm2Ideal.nD Cert.Norm2Ideal.τ).loc Cert.Norm2Ideal.main_arg2)
      ∧ m' ((c.tc : Thread Cert.Norm2RefIdeal.nD Cert.Norm2RefIdeal.τ).loc Cert.Norm2RefIdeal.main_arg3) = m ((c.tc : Thread Cert.Norm2Ideal.nD Cert.Norm2Ideal.τ).loc Cert.Norm2Ideal.main_arg3)
      ∧ m' ((c.tc : Thread Cert.Norm2RefIdeal.nD Cert.Norm2RefIdeal.τ).loc Cert.Norm2RefIdeal.main_arg4) = m ((c.tc : Thread Cert.Norm2Ideal.nD Cert.Norm2Ideal.τ).loc Cert.Norm2Ideal.main_arg4)) →
    ∃ (v0 : (c : Dev Cert.Norm2Ideal.nD) → Buf (Elt Ideal) ((c.tc : Thread Cert.Norm2Ideal.nD Cert.Norm2Ideal.τ).loc Cert.Norm2Ideal.main_v11_0)) (v1 : (c : Dev Cert.Norm2Ideal.nD) → Buf (Elt Ideal) ((c.tc : Thread Cert.Norm2Ideal.nD Cert.Norm2Ideal.τ).loc Cert.Norm2Ideal.main_v11_1)),
      θ_run (Cert.Norm2Ideal.defs (F := Ideal)) (onTc (τ := Cert.Norm2Ideal.τ) (Cert.Norm2Ideal.main (F := Ideal))) ⟨m, fun _ => 0, g⟩ (fun r => ∀ c : Dev Cert.Norm2Ideal.nD,
          r.2.mem ((c.tc : Thread Cert.Norm2Ideal.nD Cert.Norm2Ideal.τ).loc Cert.Norm2Ideal.main_v11_0) = v0 c
          ∧ r.2.mem ((c.tc : Thread Cert.Norm2Ideal.nD Cert.Norm2Ideal.τ).loc Cert.Norm2Ideal.main_v11_1) = v1 c
          ∧ r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
          ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
          ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
          ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
          ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4))
      ∧ θ_run (Cert.Norm2RefIdeal.defs (F := Ideal)) (onTc (τ := Cert.Norm2RefIdeal.τ) (Cert.Norm2RefIdeal.main (F := Ideal))) ⟨m', fun _ => 0, g'⟩ (fun r => ∀ c : Dev Cert.Norm2RefIdeal.nD,
          r.2.mem ((c.tc : Thread Cert.Norm2RefIdeal.nD Cert.Norm2RefIdeal.τ).loc Cert.Norm2RefIdeal.main_v40) = v0 c
          ∧ r.2.mem ((c.tc : Thread Cert.Norm2RefIdeal.nD Cert.Norm2RefIdeal.τ).loc Cert.Norm2RefIdeal.main_v25) = v1 c
          ∧ r.2.mem ((c.tc : Thread Cert.Norm2RefIdeal.nD Cert.Norm2RefIdeal.τ).loc Cert.Norm2RefIdeal.main_arg0) = m' ((c.tc : Thread Cert.Norm2RefIdeal.nD Cert.Norm2RefIdeal.τ).loc Cert.Norm2RefIdeal.main_arg0)
          ∧ r.2.mem ((c.tc : Thread Cert.Norm2RefIdeal.nD Cert.Norm2RefIdeal.τ).loc Cert.Norm2RefIdeal.main_arg1) = m' ((c.tc : Thread Cert.Norm2RefIdeal.nD Cert.Norm2RefIdeal.τ).loc Cert.Norm2RefIdeal.main_arg1)
          ∧ r.2.mem ((c.tc : Thread Cert.Norm2RefIdeal.nD Cert.Norm2RefIdeal.τ).loc Cert.Norm2RefIdeal.main_arg2) = m' ((c.tc : Thread Cert.Norm2RefIdeal.nD Cert.Norm2RefIdeal.τ).loc Cert.Norm2RefIdeal.main_arg2)
          ∧ r.2.mem ((c.tc : Thread Cert.Norm2RefIdeal.nD Cert.Norm2RefIdeal.τ).loc Cert.Norm2RefIdeal.main_arg3) = m' ((c.tc : Thread Cert.Norm2RefIdeal.nD Cert.Norm2RefIdeal.τ).loc Cert.Norm2RefIdeal.main_arg3)
          ∧ r.2.mem ((c.tc : Thread Cert.Norm2RefIdeal.nD Cert.Norm2RefIdeal.τ).loc Cert.Norm2RefIdeal.main_arg4) = m' ((c.tc : Thread Cert.Norm2RefIdeal.nD Cert.Norm2RefIdeal.τ).loc Cert.Norm2RefIdeal.main_arg4))

def preserves_Norm1_Norm1Ideal : Prop :=
  True

def algebraic_Norm1Ideal_Norm1RefIdeal_pre_finite_norm1 [hNorm1Ideal : Cert.Norm1Ideal.Facts] [hNorm1RefIdeal : Cert.Norm1RefIdeal.Facts] [hPre_finite_norm1 : Cert.Pre_finite_norm1.Facts] : Prop :=
  ∀ (m : (ℓ : Loc Cert.Norm1Ideal.nD Cert.Norm1Ideal.τ Cert.Norm1Ideal.sig) → Buf (Elt Ideal) ℓ) (g : Dev Cert.Norm1Ideal.nD → PrngReg)
    (m' : (ℓ : Loc Cert.Norm1RefIdeal.nD Cert.Norm1RefIdeal.τ Cert.Norm1RefIdeal.sig) → Buf (Elt Ideal) ℓ) (g' : Dev Cert.Norm1RefIdeal.nD → PrngReg), Pre_Norm1Ideal_finite_norm1 m →
    (∀ c : Dev Cert.Norm1Ideal.nD,
      m' ((c.tc : Thread Cert.Norm1RefIdeal.nD Cert.Norm1RefIdeal.τ).loc Cert.Norm1RefIdeal.main_arg0) = m ((c.tc : Thread Cert.Norm1Ideal.nD Cert.Norm1Ideal.τ).loc Cert.Norm1Ideal.main_arg0)
      ∧ m' ((c.tc : Thread Cert.Norm1RefIdeal.nD Cert.Norm1RefIdeal.τ).loc Cert.Norm1RefIdeal.main_arg1) = m ((c.tc : Thread Cert.Norm1Ideal.nD Cert.Norm1Ideal.τ).loc Cert.Norm1Ideal.main_arg1)
      ∧ m' ((c.tc : Thread Cert.Norm1RefIdeal.nD Cert.Norm1RefIdeal.τ).loc Cert.Norm1RefIdeal.main_arg2) = m ((c.tc : Thread Cert.Norm1Ideal.nD Cert.Norm1Ideal.τ).loc Cert.Norm1Ideal.main_arg2)
      ∧ m' ((c.tc : Thread Cert.Norm1RefIdeal.nD Cert.Norm1RefIdeal.τ).loc Cert.Norm1RefIdeal.main_arg3) = m ((c.tc : Thread Cert.Norm1Ideal.nD Cert.Norm1Ideal.τ).loc Cert.Norm1Ideal.main_arg3)
      ∧ m' ((c.tc : Thread Cert.Norm1RefIdeal.nD Cert.Norm1RefIdeal.τ).loc Cert.Norm1RefIdeal.main_arg4) = m ((c.tc : Thread Cert.Norm1Ideal.nD Cert.Norm1Ideal.τ).loc Cert.Norm1Ideal.main_arg4)) →
    ∃ (v0 : (c : Dev Cert.Norm1Ideal.nD) → Buf (Elt Ideal) ((c.tc : Thread Cert.Norm1Ideal.nD Cert.Norm1Ideal.τ).loc Cert.Norm1Ideal.main_v27_0)) (v1 : (c : Dev Cert.Norm1Ideal.nD) → Buf (Elt Ideal) ((c.tc : Thread Cert.Norm1Ideal.nD Cert.Norm1Ideal.τ).loc Cert.Norm1Ideal.main_v27_1)),
      θ_run (Cert.Norm1Ideal.defs (F := Ideal)) (onTc (τ := Cert.Norm1Ideal.τ) (Cert.Norm1Ideal.main (F := Ideal))) ⟨m, fun _ => 0, g⟩ (fun r => ∀ c : Dev Cert.Norm1Ideal.nD,
          r.2.mem ((c.tc : Thread Cert.Norm1Ideal.nD Cert.Norm1Ideal.τ).loc Cert.Norm1Ideal.main_v27_0) = v0 c
          ∧ r.2.mem ((c.tc : Thread Cert.Norm1Ideal.nD Cert.Norm1Ideal.τ).loc Cert.Norm1Ideal.main_v27_1) = v1 c
          ∧ r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
          ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
          ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
          ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3)
          ∧ r.2.mem ((c.tc : Thread Cert.Norm1Ideal.nD Cert.Norm1Ideal.τ).loc Cert.Norm1Ideal.main_arg4) = m ((c.tc : Thread Cert.Norm1Ideal.nD Cert.Norm1Ideal.τ).loc Cert.Norm1Ideal.main_arg4))
      ∧ θ_run (Cert.Norm1RefIdeal.defs (F := Ideal)) (onTc (τ := Cert.Norm1RefIdeal.τ) (Cert.Norm1RefIdeal.main (F := Ideal))) ⟨m', fun _ => 0, g'⟩ (fun r => ∀ c : Dev Cert.Norm1RefIdeal.nD,
          r.2.mem ((c.tc : Thread Cert.Norm1RefIdeal.nD Cert.Norm1RefIdeal.τ).loc Cert.Norm1RefIdeal.main_v42) = v0 c
          ∧ r.2.mem ((c.tc : Thread Cert.Norm1RefIdeal.nD Cert.Norm1RefIdeal.τ).loc Cert.Norm1RefIdeal.main_v27) = v1 c
          ∧ r.2.mem ((c.tc : Thread Cert.Norm1RefIdeal.nD Cert.Norm1RefIdeal.τ).loc Cert.Norm1RefIdeal.main_arg0) = m' ((c.tc : Thread Cert.Norm1RefIdeal.nD Cert.Norm1RefIdeal.τ).loc Cert.Norm1RefIdeal.main_arg0)
          ∧ r.2.mem ((c.tc : Thread Cert.Norm1RefIdeal.nD Cert.Norm1RefIdeal.τ).loc Cert.Norm1RefIdeal.main_arg1) = m' ((c.tc : Thread Cert.Norm1RefIdeal.nD Cert.Norm1RefIdeal.τ).loc Cert.Norm1RefIdeal.main_arg1)
          ∧ r.2.mem ((c.tc : Thread Cert.Norm1RefIdeal.nD Cert.Norm1RefIdeal.τ).loc Cert.Norm1RefIdeal.main_arg2) = m' ((c.tc : Thread Cert.Norm1RefIdeal.nD Cert.Norm1RefIdeal.τ).loc Cert.Norm1RefIdeal.main_arg2)
          ∧ r.2.mem ((c.tc : Thread Cert.Norm1RefIdeal.nD Cert.Norm1RefIdeal.τ).loc Cert.Norm1RefIdeal.main_arg3) = m' ((c.tc : Thread Cert.Norm1RefIdeal.nD Cert.Norm1RefIdeal.τ).loc Cert.Norm1RefIdeal.main_arg3)
          ∧ r.2.mem ((c.tc : Thread Cert.Norm1RefIdeal.nD Cert.Norm1RefIdeal.τ).loc Cert.Norm1RefIdeal.main_arg4) = m' ((c.tc : Thread Cert.Norm1RefIdeal.nD Cert.Norm1RefIdeal.τ).loc Cert.Norm1RefIdeal.main_arg4))

def preserves_AttnOut_AttnOutIdeal : Prop :=
  True

def algebraic_AttnOutIdeal_AttnOutRefIdeal_pre_finite_attnout [hAttnOutIdeal : Cert.AttnOutIdeal.Facts] [hAttnOutRefIdeal : Cert.AttnOutRefIdeal.Facts] [hPre_finite_attnout : Cert.Pre_finite_attnout.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal_finite_attnout m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)
      ∧ m' ((c.tc : Thread Cert.AttnOutRefIdeal.nD Cert.AttnOutRefIdeal.τ).loc Cert.AttnOutRefIdeal.main_arg3) = m ((c.tc : Thread Cert.AttnOutIdeal.nD Cert.AttnOutIdeal.τ).loc Cert.AttnOutIdeal.main_arg3)
      ∧ m' ((c.tc : Thread Cert.AttnOutRefIdeal.nD Cert.AttnOutRefIdeal.τ).loc Cert.AttnOutRefIdeal.main_arg4) = m ((c.tc : Thread Cert.AttnOutIdeal.nD Cert.AttnOutIdeal.τ).loc Cert.AttnOutIdeal.main_arg4)
      ∧ m' ((c.tc : Thread Cert.AttnOutRefIdeal.nD Cert.AttnOutRefIdeal.τ).loc Cert.AttnOutRefIdeal.main_arg5) = m ((c.tc : Thread Cert.AttnOutIdeal.nD Cert.AttnOutIdeal.τ).loc Cert.AttnOutIdeal.main_arg5)) →
    ∃ (v0 : (c : Dev Cert.AttnOutIdeal.nD) → Buf (Elt Ideal) ((c.tc : Thread Cert.AttnOutIdeal.nD Cert.AttnOutIdeal.τ).loc Cert.AttnOutIdeal.main_v52_0)) (v1 : (c : Dev Cert.AttnOutIdeal.nD) → Buf (Elt Ideal) ((c.tc : Thread Cert.AttnOutIdeal.nD Cert.AttnOutIdeal.τ).loc Cert.AttnOutIdeal.main_v52_1)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v52_0) = v0 c
          ∧ r.2.mem ((c.tc : Thread Cert.AttnOutIdeal.nD Cert.AttnOutIdeal.τ).loc Cert.AttnOutIdeal.main_v52_1) = v1 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
          ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4)
          ∧ r.2.mem ((c.tc : Thread Cert.AttnOutIdeal.nD Cert.AttnOutIdeal.τ).loc Cert.AttnOutIdeal.main_arg5) = m ((c.tc : Thread Cert.AttnOutIdeal.nD Cert.AttnOutIdeal.τ).loc Cert.AttnOutIdeal.main_arg5))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v36) = v0 c
          ∧ r.2.mem ((c.tc : Thread Cert.AttnOutRefIdeal.nD Cert.AttnOutRefIdeal.τ).loc Cert.AttnOutRefIdeal.main_v40) = v1 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2)
          ∧ r.2.mem ((c.tc : Thread Cert.AttnOutRefIdeal.nD Cert.AttnOutRefIdeal.τ).loc Cert.AttnOutRefIdeal.main_arg3) = m' ((c.tc : Thread Cert.AttnOutRefIdeal.nD Cert.AttnOutRefIdeal.τ).loc Cert.AttnOutRefIdeal.main_arg3)
          ∧ r.2.mem ((c.tc : Thread Cert.AttnOutRefIdeal.nD Cert.AttnOutRefIdeal.τ).loc Cert.AttnOutRefIdeal.main_arg4) = m' ((c.tc : Thread Cert.AttnOutRefIdeal.nD Cert.AttnOutRefIdeal.τ).loc Cert.AttnOutRefIdeal.main_arg4)
          ∧ r.2.mem ((c.tc : Thread Cert.AttnOutRefIdeal.nD Cert.AttnOutRefIdeal.τ).loc Cert.AttnOutRefIdeal.main_arg5) = m' ((c.tc : Thread Cert.AttnOutRefIdeal.nD Cert.AttnOutRefIdeal.τ).loc Cert.AttnOutRefIdeal.main_arg5))

def preserves_Forget_ForgetIdeal : Prop :=
  True

def algebraic_ForgetIdeal_ForgetRefIdeal_pre_finite_forget [hForgetIdeal : Cert.ForgetIdeal.Facts] [hForgetRefIdeal : Cert.ForgetRefIdeal.Facts] [hPre_finite_forget : Cert.Pre_finite_forget.Facts] : Prop :=
  ∀ (m : (ℓ : Loc Cert.ForgetIdeal.nD Cert.ForgetIdeal.τ Cert.ForgetIdeal.sig) → Buf (Elt Ideal) ℓ) (g : Dev Cert.ForgetIdeal.nD → PrngReg)
    (m' : (ℓ : Loc Cert.ForgetRefIdeal.nD Cert.ForgetRefIdeal.τ Cert.ForgetRefIdeal.sig) → Buf (Elt Ideal) ℓ) (g' : Dev Cert.ForgetRefIdeal.nD → PrngReg), Pre_ForgetIdeal_finite_forget m →
    (∀ c : Dev Cert.ForgetIdeal.nD,
      m' ((c.tc : Thread Cert.ForgetRefIdeal.nD Cert.ForgetRefIdeal.τ).loc Cert.ForgetRefIdeal.main_arg0) = m ((c.tc : Thread Cert.ForgetIdeal.nD Cert.ForgetIdeal.τ).loc Cert.ForgetIdeal.main_arg0)
      ∧ m' ((c.tc : Thread Cert.ForgetRefIdeal.nD Cert.ForgetRefIdeal.τ).loc Cert.ForgetRefIdeal.main_arg1) = m ((c.tc : Thread Cert.ForgetIdeal.nD Cert.ForgetIdeal.τ).loc Cert.ForgetIdeal.main_arg1)
      ∧ m' ((c.tc : Thread Cert.ForgetRefIdeal.nD Cert.ForgetRefIdeal.τ).loc Cert.ForgetRefIdeal.main_arg2) = m ((c.tc : Thread Cert.ForgetIdeal.nD Cert.ForgetIdeal.τ).loc Cert.ForgetIdeal.main_arg2)
      ∧ m' ((c.tc : Thread Cert.ForgetRefIdeal.nD Cert.ForgetRefIdeal.τ).loc Cert.ForgetRefIdeal.main_arg3) = m ((c.tc : Thread Cert.ForgetIdeal.nD Cert.ForgetIdeal.τ).loc Cert.ForgetIdeal.main_arg3)) →
    ∃ (v0 : (c : Dev Cert.ForgetIdeal.nD) → Buf (Elt Ideal) ((c.tc : Thread Cert.ForgetIdeal.nD Cert.ForgetIdeal.τ).loc Cert.ForgetIdeal.main_v4_0)) (v1 : (c : Dev Cert.ForgetIdeal.nD) → Buf (Elt Ideal) ((c.tc : Thread Cert.ForgetIdeal.nD Cert.ForgetIdeal.τ).loc Cert.ForgetIdeal.main_v4_1)) (v2 : (c : Dev Cert.ForgetIdeal.nD) → Buf (Elt Ideal) ((c.tc : Thread Cert.ForgetIdeal.nD Cert.ForgetIdeal.τ).loc Cert.ForgetIdeal.main_v4_2)),
      θ_run (Cert.ForgetIdeal.defs (F := Ideal)) (onTc (τ := Cert.ForgetIdeal.τ) (Cert.ForgetIdeal.main (F := Ideal))) ⟨m, fun _ => 0, g⟩ (fun r => ∀ c : Dev Cert.ForgetIdeal.nD,
          r.2.mem ((c.tc : Thread Cert.ForgetIdeal.nD Cert.ForgetIdeal.τ).loc Cert.ForgetIdeal.main_v4_0) = v0 c
          ∧ r.2.mem ((c.tc : Thread Cert.ForgetIdeal.nD Cert.ForgetIdeal.τ).loc Cert.ForgetIdeal.main_v4_1) = v1 c
          ∧ r.2.mem ((c.tc : Thread Cert.ForgetIdeal.nD Cert.ForgetIdeal.τ).loc Cert.ForgetIdeal.main_v4_2) = v2 c
          ∧ r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
          ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
          ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2)
          ∧ r.2.mem ((c.tc : Thread Cert.ForgetIdeal.nD Cert.ForgetIdeal.τ).loc Cert.ForgetIdeal.main_arg3) = m ((c.tc : Thread Cert.ForgetIdeal.nD Cert.ForgetIdeal.τ).loc Cert.ForgetIdeal.main_arg3))
      ∧ θ_run (Cert.ForgetRefIdeal.defs (F := Ideal)) (onTc (τ := Cert.ForgetRefIdeal.τ) (Cert.ForgetRefIdeal.main (F := Ideal))) ⟨m', fun _ => 0, g'⟩ (fun r => ∀ c : Dev Cert.ForgetRefIdeal.nD,
          r.2.mem ((c.tc : Thread Cert.ForgetRefIdeal.nD Cert.ForgetRefIdeal.τ).loc Cert.ForgetRefIdeal.main_v14) = v0 c
          ∧ r.2.mem ((c.tc : Thread Cert.ForgetRefIdeal.nD Cert.ForgetRefIdeal.τ).loc Cert.ForgetRefIdeal.main_v15) = v1 c
          ∧ r.2.mem ((c.tc : Thread Cert.ForgetRefIdeal.nD Cert.ForgetRefIdeal.τ).loc Cert.ForgetRefIdeal.main_v17) = v2 c
          ∧ r.2.mem ((c.tc : Thread Cert.ForgetRefIdeal.nD Cert.ForgetRefIdeal.τ).loc Cert.ForgetRefIdeal.main_arg0) = m' ((c.tc : Thread Cert.ForgetRefIdeal.nD Cert.ForgetRefIdeal.τ).loc Cert.ForgetRefIdeal.main_arg0)
          ∧ r.2.mem ((c.tc : Thread Cert.ForgetRefIdeal.nD Cert.ForgetRefIdeal.τ).loc Cert.ForgetRefIdeal.main_arg1) = m' ((c.tc : Thread Cert.ForgetRefIdeal.nD Cert.ForgetRefIdeal.τ).loc Cert.ForgetRefIdeal.main_arg1)
          ∧ r.2.mem ((c.tc : Thread Cert.ForgetRefIdeal.nD Cert.ForgetRefIdeal.τ).loc Cert.ForgetRefIdeal.main_arg2) = m' ((c.tc : Thread Cert.ForgetRefIdeal.nD Cert.ForgetRefIdeal.τ).loc Cert.ForgetRefIdeal.main_arg2)
          ∧ r.2.mem ((c.tc : Thread Cert.ForgetRefIdeal.nD Cert.ForgetRefIdeal.τ).loc Cert.ForgetRefIdeal.main_arg3) = m' ((c.tc : Thread Cert.ForgetRefIdeal.nD Cert.ForgetRefIdeal.τ).loc Cert.ForgetRefIdeal.main_arg3))

def preserves_Sgu_SguIdeal : Prop :=
  IdealRules.named_const.Statement Cert.SguIdeal.κ "gelu_c" .f32 0x3D372713#32 ((8943 / 200000 : ℝ) : EReal)
  ∧ IdealRules.named_const.Statement Cert.SguIdeal.κ "gelu_c3" .f32 0x3E095D4F#32 ((26829 / 200000 : ℝ) : EReal)

def algebraic_SguIdeal_SguRefIdeal_pre_finite_sgu [hSguIdeal : Cert.SguIdeal.Facts] [hSguRefIdeal : Cert.SguRefIdeal.Facts] [hPre_finite_sgu : Cert.Pre_finite_sgu.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal_finite_sgu m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)
      ∧ m' ((c.tc : Thread Cert.SguRefIdeal.nD Cert.SguRefIdeal.τ).loc Cert.SguRefIdeal.main_arg5) = m ((c.tc : Thread Cert.SguIdeal.nD Cert.SguIdeal.τ).loc Cert.SguIdeal.main_arg5)
      ∧ m' ((c.tc : Thread Cert.SguRefIdeal.nD Cert.SguRefIdeal.τ).loc Cert.SguRefIdeal.main_arg6) = m ((c.tc : Thread Cert.SguIdeal.nD Cert.SguIdeal.τ).loc Cert.SguIdeal.main_arg6)) →
    ∃ (v0 : (c : Dev Cert.SguIdeal.nD) → Buf (Elt Ideal) ((c.tc : Thread Cert.SguIdeal.nD Cert.SguIdeal.τ).loc Cert.SguIdeal.main_v28_0)) (v1 : (c : Dev Cert.SguIdeal.nD) → Buf (Elt Ideal) ((c.tc : Thread Cert.SguIdeal.nD Cert.SguIdeal.τ).loc Cert.SguIdeal.main_v28_1)) (v2 : (c : Dev Cert.SguIdeal.nD) → Buf (Elt Ideal) ((c.tc : Thread Cert.SguIdeal.nD Cert.SguIdeal.τ).loc Cert.SguIdeal.main_v28_2)) (v3 : (c : Dev Cert.SguIdeal.nD) → Buf (Elt Ideal) ((c.tc : Thread Cert.SguIdeal.nD Cert.SguIdeal.τ).loc Cert.SguIdeal.main_v28_3)) (v4 : (c : Dev Cert.SguIdeal.nD) → Buf (Elt Ideal) ((c.tc : Thread Cert.SguIdeal.nD Cert.SguIdeal.τ).loc Cert.SguIdeal.main_v28_4)) (v5 : (c : Dev Cert.SguIdeal.nD) → Buf (Elt Ideal) ((c.tc : Thread Cert.SguIdeal.nD Cert.SguIdeal.τ).loc Cert.SguIdeal.main_v28_5)) (v6 : (c : Dev Cert.SguIdeal.nD) → Buf (Elt Ideal) ((c.tc : Thread Cert.SguIdeal.nD Cert.SguIdeal.τ).loc Cert.SguIdeal.main_v28_6)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v28_0) = v0 c
          ∧ r.2.mem ((c.tc : Thread Cert.SguIdeal.nD Cert.SguIdeal.τ).loc Cert.SguIdeal.main_v28_1) = v1 c
          ∧ r.2.mem ((c.tc : Thread Cert.SguIdeal.nD Cert.SguIdeal.τ).loc Cert.SguIdeal.main_v28_2) = v2 c
          ∧ r.2.mem ((c.tc : Thread Cert.SguIdeal.nD Cert.SguIdeal.τ).loc Cert.SguIdeal.main_v28_3) = v3 c
          ∧ r.2.mem ((c.tc : Thread Cert.SguIdeal.nD Cert.SguIdeal.τ).loc Cert.SguIdeal.main_v28_4) = v4 c
          ∧ r.2.mem ((c.tc : Thread Cert.SguIdeal.nD Cert.SguIdeal.τ).loc Cert.SguIdeal.main_v28_5) = v5 c
          ∧ r.2.mem ((c.tc : Thread Cert.SguIdeal.nD Cert.SguIdeal.τ).loc Cert.SguIdeal.main_v28_6) = v6 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
          ∧ r.2.mem ((c.tc : Thread Cert.SguIdeal.nD Cert.SguIdeal.τ).loc Cert.SguIdeal.main_arg6) = m ((c.tc : Thread Cert.SguIdeal.nD Cert.SguIdeal.τ).loc Cert.SguIdeal.main_arg6))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v168) = v0 c
          ∧ r.2.mem ((c.tc : Thread Cert.SguRefIdeal.nD Cert.SguRefIdeal.τ).loc Cert.SguRefIdeal.main_v169) = v1 c
          ∧ r.2.mem ((c.tc : Thread Cert.SguRefIdeal.nD Cert.SguRefIdeal.τ).loc Cert.SguRefIdeal.main_v170) = v2 c
          ∧ r.2.mem ((c.tc : Thread Cert.SguRefIdeal.nD Cert.SguRefIdeal.τ).loc Cert.SguRefIdeal.main_v104) = v3 c
          ∧ r.2.mem ((c.tc : Thread Cert.SguRefIdeal.nD Cert.SguRefIdeal.τ).loc Cert.SguRefIdeal.main_v143) = v4 c
          ∧ r.2.mem ((c.tc : Thread Cert.SguRefIdeal.nD Cert.SguRefIdeal.τ).loc Cert.SguRefIdeal.main_v142) = v5 c
          ∧ r.2.mem ((c.tc : Thread Cert.SguRefIdeal.nD Cert.SguRefIdeal.τ).loc Cert.SguRefIdeal.main_v172) = v6 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5)
          ∧ r.2.mem ((c.tc : Thread Cert.SguRefIdeal.nD Cert.SguRefIdeal.τ).loc Cert.SguRefIdeal.main_arg6) = m' ((c.tc : Thread Cert.SguRefIdeal.nD Cert.SguRefIdeal.τ).loc Cert.SguRefIdeal.main_arg6))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)) →
    ∃ (v0 : (c : Dev Cert.ActIdeal.nD) → Buf (Elt Ideal) ((c.tc : Thread Cert.ActIdeal.nD Cert.ActIdeal.τ).loc Cert.ActIdeal.main_v3_0)) (v1 : (c : Dev Cert.ActIdeal.nD) → Buf (Elt Ideal) ((c.tc : Thread Cert.ActIdeal.nD Cert.ActIdeal.τ).loc Cert.ActIdeal.main_v3_1)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v3_0) = v0 c
          ∧ r.2.mem ((c.tc : Thread Cert.ActIdeal.nD Cert.ActIdeal.τ).loc Cert.ActIdeal.main_v3_1) = v1 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v3) = v0 c
          ∧ r.2.mem ((c.tc : Thread Cert.ActRefIdeal.nD Cert.ActRefIdeal.τ).loc Cert.ActRefIdeal.main_v4) = v1 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v9_0)) (v1 : (c : Dev Cert.MergeIdeal.nD) → Buf (Elt Ideal) ((c.tc : Thread Cert.MergeIdeal.nD Cert.MergeIdeal.τ).loc Cert.MergeIdeal.main_v9_1)) (v2 : (c : Dev Cert.MergeIdeal.nD) → Buf (Elt Ideal) ((c.tc : Thread Cert.MergeIdeal.nD Cert.MergeIdeal.τ).loc Cert.MergeIdeal.main_v9_2)) (v3 : (c : Dev Cert.MergeIdeal.nD) → Buf (Elt Ideal) ((c.tc : Thread Cert.MergeIdeal.nD Cert.MergeIdeal.τ).loc Cert.MergeIdeal.main_v9_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9_0) = v0 c
          ∧ r.2.mem ((c.tc : Thread Cert.MergeIdeal.nD Cert.MergeIdeal.τ).loc Cert.MergeIdeal.main_v9_1) = v1 c
          ∧ r.2.mem ((c.tc : Thread Cert.MergeIdeal.nD Cert.MergeIdeal.τ).loc Cert.MergeIdeal.main_v9_2) = v2 c
          ∧ r.2.mem ((c.tc : Thread Cert.MergeIdeal.nD Cert.MergeIdeal.τ).loc Cert.MergeIdeal.main_v9_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v21) = v0 c
          ∧ r.2.mem ((c.tc : Thread Cert.MergeRefIdeal.nD Cert.MergeRefIdeal.τ).loc Cert.MergeRefIdeal.main_v22) = v1 c
          ∧ r.2.mem ((c.tc : Thread Cert.MergeRefIdeal.nD Cert.MergeRefIdeal.τ).loc Cert.MergeRefIdeal.main_v23) = v2 c
          ∧ r.2.mem ((c.tc : Thread Cert.MergeRefIdeal.nD Cert.MergeRefIdeal.τ).loc Cert.MergeRefIdeal.main_v24) = v3 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Resid_ResidIdeal : Prop :=
  True

def algebraic_ResidIdeal_ResidRefIdeal [hResidIdeal : Cert.ResidIdeal.Facts] [hResidRefIdeal : Cert.ResidRefIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidRefIdeal.nD Cert.ResidRefIdeal.τ Cert.ResidRefIdeal.sig) → Buf (Elt Ideal) ℓ) (g' : Dev Cert.ResidRefIdeal.nD → PrngReg), Pre_ResidIdeal m →
    (∀ c : Dev Cert.ResidIdeal.nD,
      m' ((c.tc : Thread Cert.ResidRefIdeal.nD Cert.ResidRefIdeal.τ).loc Cert.ResidRefIdeal.main_arg0) = m ((c.tc : Thread Cert.ResidIdeal.nD Cert.ResidIdeal.τ).loc Cert.ResidIdeal.main_arg0)
      ∧ m' ((c.tc : Thread Cert.ResidRefIdeal.nD Cert.ResidRefIdeal.τ).loc Cert.ResidRefIdeal.main_arg1) = m ((c.tc : Thread Cert.ResidIdeal.nD Cert.ResidIdeal.τ).loc Cert.ResidIdeal.main_arg1)
      ∧ m' ((c.tc : Thread Cert.ResidRefIdeal.nD Cert.ResidRefIdeal.τ).loc Cert.ResidRefIdeal.main_arg2) = m ((c.tc : Thread Cert.ResidIdeal.nD Cert.ResidIdeal.τ).loc Cert.ResidIdeal.main_arg2)
      ∧ m' ((c.tc : Thread Cert.ResidRefIdeal.nD Cert.ResidRefIdeal.τ).loc Cert.ResidRefIdeal.main_arg3) = m ((c.tc : Thread Cert.ResidIdeal.nD Cert.ResidIdeal.τ).loc Cert.ResidIdeal.main_arg3)) →
    ∃ (v0 : (c : Dev Cert.ResidIdeal.nD) → Buf (Elt Ideal) ((c.tc : Thread Cert.ResidIdeal.nD Cert.ResidIdeal.τ).loc Cert.ResidIdeal.main_v4_0)) (v1 : (c : Dev Cert.ResidIdeal.nD) → Buf (Elt Ideal) ((c.tc : Thread Cert.ResidIdeal.nD Cert.ResidIdeal.τ).loc Cert.ResidIdeal.main_v4_1)) (v2 : (c : Dev Cert.ResidIdeal.nD) → Buf (Elt Ideal) ((c.tc : Thread Cert.ResidIdeal.nD Cert.ResidIdeal.τ).loc Cert.ResidIdeal.main_v4_2)) (v3 : (c : Dev Cert.ResidIdeal.nD) → Buf (Elt Ideal) ((c.tc : Thread Cert.ResidIdeal.nD Cert.ResidIdeal.τ).loc Cert.ResidIdeal.main_v4_3)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v4_0) = v0 c
          ∧ r.2.mem ((c.tc : Thread Cert.ResidIdeal.nD Cert.ResidIdeal.τ).loc Cert.ResidIdeal.main_v4_1) = v1 c
          ∧ r.2.mem ((c.tc : Thread Cert.ResidIdeal.nD Cert.ResidIdeal.τ).loc Cert.ResidIdeal.main_v4_2) = v2 c
          ∧ r.2.mem ((c.tc : Thread Cert.ResidIdeal.nD Cert.ResidIdeal.τ).loc Cert.ResidIdeal.main_v4_3) = v3 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
          ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3))
      ∧ θ_run (Cert.ResidRefIdeal.defs (F := Ideal)) (onTc (τ := Cert.ResidRefIdeal.τ) (Cert.ResidRefIdeal.main (F := Ideal))) ⟨m', fun _ => 0, g'⟩ (fun r => ∀ c : Dev Cert.ResidRefIdeal.nD,
          r.2.mem ((c.tc : Thread Cert.ResidRefIdeal.nD Cert.ResidRefIdeal.τ).loc Cert.ResidRefIdeal.main_v3) = v0 c
          ∧ r.2.mem ((c.tc : Thread Cert.ResidRefIdeal.nD Cert.ResidRefIdeal.τ).loc Cert.ResidRefIdeal.main_v18) = v1 c
          ∧ r.2.mem ((c.tc : Thread Cert.ResidRefIdeal.nD Cert.ResidRefIdeal.τ).loc Cert.ResidRefIdeal.main_v19) = v2 c
          ∧ r.2.mem ((c.tc : Thread Cert.ResidRefIdeal.nD Cert.ResidRefIdeal.τ).loc Cert.ResidRefIdeal.main_v11) = v3 c
          ∧ r.2.mem ((c.tc : Thread Cert.ResidRefIdeal.nD Cert.ResidRefIdeal.τ).loc Cert.ResidRefIdeal.main_arg0) = m' ((c.tc : Thread Cert.ResidRefIdeal.nD Cert.ResidRefIdeal.τ).loc Cert.ResidRefIdeal.main_arg0)
          ∧ r.2.mem ((c.tc : Thread Cert.ResidRefIdeal.nD Cert.ResidRefIdeal.τ).loc Cert.ResidRefIdeal.main_arg1) = m' ((c.tc : Thread Cert.ResidRefIdeal.nD Cert.ResidRefIdeal.τ).loc Cert.ResidRefIdeal.main_arg1)
          ∧ r.2.mem ((c.tc : Thread Cert.ResidRefIdeal.nD Cert.ResidRefIdeal.τ).loc Cert.ResidRefIdeal.main_arg2) = m' ((c.tc : Thread Cert.ResidRefIdeal.nD Cert.ResidRefIdeal.τ).loc Cert.ResidRefIdeal.main_arg2)
          ∧ r.2.mem ((c.tc : Thread Cert.ResidRefIdeal.nD Cert.ResidRefIdeal.τ).loc Cert.ResidRefIdeal.main_arg3) = m' ((c.tc : Thread Cert.ResidRefIdeal.nD Cert.ResidRefIdeal.τ).loc Cert.ResidRefIdeal.main_arg3))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v1_0)) (v1 : (c : Dev Cert.RmsIdeal.nD) → Buf (Elt Ideal) ((c.tc : Thread Cert.RmsIdeal.nD Cert.RmsIdeal.τ).loc Cert.RmsIdeal.main_v1_1)) (v2 : (c : Dev Cert.RmsIdeal.nD) → Buf (Elt Ideal) ((c.tc : Thread Cert.RmsIdeal.nD Cert.RmsIdeal.τ).loc Cert.RmsIdeal.main_v1_2)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v1_0) = v0 c
          ∧ r.2.mem ((c.tc : Thread Cert.RmsIdeal.nD Cert.RmsIdeal.τ).loc Cert.RmsIdeal.main_v1_1) = v1 c
          ∧ r.2.mem ((c.tc : Thread Cert.RmsIdeal.nD Cert.RmsIdeal.τ).loc Cert.RmsIdeal.main_v1_2) = v2 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v17) = v0 c
          ∧ r.2.mem ((c.tc : Thread Cert.RmsRefIdeal.nD Cert.RmsRefIdeal.τ).loc Cert.RmsRefIdeal.main_v18) = v1 c
          ∧ r.2.mem ((c.tc : Thread Cert.RmsRefIdeal.nD Cert.RmsRefIdeal.τ).loc Cert.RmsRefIdeal.main_v9) = v2 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1))

def preserves_Cum_CumIdeal : Prop :=
  True

def algebraic_CumIdeal_CumRefIdeal_pre_finite_cum [hCumIdeal : Cert.CumIdeal.Facts] [hCumRefIdeal : Cert.CumRefIdeal.Facts] [hPre_finite_cum : Cert.Pre_finite_cum.Facts] : Prop :=
  ∀ (m : (ℓ : Loc Cert.CumIdeal.nD Cert.CumIdeal.τ Cert.CumIdeal.sig) → Buf (Elt Ideal) ℓ) (g : Dev Cert.CumIdeal.nD → PrngReg)
    (m' : (ℓ : Loc Cert.CumRefIdeal.nD Cert.CumRefIdeal.τ Cert.CumRefIdeal.sig) → Buf (Elt Ideal) ℓ) (g' : Dev Cert.CumRefIdeal.nD → PrngReg), Pre_CumIdeal_finite_cum m →
    (∀ c : Dev Cert.CumIdeal.nD,
      m' ((c.tc : Thread Cert.CumRefIdeal.nD Cert.CumRefIdeal.τ).loc Cert.CumRefIdeal.main_arg0) = m ((c.tc : Thread Cert.CumIdeal.nD Cert.CumIdeal.τ).loc Cert.CumIdeal.main_arg0)
      ∧ m' ((c.tc : Thread Cert.CumRefIdeal.nD Cert.CumRefIdeal.τ).loc Cert.CumRefIdeal.main_arg1) = m ((c.tc : Thread Cert.CumIdeal.nD Cert.CumIdeal.τ).loc Cert.CumIdeal.main_arg1)) →
    ∃ (v0 : (c : Dev Cert.CumIdeal.nD) → Buf (Elt Ideal) ((c.tc : Thread Cert.CumIdeal.nD Cert.CumIdeal.τ).loc Cert.CumIdeal.main_v2)),
      θ_run (Cert.CumIdeal.defs (F := Ideal)) (onTc (τ := Cert.CumIdeal.τ) (Cert.CumIdeal.main (F := Ideal))) ⟨m, fun _ => 0, g⟩ (fun r => ∀ c : Dev Cert.CumIdeal.nD,
          r.2.mem ((c.tc : Thread Cert.CumIdeal.nD Cert.CumIdeal.τ).loc Cert.CumIdeal.main_v2) = v0 c
          ∧ r.2.mem ((c.tc : Thread Cert.CumIdeal.nD Cert.CumIdeal.τ).loc Cert.CumIdeal.main_arg0) = m ((c.tc : Thread Cert.CumIdeal.nD Cert.CumIdeal.τ).loc Cert.CumIdeal.main_arg0)
          ∧ r.2.mem ((c.tc : Thread Cert.CumIdeal.nD Cert.CumIdeal.τ).loc Cert.CumIdeal.main_arg1) = m ((c.tc : Thread Cert.CumIdeal.nD Cert.CumIdeal.τ).loc Cert.CumIdeal.main_arg1))
      ∧ θ_run (Cert.CumRefIdeal.defs (F := Ideal)) (onTc (τ := Cert.CumRefIdeal.τ) (Cert.CumRefIdeal.main (F := Ideal))) ⟨m', fun _ => 0, g'⟩ (fun r => ∀ c : Dev Cert.CumRefIdeal.nD,
          r.2.mem ((c.tc : Thread Cert.CumRefIdeal.nD Cert.CumRefIdeal.τ).loc Cert.CumRefIdeal.main_v7) = v0 c
          ∧ r.2.mem ((c.tc : Thread Cert.CumRefIdeal.nD Cert.CumRefIdeal.τ).loc Cert.CumRefIdeal.main_arg0) = m' ((c.tc : Thread Cert.CumRefIdeal.nD Cert.CumRefIdeal.τ).loc Cert.CumRefIdeal.main_arg0)
          ∧ r.2.mem ((c.tc : Thread Cert.CumRefIdeal.nD Cert.CumRefIdeal.τ).loc Cert.CumRefIdeal.main_arg1) = m' ((c.tc : Thread Cert.CumRefIdeal.nD Cert.CumRefIdeal.τ).loc Cert.CumRefIdeal.main_arg1))

def preserves_Mix_MixIdeal : Prop :=
  IdealRules.named_const.Statement Cert.MixIdeal.κ "gelu_c" .f32 0x3D372713#32 ((8943 / 200000 : ℝ) : EReal)

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v21_0)) (v1 : (c : Dev Cert.MixIdeal.nD) → Buf (Elt Ideal) ((c.tc : Thread Cert.MixIdeal.nD Cert.MixIdeal.τ).loc Cert.MixIdeal.main_v21_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v21_0) = v0 c
          ∧ r.2.mem ((c.tc : Thread Cert.MixIdeal.nD Cert.MixIdeal.τ).loc Cert.MixIdeal.main_v21_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v74) = v0 c
          ∧ r.2.mem ((c.tc : Thread Cert.MixRefIdeal.nD Cert.MixRefIdeal.τ).loc Cert.MixRefIdeal.main_v75) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_Gw_GwIdeal : Prop :=
  True

def algebraic_GwIdeal_GwRefIdeal [hGwIdeal : Cert.GwIdeal.Facts] [hGwRefIdeal : Cert.GwRefIdeal.Facts] : Prop :=
  ∀ (m : (ℓ : Loc Cert.GwIdeal.nD Cert.GwIdeal.τ Cert.GwIdeal.sig) → Buf (Elt Ideal) ℓ) (g : Dev Cert.GwIdeal.nD → PrngReg)
    (m' : (ℓ : Loc Cert.GwRefIdeal.nD Cert.GwRefIdeal.τ Cert.GwRefIdeal.sig) → Buf (Elt Ideal) ℓ) (g' : Dev Cert.GwRefIdeal.nD → PrngReg), Pre_GwIdeal m →
    (∀ c : Dev Cert.GwIdeal.nD,
      m' ((c.tc : Thread Cert.GwRefIdeal.nD Cert.GwRefIdeal.τ).loc Cert.GwRefIdeal.main_arg0) = m ((c.tc : Thread Cert.GwIdeal.nD Cert.GwIdeal.τ).loc Cert.GwIdeal.main_arg0)
      ∧ m' ((c.tc : Thread Cert.GwRefIdeal.nD Cert.GwRefIdeal.τ).loc Cert.GwRefIdeal.main_arg1) = m ((c.tc : Thread Cert.GwIdeal.nD Cert.GwIdeal.τ).loc Cert.GwIdeal.main_arg1)) →
    ∃ (v0 : (c : Dev Cert.GwIdeal.nD) → Buf (Elt Ideal) ((c.tc : Thread Cert.GwIdeal.nD Cert.GwIdeal.τ).loc Cert.GwIdeal.main_v1)),
      θ_run (Cert.GwIdeal.defs (F := Ideal)) (onTc (τ := Cert.GwIdeal.τ) (Cert.GwIdeal.main (F := Ideal))) ⟨m, fun _ => 0, g⟩ (fun r => ∀ c : Dev Cert.GwIdeal.nD,
          r.2.mem ((c.tc : Thread Cert.GwIdeal.nD Cert.GwIdeal.τ).loc Cert.GwIdeal.main_v1) = v0 c
          ∧ r.2.mem ((c.tc : Thread Cert.GwIdeal.nD Cert.GwIdeal.τ).loc Cert.GwIdeal.main_arg0) = m ((c.tc : Thread Cert.GwIdeal.nD Cert.GwIdeal.τ).loc Cert.GwIdeal.main_arg0)
          ∧ r.2.mem ((c.tc : Thread Cert.GwIdeal.nD Cert.GwIdeal.τ).loc Cert.GwIdeal.main_arg1) = m ((c.tc : Thread Cert.GwIdeal.nD Cert.GwIdeal.τ).loc Cert.GwIdeal.main_arg1))
      ∧ θ_run (Cert.GwRefIdeal.defs (F := Ideal)) (onTc (τ := Cert.GwRefIdeal.τ) (Cert.GwRefIdeal.main (F := Ideal))) ⟨m', fun _ => 0, g'⟩ (fun r => ∀ c : Dev Cert.GwRefIdeal.nD,
          r.2.mem ((c.tc : Thread Cert.GwRefIdeal.nD Cert.GwRefIdeal.τ).loc Cert.GwRefIdeal.main_v3) = v0 c
          ∧ r.2.mem ((c.tc : Thread Cert.GwRefIdeal.nD Cert.GwRefIdeal.τ).loc Cert.GwRefIdeal.main_arg0) = m' ((c.tc : Thread Cert.GwRefIdeal.nD Cert.GwRefIdeal.τ).loc Cert.GwRefIdeal.main_arg0)
          ∧ r.2.mem ((c.tc : Thread Cert.GwRefIdeal.nD Cert.GwRefIdeal.τ).loc Cert.GwRefIdeal.main_arg1) = m' ((c.tc : Thread Cert.GwRefIdeal.nD Cert.GwRefIdeal.τ).loc Cert.GwRefIdeal.main_arg1))

def preserves_Rest_RestIdeal : Prop :=
  True

def algebraic_RestIdeal_RestRefIdeal [hRestIdeal : Cert.RestIdeal.Facts] [hRestRefIdeal : Cert.RestRefIdeal.Facts] : Prop :=
  ∀ (m : (ℓ : Loc Cert.RestIdeal.nD Cert.RestIdeal.τ Cert.RestIdeal.sig) → Buf (Elt Ideal) ℓ) (g : Dev Cert.RestIdeal.nD → PrngReg)
    (m' : (ℓ : Loc Cert.RestRefIdeal.nD Cert.RestRefIdeal.τ Cert.RestRefIdeal.sig) → Buf (Elt Ideal) ℓ) (g' : Dev Cert.RestRefIdeal.nD → PrngReg), Pre_RestIdeal m →
    (∀ c : Dev Cert.RestIdeal.nD,
      m' ((c.tc : Thread Cert.RestRefIdeal.nD Cert.RestRefIdeal.τ).loc Cert.RestRefIdeal.main_arg0) = m ((c.tc : Thread Cert.RestIdeal.nD Cert.RestIdeal.τ).loc Cert.RestIdeal.main_arg0)
      ∧ m' ((c.tc : Thread Cert.RestRefIdeal.nD Cert.RestRefIdeal.τ).loc Cert.RestRefIdeal.main_arg1) = m ((c.tc : Thread Cert.RestIdeal.nD Cert.RestIdeal.τ).loc Cert.RestIdeal.main_arg1)) →
    ∃ (v0 : (c : Dev Cert.RestIdeal.nD) → Buf (Elt Ideal) ((c.tc : Thread Cert.RestIdeal.nD Cert.RestIdeal.τ).loc Cert.RestIdeal.main_v7_0)) (v1 : (c : Dev Cert.RestIdeal.nD) → Buf (Elt Ideal) ((c.tc : Thread Cert.RestIdeal.nD Cert.RestIdeal.τ).loc Cert.RestIdeal.main_v7_1)),
      θ_run (Cert.RestIdeal.defs (F := Ideal)) (onTc (τ := Cert.RestIdeal.τ) (Cert.RestIdeal.main (F := Ideal))) ⟨m, fun _ => 0, g⟩ (fun r => ∀ c : Dev Cert.RestIdeal.nD,
          r.2.mem ((c.tc : Thread Cert.RestIdeal.nD Cert.RestIdeal.τ).loc Cert.RestIdeal.main_v7_0) = v0 c
          ∧ r.2.mem ((c.tc : Thread Cert.RestIdeal.nD Cert.RestIdeal.τ).loc Cert.RestIdeal.main_v7_1) = v1 c
          ∧ r.2.mem ((c.tc : Thread Cert.RestIdeal.nD Cert.RestIdeal.τ).loc Cert.RestIdeal.main_arg0) = m ((c.tc : Thread Cert.RestIdeal.nD Cert.RestIdeal.τ).loc Cert.RestIdeal.main_arg0)
          ∧ r.2.mem ((c.tc : Thread Cert.RestIdeal.nD Cert.RestIdeal.τ).loc Cert.RestIdeal.main_arg1) = m ((c.tc : Thread Cert.RestIdeal.nD Cert.RestIdeal.τ).loc Cert.RestIdeal.main_arg1))
      ∧ θ_run (Cert.RestRefIdeal.defs (F := Ideal)) (onTc (τ := Cert.RestRefIdeal.τ) (Cert.RestRefIdeal.main (F := Ideal))) ⟨m', fun _ => 0, g'⟩ (fun r => ∀ c : Dev Cert.RestRefIdeal.nD,
          r.2.mem ((c.tc : Thread Cert.RestRefIdeal.nD Cert.RestRefIdeal.τ).loc Cert.RestRefIdeal.main_v10) = v0 c
          ∧ r.2.mem ((c.tc : Thread Cert.RestRefIdeal.nD Cert.RestRefIdeal.τ).loc Cert.RestRefIdeal.main_v8) = v1 c
          ∧ r.2.mem ((c.tc : Thread Cert.RestRefIdeal.nD Cert.RestRefIdeal.τ).loc Cert.RestRefIdeal.main_arg0) = m' ((c.tc : Thread Cert.RestRefIdeal.nD Cert.RestRefIdeal.τ).loc Cert.RestRefIdeal.main_arg0)
          ∧ r.2.mem ((c.tc : Thread Cert.RestRefIdeal.nD Cert.RestRefIdeal.τ).loc Cert.RestRefIdeal.main_arg1) = m' ((c.tc : Thread Cert.RestRefIdeal.nD Cert.RestRefIdeal.τ).loc Cert.RestRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)
      ∧ m' ((c.tc : Thread Cert.AdamRefIdeal.nD Cert.AdamRefIdeal.τ).loc Cert.AdamRefIdeal.main_arg4) = m ((c.tc : Thread Cert.AdamIdeal.nD Cert.AdamIdeal.τ).loc Cert.AdamIdeal.main_arg4)) →
    ∃ (v0 : (c : Dev Cert.AdamIdeal.nD) → Buf (Elt Ideal) ((c.tc : Thread Cert.AdamIdeal.nD Cert.AdamIdeal.τ).loc Cert.AdamIdeal.main_v3_0)) (v1 : (c : Dev Cert.AdamIdeal.nD) → Buf (Elt Ideal) ((c.tc : Thread Cert.AdamIdeal.nD Cert.AdamIdeal.τ).loc Cert.AdamIdeal.main_v3_1)) (v2 : (c : Dev Cert.AdamIdeal.nD) → Buf (Elt Ideal) ((c.tc : Thread Cert.AdamIdeal.nD Cert.AdamIdeal.τ).loc Cert.AdamIdeal.main_v3_2)) (v3 : (c : Dev Cert.AdamIdeal.nD) → Buf (Elt Ideal) ((c.tc : Thread Cert.AdamIdeal.nD Cert.AdamIdeal.τ).loc Cert.AdamIdeal.main_v3_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v3_0) = v0 c
          ∧ r.2.mem ((c.tc : Thread Cert.AdamIdeal.nD Cert.AdamIdeal.τ).loc Cert.AdamIdeal.main_v3_1) = v1 c
          ∧ r.2.mem ((c.tc : Thread Cert.AdamIdeal.nD Cert.AdamIdeal.τ).loc Cert.AdamIdeal.main_v3_2) = v2 c
          ∧ r.2.mem ((c.tc : Thread Cert.AdamIdeal.nD Cert.AdamIdeal.τ).loc Cert.AdamIdeal.main_v3_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v2) = v0 c
          ∧ r.2.mem ((c.tc : Thread Cert.AdamRefIdeal.nD Cert.AdamRefIdeal.τ).loc Cert.AdamRefIdeal.main_v29) = v1 c
          ∧ r.2.mem ((c.tc : Thread Cert.AdamRefIdeal.nD Cert.AdamRefIdeal.τ).loc Cert.AdamRefIdeal.main_v8) = v2 c
          ∧ r.2.mem ((c.tc : Thread Cert.AdamRefIdeal.nD Cert.AdamRefIdeal.τ).loc Cert.AdamRefIdeal.main_v15) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4))

def preserves_Tiny_TinyIdeal : Prop :=
  True

def algebraic_TinyIdeal_TinyRefIdeal [hTinyIdeal : Cert.TinyIdeal.Facts] [hTinyRefIdeal : Cert.TinyRefIdeal.Facts] : Prop :=
  ∀ (m : (ℓ : Loc Cert.TinyIdeal.nD Cert.TinyIdeal.τ Cert.TinyIdeal.sig) → Buf (Elt Ideal) ℓ) (g : Dev Cert.TinyIdeal.nD → PrngReg)
    (m' : (ℓ : Loc Cert.TinyRefIdeal.nD Cert.TinyRefIdeal.τ Cert.TinyRefIdeal.sig) → Buf (Elt Ideal) ℓ) (g' : Dev Cert.TinyRefIdeal.nD → PrngReg), Pre_TinyIdeal m →
    (∀ c : Dev Cert.TinyIdeal.nD,
      m' ((c.tc : Thread Cert.TinyRefIdeal.nD Cert.TinyRefIdeal.τ).loc Cert.TinyRefIdeal.main_arg0) = m ((c.tc : Thread Cert.TinyIdeal.nD Cert.TinyIdeal.τ).loc Cert.TinyIdeal.main_arg0)
      ∧ m' ((c.tc : Thread Cert.TinyRefIdeal.nD Cert.TinyRefIdeal.τ).loc Cert.TinyRefIdeal.main_arg1) = m ((c.tc : Thread Cert.TinyIdeal.nD Cert.TinyIdeal.τ).loc Cert.TinyIdeal.main_arg1)
      ∧ m' ((c.tc : Thread Cert.TinyRefIdeal.nD Cert.TinyRefIdeal.τ).loc Cert.TinyRefIdeal.main_arg2) = m ((c.tc : Thread Cert.TinyIdeal.nD Cert.TinyIdeal.τ).loc Cert.TinyIdeal.main_arg2)
      ∧ m' ((c.tc : Thread Cert.TinyRefIdeal.nD Cert.TinyRefIdeal.τ).loc Cert.TinyRefIdeal.main_arg3) = m ((c.tc : Thread Cert.TinyIdeal.nD Cert.TinyIdeal.τ).loc Cert.TinyIdeal.main_arg3)
      ∧ m' ((c.tc : Thread Cert.TinyRefIdeal.nD Cert.TinyRefIdeal.τ).loc Cert.TinyRefIdeal.main_arg4) = m ((c.tc : Thread Cert.TinyIdeal.nD Cert.TinyIdeal.τ).loc Cert.TinyIdeal.main_arg4)
      ∧ m' ((c.tc : Thread Cert.TinyRefIdeal.nD Cert.TinyRefIdeal.τ).loc Cert.TinyRefIdeal.main_arg5) = m ((c.tc : Thread Cert.TinyIdeal.nD Cert.TinyIdeal.τ).loc Cert.TinyIdeal.main_arg5)
      ∧ m' ((c.tc : Thread Cert.TinyRefIdeal.nD Cert.TinyRefIdeal.τ).loc Cert.TinyRefIdeal.main_arg6) = m ((c.tc : Thread Cert.TinyIdeal.nD Cert.TinyIdeal.τ).loc Cert.TinyIdeal.main_arg6)
      ∧ m' ((c.tc : Thread Cert.TinyRefIdeal.nD Cert.TinyRefIdeal.τ).loc Cert.TinyRefIdeal.main_arg7) = m ((c.tc : Thread Cert.TinyIdeal.nD Cert.TinyIdeal.τ).loc Cert.TinyIdeal.main_arg7)
      ∧ m' ((c.tc : Thread Cert.TinyRefIdeal.nD Cert.TinyRefIdeal.τ).loc Cert.TinyRefIdeal.main_arg8) = m ((c.tc : Thread Cert.TinyIdeal.nD Cert.TinyIdeal.τ).loc Cert.TinyIdeal.main_arg8)
      ∧ m' ((c.tc : Thread Cert.TinyRefIdeal.nD Cert.TinyRefIdeal.τ).loc Cert.TinyRefIdeal.main_arg9) = m ((c.tc : Thread Cert.TinyIdeal.nD Cert.TinyIdeal.τ).loc Cert.TinyIdeal.main_arg9)
      ∧ m' ((c.tc : Thread Cert.TinyRefIdeal.nD Cert.TinyRefIdeal.τ).loc Cert.TinyRefIdeal.main_arg10) = m ((c.tc : Thread Cert.TinyIdeal.nD Cert.TinyIdeal.τ).loc Cert.TinyIdeal.main_arg10)
      ∧ m' ((c.tc : Thread Cert.TinyRefIdeal.nD Cert.TinyRefIdeal.τ).loc Cert.TinyRefIdeal.main_arg11) = m ((c.tc : Thread Cert.TinyIdeal.nD Cert.TinyIdeal.τ).loc Cert.TinyIdeal.main_arg11)
      ∧ m' ((c.tc : Thread Cert.TinyRefIdeal.nD Cert.TinyRefIdeal.τ).loc Cert.TinyRefIdeal.main_arg12) = m ((c.tc : Thread Cert.TinyIdeal.nD Cert.TinyIdeal.τ).loc Cert.TinyIdeal.main_arg12)
      ∧ m' ((c.tc : Thread Cert.TinyRefIdeal.nD Cert.TinyRefIdeal.τ).loc Cert.TinyRefIdeal.main_arg13) = m ((c.tc : Thread Cert.TinyIdeal.nD Cert.TinyIdeal.τ).loc Cert.TinyIdeal.main_arg13)
      ∧ m' ((c.tc : Thread Cert.TinyRefIdeal.nD Cert.TinyRefIdeal.τ).loc Cert.TinyRefIdeal.main_arg14) = m ((c.tc : Thread Cert.TinyIdeal.nD Cert.TinyIdeal.τ).loc Cert.TinyIdeal.main_arg14)
      ∧ m' ((c.tc : Thread Cert.TinyRefIdeal.nD Cert.TinyRefIdeal.τ).loc Cert.TinyRefIdeal.main_arg15) = m ((c.tc : Thread Cert.TinyIdeal.nD Cert.TinyIdeal.τ).loc Cert.TinyIdeal.main_arg15)) →
    ∃ (v0 : (c : Dev Cert.TinyIdeal.nD) → Buf (Elt Ideal) ((c.tc : Thread Cert.TinyIdeal.nD Cert.TinyIdeal.τ).loc Cert.TinyIdeal.main_v48_0)) (v1 : (c : Dev Cert.TinyIdeal.nD) → Buf (Elt Ideal) ((c.tc : Thread Cert.TinyIdeal.nD Cert.TinyIdeal.τ).loc Cert.TinyIdeal.main_v48_1)) (v2 : (c : Dev Cert.TinyIdeal.nD) → Buf (Elt Ideal) ((c.tc : Thread Cert.TinyIdeal.nD Cert.TinyIdeal.τ).loc Cert.TinyIdeal.main_v48_2)) (v3 : (c : Dev Cert.TinyIdeal.nD) → Buf (Elt Ideal) ((c.tc : Thread Cert.TinyIdeal.nD Cert.TinyIdeal.τ).loc Cert.TinyIdeal.main_v48_3)),
      θ_run (Cert.TinyIdeal.defs (F := Ideal)) (onTc (τ := Cert.TinyIdeal.τ) (Cert.TinyIdeal.main (F := Ideal))) ⟨m, fun _ => 0, g⟩ (fun r => ∀ c : Dev Cert.TinyIdeal.nD,
          r.2.mem ((c.tc : Thread Cert.TinyIdeal.nD Cert.TinyIdeal.τ).loc Cert.TinyIdeal.main_v48_0) = v0 c
          ∧ r.2.mem ((c.tc : Thread Cert.TinyIdeal.nD Cert.TinyIdeal.τ).loc Cert.TinyIdeal.main_v48_1) = v1 c
          ∧ r.2.mem ((c.tc : Thread Cert.TinyIdeal.nD Cert.TinyIdeal.τ).loc Cert.TinyIdeal.main_v48_2) = v2 c
          ∧ r.2.mem ((c.tc : Thread Cert.TinyIdeal.nD Cert.TinyIdeal.τ).loc Cert.TinyIdeal.main_v48_3) = v3 c
          ∧ r.2.mem ((c.tc : Thread Cert.TinyIdeal.nD Cert.TinyIdeal.τ).loc Cert.TinyIdeal.main_arg0) = m ((c.tc : Thread Cert.TinyIdeal.nD Cert.TinyIdeal.τ).loc Cert.TinyIdeal.main_arg0)
          ∧ r.2.mem ((c.tc : Thread Cert.TinyIdeal.nD Cert.TinyIdeal.τ).loc Cert.TinyIdeal.main_arg1) = m ((c.tc : Thread Cert.TinyIdeal.nD Cert.TinyIdeal.τ).loc Cert.TinyIdeal.main_arg1)
          ∧ r.2.mem ((c.tc : Thread Cert.TinyIdeal.nD Cert.TinyIdeal.τ).loc Cert.TinyIdeal.main_arg2) = m ((c.tc : Thread Cert.TinyIdeal.nD Cert.TinyIdeal.τ).loc Cert.TinyIdeal.main_arg2)
          ∧ r.2.mem ((c.tc : Thread Cert.TinyIdeal.nD Cert.TinyIdeal.τ).loc Cert.TinyIdeal.main_arg3) = m ((c.tc : Thread Cert.TinyIdeal.nD Cert.TinyIdeal.τ).loc Cert.TinyIdeal.main_arg3)
          ∧ r.2.mem ((c.tc : Thread Cert.TinyIdeal.nD Cert.TinyIdeal.τ).loc Cert.TinyIdeal.main_arg4) = m ((c.tc : Thread Cert.TinyIdeal.nD Cert.TinyIdeal.τ).loc Cert.TinyIdeal.main_arg4)
          ∧ r.2.mem ((c.tc : Thread Cert.TinyIdeal.nD Cert.TinyIdeal.τ).loc Cert.TinyIdeal.main_arg5) = m ((c.tc : Thread Cert.TinyIdeal.nD Cert.TinyIdeal.τ).loc Cert.TinyIdeal.main_arg5)
          ∧ r.2.mem ((c.tc : Thread Cert.TinyIdeal.nD Cert.TinyIdeal.τ).loc Cert.TinyIdeal.main_arg6) = m ((c.tc : Thread Cert.TinyIdeal.nD Cert.TinyIdeal.τ).loc Cert.TinyIdeal.main_arg6)
          ∧ r.2.mem ((c.tc : Thread Cert.TinyIdeal.nD Cert.TinyIdeal.τ).loc Cert.TinyIdeal.main_arg7) = m ((c.tc : Thread Cert.TinyIdeal.nD Cert.TinyIdeal.τ).loc Cert.TinyIdeal.main_arg7)
          ∧ r.2.mem ((c.tc : Thread Cert.TinyIdeal.nD Cert.TinyIdeal.τ).loc Cert.TinyIdeal.main_arg8) = m ((c.tc : Thread Cert.TinyIdeal.nD Cert.TinyIdeal.τ).loc Cert.TinyIdeal.main_arg8)
          ∧ r.2.mem ((c.tc : Thread Cert.TinyIdeal.nD Cert.TinyIdeal.τ).loc Cert.TinyIdeal.main_arg9) = m ((c.tc : Thread Cert.TinyIdeal.nD Cert.TinyIdeal.τ).loc Cert.TinyIdeal.main_arg9)
          ∧ r.2.mem ((c.tc : Thread Cert.TinyIdeal.nD Cert.TinyIdeal.τ).loc Cert.TinyIdeal.main_arg10) = m ((c.tc : Thread Cert.TinyIdeal.nD Cert.TinyIdeal.τ).loc Cert.TinyIdeal.main_arg10)
          ∧ r.2.mem ((c.tc : Thread Cert.TinyIdeal.nD Cert.TinyIdeal.τ).loc Cert.TinyIdeal.main_arg11) = m ((c.tc : Thread Cert.TinyIdeal.nD Cert.TinyIdeal.τ).loc Cert.TinyIdeal.main_arg11)
          ∧ r.2.mem ((c.tc : Thread Cert.TinyIdeal.nD Cert.TinyIdeal.τ).loc Cert.TinyIdeal.main_arg12) = m ((c.tc : Thread Cert.TinyIdeal.nD Cert.TinyIdeal.τ).loc Cert.TinyIdeal.main_arg12)
          ∧ r.2.mem ((c.tc : Thread Cert.TinyIdeal.nD Cert.TinyIdeal.τ).loc Cert.TinyIdeal.main_arg13) = m ((c.tc : Thread Cert.TinyIdeal.nD Cert.TinyIdeal.τ).loc Cert.TinyIdeal.main_arg13)
          ∧ r.2.mem ((c.tc : Thread Cert.TinyIdeal.nD Cert.TinyIdeal.τ).loc Cert.TinyIdeal.main_arg14) = m ((c.tc : Thread Cert.TinyIdeal.nD Cert.TinyIdeal.τ).loc Cert.TinyIdeal.main_arg14)
          ∧ r.2.mem ((c.tc : Thread Cert.TinyIdeal.nD Cert.TinyIdeal.τ).loc Cert.TinyIdeal.main_arg15) = m ((c.tc : Thread Cert.TinyIdeal.nD Cert.TinyIdeal.τ).loc Cert.TinyIdeal.main_arg15))
      ∧ θ_run (Cert.TinyRefIdeal.defs (F := Ideal)) (onTc (τ := Cert.TinyRefIdeal.τ) (Cert.TinyRefIdeal.main (F := Ideal))) ⟨m', fun _ => 0, g'⟩ (fun r => ∀ c : Dev Cert.TinyRefIdeal.nD,
          r.2.mem ((c.tc : Thread Cert.TinyRefIdeal.nD Cert.TinyRefIdeal.τ).loc Cert.TinyRefIdeal.main_v136) = v0 c
          ∧ r.2.mem ((c.tc : Thread Cert.TinyRefIdeal.nD Cert.TinyRefIdeal.τ).loc Cert.TinyRefIdeal.main_v142) = v1 c
          ∧ r.2.mem ((c.tc : Thread Cert.TinyRefIdeal.nD Cert.TinyRefIdeal.τ).loc Cert.TinyRefIdeal.main_v148) = v2 c
          ∧ r.2.mem ((c.tc : Thread Cert.TinyRefIdeal.nD Cert.TinyRefIdeal.τ).loc Cert.TinyRefIdeal.main_v154) = v3 c
          ∧ r.2.mem ((c.tc : Thread Cert.TinyRefIdeal.nD Cert.TinyRefIdeal.τ).loc Cert.TinyRefIdeal.main_arg0) = m' ((c.tc : Thread Cert.TinyRefIdeal.nD Cert.TinyRefIdeal.τ).loc Cert.TinyRefIdeal.main_arg0)
          ∧ r.2.mem ((c.tc : Thread Cert.TinyRefIdeal.nD Cert.TinyRefIdeal.τ).loc Cert.TinyRefIdeal.main_arg1) = m' ((c.tc : Thread Cert.TinyRefIdeal.nD Cert.TinyRefIdeal.τ).loc Cert.TinyRefIdeal.main_arg1)
          ∧ r.2.mem ((c.tc : Thread Cert.TinyRefIdeal.nD Cert.TinyRefIdeal.τ).loc Cert.TinyRefIdeal.main_arg2) = m' ((c.tc : Thread Cert.TinyRefIdeal.nD Cert.TinyRefIdeal.τ).loc Cert.TinyRefIdeal.main_arg2)
          ∧ r.2.mem ((c.tc : Thread Cert.TinyRefIdeal.nD Cert.TinyRefIdeal.τ).loc Cert.TinyRefIdeal.main_arg3) = m' ((c.tc : Thread Cert.TinyRefIdeal.nD Cert.TinyRefIdeal.τ).loc Cert.TinyRefIdeal.main_arg3)
          ∧ r.2.mem ((c.tc : Thread Cert.TinyRefIdeal.nD Cert.TinyRefIdeal.τ).loc Cert.TinyRefIdeal.main_arg4) = m' ((c.tc : Thread Cert.TinyRefIdeal.nD Cert.TinyRefIdeal.τ).loc Cert.TinyRefIdeal.main_arg4)
          ∧ r.2.mem ((c.tc : Thread Cert.TinyRefIdeal.nD Cert.TinyRefIdeal.τ).loc Cert.TinyRefIdeal.main_arg5) = m' ((c.tc : Thread Cert.TinyRefIdeal.nD Cert.TinyRefIdeal.τ).loc Cert.TinyRefIdeal.main_arg5)
          ∧ r.2.mem ((c.tc : Thread Cert.TinyRefIdeal.nD Cert.TinyRefIdeal.τ).loc Cert.TinyRefIdeal.main_arg6) = m' ((c.tc : Thread Cert.TinyRefIdeal.nD Cert.TinyRefIdeal.τ).loc Cert.TinyRefIdeal.main_arg6)
          ∧ r.2.mem ((c.tc : Thread Cert.TinyRefIdeal.nD Cert.TinyRefIdeal.τ).loc Cert.TinyRefIdeal.main_arg7) = m' ((c.tc : Thread Cert.TinyRefIdeal.nD Cert.TinyRefIdeal.τ).loc Cert.TinyRefIdeal.main_arg7)
          ∧ r.2.mem ((c.tc : Thread Cert.TinyRefIdeal.nD Cert.TinyRefIdeal.τ).loc Cert.TinyRefIdeal.main_arg8) = m' ((c.tc : Thread Cert.TinyRefIdeal.nD Cert.TinyRefIdeal.τ).loc Cert.TinyRefIdeal.main_arg8)
          ∧ r.2.mem ((c.tc : Thread Cert.TinyRefIdeal.nD Cert.TinyRefIdeal.τ).loc Cert.TinyRefIdeal.main_arg9) = m' ((c.tc : Thread Cert.TinyRefIdeal.nD Cert.TinyRefIdeal.τ).loc Cert.TinyRefIdeal.main_arg9)
          ∧ r.2.mem ((c.tc : Thread Cert.TinyRefIdeal.nD Cert.TinyRefIdeal.τ).loc Cert.TinyRefIdeal.main_arg10) = m' ((c.tc : Thread Cert.TinyRefIdeal.nD Cert.TinyRefIdeal.τ).loc Cert.TinyRefIdeal.main_arg10)
          ∧ r.2.mem ((c.tc : Thread Cert.TinyRefIdeal.nD Cert.TinyRefIdeal.τ).loc Cert.TinyRefIdeal.main_arg11) = m' ((c.tc : Thread Cert.TinyRefIdeal.nD Cert.TinyRefIdeal.τ).loc Cert.TinyRefIdeal.main_arg11)
          ∧ r.2.mem ((c.tc : Thread Cert.TinyRefIdeal.nD Cert.TinyRefIdeal.τ).loc Cert.TinyRefIdeal.main_arg12) = m' ((c.tc : Thread Cert.TinyRefIdeal.nD Cert.TinyRefIdeal.τ).loc Cert.TinyRefIdeal.main_arg12)
          ∧ r.2.mem ((c.tc : Thread Cert.TinyRefIdeal.nD Cert.TinyRefIdeal.τ).loc Cert.TinyRefIdeal.main_arg13) = m' ((c.tc : Thread Cert.TinyRefIdeal.nD Cert.TinyRefIdeal.τ).loc Cert.TinyRefIdeal.main_arg13)
          ∧ r.2.mem ((c.tc : Thread Cert.TinyRefIdeal.nD Cert.TinyRefIdeal.τ).loc Cert.TinyRefIdeal.main_arg14) = m' ((c.tc : Thread Cert.TinyRefIdeal.nD Cert.TinyRefIdeal.τ).loc Cert.TinyRefIdeal.main_arg14)
          ∧ r.2.mem ((c.tc : Thread Cert.TinyRefIdeal.nD Cert.TinyRefIdeal.τ).loc Cert.TinyRefIdeal.main_arg15) = m' ((c.tc : Thread Cert.TinyRefIdeal.nD Cert.TinyRefIdeal.τ).loc Cert.TinyRefIdeal.main_arg15))

def Claim : Prop :=
  ∃ (hRelu2 : Cert.Relu2.Facts) (hRelu2Ideal : Cert.Relu2Ideal.Facts) (hRelu2RefIdeal : Cert.Relu2RefIdeal.Facts) (hGates : Cert.Gates.Facts) (hGatesIdeal : Cert.GatesIdeal.Facts) (hGatesRefIdeal : Cert.GatesRefIdeal.Facts) (hLoss : Cert.Loss.Facts) (hLossIdeal : Cert.LossIdeal.Facts) (hLossRefIdeal : Cert.LossRefIdeal.Facts) (hNorm2 : Cert.Norm2.Facts) (hNorm2Ideal : Cert.Norm2Ideal.Facts) (hNorm2RefIdeal : Cert.Norm2RefIdeal.Facts) (hNorm1 : Cert.Norm1.Facts) (hNorm1Ideal : Cert.Norm1Ideal.Facts) (hNorm1RefIdeal : Cert.Norm1RefIdeal.Facts) (hAttnOut : Cert.AttnOut.Facts) (hAttnOutIdeal : Cert.AttnOutIdeal.Facts) (hAttnOutRefIdeal : Cert.AttnOutRefIdeal.Facts) (hForget : Cert.Forget.Facts) (hForgetIdeal : Cert.ForgetIdeal.Facts) (hForgetRefIdeal : Cert.ForgetRefIdeal.Facts) (hSgu : Cert.Sgu.Facts) (hSguIdeal : Cert.SguIdeal.Facts) (hSguRefIdeal : Cert.SguRefIdeal.Facts) (hAct : Cert.Act.Facts) (hActIdeal : Cert.ActIdeal.Facts) (hActRefIdeal : Cert.ActRefIdeal.Facts) (hMerge : Cert.Merge.Facts) (hMergeIdeal : Cert.MergeIdeal.Facts) (hMergeRefIdeal : Cert.MergeRefIdeal.Facts) (hResid : Cert.Resid.Facts) (hResidIdeal : Cert.ResidIdeal.Facts) (hResidRefIdeal : Cert.ResidRefIdeal.Facts) (hRms : Cert.Rms.Facts) (hRmsIdeal : Cert.RmsIdeal.Facts) (hRmsRefIdeal : Cert.RmsRefIdeal.Facts) (hCum : Cert.Cum.Facts) (hCumIdeal : Cert.CumIdeal.Facts) (hCumRefIdeal : Cert.CumRefIdeal.Facts) (hMix : Cert.Mix.Facts) (hMixIdeal : Cert.MixIdeal.Facts) (hMixRefIdeal : Cert.MixRefIdeal.Facts) (hGw : Cert.Gw.Facts) (hGwIdeal : Cert.GwIdeal.Facts) (hGwRefIdeal : Cert.GwRefIdeal.Facts) (hRest : Cert.Rest.Facts) (hRestIdeal : Cert.RestIdeal.Facts) (hRestRefIdeal : Cert.RestRefIdeal.Facts) (hAdam : Cert.Adam.Facts) (hAdamIdeal : Cert.AdamIdeal.Facts) (hAdamRefIdeal : Cert.AdamRefIdeal.Facts) (hTiny : Cert.Tiny.Facts) (hTinyIdeal : Cert.TinyIdeal.Facts) (hTinyRefIdeal : Cert.TinyRefIdeal.Facts) (hPre_finite_loss : Cert.Pre_finite_loss.Facts) (hPre_finite_norm2 : Cert.Pre_finite_norm2.Facts) (hPre_finite_norm1 : Cert.Pre_finite_norm1.Facts) (hPre_finite_attnout : Cert.Pre_finite_attnout.Facts) (hPre_finite_forget : Cert.Pre_finite_forget.Facts) (hPre_finite_sgu : Cert.Pre_finite_sgu.Facts) (hPre_finite_cum : Cert.Pre_finite_cum.Facts),
    quiescent_Relu2 (hRelu2 := hRelu2)
    ∧ quiescent_Relu2Ideal (hRelu2Ideal := hRelu2Ideal)
    ∧ quiescent_Relu2RefIdeal (hRelu2RefIdeal := hRelu2RefIdeal)
    ∧ quiescent_Gates (hGates := hGates)
    ∧ quiescent_GatesIdeal (hGatesIdeal := hGatesIdeal)
    ∧ quiescent_GatesRefIdeal (hGatesRefIdeal := hGatesRefIdeal)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_Norm2 (hNorm2 := hNorm2)
    ∧ quiescent_Norm2Ideal (hNorm2Ideal := hNorm2Ideal)
    ∧ quiescent_Norm2Ideal_pre_finite_norm2 (hNorm2Ideal := hNorm2Ideal) (hPre_finite_norm2 := hPre_finite_norm2)
    ∧ quiescent_Norm2RefIdeal (hNorm2RefIdeal := hNorm2RefIdeal)
    ∧ quiescent_Norm2RefIdeal_pre_finite_norm2 (hNorm2RefIdeal := hNorm2RefIdeal) (hPre_finite_norm2 := hPre_finite_norm2)
    ∧ quiescent_Norm1 (hNorm1 := hNorm1)
    ∧ quiescent_Norm1Ideal (hNorm1Ideal := hNorm1Ideal)
    ∧ quiescent_Norm1Ideal_pre_finite_norm1 (hNorm1Ideal := hNorm1Ideal) (hPre_finite_norm1 := hPre_finite_norm1)
    ∧ quiescent_Norm1RefIdeal (hNorm1RefIdeal := hNorm1RefIdeal)
    ∧ quiescent_Norm1RefIdeal_pre_finite_norm1 (hNorm1RefIdeal := hNorm1RefIdeal) (hPre_finite_norm1 := hPre_finite_norm1)
    ∧ quiescent_AttnOut (hAttnOut := hAttnOut)
    ∧ quiescent_AttnOutIdeal (hAttnOutIdeal := hAttnOutIdeal)
    ∧ quiescent_AttnOutIdeal_pre_finite_attnout (hAttnOutIdeal := hAttnOutIdeal) (hPre_finite_attnout := hPre_finite_attnout)
    ∧ quiescent_AttnOutRefIdeal (hAttnOutRefIdeal := hAttnOutRefIdeal)
    ∧ quiescent_AttnOutRefIdeal_pre_finite_attnout (hAttnOutRefIdeal := hAttnOutRefIdeal) (hPre_finite_attnout := hPre_finite_attnout)
    ∧ quiescent_Forget (hForget := hForget)
    ∧ quiescent_ForgetIdeal (hForgetIdeal := hForgetIdeal)
    ∧ quiescent_ForgetIdeal_pre_finite_forget (hForgetIdeal := hForgetIdeal) (hPre_finite_forget := hPre_finite_forget)
    ∧ quiescent_ForgetRefIdeal (hForgetRefIdeal := hForgetRefIdeal)
    ∧ quiescent_ForgetRefIdeal_pre_finite_forget (hForgetRefIdeal := hForgetRefIdeal) (hPre_finite_forget := hPre_finite_forget)
    ∧ quiescent_Sgu (hSgu := hSgu)
    ∧ quiescent_SguIdeal (hSguIdeal := hSguIdeal)
    ∧ quiescent_SguIdeal_pre_finite_sgu (hSguIdeal := hSguIdeal) (hPre_finite_sgu := hPre_finite_sgu)
    ∧ quiescent_SguRefIdeal (hSguRefIdeal := hSguRefIdeal)
    ∧ quiescent_SguRefIdeal_pre_finite_sgu (hSguRefIdeal := hSguRefIdeal) (hPre_finite_sgu := hPre_finite_sgu)
    ∧ quiescent_Act (hAct := hAct)
    ∧ quiescent_ActIdeal (hActIdeal := hActIdeal)
    ∧ quiescent_ActRefIdeal (hActRefIdeal := hActRefIdeal)
    ∧ quiescent_Merge (hMerge := hMerge)
    ∧ quiescent_MergeIdeal (hMergeIdeal := hMergeIdeal)
    ∧ quiescent_MergeRefIdeal (hMergeRefIdeal := hMergeRefIdeal)
    ∧ quiescent_Resid (hResid := hResid)
    ∧ quiescent_ResidIdeal (hResidIdeal := hResidIdeal)
    ∧ quiescent_ResidRefIdeal (hResidRefIdeal := hResidRefIdeal)
    ∧ quiescent_Rms (hRms := hRms)
    ∧ quiescent_RmsIdeal (hRmsIdeal := hRmsIdeal)
    ∧ quiescent_RmsRefIdeal (hRmsRefIdeal := hRmsRefIdeal)
    ∧ quiescent_Cum (hCum := hCum)
    ∧ quiescent_CumIdeal (hCumIdeal := hCumIdeal)
    ∧ quiescent_CumIdeal_pre_finite_cum (hCumIdeal := hCumIdeal) (hPre_finite_cum := hPre_finite_cum)
    ∧ quiescent_CumRefIdeal (hCumRefIdeal := hCumRefIdeal)
    ∧ quiescent_CumRefIdeal_pre_finite_cum (hCumRefIdeal := hCumRefIdeal) (hPre_finite_cum := hPre_finite_cum)
    ∧ quiescent_Mix (hMix := hMix)
    ∧ quiescent_MixIdeal (hMixIdeal := hMixIdeal)
    ∧ quiescent_MixRefIdeal (hMixRefIdeal := hMixRefIdeal)
    ∧ quiescent_Gw (hGw := hGw)
    ∧ quiescent_GwIdeal (hGwIdeal := hGwIdeal)
    ∧ quiescent_GwRefIdeal (hGwRefIdeal := hGwRefIdeal)
    ∧ quiescent_Rest (hRest := hRest)
    ∧ quiescent_RestIdeal (hRestIdeal := hRestIdeal)
    ∧ quiescent_RestRefIdeal (hRestRefIdeal := hRestRefIdeal)
    ∧ quiescent_Adam (hAdam := hAdam)
    ∧ quiescent_AdamIdeal (hAdamIdeal := hAdamIdeal)
    ∧ quiescent_AdamRefIdeal (hAdamRefIdeal := hAdamRefIdeal)
    ∧ quiescent_Tiny (hTiny := hTiny)
    ∧ quiescent_TinyIdeal (hTinyIdeal := hTinyIdeal)
    ∧ quiescent_TinyRefIdeal (hTinyRefIdeal := hTinyRefIdeal)
    ∧ preserves_Relu2_Relu2Ideal
    ∧ algebraic_Relu2Ideal_Relu2RefIdeal (hRelu2Ideal := hRelu2Ideal) (hRelu2RefIdeal := hRelu2RefIdeal)
    ∧ preserves_Gates_GatesIdeal
    ∧ algebraic_GatesIdeal_GatesRefIdeal (hGatesIdeal := hGatesIdeal) (hGatesRefIdeal := hGatesRefIdeal)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_Norm2_Norm2Ideal
    ∧ algebraic_Norm2Ideal_Norm2RefIdeal_pre_finite_norm2 (hNorm2Ideal := hNorm2Ideal) (hNorm2RefIdeal := hNorm2RefIdeal) (hPre_finite_norm2 := hPre_finite_norm2)
    ∧ preserves_Norm1_Norm1Ideal
    ∧ algebraic_Norm1Ideal_Norm1RefIdeal_pre_finite_norm1 (hNorm1Ideal := hNorm1Ideal) (hNorm1RefIdeal := hNorm1RefIdeal) (hPre_finite_norm1 := hPre_finite_norm1)
    ∧ preserves_AttnOut_AttnOutIdeal
    ∧ algebraic_AttnOutIdeal_AttnOutRefIdeal_pre_finite_attnout (hAttnOutIdeal := hAttnOutIdeal) (hAttnOutRefIdeal := hAttnOutRefIdeal) (hPre_finite_attnout := hPre_finite_attnout)
    ∧ preserves_Forget_ForgetIdeal
    ∧ algebraic_ForgetIdeal_ForgetRefIdeal_pre_finite_forget (hForgetIdeal := hForgetIdeal) (hForgetRefIdeal := hForgetRefIdeal) (hPre_finite_forget := hPre_finite_forget)
    ∧ preserves_Sgu_SguIdeal
    ∧ algebraic_SguIdeal_SguRefIdeal_pre_finite_sgu (hSguIdeal := hSguIdeal) (hSguRefIdeal := hSguRefIdeal) (hPre_finite_sgu := hPre_finite_sgu)
    ∧ preserves_Act_ActIdeal
    ∧ algebraic_ActIdeal_ActRefIdeal (hActIdeal := hActIdeal) (hActRefIdeal := hActRefIdeal)
    ∧ preserves_Merge_MergeIdeal
    ∧ algebraic_MergeIdeal_MergeRefIdeal (hMergeIdeal := hMergeIdeal) (hMergeRefIdeal := hMergeRefIdeal)
    ∧ preserves_Resid_ResidIdeal
    ∧ algebraic_ResidIdeal_ResidRefIdeal (hResidIdeal := hResidIdeal) (hResidRefIdeal := hResidRefIdeal)
    ∧ preserves_Rms_RmsIdeal
    ∧ algebraic_RmsIdeal_RmsRefIdeal (hRmsIdeal := hRmsIdeal) (hRmsRefIdeal := hRmsRefIdeal)
    ∧ preserves_Cum_CumIdeal
    ∧ algebraic_CumIdeal_CumRefIdeal_pre_finite_cum (hCumIdeal := hCumIdeal) (hCumRefIdeal := hCumRefIdeal) (hPre_finite_cum := hPre_finite_cum)
    ∧ preserves_Mix_MixIdeal
    ∧ algebraic_MixIdeal_MixRefIdeal (hMixIdeal := hMixIdeal) (hMixRefIdeal := hMixRefIdeal)
    ∧ preserves_Gw_GwIdeal
    ∧ algebraic_GwIdeal_GwRefIdeal (hGwIdeal := hGwIdeal) (hGwRefIdeal := hGwRefIdeal)
    ∧ preserves_Rest_RestIdeal
    ∧ algebraic_RestIdeal_RestRefIdeal (hRestIdeal := hRestIdeal) (hRestRefIdeal := hRestRefIdeal)
    ∧ preserves_Adam_AdamIdeal
    ∧ algebraic_AdamIdeal_AdamRefIdeal (hAdamIdeal := hAdamIdeal) (hAdamRefIdeal := hAdamRefIdeal)
    ∧ preserves_Tiny_TinyIdeal
    ∧ algebraic_TinyIdeal_TinyRefIdeal (hTinyIdeal := hTinyIdeal) (hTinyRefIdeal := hTinyRefIdeal)
-- ==== Pre_finite_attnout.lean ====
abbrev S4096x512 : Shape := ⟨2, ![4096, 512]⟩
abbrev S4096x8 : Shape := ⟨2, ![4096, 8]⟩
abbrev S512x1024 : Shape := ⟨2, ![512, 1024]⟩
abbrev S4096x1024 : Shape := ⟨2, ![4096, 1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x8 : S_.BroadcastsInDim S4096x8 (![] : Fin 0 → Fin S4096x8.rank)
  reducesTo_S4096x8_S_d0_1 : S4096x8.ReducesTo [0, 1] S_
  bcast_S_S512x1024 : S_.BroadcastsInDim S512x1024 (![] : Fin 0 → Fin S512x1024.rank)
  reducesTo_S512x1024_S_d0_1 : S512x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S512x1024 .f32) (main_arg5 : FVec F S4096x1024 .f32) (main_v13 : IVec S_ 1) (main_v16 : IVec S4096x8 1) : IVec S_ 1 :=
  let main_c_5 : IVec S_ 1 := constantI S_ 1 1#1
  let main_v17 : IVec S_ 1 := (fun x v => Host.reduce IntOp.andi x v reducesTo_S4096x8_S_d0_1 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x512 .f32) (main_arg1 : FVec F S4096x512 .f32) (main_arg2 : FVec F S4096x512 .f32) (main_arg3 : FVec F S4096x8 .f32) (main_arg4 : FVec F S512x1024 .f32) (main_arg5 : FVec F S4096x1024 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x8 .f32 := Host.absf main_arg3
  let main_cst_4 : FVec F S_ .f32 := constant S_ .f32 0x7F800000#32
  let main_v15 : FVec F S4096x8 .f32 := broadcastInDim S4096x8 ![] bcast_S_S4096x8 main_cst_4
  let main_v16 : IVec S4096x8 1 := cmpf .olt main_v14 main_v15
  fn_part1 (F := F) main_arg4 main_arg5 main_v13 main_v16
-- ==== Pre_finite_cum.lean ====
abbrev S4096x8 : Shape := ⟨2, ![4096, 8]⟩
abbrev S1x8 : Shape := ⟨2, ![1, 8]⟩
abbrev S_ : Shape := ⟨0, ![]⟩

class Facts : Prop where
  bcast_S_S4096x8 : S_.BroadcastsInDim S4096x8 (![] : Fin 0 → Fin S4096x8.rank)
  reducesTo_S4096x8_S_d0_1 : S4096x8.ReducesTo [0, 1] S_
  h_S_ : 0 < S_.numel
  bcast_S_S1x8 : S_.BroadcastsInDim S1x8 (![] : Fin 0 → Fin S1x8.rank)
  reducesTo_S1x8_S_d0_1 : S1x8.ReducesTo [0, 1] S_

variable [Facts]

def fn {F : FTy → Type} [FloatOps F] (main_arg0 : FVec F S4096x8 .f32) (main_arg1 : FVec F S1x8 .f32) : IVec S_ 1 :=
  let main_v0 : FVec F S4096x8 .f32 := Host.absf main_arg0
  let main_cst : FVec F S_ .f32 := constant S_ .f32 0x7F800000#32
  let main_v1 : FVec F S4096x8 .f32 := broadcastInDim S4096x8 ![] bcast_S_S4096x8 main_cst
  let main_v2 : IVec S4096x8 1 := cmpf .olt main_v0 main_v1
  let main_c : IVec S_ 1 := constantI S_ 1 1#1
  let main_v3 : IVec S_ 1 := (fun x v => Host.reduce IntOp.andi x v reducesTo_S4096x8_S_d0_1 h_S_) main_v2 main_c
  let main_v4 : FVec F S1x8 .f32 := Host.absf main_arg1
  let main_cst_0 : FVec F S_ .f32 := constant S_ .f32 0x7F800000#32
  let main_v5 : FVec F S1x8 .f32 := broadcastInDim S1x8 ![] bcast_S_S1x8 main_cst_0
  let main_v6 : IVec S1x8 1 := cmpf .olt main_v4 main_v5
  let main_c_1 : IVec S_ 1 := constantI S_ 1 1#1
  let main_v7 : IVec S_ 1 := (fun x v => Host.reduce IntOp.andi x v reducesTo_S1x8_S_d0_1 h_S_) main_v6 main_c_1
  let main_v8 : IVec S_ 1 := andi main_v3 main_v7
  main_v8
-- ==== Pre_finite_forget.lean ====
abbrev S4096x8 : Shape := ⟨2, ![4096, 8]⟩
abbrev S1x8 : Shape := ⟨2, ![1, 8]⟩
abbrev S_ : Shape := ⟨0, ![]⟩

class Facts : Prop where
  bcast_S_S4096x8 : S_.BroadcastsInDim S4096x8 (![] : Fin 0 → Fin S4096x8.rank)
  reducesTo_S4096x8_S_d0_1 : S4096x8.ReducesTo [0, 1] S_
  h_S_ : 0 < S_.numel
  bcast_S_S1x8 : S_.BroadcastsInDim S1x8 (![] : Fin 0 → Fin S1x8.rank)
  reducesTo_S1x8_S_d0_1 : S1x8.ReducesTo [0, 1] S_

variable [Facts]

def fn_part1 {F : FTy → Type} [FloatOps F] (main_v13 : IVec S_ 1) (main_v16 : IVec S4096x8 1) : IVec S_ 1 :=
  let main_c_5 : IVec S_ 1 := constantI S_ 1 1#1
  let main_v17 : IVec S_ 1 := (fun x v => Host.reduce IntOp.andi x v reducesTo_S4096x8_S_d0_1 h_S_) main_v16 main_c_5
  let main_v18 : IVec S_ 1 := andi main_v13 main_v17
  main_v18

def fn {F : FTy → Type} [FloatOps F] (main_arg0 : FVec F S4096x8 .f32) (main_arg1 : FVec F S1x8 .f32) (main_arg2 : FVec F S4096x8 .f32) (main_arg3 : FVec F S4096x8 .f32) : IVec S_ 1 :=
  let main_v0 : FVec F S4096x8 .f32 := Host.absf main_arg0
  let main_cst : FVec F S_ .f32 := constant S_ .f32 0x7F800000#32
  let main_v1 : FVec F S4096x8 .f32 := broadcastInDim S4096x8 ![] bcast_S_S4096x8 main_cst
  let main_v2 : IVec S4096x8 1 := cmpf .olt main_v0 main_v1
  let main_c : IVec S_ 1 := constantI S_ 1 1#1
  let main_v3 : IVec S_ 1 := (fun x v => Host.reduce IntOp.andi x v reducesTo_S4096x8_S_d0_1 h_S_) main_v2 main_c
  let main_v4 : FVec F S1x8 .f32 := Host.absf main_arg1
  let main_cst_0 : FVec F S_ .f32 := constant S_ .f32 0x7F800000#32
  let main_v5 : FVec F S1x8 .f32 := broadcastInDim S1x8 ![] bcast_S_S1x8 main_cst_0
  let main_v6 : IVec S1x8 1 := cmpf .olt main_v4 main_v5
  let main_c_1 : IVec S_ 1 := constantI S_ 1 1#1
  let main_v7 : IVec S_ 1 := (fun x v => Host.reduce IntOp.andi x v reducesTo_S1x8_S_d0_1 h_S_) main_v6 main_c_1
  let main_v8 : IVec S_ 1 := andi main_v3 main_v7
  let main_v9 : FVec F S4096x8 .f32 := Host.absf main_arg2
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_c_3 : IVec S_ 1 := constantI S_ 1 1#1
  let main_v12 : IVec S_ 1 := (fun x v => Host.reduce IntOp.andi x v reducesTo_S4096x8_S_d0_1 h_S_) main_v11 main_c_3
  let main_v13 : IVec S_ 1 := andi main_v8 main_v12
  let main_v14 : FVec F S4096x8 .f32 := Host.absf main_arg3
  let main_cst_4 : FVec F S_ .f32 := constant S_ .f32 0x7F800000#32
  let main_v15 : FVec F S4096x8 .f32 := broadcastInDim S4096x8 ![] bcast_S_S4096x8 main_cst_4
  let main_v16 : IVec S4096x8 1 := cmpf .olt main_v14 main_v15
  fn_part1 (F := F) main_v13 main_v16
-- ==== Pre_finite_loss.lean ====
abbrev S4096x4096 : Shape := ⟨2, ![4096, 4096]⟩
abbrev S4096x1024 : Shape := ⟨2, ![4096, 1024]⟩
abbrev S1024 : Shape := ⟨1, ![1024]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S4096x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x4096 .f32) (main_arg1 : FVec F S4096x1024 .f32) (main_arg2 : FVec F S4096x1024 .f32) (main_arg3 : FVec F S1024 .f32) (main_arg4 : FVec F S4096x1024 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Pre_finite_norm1.lean ====
abbrev S1x4096x1024 : Shape := ⟨3, ![1, 4096, 1024]⟩
abbrev S1x1024 : Shape := ⟨2, ![1, 1024]⟩
abbrev S1x1024x4616 : Shape := ⟨3, ![1, 1024, 4616]⟩
abbrev S4096x4616 : Shape := ⟨2, ![4096, 4616]⟩
abbrev S4096x1024 : Shape := ⟨2, ![4096, 1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x4616 : S_.BroadcastsInDim S1x1024x4616 (![] : Fin 0 → Fin S1x1024x4616.rank)
  reducesTo_S1x1024x4616_S_d0_1_2 : S1x1024x4616.ReducesTo [0, 1, 2] S_
  bcast_S_S4096x4616 : S_.BroadcastsInDim S4096x4616 (![] : Fin 0 → Fin S4096x4616.rank)
  reducesTo_S4096x4616_S_d0_1 : S4096x4616.ReducesTo [0, 1] S_

variable [Facts]

def fn_part1 {F : FTy → Type} [FloatOps F] (main_v13 : IVec S_ 1) (main_v16 : IVec S4096x4616 1) : IVec S_ 1 :=
  let main_c_5 : IVec S_ 1 := constantI S_ 1 1#1
  let main_v17 : IVec S_ 1 := (fun x v => Host.reduce IntOp.andi x v reducesTo_S4096x4616_S_d0_1 h_S_) main_v16 main_c_5
  let main_v18 : IVec S_ 1 := andi main_v13 main_v17
  main_v18

def fn {F : FTy → Type} [FloatOps F] (main_arg0 : FVec F S1x4096x1024 .f32) (main_arg1 : FVec F S1x1024 .f32) (main_arg2 : FVec F S1x1024x4616 .f32) (main_arg3 : FVec F S4096x4616 .f32) (main_arg4 : FVec F S4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x4616 .f32 := Host.absf main_arg2
  let main_cst_2 : FVec F S_ .f32 := constant S_ .f32 0x7F800000#32
  let main_v10 : FVec F S1x1024x4616 .f32 := broadcastInDim S1x1024x4616 ![] bcast_S_S1x1024x4616 main_cst_2
  let main_v11 : IVec S1x1024x4616 1 := cmpf .olt main_v9 main_v10
  let main_c_3 : IVec S_ 1 := constantI S_ 1 1#1
  let main_v12 : IVec S_ 1 := (fun x v => Host.reduce IntOp.andi x v reducesTo_S1x1024x4616_S_d0_1_2 h_S_) main_v11 main_c_3
  let main_v13 : IVec S_ 1 := andi main_v8 main_v12
  let main_v14 : FVec F S4096x4616 .f32 := Host.absf main_arg3
  let main_cst_4 : FVec F S_ .f32 := constant S_ .f32 0x7F800000#32
  let main_v15 : FVec F S4096x4616 .f32 := broadcastInDim S4096x4616 ![] bcast_S_S4096x4616 main_cst_4
  let main_v16 : IVec S4096x4616 1 := cmpf .olt main_v14 main_v15
  fn_part1 (F := F) main_v13 main_v16
-- ==== Pre_finite_norm2.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S4096x1024 .f32) (main_arg1 : FVec F S1x1024 .f32) (main_arg2 : FVec F S1024x4096 .f32) (main_arg3 : FVec F S4096x4096 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Pre_finite_sgu.lean ====
abbrev S4096x4616 : Shape := ⟨2, ![4096, 4616]⟩
abbrev S1x512 : Shape := ⟨2, ![1, 512]⟩
abbrev S1x8x128x128 : Shape := ⟨4, ![1, 8, 128, 128]⟩
abbrev S1x8x128 : Shape := ⟨3, ![1, 8, 128]⟩
abbrev S1x512x1024 : Shape := ⟨3, ![1, 512, 1024]⟩
abbrev S4096x1024 : Shape := ⟨2, ![4096, 1024]⟩
abbrev S_ : Shape := ⟨0, ![]⟩

class Facts : Prop where
  bcast_S_S4096x4616 : S_.BroadcastsInDim S4096x4616 (![] : Fin 0 → Fin S4096x4616.rank)
  reducesTo_S4096x4616_S_d0_1 : S4096x4616.ReducesTo [0, 1] S_
  h_S_ : 0 < S_.numel
  bcast_S_S1x512 : S_.BroadcastsInDim S1x512 (![] : Fin 0 → Fin S1x512.rank)
  reducesTo_S1x512_S_d0_1 : S1x512.ReducesTo [0, 1] S_
  bcast_S_S1x8x128x128 : S_.BroadcastsInDim S1x8x128x128 (![] : Fin 0 → Fin S1x8x128x128.rank)
  reducesTo_S1x8x128x128_S_d0_1_2_3 : S1x8x128x128.ReducesTo [0, 1, 2, 3] S_
  bcast_S_S1x8x128 : S_.BroadcastsInDim S1x8x128 (![] : Fin 0 → Fin S1x8x128.rank)
  reducesTo_S1x8x128_S_d0_1_2 : S1x8x128.ReducesTo [0, 1, 2] S_
  bcast_S_S1x512x1024 : S_.BroadcastsInDim S1x512x1024 (![] : Fin 0 → Fin S1x512x1024.rank)
  reducesTo_S1x512x1024_S_d0_1_2 : S1x512x1024.ReducesTo [0, 1, 2] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S1x8x128 .f32) (main_arg5 : FVec F S1x512x1024 .f32) (main_arg6 : FVec F S4096x1024 .f32) (main_v13 : IVec S_ 1) (main_v16 : IVec S1x8x128x128 1) : IVec S_ 1 :=
  let main_c_5 : IVec S_ 1 := constantI S_ 1 1#1
  let main_v17 : IVec S_ 1 := (fun x v => Host.reduce IntOp.andi x v reducesTo_S1x8x128x128_S_d0_1_2_3 h_S_) main_v16 main_c_5
  let main_v18 : IVec S_ 1 := andi main_v13 main_v17
  let main_v19 : FVec F S1x8x128 .f32 := Host.absf main_arg4
  let main_cst_6 : FVec F S_ .f32 := constant S_ .f32 0x7F800000#32
  let main_v20 : FVec F S1x8x128 .f32 := broadcastInDim S1x8x128 ![] bcast_S_S1x8x128 main_cst_6
  let main_v21 : IVec S1x8x128 1 := cmpf .olt main_v19 main_v20
  let main_c_7 : IVec S_ 1 := constantI S_ 1 1#1
  let main_v22 : IVec S_ 1 := (fun x v => Host.reduce IntOp.andi x v reducesTo_S1x8x128_S_d0_1_2 h_S_) main_v21 main_c_7
  let main_v23 : IVec S_ 1 := andi main_v18 main_v22
  let main_v24 : FVec F S1x512x1024 .f32 := Host.absf main_arg5
  let main_cst_8 : FVec F S_ .f32 := constant S_ .f32 0x7F800000#32
  let main_v25 : FVec F S1x512x1024 .f32 := broadcastInDim S1x512x1024 ![] bcast_S_S1x512x1024 main_cst_8
  let main_v26 : IVec S1x512x1024 1 := cmpf .olt main_v24 main_v25
  let main_c_9 : IVec S_ 1 := constantI S_ 1 1#1
  let main_v27 : IVec S_ 1 := (fun x v => Host.reduce IntOp.andi x v reducesTo_S1x512x1024_S_d0_1_2 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  main_v33

def fn {F : FTy → Type} [FloatOps F] (main_arg0 : FVec F S4096x4616 .f32) (main_arg1 : FVec F S1x512 .f32) (main_arg2 : FVec F S1x512 .f32) (main_arg3 : FVec F S1x8x128x128 .f32) (main_arg4 : FVec F S1x8x128 .f32) (main_arg5 : FVec F S1x512x1024 .f32) (main_arg6 : FVec F S4096x1024 .f32) : IVec S_ 1 :=
  let main_v0 : FVec F S4096x4616 .f32 := Host.absf main_arg0
  let main_cst : FVec F S_ .f32 := constant S_ .f32 0x7F800000#32
  let main_v1 : FVec F S4096x4616 .f32 := broadcastInDim S4096x4616 ![] bcast_S_S4096x4616 main_cst
  let main_v2 : IVec S4096x4616 1 := cmpf .olt main_v0 main_v1
  let main_c : IVec S_ 1 := constantI S_ 1 1#1
  let main_v3 : IVec S_ 1 := (fun x v => Host.reduce IntOp.andi x v reducesTo_S4096x4616_S_d0_1 h_S_) main_v2 main_c
  let main_v4 : FVec F S1x512 .f32 := Host.absf main_arg1
  let main_cst_0 : FVec F S_ .f32 := constant S_ .f32 0x7F800000#32
  let main_v5 : FVec F S1x512 .f32 := broadcastInDim S1x512 ![] bcast_S_S1x512 main_cst_0
  let main_v6 : IVec S1x512 1 := cmpf .olt main_v4 main_v5
  let main_c_1 : IVec S_ 1 := constantI S_ 1 1#1
  let main_v7 : IVec S_ 1 := (fun x v => Host.reduce IntOp.andi x v reducesTo_S1x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S1x8x128x128 .f32 := Host.absf main_arg3
  let main_cst_4 : FVec F S_ .f32 := constant S_ .f32 0x7F800000#32
  let main_v15 : FVec F S1x8x128x128 .f32 := broadcastInDim S1x8x128x128 ![] bcast_S_S1x8x128x128 main_cst_4
  let main_v16 : IVec S1x8x128x128 1 := cmpf .olt main_v14 main_v15
  fn_part1 (F := F) main_arg4 main_arg5 main_arg6 main_v13 main_v16
-- ==== Relu2.lean ====
abbrev S4096x4096 : Shape := ⟨2, ![4096, 4096]⟩
abbrev S4096x1024 : Shape := ⟨2, ![4096, 1024]⟩
abbrev S_ : Shape := ⟨0, ![]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x1024, .bf16⟩
  | .hbm, ⟨9, _⟩ => ⟨S4096x1024, .bf16⟩
  | .hbm, ⟨10, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Relu2RefIdeal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Gates.lean ====
abbrev S4096x2048 : Shape := ⟨2, ![4096, 2048]⟩
abbrev S4096x1024 : Shape := ⟨2, ![4096, 1024]⟩
abbrev S1024x1024 : Shape := ⟨2, ![1024, 1024]⟩
abbrev S_ : Shape := ⟨0, ![]⟩
abbrev S4096x3200 : Shape := ⟨2, ![4096, 3200]⟩
abbrev S2048x4096 : Shape := ⟨2, ![2048, 4096]⟩
abbrev S512x1024 : Shape := ⟨2, ![512, 1024]⟩
abbrev S2048x512 : Shape := ⟨2, ![2048, 512]⟩
abbrev S1024x512 : Shape := ⟨2, ![1024, 512]⟩

abbrev nBuf : Space → Nat
  | .hbm => 17
  | .vmem => 21
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S_, .i32⟩
  | .hbm, ⟨6, _⟩ => ⟨S_, .f32⟩
  | .hbm, ⟨7, _⟩ => ⟨S4096x3200, .f32⟩
  | .hbm, ⟨8, _⟩ => ⟨S4096x3200, .bf16⟩
  | .hbm, ⟨9, _⟩ => ⟨S4096x1024, .bf16⟩
  | .hbm, ⟨10, _⟩ => ⟨S4096x1024, .bf16⟩
  | .hbm, ⟨11, _⟩ => ⟨S1024x1024, .bf16⟩
  | .hbm, ⟨12, _⟩ => ⟨S4096x1024, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S2048x4096, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S2048x512, .bf16⟩
  | .local _ .vmem, ⟨20, _⟩ => ⟨S2048x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== GatesRefIdeal.lean ====
abbrev S4096x2048 : Shape := ⟨2, ![4096, 2048]⟩
abbrev S4096x1024 : Shape := ⟨2, ![4096, 1024]⟩
abbrev S1024x1024 : Shape := ⟨2, ![1024, 1024]⟩
abbrev S_ : Shape := ⟨0, ![]⟩
abbrev S2048x4096 : Shape := ⟨2, ![2048, 4096]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x2048, .f32⟩
  | .hbm, ⟨43, _⟩ => ⟨S4096x2048, .bf16⟩
  | .hbm, ⟨44, _⟩ => ⟨S4096x1024, .bf16⟩
  | .hbm, ⟨45, _⟩ => ⟨S4096x1024, .bf16⟩
  | .hbm, ⟨46, _⟩ => ⟨S4096x1024, .bf16⟩
  | .hbm, ⟨47, _⟩ => ⟨S4096x1024, .bf16⟩
  | .hbm, ⟨48, _⟩ => ⟨S2048x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Loss.lean ====
abbrev S4096x4096 : Shape := ⟨2, ![4096, 4096]⟩
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 12
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x4096, .bf16⟩
  | .hbm, ⟨6, _⟩ => ⟨S4096x1024, .bf16⟩
  | .hbm, ⟨7, _⟩ => ⟨S1x1024, .f32⟩
  | .hbm, ⟨8, _⟩ => ⟨S4096x1024, .f32⟩
  | .hbm, ⟨9, _⟩ => ⟨S1x1024, .f32⟩
  | .hbm, ⟨10, _⟩ => ⟨S1x128, .f32⟩
  | .hbm, ⟨11, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x128, .f32⟩
  | .local _ .vmem, ⟨12, _⟩ => ⟨S512x1024, .bf16⟩
  | .local _ .vmem, ⟨13, _⟩ => ⟨S512x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let arg1 : BitVec 32 := BitVec.ofNat 32 (i 1).val
  let c0_i32_18 : BitVec 32 := 0#32
  let v42 : BitVec 1 := Scalar.cmpi .eq arg1 c0_i32_18
  let v43 : BitVec 1 := Scalar.andi v41 v42
  let v44 : BitVec 32 := Scalar.extui v43
  let c0_i32_19 : BitVec 32 := 0#32
  let v45 : BitVec 1 := Scalar.cmpi .ne v44 c0_i32_19
  v45

def k0_cond2 (i : grid0.Coords) : BitVec 1 :=
  let arg0 : BitVec 32 := BitVec.ofNat 32 (i 0).val
  let c0_i32_20 : BitVec 32 := 0#32
  let v46 : BitVec 1 := Scalar.cmpi .eq arg0 c0_i32_20
  let arg1 : BitVec 32 := BitVec.ofNat 32 (i 1).val
  let c0_i32_21 : BitVec 32 := 0#32
  let v47 : BitVec 1 := Scalar.cmpi .eq arg1 c0_i32_21
  let v48 : BitVec 1 := Scalar.andi v46 v47
  let v_true : BitVec 1 := 1#1
  let v49 : BitVec 1 := Scalar.xori v48 v_true
  let v50 : BitVec 32 := Scalar.extui v49
  let c0_i32_22 : BitVec 32 := 0#32
  let v51 : BitVec 1 := Scalar.cmpi .ne v50 c0_i32_22
  v51

def k0_cond3 (i : grid0.Coords) : BitVec 1 :=
  let arg0 : BitVec 32 := BitVec.ofNat 32 (i 0).val
  let c0_i32_27 : BitVec 32 := 0#32
  let v63 : BitVec 1 := Scalar.cmpi .eq arg0 c0_i32_27
  let arg1 : BitVec 32 := BitVec.ofNat 32 (i 1).val
  let c0_i32_28 : BitVec 32 := 0#32
  let v64 : BitVec 1 := Scalar.cmpi .eq arg1 c0_i32_28
  let v65 : BitVec 1 := Scalar.andi v63 v64
  let v66 : BitVec 32 := Scalar.extui v65
  let c0_i32_29 : BitVec 32 := 0#32
  let v67 : BitVec 1 := Scalar.cmpi .ne v66 c0_i32_29
  v67

def k0_cond4 (i : grid0.Coords) : BitVec 1 :=
  let arg0 : BitVec 32 := BitVec.ofNat 32 (i 0).val
  let c0_i32_30 : BitVec 32 := 0#32
  let v68 : BitVec 1 := Scalar.cmpi .eq arg0 c0_i32_30
  let arg1 : BitVec 32 := BitVec.ofNat 32 (i 1).val
  let c0_i32_31 : BitVec 32 := 0#32
  let v69 : BitVec 1 := Scalar.cmpi .eq arg1 c0_i32_31
  let v70 : BitVec 1 := Scalar.andi v68 v69
  let true_32 : BitVec 1 := 1#1
  let v71 : BitVec 1 := Scalar.xori v70 true_32
  let v72 : BitVec 32 := Scalar.extui v71
  let c0_i32_33 : BitVec 32 := 0#32
  let v73 : BitVec 1 := Scalar.cmpi .ne v72 c0_i32_33
  v73

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== LossRefIdeal.lean ====
abbrev S4096x4096 : Shape := ⟨2, ![4096, 4096]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S1x1024, .f32⟩
  | .hbm, ⟨76, _⟩ => ⟨S1x128, .f32⟩
  | .hbm, ⟨77, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Norm2.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S512x4096 : Shape := ⟨2, ![512, 4096]⟩
abbrev S512x1024 : Shape := ⟨2, ![512, 1024]⟩
abbrev S512x1 : Shape := ⟨2, ![512, 1]⟩
abbrev S512 : Shape := ⟨1, ![512]⟩
abbrev S1024 : Shape := ⟨1, ![1024]⟩

abbrev nBuf : Space → Nat
  | .hbm => 21
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x4096, .bf16⟩
  | .hbm, ⟨17, _⟩ => ⟨S4096x1024, .f32⟩
  | .hbm, ⟨18, _⟩ => ⟨S4096x1024, .bf16⟩
  | .hbm, ⟨19, _⟩ => ⟨S4096x1024, .f32⟩
  | .hbm, ⟨20, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1, .f32⟩
  | .local _ .vmem, ⟨6, _⟩ => ⟨S512x1, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg0 : BitVec 32 := BitVec.ofNat 32 (i 0).val
  let c0_i32 : BitVec 32 := 0#32
  let v29 : BitVec 1 := Scalar.cmpi .eq arg0 c0_i32
  let arg1 : BitVec 32 := BitVec.ofNat 32 (i 1).val
  let c0_i32_16 : BitVec 32 := 0#32
  let v30 : BitVec 1 := Scalar.cmpi .eq arg1 c0_i32_16
  let v31 : BitVec 1 := Scalar.andi v29 v30
  let v32 : BitVec 32 := Scalar.extui v31
  let c0_i32_17 : BitVec 32 := 0#32
  let v33 : BitVec 1 := Scalar.cmpi .ne v32 c0_i32_17
  v33

def k0_cond2 (i : grid0.Coords) : BitVec 1 :=
  let arg0 : BitVec 32 := BitVec.ofNat 32 (i 0).val
  let c0_i32_18 : BitVec 32 := 0#32
  let v34 : BitVec 1 := Scalar.cmpi .eq arg0 c0_i32_18
  let arg1 : BitVec 32 := BitVec.ofNat 32 (i 1).val
  let c0_i32_19 : BitVec 32 := 0#32
  let v35 : BitVec 1 := Scalar.cmpi .eq arg1 c0_i32_19
  let v36 : BitVec 1 := Scalar.andi v34 v35
  let v_true : BitVec 1 := 1#1
  let v37 : BitVec 1 := Scalar.xori v36 v_true
  let v38 : BitVec 32 := Scalar.extui v37
  let c0_i32_20 : BitVec 32 := 0#32
  let v39 : BitVec 1 := Scalar.cmpi .ne v38 c0_i32_20
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Norm2RefIdeal.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x4096, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Norm1.lean ====
abbrev S1x4096x1024 : Shape := ⟨3, ![1, 4096, 1024]⟩
abbrev S1x1024 : Shape := ⟨2, ![1, 1024]⟩
abbrev S1x1024x4616 : Shape := ⟨3, ![1, 1024, 4616]⟩
abbrev S4096x4616 : Shape := ⟨2, ![4096, 4616]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1024x4616 : Shape := ⟨2, ![1024, 4616]⟩
abbrev S4616x1024 : Shape := ⟨2, ![4616, 1024]⟩
abbrev S1536x1024 : Shape := ⟨2, ![1536, 1024]⟩
abbrev S3072x1024 : Shape := ⟨2, ![3072, 1024]⟩
abbrev S8x1024 : Shape := ⟨2, ![8, 1024]⟩
abbrev S128x1024 : Shape := ⟨2, ![128, 1024]⟩
abbrev S3200x1024 : Shape := ⟨2, ![3200, 1024]⟩
abbrev S4096x512 : Shape := ⟨2, ![4096, 512]⟩
abbrev S4096x8 : Shape := ⟨2, ![4096, 8]⟩
abbrev S4096x128 : Shape := ⟨2, ![4096, 128]⟩
abbrev S512x512 : Shape := ⟨2, ![512, 512]⟩
abbrev S512x1024 : Shape := ⟨2, ![512, 1024]⟩
abbrev S512x128 : Shape := ⟨2, ![512, 128]⟩
abbrev S512x1 : Shape := ⟨2, ![512, 1]⟩
abbrev S1024x1024 : Shape := ⟨2, ![1024, 1024]⟩
abbrev S512 : Shape := ⟨1, ![512]⟩
abbrev S1024 : Shape := ⟨1, ![1024]⟩

abbrev nBuf : Space → Nat
  | .hbm => 41
  | .vmem => 28
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x4616, .f32⟩
  | .hbm, ⟨3, _⟩ => ⟨S4096x4616, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S1024x4616, .f32⟩
  | .hbm, ⟨18, _⟩ => ⟨S4616x1024, .f32⟩
  | .hbm, ⟨19, _⟩ => ⟨S4616x1024, .bf16⟩
  | .hbm, ⟨20, _⟩ => ⟨S1536x1024, .bf16⟩
  | .hbm, ⟨21, _⟩ => ⟨S3072x1024, .bf16⟩
  | .hbm, ⟨22, _⟩ => ⟨S8x1024, .bf16⟩
  | .hbm, ⟨23, _⟩ => ⟨S_, .i32⟩
  | .hbm, ⟨24, _⟩ => ⟨S_, .bf16⟩
  | .hbm, ⟨25, _⟩ => ⟨S128x1024, .bf16⟩
  | .hbm, ⟨26, _⟩ => ⟨S3200x1024, .bf16⟩
  | .hbm, ⟨27, _⟩ => ⟨S4096x4616, .bf16⟩
  | .hbm, ⟨28, _⟩ => ⟨S4096x512, .bf16⟩
  | .hbm, ⟨29, _⟩ => ⟨S4096x512, .bf16⟩
  | .hbm, ⟨30, _⟩ => ⟨S4096x512, .bf16⟩
  | .hbm, ⟨31, _⟩ => ⟨S4096x8, .bf16⟩
  | .hbm, ⟨32, _⟩ => ⟨S_, .i32⟩
  | .hbm, ⟨33, _⟩ => ⟨S_, .bf16⟩
  | .hbm, ⟨34, _⟩ => ⟨S4096x128, .bf16⟩
  | .hbm, ⟨35, _⟩ => ⟨S4096x512, .bf16⟩
  | .hbm, ⟨36, _⟩ => ⟨S4096x512, .bf16⟩
  | .hbm, ⟨37, _⟩ => ⟨S4096x1024, .bf16⟩
  | .hbm, ⟨38, _⟩ => ⟨S4096x1024, .bf16⟩
  | .hbm, ⟨39, _⟩ => ⟨S4096x1024, .f32⟩
  | .hbm, ⟨40, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x128, .bf16⟩
  | .local _ .vmem, ⟨15, _⟩ => ⟨S512x128, .bf16⟩
  | .local _ .vmem, ⟨16, _⟩ => ⟨S1536x1024, .bf16⟩
  | .local _ .vmem, ⟨17, _⟩ => ⟨S3200x1024, .bf16⟩
  | .local _ .vmem, ⟨18, _⟩ => ⟨S512x1024, .f32⟩
  | .local _ .vmem, ⟨19, _⟩ => ⟨S512x1024, .f32⟩
  | .local _ .vmem, ⟨20, _⟩ => ⟨S512x1, .f32⟩
  | .local _ .vmem, ⟨21, _⟩ => ⟨S512x1, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_call1_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27_0 : Ref sig .tc := ⟨.hbm, 39, rfl⟩
abbrev main_v27_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg0 : BitVec 32 := BitVec.ofNat 32 (i 0).val
  let c0_i32 : BitVec 32 := 0#32
  let v72 : BitVec 1 := Scalar.cmpi .eq arg0 c0_i32
  let arg1 : BitVec 32 := BitVec.ofNat 32 (i 1).val
  let c0_i32_47 : BitVec 32 := 0#32
  let v73 : BitVec 1 := Scalar.cmpi .eq arg1 c0_i32_47
  let v74 : BitVec 1 := Scalar.andi v72 v73
  let v75 : BitVec 32 := Scalar.extui v74
  let c0_i32_48 : BitVec 32 := 0#32
  let v76 : BitVec 1 := Scalar.cmpi .ne v75 c0_i32_48
  v76

def k0_cond2 (i : grid0.Coords) : BitVec 1 :=
  let arg0 : BitVec 32 := BitVec.ofNat 32 (i 0).val
  let c0_i32_49 : BitVec 32 := 0#32
  let v77 : BitVec 1 := Scalar.cmpi .eq arg0 c0_i32_49
  let arg1 : BitVec 32 := BitVec.ofNat 32 (i 1).val
  let c0_i32_50 : BitVec 32 := 0#32
  let v78 : BitVec 1 := Scalar.cmpi .eq arg1 c0_i32_50
  let v79 : BitVec 1 := Scalar.andi v77 v78
  let v_true : BitVec 1 := 1#1
  let v80 : BitVec 1 := Scalar.xori v79 v_true
  let v81 : BitVec 32 := Scalar.extui v80
  let c0_i32_51 : BitVec 32 := 0#32
  let v82 : BitVec 1 := Scalar.cmpi .ne v81 c0_i32_51
  v82

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1536x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3200x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== Norm1RefIdeal.lean ====
abbrev S1x4096x1024 : Shape := ⟨3, ![1, 4096, 1024]⟩
abbrev S1x1024 : Shape := ⟨2, ![1, 1024]⟩
abbrev S1x1024x4616 : Shape := ⟨3, ![1, 1024, 4616]⟩
abbrev S4096x4616 : Shape := ⟨2, ![4096, 4616]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1024x4616 : Shape := ⟨2, ![1024, 4616]⟩

abbrev nBuf : Space → Nat
  | .hbm => 57
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x4616, .f32⟩
  | .hbm, ⟨3, _⟩ => ⟨S4096x4616, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1024x4616, .f32⟩
  | .hbm, ⟨28, _⟩ => ⟨S4096x4616, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== AttnOut.lean ====
abbrev S4096x512 : Shape := ⟨2, ![4096, 512]⟩
abbrev S4096x8 : Shape := ⟨2, ![4096, 8]⟩
abbrev S512x1024 : Shape := ⟨2, ![512, 1024]⟩
abbrev S4096x1024 : Shape := ⟨2, ![4096, 1024]⟩
abbrev S8x4096 : Shape := ⟨2, ![8, 4096]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S8x4096x1 : Shape := ⟨3, ![8, 4096, 1]⟩
abbrev S8x1x4096 : Shape := ⟨3, ![8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S1024x512 : Shape := ⟨2, ![1024, 512]⟩
abbrev S512 : Shape := ⟨1, ![512]⟩
abbrev S512x1 : Shape := ⟨2, ![512, 1]⟩
abbrev S128 : Shape := ⟨1, ![128]⟩
abbrev S1x128 : Shape := ⟨2, ![1, 128]⟩
abbrev S512x128 : Shape := ⟨2, ![512, 128]⟩
abbrev S4096x128 : Shape := ⟨2, ![4096, 128]⟩
abbrev S512x512 : Shape := ⟨2, ![512, 512]⟩

abbrev nBuf : Space → Nat
  | .hbm => 82
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x8, .f32⟩
  | .hbm, ⟨4, _⟩ => ⟨S512x1024, .f32⟩
  | .hbm, ⟨5, _⟩ => ⟨S4096x1024, .f32⟩
  | .hbm, ⟨6, _⟩ => ⟨S8x4096, .f32⟩
  | .hbm, ⟨7, _⟩ => ⟨S4096x8x64, .f32⟩
  | .hbm, ⟨8, _⟩ => ⟨S8x4096x64, .f32⟩
  | .hbm, ⟨9, _⟩ => ⟨S4096x8x64, .f32⟩
  | .hbm, ⟨10, _⟩ => ⟨S8x4096x64, .f32⟩
  | .hbm, ⟨11, _⟩ => ⟨S8x4096x4096, .f32⟩
  | .hbm, ⟨12, _⟩ => ⟨S_, .f32⟩
  | .hbm, ⟨13, _⟩ => ⟨S8x4096x4096, .f32⟩
  | .hbm, ⟨14, _⟩ => ⟨S8x4096x4096, .f32⟩
  | .hbm, ⟨15, _⟩ => ⟨S8x4096x1, .f32⟩
  | .hbm, ⟨16, _⟩ => ⟨S8x4096x4096, .f32⟩
  | .hbm, ⟨17, _⟩ => ⟨S8x4096x4096, .f32⟩
  | .hbm, ⟨18, _⟩ => ⟨S8x1x4096, .f32⟩
  | .hbm, ⟨19, _⟩ => ⟨S8x4096x4096, .f32⟩
  | .hbm, ⟨20, _⟩ => ⟨S8x4096x4096, .f32⟩
  | .hbm, ⟨21, _⟩ => ⟨S4096, .i32⟩
  | .hbm, ⟨22, _⟩ => ⟨S4096x1, .i32⟩
  | .hbm, ⟨23, _⟩ => ⟨S1x4096, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S1x4096x4096, .i1⟩
  | .hbm, ⟨28, _⟩ => ⟨S8x4096x4096, .i1⟩
  | .hbm, ⟨29, _⟩ => ⟨S_, .f32⟩
  | .hbm, ⟨30, _⟩ => ⟨S8x4096x4096, .f32⟩
  | .hbm, ⟨31, _⟩ => ⟨S8x4096x4096, .f32⟩
  | .hbm, ⟨32, _⟩ => ⟨S_, .f32⟩
  | .hbm, ⟨33, _⟩ => ⟨S8x4096, .f32⟩
  | .hbm, ⟨34, _⟩ => ⟨S_, .f32⟩
  | .hbm, ⟨35, _⟩ => ⟨S8x4096, .f32⟩
  | .hbm, ⟨36, _⟩ => ⟨S8x4096, .f32⟩
  | .hbm, ⟨37, _⟩ => ⟨S8x4096x1, .f32⟩
  | .hbm, ⟨38, _⟩ => ⟨S8x4096x4096, .f32⟩
  | .hbm, ⟨39, _⟩ => ⟨S8x4096x4096, .f32⟩
  | .hbm, ⟨40, _⟩ => ⟨S8x4096x4096, .f32⟩
  | .hbm, ⟨41, _⟩ => ⟨S_, .f32⟩
  | .hbm, ⟨42, _⟩ => ⟨S8x4096, .f32⟩
  | .hbm, ⟨43, _⟩ => ⟨S8x4096x1, .f32⟩
  | .hbm, ⟨44, _⟩ => ⟨S8x4096x4096, .f32⟩
  | .hbm, ⟨45, _⟩ => ⟨S8x4096x4096, .f32⟩
  | .hbm, ⟨46, _⟩ => ⟨S4096x8x64, .f32⟩
  | .hbm, ⟨47, _⟩ => ⟨S8x4096x64, .f32⟩
  | .hbm, ⟨48, _⟩ => ⟨S8x4096x64, .f32⟩
  | .hbm, ⟨49, _⟩ => ⟨S4096x8x64, .f32⟩
  | .hbm, ⟨50, _⟩ => ⟨S4096x512, .f32⟩
  | .hbm, ⟨51, _⟩ => ⟨S4096x1024, .bf16⟩
  | .hbm, ⟨52, _⟩ => ⟨S1024x512, .f32⟩
  | .hbm, ⟨53, _⟩ => ⟨S1024x512, .bf16⟩
  | .hbm, ⟨54, _⟩ => ⟨S512, .i32⟩
  | .hbm, ⟨55, _⟩ => ⟨S512x1, .i32⟩
  | .hbm, ⟨56, _⟩ => ⟨S_, .i32⟩
  | .hbm, ⟨57, _⟩ => ⟨S_, .i32⟩
  | .hbm, ⟨58, _⟩ => ⟨S512x1, .i32⟩
  | .hbm, ⟨59, _⟩ => ⟨S512x1, .i32⟩
  | .hbm, ⟨60, _⟩ => ⟨S512x1, .i32⟩
  | .hbm, ⟨61, _⟩ => ⟨S_, .i32⟩
  | .hbm, ⟨62, _⟩ => ⟨S512x1, .i32⟩
  | .hbm, ⟨63, _⟩ => ⟨S512x1, .i1⟩
  | .hbm, ⟨64, _⟩ => ⟨S512x1, .i32⟩
  | .hbm, ⟨65, _⟩ => ⟨S512x1, .i32⟩
  | .hbm, ⟨66, _⟩ => ⟨S_, .i32⟩
  | .hbm, ⟨67, _⟩ => ⟨S512x1, .i32⟩
  | .hbm, ⟨68, _⟩ => ⟨S512x1, .i1⟩
  | .hbm, ⟨69, _⟩ => ⟨S512x1, .i1⟩
  | .hbm, ⟨70, _⟩ => ⟨S_, .i32⟩
  | .hbm, ⟨71, _⟩ => ⟨S512x1, .i32⟩
  | .hbm, ⟨72, _⟩ => ⟨S512x1, .i32⟩
  | .hbm, ⟨73, _⟩ => ⟨S512x1, .i32⟩
  | .hbm, ⟨74, _⟩ => ⟨S128, .i32⟩
  | .hbm, ⟨75, _⟩ => ⟨S1x128, .i32⟩
  | .hbm, ⟨76, _⟩ => ⟨S512x128, .i32⟩
  | .hbm, ⟨77, _⟩ => ⟨S512x128, .i32⟩
  | .hbm, ⟨78, _⟩ => ⟨S512x128, .i1⟩
  | .hbm, ⟨79, _⟩ => ⟨S512x128, .f32⟩
  | .hbm, ⟨80, _⟩ => ⟨S4096x512, .f32⟩
  | .hbm, ⟨81, _⟩ => ⟨S4096x128, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S512x512, .f32⟩
  | .local _ .vmem, ⟨4, _⟩ => ⟨S512x512, .f32⟩
  | .local _ .vmem, ⟨5, _⟩ => ⟨S512x128, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_c : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_v6 : Ref sig .tc := ⟨.hbm, 63, rfl⟩
abbrev main_call0_v7 : Ref sig .tc := ⟨.hbm, 64, rfl⟩
abbrev main_call0_v8 : Ref sig .tc := ⟨.hbm, 65, rfl⟩
abbrev main_call0_c : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_c_0 : Ref sig .tc := ⟨.hbm, 70, rfl⟩
abbrev main_call0_v12 : Ref sig .tc := ⟨.hbm, 71, rfl⟩
abbrev main_call0_v13 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52_0 : Ref sig .tc := ⟨.hbm, 80, rfl⟩
abbrev main_v52_1 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== AttnOutRefIdeal.lean ====
abbrev S4096x512 : Shape := ⟨2, ![4096, 512]⟩
abbrev S4096x8 : Shape := ⟨2, ![4096, 8]⟩
abbrev S512x1024 : Shape := ⟨2, ![512, 1024]⟩
abbrev S4096x1024 : Shape := ⟨2, ![4096, 1024]⟩
abbrev S4096x8x64 : Shape := ⟨3, ![4096, 8, 64]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S8x64x4096 : Shape := ⟨3, ![8, 64, 4096]⟩
abbrev S4096x128 : Shape := ⟨2, ![4096, 128]⟩

abbrev nBuf : Space → Nat
  | .hbm => 58
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x8, .f32⟩
  | .hbm, ⟨4, _⟩ => ⟨S512x1024, .f32⟩
  | .hbm, ⟨5, _⟩ => ⟨S4096x1024, .f32⟩
  | .hbm, ⟨6, _⟩ => ⟨S4096x8x64, .f32⟩
  | .hbm, ⟨7, _⟩ => ⟨S4096x8x64, .f32⟩
  | .hbm, ⟨8, _⟩ => ⟨S8x4096x4096, .f32⟩
  | .hbm, ⟨9, _⟩ => ⟨S_, .f32⟩
  | .hbm, ⟨10, _⟩ => ⟨S8x4096x4096, .f32⟩
  | .hbm, ⟨11, _⟩ => ⟨S8x4096x4096, .f32⟩
  | .hbm, ⟨12, _⟩ => ⟨S8x4096, .f32⟩
  | .hbm, ⟨13, _⟩ => ⟨S8x4096x1, .f32⟩
  | .hbm, ⟨14, _⟩ => ⟨S8x4096x4096, .f32⟩
  | .hbm, ⟨15, _⟩ => ⟨S8x4096x4096, .f32⟩
  | .hbm, ⟨16, _⟩ => ⟨S8x1x4096, .f32⟩
  | .hbm, ⟨17, _⟩ => ⟨S8x4096x4096, .f32⟩
  | .hbm, ⟨18, _⟩ => ⟨S8x4096x4096, .f32⟩
  | .hbm, ⟨19, _⟩ => ⟨S4096, .i32⟩
  | .hbm, ⟨20, _⟩ => ⟨S4096x1, .i32⟩
  | .hbm, ⟨21, _⟩ => ⟨S1x4096, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S1x4096x4096, .i1⟩
  | .hbm, ⟨26, _⟩ => ⟨S_, .f32⟩
  | .hbm, ⟨27, _⟩ => ⟨S_, .f32⟩
  | .hbm, ⟨28, _⟩ => ⟨S8x4096x4096, .i1⟩
  | .hbm, ⟨29, _⟩ => ⟨S8x4096x4096, .f32⟩
  | .hbm, ⟨30, _⟩ => ⟨S8x4096x4096, .f32⟩
  | .hbm, ⟨31, _⟩ => ⟨S_, .f32⟩
  | .hbm, ⟨32, _⟩ => ⟨S8x4096, .f32⟩
  | .hbm, ⟨33, _⟩ => ⟨S_, .f32⟩
  | .hbm, ⟨34, _⟩ => ⟨S8x4096, .f32⟩
  | .hbm, ⟨35, _⟩ => ⟨S8x4096, .f32⟩
  | .hbm, ⟨36, _⟩ => ⟨S8x4096x1, .f32⟩
  | .hbm, ⟨37, _⟩ => ⟨S8x4096x4096, .f32⟩
  | .hbm, ⟨38, _⟩ => ⟨S8x4096x4096, .f32⟩
  | .hbm, ⟨39, _⟩ => ⟨S8x4096x4096, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S8x4096x4096, .f32⟩
  | .hbm, ⟨44, _⟩ => ⟨S8x4096x4096, .f32⟩
  | .hbm, ⟨45, _⟩ => ⟨S4096x8x64, .f32⟩
  | .hbm, ⟨46, _⟩ => ⟨S8x64x4096, .f32⟩
  | .hbm, ⟨47, _⟩ => ⟨S4096x8x64, .f32⟩
  | .hbm, ⟨48, _⟩ => ⟨S4096x512, .f32⟩
  | .hbm, ⟨49, _⟩ => ⟨S4096x1024, .f32⟩
  | .hbm, ⟨50, _⟩ => ⟨S4096x512, .f32⟩
  | .hbm, ⟨51, _⟩ => ⟨S4096x512, .f32⟩
  | .hbm, ⟨52, _⟩ => ⟨S4096x8x64, .f32⟩
  | .hbm, ⟨53, _⟩ => ⟨S_, .f32⟩
  | .hbm, ⟨54, _⟩ => ⟨S4096x8, .f32⟩
  | .hbm, ⟨55, _⟩ => ⟨S_, .i32⟩
  | .hbm, ⟨56, _⟩ => ⟨S_, .f32⟩
  | .hbm, ⟨57, _⟩ => ⟨S4096x128, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_c : Ref sig .tc := ⟨.hbm, 55, rfl⟩
abbrev main_call1_v0 : Ref sig .tc := ⟨.hbm, 56, rfl⟩
abbrev main_v40 : Ref sig .tc := ⟨.hbm, 57, rfl⟩

abbrev nD : Nat := 1
abbrev τ : Topo := Topo.v7x

variable {F : FTy → Type} [FloatOps F]
-- ==== Forget.lean ====
abbrev S4096x8 : Shape := ⟨2, ![4096, 8]⟩
abbrev S1x8 : Shape := ⟨2, ![1, 8]⟩
abbrev S_ : Shape := ⟨0, ![]⟩
abbrev S4096x128 : Shape := ⟨2, ![4096, 128]⟩
abbrev S1x128 : Shape := ⟨2, ![1, 128]⟩
abbrev S128x4096 : Shape := ⟨2, ![128, 4096]⟩
abbrev S512x128 : Shape := ⟨2, ![512, 128]⟩
abbrev S128x512 : Shape := ⟨2, ![128, 512]⟩
abbrev S512x512 : Shape := ⟨2, ![512, 512]⟩
abbrev S128 : Shape := ⟨1, ![128]⟩

abbrev nBuf : Space → Nat
  | .hbm => 19
  | .vmem => 13
  | .smem => 0
  | _ => 0

abbrev bufTy : (tb : Table) → Fin (tcTables nBuf tb) → BufTy
  | .hbm, ⟨0, _⟩ => ⟨S4096x8, .f32⟩
  | .hbm, ⟨1, _⟩ => ⟨S1x8, .f32⟩
  | .hbm, ⟨2, _⟩ => ⟨S4096x8, .f32⟩
  | .hbm, ⟨3, _⟩ => ⟨S4096x8, .f32⟩
  | .hbm, ⟨4, _⟩ => ⟨S_, .i32⟩
  | .hbm, ⟨5, _⟩ => ⟨S_, .f32⟩
  | .hbm, ⟨6, _⟩ => ⟨S4096x128, .f32⟩
  | .hbm, ⟨7, _⟩ => ⟨S_, .i32⟩
  | .hbm, ⟨8, _⟩ => ⟨S_, .f32⟩
  | .hbm, ⟨9, _⟩ => ⟨S4096x128, .f32⟩
  | .hbm, ⟨10, _⟩ => ⟨S_, .i32⟩
  | .hbm, ⟨11, _⟩ => ⟨S_, .f32⟩
  | .hbm, ⟨12, _⟩ => ⟨S4096x128, .f32⟩
  | .hbm, ⟨13, _⟩ => ⟨S_, .i32⟩
  | .hbm, ⟨14, _⟩ => ⟨S_, .f32⟩
  | .hbm, ⟨15, _⟩ => ⟨S1x128, .f32⟩
  | .hbm, ⟨16, _⟩ => ⟨S4096x128, .bf16⟩
  | .hbm, ⟨17, _⟩ => ⟨S1x128, .f32⟩
  | .hbm, ⟨18, _⟩ => ⟨S128x4096, .bf16⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x128, .f32⟩
  | .local _ .vmem, ⟨7, _⟩ => ⟨S512x128, .bf16⟩
  | .local _ .vmem, ⟨8, _⟩ => ⟨S512x128, .bf16⟩
  | .local _ .vmem, ⟨9, _⟩ => ⟨S1x128, .f32⟩
  | .local _ .vmem, ⟨10, _⟩ => ⟨S128x512, .bf16⟩
  | .local _ .vmem, ⟨11, _⟩ => ⟨S128x512, .bf16⟩
  | .local _ .vmem, ⟨12, _⟩ => ⟨S1x128, .f32⟩
  | _, _ => ⟨S4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_c_2 : Ref sig .tc := ⟨.hbm, 13, rfl⟩
abbrev main_call3_v0 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![c0_i32.toNat, v0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ForgetRefIdeal.lean ====
abbrev S4096x8 : Shape := ⟨2, ![4096, 8]⟩
abbrev S1x8 : Shape := ⟨2, ![1, 8]⟩
abbrev S8 : Shape := ⟨1, ![8]⟩
abbrev S_ : Shape := ⟨0, ![]⟩
abbrev S4096x128 : Shape := ⟨2, ![4096, 128]⟩
abbrev S1x128 : Shape := ⟨2, ![1, 128]⟩
abbrev S8x4096 : Shape := ⟨2, ![8, 4096]⟩
abbrev S128x4096 : Shape := ⟨2, ![128, 4096]⟩

abbrev nBuf : Space → Nat
  | .hbm => 83
  | .vmem => 0
  | .smem => 0
  | _ => 0

abbrev bufTy : (tb : Table) → Fin (tcTables nBuf tb) → BufTy
  | .hbm, ⟨0, _⟩ => ⟨S4096x8, .f32⟩
  | .hbm, ⟨1, _⟩ => ⟨S1x8, .f32⟩
  | .hbm, ⟨2, _⟩ => ⟨S4096x8, .f32⟩
  | .hbm, ⟨3, _⟩ => ⟨S4096x8, .f32⟩
  | .hbm, ⟨4, _⟩ => ⟨S8, .f32⟩
  | .hbm, ⟨5, _⟩ => ⟨S1x8, .f32⟩
  | .hbm, ⟨6, _⟩ => ⟨S4096x8, .f32⟩
  | .hbm, ⟨7, _⟩ => ⟨S4096x8, .f32⟩
  | .hbm, ⟨8, _⟩ => ⟨S4096x8, .f32⟩
  | .hbm, ⟨9, _⟩ => ⟨S_, .f32⟩
  | .hbm, ⟨10, _⟩ => ⟨S4096x8, .f32⟩
  | .hbm, ⟨11, _⟩ => ⟨S4096x8, .f32⟩
  | .hbm, ⟨12, _⟩ => ⟨S4096x8, .f32⟩
  | .hbm, ⟨13, _⟩ => ⟨S4096x8, .f32⟩
  | .hbm, ⟨14, _⟩ => ⟨S4096x8, .i1⟩
  | .hbm, ⟨15, _⟩ => ⟨S4096x8, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S_, .f32⟩
  | .hbm, ⟨24, _⟩ => ⟨S4096x8, .f32⟩
  | .hbm, ⟨25, _⟩ => ⟨S4096x8, .i1⟩
  | .hbm, ⟨26, _⟩ => ⟨S_, .f32⟩
  | .hbm, ⟨27, _⟩ => ⟨S4096x8, .f32⟩
  | .hbm, ⟨28, _⟩ => ⟨S4096x8, .f32⟩
  | .hbm, ⟨29, _⟩ => ⟨S_, .f32⟩
  | .hbm, ⟨30, _⟩ => ⟨S4096x8, .f32⟩
  | .hbm, ⟨31, _⟩ => ⟨S4096x8, .i1⟩
  | .hbm, ⟨32, _⟩ => ⟨S_, .f32⟩
  | .hbm, ⟨33, _⟩ => ⟨S4096x8, .f32⟩
  | .hbm, ⟨34, _⟩ => ⟨S4096x8, .f32⟩
  | .hbm, ⟨35, _⟩ => ⟨S4096x8, .f32⟩
  | .hbm, ⟨36, _⟩ => ⟨S4096x8, .f32⟩
  | .hbm, ⟨37, _⟩ => ⟨S_, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096x8, .f32⟩
  | .hbm, ⟨45, _⟩ => ⟨S4096x8, .i1⟩
  | .hbm, ⟨46, _⟩ => ⟨S_, .f32⟩
  | .hbm, ⟨47, _⟩ => ⟨S4096x8, .f32⟩
  | .hbm, ⟨48, _⟩ => ⟨S4096x8, .f32⟩
  | .hbm, ⟨49, _⟩ => ⟨S4096x8, .f32⟩
  | .hbm, ⟨50, _⟩ => ⟨S4096x8, .f32⟩
  | .hbm, ⟨51, _⟩ => ⟨S4096x8, .f32⟩
  | .hbm, ⟨52, _⟩ => ⟨S_, .f32⟩
  | .hbm, ⟨53, _⟩ => ⟨S4096x8, .f32⟩
  | .hbm, ⟨54, _⟩ => ⟨S4096x8, .f32⟩
  | .hbm, ⟨55, _⟩ => ⟨S4096x8, .f32⟩
  | .hbm, ⟨56, _⟩ => ⟨S_, .f32⟩
  | .hbm, ⟨57, _⟩ => ⟨S_, .f32⟩
  | .hbm, ⟨58, _⟩ => ⟨S4096x8, .f32⟩
  | .hbm, ⟨59, _⟩ => ⟨S4096x8, .f32⟩
  | .hbm, ⟨60, _⟩ => ⟨S_, .f32⟩
  | .hbm, ⟨61, _⟩ => ⟨S_, .f32⟩
  | .hbm, ⟨62, _⟩ => ⟨S4096x8, .f32⟩
  | .hbm, ⟨63, _⟩ => ⟨S4096x8, .f32⟩
  | .hbm, ⟨64, _⟩ => ⟨S4096x8, .f32⟩
  | .hbm, ⟨65, _⟩ => ⟨S4096x8, .f32⟩
  | .hbm, ⟨66, _⟩ => ⟨S_, .f32⟩
  | .hbm, ⟨67, _⟩ => ⟨S8, .f32⟩
  | .hbm, ⟨68, _⟩ => ⟨S1x8, .f32⟩
  | .hbm, ⟨69, _⟩ => ⟨S_, .f32⟩
  | .hbm, ⟨70, _⟩ => ⟨S8, .f32⟩
  | .hbm, ⟨71, _⟩ => ⟨S1x8, .f32⟩
  | .hbm, ⟨72, _⟩ => ⟨S4096x8, .bf16⟩
  | .hbm, ⟨73, _⟩ => ⟨S_, .i32⟩
  | .hbm, ⟨74, _⟩ => ⟨S_, .bf16⟩
  | .hbm, ⟨75, _⟩ => ⟨S4096x128, .bf16⟩
  | .hbm, ⟨76, _⟩ => ⟨S_, .i32⟩
  | .hbm, ⟨77, _⟩ => ⟨S_, .f32⟩
  | .hbm, ⟨78, _⟩ => ⟨S1x128, .f32⟩
  | .hbm, ⟨79, _⟩ => ⟨S8x4096, .bf16⟩
  | .hbm, ⟨80, _⟩ => ⟨S_, .i32⟩
  | .hbm, ⟨81, _⟩ => ⟨S_, .bf16⟩
  | .hbm, ⟨82, _⟩ => ⟨S128x4096, .bf16⟩
  | _, _ => ⟨S4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1_0 : Ref sig .tc := ⟨.hbm, 22, rfl⟩
abbrev main_call0_call0_cst_0 : Ref sig .tc := ⟨.hbm, 23, rfl⟩
abbrev main_call0_call0_v13 : Ref sig .tc := ⟨.hbm, 24, rfl⟩
abbrev main_call0_call0_v14 : Ref sig .tc := ⟨.hbm, 25, rfl⟩
abbrev main_call0_call0_cst_1 : Ref sig .tc := ⟨.hbm, 26, rfl⟩
abbrev main_call0_call0_v15 : Ref sig .tc := ⟨.hbm, 27, rfl⟩
abbrev main_call0_call0_v16 : Ref sig .tc := ⟨.hbm, 28, rfl⟩
abbrev main_call0_call0_cst_2 : Ref sig .tc := ⟨.hbm, 29, rfl⟩
abbrev main_call0_call0_v17 : Ref sig .tc := ⟨.hbm, 30, rfl⟩
abbrev main_call0_call0_v18 : Ref sig .tc := ⟨.hbm, 31, rfl⟩
abbrev main_call0_call0_cst_3 : Ref sig .tc := ⟨.hbm, 32, rfl⟩
abbrev main_call0_call0_v19 : Ref sig .tc := ⟨.hbm, 33, rfl⟩
abbrev main_call0_call0_v20 : Ref sig .tc := ⟨.hbm, 34, rfl⟩
abbrev main_call0_call0_v21 : Ref sig .tc := ⟨.hbm, 35, rfl⟩
abbrev main_v4_1 : Ref sig .tc := ⟨.hbm, 36, rfl⟩
abbrev main_call0_call0_cst_4 : Ref sig .tc := ⟨.hbm, 37, rfl⟩
abbrev main_call0_call0_cst_5 : Ref sig .tc := ⟨.hbm, 38, rfl⟩
abbrev main_call0_call0_v23 : Ref sig .tc := ⟨.hbm, 39, rfl⟩
abbrev main_call0_call0_cst_6 : Ref sig .tc := ⟨.hbm, 40, rfl⟩
abbrev main_call0_call0_cst_7 : Ref sig .tc := ⟨.hbm, 41, rfl⟩
abbrev main_call0_call0_v24 : Ref sig .tc := ⟨.hbm, 42, rfl⟩
abbrev main_call0_call0_cst_8 : Ref sig .tc := ⟨.hbm, 43, rfl⟩
abbrev main_call0_call0_v25 : Ref sig .tc := ⟨.hbm, 44, rfl⟩
abbrev main_call0_call0_v26 : Ref sig .tc := ⟨.hbm, 45, rfl⟩
abbrev main_call0_call0_cst_9 : Ref sig .tc := ⟨.hbm, 46, rfl⟩
abbrev main_call0_call0_v27 : Ref sig .tc := ⟨.hbm, 47, rfl⟩
abbrev main_call0_call0_v28 : Ref sig .tc := ⟨.hbm, 48, rfl⟩
abbrev main_call0_call0_v29 : Ref sig .tc := ⟨.hbm, 49, rfl⟩
abbrev main_call0_call0_v30 : Ref sig .tc := ⟨.hbm, 50, rfl⟩
abbrev main_call0_call0_v31 : Ref sig .tc := ⟨.hbm, 51, rfl⟩
abbrev main_call0_call0_cst_10 : Ref sig .tc := ⟨.hbm, 52, rfl⟩
abbrev main_call0_call0_v32 : Ref sig .tc := ⟨.hbm, 53, rfl⟩
abbrev main_v4_2 : Ref sig .tc := ⟨.hbm, 54, rfl⟩
abbrev main_v4_0 : Ref sig .tc := ⟨.hbm, 55, rfl⟩
abbrev main_call1_call0_cst : Ref sig .tc := ⟨.hbm, 56, rfl⟩
abbrev main_call1_call0_v0 : Ref sig .tc := ⟨.hbm, 57, rfl⟩
abbrev main_v5 : Ref sig .tc := ⟨.hbm, 58, rfl⟩
abbrev main_v6 : Ref sig .tc := ⟨.hbm, 59, rfl⟩
abbrev main_call2_call0_cst : Ref sig .tc := ⟨.hbm, 60, rfl⟩
abbrev main_call2_call0_v0 : Ref sig .tc := ⟨.hbm, 61, rfl⟩
abbrev main_v7 : Ref sig .tc := ⟨.hbm, 62, rfl⟩
abbrev main_call3_v0 : Ref sig .tc := ⟨.hbm, 63, rfl⟩
abbrev main_call3_v1 : Ref sig .tc := ⟨.hbm, 64, rfl⟩
abbrev main_v8 : Ref sig .tc := ⟨.hbm, 65, rfl⟩
abbrev main_cst : Ref sig .tc := ⟨.hbm, 66, rfl⟩
abbrev main_v9 : Ref sig .tc := ⟨.hbm, 67, rfl⟩
abbrev main_v10 : Ref sig .tc := ⟨.hbm, 68, rfl⟩
abbrev main_cst_0 : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_c : Ref sig .tc := ⟨.hbm, 73, rfl⟩
abbrev main_call4_v0 : Ref sig .tc := ⟨.hbm, 74, rfl⟩
abbrev main_v14 : Ref sig .tc := ⟨.hbm, 75, rfl⟩
abbrev main_c_1 : Ref sig .tc := ⟨.hbm, 76, rfl⟩
abbrev main_call5_v0 : Ref sig .tc := ⟨.hbm, 77, rfl⟩
abbrev main_v15 : Ref sig .tc := ⟨.hbm, 78, rfl⟩
abbrev main_v16 : Ref sig .tc := ⟨.hbm, 79, rfl⟩
abbrev main_c_2 : Ref sig .tc := ⟨.hbm, 80, rfl⟩
abbrev main_call6_v0 : Ref sig .tc := ⟨.hbm, 81, rfl⟩
abbrev main_v17 : Ref sig .tc := ⟨.hbm, 82, rfl⟩

abbrev nD : Nat := 1
abbrev τ : Topo := Topo.v7x

variable {F : FTy → Type} [FloatOps F]
-- ==== Sgu.lean ====
abbrev S4096x4616 : Shape := ⟨2, ![4096, 4616]⟩
abbrev S1x512 : Shape := ⟨2, ![1, 512]⟩
abbrev S1x8x128x128 : Shape := ⟨4, ![1, 8, 128, 128]⟩
abbrev S1x8x128 : Shape := ⟨3, ![1, 8, 128]⟩
abbrev S1x512x1024 : Shape := ⟨3, ![1, 512, 1024]⟩
abbrev S4096x1024 : Shape := ⟨2, ![4096, 1024]⟩
abbrev S4096x3072 : Shape := ⟨2, ![4096, 3072]⟩
abbrev S4096x8 : Shape := ⟨2, ![4096, 8]⟩
abbrev S_ : Shape := ⟨0, ![]⟩
abbrev S4096x128 : Shape := ⟨2, ![4096, 128]⟩
abbrev S4096x3200 : Shape := ⟨2, ![4096, 3200]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x128x128 : Shape := ⟨3, ![8, 128, 128]⟩
abbrev S4x256x128 : Shape := ⟨3, ![4, 256, 128]⟩
abbrev S8x128 : Shape := ⟨2, ![8, 128]⟩
abbrev S8x64x128 : Shape := ⟨3, ![8, 64, 128]⟩
abbrev S512x128 : Shape := ⟨2, ![512, 128]⟩
abbrev S128x512 : Shape := ⟨2, ![128, 512]⟩
abbrev S512x1024 : Shape := ⟨2, ![512, 1024]⟩
abbrev S1024x512 : Shape := ⟨2, ![1024, 512]⟩
abbrev S4096x512 : Shape := ⟨2, ![4096, 512]⟩
abbrev S1024x4096 : Shape := ⟨2, ![1024, 4096]⟩
abbrev S512x512 : Shape := ⟨2, ![512, 512]⟩
abbrev S512 : Shape := ⟨1, ![512]⟩
abbrev S512x1 : Shape := ⟨2, ![512, 1]⟩
abbrev S1x256x128 : Shape := ⟨3, ![1, 256, 128]⟩
abbrev S256x128 : Shape := ⟨2, ![256, 128]⟩

abbrev nBuf : Space → Nat
  | .hbm => 65
  | .vmem => 23
  | .smem => 0
  | _ => 0

abbrev bufTy : (tb : Table) → Fin (tcTables nBuf tb) → BufTy
  | .hbm, ⟨0, _⟩ => ⟨S4096x4616, .f32⟩
  | .hbm, ⟨1, _⟩ => ⟨S1x512, .f32⟩
  | .hbm, ⟨2, _⟩ => ⟨S1x512, .f32⟩
  | .hbm, ⟨3, _⟩ => ⟨S1x8x128x128, .f32⟩
  | .hbm, ⟨4, _⟩ => ⟨S1x8x128, .f32⟩
  | .hbm, ⟨5, _⟩ => ⟨S1x512x1024, .f32⟩
  | .hbm, ⟨6, _⟩ => ⟨S4096x1024, .f32⟩
  | .hbm, ⟨7, _⟩ => ⟨S4096x3072, .f32⟩
  | .hbm, ⟨8, _⟩ => ⟨S4096x8, .f32⟩
  | .hbm, ⟨9, _⟩ => ⟨S_, .i32⟩
  | .hbm, ⟨10, _⟩ => ⟨S_, .f32⟩
  | .hbm, ⟨11, _⟩ => ⟨S4096x128, .f32⟩
  | .hbm, ⟨12, _⟩ => ⟨S4096x3200, .f32⟩
  | .hbm, ⟨13, _⟩ => ⟨S4096x3200, .bf16⟩
  | .hbm, ⟨14, _⟩ => ⟨S128, .i32⟩
  | .hbm, ⟨15, _⟩ => ⟨S_, .i32⟩
  | .hbm, ⟨16, _⟩ => ⟨S_, .i32⟩
  | .hbm, ⟨17, _⟩ => ⟨S128, .i32⟩
  | .hbm, ⟨18, _⟩ => ⟨S128, .i32⟩
  | .hbm, ⟨19, _⟩ => ⟨S128, .i32⟩
  | .hbm, ⟨20, _⟩ => ⟨S_, .i32⟩
  | .hbm, ⟨21, _⟩ => ⟨S128, .i32⟩
  | .hbm, ⟨22, _⟩ => ⟨S128, .i1⟩
  | .hbm, ⟨23, _⟩ => ⟨S128, .i32⟩
  | .hbm, ⟨24, _⟩ => ⟨S128, .i32⟩
  | .hbm, ⟨25, _⟩ => ⟨S_, .i32⟩
  | .hbm, ⟨26, _⟩ => ⟨S128, .i32⟩
  | .hbm, ⟨27, _⟩ => ⟨S128, .i1⟩
  | .hbm, ⟨28, _⟩ => ⟨S128, .i1⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S1x128, .i32⟩
  | .hbm, ⟨34, _⟩ => ⟨S128x1, .i32⟩
  | .hbm, ⟨35, _⟩ => ⟨S128x128, .i32⟩
  | .hbm, ⟨36, _⟩ => ⟨S128x128, .i32⟩
  | .hbm, ⟨37, _⟩ => ⟨S128x128, .i1⟩
  | .hbm, ⟨38, _⟩ => ⟨S1x128x128, .i1⟩
  | .hbm, ⟨39, _⟩ => ⟨S8x128x128, .f32⟩
  | .hbm, ⟨40, _⟩ => ⟨S_, .f32⟩
  | .hbm, ⟨41, _⟩ => ⟨S_, .f32⟩
  | .hbm, ⟨42, _⟩ => ⟨S8x128x128, .i1⟩
  | .hbm, ⟨43, _⟩ => ⟨S8x128x128, .f32⟩
  | .hbm, ⟨44, _⟩ => ⟨S8x128x128, .f32⟩
  | .hbm, ⟨45, _⟩ => ⟨S4x256x128, .f32⟩
  | .hbm, ⟨46, _⟩ => ⟨S4x256x128, .bf16⟩
  | .hbm, ⟨47, _⟩ => ⟨S8x128x128, .f32⟩
  | .hbm, ⟨48, _⟩ => ⟨S4x256x128, .f32⟩
  | .hbm, ⟨49, _⟩ => ⟨S4x256x128, .bf16⟩
  | .hbm, ⟨50, _⟩ => ⟨S8x128, .f32⟩
  | .hbm, ⟨51, _⟩ => ⟨S8x64x128, .f32⟩
  | .hbm, ⟨52, _⟩ => ⟨S512x128, .f32⟩
  | .hbm, ⟨53, _⟩ => ⟨S128x512, .f32⟩
  | .hbm, ⟨54, _⟩ => ⟨S512x1024, .f32⟩
  | .hbm, ⟨55, _⟩ => ⟨S1024x512, .f32⟩
  | .hbm, ⟨56, _⟩ => ⟨S1024x512, .bf16⟩
  | .hbm, ⟨57, _⟩ => ⟨S4096x1024, .bf16⟩
  | .hbm, ⟨58, _⟩ => ⟨S4096x512, .bf16⟩
  | .hbm, ⟨59, _⟩ => ⟨S4096x512, .bf16⟩
  | .hbm, ⟨60, _⟩ => ⟨S4x256x128, .f32⟩
  | .hbm, ⟨61, _⟩ => ⟨S128x512, .f32⟩
  | .hbm, ⟨62, _⟩ => ⟨S1x512, .f32⟩
  | .hbm, ⟨63, _⟩ => ⟨S1x512, .f32⟩
  | .hbm, ⟨64, _⟩ => ⟨S1024x4096, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S1024x512, .bf16⟩
  | .local _ .vmem, ⟨7, _⟩ => ⟨S1x512, .f32⟩
  | .local _ .vmem, ⟨8, _⟩ => ⟨S1x512, .f32⟩
  | .local _ .vmem, ⟨9, _⟩ => ⟨S4x256x128, .bf16⟩
  | .local _ .vmem, ⟨10, _⟩ => ⟨S4x256x128, .bf16⟩
  | .local _ .vmem, ⟨11, _⟩ => ⟨S128x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S4x256x128, .f32⟩
  | .local _ .vmem, ⟨17, _⟩ => ⟨S128x512, .f32⟩
  | .local _ .vmem, ⟨18, _⟩ => ⟨S1x512, .f32⟩
  | .local _ .vmem, ⟨19, _⟩ => ⟨S1x512, .f32⟩
  | .local _ .vmem, ⟨20, _⟩ => ⟨S1024x512, .bf16⟩
  | .local _ .vmem, ⟨21, _⟩ => ⟨S1024x512, .bf16⟩
  | .local _ .vmem, ⟨22, _⟩ => ⟨S512x512, .f32⟩
  | _, _ => ⟨S4096x4616, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_c : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_0 : Ref sig .tc := ⟨.hbm, 29, rfl⟩
abbrev main_call1_v12 : Ref sig .tc := ⟨.hbm, 30, rfl⟩
abbrev main_call1_v13 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28_0 : Ref sig .tc := ⟨.hbm, 58, rfl⟩
abbrev main_v28_1 : Ref sig .tc := ⟨.hbm, 59, rfl⟩
abbrev main_v28_2 : Ref sig .tc := ⟨.hbm, 60, rfl⟩
abbrev main_v28_3 : Ref sig .tc := ⟨.hbm, 61, rfl⟩
abbrev main_v28_4 : Ref sig .tc := ⟨.hbm, 62, rfl⟩
abbrev main_v28_5 : Ref sig .tc := ⟨.hbm, 63, rfl⟩
abbrev main_v28_6 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== SguIdeal.lean ====
variable {F : FTy → Type} [FloatOps F] [Named F]
def κ : String → Option EReal := fun
  | "gelu_c" => some ((8943 / 200000 : ℝ) : EReal)
  | "gelu_c3" => some ((26829 / 200000 : ℝ) : EReal)
  | _ => none
-- ==== SguRefIdeal.lean ====
abbrev S4096x4616 : Shape := ⟨2, ![4096, 4616]⟩
abbrev S1x512 : Shape := ⟨2, ![1, 512]⟩
abbrev S1x8x128x128 : Shape := ⟨4, ![1, 8, 128, 128]⟩
abbrev S1x8x128 : Shape := ⟨3, ![1, 8, 128]⟩
abbrev S1x512x1024 : Shape := ⟨3, ![1, 512, 1024]⟩
abbrev S4096x1024 : Shape := ⟨2, ![4096, 1024]⟩
abbrev S4096x512 : Shape := ⟨2, ![4096, 512]⟩
abbrev S128 : Shape := ⟨1, ![128]⟩
abbrev S_ : Shape := ⟨0, ![]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x128x128 : Shape := ⟨3, ![8, 128, 128]⟩
abbrev S8x128 : Shape := ⟨2, ![8, 128]⟩
abbrev S8x64x128 : Shape := ⟨3, ![8, 64, 128]⟩
abbrev S512x128 : Shape := ⟨2, ![512, 128]⟩
abbrev S128x512 : Shape := ⟨2, ![128, 512]⟩
abbrev S512 : Shape := ⟨1, ![512]⟩
abbrev S4096 : Shape := ⟨1, ![4096]⟩
abbrev S4096x1 : Shape := ⟨2, ![4096, 1]⟩
abbrev S32x128x8x64 : Shape := ⟨4, ![32, 128, 8, 64]⟩
abbrev S8x32x64x128 : Shape := ⟨4, ![8, 32, 64, 128]⟩
abbrev S32x128x512 : Shape := ⟨3, ![32, 128, 512]⟩
abbrev S1x128x512 : Shape := ⟨3, ![1, 128, 512]⟩
abbrev S512x1024 : Shape := ⟨2, ![512, 1024]⟩
abbrev S4x256x128 : Shape := ⟨3, ![4, 256, 128]⟩
abbrev S1024x4096 : Shape := ⟨2, ![1024, 4096]⟩

abbrev nBuf : Space → Nat
  | .hbm => 239
  | .vmem => 0
  | .smem => 0
  | _ => 0

abbrev hbmTy0_0 (i : Nat) : BufTy := match i % 128 with
  | 0 => ⟨S4096x4616, .f32⟩
  | 1 => ⟨S1x512, .f32⟩
  | 2 => ⟨S1x512, .f32⟩
  | 3 => ⟨S1x8x128x128, .f32⟩
  | 4 => ⟨S1x8x128, .f32⟩
  | 5 => ⟨S1x512x1024, .f32⟩
  | 6 => ⟨S4096x1024, .f32⟩
  | 7 => ⟨S4096x512, .f32⟩
  | 8 => ⟨S4096x512, .f32⟩
  | 9 => ⟨S128, .i32⟩
  | 10 => ⟨S_, .i32⟩
  | 11 => ⟨S_, .i32⟩
  | 12 => ⟨S128, .i32⟩
  | 13 => ⟨S128, .i32⟩
  | 14 => ⟨S128, .i32⟩
  | 15 => ⟨S_, .i32⟩
  | 16 => ⟨S128, .i32⟩
  | 17 => ⟨S128, .i1⟩
  | 18 => ⟨S128, .i32⟩
  | 19 => ⟨S128, .i32⟩
  | 20 => ⟨S_, .i32⟩
  | 21 => ⟨S128, .i32⟩
  | 22 => ⟨S128, .i1⟩
  | 23 => ⟨S128, .i1⟩
  | 24 => ⟨S_, .i32⟩
  | 25 => ⟨S128, .i32⟩
  | 26 => ⟨S128, .i32⟩
  | 27 => ⟨S128, .i32⟩
  | 28 => ⟨S1x128, .i32⟩
  | 29 => ⟨S128x1, .i32⟩
  | 30 => ⟨S128x128, .i32⟩
  | 31 => ⟨S128x128, .i32⟩
  | 32 => ⟨S128x128, .i1⟩
  | 33 => ⟨S1x128x128, .i1⟩
  | 34 => ⟨S8x128x128, .f32⟩
  | 35 => ⟨S_, .i32⟩
  | 36 => ⟨S_, .f32⟩
  | 37 => ⟨S8x128x128, .i1⟩
  | 38 => ⟨S8x128x128, .f32⟩
  | 39 => ⟨S8x128x128, .f32⟩
  | 40 => ⟨S8x128, .f32⟩
  | 41 => ⟨S8x64x128, .f32⟩
  | 42 => ⟨S512x128, .f32⟩
  | 43 => ⟨S128x512, .f32⟩
  | 44 => ⟨S_, .f32⟩
  | 45 => ⟨S_, .f32⟩
  | 46 => ⟨S_, .f32⟩
  | 47 => ⟨S4096x512, .f32⟩
  | 48 => ⟨S4096x512, .f32⟩
  | 49 => ⟨S4096x512, .f32⟩
  | 50 => ⟨S_, .f32⟩
  | 51 => ⟨S4096x512, .f32⟩
  | 52 => ⟨S4096x512, .f32⟩
  | 53 => ⟨S4096x512, .f32⟩
  | 54 => ⟨S4096x512, .f32⟩
  | 55 => ⟨S4096x512, .f32⟩
  | 56 => ⟨S_, .f32⟩
  | 57 => ⟨S4096x512, .f32⟩
  | 58 => ⟨S4096x512, .f32⟩
  | 59 => ⟨S4096x512, .f32⟩
  | 60 => ⟨S_, .f32⟩
  | 61 => ⟨S4096x512, .f32⟩
  | 62 => ⟨S4096x512, .f32⟩
  | 63 => ⟨S_, .f32⟩
  | 64 => ⟨S4096x512, .f32⟩
  | 65 => ⟨S4096x512, .f32⟩
  | 66 => ⟨S4096x512, .f32⟩
  | 67 => ⟨S_, .f32⟩
  | 68 => ⟨S4096x512, .f32⟩
  | 69 => ⟨S4096x512, .f32⟩
  | 70 => ⟨S_, .f32⟩
  | 71 => ⟨S4096x512, .f32⟩
  | 72 => ⟨S4096x512, .f32⟩
  | 73 => ⟨S4096x512, .f32⟩
  | 74 => ⟨S_, .f32⟩
  | 75 => ⟨S_, .f32⟩
  | 76 => ⟨S_, .f32⟩
  | 77 => ⟨S4096x512, .f32⟩
  | 78 => ⟨S4096x512, .f32⟩
  | 79 => ⟨S4096x512, .f32⟩
  | 80 => ⟨S_, .f32⟩
  | 81 => ⟨S4096x512, .f32⟩
  | 82 => ⟨S4096x512, .f32⟩
  | 83 => ⟨S4096x512, .f32⟩
  | 84 => ⟨S4096x512, .f32⟩
  | 85 => ⟨S4096x512, .f32⟩
  | 86 => ⟨S_, .f32⟩
  | 87 => ⟨S4096x512, .f32⟩
  | 88 => ⟨S4096x512, .f32⟩
  | 89 => ⟨S4096x512, .f32⟩
  | 90 => ⟨S_, .f32⟩
  | 91 => ⟨S4096x512, .f32⟩
  | 92 => ⟨S4096x512, .f32⟩
  | 93 => ⟨S_, .f32⟩
  | 94 => ⟨S4096x512, .f32⟩
  | 95 => ⟨S4096x512, .f32⟩
  | 96 => ⟨S4096x512, .f32⟩
  | 97 => ⟨S_, .f32⟩
  | 98 => ⟨S4096x512, .f32⟩
  | 99 => ⟨S4096x512, .f32⟩
  | 100 => ⟨S_, .f32⟩
  | 101 => ⟨S4096x512, .f32⟩
  | 102 => ⟨S4096x512, .f32⟩
  | 103 => ⟨S4096x512, .f32⟩
  | 104 => ⟨S512, .f32⟩
  | 105 => ⟨S512, .f32⟩
  | 106 => ⟨S_, .f32⟩
  | 107 => ⟨S4096, .f32⟩
  | 108 => ⟨S4096x1, .f32⟩
  | 109 => ⟨S_, .f32⟩
  | 110 => ⟨S4096x1, .f32⟩
  | 111 => ⟨S4096x1, .f32⟩
  | 112 => ⟨S4096x512, .f32⟩
  | 113 => ⟨S4096x512, .f32⟩
  | 114 => ⟨S4096x512, .f32⟩
  | 115 => ⟨S_, .f32⟩
  | 116 => ⟨S4096, .f32⟩
  | 117 => ⟨S4096x1, .f32⟩
  | 118 => ⟨S_, .f32⟩
  | 119 => ⟨S4096x1, .f32⟩
  | 120 => ⟨S4096x1, .f32⟩
  | 121 => ⟨S_, .f32⟩
  | 122 => ⟨S4096x1, .f32⟩
  | 123 => ⟨S4096x1, .f32⟩
  | 124 => ⟨S4096x1, .f32⟩
  | 125 => ⟨S4096x1, .f32⟩
  | 126 => ⟨S_, .f32⟩
  | 127 => ⟨S4096x1, .f32⟩
  | _ => ⟨S4096x4616, .f32⟩

abbrev hbmTy0_1 (i : Nat) : BufTy := match i % 128 with
  | 0 => ⟨S4096x1, .f32⟩
  | 1 => ⟨S4096x512, .f32⟩
  | 2 => ⟨S4096x512, .f32⟩
  | 3 => ⟨S1x512, .f32⟩
  | 4 => ⟨S4096x512, .f32⟩
  | 5 => ⟨S4096x512, .f32⟩
  | 6 => ⟨S1x512, .f32⟩
  | 7 => ⟨S4096x512, .f32⟩
  | 8 => ⟨S4096x512, .f32⟩
  | 9 => ⟨S32x128x8x64, .f32⟩
  | 10 => ⟨S8x32x64x128, .f32⟩
  | 11 => ⟨S32x128x8x64, .f32⟩
  | 12 => ⟨S32x128x512, .f32⟩
  | 13 => ⟨S1x128x512, .f32⟩
  | 14 => ⟨S32x128x512, .f32⟩
  | 15 => ⟨S32x128x512, .f32⟩
  | 16 => ⟨S4096x512, .f32⟩
  | 17 => ⟨S4096x512, .f32⟩
  | 18 => ⟨S512x1024, .f32⟩
  | 19 => ⟨S4096x1024, .f32⟩
  | 20 => ⟨S4096x512, .f32⟩
  | 21 => ⟨S4096x512, .f32⟩
  | 22 => ⟨S4096x512, .f32⟩
  | 23 => ⟨S32x128x512, .f32⟩
  | 24 => ⟨S_, .f32⟩
  | 25 => ⟨S128x512, .f32⟩
  | 26 => ⟨S1x128x512, .f32⟩
  | 27 => ⟨S_, .f32⟩
  | 28 => ⟨S128x512, .f32⟩
  | 29 => ⟨S32x128x8x64, .f32⟩
  | 30 => ⟨S8x32x64x128, .f32⟩
  | 31 => ⟨S8x128x128, .f32⟩
  | 32 => ⟨S8x32x64x128, .f32⟩
  | 33 => ⟨S32x128x8x64, .f32⟩
  | 34 => ⟨S4096x512, .f32⟩
  | 35 => ⟨S_, .f32⟩
  | 36 => ⟨S512, .f32⟩
  | 37 => ⟨S1x512, .f32⟩
  | 38 => ⟨S_, .f32⟩
  | 39 => ⟨S512, .f32⟩
  | 40 => ⟨S4096x512, .f32⟩
  | 41 => ⟨S_, .f32⟩
  | 42 => ⟨S512, .f32⟩
  | 43 => ⟨S1x512, .f32⟩
  | 44 => ⟨S4096x512, .f32⟩
  | 45 => ⟨S4096x512, .f32⟩
  | 46 => ⟨S_, .f32⟩
  | 47 => ⟨S512, .f32⟩
  | 48 => ⟨S4096x512, .f32⟩
  | 49 => ⟨S_, .f32⟩
  | 50 => ⟨S4096, .f32⟩
  | 51 => ⟨S4096x1, .f32⟩
  | 52 => ⟨S4096x512, .f32⟩
  | 53 => ⟨S4096x512, .f32⟩
  | 54 => ⟨S4096x1, .f32⟩
  | 55 => ⟨S_, .f32⟩
  | 56 => ⟨S4096x1, .f32⟩
  | 57 => ⟨S4096x1, .f32⟩
  | 58 => ⟨S_, .f32⟩
  | 59 => ⟨S4096, .f32⟩
  | 60 => ⟨S4096x512, .f32⟩
  | 61 => ⟨S4096x512, .f32⟩
  | 62 => ⟨S4096x512, .f32⟩
  | 63 => ⟨S4096x512, .f32⟩
  | 64 => ⟨S4096x512, .f32⟩
  | 65 => ⟨S4096x512, .f32⟩
  | 66 => ⟨S_, .f32⟩
  | 67 => ⟨S4096, .f32⟩
  | 68 => ⟨S4096x1, .f32⟩
  | 69 => ⟨S_, .f32⟩
  | 70 => ⟨S4096x1, .f32⟩
  | 71 => ⟨S4096x1, .f32⟩
  | 72 => ⟨S_, .f32⟩
  | 73 => ⟨S4096, .f32⟩
  | 74 => ⟨S4096x512, .f32⟩
  | 75 => ⟨S4096x512, .f32⟩
  | 76 => ⟨S1x512, .f32⟩
  | 77 => ⟨S1x512, .f32⟩
  | 78 => ⟨S4096x512, .f32⟩
  | 79 => ⟨S4096x512, .f32⟩
  | 80 => ⟨S_, .f32⟩
  | 81 => ⟨S4096x512, .f32⟩
  | 82 => ⟨S4096x512, .f32⟩
  | 83 => ⟨S4096x512, .f32⟩
  | 84 => ⟨S_, .f32⟩
  | 85 => ⟨S4096x512, .f32⟩
  | 86 => ⟨S4096x512, .f32⟩
  | 87 => ⟨S4096x512, .f32⟩
  | 88 => ⟨S4096x512, .f32⟩
  | 89 => ⟨S4096x512, .f32⟩
  | 90 => ⟨S4096x512, .f32⟩
  | 91 => ⟨S4096x512, .f32⟩
  | 92 => ⟨S4096x512, .f32⟩
  | 93 => ⟨S4096x512, .f32⟩
  | 94 => ⟨S_, .f32⟩
  | 95 => ⟨S4096x512, .f32⟩
  | 96 => ⟨S4096x512, .f32⟩
  | 97 => ⟨S4096x512, .f32⟩
  | 98 => ⟨S_, .f32⟩
  | 99 => ⟨S4096x512, .f32⟩
  | 100 => ⟨S4096x512, .f32⟩
  | 101 => ⟨S4096x512, .f32⟩
  | 102 => ⟨S4096x512, .f32⟩
  | 103 => ⟨S4096x512, .f32⟩
  | 104 => ⟨S4096x512, .f32⟩
  | 105 => ⟨S4096x512, .f32⟩
  | 106 => ⟨S4096x512, .bf16⟩
  | 107 => ⟨S4096x512, .bf16⟩
  | 108 => ⟨S4x256x128, .f32⟩
  | 109 => ⟨S4096x1024, .bf16⟩
  | 110 => ⟨S1024x4096, .bf16⟩
  | _ => ⟨S4096x4616, .f32⟩

abbrev hbmTy (i : Nat) : BufTy := match i / 128 with
  | 0 => hbmTy0_0 i
  | 1 => hbmTy0_1 i
  | _ => ⟨S4096x4616, .f32⟩

abbrev bufTy : (tb : Table) → Fin (tcTables nBuf tb) → BufTy
  | .hbm, ⟨i, _⟩ => hbmTy i
  | _, _ => ⟨S4096x4616, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_c_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst : Ref sig .tc := ⟨.hbm, 44, rfl⟩
abbrev main_cst_1 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst_2 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_3 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_4 : Ref sig .tc := ⟨.hbm, 60, rfl⟩
abbrev main_v28 : Ref sig .tc := ⟨.hbm, 61, rfl⟩
abbrev main_v29 : Ref sig .tc := ⟨.hbm, 62, rfl⟩
abbrev main_cst_5 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_6 : Ref sig .tc := ⟨.hbm, 67, rfl⟩
abbrev main_v33 : Ref sig .tc := ⟨.hbm, 68, rfl⟩
abbrev main_v34 : Ref sig .tc := ⟨.hbm, 69, rfl⟩
abbrev main_cst_7 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_cst_8 : Ref sig .tc := ⟨.hbm, 74, rfl⟩
abbrev main_cst_9 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst_10 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_cst_11 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_cst_12 : Ref sig .tc := ⟨.hbm, 90, rfl⟩
abbrev main_v50 : Ref sig .tc := ⟨.hbm, 91, rfl⟩
abbrev main_v51 : Ref sig .tc := ⟨.hbm, 92, rfl⟩
abbrev main_cst_13 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_cst_14 : Ref sig .tc := ⟨.hbm, 97, rfl⟩
abbrev main_v55 : Ref sig .tc := ⟨.hbm, 98, rfl⟩
abbrev main_v56 : Ref sig .tc := ⟨.hbm, 99, rfl⟩
abbrev main_cst_15 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_cst_16 : Ref sig .tc := ⟨.hbm, 106, rfl⟩
abbrev main_v62 : Ref sig .tc := ⟨.hbm, 107, rfl⟩
abbrev main_v63 : Ref sig .tc := ⟨.hbm, 108, rfl⟩
abbrev main_cst_17 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_cst_18 : Ref sig .tc := ⟨.hbm, 115, rfl⟩
abbrev main_v69 : Ref sig .tc := ⟨.hbm, 116, rfl⟩
abbrev main_v70 : Ref sig .tc := ⟨.hbm, 117, rfl⟩
abbrev main_cst_19 : Ref sig .tc := ⟨.hbm, 118, rfl⟩
abbrev main_v71 : Ref sig .tc := ⟨.hbm, 119, rfl⟩
abbrev main_v72 : Ref sig .tc := ⟨.hbm, 120, rfl⟩
abbrev main_cst_20 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_cst_21 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_cst_22 : Ref sig .tc := ⟨.hbm, 152, rfl⟩
abbrev main_v102 : Ref sig .tc := ⟨.hbm, 153, rfl⟩
abbrev main_v103 : Ref sig .tc := ⟨.hbm, 154, rfl⟩
abbrev main_cst_23 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_cst_24 : Ref sig .tc := ⟨.hbm, 163, rfl⟩
abbrev main_v111 : Ref sig .tc := ⟨.hbm, 164, rfl⟩
abbrev main_v112 : Ref sig .tc := ⟨.hbm, 165, rfl⟩
abbrev main_cst_25 : Ref sig .tc := ⟨.hbm, 166, rfl⟩
abbrev main_v113 : Ref sig .tc := ⟨.hbm, 167, rfl⟩
abbrev main_v114 : Ref sig .tc := ⟨.hbm, 168, rfl⟩
abbrev main_cst_26 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_cst_27 : Ref sig .tc := ⟨.hbm, 174, rfl⟩
abbrev main_v119 : Ref sig .tc := ⟨.hbm, 175, rfl⟩
abbrev main_v120 : Ref sig .tc := ⟨.hbm, 176, rfl⟩
abbrev main_cst_28 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_cst_29 : Ref sig .tc := ⟨.hbm, 183, rfl⟩
abbrev main_v126 : Ref sig .tc := ⟨.hbm, 184, rfl⟩
abbrev main_v127 : Ref sig .tc := ⟨.hbm, 185, rfl⟩
abbrev main_cst_30 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_cst_31 : Ref sig .tc := ⟨.hbm, 194, rfl⟩
abbrev main_v135 : Ref sig .tc := ⟨.hbm, 195, rfl⟩
abbrev main_v136 : Ref sig .tc := ⟨.hbm, 196, rfl⟩
abbrev main_cst_32 : Ref sig .tc := ⟨.hbm, 197, rfl⟩
abbrev main_v137 : Ref sig .tc := ⟨.hbm, 198, rfl⟩
abbrev main_v138 : Ref sig .tc := ⟨.hbm, 199, rfl⟩
abbrev main_cst_33 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_cst_34 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_cst_35 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_cst_36 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_cst_37 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩

abbrev nD : Nat := 1
abbrev τ : Topo := Topo.v7x

variable {F : FTy → Type} [FloatOps F]
-- ==== Act.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .bf16⟩
  | .hbm, ⟨3, _⟩ => ⟨S4096x1024, .f32⟩
  | .hbm, ⟨4, _⟩ => ⟨S4096x1024, .bf16⟩
  | .hbm, ⟨5, _⟩ => ⟨S4096x4096, .bf16⟩
  | .hbm, ⟨6, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ActRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Merge.lean ====
abbrev S4096x512 : Shape := ⟨2, ![4096, 512]⟩
abbrev S4096x2048 : Shape := ⟨2, ![4096, 2048]⟩
abbrev S1x512x1024 : Shape := ⟨3, ![1, 512, 1024]⟩
abbrev S_ : Shape := ⟨0, ![]⟩
abbrev S4096x3200 : Shape := ⟨2, ![4096, 3200]⟩
abbrev S512x1024 : Shape := ⟨2, ![512, 1024]⟩
abbrev S1024x512 : Shape := ⟨2, ![1024, 512]⟩
abbrev S4096x1024 : Shape := ⟨2, ![4096, 1024]⟩
abbrev S1024x4096 : Shape := ⟨2, ![1024, 4096]⟩
abbrev S512x512 : Shape := ⟨2, ![512, 512]⟩

abbrev nBuf : Space → Nat
  | .hbm => 20
  | .vmem => 18
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x2048, .f32⟩
  | .hbm, ⟨3, _⟩ => ⟨S1x512x1024, .f32⟩
  | .hbm, ⟨4, _⟩ => ⟨S1x512x1024, .f32⟩
  | .hbm, ⟨5, _⟩ => ⟨S_, .i32⟩
  | .hbm, ⟨6, _⟩ => ⟨S_, .f32⟩
  | .hbm, ⟨7, _⟩ => ⟨S4096x3200, .f32⟩
  | .hbm, ⟨8, _⟩ => ⟨S4096x3200, .bf16⟩
  | .hbm, ⟨9, _⟩ => ⟨S4096x512, .bf16⟩
  | .hbm, ⟨10, _⟩ => ⟨S512x1024, .f32⟩
  | .hbm, ⟨11, _⟩ => ⟨S1024x512, .f32⟩
  | .hbm, ⟨12, _⟩ => ⟨S1024x512, .bf16⟩
  | .hbm, ⟨13, _⟩ => ⟨S512x1024, .f32⟩
  | .hbm, ⟨14, _⟩ => ⟨S1024x512, .f32⟩
  | .hbm, ⟨15, _⟩ => ⟨S1024x512, .bf16⟩
  | .hbm, ⟨16, _⟩ => ⟨S4096x1024, .bf16⟩
  | .hbm, ⟨17, _⟩ => ⟨S4096x1024, .bf16⟩
  | .hbm, ⟨18, _⟩ => ⟨S4096x1024, .bf16⟩
  | .hbm, ⟨19, _⟩ => ⟨S1024x4096, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x512, .bf16⟩
  | .local _ .vmem, ⟨17, _⟩ => ⟨S1024x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S4096x512 : Shape := ⟨2, ![4096, 512]⟩
abbrev S4096x2048 : Shape := ⟨2, ![4096, 2048]⟩
abbrev S1x512x1024 : Shape := ⟨3, ![1, 512, 1024]⟩
abbrev S512x1024 : Shape := ⟨2, ![512, 1024]⟩
abbrev S4096x1024 : Shape := ⟨2, ![4096, 1024]⟩
abbrev S_ : Shape := ⟨0, ![]⟩
abbrev S1024x4096 : Shape := ⟨2, ![1024, 4096]⟩

abbrev nBuf : Space → Nat
  | .hbm => 34
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x2048, .f32⟩
  | .hbm, ⟨3, _⟩ => ⟨S1x512x1024, .f32⟩
  | .hbm, ⟨4, _⟩ => ⟨S1x512x1024, .f32⟩
  | .hbm, ⟨5, _⟩ => ⟨S512x1024, .f32⟩
  | .hbm, ⟨6, _⟩ => ⟨S4096x1024, .f32⟩
  | .hbm, ⟨7, _⟩ => ⟨S512x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .bf16⟩
  | .hbm, ⟨31, _⟩ => ⟨S4096x1024, .bf16⟩
  | .hbm, ⟨32, _⟩ => ⟨S4096x1024, .bf16⟩
  | .hbm, ⟨33, _⟩ => ⟨S1024x4096, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Resid.lean ====
abbrev S4096x1024 : Shape := ⟨2, ![4096, 1024]⟩
abbrev S1x4096x1024 : Shape := ⟨3, ![1, 4096, 1024]⟩
abbrev S1x1024x1024 : Shape := ⟨3, ![1, 1024, 1024]⟩
abbrev S1x1024 : Shape := ⟨2, ![1, 1024]⟩
abbrev S1024x1024 : Shape := ⟨2, ![1024, 1024]⟩
abbrev S1024x4096 : Shape := ⟨2, ![1024, 4096]⟩
abbrev S4096x1 : Shape := ⟨2, ![4096, 1]⟩
abbrev S512x1024 : Shape := ⟨2, ![512, 1024]⟩
abbrev S1024x512 : Shape := ⟨2, ![1024, 512]⟩
abbrev S512x1 : Shape := ⟨2, ![512, 1]⟩
abbrev S512 : Shape := ⟨1, ![512]⟩

abbrev nBuf : Space → Nat
  | .hbm => 12
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x4096x1024, .f32⟩
  | .hbm, ⟨2, _⟩ => ⟨S1x1024x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1024x1024, .f32⟩
  | .hbm, ⟨7, _⟩ => ⟨S1024x1024, .bf16⟩
  | .hbm, ⟨8, _⟩ => ⟨S4096x1024, .f32⟩
  | .hbm, ⟨9, _⟩ => ⟨S4096x1024, .bf16⟩
  | .hbm, ⟨10, _⟩ => ⟨S1024x4096, .bf16⟩
  | .hbm, ⟨11, _⟩ => ⟨S4096x1, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1024x512, .bf16⟩
  | .local _ .vmem, ⟨11, _⟩ => ⟨S1024x512, .bf16⟩
  | .local _ .vmem, ⟨12, _⟩ => ⟨S512x1, .f32⟩
  | .local _ .vmem, ⟨13, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ResidRefIdeal.lean ====
abbrev S4096x1024 : Shape := ⟨2, ![4096, 1024]⟩
abbrev S1x4096x1024 : Shape := ⟨3, ![1, 4096, 1024]⟩
abbrev S1x1024x1024 : Shape := ⟨3, ![1, 1024, 1024]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1024x4096 : Shape := ⟨2, ![1024, 4096]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x4096x1024, .f32⟩
  | .hbm, ⟨2, _⟩ => ⟨S1x1024x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | .hbm, ⟨26, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Rms.lean ====
abbrev S1x4096x1024 : Shape := ⟨3, ![1, 4096, 1024]⟩
abbrev S1x1024 : Shape := ⟨2, ![1, 1024]⟩
abbrev S4096x1024 : Shape := ⟨2, ![4096, 1024]⟩
abbrev S1024x4096 : Shape := ⟨2, ![1024, 4096]⟩
abbrev S4096x1 : Shape := ⟨2, ![4096, 1]⟩
abbrev S512x1024 : Shape := ⟨2, ![512, 1024]⟩
abbrev S1024x512 : Shape := ⟨2, ![1024, 512]⟩
abbrev S512x1 : Shape := ⟨2, ![512, 1]⟩
abbrev S512 : Shape := ⟨1, ![512]⟩

abbrev nBuf : Space → Nat
  | .hbm => 6
  | .vmem => 9
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S4096x1024, .f32⟩
  | .hbm, ⟨3, _⟩ => ⟨S4096x1024, .bf16⟩
  | .hbm, ⟨4, _⟩ => ⟨S1024x4096, .bf16⟩
  | .hbm, ⟨5, _⟩ => ⟨S4096x1, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x512, .bf16⟩
  | .local _ .vmem, ⟨6, _⟩ => ⟨S1024x512, .bf16⟩
  | .local _ .vmem, ⟨7, _⟩ => ⟨S512x1, .f32⟩
  | .local _ .vmem, ⟨8, _⟩ => ⟨S512x1, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RmsRefIdeal.lean ====
abbrev S1x4096x1024 : Shape := ⟨3, ![1, 4096, 1024]⟩
abbrev S1x1024 : Shape := ⟨2, ![1, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1024x4096 : Shape := ⟨2, ![1024, 4096]⟩

abbrev nBuf : Space → Nat
  | .hbm => 24
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S1024x4096, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== Cum.lean ====
abbrev S4096x8 : Shape := ⟨2, ![4096, 8]⟩
abbrev S1x8 : Shape := ⟨2, ![1, 8]⟩
abbrev S_ : Shape := ⟨0, ![]⟩
abbrev S4096x128 : Shape := ⟨2, ![4096, 128]⟩
abbrev S1x128 : Shape := ⟨2, ![1, 128]⟩
abbrev S512x128 : Shape := ⟨2, ![512, 128]⟩
abbrev S512x512 : Shape := ⟨2, ![512, 512]⟩

abbrev nBuf : Space → Nat
  | .hbm => 9
  | .vmem => 6
  | .smem => 0
  | _ => 0

abbrev bufTy : (tb : Table) → Fin (tcTables nBuf tb) → BufTy
  | .hbm, ⟨0, _⟩ => ⟨S4096x8, .f32⟩
  | .hbm, ⟨1, _⟩ => ⟨S1x8, .f32⟩
  | .hbm, ⟨2, _⟩ => ⟨S_, .i32⟩
  | .hbm, ⟨3, _⟩ => ⟨S_, .f32⟩
  | .hbm, ⟨4, _⟩ => ⟨S4096x128, .f32⟩
  | .hbm, ⟨5, _⟩ => ⟨S_, .i32⟩
  | .hbm, ⟨6, _⟩ => ⟨S_, .f32⟩
  | .hbm, ⟨7, _⟩ => ⟨S1x128, .f32⟩
  | .hbm, ⟨8, _⟩ => ⟨S4096x128, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S1x128, .f32⟩
  | _, _ => ⟨S4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== CumRefIdeal.lean ====
abbrev S4096x8 : Shape := ⟨2, ![4096, 8]⟩
abbrev S1x8 : Shape := ⟨2, ![1, 8]⟩
abbrev S_ : Shape := ⟨0, ![]⟩
abbrev S4096x128 : Shape := ⟨2, ![4096, 128]⟩
abbrev S1x128 : Shape := ⟨2, ![1, 128]⟩
abbrev S128 : Shape := ⟨1, ![128]⟩

abbrev nBuf : Space → Nat
  | .hbm => 31
  | .vmem => 0
  | .smem => 0
  | _ => 0

abbrev bufTy : (tb : Table) → Fin (tcTables nBuf tb) → BufTy
  | .hbm, ⟨0, _⟩ => ⟨S4096x8, .f32⟩
  | .hbm, ⟨1, _⟩ => ⟨S1x8, .f32⟩
  | .hbm, ⟨2, _⟩ => ⟨S_, .i32⟩
  | .hbm, ⟨3, _⟩ => ⟨S_, .f32⟩
  | .hbm, ⟨4, _⟩ => ⟨S4096x128, .f32⟩
  | .hbm, ⟨5, _⟩ => ⟨S_, .i32⟩
  | .hbm, ⟨6, _⟩ => ⟨S_, .f32⟩
  | .hbm, ⟨7, _⟩ => ⟨S1x128, .f32⟩
  | .hbm, ⟨8, _⟩ => ⟨S128, .f32⟩
  | .hbm, ⟨9, _⟩ => ⟨S1x128, .f32⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S_, .f32⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .i1⟩
  | .hbm, ⟨19, _⟩ => ⟨S4096x128, .f32⟩
  | .hbm, ⟨20, _⟩ => ⟨S4096x128, .f32⟩
  | .hbm, ⟨21, _⟩ => ⟨S4096x128, .f32⟩
  | .hbm, ⟨22, _⟩ => ⟨S4096x128, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S4096x128, .f32⟩
  | .hbm, ⟨27, _⟩ => ⟨S4096x128, .f32⟩
  | .hbm, ⟨28, _⟩ => ⟨S_, .f32⟩
  | .hbm, ⟨29, _⟩ => ⟨S_, .f32⟩
  | .hbm, ⟨30, _⟩ => ⟨S4096x128, .f32⟩
  | _, _ => ⟨S4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call2_v0 : Ref sig .tc := ⟨.hbm, 12, rfl⟩
abbrev main_call2_call0_cst : Ref sig .tc := ⟨.hbm, 13, rfl⟩
abbrev main_call2_call0_v0 : Ref sig .tc := ⟨.hbm, 14, rfl⟩
abbrev main_call2_call0_v1 : Ref sig .tc := ⟨.hbm, 15, rfl⟩
abbrev main_call2_call0_v2 : Ref sig .tc := ⟨.hbm, 16, rfl⟩
abbrev main_call2_call0_v3 : Ref sig .tc := ⟨.hbm, 17, rfl⟩
abbrev main_call2_call0_v4 : Ref sig .tc := ⟨.hbm, 18, rfl⟩
abbrev main_call2_call0_v5 : Ref sig .tc := ⟨.hbm, 19, rfl⟩
abbrev main_call2_call0_v6 : Ref sig .tc := ⟨.hbm, 20, rfl⟩
abbrev main_call2_call0_v7 : Ref sig .tc := ⟨.hbm, 21, rfl⟩
abbrev main_call2_call0_v8 : Ref sig .tc := ⟨.hbm, 22, rfl⟩
abbrev main_call2_call0_v9 : Ref sig .tc := ⟨.hbm, 23, rfl⟩
abbrev main_call2_call0_v10 : Ref sig .tc := ⟨.hbm, 24, rfl⟩
abbrev main_call2_call0_v11 : Ref sig .tc := ⟨.hbm, 25, rfl⟩
abbrev main_call2_v1 : Ref sig .tc := ⟨.hbm, 26, rfl⟩
abbrev main_v6 : Ref sig .tc := ⟨.hbm, 27, rfl⟩
abbrev main_call3_call0_cst : Ref sig .tc := ⟨.hbm, 28, rfl⟩
abbrev main_call3_call0_v0 : Ref sig .tc := ⟨.hbm, 29, rfl⟩
abbrev main_v7 : Ref sig .tc := ⟨.hbm, 30, rfl⟩

abbrev nD : Nat := 1
abbrev τ : Topo := Topo.v7x

variable {F : FTy → Type} [FloatOps F]
-- ==== Mix.lean ====
abbrev S4096x4616 : Shape := ⟨2, ![4096, 4616]⟩
abbrev S1x512 : Shape := ⟨2, ![1, 512]⟩
abbrev S1x8x128x128 : Shape := ⟨4, ![1, 8, 128, 128]⟩
abbrev S1x8x128 : Shape := ⟨3, ![1, 8, 128]⟩
abbrev S4096x3072 : Shape := ⟨2, ![4096, 3072]⟩
abbrev S4096x8 : Shape := ⟨2, ![4096, 8]⟩
abbrev S_ : Shape := ⟨0, ![]⟩
abbrev S4096x128 : Shape := ⟨2, ![4096, 128]⟩
abbrev S4096x3200 : Shape := ⟨2, ![4096, 3200]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x128x128 : Shape := ⟨3, ![8, 128, 128]⟩
abbrev S4x256x128 : Shape := ⟨3, ![4, 256, 128]⟩
abbrev S8x128 : Shape := ⟨2, ![8, 128]⟩
abbrev S8x64x128 : Shape := ⟨3, ![8, 64, 128]⟩
abbrev S512x128 : Shape := ⟨2, ![512, 128]⟩
abbrev S128x512 : Shape := ⟨2, ![128, 512]⟩
abbrev S4096x512 : Shape := ⟨2, ![4096, 512]⟩
abbrev S512x4096 : Shape := ⟨2, ![512, 4096]⟩
abbrev S512x512 : Shape := ⟨2, ![512, 512]⟩
abbrev S512 : Shape := ⟨1, ![512]⟩
abbrev S512x1 : Shape := ⟨2, ![512, 1]⟩
abbrev S1x256x128 : Shape := ⟨3, ![1, 256, 128]⟩
abbrev S256x128 : Shape := ⟨2, ![256, 128]⟩

abbrev nBuf : Space → Nat
  | .hbm => 51
  | .vmem => 12
  | .smem => 0
  | _ => 0

abbrev bufTy : (tb : Table) → Fin (tcTables nBuf tb) → BufTy
  | .hbm, ⟨0, _⟩ => ⟨S4096x4616, .f32⟩
  | .hbm, ⟨1, _⟩ => ⟨S1x512, .f32⟩
  | .hbm, ⟨2, _⟩ => ⟨S1x512, .f32⟩
  | .hbm, ⟨3, _⟩ => ⟨S1x8x128x128, .f32⟩
  | .hbm, ⟨4, _⟩ => ⟨S1x8x128, .f32⟩
  | .hbm, ⟨5, _⟩ => ⟨S4096x3072, .f32⟩
  | .hbm, ⟨6, _⟩ => ⟨S4096x8, .f32⟩
  | .hbm, ⟨7, _⟩ => ⟨S_, .i32⟩
  | .hbm, ⟨8, _⟩ => ⟨S_, .f32⟩
  | .hbm, ⟨9, _⟩ => ⟨S4096x128, .f32⟩
  | .hbm, ⟨10, _⟩ => ⟨S4096x3200, .f32⟩
  | .hbm, ⟨11, _⟩ => ⟨S4096x3200, .bf16⟩
  | .hbm, ⟨12, _⟩ => ⟨S128, .i32⟩
  | .hbm, ⟨13, _⟩ => ⟨S_, .i32⟩
  | .hbm, ⟨14, _⟩ => ⟨S_, .i32⟩
  | .hbm, ⟨15, _⟩ => ⟨S128, .i32⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S128, .i32⟩
  | .hbm, ⟨22, _⟩ => ⟨S128, .i32⟩
  | .hbm, ⟨23, _⟩ => ⟨S_, .i32⟩
  | .hbm, ⟨24, _⟩ => ⟨S128, .i32⟩
  | .hbm, ⟨25, _⟩ => ⟨S128, .i1⟩
  | .hbm, ⟨26, _⟩ => ⟨S128, .i1⟩
  | .hbm, ⟨27, _⟩ => ⟨S_, .i32⟩
  | .hbm, ⟨28, _⟩ => ⟨S128, .i32⟩
  | .hbm, ⟨29, _⟩ => ⟨S128, .i32⟩
  | .hbm, ⟨30, _⟩ => ⟨S128, .i32⟩
  | .hbm, ⟨31, _⟩ => ⟨S1x128, .i32⟩
  | .hbm, ⟨32, _⟩ => ⟨S128x1, .i32⟩
  | .hbm, ⟨33, _⟩ => ⟨S128x128, .i32⟩
  | .hbm, ⟨34, _⟩ => ⟨S128x128, .i32⟩
  | .hbm, ⟨35, _⟩ => ⟨S128x128, .i1⟩
  | .hbm, ⟨36, _⟩ => ⟨S1x128x128, .i1⟩
  | .hbm, ⟨37, _⟩ => ⟨S8x128x128, .f32⟩
  | .hbm, ⟨38, _⟩ => ⟨S_, .f32⟩
  | .hbm, ⟨39, _⟩ => ⟨S_, .f32⟩
  | .hbm, ⟨40, _⟩ => ⟨S8x128x128, .i1⟩
  | .hbm, ⟨41, _⟩ => ⟨S8x128x128, .f32⟩
  | .hbm, ⟨42, _⟩ => ⟨S8x128x128, .f32⟩
  | .hbm, ⟨43, _⟩ => ⟨S4x256x128, .f32⟩
  | .hbm, ⟨44, _⟩ => ⟨S4x256x128, .bf16⟩
  | .hbm, ⟨45, _⟩ => ⟨S8x128, .f32⟩
  | .hbm, ⟨46, _⟩ => ⟨S8x64x128, .f32⟩
  | .hbm, ⟨47, _⟩ => ⟨S512x128, .f32⟩
  | .hbm, ⟨48, _⟩ => ⟨S128x512, .f32⟩
  | .hbm, ⟨49, _⟩ => ⟨S4096x512, .bf16⟩
  | .hbm, ⟨50, _⟩ => ⟨S512x4096, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S1x512, .f32⟩
  | .local _ .vmem, ⟨6, _⟩ => ⟨S4x256x128, .bf16⟩
  | .local _ .vmem, ⟨7, _⟩ => ⟨S128x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | _, _ => ⟨S4096x4616, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_c : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_call1_c_0 : Ref sig .tc := ⟨.hbm, 27, rfl⟩
abbrev main_call1_v12 : Ref sig .tc := ⟨.hbm, 28, rfl⟩
abbrev main_call1_v13 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21_0 : Ref sig .tc := ⟨.hbm, 49, rfl⟩
abbrev main_v21_1 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixIdeal.lean ====
variable {F : FTy → Type} [FloatOps F] [Named F]
def κ : String → Option EReal := fun
  | "gelu_c" => some ((8943 / 200000 : ℝ) : EReal)
  | _ => none
-- ==== MixRefIdeal.lean ====
abbrev S4096x4616 : Shape := ⟨2, ![4096, 4616]⟩
abbrev S1x512 : Shape := ⟨2, ![1, 512]⟩
abbrev S1x8x128x128 : Shape := ⟨4, ![1, 8, 128, 128]⟩
abbrev S1x8x128 : Shape := ⟨3, ![1, 8, 128]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S512 : Shape := ⟨1, ![512]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x128x128 : Shape := ⟨3, ![8, 128, 128]⟩
abbrev S32x128x8x64 : Shape := ⟨4, ![32, 128, 8, 64]⟩
abbrev S8x32x64x128 : Shape := ⟨4, ![8, 32, 64, 128]⟩
abbrev S8x128 : Shape := ⟨2, ![8, 128]⟩
abbrev S128x8 : Shape := ⟨2, ![128, 8]⟩
abbrev S1x128x8x1 : Shape := ⟨4, ![1, 128, 8, 1]⟩
abbrev S512x4096 : Shape := ⟨2, ![512, 4096]⟩

abbrev nBuf : Space → Nat
  | .hbm => 117
  | .vmem => 0
  | .smem => 0
  | _ => 0

abbrev bufTy : (tb : Table) → Fin (tcTables nBuf tb) → BufTy
  | .hbm, ⟨0, _⟩ => ⟨S4096x4616, .f32⟩
  | .hbm, ⟨1, _⟩ => ⟨S1x512, .f32⟩
  | .hbm, ⟨2, _⟩ => ⟨S1x512, .f32⟩
  | .hbm, ⟨3, _⟩ => ⟨S1x8x128x128, .f32⟩
  | .hbm, ⟨4, _⟩ => ⟨S1x8x128, .f32⟩
  | .hbm, ⟨5, _⟩ => ⟨S4096x512, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S_, .f32⟩
  | .hbm, ⟨19, _⟩ => ⟨S4096x512, .f32⟩
  | .hbm, ⟨20, _⟩ => ⟨S4096x512, .f32⟩
  | .hbm, ⟨21, _⟩ => ⟨S_, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S_, .f32⟩
  | .hbm, ⟨39, _⟩ => ⟨S4096x512, .f32⟩
  | .hbm, ⟨40, _⟩ => ⟨S4096x512, .f32⟩
  | .hbm, ⟨41, _⟩ => ⟨S_, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S4096x512, .f32⟩
  | .hbm, ⟨65, _⟩ => ⟨S4096x512, .f32⟩
  | .hbm, ⟨66, _⟩ => ⟨S512, .f32⟩
  | .hbm, ⟨67, _⟩ => ⟨S1x512, .f32⟩
  | .hbm, ⟨68, _⟩ => ⟨S4096x512, .f32⟩
  | .hbm, ⟨69, _⟩ => ⟨S4096x512, .f32⟩
  | .hbm, ⟨70, _⟩ => ⟨S512, .f32⟩
  | .hbm, ⟨71, _⟩ => ⟨S1x512, .f32⟩
  | .hbm, ⟨72, _⟩ => ⟨S4096x512, .f32⟩
  | .hbm, ⟨73, _⟩ => ⟨S4096x512, .f32⟩
  | .hbm, ⟨74, _⟩ => ⟨S128, .i32⟩
  | .hbm, ⟨75, _⟩ => ⟨S_, .i32⟩
  | .hbm, ⟨76, _⟩ => ⟨S_, .i32⟩
  | .hbm, ⟨77, _⟩ => ⟨S128, .i32⟩
  | .hbm, ⟨78, _⟩ => ⟨S128, .i32⟩
  | .hbm, ⟨79, _⟩ => ⟨S128, .i32⟩
  | .hbm, ⟨80, _⟩ => ⟨S_, .i32⟩
  | .hbm, ⟨81, _⟩ => ⟨S128, .i32⟩
  | .hbm, ⟨82, _⟩ => ⟨S128, .i1⟩
  | .hbm, ⟨83, _⟩ => ⟨S128, .i32⟩
  | .hbm, ⟨84, _⟩ => ⟨S128, .i32⟩
  | .hbm, ⟨85, _⟩ => ⟨S_, .i32⟩
  | .hbm, ⟨86, _⟩ => ⟨S128, .i32⟩
  | .hbm, ⟨87, _⟩ => ⟨S128, .i1⟩
  | .hbm, ⟨88, _⟩ => ⟨S128, .i1⟩
  | .hbm, ⟨89, _⟩ => ⟨S_, .i32⟩
  | .hbm, ⟨90, _⟩ => ⟨S128, .i32⟩
  | .hbm, ⟨91, _⟩ => ⟨S128, .i32⟩
  | .hbm, ⟨92, _⟩ => ⟨S128, .i32⟩
  | .hbm, ⟨93, _⟩ => ⟨S1x128, .i32⟩
  | .hbm, ⟨94, _⟩ => ⟨S128x1, .i32⟩
  | .hbm, ⟨95, _⟩ => ⟨S128x128, .i32⟩
  | .hbm, ⟨96, _⟩ => ⟨S128x128, .i32⟩
  | .hbm, ⟨97, _⟩ => ⟨S128x128, .i1⟩
  | .hbm, ⟨98, _⟩ => ⟨S1x128x128, .i1⟩
  | .hbm, ⟨99, _⟩ => ⟨S8x128x128, .f32⟩
  | .hbm, ⟨100, _⟩ => ⟨S_, .i32⟩
  | .hbm, ⟨101, _⟩ => ⟨S_, .f32⟩
  | .hbm, ⟨102, _⟩ => ⟨S8x128x128, .i1⟩
  | .hbm, ⟨103, _⟩ => ⟨S8x128x128, .f32⟩
  | .hbm, ⟨104, _⟩ => ⟨S8x128x128, .f32⟩
  | .hbm, ⟨105, _⟩ => ⟨S32x128x8x64, .f32⟩
  | .hbm, ⟨106, _⟩ => ⟨S8x32x64x128, .f32⟩
  | .hbm, ⟨107, _⟩ => ⟨S32x128x8x64, .f32⟩
  | .hbm, ⟨108, _⟩ => ⟨S8x128, .f32⟩
  | .hbm, ⟨109, _⟩ => ⟨S128x8, .f32⟩
  | .hbm, ⟨110, _⟩ => ⟨S1x128x8x1, .f32⟩
  | .hbm, ⟨111, _⟩ => ⟨S32x128x8x64, .f32⟩
  | .hbm, ⟨112, _⟩ => ⟨S32x128x8x64, .f32⟩
  | .hbm, ⟨113, _⟩ => ⟨S4096x512, .f32⟩
  | .hbm, ⟨114, _⟩ => ⟨S4096x512, .f32⟩
  | .hbm, ⟨115, _⟩ => ⟨S4096x512, .bf16⟩
  | .hbm, ⟨116, _⟩ => ⟨S512x4096, .bf16⟩
  | _, _ => ⟨S4096x4616, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_v5 : Ref sig .tc := ⟨.hbm, 81, rfl⟩
abbrev main_call0_v6 : Ref sig .tc := ⟨.hbm, 82, rfl⟩
abbrev main_call0_v7 : Ref sig .tc := ⟨.hbm, 83, rfl⟩
abbrev main_call0_v8 : Ref sig .tc := ⟨.hbm, 84, rfl⟩
abbrev main_call0_c : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_call0_c_0 : Ref sig .tc := ⟨.hbm, 89, rfl⟩
abbrev main_call0_v12 : Ref sig .tc := ⟨.hbm, 90, rfl⟩
abbrev main_call0_v13 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_c_14 : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩

abbrev nD : Nat := 1
abbrev τ : Topo := Topo.v7x

variable {F : FTy → Type} [FloatOps F]
-- ==== Gw.lean ====
abbrev S4096x4096 : Shape := ⟨2, ![4096, 4096]⟩
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .bf16⟩
  | .hbm, ⟨3, _⟩ => ⟨S4096x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v5 : BitVec 32 := Scalar.extui v0
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32 : BitVec 32 := 0#32
  let v0 : BitVec 1 := Scalar.cmpi .eq arg2 c0_i32
  let v_true : BitVec 1 := 1#1
  let v7 : BitVec 1 := Scalar.xori v0 v_true
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwRefIdeal.lean ====
abbrev S4096x4096 : Shape := ⟨2, ![4096, 4096]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .bf16⟩
  | .hbm, ⟨3, _⟩ => ⟨S4096x4096, .f32⟩
  | .hbm, ⟨4, _⟩ => ⟨S4096x1024, .f32⟩
  | .hbm, ⟨5, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Rest.lean ====
abbrev S4096x1024 : Shape := ⟨2, ![4096, 1024]⟩
abbrev S1x1024x4616 : Shape := ⟨3, ![1, 1024, 4616]⟩
abbrev S1024x4616 : Shape := ⟨2, ![1024, 4616]⟩
abbrev S4616x1024 : Shape := ⟨2, ![4616, 1024]⟩
abbrev S3072x1024 : Shape := ⟨2, ![3072, 1024]⟩
abbrev S8x1024 : Shape := ⟨2, ![8, 1024]⟩
abbrev S_ : Shape := ⟨0, ![]⟩
abbrev S128x1024 : Shape := ⟨2, ![128, 1024]⟩
abbrev S3200x1024 : Shape := ⟨2, ![3200, 1024]⟩
abbrev S4096x3200 : Shape := ⟨2, ![4096, 3200]⟩
abbrev S4096x128 : Shape := ⟨2, ![4096, 128]⟩
abbrev S512x1024 : Shape := ⟨2, ![512, 1024]⟩
abbrev S512x3200 : Shape := ⟨2, ![512, 3200]⟩
abbrev S512x128 : Shape := ⟨2, ![512, 128]⟩

abbrev nBuf : Space → Nat
  | .hbm => 13
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1x1024x4616, .f32⟩
  | .hbm, ⟨2, _⟩ => ⟨S1024x4616, .f32⟩
  | .hbm, ⟨3, _⟩ => ⟨S4616x1024, .f32⟩
  | .hbm, ⟨4, _⟩ => ⟨S4616x1024, .bf16⟩
  | .hbm, ⟨5, _⟩ => ⟨S3072x1024, .bf16⟩
  | .hbm, ⟨6, _⟩ => ⟨S8x1024, .bf16⟩
  | .hbm, ⟨7, _⟩ => ⟨S_, .i32⟩
  | .hbm, ⟨8, _⟩ => ⟨S_, .bf16⟩
  | .hbm, ⟨9, _⟩ => ⟨S128x1024, .bf16⟩
  | .hbm, ⟨10, _⟩ => ⟨S3200x1024, .bf16⟩
  | .hbm, ⟨11, _⟩ => ⟨S4096x3200, .bf16⟩
  | .hbm, ⟨12, _⟩ => ⟨S4096x128, .f32⟩
  | .local _ .vmem, ⟨0, _⟩ => ⟨S512x1024, .bf16⟩
  | .local _ .vmem, ⟨1, _⟩ => ⟨S512x1024, .bf16⟩
  | .local _ .vmem, ⟨2, _⟩ => ⟨S3200x1024, .bf16⟩
  | .local _ .vmem, ⟨3, _⟩ => ⟨S512x3200, .bf16⟩
  | .local _ .vmem, ⟨4, _⟩ => ⟨S512x3200, .bf16⟩
  | .local _ .vmem, ⟨5, _⟩ => ⟨S512x128, .f32⟩
  | .local _ .vmem, ⟨6, _⟩ => ⟨S512x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3200x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x3200 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== RestRefIdeal.lean ====
abbrev S4096x1024 : Shape := ⟨2, ![4096, 1024]⟩
abbrev S1x1024x4616 : Shape := ⟨3, ![1, 1024, 4616]⟩
abbrev S1024x4616 : Shape := ⟨2, ![1024, 4616]⟩
abbrev S1024x3080 : Shape := ⟨2, ![1024, 3080]⟩
abbrev S4096x3080 : Shape := ⟨2, ![4096, 3080]⟩
abbrev S4096x8 : Shape := ⟨2, ![4096, 8]⟩
abbrev S4096x3072 : Shape := ⟨2, ![4096, 3072]⟩
abbrev S_ : Shape := ⟨0, ![]⟩
abbrev S4096x128 : Shape := ⟨2, ![4096, 128]⟩
abbrev S4096x3200 : Shape := ⟨2, ![4096, 3200]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024x4616, .f32⟩
  | .hbm, ⟨2, _⟩ => ⟨S4096x1024, .f32⟩
  | .hbm, ⟨3, _⟩ => ⟨S1024x4616, .f32⟩
  | .hbm, ⟨4, _⟩ => ⟨S1024x3080, .f32⟩
  | .hbm, ⟨5, _⟩ => ⟨S1024x3080, .bf16⟩
  | .hbm, ⟨6, _⟩ => ⟨S1024x3080, .f32⟩
  | .hbm, ⟨7, _⟩ => ⟨S4096x3080, .f32⟩
  | .hbm, ⟨8, _⟩ => ⟨S4096x8, .f32⟩
  | .hbm, ⟨9, _⟩ => ⟨S4096x3072, .f32⟩
  | .hbm, ⟨10, _⟩ => ⟨S_, .i32⟩
  | .hbm, ⟨11, _⟩ => ⟨S_, .f32⟩
  | .hbm, ⟨12, _⟩ => ⟨S4096x128, .f32⟩
  | .hbm, ⟨13, _⟩ => ⟨S4096x3200, .f32⟩
  | .hbm, ⟨14, _⟩ => ⟨S4096x3200, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Adam.lean ====
abbrev S1024x512 : Shape := ⟨2, ![1024, 512]⟩
abbrev S3x1024x512 : Shape := ⟨3, ![3, 1024, 512]⟩
abbrev S1x1024x512 : Shape := ⟨3, ![1, 1024, 512]⟩
abbrev S512x512 : Shape := ⟨2, ![512, 512]⟩
abbrev S3x512x512 : Shape := ⟨3, ![3, 512, 512]⟩
abbrev S1x512x512 : Shape := ⟨3, ![1, 512, 512]⟩

abbrev nBuf : Space → Nat
  | .hbm => 12
  | .vmem => 18
  | .smem => 0
  | _ => 0

abbrev bufTy : (tb : Table) → Fin (tcTables nBuf tb) → BufTy
  | .hbm, ⟨0, _⟩ => ⟨S1024x512, .f32⟩
  | .hbm, ⟨1, _⟩ => ⟨S3x1024x512, .bf16⟩
  | .hbm, ⟨2, _⟩ => ⟨S1x1024x512, .f32⟩
  | .hbm, ⟨3, _⟩ => ⟨S1x1024x512, .f32⟩
  | .hbm, ⟨4, _⟩ => ⟨S1x1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S3x512x512, .bf16⟩
  | .local _ .vmem, ⟨3, _⟩ => ⟨S3x512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamRefIdeal.lean ====
abbrev S1024x512 : Shape := ⟨2, ![1024, 512]⟩
abbrev S3x1024x512 : Shape := ⟨3, ![3, 1024, 512]⟩
abbrev S1x1024x512 : Shape := ⟨3, ![1, 1024, 512]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S3x1024x512, .bf16⟩
  | .hbm, ⟨2, _⟩ => ⟨S1x1024x512, .f32⟩
  | .hbm, ⟨3, _⟩ => ⟨S1x1024x512, .f32⟩
  | .hbm, ⟨4, _⟩ => ⟨S1x1024x512, .f32⟩
  | .hbm, ⟨5, _⟩ => ⟨S3x1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S_, .f32⟩
  | .hbm, ⟨39, _⟩ => ⟨S1024x512, .f32⟩
  | .hbm, ⟨40, _⟩ => ⟨S1024x512, .f32⟩
  | .hbm, ⟨41, _⟩ => ⟨S1024x512, .f32⟩
  | .hbm, ⟨42, _⟩ => ⟨S_, .f32⟩
  | .hbm, ⟨43, _⟩ => ⟨S1024x512, .f32⟩
  | .hbm, ⟨44, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Tiny.lean ====
abbrev S8x1056x128 : Shape := ⟨3, ![8, 1056, 128]⟩
abbrev S1x8x128 : Shape := ⟨3, ![1, 8, 128]⟩
abbrev S1x1024 : Shape := ⟨2, ![1, 1024]⟩
abbrev S1024 : Shape := ⟨1, ![1024]⟩
abbrev S1x512 : Shape := ⟨2, ![1, 512]⟩
abbrev S_ : Shape := ⟨0, ![]⟩
abbrev S8x128 : Shape := ⟨2, ![8, 128]⟩
abbrev S512 : Shape := ⟨1, ![512]⟩
abbrev S4x128 : Shape := ⟨2, ![4, 128]⟩
abbrev S32x128 : Shape := ⟨2, ![32, 128]⟩
abbrev S8x32x128 : Shape := ⟨3, ![8, 32, 128]⟩
abbrev S1x32x128 : Shape := ⟨3, ![1, 32, 128]⟩

abbrev nBuf : Space → Nat
  | .hbm => 104
  | .vmem => 8
  | .smem => 0
  | _ => 0

abbrev bufTy : (tb : Table) → Fin (tcTables nBuf tb) → BufTy
  | .hbm, ⟨0, _⟩ => ⟨S8x1056x128, .f32⟩
  | .hbm, ⟨1, _⟩ => ⟨S1x8x128, .f32⟩
  | .hbm, ⟨2, _⟩ => ⟨S1x1024, .f32⟩
  | .hbm, ⟨3, _⟩ => ⟨S1024, .f32⟩
  | .hbm, ⟨4, _⟩ => ⟨S1x512, .f32⟩
  | .hbm, ⟨5, _⟩ => ⟨S1x512, .f32⟩
  | .hbm, ⟨6, _⟩ => ⟨S1x8x128, .f32⟩
  | .hbm, ⟨7, _⟩ => ⟨S1x1024, .f32⟩
  | .hbm, ⟨8, _⟩ => ⟨S1024, .f32⟩
  | .hbm, ⟨9, _⟩ => ⟨S1x512, .f32⟩
  | .hbm, ⟨10, _⟩ => ⟨S1x512, .f32⟩
  | .hbm, ⟨11, _⟩ => ⟨S1x8x128, .f32⟩
  | .hbm, ⟨12, _⟩ => ⟨S1x1024, .f32⟩
  | .hbm, ⟨13, _⟩ => ⟨S1024, .f32⟩
  | .hbm, ⟨14, _⟩ => ⟨S1x512, .f32⟩
  | .hbm, ⟨15, _⟩ => ⟨S1x512, .f32⟩
  | .hbm, ⟨16, _⟩ => ⟨S1024, .f32⟩
  | .hbm, ⟨17, _⟩ => ⟨S_, .i32⟩
  | .hbm, ⟨18, _⟩ => ⟨S_, .f32⟩
  | .hbm, ⟨19, _⟩ => ⟨S1024, .f32⟩
  | .hbm, ⟨20, _⟩ => ⟨S8x128, .f32⟩
  | .hbm, ⟨21, _⟩ => ⟨S1024, .f32⟩
  | .hbm, ⟨22, _⟩ => ⟨S_, .i32⟩
  | .hbm, ⟨23, _⟩ => ⟨S_, .f32⟩
  | .hbm, ⟨24, _⟩ => ⟨S1024, .f32⟩
  | .hbm, ⟨25, _⟩ => ⟨S8x128, .f32⟩
  | .hbm, ⟨26, _⟩ => ⟨S_, .i32⟩
  | .hbm, ⟨27, _⟩ => ⟨S_, .f32⟩
  | .hbm, ⟨28, _⟩ => ⟨S1024, .f32⟩
  | .hbm, ⟨29, _⟩ => ⟨S8x128, .f32⟩
  | .hbm, ⟨30, _⟩ => ⟨S512, .f32⟩
  | .hbm, ⟨31, _⟩ => ⟨S_, .i32⟩
  | .hbm, ⟨32, _⟩ => ⟨S_, .f32⟩
  | .hbm, ⟨33, _⟩ => ⟨S512, .f32⟩
  | .hbm, ⟨34, _⟩ => ⟨S4x128, .f32⟩
  | .hbm, ⟨35, _⟩ => ⟨S512, .f32⟩
  | .hbm, ⟨36, _⟩ => ⟨S_, .i32⟩
  | .hbm, ⟨37, _⟩ => ⟨S_, .f32⟩
  | .hbm, ⟨38, _⟩ => ⟨S512, .f32⟩
  | .hbm, ⟨39, _⟩ => ⟨S4x128, .f32⟩
  | .hbm, ⟨40, _⟩ => ⟨S32x128, .f32⟩
  | .hbm, ⟨41, _⟩ => ⟨S_, .i32⟩
  | .hbm, ⟨42, _⟩ => ⟨S_, .f32⟩
  | .hbm, ⟨43, _⟩ => ⟨S32x128, .f32⟩
  | .hbm, ⟨44, _⟩ => ⟨S1024, .f32⟩
  | .hbm, ⟨45, _⟩ => ⟨S_, .i32⟩
  | .hbm, ⟨46, _⟩ => ⟨S_, .f32⟩
  | .hbm, ⟨47, _⟩ => ⟨S1024, .f32⟩
  | .hbm, ⟨48, _⟩ => ⟨S8x128, .f32⟩
  | .hbm, ⟨49, _⟩ => ⟨S1024, .f32⟩
  | .hbm, ⟨50, _⟩ => ⟨S_, .i32⟩
  | .hbm, ⟨51, _⟩ => ⟨S_, .f32⟩
  | .hbm, ⟨52, _⟩ => ⟨S1024, .f32⟩
  | .hbm, ⟨53, _⟩ => ⟨S8x128, .f32⟩
  | .hbm, ⟨54, _⟩ => ⟨S_, .i32⟩
  | .hbm, ⟨55, _⟩ => ⟨S_, .f32⟩
  | .hbm, ⟨56, _⟩ => ⟨S1024, .f32⟩
  | .hbm, ⟨57, _⟩ => ⟨S8x128, .f32⟩
  | .hbm, ⟨58, _⟩ => ⟨S512, .f32⟩
  | .hbm, ⟨59, _⟩ => ⟨S_, .i32⟩
  | .hbm, ⟨60, _⟩ => ⟨S_, .f32⟩
  | .hbm, ⟨61, _⟩ => ⟨S512, .f32⟩
  | .hbm, ⟨62, _⟩ => ⟨S4x128, .f32⟩
  | .hbm, ⟨63, _⟩ => ⟨S512, .f32⟩
  | .hbm, ⟨64, _⟩ => ⟨S_, .i32⟩
  | .hbm, ⟨65, _⟩ => ⟨S_, .f32⟩
  | .hbm, ⟨66, _⟩ => ⟨S512, .f32⟩
  | .hbm, ⟨67, _⟩ => ⟨S4x128, .f32⟩
  | .hbm, ⟨68, _⟩ => ⟨S32x128, .f32⟩
  | .hbm, ⟨69, _⟩ => ⟨S_, .i32⟩
  | .hbm, ⟨70, _⟩ => ⟨S_, .f32⟩
  | .hbm, ⟨71, _⟩ => ⟨S32x128, .f32⟩
  | .hbm, ⟨72, _⟩ => ⟨S1024, .f32⟩
  | .hbm, ⟨73, _⟩ => ⟨S_, .i32⟩
  | .hbm, ⟨74, _⟩ => ⟨S_, .f32⟩
  | .hbm, ⟨75, _⟩ => ⟨S1024, .f32⟩
  | .hbm, ⟨76, _⟩ => ⟨S8x128, .f32⟩
  | .hbm, ⟨77, _⟩ => ⟨S1024, .f32⟩
  | .hbm, ⟨78, _⟩ => ⟨S_, .i32⟩
  | .hbm, ⟨79, _⟩ => ⟨S_, .f32⟩
  | .hbm, ⟨80, _⟩ => ⟨S1024, .f32⟩
  | .hbm, ⟨81, _⟩ => ⟨S8x128, .f32⟩
  | .hbm, ⟨82, _⟩ => ⟨S_, .i32⟩
  | .hbm, ⟨83, _⟩ => ⟨S_, .f32⟩
  | .hbm, ⟨84, _⟩ => ⟨S1024, .f32⟩
  | .hbm, ⟨85, _⟩ => ⟨S8x128, .f32⟩
  | .hbm, ⟨86, _⟩ => ⟨S512, .f32⟩
  | .hbm, ⟨87, _⟩ => ⟨S_, .i32⟩
  | .hbm, ⟨88, _⟩ => ⟨S_, .f32⟩
  | .hbm, ⟨89, _⟩ => ⟨S512, .f32⟩
  | .hbm, ⟨90, _⟩ => ⟨S4x128, .f32⟩
  | .hbm, ⟨91, _⟩ => ⟨S512, .f32⟩
  | .hbm, ⟨92, _⟩ => ⟨S_, .i32⟩
  | .hbm, ⟨93, _⟩ => ⟨S_, .f32⟩
  | .hbm, ⟨94, _⟩ => ⟨S512, .f32⟩
  | .hbm, ⟨95, _⟩ => ⟨S4x128, .f32⟩
  | .hbm, ⟨96, _⟩ => ⟨S32x128, .f32⟩
  | .hbm, ⟨97, _⟩ => ⟨S_, .i32⟩
  | .hbm, ⟨98, _⟩ => ⟨S_, .f32⟩
  | .hbm, ⟨99, _⟩ => ⟨S32x128, .f32⟩
  | .hbm, ⟨100, _⟩ => ⟨S32x128, .f32⟩
  | .hbm, ⟨101, _⟩ => ⟨S32x128, .f32⟩
  | .hbm, ⟨102, _⟩ => ⟨S32x128, .f32⟩
  | .hbm, ⟨103, _⟩ => ⟨S32x128, .f32⟩
  | .local _ .vmem, ⟨0, _⟩ => ⟨S8x32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | _, _ => ⟨S8x1056x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_call1_v0 : Ref sig .tc := ⟨.hbm, 23, rfl⟩
abbrev main_v4 : Ref sig .tc := ⟨.hbm, 24, rfl⟩
abbrev main_v5 : Ref sig .tc := ⟨.hbm, 25, rfl⟩
abbrev main_c_1 : Ref sig .tc := ⟨.hbm, 26, rfl⟩
abbrev main_call2_v0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c_2 : Ref sig .tc := ⟨.hbm, 31, rfl⟩
abbrev main_call3_v0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_c_3 : Ref sig .tc := ⟨.hbm, 36, rfl⟩
abbrev main_call4_v0 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_c_4 : Ref sig .tc := ⟨.hbm, 41, rfl⟩
abbrev main_call5_v0 : Ref sig .tc := ⟨.hbm, 42, rfl⟩
abbrev main_v15 : Ref sig .tc := ⟨.hbm, 43, rfl⟩
abbrev main_v16 : Ref sig .tc := ⟨.hbm, 44, rfl⟩
abbrev main_c_5 : Ref sig .tc := ⟨.hbm, 45, rfl⟩
abbrev main_call6_v0 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_c_6 : Ref sig .tc := ⟨.hbm, 50, rfl⟩
abbrev main_call7_v0 : Ref sig .tc := ⟨.hbm, 51, rfl⟩
abbrev main_v20 : Ref sig .tc := ⟨.hbm, 52, rfl⟩
abbrev main_v21 : Ref sig .tc := ⟨.hbm, 53, rfl⟩
abbrev main_c_7 : Ref sig .tc := ⟨.hbm, 54, rfl⟩
abbrev main_call8_v0 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_c_8 : Ref sig .tc := ⟨.hbm, 59, rfl⟩
abbrev main_call9_v0 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_c_9 : Ref sig .tc := ⟨.hbm, 64, rfl⟩
abbrev main_call10_v0 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_c_10 : Ref sig .tc := ⟨.hbm, 69, rfl⟩
abbrev main_call11_v0 : Ref sig .tc := ⟨.hbm, 70, rfl⟩
abbrev main_v31 : Ref sig .tc := ⟨.hbm, 71, rfl⟩
abbrev main_v32 : Ref sig .tc := ⟨.hbm, 72, rfl⟩
abbrev main_c_11 : Ref sig .tc := ⟨.hbm, 73, rfl⟩
abbrev main_call12_v0 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_c_12 : Ref sig .tc := ⟨.hbm, 78, rfl⟩
abbrev main_call13_v0 : Ref sig .tc := ⟨.hbm, 79, rfl⟩
abbrev main_v36 : Ref sig .tc := ⟨.hbm, 80, rfl⟩
abbrev main_v37 : Ref sig .tc := ⟨.hbm, 81, rfl⟩
abbrev main_c_13 : Ref sig .tc := ⟨.hbm, 82, rfl⟩
abbrev main_call14_v0 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_c_14 : Ref sig .tc := ⟨.hbm, 87, rfl⟩
abbrev main_call15_v0 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_c_15 : Ref sig .tc := ⟨.hbm, 92, rfl⟩
abbrev main_call16_v0 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_c_16 : Ref sig .tc := ⟨.hbm, 97, rfl⟩
abbrev main_call17_v0 : Ref sig .tc := ⟨.hbm, 98, rfl⟩
abbrev main_v47 : Ref sig .tc := ⟨.hbm, 99, rfl⟩
abbrev main_v48_0 : Ref sig .tc := ⟨.hbm, 100, rfl⟩
abbrev main_v48_1 : Ref sig .tc := ⟨.hbm, 101, rfl⟩
abbrev main_v48_2 : Ref sig .tc := ⟨.hbm, 102, rfl⟩
abbrev main_v48_3 : Ref sig .tc := ⟨.hbm, 103, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c32_i32 : BitVec 32 := 32#32
  let c0_i32_0 : BitVec 32 := 0#32
  let c0_i32_1 : BitVec 32 := 0#32
  ![c0_i32.toNat, c32_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== TinyRefIdeal.lean ====
abbrev S8x1056x128 : Shape := ⟨3, ![8, 1056, 128]⟩
abbrev S1x8x128 : Shape := ⟨3, ![1, 8, 128]⟩
abbrev S1x1024 : Shape := ⟨2, ![1, 1024]⟩
abbrev S1024 : Shape := ⟨1, ![1024]⟩
abbrev S1x512 : Shape := ⟨2, ![1, 512]⟩
abbrev S_ : Shape := ⟨0, ![]⟩
abbrev S1056x128 : Shape := ⟨2, ![1056, 128]⟩
abbrev S8x128 : Shape := ⟨2, ![8, 128]⟩
abbrev S4x128 : Shape := ⟨2, ![4, 128]⟩
abbrev S32x128 : Shape := ⟨2, ![32, 128]⟩

abbrev nBuf : Space → Nat
  | .hbm => 217
  | .vmem => 0
  | .smem => 0
  | _ => 0

abbrev hbmTy0_0 (i : Nat) : BufTy := match i % 128 with
  | 0 => ⟨S8x1056x128, .f32⟩
  | 1 => ⟨S1x8x128, .f32⟩
  | 2 => ⟨S1x1024, .f32⟩
  | 3 => ⟨S1024, .f32⟩
  | 4 => ⟨S1x512, .f32⟩
  | 5 => ⟨S1x512, .f32⟩
  | 6 => ⟨S1x8x128, .f32⟩
  | 7 => ⟨S1x1024, .f32⟩
  | 8 => ⟨S1024, .f32⟩
  | 9 => ⟨S1x512, .f32⟩
  | 10 => ⟨S1x512, .f32⟩
  | 11 => ⟨S1x8x128, .f32⟩
  | 12 => ⟨S1x1024, .f32⟩
  | 13 => ⟨S1024, .f32⟩
  | 14 => ⟨S1x512, .f32⟩
  | 15 => ⟨S1x512, .f32⟩
  | 16 => ⟨S_, .f32⟩
  | 17 => ⟨S1056x128, .f32⟩
  | 18 => ⟨S8x128, .f32⟩
  | 19 => ⟨S1x8x128, .f32⟩
  | 20 => ⟨S_, .f32⟩
  | 21 => ⟨S1x8x128, .f32⟩
  | 22 => ⟨S1x8x128, .f32⟩
  | 23 => ⟨S_, .f32⟩
  | 24 => ⟨S1x8x128, .f32⟩
  | 25 => ⟨S1x8x128, .f32⟩
  | 26 => ⟨S1x8x128, .f32⟩
  | 27 => ⟨S_, .f32⟩
  | 28 => ⟨S1x8x128, .f32⟩
  | 29 => ⟨S1x8x128, .f32⟩
  | 30 => ⟨S1x8x128, .f32⟩
  | 31 => ⟨S_, .f32⟩
  | 32 => ⟨S1x8x128, .f32⟩
  | 33 => ⟨S1x8x128, .f32⟩
  | 34 => ⟨S1x8x128, .f32⟩
  | 35 => ⟨S_, .f32⟩
  | 36 => ⟨S1x8x128, .f32⟩
  | 37 => ⟨S1x8x128, .f32⟩
  | 38 => ⟨S_, .f32⟩
  | 39 => ⟨S1x8x128, .f32⟩
  | 40 => ⟨S1x8x128, .f32⟩
  | 41 => ⟨S1x8x128, .f32⟩
  | 42 => ⟨S_, .f32⟩
  | 43 => ⟨S1x8x128, .f32⟩
  | 44 => ⟨S1x8x128, .f32⟩
  | 45 => ⟨S1x8x128, .f32⟩
  | 46 => ⟨S_, .f32⟩
  | 47 => ⟨S1x8x128, .f32⟩
  | 48 => ⟨S1x8x128, .f32⟩
  | 49 => ⟨S1x8x128, .f32⟩
  | 50 => ⟨S_, .f32⟩
  | 51 => ⟨S1x8x128, .f32⟩
  | 52 => ⟨S1x8x128, .f32⟩
  | 53 => ⟨S8x128, .f32⟩
  | 54 => ⟨S1x1024, .f32⟩
  | 55 => ⟨S_, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S1x1024, .f32⟩
  | 66 => ⟨S_, .f32⟩
  | 67 => ⟨S1x1024, .f32⟩
  | 68 => ⟨S1x1024, .f32⟩
  | 69 => ⟨S1x1024, .f32⟩
  | 70 => ⟨S_, .f32⟩
  | 71 => ⟨S1x1024, .f32⟩
  | 72 => ⟨S1x1024, .f32⟩
  | 73 => ⟨S_, .f32⟩
  | 74 => ⟨S1x1024, .f32⟩
  | 75 => ⟨S1x1024, .f32⟩
  | 76 => ⟨S1x1024, .f32⟩
  | 77 => ⟨S_, .f32⟩
  | 78 => ⟨S1x1024, .f32⟩
  | 79 => ⟨S1x1024, .f32⟩
  | 80 => ⟨S1x1024, .f32⟩
  | 81 => ⟨S_, .f32⟩
  | 82 => ⟨S1x1024, .f32⟩
  | 83 => ⟨S1x1024, .f32⟩
  | 84 => ⟨S1x1024, .f32⟩
  | 85 => ⟨S_, .f32⟩
  | 86 => ⟨S1x1024, .f32⟩
  | 87 => ⟨S1x1024, .f32⟩
  | 88 => ⟨S8x128, .f32⟩
  | 89 => ⟨S1024, .f32⟩
  | 90 => ⟨S_, .f32⟩
  | 91 => ⟨S1024, .f32⟩
  | 92 => ⟨S1024, .f32⟩
  | 93 => ⟨S_, .f32⟩
  | 94 => ⟨S1024, .f32⟩
  | 95 => ⟨S1024, .f32⟩
  | 96 => ⟨S1024, .f32⟩
  | 97 => ⟨S_, .f32⟩
  | 98 => ⟨S1024, .f32⟩
  | 99 => ⟨S1024, .f32⟩
  | 100 => ⟨S1024, .f32⟩
  | 101 => ⟨S_, .f32⟩
  | 102 => ⟨S1024, .f32⟩
  | 103 => ⟨S1024, .f32⟩
  | 104 => ⟨S1024, .f32⟩
  | 105 => ⟨S_, .f32⟩
  | 106 => ⟨S1024, .f32⟩
  | 107 => ⟨S1024, .f32⟩
  | 108 => ⟨S_, .f32⟩
  | 109 => ⟨S1024, .f32⟩
  | 110 => ⟨S1024, .f32⟩
  | 111 => ⟨S1024, .f32⟩
  | 112 => ⟨S_, .f32⟩
  | 113 => ⟨S1024, .f32⟩
  | 114 => ⟨S1024, .f32⟩
  | 115 => ⟨S1024, .f32⟩
  | 116 => ⟨S_, .f32⟩
  | 117 => ⟨S1024, .f32⟩
  | 118 => ⟨S1024, .f32⟩
  | 119 => ⟨S1024, .f32⟩
  | 120 => ⟨S_, .f32⟩
  | 121 => ⟨S1024, .f32⟩
  | 122 => ⟨S1024, .f32⟩
  | 123 => ⟨S4x128, .f32⟩
  | 124 => ⟨S1x512, .f32⟩
  | 125 => ⟨S_, .f32⟩
  | 126 => ⟨S1x512, .f32⟩
  | 127 => ⟨S1x512, .f32⟩
  | _ => ⟨S8x1056x128, .f32⟩

abbrev hbmTy0_1 (i : Nat) : BufTy := match i % 128 with
  | 0 => ⟨S_, .f32⟩
  | 1 => ⟨S1x512, .f32⟩
  | 2 => ⟨S1x512, .f32⟩
  | 3 => ⟨S1x512, .f32⟩
  | 4 => ⟨S_, .f32⟩
  | 5 => ⟨S1x512, .f32⟩
  | 6 => ⟨S1x512, .f32⟩
  | 7 => ⟨S1x512, .f32⟩
  | 8 => ⟨S_, .f32⟩
  | 9 => ⟨S1x512, .f32⟩
  | 10 => ⟨S1x512, .f32⟩
  | 11 => ⟨S1x512, .f32⟩
  | 12 => ⟨S_, .f32⟩
  | 13 => ⟨S1x512, .f32⟩
  | 14 => ⟨S1x512, .f32⟩
  | 15 => ⟨S_, .f32⟩
  | 16 => ⟨S1x512, .f32⟩
  | 17 => ⟨S1x512, .f32⟩
  | 18 => ⟨S1x512, .f32⟩
  | 19 => ⟨S_, .f32⟩
  | 20 => ⟨S1x512, .f32⟩
  | 21 => ⟨S1x512, .f32⟩
  | 22 => ⟨S1x512, .f32⟩
  | 23 => ⟨S_, .f32⟩
  | 24 => ⟨S1x512, .f32⟩
  | 25 => ⟨S1x512, .f32⟩
  | 26 => ⟨S1x512, .f32⟩
  | 27 => ⟨S_, .f32⟩
  | 28 => ⟨S1x512, .f32⟩
  | 29 => ⟨S1x512, .f32⟩
  | 30 => ⟨S4x128, .f32⟩
  | 31 => ⟨S1x512, .f32⟩
  | 32 => ⟨S_, .f32⟩
  | 33 => ⟨S1x512, .f32⟩
  | 34 => ⟨S1x512, .f32⟩
  | 35 => ⟨S_, .f32⟩
  | 36 => ⟨S1x512, .f32⟩
  | 37 => ⟨S1x512, .f32⟩
  | 38 => ⟨S1x512, .f32⟩
  | 39 => ⟨S_, .f32⟩
  | 40 => ⟨S1x512, .f32⟩
  | 41 => ⟨S1x512, .f32⟩
  | 42 => ⟨S1x512, .f32⟩
  | 43 => ⟨S_, .f32⟩
  | 44 => ⟨S1x512, .f32⟩
  | 45 => ⟨S1x512, .f32⟩
  | 46 => ⟨S1x512, .f32⟩
  | 47 => ⟨S_, .f32⟩
  | 48 => ⟨S1x512, .f32⟩
  | 49 => ⟨S1x512, .f32⟩
  | 50 => ⟨S_, .f32⟩
  | 51 => ⟨S1x512, .f32⟩
  | 52 => ⟨S1x512, .f32⟩
  | 53 => ⟨S1x512, .f32⟩
  | 54 => ⟨S_, .f32⟩
  | 55 => ⟨S1x512, .f32⟩
  | 56 => ⟨S1x512, .f32⟩
  | 57 => ⟨S1x512, .f32⟩
  | 58 => ⟨S_, .f32⟩
  | 59 => ⟨S1x512, .f32⟩
  | 60 => ⟨S1x512, .f32⟩
  | 61 => ⟨S1x512, .f32⟩
  | 62 => ⟨S_, .f32⟩
  | 63 => ⟨S1x512, .f32⟩
  | 64 => ⟨S1x512, .f32⟩
  | 65 => ⟨S8x128, .f32⟩
  | 66 => ⟨S8x128, .f32⟩
  | 67 => ⟨S8x128, .f32⟩
  | 68 => ⟨S4x128, .f32⟩
  | 69 => ⟨S4x128, .f32⟩
  | 70 => ⟨S32x128, .f32⟩
  | 71 => ⟨S8x128, .f32⟩
  | 72 => ⟨S8x128, .f32⟩
  | 73 => ⟨S8x128, .f32⟩
  | 74 => ⟨S4x128, .f32⟩
  | 75 => ⟨S4x128, .f32⟩
  | 76 => ⟨S32x128, .f32⟩
  | 77 => ⟨S8x128, .f32⟩
  | 78 => ⟨S8x128, .f32⟩
  | 79 => ⟨S8x128, .f32⟩
  | 80 => ⟨S4x128, .f32⟩
  | 81 => ⟨S4x128, .f32⟩
  | 82 => ⟨S32x128, .f32⟩
  | 83 => ⟨S8x128, .f32⟩
  | 84 => ⟨S8x128, .f32⟩
  | 85 => ⟨S8x128, .f32⟩
  | 86 => ⟨S4x128, .f32⟩
  | 87 => ⟨S4x128, .f32⟩
  | 88 => ⟨S32x128, .f32⟩
  | _ => ⟨S8x1056x128, .f32⟩

abbrev hbmTy (i : Nat) : BufTy := match i / 128 with
  | 0 => hbmTy0_0 i
  | 1 => hbmTy0_1 i
  | _ => ⟨S8x1056x128, .f32⟩

abbrev bufTy : (tb : Table) → Fin (tcTables nBuf tb) → BufTy
  | .hbm, ⟨i, _⟩ => hbmTy i
  | _, _ => ⟨S8x1056x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_4 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_8 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_9 : Ref sig .tc := ⟨.hbm, 55, rfl⟩
abbrev main_v29 : Ref sig .tc := ⟨.hbm, 56, rfl⟩
abbrev main_v30 : Ref sig .tc := ⟨.hbm, 57, rfl⟩
abbrev main_cst_10 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_11 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_12 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_13 : Ref sig .tc := ⟨.hbm, 70, rfl⟩
abbrev main_v40 : Ref sig .tc := ⟨.hbm, 71, rfl⟩
abbrev main_v41 : Ref sig .tc := ⟨.hbm, 72, rfl⟩
abbrev main_cst_14 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_15 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_16 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_17 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_18 : Ref sig .tc := ⟨.hbm, 90, rfl⟩
abbrev main_v55 : Ref sig .tc := ⟨.hbm, 91, rfl⟩
abbrev main_v56 : Ref sig .tc := ⟨.hbm, 92, rfl⟩
abbrev main_cst_19 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_20 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_21 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_22 : Ref sig .tc := ⟨.hbm, 105, rfl⟩
abbrev main_v66 : Ref sig .tc := ⟨.hbm, 106, rfl⟩
abbrev main_v67 : Ref sig .tc := ⟨.hbm, 107, rfl⟩
abbrev main_cst_23 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_24 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_25 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_26 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_27 : Ref sig .tc := ⟨.hbm, 125, rfl⟩
abbrev main_v81 : Ref sig .tc := ⟨.hbm, 126, rfl⟩
abbrev main_v82 : Ref sig .tc := ⟨.hbm, 127, rfl⟩
abbrev main_cst_28 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_cst_29 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_cst_30 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_cst_31 : Ref sig .tc := ⟨.hbm, 140, rfl⟩
abbrev main_v92 : Ref sig .tc := ⟨.hbm, 141, rfl⟩
abbrev main_v93 : Ref sig .tc := ⟨.hbm, 142, rfl⟩
abbrev main_cst_32 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_cst_33 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_cst_34 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_cst_35 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_cst_36 : Ref sig .tc := ⟨.hbm, 160, rfl⟩
abbrev main_v107 : Ref sig .tc := ⟨.hbm, 161, rfl⟩
abbrev main_v108 : Ref sig .tc := ⟨.hbm, 162, rfl⟩
abbrev main_cst_37 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_cst_38 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_cst_39 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_cst_40 : Ref sig .tc := ⟨.hbm, 175, rfl⟩
abbrev main_v118 : Ref sig .tc := ⟨.hbm, 176, rfl⟩
abbrev main_v119 : Ref sig .tc := ⟨.hbm, 177, rfl⟩
abbrev main_cst_41 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_cst_42 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_cst_43 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_cst_44 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩

abbrev nD : Nat := 1
abbrev τ : Topo := Topo.v7x

variable {F : FTy → Type} [FloatOps F]
-- ==== Proof.Relu2.Kernel.lean ====
/- The squared-ReLU gradient call's result as one closed form of the call's arguments. -/
module

public import proofs.«01_k».proof.Proof.Gen.Relu2Ideal.Value
public import Idealize.ShloMosaic.Lib.Pointwise
public import Idealize.ShloMosaic.Lib.Pipeline.ValueKit

@[expose] public section

set_option maxRecDepth 16384

noncomputable section

namespace Cert.Relu2Ideal.Closed

open Cert.Relu2Ideal Cert.Relu2Ideal.Gen Idealize.ShloMosaic Idealize.ShloMosaic.TcCoe Idealize.SL.Sem
open Idealize.ShloMosaic.Pipeline (Dat)

variable (m : (ℓ : Loc nD τ sig) → Buf (Elt Ideal) ℓ)

/-- The cotangent through `w_down`, times twice the rectified pre-activation. -/
def G (a : FVec Ideal S4096x4096 .f32) (w ct : FVec Ideal S4096x1024 .f32) : FVec Ideal S4096x4096 .bf16 := fun i =>
  (∑ k : Fin 1024, ct (ix2 (i 0) k) * w (ix2 (i 1) k)) * (Ideal.ofBits .f32 0x40000000#32 * max (a i) 0)

/-- The blocks of the four windows at a grid point: row block `t / 4`, column block `t % 4`. -/
theorem index (t : Fin cfg0.N) :
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = t.val % 4
    ∧ win0_3.index t (0 : Fin 2) = t.val / 4 ∧ win0_3.index t (1 : Fin 2) = t.val % 4 :=
  (by decide +kernel : ∀ t : Fin grid0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = t.val % 4
    ∧ win0_3.index t (0 : Fin 2) = t.val / 4 ∧ win0_3.index t (1 : Fin 2) = t.val % 4) t

/-- The arguments, as arrays. -/
abbrev argA (c : Dev nD) : FVec Ideal S4096x4096 .f32 := m ((c : Thread nD τ).loc main_arg0)
abbrev argW (c : Dev nD) : FVec Ideal S4096x1024 .f32 := m ((c : Thread nD τ).loc main_arg1)
abbrev argCt (c : Dev nD) : FVec Ideal S4096x1024 .f32 := m ((c : Thread nD τ).loc main_arg2)

/-- The array `v4` that the call reads, out of the arguments. -/
theorem V_v4 (c : Dev nD) : @Eq (FVec Ideal S4096x1024 .bf16) (V m c main_v4)
    (truncf .bf16 (argCt m c) bitsLt_bf16_f32) := by
  unfold V hostOps0; after_results

/-- The array `v5` that the call reads, out of the arguments. -/
theorem V_v5 (c : Dev nD) : @Eq (FVec Ideal S4096x1024 .bf16) (V m c main_v5)
    (truncf .bf16 (argW m c) bitsLt_bf16_f32) := by
  unfold V hostOps0; after_results

/-- The array `v3` that the call reads, out of the arguments. -/
theorem V_v3 (c : Dev nD) : @Eq (FVec Ideal S4096x4096 .bf16) (V m c main_v3)
    (truncf .bf16 (mulf (maximumf (argA m c) (broadcastInDim S4096x4096 ![] bcast_S_S4096x4096 (constant S_ .f32 0x00000000#32)))
      (maximumf (argA m c) (broadcastInDim S4096x4096 ![] bcast_S_S4096x4096 (constant S_ .f32 0x00000000#32)))) bitsLt_bf16_f32) := by
  unfold V hostOps0; after_results

/-- The square root of a square gives back what was squared, infinity included. -/
theorem sqrt_sq (x : EReal) (h : 0 ≤ x) : Ideal.sqrt (x * x) = x := by
  induction x with
  | bot => exact absurd h (by simp)
  | top => rw [EReal.top_mul_top]; rfl
  | coe x =>
    rw [← EReal.coe_mul]
    show (if x * x < 0 then ⊥ else (Real.sqrt (x * x) : EReal)) = _
    rw [if_neg (not_lt.2 (mul_self_nonneg x)), Real.sqrt_mul_self (EReal.coe_nonneg.1 h)]

/-- An element of the cotangent's block at a grid point, in the whole array. -/
theorem iblk0 (c : Dev nD) (t : Fin cfg0.N) (r k : Fin 1024) (i : S4096x1024.Idx)
    (h0 : (i 0).val = t.val / 4 * 1024 + r.val) (h1 : (i 1).val = k.val) :
    (iblk m c 0 t : FVec Ideal S1024x1024 .bf16) (ix2 r k) = argCt m c i := by
  obtain ⟨h00, h01, -⟩ := index t
  show (V m c main_v4 : FVec Ideal S4096x1024 .bf16) ((win0_0.rect t).emb (ix2 r k)) = _
  rw [V_v4]
  refine congrArg (argCt m c) (Shape.idx_ext₂ ?_ ?_)
  · rw [win0_0.rect_emb_val, h00, h0]; rfl
  · rw [win0_0.rect_emb_val, h01, h1]; exact Nat.zero_add _

/-- An element of the weight's block at a grid point, in the whole array. -/
theorem iblk1 (c : Dev nD) (t : Fin cfg0.N) (r k : Fin 1024) (i : S4096x1024.Idx)
    (h0 : (i 0).val = t.val % 4 * 1024 + r.val) (h1 : (i 1).val = k.val) :
    (iblk m c 1 t : FVec Ideal S1024x1024 .bf16) (ix2 r k) = argW m c i := by
  obtain ⟨-, -, h00, h01, -⟩ := index t
  show (V m c main_v5 : FVec Ideal S4096x1024 .bf16) ((win0_1.rect t).emb (ix2 r k)) = _
  rw [V_v5]
  refine congrArg (argW m c) (Shape.idx_ext₂ ?_ ?_)
  · rw [win0_1.rect_emb_val, h00, h0]; rfl
  · rw [win0_1.rect_emb_val, h01, h1]; exact Nat.zero_add _

/-- An element of the squared activation's block at a grid point. -/
theorem iblk2 (c : Dev nD) (t : Fin cfg0.N) (y : S1024x1024.Idx) (i : S4096x4096.Idx)
    (h0 : (i 0).val = t.val / 4 * 1024 + (y 0).val) (h1 : (i 1).val = t.val % 4 * 1024 + (y 1).val) :
    (iblk m c 2 t : FVec Ideal S1024x1024 .bf16) y = max (argA m c i) 0 * max (argA m c i) 0 := by
  obtain ⟨-, -, -, -, h00, h01, -⟩ := index t
  show (V m c main_v3 : FVec Ideal S4096x4096 .bf16) ((win0_2.rect t).emb y) = _
  rw [V_v3]
  have e : (win0_2.rect t).emb y = i := Shape.idx_ext₂
    (by rw [win0_2.rect_emb_val, h00, h0]; rfl) (by rw [win0_2.rect_emb_val, h01, h1]; rfl)
  rw [e]
  pointwise

/-- What a grid point writes back is its block of the closed form. -/
theorem flushed_eq (c : Dev nD) (t : Fin cfg0.N) :
    (dats m 0 c).flushed 3 t = ((cfg0.win 3).blk t).view.read (Elt Ideal) (G (argA m c) (argW m c) (argCt m c)) := by
  rw [Value.flushed3]
  funext y
  show out0_3 (iblk m c 0 t) (iblk m c 1 t) (iblk m c 2 t) y = G _ _ _ ((win0_3.rect t).emb y)
  obtain ⟨-, -, -, -, -, -, h30, h31⟩ := index t
  have e0 : ((win0_3.rect t).emb y 0).val = t.val / 4 * 1024 + (y 0).val := by rw [win0_3.rect_emb_val, h30]; rfl
  have e1 : ((win0_3.rect t).emb y 1).val = t.val % 4 * 1024 + (y 1).val := by rw [win0_3.rect_emb_val, h31]; rfl
  generalize (win0_3.rect t).emb y = i at e0 e1 ⊢
  unfold out0_3
  have hz : (![0, 0] : Fin S1024x1024.rank → ℕ) = fun _ => 0 := by funext a; fin_cases a <;> rfl
  rw [View.canon_unit_zero hz]
  simp only [View.ld_unit_zero (S := S1024x1024) hz]
  pointwise [k0_pay1]
  rw [iblk2 m c t y i e0 e1, sqrt_sq _ (le_max_right _ _)]
  refine congrArg (· * _) (Finset.sum_congr rfl fun k _ => ?_)
  rw [iblk0 m c t (y 0) k (ix2 (i 0) k) e0 rfl, iblk1 m c t (y 1) k (ix2 (i 1) k) e1 rfl]

/-- Every element of the result lies in the block of one grid point. -/
theorem cover (i : S4096x4096.Idx) : ∃ t : Fin cfg0.N, (cfg0.win 3).flush t = true ∧ i ∈ ((cfg0.win 3).blk t).view.set := by
  have b0 : (i 0).val < 4096 := (i 0).isLt
  have b1 : (i 1).val < 4096 := (i 1).isLt
  let t : Fin cfg0.N := ⟨(i 0).val / 1024 * 4 + (i 1).val / 1024, by rw [show cfg0.N = 16 from N_0]; omega⟩
  refine ⟨t, flush0_3 t, ?_⟩
  show i ∈ ((View.whole main_v6).slice (win0_3.rect t)).set
  rw [View.set_slice_whole, win0_3.mem_rect_iff]
  obtain ⟨-, -, -, -, -, -, h30, h31⟩ := index t
  have ht : t.val = (i 0).val / 1024 * 4 + (i 1).val / 1024 := rfl
  intro a
  match a with
  | ⟨0, _⟩ =>
    show win0_3.index t 0 * 1024 ≤ (i 0).val ∧ (i 0).val < win0_3.index t 0 * 1024 + 1024
    rw [h30]; omega
  | ⟨1, _⟩ =>
    show win0_3.index t 1 * 1024 ≤ (i 1).val ∧ (i 1).val < win0_3.index t 1 * 1024 + 1024
    rw [h31]; omega

/-- The result array after the call. -/
theorem final (c : Dev nD) : (dats m 0 c).arrAt 3 cfg0.N = G (argA m c) (argW m c) (argCt m c) :=
  (dats m 0 c).arrAt_eq_of_cover 3 _ (fun t _ => flushed_eq m c t) cover

end Cert.Relu2Ideal.Closed

end
-- ==== Proof.Relu2.Main.lean ====
/- The squared-ReLU gradient call against the derivative of the plain forward lines. -/
module

public import proofs.«01_k».proof.Defs
public import proofs.«01_k».proof.Proof.Relu2.Kernel
public import proofs.«01_k».proof.Proof.Gen.Relu2RefIdeal.Run

@[expose] public section

set_option maxRecDepth 16384

noncomputable section

namespace Cert.Relu2RefIdeal.Closed

open Idealize.ShloMosaic Idealize.ShloMosaic.TcCoe Idealize.SL.Sem
open Cert.Relu2RefIdeal Cert.Relu2RefIdeal.Gen

/-- The derivative, as the reference spells it: the cotangent through `w_down` times twice the rectified
    pre-activation, cut to zero where the pre-activation is not positive. -/
theorem reference_eq (a : FVec Ideal S4096x4096 .f32) (w ct : FVec Ideal S4096x1024 .f32) :
    (truncf .bf16 (select (cmpf .ogt a (broadcastInDim S4096x4096 ![] bcast_S_S4096x4096 (constant S_ .f32 0x00000000#32))) (mulf (Host.dotGeneral dot_S4096x1024_S4096x1024_S4096x4096_1_1_0_0_n_n none ct w) (mulf (broadcastInDim S4096x4096 ![] bcast_S_S4096x4096 (constant S_ .f32 0x40000000#32)) (maximumf a (broadcastInDim S4096x4096 ![] bcast_S_S4096x4096 (constant S_ .f32 0x00000000#32))))) (broadcastInDim S4096x4096 ![] bcast_S_S4096x4096 (constant S_ .f32 0x00000000#32))) bitsLt_bf16_f32
      : FVec Ideal S4096x4096 .bf16)
      = Cert.Relu2Ideal.Closed.G a w ct := by
  funext i
  pointwise [Cert.Relu2Ideal.Closed.G]
  split
  · rfl
  · next h => rw [max_eq_right (not_lt.1 h), mul_zero, mul_zero]

end Cert.Relu2RefIdeal.Closed

namespace Cert.Proof

open Idealize.ShloMosaic Idealize.ShloMosaic.TcCoe Idealize.SL.Sem

/-- The squared-ReLU gradient call computes the derivative of the forward lines, from any arguments. -/
theorem algebraic_relu2 : Cert.algebraic_Relu2Ideal_Relu2RefIdeal := by
  intro m ρ m' ρ' _ hag
  refine ⟨fun c => Cert.Relu2Ideal.Closed.G (Cert.Relu2Ideal.Closed.argA m c) (Cert.Relu2Ideal.Closed.argW m c)
    (Cert.Relu2Ideal.Closed.argCt m c), ?_, ?_⟩
  · exact (θ_run _ _ _).mono (fun r h c => ⟨(h c).1.trans (Cert.Relu2Ideal.Closed.final m c), (h c).2⟩)
      (Cert.Relu2Ideal.Value.run_blocks m ρ)
  · refine (θ_run _ _ _).mono (fun r h c => ⟨(h c).1.trans ?_, (h c).2⟩) (Cert.Relu2RefIdeal.Value.run m' ρ')
    obtain ⟨h0, h1, h2⟩ := hag c
    rw [h0, h1, h2]
    exact Cert.Relu2RefIdeal.Closed.reference_eq _ _ _

end Cert.Proof

end
-- ==== Proof.Gates.Kernel.lean ====
/- The gated out-projection's gradient call: each result as one closed form of the call's arguments. -/
module

public import proofs.«01_k».proof.Proof.Gen.GatesIdeal.Value
public import Idealize.ShloMosaic.Lib.Pointwise
public import Idealize.ShloMosaic.Lib.Pipeline.ValueKit

@[expose] public section

set_option maxRecDepth 16384

noncomputable section

namespace Cert.GatesIdeal.Closed

open Cert.GatesIdeal Cert.GatesIdeal.Gen Idealize.ShloMosaic Idealize.ShloMosaic.TcCoe Idealize.SL.Sem
open Idealize.ShloMosaic.Pipeline (Dat)

variable (m : (ℓ : Loc nD τ sig) → Buf (Elt Ideal) ℓ)

/-- The logistic function as both programs spell it. -/
def sig1 (x : EReal) : EReal := Ideal.div 1 (1 + Ideal.exp (0 - x))

/-- The cotangent of the gated sum at row `r`, column `k`. -/
def dmix (w : FVec Ideal S1024x1024 .f32) (ct : FVec Ideal S4096x1024 .f32) (r : Fin 4096) (k : Fin 1024) : EReal :=
  ∑ j : Fin 1024, ct (ix2 r j) * w (ix2 k j)

/-- Column `k` of the first (`s = 0`) or second (`s = 1024`) half of the gates. -/
def col (s : Fin 2) (k : Fin 1024) : Fin 2048 := ⟨s.val * 1024 + k.val, by omega⟩

/-- The gradient of a branch: the cotangent times the branch's gate. -/
def Gy (s : Fin 2) (g : FVec Ideal S4096x2048 .f32) (w : FVec Ideal S1024x1024 .f32) (ct : FVec Ideal S4096x1024 .f32) :
    FVec Ideal S4096x1024 .bf16 := fun i => dmix w ct (i 0) (i 1) * sig1 (g (ix2 (i 0) (col s (i 1))))

/-- The gradient of a gate at row `r`, column `k` of its half. -/
def dgate (s : Fin 2) (g : FVec Ideal S4096x2048 .f32) (y : FVec Ideal S4096x1024 .f32) (w : FVec Ideal S1024x1024 .f32)
    (ct : FVec Ideal S4096x1024 .f32) (r : Fin 4096) (k : Fin 1024) : EReal :=
  dmix w ct r k * y (ix2 r k) * sig1 (g (ix2 r (col s k))) * (1 - sig1 (g (ix2 r (col s k))))

/-- The gradient of one half of the gates. -/
def Gg (s : Fin 2) (g : FVec Ideal S4096x2048 .f32) (y : FVec Ideal S4096x1024 .f32) (w : FVec Ideal S1024x1024 .f32)
    (ct : FVec Ideal S4096x1024 .f32) : FVec Ideal S4096x1024 .bf16 := fun i => dgate s g y w ct (i 0) (i 1)

/-- The gradient of all the gates, transposed. -/
def Gt (g : FVec Ideal S4096x2048 .f32) (ya yb : FVec Ideal S4096x1024 .f32) (w : FVec Ideal S1024x1024 .f32)
    (ct : FVec Ideal S4096x1024 .f32) : FVec Ideal S2048x4096 .bf16 := fun i =>
  if h : (i 0).val < 1024 then dgate 0 g ya w ct (i 1) ⟨(i 0).val, h⟩
  else dgate 1 g yb w ct (i 1) ⟨(i 0).val - 1024, by have : (i 0).val < 2048 := (i 0).isLt; omega⟩

/-- The arguments, as arrays. -/
abbrev argG (c : Dev nD) : FVec Ideal S4096x2048 .f32 := m ((c : Thread nD τ).loc main_arg0)
abbrev argYa (c : Dev nD) : FVec Ideal S4096x1024 .f32 := m ((c : Thread nD τ).loc main_arg1)
abbrev argYb (c : Dev nD) : FVec Ideal S4096x1024 .f32 := m ((c : Thread nD τ).loc main_arg2)
abbrev argW (c : Dev nD) : FVec Ideal S1024x1024 .f32 := m ((c : Thread nD τ).loc main_arg3)
abbrev argCt (c : Dev nD) : FVec Ideal S4096x1024 .f32 := m ((c : Thread nD τ).loc main_arg4)

/-- The block each window is on at a grid point: row block `t`; the gates' windows are on column blocks 1 and 2 of the
    padded array. -/
theorem index : ∀ t : Fin cfg0.N,
    win0_0.index t = ![t.val, 0] ∧ win0_1.index t = ![0, 0] ∧ win0_2.index t = ![t.val, 1] ∧ win0_3.index t = ![t.val, 2]
    ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0]
    ∧ win0_10.index t = ![0, t.val] := (by decide +kernel : ∀ t : Fin grid0.N, _)

/-- The array `v1` that the call reads, out of the arguments. -/
theorem V_v1 (c : Dev nD) : @Eq (FVec Ideal S4096x3200 .bf16) (V m c main_v1)
    (truncf .bf16 (pad S4096x3200 ![0, 1024] ![0, 128] ![0, 0] (argG m c) (sitofp .f32 (constantI S_ 32 0#32))
      pads_S4096x2048_S4096x3200_000_10241280 h_S_) bitsLt_bf16_f32) := by
  unfold V
  simp only [hostOps0, hostOps0_1, hostOps0_2, List.flatten_cons, List.flatten_nil, List.append_nil, List.cons_append,
    List.nil_append]
  after_results
  rfl

/-- The padded gates at a column of the gates. -/
theorem V_v1_apply (c : Dev nD) (i : S4096x3200.Idx) (r : Fin 4096) (k : Fin 2048) (h0 : r.val = (i 0).val)
    (h1 : 1024 + k.val = (i 1).val) :
    (V m c main_v1 : FVec Ideal S4096x3200 .bf16) i = argG m c (ix2 r k) := by
  rw [V_v1]
  pointwise
  rw [dif_pos (by omega)]
  exact congrArg (argG m c) (Shape.idx_ext₂ h0.symm (by show (i 1).val - 1024 = k.val; omega))

/-- An element of the first gate window at a grid point: the first half of the gates. -/
theorem gateA (c : Dev nD) (t : Fin cfg0.N) (y : S512x1024.Idx) (r : Fin 4096) (k : Fin 1024)
    (hr : r.val = t.val * 512 + (y 0).val) (hk : k.val = (y 1).val) :
    (X0_2 m c t : FVec Ideal S512x1024 .bf16) y = argG m c (ix2 r (col 0 k)) := by
  obtain ⟨-, -, i2, -⟩ := index t
  unfold X0_2 Pipeline.Window.fill
  rw [dif_pos (moved0_2 t y)]
  blk_simp [iblk]
  refine V_v1_apply m c _ _ _ ?_ ?_
  · blk_simp [i2]; exact hr
  · blk_simp [i2]; show 1024 + (0 * 1024 + k.val) = 1 * 1024 + (y 1).val; omega

/-- An element of the second gate window at a grid point: the second half of the gates. -/
theorem gateB (c : Dev nD) (t : Fin cfg0.N) (y : S512x1024.Idx) (r : Fin 4096) (k : Fin 1024)
    (hr : r.val = t.val * 512 + (y 0).val) (hk : k.val = (y 1).val) :
    (X0_3 m c t : FVec Ideal S512x1024 .bf16) y = argG m c (ix2 r (col 1 k)) := by
  obtain ⟨-, -, -, i2, -⟩ := index t
  unfold X0_3 Pipeline.Window.fill
  rw [dif_pos (moved0_3 t y)]
  blk_simp [iblk]
  refine V_v1_apply m c _ _ _ ?_ ?_
  · blk_simp [i2]; exact hr
  · blk_simp [i2]; show 1024 + (1 * 1024 + k.val) = 2 * 1024 + (y 1).val; omega

/-- The gradient of the first branch after the call. -/
theorem final6 (c : Dev nD) : (dats m 0 c).arrAt 6 cfg0.N = Gy 0 (argG m c) (argW m c) (argCt m c) := by
  refine (dats m 0 c).arrAt_eq_of_covers 6 _ (by decide +kernel) fun t hf y => ?_
  blk_simp
  rw [after0_6]
  simp only [outsAt0]
  frame_out
  obtain ⟨i0, i1, i2, i3, i4, i5, i6, i7, i8, i9, i10⟩ := index t
  unfold_payloads
  pointwise [Gy, dmix, sig1]
  rw [gateA m c t y ((win0_6.blk t).view.emb y 0) ((win0_6.blk t).view.emb y 1) (by blk_simp [i6]) (by blk_simp [i6])]
  blk_point [iblk, V, i0, i1, i4, i5, i6]

/-- The gradient of the second branch after the call. -/
theorem final7 (c : Dev nD) : (dats m 0 c).arrAt 7 cfg0.N = Gy 1 (argG m c) (argW m c) (argCt m c) := by
  refine (dats m 0 c).arrAt_eq_of_covers 7 _ (by decide +kernel) fun t hf y => ?_
  blk_simp
  rw [after0_7]
  simp only [outsAt0]
  frame_out
  obtain ⟨i0, i1, i2, i3, i4, i5, i6, i7, i8, i9, i10⟩ := index t
  unfold_payloads
  pointwise [Gy, dmix, sig1]
  rw [gateB m c t y ((win0_7.blk t).view.emb y 0) ((win0_7.blk t).view.emb y 1) (by blk_simp [i7]) (by blk_simp [i7])]
  blk_point [iblk, V, i0, i1, i4, i5, i7]

/-- The gradient of the first half of the gates after the call. -/
theorem final8 (c : Dev nD) : (dats m 0 c).arrAt 8 cfg0.N = Gg 0 (argG m c) (argYa m c) (argW m c) (argCt m c) := by
  refine (dats m 0 c).arrAt_eq_of_covers 8 _ (by decide +kernel) fun t hf y => ?_
  blk_simp
  rw [after0_8]
  simp only [outsAt0]
  frame_out
  obtain ⟨i0, i1, i2, i3, i4, i5, i6, i7, i8, i9, i10⟩ := index t
  unfold_payloads
  pointwise [Gg, dgate, dmix, sig1]
  rw [gateA m c t y ((win0_8.blk t).view.emb y 0) ((win0_8.blk t).view.emb y 1) (by blk_simp [i8]) (by blk_simp [i8])]
  blk_point [iblk, V, i0, i1, i4, i5, i8]

/-- The gradient of the second half of the gates after the call. -/
theorem final9 (c : Dev nD) : (dats m 0 c).arrAt 9 cfg0.N = Gg 1 (argG m c) (argYb m c) (argW m c) (argCt m c) := by
  refine (dats m 0 c).arrAt_eq_of_covers 9 _ (by decide +kernel) fun t hf y => ?_
  blk_simp
  rw [after0_9]
  simp only [outsAt0]
  frame_out
  obtain ⟨i0, i1, i2, i3, i4, i5, i6, i7, i8, i9, i10⟩ := index t
  unfold_payloads
  pointwise [Gg, dgate, dmix, sig1]
  rw [gateB m c t y ((win0_9.blk t).view.emb y 0) ((win0_9.blk t).view.emb y 1) (by blk_simp [i9]) (by blk_simp [i9])]
  blk_point [iblk, V, i0, i1, i4, i5, i9]

/-- The gradient of all the gates, transposed, after the call. -/
theorem final10 (c : Dev nD) : (dats m 0 c).arrAt 10 cfg0.N
    = Gt (argG m c) (argYa m c) (argYb m c) (argW m c) (argCt m c) := by
  refine (dats m 0 c).arrAt_eq_of_covers 10 _ (by decide +kernel) fun t hf y => ?_
  blk_simp
  rw [after0_10]
  simp only [outsAt0]
  frame_out
  obtain ⟨i0, i1, i2, i3, i4, i5, i6, i7, i8, i9, i10⟩ := index t
  have e0 : ((win0_10.blk t).view.emb y 0).val = (y 0).val := by blk_simp [i10]
  have e1 : ((win0_10.blk t).view.emb y 1).val = t.val * 512 + (y 1).val := by blk_simp [i10]
  canon_tiles x h
  · unfold_payloads
    pointwise [Gt, dgate, dmix, sig1]
    refine Eq.trans ?_ (dif_neg (show ¬((win0_10.blk t).view.emb y 0).val < 1024 by rw [e0, h0]; omega)).symm
    rw [gateB m c t (ix2 (x 1) (x 0)) ((win0_10.blk t).view.emb y 1) (x 0) (by rw [e1, h1]; rfl) rfl]
    blk_point [iblk, V, i0, i1, i4, i5, i10]
    simp only [col]; omega
  · unfold_payloads
    pointwise [Gt, dgate, dmix, sig1]
    refine Eq.trans ?_ (dif_pos (show ((win0_10.blk t).view.emb y 0).val < 1024 by rw [e0, h0]; omega)).symm
    rw [gateA m c t (ix2 (x 1) (x 0)) ((win0_10.blk t).view.emb y 1) (x 0) (by rw [e1, h1]; rfl) rfl]
    blk_point [iblk, V, i0, i1, i4, i5, i10]
    simp only [col]; omega

end Cert.GatesIdeal.Closed

end
-- ==== Proof.Gates.Main.lean ====
/- The gated out-projection's gradient call against the derivative of the plain forward lines. -/
module

public import proofs.«01_k».proof.Defs
public import proofs.«01_k».proof.Proof.Gates.Kernel
public import proofs.«01_k».proof.Proof.Gen.GatesRefIdeal.Run

@[expose] public section

set_option maxRecDepth 16384

noncomputable section

namespace Cert.Proof

open Idealize.ShloMosaic Idealize.ShloMosaic.TcCoe Idealize.SL.Sem
open Cert.GatesIdeal.Closed

/-- The gated out-projection's gradient call computes the derivative of the forward lines, from any arguments. -/
theorem algebraic_gates : Cert.algebraic_GatesIdeal_GatesRefIdeal := by
  intro m ρ m' ρ' _ hag
  refine ⟨fun c => Gy 0 (argG m c) (argW m c) (argCt m c), fun c => Gy 1 (argG m c) (argW m c) (argCt m c),
    fun c => Gg 0 (argG m c) (argYa m c) (argW m c) (argCt m c), fun c => Gg 1 (argG m c) (argYb m c) (argW m c) (argCt m c),
    fun c => Gt (argG m c) (argYa m c) (argYb m c) (argW m c) (argCt m c), ?_, ?_⟩
  · exact (θ_run _ _ _).mono (fun r h c => by
      obtain ⟨h6, h7, h8, h9, h10, hr⟩ := h c
      exact ⟨h6.trans (final6 m c), h7.trans (final7 m c), h8.trans (final8 m c), h9.trans (final9 m c),
        h10.trans (final10 m c), hr⟩) (Cert.GatesIdeal.Value.run_blocks m ρ)
  · refine (θ_run _ _ _).mono (fun r h c => ?_) (Cert.GatesRefIdeal.Value.run m' ρ')
    obtain ⟨h6, h7, h8, h9, h10, hr⟩ := h c
    obtain ⟨a0, a1, a2, a3, a4⟩ := hag c
    refine ⟨h6.trans ?_, h7.trans ?_, h8.trans ?_, h9.trans ?_, h10.trans ?_, hr⟩ <;>
      rw [a0, a3, a4] <;> (try rw [a1]) <;> (try rw [a2])
    all_goals
      funext i
      pointwise [Gy, Gg, Gt, dgate, dmix, sig1]
      simp only [zero_sub, ← mul_assoc]
      try split
      all_goals
        reads_congr <;> first
        | rfl
        | exact congrArg (argG m c) (Shape.idx_ext₂ rfl (Nat.zero_add _).symm)
        | exact congrArg (argG m c) (Shape.idx_ext₂ rfl (by show 1024 + _ = 1 * 1024 + _; omega))

end Cert.Proof

end
-- ==== Proof.Reals.Basic.lean ====
/- Arithmetic of the extended reals at real numbers, and what a finiteness precondition says. -/
module

public import Idealize.ShloMosaic.Lib.Pointwise
public import Idealize.ShloMosaic.Lib.ReduceAll

@[expose] public section

noncomputable section

namespace Cert.Reals

open Idealize.ShloMosaic

/-- The f32 word `0x7F800000` is plus infinity. -/
theorem ofBits_inf : Ideal.ofBits .f32 0x7F800000#32 = ⊤ := by
  simp [Ideal.ofBits, Ideal.ieee]

/-- The f32 word of 1024. -/
theorem ofBits_1024 : Ideal.ofBits .f32 0x44800000#32 = ((1024 : ℝ) : EReal) := by
  simp [Ideal.ofBits, Ideal.ieee, -EReal.coe_mul]; norm_num

/-- The f32 word of 1/1024. -/
theorem ofBits_inv1024 : Ideal.ofBits .f32 0x3A800000#32 = ((1 / 1024 : ℝ) : EReal) := by
  simp [Ideal.ofBits, Ideal.ieee, -EReal.coe_mul]; norm_num

/-- The f32 word of 2. -/
theorem ofBits_two : Ideal.ofBits .f32 0x40000000#32 = ((2 : ℝ) : EReal) := by
  simp [Ideal.ofBits, Ideal.ieee, -EReal.coe_mul]; norm_num

/-- The f32 word of 1/2. -/
theorem ofBits_half : Ideal.ofBits .f32 0x3F000000#32 = ((1 / 2 : ℝ) : EReal) := by
  simp [Ideal.ofBits, Ideal.ieee, -EReal.coe_mul]; norm_num

/-- The f32 word of -1/2. -/
theorem ofBits_neg_half : Ideal.ofBits .f32 0xBF000000#32 = ((-(1 / 2) : ℝ) : EReal) := by
  simp [Ideal.ofBits, Ideal.ieee, -EReal.coe_mul, -EReal.coe_neg]; norm_num

/-- The f32 word of 1/8. -/
theorem ofBits_eighth : Ideal.ofBits .f32 0x3E000000#32 = ((1 / 8 : ℝ) : EReal) := by
  simp [Ideal.ofBits, Ideal.ieee, -EReal.coe_mul]; norm_num

/-- The norms' epsilon, the rational its f32 word denotes. -/
def eps : ℝ := 8796093 / 2 ^ 43

/-- The epsilon is positive. -/
theorem eps_pos : 0 < eps := by unfold eps; norm_num

/-- The f32 word of the norms' epsilon. -/
theorem ofBits_eps : Ideal.ofBits .f32 0x358637BD#32 = ((eps : ℝ) : EReal) := by
  unfold eps
  simp [Ideal.ofBits, Ideal.ieee, -EReal.coe_mul]; norm_num

/-- A sum of reals, read in the extended reals. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s h ih => rw [Finset.sum_insert h, Finset.sum_insert h, ih, EReal.coe_add]

/-- Division of reals, by a real other than zero. -/
theorem div_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

/-- Division by 1024. -/
theorem div_1024 (x : ℝ) : Ideal.div (x : EReal) ((1024 : ℝ) : EReal) = ((x / 1024 : ℝ) : EReal) :=
  div_coe x 1024 (by norm_num)

/-- The reciprocal square root of a positive real. -/
theorem rsqrt_coe (x : ℝ) (h : 0 < x) : Ideal.rsqrt (x : EReal) = (((Real.sqrt x)⁻¹ : ℝ) : EReal) := by
  show (if x < 0 then ⊥ else if x = 0 then ⊤ else (((Real.sqrt x)⁻¹ : ℝ) : EReal)) = _
  rw [if_neg (not_lt.2 h.le), if_neg h.ne']

/-- The exponential of a real. -/
theorem exp_coe (x : ℝ) : Ideal.exp (x : EReal) = ((Real.exp x : ℝ) : EReal) := rfl

/-- The logarithm of a positive real. -/
theorem log_coe (x : ℝ) (h : 0 < x) : Ideal.log (x : EReal) = ((Real.log x : ℝ) : EReal) := by
  show (if x ≤ 0 then ⊥ else ((Real.log x : ℝ) : EReal)) = _
  rw [if_neg (not_le.2 h)]

/-- The negation of a real. -/
theorem neg_coe (x : ℝ) : -(x : EReal) = ((-x : ℝ) : EReal) := (EReal.coe_neg x).symm

/-- The larger of two reals. -/
theorem max_coe (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

/-- An extended real whose absolute value is below infinity is a real. -/
theorem real_of_abs_lt (x : EReal) (h : Ideal.cmp .olt (max x (-x)) ⊤ = 1#1) : ∃ r : ℝ, x = (r : EReal) := by
  have h' : max x (-x) < ⊤ := by
    by_contra hn
    have : Ideal.cmp .olt (max x (-x)) ⊤ = 0#1 := by simp [Ideal.cmp, hn]
    rw [this] at h
    exact absurd h (by decide)
  induction x with
  | bot => simp at h'
  | top => simp at h'
  | coe r => exact ⟨r, rfl⟩

/-- A conjunction of two arrays of bits is all ones where both are. -/
theorem andi_ones {s : Shape} (x y : IVec s 1) : andi x y = (fun _ => 1#1) ↔ x = (fun _ => 1#1) ∧ y = fun _ => 1#1 :=
  ⟨fun h => ⟨funext fun i => (IntOp.andi_eq_one.1 (congrFun h i)).1, funext fun i => (IntOp.andi_eq_one.1 (congrFun h i)).2⟩,
    fun h => funext fun i => IntOp.andi_eq_one.2 ⟨congrFun h.1 i, congrFun h.2 i⟩⟩

/-- An array of reals, as an array of extended reals. -/
def up {s : Shape} (r : s.Idx → ℝ) : FVec Ideal s .f32 := fun i => ((r i : ℝ) : EReal)

/-- An entry of an array of reals. -/
theorem up_apply {s : Shape} (r : s.Idx → ℝ) (i : s.Idx) : up r i = ((r i : ℝ) : EReal) := rfl

/-- What `jnp.all(jnp.abs(x) < jnp.inf)` says of an array: its elements are reals. -/
theorem real_of_all {s u v : Shape} {axes : List (Fin s.rank)} (x : FVec Ideal s .f32) (d : Fin v.rank → Fin s.rank)
    (hb : v.BroadcastsInDim s d) (init : u.Idx → BitVec 1) (h : s.ReducesTo axes (⟨0, ![]⟩ : Shape)) (hu : 0 < u.numel)
    (e : Host.reduce IntOp.andi (cmpf .olt (Host.absf x) (broadcastInDim s d hb (constant v .f32 0x7F800000#32))) init h hu
      = fun _ => 1#1) :
    ∃ r : s.Idx → ℝ, x = up r := by
  haveI : Subsingleton (Shape.Idx (⟨0, ![]⟩ : Shape)) := ⟨fun a b => funext fun k => k.elim0⟩
  have key : ∀ i, ∃ r : ℝ, x i = (r : EReal) := fun i => by
    have := Host.reduce_andi_all _ init h hu (fun k => k.elim0) (congrFun e _) i
    refine real_of_abs_lt (x i) ?_
    rw [← ofBits_inf]
    exact this
  choose r hr using key
  exact ⟨r, funext hr⟩

end Cert.Reals

end
-- ==== Proof.Reals.Rms.lean ====
/- The root-mean-square norm of a row of 1024 and its gradient, over the reals. -/
module

public import proofs.«01_k».proof.Proof.Reals.Basic

@[expose] public section

noncomputable section

namespace Cert.Reals

open Idealize.ShloMosaic

/-- The reciprocal of a row's root mean square, in the extended reals. -/
def rstdE (x : Fin 1024 → EReal) : EReal :=
  Ideal.rsqrt (Ideal.div (∑ k, x k * x k) (Ideal.ofBits .f32 0x44800000#32) + Ideal.ofBits .f32 0x358637BD#32)

/-- The norm's gradient at a row `x`, of the cotangent `u` of the normalised row, in closed form. -/
def bwdE (x u : Fin 1024 → EReal) (k : Fin 1024) : EReal :=
  rstdE x * (u k - x k * rstdE x * Ideal.div (∑ j, x j * rstdE x * u j) (Ideal.ofBits .f32 0x44800000#32))

/-- The mean square plus epsilon of a real row. -/
def ms (x : Fin 1024 → ℝ) : ℝ := (∑ k, x k * x k) / 1024 + eps

/-- The mean square plus epsilon is positive. -/
theorem ms_pos (x : Fin 1024 → ℝ) : 0 < ms x :=
  add_pos_of_nonneg_of_pos (div_nonneg (Finset.sum_nonneg fun k _ => mul_self_nonneg (x k)) (by norm_num)) eps_pos

/-- The reciprocal root mean square of a real row. -/
def rstd (x : Fin 1024 → ℝ) : ℝ := (Real.sqrt (ms x))⁻¹

/-- The mean square plus epsilon, as the programs write it. -/
theorem ms_coe (x : Fin 1024 → ℝ) :
    Ideal.div (∑ k, ((x k : ℝ) : EReal) * ((x k : ℝ) : EReal)) (Ideal.ofBits .f32 0x44800000#32) + Ideal.ofBits .f32 0x358637BD#32
      = ((ms x : ℝ) : EReal) := by
  simp only [← EReal.coe_mul, coe_sum, ofBits_1024, ofBits_eps, div_1024, ← EReal.coe_add]
  rfl

/-- The reciprocal root mean square of a real row. -/
theorem rstdE_coe (x : Fin 1024 → ℝ) : rstdE (fun k => ((x k : ℝ) : EReal)) = ((rstd x : ℝ) : EReal) := by
  unfold rstdE
  rw [ms_coe, rsqrt_coe _ (ms_pos x)]
  rfl

/-- The gradient in closed form, over the reals. -/
def bwd (x u : Fin 1024 → ℝ) (k : Fin 1024) : ℝ := rstd x * (u k - x k * rstd x * ((∑ j, x j * rstd x * u j) / 1024))

/-- The gradient in closed form at a real row. -/
theorem bwdE_coe (x u : Fin 1024 → ℝ) (k : Fin 1024) :
    bwdE (fun k => ((x k : ℝ) : EReal)) (fun k => ((u k : ℝ) : EReal)) k = ((bwd x u k : ℝ) : EReal) := by
  unfold bwdE
  simp only [rstdE_coe, ← EReal.coe_mul, coe_sum, ofBits_1024, div_1024, ← EReal.coe_sub]
  rfl

/-- The gradient as differentiation of the row's norm writes it, in the extended reals: through the division by the root, and
    twice through the square. -/
def vjpE (x u : Fin 1024 → EReal) (k : Fin 1024) : EReal :=
  let t := Ideal.div ((∑ j, x j * u j) *
      (Ideal.ofBits .f32 0xBF000000#32 * Ideal.div (rstdE x)
        (Ideal.div (∑ k, x k * x k) (Ideal.ofBits .f32 0x44800000#32) + Ideal.ofBits .f32 0x358637BD#32)))
    (Ideal.ofBits .f32 0x44800000#32)
  u k * rstdE x + x k * t + t * x k

/-- Both forms of the gradient agree at real rows. -/
theorem vjpE_coe (x u : Fin 1024 → ℝ) (k : Fin 1024) :
    vjpE (fun k => ((x k : ℝ) : EReal)) (fun k => ((u k : ℝ) : EReal)) k = ((bwd x u k : ℝ) : EReal) := by
  unfold vjpE
  simp only [rstdE_coe, ms_coe]
  simp only [div_coe _ _ (ms_pos x).ne', ← EReal.coe_mul, coe_sum, ofBits_1024, ofBits_neg_half, div_1024,
    ← EReal.coe_add]
  refine congrArg _ ?_
  unfold bwd
  have h1 : rstd x / ms x = rstd x * rstd x * rstd x := by
    have : rstd x * rstd x = (ms x)⁻¹ := by
      unfold rstd
      rw [← mul_inv, Real.mul_self_sqrt (ms_pos x).le]
    rw [this, div_eq_mul_inv]
    ring
  have h2 : ∑ j, x j * rstd x * u j = (∑ j, x j * u j) * rstd x := by
    rw [Finset.sum_mul]
    exact Finset.sum_congr rfl fun j _ => by ring
  rw [h1, h2]
  ring

end Cert.Reals

end
-- ==== Proof.Loss.Kernel.lean ====
/- The loss's gradient call: each result as one closed form of the call's arguments. -/
module

public import proofs.«01_k».proof.Proof.Gen.LossIdeal.Value
public import proofs.«01_k».proof.Proof.Reals.Rms
public import Idealize.ShloMosaic.Lib.Pipeline.ValueKit

@[expose] public section

set_option maxRecDepth 16384

noncomputable section

namespace Cert.LossIdeal.Closed

open Cert.LossIdeal Cert.LossIdeal.Gen Idealize.ShloMosaic Idealize.ShloMosaic.TcCoe Idealize.SL.Sem Cert.Reals
open Idealize.ShloMosaic.Pipeline (Dat)

variable (m : (ℓ : Loc nD τ sig) → Buf (Elt Ideal) ℓ)

/-- A row of the last hidden state: the residual plus the activation's row against `w_down`. -/
def xrow (a : FVec Ideal S4096x4096 .f32) (w x1 : FVec Ideal S4096x1024 .f32) (r : Fin 4096) : Fin 1024 → EReal :=
  fun k => x1 (ix2 r k) + ∑ j : Fin 4096, a (ix2 r j) * w (ix2 j k)

/-- The error of a row: its norm times the gain, less the target. -/
def errE (x g t : Fin 1024 → EReal) : Fin 1024 → EReal := fun k => x k * rstdE x * g k - t k

/-- The cotangent of a row's output: the error over the row's length. -/
def dyE (x g t : Fin 1024 → EReal) : Fin 1024 → EReal := fun k => errE x g t k * Ideal.ofBits .f32 0x3A800000#32

/-- The arguments, as arrays. -/
abbrev argA (c : Dev nD) : FVec Ideal S4096x4096 .f32 := m ((c : Thread nD τ).loc main_arg0)
abbrev argW (c : Dev nD) : FVec Ideal S4096x1024 .f32 := m ((c : Thread nD τ).loc main_arg1)
abbrev argX (c : Dev nD) : FVec Ideal S4096x1024 .f32 := m ((c : Thread nD τ).loc main_arg2)
abbrev argG (c : Dev nD) : FVec Ideal S1024 .f32 := m ((c : Thread nD τ).loc main_arg3)
abbrev argT (c : Dev nD) : FVec Ideal S4096x1024 .f32 := m ((c : Thread nD τ).loc main_arg4)

/-- The block that each window takes at each grid point. -/
theorem index : ∀ t : Fin cfg0.N,
    win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![0, 0] ∧ win0_7.index t = ![0, 0]
    ∧ win0_8.index t = ![t.val, 0] := (by decide +kernel : ∀ t : Fin grid0.N, _)

/-- The array `a` that the call reads, out of the arguments. -/
theorem V_a (c : Dev nD) : @Eq (FVec Ideal S4096x4096 .bf16) (V m c main_v0) (truncf .bf16 (argA m c) bitsLt_bf16_f32) := by
  unfold V hostOps0; after_results

/-- The array `w` that the call reads, out of the arguments. -/
theorem V_w (c : Dev nD) : @Eq (FVec Ideal S4096x1024 .bf16) (V m c main_v1) (truncf .bf16 (argW m c) bitsLt_bf16_f32) := by
  unfold V hostOps0; after_results

/-- The array `g` that the call reads, out of the arguments. -/
theorem V_g (c : Dev nD) : @Eq (FVec Ideal S1x1024 .f32) (V m c main_v2) (shapeCast _ (argG m c) shapeCasts_S1024_S1x1024) := by
  unfold V hostOps0; after_results; rfl

/-- The array `x` that the call reads, out of the arguments. -/
theorem V_x (c : Dev nD) : @Eq (FVec Ideal S4096x1024 .f32) (V m c main_arg2) (argX m c) := by
  unfold V hostOps0; after_results

/-- The array `t` that the call reads, out of the arguments. -/
theorem V_t (c : Dev nD) : @Eq (FVec Ideal S4096x1024 .f32) (V m c main_arg4) (argT m c) := by
  unfold V hostOps0; after_results

/-- What input window 0 holds at a grid point, out of the arguments. -/
theorem in0 (c : Dev nD) (t : Fin cfg0.N) (y : S512x4096.Idx) :
    (iblk m c 0 t : FVec Ideal S512x4096 .bf16) y = argA m c ((win0_0.blk t).view.emb y) := congrFun (V_a m c) _
/-- What input window 1 holds at a grid point, out of the arguments. -/
theorem in1 (c : Dev nD) (t : Fin cfg0.N) (y : S4096x1024.Idx) :
    (iblk m c 1 t : FVec Ideal S4096x1024 .bf16) y = argW m c ((win0_1.blk t).view.emb y) := congrFun (V_w m c) _
/-- What input window 2 holds at a grid point, out of the arguments. -/
theorem in2 (c : Dev nD) (t : Fin cfg0.N) (y : S512x1024.Idx) :
    (iblk m c 2 t : FVec Ideal S512x1024 .f32) y = argX m c ((win0_2.blk t).view.emb y) := congrFun (V_x m c) _
/-- What input window 3 holds at a grid point, out of the arguments. -/
theorem in3 (c : Dev nD) (t : Fin cfg0.N) (y : S512x1024.Idx) :
    (iblk m c 3 t : FVec Ideal S512x1024 .f32) y = argT m c ((win0_3.blk t).view.emb y) := congrFun (V_t m c) _
/-- What input window 4 holds at a grid point, out of the arguments. -/
theorem in4 (c : Dev nD) (t : Fin cfg0.N) (y : S1x1024.Idx) :
    (iblk m c 4 t : FVec Ideal S1x1024 .f32) y = argG m c (ix1 ((win0_4.blk t).view.emb y 1)) :=
  (congrFun (V_g m c) _).trans (by pointwise)

/-- What the call writes for the hidden state's gradient. -/
def Gdx (a : FVec Ideal S4096x4096 .f32) (w x1 : FVec Ideal S4096x1024 .f32) (g : FVec Ideal S1024 .f32)
    (tg : FVec Ideal S4096x1024 .f32) : FVec Ideal S4096x1024 .f32 := fun i =>
  bwdE (xrow a w x1 (i 0)) (fun k => dyE (xrow a w x1 (i 0)) (fun k => g (ix1 k)) (fun k => tg (ix2 (i 0) k)) k * g (ix1 k)) (i 1)

/-- The values the body leaves at a grid point, over that point's blocks. -/
abbrev xh (c : Dev nD) (t : Fin cfg0.N) : FVec Ideal S512x1024 .f32 := k0_pay3 (iblk m c 0 t) (iblk m c 1 t) (iblk m c 2 t)
abbrev er (c : Dev nD) (t : Fin cfg0.N) : FVec Ideal S512x1024 .f32 :=
  k0_pay5 (iblk m c 0 t) (iblk m c 1 t) (iblk m c 2 t) (iblk m c 4 t) (iblk m c 3 t)
abbrev dy (c : Dev nD) (t : Fin cfg0.N) : FVec Ideal S512x1024 .f32 :=
  k0_pay6 (iblk m c 0 t) (iblk m c 1 t) (iblk m c 2 t) (iblk m c 4 t) (iblk m c 3 t)
abbrev dx (c : Dev nD) (t : Fin cfg0.N) : FVec Ideal S512x1024 .f32 :=
  k0_pay7 (iblk m c 0 t) (iblk m c 1 t) (iblk m c 2 t) (iblk m c 4 t) (iblk m c 3 t)

/-- What the first grid point leaves. -/
theorem outs_first (c : Dev nD) (t : Fin cfg0.N) (h : t.val % 8 = 0) :
    outsAt0 m c t.val t.isLt = (dx m c t, k0_pay8 (xh m c t) (dy m c t), k0_pay10 (er m c t), k0_pay12 (dx m c t)) := by
  have hlt : t.val < 8 := lt_of_lt_of_eq t.isLt N_0
  rw [outsAt0_A m c t h (by omega) h (by omega)]
  refine Prod.ext ?_ (Prod.ext ?_ (Prod.ext ?_ ?_)) <;> frame_out

/-- What a later grid point leaves, over what the one before it left. -/
theorem outs_later (c : Dev nD) (t : Fin cfg0.N) (h : ¬t.val % 8 = 0) :
    outsAt0 m c t.val t.isLt = (dx m c t,
      k0_pay9 (xh m c t) (dy m c t) (outsAt0 m c (t.val - 1) (Nat.lt_of_le_of_lt (Nat.sub_le _ _) t.isLt)).2.1,
      k0_pay11 (er m c t) (outsAt0 m c (t.val - 1) (Nat.lt_of_le_of_lt (Nat.sub_le _ _) t.isLt)).2.2.1, k0_pay12 (dx m c t)) := by
  rw [outsAt0_B m c t h (by omega) h (by omega)]
  refine Prod.ext ?_ (Prod.ext ?_ (Prod.ext ?_ ?_)) <;> frame_out

/-- What the body leaves in its output `dx` at a grid point. -/
theorem outs_dx (c : Dev nD) (t : Fin cfg0.N) : (outsAt0 m c t.val t.isLt).1 = dx m c t := by
  by_cases h : t.val % 8 = 0
  · rw [outs_first m c t h]
  · rw [outs_later m c t h]

/-- What the body leaves in its output `dxh` at a grid point. -/
theorem outs_dxh (c : Dev nD) (t : Fin cfg0.N) : (outsAt0 m c t.val t.isLt).2.2.2 = k0_pay12 (dx m c t) := by
  by_cases h : t.val % 8 = 0
  · rw [outs_first m c t h]
  · rw [outs_later m c t h]

/-- The array of output window 5 after the run. -/
theorem final5 (c : Dev nD) :
    (dats m 0 c).arrAt 5 cfg0.N = Gdx (argA m c) (argW m c) (argX m c) (argG m c) (argT m c) := by
  refine (dats m 0 c).arrAt_eq_of_covers 5 _ (by decide +kernel) fun t hf y => ?_
  blk_simp
  rw [after0_5, outs_dx]
  unfold dx
  obtain ⟨i0, i1, i2, i3, i4, i5, -⟩ := index t
  unfold_payloads
  pointwise [Gdx, bwdE, rstdE, dyE, errE, xrow]
  simp only [in0 m c t, in1 m c t, in2 m c t, in3 m c t, in4 m c t]
  blk_point [i0, i1, i2, i3, i4, i5]

/-- The array of output window 8 after the run. -/
theorem final8 (c : Dev nD) :
    (dats m 0 c).arrAt 8 cfg0.N = (Gdx (argA m c) (argW m c) (argX m c) (argG m c) (argT m c) : S4096x1024.Idx → EReal) := by
  refine (dats m 0 c).arrAt_eq_of_covers 8 _ (by decide +kernel) fun t hf y => ?_
  blk_simp
  rw [after0_8, outs_dxh]
  unfold dx
  obtain ⟨i0, i1, i2, i3, i4, -, -, -, i8⟩ := index t
  unfold_payloads
  pointwise [Gdx, bwdE, rstdE, dyE, errE, xrow]
  simp only [in0 m c t, in1 m c t, in2 m c t, in3 m c t, in4 m c t]
  blk_point [i0, i1, i2, i3, i4, i8]

/-- The gain's gradient: over the rows, the output's cotangent times the normalised row. -/
def Gdg (a : FVec Ideal S4096x4096 .f32) (w x1 : FVec Ideal S4096x1024 .f32) (g : FVec Ideal S1024 .f32)
    (tg : FVec Ideal S4096x1024 .f32) : FVec Ideal S1x1024 .f32 := fun i =>
  ∑ r : Fin 4096, dyE (xrow a w x1 r) (fun k => g (ix1 k)) (fun k => tg (ix2 r k)) (i 1) *
    (xrow a w x1 r (i 1) * rstdE (xrow a w x1 r))

/-- The last grid point. -/
abbrev last : Fin cfg0.N := ⟨7, by decide +kernel⟩

/-- What output window 6 holds after the last grid point: the sum of the parts of all of them. -/
theorem acc6 (c : Dev nD) (t : Fin cfg0.N) (ht : t.val + 1 = cfg0.N) (i : S1x1024.Idx) :
    (outsAt0 m c t.val t.isLt).2.1 i = 0 + ∑ p : Fin cfg0.N, k0_pay8 (xh m c p) (dy m c p) i := by
  refine Pipeline.eq_sum_fin_of_reset_step_apply_last (fun n hn => (outsAt0 m c n hn).2.1) 8 (fun _ => 0)
    (fun p => k0_pay8 (xh m c p) (dy m c p)) (fun t h i => ?_) (fun t h i => ?_) (by decide +kernel) t ht i
  · rw [outs_first m c t h, zero_add]
  · rw [outs_later m c t h]
    unfold k0_pay9
    pointwise

/-- The array of output window 6 after the run. -/
theorem final6 (c : Dev nD) :
    (dats m 0 c).arrAt 6 cfg0.N = Gdg (argA m c) (argW m c) (argX m c) (argG m c) (argT m c) := by
  funext i
  refine ((dats m 0 c).arrAt_emb_eq_after_last 6 last (by decide +kernel) i).trans ?_
  blk_simp
  rw [after0_6]
  refine (acc6 m c last rfl _).trans ?_
  rw [zero_add]
  unfold Gdg
  have key : ∀ p : Fin cfg0.N, k0_pay8 (xh m c p) (dy m c p) i = ∑ r : Fin 512,
      dyE (xrow (argA m c) (argW m c) (argX m c) ⟨p.val * 512 + r.val, by have := lt_of_lt_of_eq p.isLt N_0; omega⟩) (fun k => argG m c (ix1 k)) (fun k => argT m c (ix2 ⟨p.val * 512 + r.val, by have := lt_of_lt_of_eq p.isLt N_0; omega⟩ k)) (i 1) *
      (xrow (argA m c) (argW m c) (argX m c) ⟨p.val * 512 + r.val, by have := lt_of_lt_of_eq p.isLt N_0; omega⟩ (i 1) * rstdE (xrow (argA m c) (argW m c) (argX m c) ⟨p.val * 512 + r.val, by have := lt_of_lt_of_eq p.isLt N_0; omega⟩)) := fun t => by
    obtain ⟨i0, i1, i2, i3, i4, -, i6, -⟩ := index t
    unfold xh dy
    unfold_payloads
    pointwise [rstdE, dyE, errE, xrow]
    simp only [in0 m c t, in1 m c t, in2 m c t, in3 m c t, in4 m c t]
    blk_point [i0, i1, i2, i3, i4, i6]
  refine (Finset.sum_congr rfl fun p _ => key p).trans ?_
  exact Fin.sum_mul_add_congr (S := cfg0.N) (n := 512) (fun p r hl => rfl)

/-- The loss: half the sum over the rows of the mean square error, block of rows by block of rows, in every lane. -/
def Gloss (a : FVec Ideal S4096x4096 .f32) (w x1 : FVec Ideal S4096x1024 .f32) (g : FVec Ideal S1024 .f32)
    (tg : FVec Ideal S4096x1024 .f32) : FVec Ideal S1x128 .f32 := fun _ =>
  ∑ p : Fin cfg0.N, Ideal.ofBits .f32 0x3F000000#32 * ∑ r : Fin 512,
    (∑ k : Fin 1024,
      errE (xrow a w x1 ⟨p.val * 512 + r.val, by have := lt_of_lt_of_eq p.isLt N_0; omega⟩) (fun k => g (ix1 k))
        (fun k => tg (ix2 ⟨p.val * 512 + r.val, by have := lt_of_lt_of_eq p.isLt N_0; omega⟩ k)) k *
      errE (xrow a w x1 ⟨p.val * 512 + r.val, by have := lt_of_lt_of_eq p.isLt N_0; omega⟩) (fun k => g (ix1 k))
        (fun k => tg (ix2 ⟨p.val * 512 + r.val, by have := lt_of_lt_of_eq p.isLt N_0; omega⟩ k)) k)
      * Ideal.ofBits .f32 0x3A800000#32

/-- What output window 7 holds after the last grid point: the sum of the parts of all of them. -/
theorem acc7 (c : Dev nD) (t : Fin cfg0.N) (ht : t.val + 1 = cfg0.N) (i : S1x128.Idx) :
    (outsAt0 m c t.val t.isLt).2.2.1 i = 0 + ∑ p : Fin cfg0.N, k0_pay10 (er m c p) i := by
  refine Pipeline.eq_sum_fin_of_reset_step_apply_last (fun n hn => (outsAt0 m c n hn).2.2.1) 8 (fun _ => 0)
    (fun p => k0_pay10 (er m c p)) (fun t h i => ?_) (fun t h i => ?_) (by decide +kernel) t ht i
  · rw [outs_first m c t h, zero_add]
  · rw [outs_later m c t h]
    unfold k0_pay11
    pointwise

/-- The array of output window 7 after the run. -/
theorem final7 (c : Dev nD) :
    (dats m 0 c).arrAt 7 cfg0.N = Gloss (argA m c) (argW m c) (argX m c) (argG m c) (argT m c) := by
  funext i
  refine ((dats m 0 c).arrAt_emb_eq_after_last 7 last (by decide +kernel) i).trans ?_
  blk_simp
  rw [after0_7]
  refine (acc7 m c last rfl _).trans ?_
  rw [zero_add]
  unfold Gloss
  refine Finset.sum_congr rfl fun t _ => ?_
  obtain ⟨i0, i1, i2, i3, i4, -, -, i7, -⟩ := index t
  unfold er
  unfold_payloads
  pointwise [rstdE, errE, xrow]
  simp only [in0 m c t, in1 m c t, in2 m c t, in3 m c t, in4 m c t]
  blk_point [i0, i1, i2, i3, i4, i7]

end Cert.LossIdeal.Closed

end
-- ==== Proof.Loss.Ref.lean ====
/- The loss's reference, result by result, read at an element. -/
module

public import proofs.«01_k».proof.Proof.Loss.Kernel
public import proofs.«01_k».proof.Proof.Gen.LossRefIdeal.Read

@[expose] public section

set_option maxRecDepth 16384

noncomputable section

namespace Cert.LossRefIdeal.Closed

open Cert.LossRefIdeal Cert.LossRefIdeal.Read Idealize.ShloMosaic Idealize.ShloMosaic.TcCoe Idealize.SL.Sem Cert.Reals
open Cert.LossIdeal.Closed

/-- The cotangent of a row's output, as differentiation writes it. -/
def dyR (x g t : Fin 1024 → EReal) : Fin 1024 → EReal := fun k =>
  Ideal.div (Ideal.ofBits .f32 0x3F000000#32 * 1) (Ideal.ofBits .f32 0x44800000#32) * (Ideal.ofBits .f32 0x40000000#32 * errE x g t k)

variable (a : FVec Ideal S4096x4096 .f32) (w x1 : FVec Ideal S4096x1024 .f32) (g : FVec Ideal S1024 .f32)
  (tg : FVec Ideal S4096x1024 .f32)

/-- The last hidden state. -/
theorem ref_x (i : S4096x1024.Idx) : val_main_v1 (F := Ideal) a w x1 i = xrow a w x1 (i 0) (i 1) := by
  rw [val_main_v1_apply, val_main_v0_apply]
  unfold xrow
  pointwise
  reads_congr <;> first | rfl | exact congrArg _ (funext fun k => by fin_cases k <;> rfl)

/-- The mean square of a row plus epsilon. -/
theorem ref_ms (i : S4096x1.Idx) : val_main_v8 (F := Ideal) a w x1 i =
    Ideal.div (∑ k, xrow a w x1 (i 0) k * xrow a w x1 (i 0) k) (Ideal.ofBits .f32 0x44800000#32) + Ideal.ofBits .f32 0x358637BD#32 := by
  simp only [val_main_v8_apply, val_main_v7_apply, val_main_v6_apply, val_main_v5_apply, val_main_v4_apply, val_main_v3_apply,
    val_main_v2_apply, ref_x, val_main_cst_apply, val_main_cst_0_apply, val_main_cst_1_apply]
  pointwise
  rfl

/-- The reciprocal root mean square of a row. -/
theorem ref_rstd (i : S4096x1.Idx) : val_main_v9 (F := Ideal) a w x1 i = rstdE (xrow a w x1 (i 0)) := by
  rw [val_main_v9_apply, ref_ms]
  rfl

/-- The error. -/
theorem ref_err (i : S4096x1024.Idx) : val_main_v18 (F := Ideal) a w x1 g tg i =
    errE (xrow a w x1 (i 0)) (fun k => g (ix1 k)) (fun k => tg (ix2 (i 0) k)) (i 1) := by
  simp only [val_main_v18_apply, val_main_v17_apply, val_main_v16_apply, val_main_v15_apply, val_main_v14_apply,
    val_main_v13_apply, ref_x, ref_rstd]
  unfold errE
  pointwise
  reads_congr <;> first | rfl | exact congrArg _ (funext fun k => by fin_cases k <;> rfl)

/-- The cotangent of a row's output. -/
theorem ref_dy (i : S4096x1024.Idx) : val_main_v32 (F := Ideal) a w x1 g tg i =
    dyR (xrow a w x1 (i 0)) (fun k => g (ix1 k)) (fun k => tg (ix2 (i 0) k)) (i 1) := by
  simp only [val_main_v32_apply, val_main_v31_apply, val_main_v30_apply, val_main_v29_apply, val_main_v28_apply,
    val_main_v27_apply, val_main_v21_apply, val_main_v20_apply, ref_err, val_main_cst_8_apply, val_main_cst_9_apply,
    val_main_cst_10_apply, val_main_cst_3_apply]
  unfold dyR
  pointwise

/-- Where an entry of a reshaped and broadcast array comes from. -/
theorem e35 (i : S1024.Idx) : idx_main_v35 (idx_main_v38 i 0) = i := funext fun a => by
  fin_cases a
  exact Fin.ext (by show 0 * 1024 + (i 0).val = (i 0).val; omega)

/-- Where an entry of a reshaped and broadcast array comes from. -/
theorem e41 (i : S4096.Idx) : idx_main_v41 (idx_main_v47 i 0) = i := funext fun a => by
  fin_cases a
  exact Fin.ext (by show (i 0).val * 1 + 0 = (i 0).val; omega)

/-- The hidden state's gradient. -/
theorem ref_dx (i : S4096x1024.Idx) : val_main_v52 (F := Ideal) a w x1 g tg i = vjpE (xrow a w x1 (i 0))
      (fun k => dyR (xrow a w x1 (i 0)) (fun k => g (ix1 k)) (fun k => tg (ix2 (i 0) k)) k * g (ix1 k)) (i 1) := by
  have hu : ∀ j : S4096x1024.Idx, val_main_v37 (F := Ideal) a w x1 g tg j =
      dyR (xrow a w x1 (j 0)) (fun k => g (ix1 k)) (fun k => tg (ix2 (j 0) k)) (j 1) * g (ix1 (j 1)) := fun j => by
    simp only [val_main_v37_apply, val_main_v36_apply, val_main_v15_apply, ref_dy]
    pointwise
    reads_congr <;> first | rfl | exact congrArg _ (funext fun k => by fin_cases k <;> rfl)
  simp only [val_main_v52_apply, val_main_v51_apply, val_main_v50_apply, val_main_v49_apply, val_main_v48_apply,
    val_main_v47_apply, val_main_v46_apply, val_main_v45_apply, val_main_v44_apply, val_main_v43_apply, val_main_v42_apply,
    val_main_v41_apply, val_main_v40_apply, val_main_v39_apply, hu, val_main_v12_apply, val_main_v11_apply, val_main_v10_apply,
    ref_ms, ref_x, ref_rstd, val_main_cst_2_apply, val_main_cst_12_apply, val_main_cst_13_apply, val_main_cst_14_apply,
    val_main_cst_15_apply, Fin.sum_univ_one, e41]
  unfold vjpE
  pointwise
  rfl

/-- The gain's gradient. -/
theorem ref_dg (i : S1x1024.Idx) : val_main_v53 (F := Ideal) a w x1 g tg i =
    ∑ r : Fin 4096, (xrow a w x1 r (i 1) * rstdE (xrow a w x1 r)) *
      dyR (xrow a w x1 r) (fun k => g (ix1 k)) (fun k => tg (ix2 r k)) (i 1) := by
  simp only [val_main_v53_apply, val_main_v38_apply, val_main_v35_apply, val_main_v34_apply, val_main_v33_apply,
    val_main_v14_apply, val_main_v13_apply, ref_x, ref_rstd, ref_dy, val_main_cst_11_apply, val_main_cst_12_apply,
    Fin.sum_univ_one, e35]
  pointwise
  rfl

/-- The loss. -/
theorem ref_loss (i : S1x128.Idx) : val_main_v54 (F := Ideal) a w x1 g tg i =
    Ideal.ofBits .f32 0x3F000000#32 * ∑ r : Fin 4096,
      Ideal.div (∑ k : Fin 1024, errE (xrow a w x1 r) (fun k => g (ix1 k)) (fun k => tg (ix2 r k)) k *
        errE (xrow a w x1 r) (fun k => g (ix1 k)) (fun k => tg (ix2 r k)) k) (Ideal.ofBits .f32 0x44800000#32) := by
  simp only [val_main_v54_apply, val_main_v26_apply, val_main_v25_apply, val_main_v24_apply, val_main_v23_apply,
    val_main_v22_apply, val_main_v19_apply, ref_err, val_main_cst_4_apply, val_main_cst_5_apply, val_main_cst_6_apply,
    val_main_cst_7_apply]
  pointwise
  rfl

end Cert.LossRefIdeal.Closed

end
-- ==== Proof.Loss.Main.lean ====
/- The loss's gradient call against the derivative of the plain forward lines. -/
module

public import proofs.«01_k».proof.Defs
public import proofs.«01_k».proof.Proof.Loss.Ref
public import proofs.«01_k».proof.Proof.Gen.LossRefIdeal.Run
public import proofs.«01_k».proof.Proof.Gen.Pre_finite_loss

@[expose] public section

set_option maxRecDepth 16384

noncomputable section

namespace Cert.Proof

open Idealize.ShloMosaic Idealize.ShloMosaic.TcCoe Idealize.SL.Sem Cert.Reals
open Cert.LossIdeal.Closed Cert.LossRefIdeal.Closed Cert.LossRefIdeal.Read

/-- The precondition of the loss's call: every argument is an array of reals. -/
theorem pre_loss (a : FVec Ideal Cert.LossIdeal.S4096x4096 .f32) (w x1 : FVec Ideal Cert.LossIdeal.S4096x1024 .f32)
    (g : FVec Ideal Cert.LossIdeal.S1024 .f32) (tg : FVec Ideal Cert.LossIdeal.S4096x1024 .f32)
    (h : Cert.Pre_finite_loss.fn (F := Ideal) a w x1 g tg = fun _ => 1#1) :
    (∃ r, a = up r) ∧ (∃ r, w = up r)
      ∧ (∃ r, x1 = up r) ∧ (∃ r, g = up r)
      ∧ ∃ r, tg = up r := by
  unfold Cert.Pre_finite_loss.fn at h
  dsimp only at h
  try unfold Cert.Pre_finite_loss.fn_part1 at h
  try dsimp only at h
  simp only [andi_ones] at h
  obtain ⟨⟨⟨⟨h0, h1⟩, h2⟩, h3⟩, h4⟩ := h
  exact ⟨real_of_all _ _ _ _ _ _ h0, real_of_all _ _ _ _ _ _ h1, real_of_all _ _ _ _ _ _ h2, real_of_all _ _ _ _ _ _ h3,
    real_of_all _ _ _ _ _ _ h4⟩

section
variable (a : Cert.LossIdeal.S4096x4096.Idx → ℝ) (w x1 tg : Cert.LossIdeal.S4096x1024.Idx → ℝ) (g : Cert.LossIdeal.S1024.Idx → ℝ)

/-- A row of the last hidden state, of real arguments. -/
def xrowR (r : Fin 4096) : Fin 1024 → ℝ := fun k => x1 (ix2 r k) + ∑ j : Fin 4096, a (ix2 r j) * w (ix2 j k)

/-- A row of the residual stream, as reals. -/
theorem xrow_coe (r : Fin 4096) :
    xrow (up a) (up w) (up x1) r
      = fun k => ((xrowR a w x1 r k : ℝ) : EReal) := by
  funext k
  unfold xrow
  simp only [up_apply, ← EReal.coe_mul, coe_sum, ← EReal.coe_add]
  rfl

/-- The error of a real row. -/
def errR (x g t : Fin 1024 → ℝ) : Fin 1024 → ℝ := fun k => x k * rstd x * g k - t k

/-- The error of a row, as reals. -/
theorem errE_coe (x g t : Fin 1024 → ℝ) :
    errE (fun k => ((x k : ℝ) : EReal)) (fun k => ((g k : ℝ) : EReal)) (fun k => ((t k : ℝ) : EReal))
      = fun k => ((errR x g t k : ℝ) : EReal) := by
  funext k
  unfold errE
  simp only [rstdE_coe, ← EReal.coe_mul, ← EReal.coe_sub]
  rfl

/-- Both spellings of the output's cotangent at a real row. -/
theorem dyE_coe (x g t : Fin 1024 → ℝ) :
    dyE (fun k => ((x k : ℝ) : EReal)) (fun k => ((g k : ℝ) : EReal)) (fun k => ((t k : ℝ) : EReal))
      = fun k => ((errR x g t k * (1 / 1024) : ℝ) : EReal) := by
  funext k
  unfold dyE
  simp only [errE_coe, ofBits_inv1024, ← EReal.coe_mul]

/-- The cotangent of a normalised row, as reals. -/
theorem dyR_coe (x g t : Fin 1024 → ℝ) :
    dyR (fun k => ((x k : ℝ) : EReal)) (fun k => ((g k : ℝ) : EReal)) (fun k => ((t k : ℝ) : EReal))
      = fun k => ((errR x g t k * (1 / 1024) : ℝ) : EReal) := by
  funext k
  unfold dyR
  simp only [errE_coe, mul_one, ofBits_half, ofBits_1024, ofBits_two, div_1024, ← EReal.coe_mul]
  refine congrArg _ ?_
  ring

/-- The input's gradient, as reals. -/
theorem dx_coe : val_main_v52 (F := Ideal) (up a) (up w) (up x1)
      (up g) (up tg)
    = Gdx (up a) (up w) (up x1)
      (up g) (up tg) := by
  funext i
  refine (ref_dx _ _ _ _ _ i).trans ?_
  have key : ∀ (r : Fin 4096) (k : Fin 1024),
      vjpE (xrow (up a) (up w) (up x1) r) (fun k => dyR (xrow (up a) (up w) (up x1) r) (fun k => up g (ix1 k))
        (fun k => up tg (ix2 r k)) k * up g (ix1 k)) k
      = bwdE (xrow (up a) (up w) (up x1) r) (fun k => dyE (xrow (up a) (up w) (up x1) r) (fun k => up g (ix1 k))
        (fun k => up tg (ix2 r k)) k * up g (ix1 k)) k := fun r k => by
    simp only [xrow_coe, up_apply, dyE_coe, dyR_coe, ← EReal.coe_mul]
    rw [vjpE_coe, bwdE_coe]
  exact key (i 0) (i 1)

/-- The gain's gradient, as reals. -/
theorem dg_coe : val_main_v53 (F := Ideal) (up a) (up w) (up x1)
      (up g) (up tg)
    = Gdg (up a) (up w) (up x1)
      (up g) (up tg) := by
  funext i
  refine (ref_dg _ _ _ _ _ i).trans ?_
  unfold Gdg
  refine Finset.sum_congr rfl fun r _ => ?_
  simp only [xrow_coe, up_apply, dyE_coe, dyR_coe]
  exact mul_comm _ _

/-- The loss, as reals. -/
theorem loss_coe : Gloss (up a) (up w) (up x1)
      (up g) (up tg)
    = val_main_v54 (F := Ideal) (up a) (up w) (up x1)
      (up g) (up tg) := by
  funext i
  refine Eq.trans ?_ (ref_loss _ _ _ _ _ i).symm
  unfold Gloss
  simp only [xrow_coe, up_apply, errE_coe, ofBits_half, ofBits_inv1024, ofBits_1024, div_1024, ← EReal.coe_mul, coe_sum]
  refine congrArg _ ?_
  rw [← Finset.mul_sum]
  refine congrArg _ ?_
  refine Fin.sum_mul_add_congr (S := Cert.LossIdeal.cfg0.N) (n := 512) (fun p r hl => ?_)
  ring
end

/-- The loss's gradient call computes the loss and the derivatives of the forward lines, from real arguments. -/
theorem algebraic_loss : Cert.algebraic_LossIdeal_LossRefIdeal_pre_finite_loss := by
  intro m ρ m' ρ' hpre hag
  refine ⟨fun c => Gdx (argA m c) (argW m c) (argX m c) (argG m c) (argT m c),
    fun c => Gdg (argA m c) (argW m c) (argX m c) (argG m c) (argT m c),
    fun c => Gloss (argA m c) (argW m c) (argX m c) (argG m c) (argT m c),
    fun c => Gdx (argA m c) (argW m c) (argX m c) (argG m c) (argT m c), ?_, ?_⟩
  · exact (θ_run _ _ _).mono (fun r h c => by
      obtain ⟨h5, h6, h7, h8, hr⟩ := h c
      exact ⟨h5.trans (final5 m c), h6.trans (final6 m c), h7.trans (final7 m c), h8.trans (final8 m c), hr⟩)
      (Cert.LossIdeal.Value.run_blocks m ρ)
  · refine (θ_run _ _ _).mono (fun r h c => ?_) (Cert.LossRefIdeal.Value.run m' ρ')
    obtain ⟨h5, h6, h7, h8, hr⟩ := h c
    obtain ⟨a0, a1, a2, a3, a4⟩ := hag c
    obtain ⟨⟨a, ha⟩, ⟨w, hw⟩, ⟨x1, hx⟩, ⟨g, hg⟩, ⟨tg, ht⟩⟩ := pre_loss (argA m c) (argW m c) (argX m c) (argG m c) (argT m c) (hpre c)
    have hdx : val_main_v52 (F := Ideal) (argA m c) (argW m c) (argX m c) (argG m c) (argT m c)
        = Gdx (argA m c) (argW m c) (argX m c) (argG m c) (argT m c) := by
      rw [ha, hw, hx, hg, ht]
      exact dx_coe a w x1 tg g
    have hdg : val_main_v53 (F := Ideal) (argA m c) (argW m c) (argX m c) (argG m c) (argT m c)
        = Gdg (argA m c) (argW m c) (argX m c) (argG m c) (argT m c) := by
      rw [ha, hw, hx, hg, ht]
      exact dg_coe a w x1 tg g
    refine ⟨h5.trans ?_, h6.trans ?_, h7.trans ?_, h8.trans ?_, hr⟩
    · rw [val_main_v52_eq, a0, a1, a2, a3, a4]
      exact hdx
    · rw [val_main_v53_eq, a0, a1, a2, a3, a4]
      exact hdg
    · rw [val_main_v54_eq, a0, a1, a2, a3, a4]
      have := loss_coe a w x1 tg g
      rw [← ha, ← hw, ← hx, ← hg, ← ht] at this
      exact this.symm
    · rw [val_main_v55_eq, a0, a1, a2, a3, a4]
      exact hdx

end Cert.Proof

end
-- ==== Proof.Norm2.Kernel.lean ====
/- The second norm's gradient call: each result as one closed form of the call's arguments. -/
module

public import proofs.«01_k».proof.Proof.Gen.Norm2Ideal.Value
public import proofs.«01_k».proof.Proof.Reals.Rms
public import Idealize.ShloMosaic.Lib.Pipeline.ValueKit

@[expose] public section

set_option maxRecDepth 16384

noncomputable section

namespace Cert.Norm2Ideal.Closed

open Cert.Norm2Ideal Cert.Norm2Ideal.Gen Idealize.ShloMosaic Idealize.ShloMosaic.TcCoe Idealize.SL.Sem Cert.Reals
open Idealize.ShloMosaic.Pipeline (Dat)

variable (m : (ℓ : Loc nD τ sig) → Buf (Elt Ideal) ℓ)

/-- A row of an array of rows of 1024. -/
def row (x : FVec Ideal S4096x1024 .f32) (r : Fin 4096) : Fin 1024 → EReal := fun k => x (ix2 r k)

/-- The cotangent of the normalised row: the pre-activation's cotangent against the rows of `w_up`. -/
def dh (w : FVec Ideal S1024x4096 .f32) (da : FVec Ideal S4096x4096 .f32) (r : Fin 4096) : Fin 1024 → EReal :=
  fun k => ∑ j : Fin 4096, da (ix2 r j) * w (ix2 k j)

/-- The arguments, as arrays. -/
abbrev argX (c : Dev nD) : FVec Ideal S4096x1024 .f32 := m ((c : Thread nD τ).loc main_arg0)
abbrev argG (c : Dev nD) : FVec Ideal S1x1024 .f32 := m ((c : Thread nD τ).loc main_arg1)
abbrev argW (c : Dev nD) : FVec Ideal S1024x4096 .f32 := m ((c : Thread nD τ).loc main_arg2)
abbrev argDa (c : Dev nD) : FVec Ideal S4096x4096 .f32 := m ((c : Thread nD τ).loc main_arg3)
abbrev argD (c : Dev nD) : FVec Ideal S4096x1024 .f32 := m ((c : Thread nD τ).loc main_arg4)

/-- The block that each window takes at each grid point. -/
theorem index : ∀ t : Fin cfg0.N,
    win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![t.val, 0] ∧ win0_7.index t = ![0, 0] :=
  (by decide +kernel : ∀ t : Fin grid0.N, _)

/-- The array `da` that the call reads, out of the arguments. -/
theorem V_da (c : Dev nD) : @Eq (FVec Ideal S4096x4096 .bf16) (V m c main_v8) (truncf .bf16 (argDa m c) bitsLt_bf16_f32) := by
  unfold V hostOps0; after_results

/-- The array `w` that the call reads, out of the arguments. -/
theorem V_w (c : Dev nD) : @Eq (FVec Ideal S4096x1024 .bf16) (V m c main_v10)
    (truncf .bf16 (transpose S4096x1024 [1, 0] (argW m c) transposes_S1024x4096_S4096x1024_1_0) bitsLt_bf16_f32) := by
  unfold V hostOps0; after_results

/-- The array `x` that the call reads, out of the arguments. -/
theorem V_x (c : Dev nD) : @Eq (FVec Ideal S4096x1024 .f32) (V m c main_arg0) (argX m c) := by
  unfold V hostOps0; after_results

/-- The array `r` that the call reads, out of the arguments. -/
theorem V_r (c : Dev nD) : @Eq (FVec Ideal S4096x1 .f32) (V m c main_v7)
    (Host.rsqrt (addf (Host.divf (broadcastInDim S4096x1 ![0] bcast_S4096_S4096x1_0
      (Host.reduceAdd (mulf (argX m c) (argX m c)) (constant S_ .f32 0x00000000#32) reducesTo_S4096x1024_S4096_d1 h_S_))
      (broadcastInDim S4096x1 ![] bcast_S_S4096x1 (constant S_ .f32 0x44800000#32)))
      (broadcastInDim S4096x1 ![] bcast_S_S4096x1 (constant S_ .f32 0x358637BD#32)))) := by
  unfold V hostOps0; after_results

/-- The array `g` that the call reads, out of the arguments. -/
theorem V_g (c : Dev nD) : @Eq (FVec Ideal S1x1024 .f32) (V m c main_arg1) (argG m c) := by
  unfold V hostOps0; after_results

/-- The array `d` that the call reads, out of the arguments. -/
theorem V_d (c : Dev nD) : @Eq (FVec Ideal S4096x1024 .f32) (V m c main_arg4) (argD m c) := by
  unfold V hostOps0; after_results

/-- What input window 0 holds at a grid point, out of the arguments. -/
theorem in0 (c : Dev nD) (t : Fin cfg0.N) (y : S512x4096.Idx) :
    (iblk m c 0 t : FVec Ideal S512x4096 .bf16) y = argDa m c ((win0_0.blk t).view.emb y) := congrFun (V_da m c) _
/-- What input window 1 holds at a grid point, out of the arguments. -/
theorem in1 (c : Dev nD) (t : Fin cfg0.N) (y : S4096x1024.Idx) :
    (iblk m c 1 t : FVec Ideal S4096x1024 .bf16) y =
      argW m c (ix2 ((win0_1.blk t).view.emb y 1) ((win0_1.blk t).view.emb y 0)) :=
  (congrFun (V_w m c) _).trans (by pointwise)
/-- What input window 2 holds at a grid point, out of the arguments. -/
theorem in2 (c : Dev nD) (t : Fin cfg0.N) (y : S512x1024.Idx) :
    (iblk m c 2 t : FVec Ideal S512x1024 .f32) y = argX m c ((win0_2.blk t).view.emb y) := congrFun (V_x m c) _
/-- What input window 3 holds at a grid point, out of the arguments. -/
theorem in3 (c : Dev nD) (t : Fin cfg0.N) (y : S512x1.Idx) :
    (iblk m c 3 t : FVec Ideal S512x1 .f32) y = rstdE (row (argX m c) ((win0_3.blk t).view.emb y 0)) :=
  (congrFun (V_r m c) _).trans (by pointwise [rstdE, row])
/-- What input window 4 holds at a grid point, out of the arguments. -/
theorem in4 (c : Dev nD) (t : Fin cfg0.N) (y : S1x1024.Idx) :
    (iblk m c 4 t : FVec Ideal S1x1024 .f32) y = argG m c ((win0_4.blk t).view.emb y) := congrFun (V_g m c) _
/-- What input window 5 holds at a grid point, out of the arguments. -/
theorem in5 (c : Dev nD) (t : Fin cfg0.N) (y : S512x1024.Idx) :
    (iblk m c 5 t : FVec Ideal S512x1024 .f32) y = argD m c ((win0_5.blk t).view.emb y) := congrFun (V_d m c) _

/-- The input's gradient: what flows past the norm, plus the norm's. -/
def Gdx (x : FVec Ideal S4096x1024 .f32) (g : FVec Ideal S1x1024 .f32) (w : FVec Ideal S1024x4096 .f32)
    (da : FVec Ideal S4096x4096 .f32) (d : FVec Ideal S4096x1024 .f32) : FVec Ideal S4096x1024 .f32 := fun i =>
  d i + bwdE (row x (i 0)) (fun k => dh w da (i 0) k * g (ix2 0 k)) (i 1)

/-- The gain's gradient: over the rows, the normalised row's cotangent times the row over its root mean square. -/
def Gdg (x : FVec Ideal S4096x1024 .f32) (w : FVec Ideal S1024x4096 .f32) (da : FVec Ideal S4096x4096 .f32) :
    FVec Ideal S1x1024 .f32 := fun i => ∑ r : Fin 4096, dh w da r (i 1) * (row x r (i 1) * rstdE (row x r))

/-- The values the body leaves at a grid point, over that point's blocks. -/
abbrev dx (c : Dev nD) (t : Fin cfg0.N) : FVec Ideal S512x1024 .f32 :=
  k0_pay5 (iblk m c 0 t) (iblk m c 1 t) (iblk m c 3 t) (iblk m c 2 t) (iblk m c 5 t) (iblk m c 4 t)
abbrev dg (c : Dev nD) (t : Fin cfg0.N) : FVec Ideal S1x1024 .f32 :=
  k0_pay6 (iblk m c 0 t) (iblk m c 1 t) (iblk m c 3 t) (iblk m c 2 t)

/-- What the first grid point leaves. -/
theorem outs_first (c : Dev nD) (t : Fin cfg0.N) (h : t.val % 8 = 0) :
    outsAt0 m c t.val t.isLt = (dx m c t, dg m c t) := by
  have hlt : t.val < 8 := lt_of_lt_of_eq t.isLt N_0
  rw [outsAt0_A m c t h (by omega)]
  refine Prod.ext ?_ ?_ <;> frame_out

/-- What a later grid point leaves, over what the one before it left. -/
theorem outs_later (c : Dev nD) (t : Fin cfg0.N) (h : ¬t.val % 8 = 0) :
    outsAt0 m c t.val t.isLt = (dx m c t,
      k0_pay1 (dg m c t) (outsAt0 m c (t.val - 1) (Nat.lt_of_le_of_lt (Nat.sub_le _ _) t.isLt)).2) := by
  rw [outsAt0_B m c t h (by omega)]
  refine Prod.ext ?_ ?_ <;> frame_out

/-- What the body leaves in its output `dx` at a grid point. -/
theorem outs_dx (c : Dev nD) (t : Fin cfg0.N) : (outsAt0 m c t.val t.isLt).1 = dx m c t := by
  by_cases h : t.val % 8 = 0
  · rw [outs_first m c t h]
  · rw [outs_later m c t h]

/-- The array of output window 6 after the run. -/
theorem final6 (c : Dev nD) :
    (dats m 0 c).arrAt 6 cfg0.N = Gdx (argX m c) (argG m c) (argW m c) (argDa m c) (argD m c) := by
  refine (dats m 0 c).arrAt_eq_of_covers 6 _ (by decide +kernel) fun t hf y => ?_
  blk_simp
  rw [after0_6, outs_dx]
  unfold dx
  obtain ⟨i0, i1, i2, i3, i4, i5, i6, -⟩ := index t
  unfold_payloads
  pointwise [Gdx, bwdE, dh]
  simp only [in0 m c t, in1 m c t, in2 m c t, in3 m c t, in4 m c t, in5 m c t]
  unfold row
  blk_point [i0, i1, i2, i3, i4, i5, i6]

/-- The last grid point. -/
abbrev last : Fin cfg0.N := ⟨7, by decide +kernel⟩

/-- What output window 7 holds after the last grid point: the sum of the parts of all of them. -/
theorem acc7 (c : Dev nD) (t : Fin cfg0.N) (ht : t.val + 1 = cfg0.N) (i : S1x1024.Idx) :
    (outsAt0 m c t.val t.isLt).2 i = 0 + ∑ p : Fin cfg0.N, dg m c p i := by
  refine Pipeline.eq_sum_fin_of_reset_step_apply_last (fun n hn => (outsAt0 m c n hn).2) 8 (fun _ => 0)
    (fun p => dg m c p) (fun t h i => ?_) (fun t h i => ?_) (by decide +kernel) t ht i
  · rw [outs_first m c t h, zero_add]
  · rw [outs_later m c t h]
    unfold k0_pay1
    pointwise

/-- A row of block `p`, as a row of the array. -/
abbrev at_ (p : Fin cfg0.N) (r : Fin 512) : Fin 4096 := ⟨p.val * 512 + r.val, by have := lt_of_lt_of_eq p.isLt N_0; omega⟩

/-- The array of output window 7 after the run. -/
theorem final7 (c : Dev nD) : (dats m 0 c).arrAt 7 cfg0.N = Gdg (argX m c) (argW m c) (argDa m c) := by
  funext i
  refine ((dats m 0 c).arrAt_emb_eq_after_last 7 last (by decide +kernel) i).trans ?_
  blk_simp
  rw [after0_7]
  refine (acc7 m c last rfl _).trans ?_
  rw [zero_add]
  have key : ∀ p : Fin cfg0.N, dg m c p i = ∑ r : Fin 512, dh (argW m c) (argDa m c) (at_ p r) (i 1) *
      (row (argX m c) (at_ p r) (i 1) * rstdE (row (argX m c) (at_ p r))) := fun t => by
    obtain ⟨i0, i1, i2, i3, i4, -, -, i7⟩ := index t
    unfold dg
    unfold_payloads
    pointwise [dh]
    simp only [in0 m c t, in1 m c t, in2 m c t, in3 m c t, in4 m c t]
    unfold row
    blk_point [i0, i1, i2, i3, i4, i7]
  refine (Finset.sum_congr rfl fun p _ => key p).trans ?_
  exact Fin.sum_mul_add_congr (S := cfg0.N) (n := 512) (fun p r hl => rfl)

end Cert.Norm2Ideal.Closed

end
-- ==== Proof.Norm2.Ref.lean ====
/- The second norm's reference, result by result, read at an element. -/
module

public import proofs.«01_k».proof.Proof.Norm2.Kernel
public import proofs.«01_k».proof.Proof.Gen.Norm2RefIdeal.Read

@[expose] public section

set_option maxRecDepth 16384

noncomputable section

namespace Cert.Norm2RefIdeal.Closed

open Cert.Norm2RefIdeal Cert.Norm2RefIdeal.Read Idealize.ShloMosaic Idealize.ShloMosaic.TcCoe Idealize.SL.Sem Cert.Reals
open Cert.Norm2Ideal.Closed

variable (x : FVec Ideal S4096x1024 .f32) (g : FVec Ideal S1x1024 .f32) (w : FVec Ideal S1024x4096 .f32)
  (da : FVec Ideal S4096x4096 .f32) (d : FVec Ideal S4096x1024 .f32)

/-- The mean square of a row plus epsilon. -/
theorem ref_ms (i : S4096x1.Idx) : val_main_v6 (F := Ideal) x i =
    Ideal.div (∑ k, row x (i 0) k * row x (i 0) k) (Ideal.ofBits .f32 0x44800000#32) + Ideal.ofBits .f32 0x358637BD#32 := by
  simp only [val_main_v6_apply, val_main_v5_apply, val_main_v4_apply, val_main_v3_apply, val_main_v2_apply, val_main_v1_apply,
    val_main_v0_apply, val_main_cst_apply, val_main_cst_0_apply, val_main_cst_1_apply]
  unfold row
  pointwise
  reads_congr <;> first | rfl | exact congrArg _ (funext fun k => by fin_cases k <;> rfl)

/-- The reciprocal root mean square of a row. -/
theorem ref_rstd (i : S4096x1.Idx) : val_main_v7 (F := Ideal) x i = rstdE (row x (i 0)) := by
  rw [val_main_v7_apply, ref_ms]
  rfl

/-- The cotangent of the normalised row. -/
theorem ref_dh (i : S4096x1024.Idx) : val_main_v18 (F := Ideal) w da i = dh w da (i 0) (i 1) := by
  rw [val_main_v18_apply]
  unfold dh
  pointwise
  reads_congr <;> first | rfl | exact congrArg _ (funext fun k => by fin_cases k <;> rfl)

/-- Where an entry of a reshaped and broadcast array comes from. -/
theorem e13 (i : S1x1024.Idx) : idx_main_v13 (idx_main_v14 i) = ix2 0 (i 1) := funext fun a => by
  fin_cases a <;> refine Fin.ext ?_
  · exact rfl
  · have h : (i 1).val < 1024 := (i 1).isLt
    show (i 1).val % 1024 = (i 1).val
    omega

/-- The cotangent of the row over its root mean square. -/
theorem ref_u (i : S4096x1024.Idx) : val_main_v23 (F := Ideal) g w da i = dh w da (i 0) (i 1) * g (ix2 0 (i 1)) := by
  simp only [val_main_v23_apply, val_main_v22_apply, val_main_v14_apply, val_main_v13_apply, ref_dh, e13]
  pointwise
  rfl

/-- Where an entry of a reshaped and broadcast array comes from. -/
theorem e28 (i : S4096.Idx) : idx_main_v28 (idx_main_v35 i 0) = i := funext fun a => by
  fin_cases a
  exact Fin.ext (by show (i 0).val * 1 + 0 = (i 0).val; omega)

/-- Where an entry of a reshaped and broadcast array comes from. -/
theorem e21 (i : S1024.Idx) : idx_main_v21 (idx_main_v24 i 0) = i := funext fun a => by
  fin_cases a
  exact Fin.ext (by show 0 * 1024 + (i 0).val = (i 0).val; omega)

/-- The input's gradient. -/
theorem ref_dx (i : S4096x1024.Idx) : val_main_v40 (F := Ideal) x g w da d i =
    d i + vjpE (row x (i 0)) (fun k => dh w da (i 0) k * g (ix2 0 k)) (i 1) := by
  simp only [val_main_v40_apply, val_main_v39_apply, val_main_v38_apply, val_main_v37_apply, val_main_v36_apply,
    val_main_v35_apply, val_main_v34_apply, val_main_v33_apply, val_main_v32_apply, val_main_v31_apply, val_main_v30_apply,
    val_main_v29_apply, val_main_v28_apply, val_main_v27_apply, val_main_v26_apply, ref_u, ref_rstd, ref_ms,
    val_main_v10_apply, val_main_v9_apply, val_main_v8_apply, val_main_cst_2_apply, val_main_cst_5_apply,
    val_main_cst_6_apply, val_main_cst_7_apply, Fin.sum_univ_one, e28]
  unfold vjpE
  pointwise
  simp only [← add_assoc]
  unfold row
  reads_congr <;> first | rfl | exact congrArg _ (funext fun k => by fin_cases k <;> rfl)

/-- The gain's gradient. -/
theorem ref_dg (i : S1x1024.Idx) : val_main_v25 (F := Ideal) x w da i =
    ∑ r : Fin 4096, (row x r (i 1) * rstdE (row x r)) * dh w da r (i 1) := by
  simp only [val_main_v25_apply, val_main_v24_apply, val_main_v21_apply, val_main_v20_apply, val_main_v19_apply,
    val_main_v12_apply, val_main_v11_apply, ref_rstd, ref_dh, val_main_cst_3_apply, val_main_cst_4_apply,
    Fin.sum_univ_one, e21]
  unfold row
  pointwise
  reads_congr <;> first | rfl | exact congrArg _ (funext fun k => by fin_cases k <;> rfl)

end Cert.Norm2RefIdeal.Closed

end
-- ==== Proof.Norm2.Main.lean ====
/- The second norm's gradient call against the derivative of the plain forward lines. -/
module

public import proofs.«01_k».proof.Defs
public import proofs.«01_k».proof.Proof.Norm2.Ref
public import proofs.«01_k».proof.Proof.Gen.Norm2RefIdeal.Run
public import proofs.«01_k».proof.Proof.Gen.Pre_finite_norm2

@[expose] public section

set_option maxRecDepth 16384

noncomputable section

namespace Cert.Proof

open Idealize.ShloMosaic Idealize.ShloMosaic.TcCoe Idealize.SL.Sem Cert.Reals
open Cert.Norm2Ideal.Closed Cert.Norm2RefIdeal.Closed Cert.Norm2RefIdeal.Read

/-- The precondition of the second norm's call: every argument but the cotangent that flows past the norm is an array of reals. -/
theorem pre_norm2 (x : FVec Ideal Cert.Norm2Ideal.S4096x1024 .f32) (g : FVec Ideal Cert.Norm2Ideal.S1x1024 .f32)
    (w : FVec Ideal Cert.Norm2Ideal.S1024x4096 .f32) (da : FVec Ideal Cert.Norm2Ideal.S4096x4096 .f32)
    (d : FVec Ideal Cert.Norm2Ideal.S4096x1024 .f32)
    (h : Cert.Pre_finite_norm2.fn (F := Ideal) x g w da d = fun _ => 1#1) :
    (∃ r, x = up r) ∧ (∃ r, g = up r) ∧ (∃ r, w = up r) ∧ (∃ r, da = up r) := by
  unfold Cert.Pre_finite_norm2.fn at h
  dsimp only at h
  try unfold Cert.Pre_finite_norm2.fn_part1 at h
  try dsimp only at h
  simp only [andi_ones] at h
  obtain ⟨⟨⟨h0, h1⟩, h2⟩, h3⟩ := h
  exact ⟨real_of_all _ _ _ _ _ _ h0, real_of_all _ _ _ _ _ _ h1, real_of_all _ _ _ _ _ _ h2, real_of_all _ _ _ _ _ _ h3⟩

section
variable (x : Cert.Norm2Ideal.S4096x1024.Idx → ℝ) (g : Cert.Norm2Ideal.S1x1024.Idx → ℝ)
  (w : Cert.Norm2Ideal.S1024x4096.Idx → ℝ) (da : Cert.Norm2Ideal.S4096x4096.Idx → ℝ)

/-- A row of the input, as reals. -/
theorem row_coe (r : Fin 4096) : row (up x) r = fun k => ((x (ix2 r k) : ℝ) : EReal) := rfl

/-- The cotangent of the normalised row, as reals. -/
theorem dh_coe (r : Fin 4096) :
    dh (up w) (up da) r = fun k => ((∑ j : Fin 4096, da (ix2 r j) * w (ix2 k j) : ℝ) : EReal) := by
  funext k
  unfold dh
  simp only [up_apply, ← EReal.coe_mul, coe_sum]

/-- The input's gradient: both programs' forms agree at real arguments. -/
theorem norm2_dx (d : FVec Ideal Cert.Norm2Ideal.S4096x1024 .f32) :
    val_main_v40 (F := Ideal) (up x) (up g) (up w) (up da) d = Gdx (up x) (up g) (up w) (up da) d := by
  funext i
  refine (ref_dx _ _ _ _ _ i).trans ?_
  unfold Gdx
  refine congrArg (d i + ·) ?_
  have key : ∀ (r : Fin 4096) (k : Fin 1024),
      vjpE (row (up x) r) (fun k => dh (up w) (up da) r k * up g (ix2 0 k)) k
      = bwdE (row (up x) r) (fun k => dh (up w) (up da) r k * up g (ix2 0 k)) k := fun r k => by
    simp only [row_coe, up_apply, dh_coe, ← EReal.coe_mul]
    rw [vjpE_coe, bwdE_coe]
  exact key (i 0) (i 1)
end

/-- The gain's gradient: both programs' forms agree at real arguments. -/
theorem norm2_dg (x : FVec Ideal Cert.Norm2Ideal.S4096x1024 .f32) (w : FVec Ideal Cert.Norm2Ideal.S1024x4096 .f32)
    (da : FVec Ideal Cert.Norm2Ideal.S4096x4096 .f32) : val_main_v25 (F := Ideal) x w da = Gdg x w da := by
  funext i
  refine (ref_dg _ _ _ i).trans ?_
  unfold Gdg
  exact Finset.sum_congr rfl fun r _ => mul_comm _ _

/-- The second norm's gradient call computes the derivatives of the forward lines, from real arguments. -/
theorem algebraic_norm2 : Cert.algebraic_Norm2Ideal_Norm2RefIdeal_pre_finite_norm2 := by
  intro m ρ m' ρ' hpre hag
  refine ⟨fun c => Gdx (argX m c) (argG m c) (argW m c) (argDa m c) (argD m c),
    fun c => Gdg (argX m c) (argW m c) (argDa m c), ?_, ?_⟩
  · exact (θ_run _ _ _).mono (fun r h c => by
      obtain ⟨h6, h7, hr⟩ := h c
      exact ⟨h6.trans (final6 m c), h7.trans (final7 m c), hr⟩)
      (Cert.Norm2Ideal.Value.run_blocks m ρ)
  · refine (θ_run _ _ _).mono (fun r h c => ?_) (Cert.Norm2RefIdeal.Value.run m' ρ')
    obtain ⟨h6, h7, hr⟩ := h c
    obtain ⟨a0, a1, a2, a3, a4⟩ := hag c
    obtain ⟨⟨x, hx⟩, ⟨g, hg⟩, ⟨w, hw⟩, ⟨da, hda⟩⟩ :=
      pre_norm2 (argX m c) (argG m c) (argW m c) (argDa m c) (argD m c) (hpre c)
    have hdx : val_main_v40 (F := Ideal) (argX m c) (argG m c) (argW m c) (argDa m c) (argD m c)
        = Gdx (argX m c) (argG m c) (argW m c) (argDa m c) (argD m c) := by
      rw [hx, hg, hw, hda]
      exact norm2_dx x g w da _
    refine ⟨h6.trans ?_, h7.trans ?_, hr⟩
    · rw [val_main_v40_eq, a0, a1, a2, a3, a4]
      exact hdx
    · rw [val_main_v25_eq, a0, a2, a3]
      exact norm2_dg _ _ _

end Cert.Proof

end
-- ==== Proof.Norm1.Columns.lean ====
/- A sum over the 4616 columns of the input projection, as the sum of its eight column groups. -/
module

public import Idealize.ShloMosaic.Lib.Pipeline.ValueKit

@[expose] public section

namespace Cert.Columns

/-- A function on the first `n` numbers, extended by zero. -/
noncomputable def ext {n : ℕ} (f : Fin n → EReal) : ℕ → EReal := fun i => if h : i < n then f ⟨i, h⟩ else 0

/-- Inside the range the extension is the function itself. -/
theorem ext_of_lt {n : ℕ} (f : Fin n → EReal) {i : ℕ} (h : i < n) : ext f i = f ⟨i, h⟩ := dif_pos h

/-- A sum of eight, one of whose terms is moved to the end. -/
theorem swap (a b c p u s g h : EReal) : a + b + c + p + u + s + g + h = a + b + c + u + s + g + h + p := by abel

/-- The sum over all columns is the sum over the groups: queries, keys, values, the gated unit's two halves, the two gates, and
    the forget logits in a group of 128 of which the first eight are columns of the projection. -/
theorem sum_groups (f : Fin 4616 → EReal) :
    ∑ j : Fin 4616, f j = (∑ j : Fin 512, ext f (0 + j)) + (∑ j : Fin 512, ext f (512 + j)) + (∑ j : Fin 512, ext f (1024 + j))
      + (∑ j : Fin 512, ext f (1544 + j)) + (∑ j : Fin 512, ext f (2056 + j)) + (∑ j : Fin 1024, ext f (2568 + j))
      + (∑ j : Fin 1024, ext f (3592 + j)) + ∑ j : Fin 128, if j.val < 8 then ext f (1536 + j) else 0 := by
  have h0 : ∑ j : Fin 4616, f j = ∑ j : Fin 4616, ext f j := Finset.sum_congr rfl fun j _ => (ext_of_lt f j.isLt).symm
  have h8 : (∑ j : Fin 128, if j.val < 8 then ext f (1536 + j) else 0) = ∑ j ∈ Finset.range 8, ext f (1536 + j) := by
    rw [Fin.sum_univ_eq_sum_range (fun j => if j < 8 then ext f (1536 + j) else 0), show 128 = 8 + 120 from rfl,
      Finset.sum_range_add]
    have : ∑ j ∈ Finset.range 120, (if 8 + j < 8 then ext f (1536 + (8 + j)) else 0) = 0 :=
      Finset.sum_eq_zero fun j _ => if_neg (by omega)
    rw [this, add_zero]
    exact Finset.sum_congr rfl fun j hj => if_pos (Finset.mem_range.mp hj)
  rw [h0, h8, Fin.sum_univ_eq_sum_range (fun j => ext f j)]
  have hr : ∀ n o : ℕ, ∑ j : Fin n, ext f (o + j) = ∑ j ∈ Finset.range n, ext f (o + j) := fun n o =>
    Fin.sum_univ_eq_sum_range (fun j => ext f (o + j)) n
  simp only [hr]
  generalize ext f = e
  have split : ∀ a b c d u v g : ℕ, ∑ j ∈ Finset.range (a + b + c + d + u + v + g + g), e j
      = (∑ j ∈ Finset.range a, e j) + (∑ j ∈ Finset.range b, e (a + j)) + (∑ j ∈ Finset.range c, e (a + b + j))
        + (∑ j ∈ Finset.range d, e (a + b + c + j)) + (∑ j ∈ Finset.range u, e (a + b + c + d + j))
        + (∑ j ∈ Finset.range v, e (a + b + c + d + u + j)) + (∑ j ∈ Finset.range g, e (a + b + c + d + u + v + j))
        + ∑ j ∈ Finset.range g, e (a + b + c + d + u + v + g + j) := fun a b c d u v g => by
    simp only [Finset.sum_range_add]
  refine (split 512 512 512 8 512 512 1024).trans ?_
  simp only [zero_add, Nat.reduceAdd]
  exact swap _ _ _ _ _ _ _ _

end Cert.Columns
-- ==== Proof.Norm1.Kernel.lean ====
/- The first norm's gradient call: each result as one closed form of the call's arguments. -/
module

public import proofs.«01_k».proof.Proof.Gen.Norm1Ideal.Value
public import proofs.«01_k».proof.Proof.Reals.Rms
public import proofs.«01_k».proof.Proof.Norm1.Columns

@[expose] public section

set_option maxRecDepth 16384

noncomputable section

namespace Cert.Norm1Ideal.Closed

open Cert.Norm1Ideal Cert.Norm1Ideal.Gen Idealize.ShloMosaic Idealize.ShloMosaic.TcCoe Idealize.SL.Sem Cert.Reals Cert.Columns
open Idealize.ShloMosaic.Pipeline (Dat)

variable (m : (ℓ : Loc nD τ sig) → Buf (Elt Ideal) ℓ)

/-- A row of the input. -/
def row (x : FVec Ideal S1x4096x1024 .f32) (r : Fin 4096) : Fin 1024 → EReal := fun k => x (ix3 0 r k)

/-- The terms of the normalised row's cotangent: one per column of the projection. -/
def term (w : FVec Ideal S1x1024x4616 .f32) (dp : FVec Ideal S4096x4616 .f32) (r : Fin 4096) (k : Fin 1024) :
    Fin 4616 → EReal := fun j => dp (ix2 r j) * w (ix3 0 k j)

/-- The cotangent of the normalised row: the projection's cotangent against the rows of `w_in`. -/
def dh (w : FVec Ideal S1x1024x4616 .f32) (dp : FVec Ideal S4096x4616 .f32) (r : Fin 4096) : Fin 1024 → EReal :=
  fun k => ∑ j : Fin 4616, term w dp r k j

/-- The arguments, as arrays. -/
abbrev argX (c : Dev nD) : FVec Ideal S1x4096x1024 .f32 := m ((c : Thread nD τ).loc main_arg0)
abbrev argG (c : Dev nD) : FVec Ideal S1x1024 .f32 := m ((c : Thread nD τ).loc main_arg1)
abbrev argW (c : Dev nD) : FVec Ideal S1x1024x4616 .f32 := m ((c : Thread nD τ).loc main_arg2)
abbrev argDp (c : Dev nD) : FVec Ideal S4096x4616 .f32 := m ((c : Thread nD τ).loc main_arg3)
abbrev argD (c : Dev nD) : FVec Ideal S4096x1024 .f32 := m ((c : Thread nD τ).loc main_arg4)

/-- The block that each window takes at each grid point. -/
theorem index : ∀ t : Fin cfg0.N,
    (win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0])
    ∧ win0_8.index t = ![0, 0] ∧ win0_9.index t = ![0, 0] ∧ win0_10.index t = ![t.val, 0] ∧ win0_11.index t = ![t.val, 0]
    ∧ win0_12.index t = ![0, 0] ∧ win0_13.index t = ![t.val, 0] ∧ win0_14.index t = ![t.val, 0]
    ∧ win0_15.index t = ![0, 0] :=
  (by decide +kernel : ∀ t : Fin grid0.N, _)

/-- `w_in` transposed, as the host prepares it, and the projection's cotangent. -/
abbrev wT (c : Dev nD) : FVec Ideal S4616x1024 .bf16 :=
  truncf .bf16 (transpose S4616x1024 [1, 0] (shapeCast S1024x4616 (argW m c) shapeCasts_S1x1024x4616_S1024x4616)
    transposes_S1024x4616_S4616x1024_1_0) bitsLt_bf16_f32
abbrev dpB (c : Dev nD) : FVec Ideal S4096x4616 .bf16 := truncf .bf16 (argDp m c) bitsLt_bf16_f32

section
set_option maxHeartbeats 1000000

/-- The array `dq` that the call reads, out of the arguments. -/
theorem V_dq (c : Dev nD) : @Eq (FVec Ideal S4096x512 .bf16) (V m c main_v18)
    (extractStridedSlice S4096x512 ![0, 0] (dpB m c) slices_S4096x4616_S4096x512_0_0) := by
  unfold V hostOps0 hostOps0_1 hostOps0_2 hostOps0_3 hostOps0_4
  simp only [List.flatten_cons, List.flatten_nil, List.append_nil, List.cons_append, List.nil_append]; after_results

/-- The array `dk` that the call reads, out of the arguments. -/
theorem V_dk (c : Dev nD) : @Eq (FVec Ideal S4096x512 .bf16) (V m c main_v19)
    (extractStridedSlice S4096x512 ![0, 512] (dpB m c) slices_S4096x4616_S4096x512_0_512) := by
  unfold V hostOps0 hostOps0_1 hostOps0_2 hostOps0_3 hostOps0_4
  simp only [List.flatten_cons, List.flatten_nil, List.append_nil, List.cons_append, List.nil_append]; after_results

/-- The array `dv` that the call reads, out of the arguments. -/
theorem V_dv (c : Dev nD) : @Eq (FVec Ideal S4096x512 .bf16) (V m c main_v20)
    (extractStridedSlice S4096x512 ![0, 1024] (dpB m c) slices_S4096x4616_S4096x512_0_1024) := by
  unfold V hostOps0 hostOps0_1 hostOps0_2 hostOps0_3 hostOps0_4
  simp only [List.flatten_cons, List.flatten_nil, List.append_nil, List.cons_append, List.nil_append]; after_results

/-- The array `du` that the call reads, out of the arguments. -/
theorem V_du (c : Dev nD) : @Eq (FVec Ideal S4096x512 .bf16) (V m c main_v23)
    (extractStridedSlice S4096x512 ![0, 1544] (dpB m c) slices_S4096x4616_S4096x512_0_1544) := by
  unfold V hostOps0 hostOps0_1 hostOps0_2 hostOps0_3 hostOps0_4
  simp only [List.flatten_cons, List.flatten_nil, List.append_nil, List.cons_append, List.nil_append]; after_results

/-- The array `ds` that the call reads, out of the arguments. -/
theorem V_ds (c : Dev nD) : @Eq (FVec Ideal S4096x512 .bf16) (V m c main_v24)
    (extractStridedSlice S4096x512 ![0, 2056] (dpB m c) slices_S4096x4616_S4096x512_0_2056) := by
  unfold V hostOps0 hostOps0_1 hostOps0_2 hostOps0_3 hostOps0_4
  simp only [List.flatten_cons, List.flatten_nil, List.append_nil, List.cons_append, List.nil_append]; after_results

/-- The array `da` that the call reads, out of the arguments. -/
theorem V_da (c : Dev nD) : @Eq (FVec Ideal S4096x1024 .bf16) (V m c main_v25)
    (extractStridedSlice S4096x1024 ![0, 2568] (dpB m c) slices_S4096x4616_S4096x1024_0_2568) := by
  unfold V hostOps0 hostOps0_1 hostOps0_2 hostOps0_3 hostOps0_4
  simp only [List.flatten_cons, List.flatten_nil, List.append_nil, List.cons_append, List.nil_append]; after_results

/-- The array `db` that the call reads, out of the arguments. -/
theorem V_db (c : Dev nD) : @Eq (FVec Ideal S4096x1024 .bf16) (V m c main_v26)
    (extractStridedSlice S4096x1024 ![0, 3592] (dpB m c) slices_S4096x4616_S4096x1024_0_3592) := by
  unfold V hostOps0 hostOps0_1 hostOps0_2 hostOps0_3 hostOps0_4
  simp only [List.flatten_cons, List.flatten_nil, List.append_nil, List.cons_append, List.nil_append]; after_results

/-- The array `df` that the call reads, out of the arguments. -/
theorem V_df (c : Dev nD) : @Eq (FVec Ideal S4096x128 .bf16) (V m c main_v22)
    (pad S4096x128 ![0, 0] ![0, 120] ![0, 0] (extractStridedSlice S4096x8 ![0, 1536] (dpB m c) slices_S4096x4616_S4096x8_0_1536)
      (sitofp .bf16 (constantI S_ 32 0#32)) pads_S4096x8_S4096x128_000_01200 h_S_) := by
  unfold V hostOps0 hostOps0_1 hostOps0_2 hostOps0_3 hostOps0_4
  simp only [List.flatten_cons, List.flatten_nil, List.append_nil, List.cons_append, List.nil_append]; after_results
  simp only [StableHlo.TRef.toBuf, StableHlo.TRef.ofBuf, cast_eq]

/-- The array `wq` that the call reads, out of the arguments. -/
theorem V_wq (c : Dev nD) : @Eq (FVec Ideal S1536x1024 .bf16) (V m c main_v12)
    (extractStridedSlice S1536x1024 ![0, 0] (wT m c) slices_S4616x1024_S1536x1024_0_0) := by
  unfold V hostOps0 hostOps0_1 hostOps0_2 hostOps0_3 hostOps0_4
  simp only [List.flatten_cons, List.flatten_nil, List.append_nil, List.cons_append, List.nil_append]; after_results; rfl

/-- The array `wr` that the call reads, out of the arguments. -/
theorem V_wr (c : Dev nD) : @Eq (FVec Ideal S3200x1024 .bf16) (V m c main_v16)
    (concatenate S3200x1024 0 [
      ⟨S3072x1024, extractStridedSlice S3072x1024 ![1544, 0] (wT m c) slices_S4616x1024_S3072x1024_1544_0⟩,
      ⟨S128x1024, pad S128x1024 ![0, 0] ![120, 0] ![0, 0]
        (extractStridedSlice S8x1024 ![1536, 0] (wT m c) slices_S4616x1024_S8x1024_1536_0)
        (sitofp .bf16 (constantI S_ 32 0#32)) pads_S8x1024_S128x1024_01200_000 h_S_⟩]
      concatenates_S3072x1024_S128x1024_S3200x1024_d0) := by
  unfold V hostOps0 hostOps0_1 hostOps0_2 hostOps0_3 hostOps0_4
  simp only [List.flatten_cons, List.flatten_nil, List.append_nil, List.cons_append, List.nil_append]; after_results
  simp only [StableHlo.TRef.toBuf, StableHlo.TRef.ofBuf, cast_eq]; rfl

abbrev xs (c : Dev nD) : FVec Ideal S4096x1024 .f32 := shapeCast S4096x1024 (argX m c) shapeCasts_S1x4096x1024_S4096x1024

/-- The array `x` that the call reads, out of the arguments. -/
theorem V_x (c : Dev nD) : @Eq (FVec Ideal S4096x1024 .f32) (V m c main_v0) (xs m c) := by
  unfold V hostOps0 hostOps0_1 hostOps0_2 hostOps0_3 hostOps0_4
  simp only [List.flatten_cons, List.flatten_nil, List.append_nil, List.cons_append, List.nil_append]; after_results; rfl

/-- The array `r` that the call reads, out of the arguments. -/
theorem V_r (c : Dev nD) : @Eq (FVec Ideal S4096x1 .f32) (V m c main_v8)
    (Host.rsqrt (addf (Host.divf (broadcastInDim S4096x1 ![0] bcast_S4096_S4096x1_0
      (Host.reduceAdd (mulf (xs m c) (xs m c)) (constant S_ .f32 0x00000000#32) reducesTo_S4096x1024_S4096_d1 h_S_))
      (broadcastInDim S4096x1 ![] bcast_S_S4096x1 (constant S_ .f32 0x44800000#32)))
      (broadcastInDim S4096x1 ![] bcast_S_S4096x1 (constant S_ .f32 0x358637BD#32)))) := by
  unfold V hostOps0 hostOps0_1 hostOps0_2 hostOps0_3 hostOps0_4
  simp only [List.flatten_cons, List.flatten_nil, List.append_nil, List.cons_append, List.nil_append]; after_results; rfl

/-- The array `g` that the call reads, out of the arguments. -/
theorem V_g (c : Dev nD) : @Eq (FVec Ideal S1x1024 .f32) (V m c main_arg1) (argG m c) := by
  unfold V hostOps0 hostOps0_1 hostOps0_2 hostOps0_3 hostOps0_4
  simp only [List.flatten_cons, List.flatten_nil, List.append_nil, List.cons_append, List.nil_append]; after_results

/-- The array `d` that the call reads, out of the arguments. -/
theorem V_d (c : Dev nD) : @Eq (FVec Ideal S4096x1024 .f32) (V m c main_arg4) (argD m c) := by
  unfold V hostOps0 hostOps0_1 hostOps0_2 hostOps0_3 hostOps0_4
  simp only [List.flatten_cons, List.flatten_nil, List.append_nil, List.cons_append, List.nil_append]; after_results
end

/-- The integer zero the host pads with, as a float. -/
theorem pad_zero : @Eq EReal (FloatOps.sitofp (F := Ideal) FTy.bf16 0#32) 0 := by
  show (((0#32 : BitVec 32).toInt : ℝ) : EReal) = 0
  simp

/-- A row of block `p`, as a row of the array. -/
abbrev at_ (p : Fin cfg0.N) (r : Fin 512) : Fin 4096 := ⟨p.val * 512 + r.val, by have := lt_of_lt_of_eq p.isLt N_0; omega⟩

/-- The entries of a row of the projection's cotangent and of a row of `w_in`, by column. -/
abbrev dpc (c : Dev nD) (r : Fin 4096) : Fin 4616 → EReal := fun j => argDp m c (ix2 r j)
abbrev wc (c : Dev nD) (k : Fin 1024) : Fin 4616 → EReal := fun j => argW m c (ix3 0 k j)

section
variable (c : Dev nD) (t : Fin cfg0.N) (p : Fin 512) (k : Fin 1024)

/-- What input window 0 holds at a grid point, out of the arguments. -/
theorem in0 (j : Fin 512) : (iblk m c 0 t : FVec Ideal S512x512 .bf16) (ix2 p j) = ext (dpc m c (at_ t p)) (0 + j) := by
  obtain ⟨⟨i0, -⟩, -⟩ := index t
  rw [ext_of_lt _ (by omega)]
  refine (congrFun (V_dq m c) _).trans ?_
  pointwise
  blk_point [i0]

/-- What input window 1 holds at a grid point, out of the arguments. -/
theorem in1 (j : Fin 512) : (iblk m c 1 t : FVec Ideal S512x512 .bf16) (ix2 p j) = ext (dpc m c (at_ t p)) (512 + j) := by
  obtain ⟨⟨-, i1, -⟩, -⟩ := index t
  rw [ext_of_lt _ (by omega)]
  refine (congrFun (V_dk m c) _).trans ?_
  pointwise
  blk_point [i1]

/-- What input window 2 holds at a grid point, out of the arguments. -/
theorem in2 (j : Fin 512) : (iblk m c 2 t : FVec Ideal S512x512 .bf16) (ix2 p j) = ext (dpc m c (at_ t p)) (1024 + j) := by
  obtain ⟨⟨-, -, i2, -⟩, -⟩ := index t
  rw [ext_of_lt _ (by omega)]
  refine (congrFun (V_dv m c) _).trans ?_
  pointwise
  blk_point [i2]

/-- What input window 3 holds at a grid point, out of the arguments. -/
theorem in3 (j : Fin 512) : (iblk m c 3 t : FVec Ideal S512x512 .bf16) (ix2 p j) = ext (dpc m c (at_ t p)) (1544 + j) := by
  obtain ⟨⟨-, -, -, i3, -⟩, -⟩ := index t
  rw [ext_of_lt _ (by omega)]
  refine (congrFun (V_du m c) _).trans ?_
  pointwise
  blk_point [i3]

/-- What input window 4 holds at a grid point, out of the arguments. -/
theorem in4 (j : Fin 512) : (iblk m c 4 t : FVec Ideal S512x512 .bf16) (ix2 p j) = ext (dpc m c (at_ t p)) (2056 + j) := by
  obtain ⟨⟨-, -, -, -, i4, -⟩, -⟩ := index t
  rw [ext_of_lt _ (by omega)]
  refine (congrFun (V_ds m c) _).trans ?_
  pointwise
  blk_point [i4]

/-- What input window 5 holds at a grid point, out of the arguments. -/
theorem in5 (j : Fin 1024) : (iblk m c 5 t : FVec Ideal S512x1024 .bf16) (ix2 p j) = ext (dpc m c (at_ t p)) (2568 + j) := by
  obtain ⟨⟨-, -, -, -, -, i5, -⟩, -⟩ := index t
  rw [ext_of_lt _ (by omega)]
  refine (congrFun (V_da m c) _).trans ?_
  pointwise
  blk_point [i5]

/-- What input window 6 holds at a grid point, out of the arguments. -/
theorem in6 (j : Fin 1024) : (iblk m c 6 t : FVec Ideal S512x1024 .bf16) (ix2 p j) = ext (dpc m c (at_ t p)) (3592 + j) := by
  obtain ⟨⟨-, -, -, -, -, -, i6, -⟩, -⟩ := index t
  rw [ext_of_lt _ (by omega)]
  refine (congrFun (V_db m c) _).trans ?_
  pointwise
  blk_point [i6]

/-- An entry of the padded gate cotangent. -/
theorem df_at (i : S4096x128.Idx) : (V m c main_v22 : FVec Ideal S4096x128 .bf16) i =
    if h : (i 1).val < 8 then argDp m c (ix2 (i 0) ⟨1536 + (i 1).val, by omega⟩) else 0 := by
  rw [V_df]
  pointwise [pad_zero]

/-- What input window 7 holds at a grid point, out of the arguments. -/
theorem in7 (j : Fin 128) : (iblk m c 7 t : FVec Ideal S512x128 .bf16) (ix2 p j) =
    if j.val < 8 then ext (dpc m c (at_ t p)) (1536 + j) else 0 := by
  obtain ⟨⟨-, -, -, -, -, -, -, i7⟩, -⟩ := index t
  have e : (iblk m c 7 t : FVec Ideal S512x128 .bf16) (ix2 p j) = (V m c main_v22 : FVec Ideal S4096x128 .bf16) (ix2 (at_ t p) j) := by
    refine congrArg (V m c main_v22 : FVec Ideal S4096x128 .bf16) ?_
    blk_point [i7]
  rw [e]
  refine (df_at m c _).trans ?_
  by_cases h : j.val < 8
  · exact (dif_pos h).trans (by rw [if_pos h, ext_of_lt _ (by omega)]; rfl)
  · exact (dif_neg h).trans (if_neg h).symm

/-- Rows of the first weight block, by an offset. -/
theorem w8 (o : ℕ) (j : Fin 512) (h : ∀ a, (![o, 0] : Fin 2 → ℕ) a + (![512, 1024] : Fin 2 → ℕ) a ≤ S1536x1024.size a) :
    (View.ld (iblk m c 8 t) (Rect.unit ![o, 0] ![512, 1024] h) : FVec Ideal S512x1024 .bf16) (ix2 j k) = ext (wc m c k) (o + j) := by
  obtain ⟨-, i8, -⟩ := index t
  have ho : o + 512 ≤ 1536 := h 0
  rw [ext_of_lt _ (by omega)]
  refine (congrFun (V_wq m c) _).trans ?_
  pointwise
  blk_point [i8]
  done

/-- An entry of the second weight array. -/
theorem wr_at (i : S3200x1024.Idx) : (V m c main_v16 : FVec Ideal S3200x1024 .bf16) i =
    if (i 0).val < 3072 then ext (wc m c (i 1)) (1544 + (i 0).val)
    else if (i 0).val - 3072 < 8 then ext (wc m c (i 1)) (1536 + ((i 0).val - 3072)) else 0 := by
  rw [V_wr]
  pointwise [pad_zero]
  split
  · rw [ext_of_lt _ (by omega)]
  · split
    · rw [ext_of_lt _ (by omega)]
    · rfl

/-- An entry of the second weight block. -/
theorem whole9 (a : Fin 3200) : (iblk m c 9 t : FVec Ideal S3200x1024 .bf16) (ix2 a k) =
    (V m c main_v16 : FVec Ideal S3200x1024 .bf16) (ix2 a k) := by
  obtain ⟨-, -, i9, -⟩ := index t
  refine congrArg (V m c main_v16 : FVec Ideal S3200x1024 .bf16) ?_
  blk_point [i9]

/-- Rows of the second weight block, by an offset. -/
theorem w9 (o n : ℕ) (j : Fin n) (h : ∀ a, (![o, 0] : Fin 2 → ℕ) a + (![n, 1024] : Fin 2 → ℕ) a ≤ S3200x1024.size a)
    (hn : o + n ≤ 3072) :
    View.ld (Val := Elt Ideal) (iblk m c 9 t) (Rect.unit ![o, 0] ![n, 1024] h) (ix2 j k) = ext (wc m c k) (1544 + o + j) := by
  have e : ((Rect.unit (s := S3200x1024) ![o, 0] ![n, 1024] h).emb (ix2 j k)) = ix2 (⟨o + j, by omega⟩ : Fin 3200) k := by
    blk_point
  refine ((congrArg (iblk m c 9 t : FVec Ideal S3200x1024 .bf16) e).trans (whole9 m c t k _)).trans ?_
  refine (wr_at m c _).trans ((if_pos (show o + j.val < 3072 by omega)).trans ?_)
  show ext (wc m c k) (1544 + (o + j.val)) = _
  rw [← add_assoc]

/-- Rows of the second weight block, by an offset. -/
theorem w9f (j : Fin 128) (h : ∀ a, (![3072, 0] : Fin 2 → ℕ) a + (![128, 1024] : Fin 2 → ℕ) a ≤ S3200x1024.size a) :
    View.ld (Val := Elt Ideal) (iblk m c 9 t) (Rect.unit ![3072, 0] ![128, 1024] h) (ix2 j k) =
      if j.val < 8 then ext (wc m c k) (1536 + j) else 0 := by
  have e : ((Rect.unit (s := S3200x1024) ![3072, 0] ![128, 1024] h).emb (ix2 j k)) = ix2 (⟨3072 + j, by omega⟩ : Fin 3200) k := by
    blk_point
  refine ((congrArg (iblk m c 9 t : FVec Ideal S3200x1024 .bf16) e).trans (whole9 m c t k _)).trans ?_
  refine (wr_at m c _).trans ((if_neg (show ¬3072 + j.val < 3072 by omega)).trans ?_)
  show (if 3072 + j.val - 3072 < 8 then ext (wc m c k) (1536 + (3072 + j.val - 3072)) else 0) = _
  rw [Nat.add_sub_cancel_left]
end

/-- The eight products' sum, read at an element. -/
theorem pay10_apply (a0 a1 a2 a3 a4 : FVec Ideal S512x512 .bf16) (b0 b1 b2 b3 b4 : FVec Ideal S512x1024 .bf16)
    (a5 a6 : FVec Ideal S512x1024 .bf16) (b5 b6 : FVec Ideal S1024x1024 .bf16) (a7 : FVec Ideal S512x128 .bf16)
    (b7 : FVec Ideal S128x1024 .bf16) (p : Fin 512) (k : Fin 1024) :
    @Eq EReal (k0_pay10 (F := Ideal) (k0_pay3 a0 b0) (k0_pay4 a1 b1) (k0_pay5 a2 b2) (k0_pay6 a3 b3) (k0_pay7 a4 b4) (k0_pay8 a5) (k0_pay9 b5)
      a6 b6 a7 b7 (ix2 p k))
    ((∑ j : Fin 512, a0 (ix2 p j) * b0 (ix2 j k)) + (∑ j : Fin 512, a1 (ix2 p j) * b1 (ix2 j k))
      + (∑ j : Fin 512, a2 (ix2 p j) * b2 (ix2 j k)) + (∑ j : Fin 512, a3 (ix2 p j) * b3 (ix2 j k))
      + (∑ j : Fin 512, a4 (ix2 p j) * b4 (ix2 j k)) + (∑ j : Fin 1024, a5 (ix2 p j) * b5 (ix2 j k))
      + (∑ j : Fin 1024, a6 (ix2 p j) * b6 (ix2 j k)) + ∑ j : Fin 128, a7 (ix2 p j) * b7 (ix2 j k)) := by
  unfold_payloads
  pointwise

/-- The block of the normalised row's cotangent the body computes at a grid point. -/
abbrev hb (c : Dev nD) (t : Fin cfg0.N) : FVec Ideal S512x1024 .f32 :=
  k0_pay10
      (k0_pay3 (iblk m c 0 t) (View.ld (iblk m c 8 t) (Rect.unit ![0, 0] ![512, 1024] inb_S1536x1024_S512x1024_0_0)))
      (k0_pay4 (iblk m c 1 t) (View.ld (iblk m c 8 t) (Rect.unit ![512, 0] ![512, 1024] inb_S1536x1024_S512x1024_512_0)))
      (k0_pay5 (iblk m c 2 t) (View.ld (iblk m c 8 t) (Rect.unit ![1024, 0] ![512, 1024] inb_S1536x1024_S512x1024_1024_0)))
      (k0_pay6 (iblk m c 3 t) (View.ld (iblk m c 9 t) (Rect.unit ![0, 0] ![512, 1024] inb_S3200x1024_S512x1024_0_0)))
      (k0_pay7 (iblk m c 4 t) (View.ld (iblk m c 9 t) (Rect.unit ![512, 0] ![512, 1024] inb_S3200x1024_S512x1024_512_0)))
      (k0_pay8 (iblk m c 5 t))
      (k0_pay9 (View.ld (iblk m c 9 t) (Rect.unit ![1024, 0] ![1024, 1024] inb_S3200x1024_S1024x1024_1024_0)))
      (iblk m c 6 t) (View.ld (iblk m c 9 t) (Rect.unit ![2048, 0] ![1024, 1024] inb_S3200x1024_S1024x1024_2048_0))
      (iblk m c 7 t) (View.ld (iblk m c 9 t) (Rect.unit ![3072, 0] ![128, 1024] inb_S3200x1024_S128x1024_3072_0))

/-- The product of two extended rows is the extended product. -/
theorem ext_mul (c : Dev nD) (r : Fin 4096) (k : Fin 1024) (n : ℕ) :
    ext (dpc m c r) n * ext (wc m c k) n = ext (term (argW m c) (argDp m c) r k) n := by
  unfold ext
  split
  · rfl
  · exact zero_mul _

/-- The block of the cotangent is that of the one product over all columns. -/
theorem hb_apply (c : Dev nD) (t : Fin cfg0.N) (p : Fin 512) (k : Fin 1024) :
    hb m c t (ix2 p k) = dh (argW m c) (argDp m c) (at_ t p) k := by
  refine (pay10_apply _ _ _ _ _ _ _ _ _ _ _ _ _ _ _ _ p k).trans ?_
  refine Eq.trans ?_ (sum_groups _).symm
  have f7 : ∀ j : Fin 128, (if j.val < 8 then ext (dpc m c (at_ t p)) (1536 + j) else 0)
      * (if j.val < 8 then ext (wc m c k) (1536 + j) else 0)
      = if j.val < 8 then ext (term (argW m c) (argDp m c) (at_ t p) k) (1536 + j) else 0 := fun j => by
    split
    · exact ext_mul m c _ _ _
    · exact zero_mul _
  have s0 := Finset.sum_congr (s₁ := Finset.univ) rfl fun (j : Fin 512) _ =>
    (congrArg₂ (fun a b : EReal => a * b) (in0 m c t p j) (w8 m c t k 0 j inb_S1536x1024_S512x1024_0_0)).trans (ext_mul m c _ _ _)
  have s1 := Finset.sum_congr (s₁ := Finset.univ) rfl fun (j : Fin 512) _ =>
    (congrArg₂ (fun a b : EReal => a * b) (in1 m c t p j) (w8 m c t k 512 j inb_S1536x1024_S512x1024_512_0)).trans (ext_mul m c _ _ _)
  have s2 := Finset.sum_congr (s₁ := Finset.univ) rfl fun (j : Fin 512) _ =>
    (congrArg₂ (fun a b : EReal => a * b) (in2 m c t p j) (w8 m c t k 1024 j inb_S1536x1024_S512x1024_1024_0)).trans (ext_mul m c _ _ _)
  have s3 := Finset.sum_congr (s₁ := Finset.univ) rfl fun (j : Fin 512) _ =>
    (congrArg₂ (fun a b : EReal => a * b) (in3 m c t p j) (w9 m c t k 0 512 j inb_S3200x1024_S512x1024_0_0 (by omega))).trans (ext_mul m c _ _ _)
  have s4 := Finset.sum_congr (s₁ := Finset.univ) rfl fun (j : Fin 512) _ =>
    (congrArg₂ (fun a b : EReal => a * b) (in4 m c t p j) (w9 m c t k 512 512 j inb_S3200x1024_S512x1024_512_0 (by omega))).trans (ext_mul m c _ _ _)
  have s5 := Finset.sum_congr (s₁ := Finset.univ) rfl fun (j : Fin 1024) _ =>
    (congrArg₂ (fun a b : EReal => a * b) (in5 m c t p j) (w9 m c t k 1024 1024 j inb_S3200x1024_S1024x1024_1024_0 (by omega))).trans (ext_mul m c _ _ _)
  have s6 := Finset.sum_congr (s₁ := Finset.univ) rfl fun (j : Fin 1024) _ =>
    (congrArg₂ (fun a b : EReal => a * b) (in6 m c t p j) (w9 m c t k 2048 1024 j inb_S3200x1024_S1024x1024_2048_0 (by omega))).trans (ext_mul m c _ _ _)
  have s7 := Finset.sum_congr (s₁ := Finset.univ) rfl fun (j : Fin 128) _ =>
    (congrArg₂ (fun a b : EReal => a * b) (in7 m c t p j) (w9f m c t k j inb_S3200x1024_S128x1024_3072_0)).trans (f7 j)
  exact congrArg₂ (· + ·) (congrArg₂ (· + ·) (congrArg₂ (· + ·) (congrArg₂ (· + ·) (congrArg₂ (· + ·) (congrArg₂ (· + ·)
    (congrArg₂ (· + ·) s0 s1) s2) s3) s4) s5) s6) s7

/-- What input window 10 holds at a grid point, out of the arguments. -/
theorem in10 (c : Dev nD) (t : Fin cfg0.N) (y : S512x1024.Idx) :
    (iblk m c 10 t : FVec Ideal S512x1024 .f32) y =
      argX m c (ix3 0 ((win0_10.blk t).view.emb y 0) ((win0_10.blk t).view.emb y 1)) :=
  (congrFun (V_x m c) _).trans (by pointwise)
/-- What input window 11 holds at a grid point, out of the arguments. -/
theorem in11 (c : Dev nD) (t : Fin cfg0.N) (y : S512x1.Idx) :
    (iblk m c 11 t : FVec Ideal S512x1 .f32) y = rstdE (row (argX m c) ((win0_11.blk t).view.emb y 0)) :=
  (congrFun (V_r m c) _).trans (by pointwise [rstdE, row])
/-- What input window 12 holds at a grid point, out of the arguments. -/
theorem in12 (c : Dev nD) (t : Fin cfg0.N) (y : S1x1024.Idx) :
    (iblk m c 12 t : FVec Ideal S1x1024 .f32) y = argG m c ((win0_12.blk t).view.emb y) := congrFun (V_g m c) _
/-- What input window 13 holds at a grid point, out of the arguments. -/
theorem in13 (c : Dev nD) (t : Fin cfg0.N) (y : S512x1024.Idx) :
    (iblk m c 13 t : FVec Ideal S512x1024 .f32) y = argD m c ((win0_13.blk t).view.emb y) := congrFun (V_d m c) _

/-- The input's gradient: what flows past the norm, plus the norm's. -/
def Gdx (x : FVec Ideal S1x4096x1024 .f32) (g : FVec Ideal S1x1024 .f32) (w : FVec Ideal S1x1024x4616 .f32)
    (dp : FVec Ideal S4096x4616 .f32) (d : FVec Ideal S4096x1024 .f32) : FVec Ideal S4096x1024 .f32 := fun i =>
  d i + bwdE (row x (i 0)) (fun k => dh w dp (i 0) k * g (ix2 0 k)) (i 1)

/-- The gain's gradient: over the rows, the normalised row's cotangent times the row over its root mean square. -/
def Gdg (x : FVec Ideal S1x4096x1024 .f32) (w : FVec Ideal S1x1024x4616 .f32) (dp : FVec Ideal S4096x4616 .f32) :
    FVec Ideal S1x1024 .f32 := fun i => ∑ r : Fin 4096, dh w dp r (i 1) * (row x r (i 1) * rstdE (row x r))

/-- The values the body leaves at a grid point, over that point's blocks. -/
abbrev dx (c : Dev nD) (t : Fin cfg0.N) : FVec Ideal S512x1024 .f32 :=
  k0_pay13
      (k0_pay3 (iblk m c 0 t) (View.ld (iblk m c 8 t) (Rect.unit ![0, 0] ![512, 1024] inb_S1536x1024_S512x1024_0_0)))
      (k0_pay4 (iblk m c 1 t) (View.ld (iblk m c 8 t) (Rect.unit ![512, 0] ![512, 1024] inb_S1536x1024_S512x1024_512_0)))
      (k0_pay5 (iblk m c 2 t) (View.ld (iblk m c 8 t) (Rect.unit ![1024, 0] ![512, 1024] inb_S1536x1024_S512x1024_1024_0)))
      (k0_pay6 (iblk m c 3 t) (View.ld (iblk m c 9 t) (Rect.unit ![0, 0] ![512, 1024] inb_S3200x1024_S512x1024_0_0)))
      (k0_pay7 (iblk m c 4 t) (View.ld (iblk m c 9 t) (Rect.unit ![512, 0] ![512, 1024] inb_S3200x1024_S512x1024_512_0)))
      (k0_pay8 (iblk m c 5 t))
      (k0_pay9 (View.ld (iblk m c 9 t) (Rect.unit ![1024, 0] ![1024, 1024] inb_S3200x1024_S1024x1024_1024_0)))
      (iblk m c 6 t) (View.ld (iblk m c 9 t) (Rect.unit ![2048, 0] ![1024, 1024] inb_S3200x1024_S1024x1024_2048_0))
      (iblk m c 7 t) (View.ld (iblk m c 9 t) (Rect.unit ![3072, 0] ![128, 1024] inb_S3200x1024_S128x1024_3072_0))
      (iblk m c 11 t) (iblk m c 10 t) (iblk m c 13 t) (iblk m c 12 t)
abbrev dg (c : Dev nD) (t : Fin cfg0.N) : FVec Ideal S1x1024 .f32 :=
  k0_pay1 (hb m c t) (k0_pay12 (iblk m c 11 t) (iblk m c 10 t))

/-- What the first grid point leaves. -/
theorem outs_first (c : Dev nD) (t : Fin cfg0.N) (h : t.val % 8 = 0) :
    outsAt0 m c t.val t.isLt = (dx m c t, dg m c t) := by
  have hlt : t.val < 8 := lt_of_lt_of_eq t.isLt N_0
  rw [outsAt0_A m c t h (by omega)]
  refine Prod.ext ?_ ?_ <;> (frame_out; rfl)

/-- What a later grid point leaves, over what the one before it left. -/
theorem outs_later (c : Dev nD) (t : Fin cfg0.N) (h : ¬t.val % 8 = 0) :
    outsAt0 m c t.val t.isLt = (dx m c t,
      k0_pay2 (hb m c t) (k0_pay12 (iblk m c 11 t) (iblk m c 10 t))
        (outsAt0 m c (t.val - 1) (Nat.lt_of_le_of_lt (Nat.sub_le _ _) t.isLt)).2) := by
  rw [outsAt0_B m c t h (by omega)]
  refine Prod.ext ?_ ?_ <;> (frame_out; rfl)

/-- What the body leaves in its output `dx` at a grid point. -/
theorem outs_dx (c : Dev nD) (t : Fin cfg0.N) : (outsAt0 m c t.val t.isLt).1 = dx m c t := by
  by_cases h : t.val % 8 = 0
  · rw [outs_first m c t h]
  · rw [outs_later m c t h]

/-- The body's block of the input's gradient, over the block of the cotangent. -/
theorem dx_apply (c : Dev nD) (t : Fin cfg0.N) (p : Fin 512) (k : Fin 1024) :
    dx m c t (ix2 p k) = Gdx (argX m c) (argG m c) (argW m c) (argDp m c) (argD m c) (ix2 (at_ t p) k) := by
  obtain ⟨-, i8, i9, i10, i11, i12, i13, i14, i15⟩ := index t
  have hh := hb_apply m c t p
  unfold hb at hh
  unfold dx k0_pay13
  generalize k0_pay10 (F := Ideal) _ _ _ _ _ _ _ _ _ _ _ = H at hh ⊢
  unfold k0_pay12 k0_pay11
  pointwise [Gdx, bwdE]
  simp only [hh, in10 m c t, in11 m c t, in12 m c t, in13 m c t]
  unfold row
  blk_point [i10, i11, i12, i13]

/-- The array of output window 14 after the run. -/
theorem final14 (c : Dev nD) :
    (dats m 0 c).arrAt 14 cfg0.N = Gdx (argX m c) (argG m c) (argW m c) (argDp m c) (argD m c) := by
  refine (dats m 0 c).arrAt_eq_of_covers 14 _ (by decide +kernel) fun t hf y => ?_
  blk_simp
  rw [after0_14, outs_dx]
  obtain ⟨-, -, -, -, -, -, -, i14, -⟩ := index t
  refine Eq.trans (congrArg (dx m c t) (funext fun a => by fin_cases a <;> rfl)) ((dx_apply m c t (y 0) (y 1)).trans ?_)
  refine congrArg (Gdx (argX m c) (argG m c) (argW m c) (argDp m c) (argD m c)) ?_
  blk_point [i14]

/-- The last grid point. -/
abbrev last : Fin cfg0.N := ⟨7, by decide +kernel⟩

/-- What output window 15 holds after the last grid point: the sum of the parts of all of them. -/
theorem acc15 (c : Dev nD) (t : Fin cfg0.N) (ht : t.val + 1 = cfg0.N) (i : S1x1024.Idx) :
    (outsAt0 m c t.val t.isLt).2 i = 0 + ∑ p : Fin cfg0.N, dg m c p i := by
  refine Pipeline.eq_sum_fin_of_reset_step_apply_last (fun n hn => (outsAt0 m c n hn).2) 8 (fun _ => 0)
    (fun p => dg m c p) (fun t h i => ?_) (fun t h i => ?_) (by decide +kernel) t ht i
  · rw [outs_first m c t h, zero_add]
  · rw [outs_later m c t h]
    unfold k0_pay2
    pointwise

/-- The array of output window 15 after the run. -/
theorem final15 (c : Dev nD) : (dats m 0 c).arrAt 15 cfg0.N = Gdg (argX m c) (argW m c) (argDp m c) := by
  funext i
  refine ((dats m 0 c).arrAt_emb_eq_after_last 15 last (by decide +kernel) i).trans ?_
  blk_simp
  rw [after0_15]
  refine (acc15 m c last rfl _).trans ?_
  rw [zero_add]
  have key : ∀ p : Fin cfg0.N, dg m c p i = ∑ r : Fin 512, dh (argW m c) (argDp m c) (at_ p r) (i 1) *
      (row (argX m c) (at_ p r) (i 1) * rstdE (row (argX m c) (at_ p r))) := fun t => by
    obtain ⟨-, i8, i9, i10, i11, i12, i13, i14, i15⟩ := index t
    have hh := hb_apply m c t
    unfold dg
    generalize hb m c t = H at hh ⊢
    unfold k0_pay1 k0_pay12 k0_pay11
    pointwise
    simp only [hh, in10 m c t, in11 m c t]
    unfold row
    blk_point [i10, i11, i15]
    exact congrArg (fun a : EReal => a * _) (hh _ _)
  refine (Finset.sum_congr rfl fun p _ => key p).trans ?_
  exact Fin.sum_mul_add_congr (S := cfg0.N) (n := 512) (fun p r hl => rfl)

end Cert.Norm1Ideal.Closed

end
-- ==== Proof.Norm1.Ref.lean ====
/- The first norm's reference, result by result, read at an element. -/
module

public import proofs.«01_k».proof.Proof.Norm1.Kernel
public import proofs.«01_k».proof.Proof.Gen.Norm1RefIdeal.Read

@[expose] public section

set_option maxRecDepth 16384

noncomputable section

namespace Cert.Norm1RefIdeal.Closed

open Cert.Norm1RefIdeal Cert.Norm1RefIdeal.Read Idealize.ShloMosaic Idealize.ShloMosaic.TcCoe Idealize.SL.Sem Cert.Reals
open Cert.Norm1Ideal.Closed

variable (x : FVec Ideal S1x4096x1024 .f32) (g : FVec Ideal S1x1024 .f32) (w : FVec Ideal S1x1024x4616 .f32)
  (dp : FVec Ideal S4096x4616 .f32) (d : FVec Ideal S4096x1024 .f32)

/-- Where an entry of a reshaped and broadcast array comes from. -/
theorem e0 (i : S4096x1024.Idx) : idx_main_v0 i = ix3 0 (i 0) (i 1) := funext fun a => by
  have h0 : (i 0).val < 4096 := (i 0).isLt
  have h1 : (i 1).val < 1024 := (i 1).isLt
  fin_cases a <;> refine Fin.ext ?_
  · exact rfl
  · show ((i 0).val * 1024 + (i 1).val) / 1024 % 4096 = (i 0).val
    omega
  · show ((i 0).val * 1024 + (i 1).val) % 1024 = (i 1).val
    omega

/-- Where an entry of a reshaped and broadcast array comes from. -/
theorem e18 (i : S1024x4616.Idx) : idx_main_v18 i = ix3 0 (i 0) (i 1) := funext fun a => by
  have h0 : (i 0).val < 1024 := (i 0).isLt
  have h1 : (i 1).val < 4616 := (i 1).isLt
  fin_cases a <;> refine Fin.ext ?_
  · exact rfl
  · show ((i 0).val * 4616 + (i 1).val) / 4616 % 1024 = (i 0).val
    omega
  · show ((i 0).val * 4616 + (i 1).val) % 4616 = (i 1).val
    omega

/-- The input's rows. -/
theorem ref_x (i : S4096x1024.Idx) : val_main_v0 (F := Ideal) x i = row x (i 0) (i 1) := by
  rw [val_main_v0_apply, e0]
  rfl

/-- The mean square of a row plus epsilon. -/
theorem ref_ms (i : S4096x1.Idx) : val_main_v7 (F := Ideal) x i =
    Ideal.div (∑ k, row x (i 0) k * row x (i 0) k) (Ideal.ofBits .f32 0x44800000#32) + Ideal.ofBits .f32 0x358637BD#32 := by
  simp only [val_main_v7_apply, val_main_v6_apply, val_main_v5_apply, val_main_v4_apply, val_main_v3_apply, val_main_v2_apply,
    val_main_v1_apply, ref_x, val_main_cst_apply, val_main_cst_0_apply, val_main_cst_1_apply]
  pointwise
  reads_congr <;> first | rfl | exact congrArg _ (funext fun k => by fin_cases k <;> rfl)

/-- The reciprocal root mean square of a row. -/
theorem ref_rstd (i : S4096x1.Idx) : val_main_v8 (F := Ideal) x i = rstdE (row x (i 0)) := by
  rw [val_main_v8_apply, ref_ms]
  rfl

/-- The cotangent of the normalised row. -/
theorem ref_dh (i : S4096x1024.Idx) : val_main_v20 (F := Ideal) w dp i = dh w dp (i 0) (i 1) := by
  rw [val_main_v20_apply]
  simp only [val_main_v18_apply, e18]
  unfold dh term
  pointwise
  reads_congr <;> first | rfl | exact congrArg _ (funext fun k => by fin_cases k <;> rfl)

/-- Where an entry of a reshaped and broadcast array comes from. -/
theorem e14 (i : S1x1024.Idx) : idx_main_v14 (idx_main_v15 i) = ix2 0 (i 1) := funext fun a => by
  fin_cases a <;> refine Fin.ext ?_
  · exact rfl
  · have h : (i 1).val < 1024 := (i 1).isLt
    show (i 1).val % 1024 = (i 1).val
    omega

/-- The cotangent of the row over its root mean square. -/
theorem ref_u (i : S4096x1024.Idx) : val_main_v25 (F := Ideal) g w dp i = dh w dp (i 0) (i 1) * g (ix2 0 (i 1)) := by
  simp only [val_main_v25_apply, val_main_v24_apply, val_main_v15_apply, val_main_v14_apply, ref_dh, e14]
  pointwise
  rfl

/-- Where an entry of a reshaped and broadcast array comes from. -/
theorem e30 (i : S4096.Idx) : idx_main_v30 (idx_main_v37 i 0) = i := funext fun a => by
  fin_cases a
  exact Fin.ext (by show (i 0).val * 1 + 0 = (i 0).val; omega)

/-- Where an entry of a reshaped and broadcast array comes from. -/
theorem e23 (i : S1024.Idx) : idx_main_v23 (idx_main_v26 i 0) = i := funext fun a => by
  fin_cases a
  exact Fin.ext (by show 0 * 1024 + (i 0).val = (i 0).val; omega)

/-- The input's gradient. -/
theorem ref_dx (i : S4096x1024.Idx) : val_main_v42 (F := Ideal) x g w dp d i =
    d i + vjpE (row x (i 0)) (fun k => dh w dp (i 0) k * g (ix2 0 k)) (i 1) := by
  simp only [val_main_v42_apply, val_main_v41_apply, val_main_v40_apply, val_main_v39_apply, val_main_v38_apply,
    val_main_v37_apply, val_main_v36_apply, val_main_v35_apply, val_main_v34_apply, val_main_v33_apply, val_main_v32_apply,
    val_main_v31_apply, val_main_v30_apply, val_main_v29_apply, val_main_v28_apply, ref_x, ref_u, ref_rstd, ref_ms,
    val_main_v11_apply, val_main_v10_apply, val_main_v9_apply, val_main_cst_2_apply, val_main_cst_5_apply,
    val_main_cst_6_apply, val_main_cst_7_apply, Fin.sum_univ_one, e30]
  unfold vjpE
  pointwise
  simp only [← add_assoc]
  reads_congr <;> first | rfl | exact congrArg _ (funext fun k => by fin_cases k <;> rfl)

/-- The gain's gradient. -/
theorem ref_dg (i : S1x1024.Idx) : val_main_v27 (F := Ideal) x w dp i =
    ∑ r : Fin 4096, (row x r (i 1) * rstdE (row x r)) * dh w dp r (i 1) := by
  simp only [val_main_v27_apply, val_main_v26_apply, val_main_v23_apply, val_main_v22_apply, val_main_v21_apply,
    val_main_v13_apply, val_main_v12_apply, ref_x, ref_rstd, ref_dh, val_main_cst_3_apply, val_main_cst_4_apply,
    Fin.sum_univ_one, e23]
  pointwise
  reads_congr <;> first | rfl | exact congrArg _ (funext fun k => by fin_cases k <;> rfl)

end Cert.Norm1RefIdeal.Closed

end
-- ==== Proof.Norm1.Main.lean ====
/- The first norm's gradient call against the derivative of the plain forward lines. -/
module

public import proofs.«01_k».proof.Defs
public import proofs.«01_k».proof.Proof.Norm1.Ref
public import proofs.«01_k».proof.Proof.Gen.Norm1RefIdeal.Run
public import proofs.«01_k».proof.Proof.Gen.Pre_finite_norm1

@[expose] public section

set_option maxRecDepth 16384

noncomputable section

namespace Cert.Proof

open Idealize.ShloMosaic Idealize.ShloMosaic.TcCoe Idealize.SL.Sem Cert.Reals
open Cert.Norm1Ideal.Closed Cert.Norm1RefIdeal.Closed Cert.Norm1RefIdeal.Read

/-- The precondition of the first norm's call: every argument but the cotangent that flows past the norm is an array of reals. -/
theorem pre_norm1 (x : FVec Ideal Cert.Norm1Ideal.S1x4096x1024 .f32) (g : FVec Ideal Cert.Norm1Ideal.S1x1024 .f32)
    (w : FVec Ideal Cert.Norm1Ideal.S1x1024x4616 .f32) (dp : FVec Ideal Cert.Norm1Ideal.S4096x4616 .f32)
    (d : FVec Ideal Cert.Norm1Ideal.S4096x1024 .f32)
    (h : Cert.Pre_finite_norm1.fn (F := Ideal) x g w dp d = fun _ => 1#1) :
    (∃ r, x = up r) ∧ (∃ r, g = up r) ∧ (∃ r, w = up r) ∧ (∃ r, dp = up r) := by
  unfold Cert.Pre_finite_norm1.fn at h
  dsimp only at h
  try unfold Cert.Pre_finite_norm1.fn_part1 at h
  try dsimp only at h
  simp only [andi_ones] at h
  obtain ⟨⟨⟨h0, h1⟩, h2⟩, h3⟩ := h
  exact ⟨real_of_all _ _ _ _ _ _ h0, real_of_all _ _ _ _ _ _ h1, real_of_all _ _ _ _ _ _ h2, real_of_all _ _ _ _ _ _ h3⟩

section
variable (x : Cert.Norm1Ideal.S1x4096x1024.Idx → ℝ) (g : Cert.Norm1Ideal.S1x1024.Idx → ℝ)
  (w : Cert.Norm1Ideal.S1x1024x4616.Idx → ℝ) (dp : Cert.Norm1Ideal.S4096x4616.Idx → ℝ)

/-- A row of the input, as reals. -/
theorem row1_coe (r : Fin 4096) : row (up x) r = fun k => ((x (ix3 0 r k) : ℝ) : EReal) := rfl

/-- The cotangent of the normalised row, as reals. -/
theorem dh1_coe (r : Fin 4096) :
    dh (up w) (up dp) r = fun k => ((∑ j : Fin 4616, dp (ix2 r j) * w (ix3 0 k j) : ℝ) : EReal) := by
  funext k
  unfold dh term
  simp only [up_apply, ← EReal.coe_mul, coe_sum]

/-- The input's gradient: both programs' forms agree at real arguments. -/
theorem norm1_dx (d : FVec Ideal Cert.Norm1Ideal.S4096x1024 .f32) :
    val_main_v42 (F := Ideal) (up x) (up g) (up w) (up dp) d = Gdx (up x) (up g) (up w) (up dp) d := by
  funext i
  refine (ref_dx _ _ _ _ _ i).trans ?_
  unfold Gdx
  refine congrArg (d i + ·) ?_
  have key : ∀ (r : Fin 4096) (k : Fin 1024),
      vjpE (row (up x) r) (fun k => dh (up w) (up dp) r k * up g (ix2 0 k)) k
      = bwdE (row (up x) r) (fun k => dh (up w) (up dp) r k * up g (ix2 0 k)) k := fun r k => by
    simp only [row1_coe, up_apply, dh1_coe, ← EReal.coe_mul]
    rw [vjpE_coe, bwdE_coe]
  exact key (i 0) (i 1)
end

/-- The gain's gradient: both programs' forms agree at real arguments. -/
theorem norm1_dg (x : FVec Ideal Cert.Norm1Ideal.S1x4096x1024 .f32) (w : FVec Ideal Cert.Norm1Ideal.S1x1024x4616 .f32)
    (dp : FVec Ideal Cert.Norm1Ideal.S4096x4616 .f32) : val_main_v27 (F := Ideal) x w dp = Gdg x w dp := by
  funext i
  refine (ref_dg _ _ _ i).trans ?_
  unfold Gdg
  exact Finset.sum_congr rfl fun r _ => mul_comm _ _

/-- The first norm's gradient call computes the derivatives of the forward lines, from real arguments. -/
theorem algebraic_norm1 : Cert.algebraic_Norm1Ideal_Norm1RefIdeal_pre_finite_norm1 := by
  intro m ρ m' ρ' hpre hag
  refine ⟨fun c => Gdx (argX m c) (argG m c) (argW m c) (argDp m c) (argD m c),
    fun c => Gdg (argX m c) (argW m c) (argDp m c), ?_, ?_⟩
  · exact (θ_run _ _ _).mono (fun r h c => by
      obtain ⟨h6, h7, hr⟩ := h c
      exact ⟨h6.trans (final14 m c), h7.trans (final15 m c), hr⟩)
      (Cert.Norm1Ideal.Value.run_blocks m ρ)
  · refine (θ_run _ _ _).mono (fun r h c => ?_) (Cert.Norm1RefIdeal.Value.run m' ρ')
    obtain ⟨h6, h7, hr⟩ := h c
    obtain ⟨a0, a1, a2, a3, a4⟩ := hag c
    obtain ⟨⟨x, hx⟩, ⟨g, hg⟩, ⟨w, hw⟩, ⟨dp, hdp⟩⟩ :=
      pre_norm1 (argX m c) (argG m c) (argW m c) (argDp m c) (argD m c) (hpre c)
    have hdx : val_main_v42 (F := Ideal) (argX m c) (argG m c) (argW m c) (argDp m c) (argD m c)
        = Gdx (argX m c) (argG m c) (argW m c) (argDp m c) (argD m c) := by
      rw [hx, hg, hw, hdp]
      exact norm1_dx x g w dp _
    refine ⟨h6.trans ?_, h7.trans ?_, hr⟩
    · rw [val_main_v42_eq, a0, a1, a2, a3, a4]
      exact hdx
    · rw [val_main_v27_eq, a0, a2, a3]
      exact norm1_dg _ _ _

end Cert.Proof

end
-- ==== Proof.AttnOut.Kernel.lean ====
/- The attention output's gradient call: each result as one closed form of the call's arguments. -/
module

public import proofs.«01_k».proof.Proof.Gen.AttnOutIdeal.Value
public import Idealize.ShloMosaic.Lib.Pointwise
public import Idealize.ShloMosaic.Lib.Pipeline.ValueKit

@[expose] public section

set_option maxRecDepth 16384

noncomputable section

namespace Cert.AttnOutIdeal.Closed

open Cert.AttnOutIdeal Cert.AttnOutIdeal.Gen Idealize.ShloMosaic Idealize.ShloMosaic.TcCoe Idealize.SL.Sem
open Idealize.ShloMosaic.Pipeline (Dat)

variable (m : (ℓ : Loc nD τ sig) → Buf (Elt Ideal) ℓ)

/-- The cotangent of the attention's output: the call's cotangent against the rows of the weight. -/
def Gdo (w : FVec Ideal S512x1024 .f32) (ct : FVec Ideal S4096x1024 .f32) : FVec Ideal S4096x512 .f32 :=
  fun i => ∑ j : Fin 1024, ct (ix2 (i 0) j) * w (ix2 (i 1) j)

/-- The arguments, as arrays. -/
abbrev argQ (c : Dev nD) : FVec Ideal S4096x512 .f32 := m ((c : Thread nD τ).loc main_arg0)
abbrev argK (c : Dev nD) : FVec Ideal S4096x512 .f32 := m ((c : Thread nD τ).loc main_arg1)
abbrev argV (c : Dev nD) : FVec Ideal S4096x512 .f32 := m ((c : Thread nD τ).loc main_arg2)
abbrev argC (c : Dev nD) : FVec Ideal S4096x8 .f32 := m ((c : Thread nD τ).loc main_arg3)
abbrev argW (c : Dev nD) : FVec Ideal S512x1024 .f32 := m ((c : Thread nD τ).loc main_arg4)
abbrev argCt (c : Dev nD) : FVec Ideal S4096x1024 .f32 := m ((c : Thread nD τ).loc main_arg5)

/-- The block that each window takes at each grid point. -/
theorem index : ∀ t : Fin cfg0.N,
    win0_0.index t = ![t.val, 0] ∧ win0_1.index t = ![0, 0] ∧ win0_2.index t = ![t.val, 0] ∧ win0_3.index t = ![0, 0]
    ∧ win0_4.index t = ![t.val, 0] ∧ win0_5.index t = ![t.val, 0] := (by decide +kernel : ∀ t : Fin grid0.N, _)

/-- The array `ct` that the call reads, out of the arguments. -/
theorem V_ct (c : Dev nD) : @Eq (FVec Ideal S4096x1024 .bf16) (V m c main_v40) (truncf .bf16 (argCt m c) bitsLt_bf16_f32) := by
  unfold V
  simp only [hostOps0, hostOps0_1, hostOps0_2, List.flatten_cons, List.flatten_nil, List.append_nil, List.cons_append,
    List.nil_append]
  after_results

/-- The array `w` that the call reads, out of the arguments. -/
theorem V_w (c : Dev nD) : @Eq (FVec Ideal S1024x512 .bf16) (V m c main_v42)
    (truncf .bf16 (transpose S1024x512 [1, 0] (argW m c) transposes_S512x1024_S1024x512_1_0) bitsLt_bf16_f32) := by
  unfold V
  simp only [hostOps0, hostOps0_1, hostOps0_2, List.flatten_cons, List.flatten_nil, List.append_nil, List.cons_append,
    List.nil_append]
  after_results

/-- The masked logits of the attention. -/
def Glg (q k : FVec Ideal S4096x512 .f32) (c : FVec Ideal S4096x8 .f32) : FVec Ideal S8x4096x4096 .f32 := fun i =>
  Scalar.select (IntOp.cmpi .sge (BitVec.ofNat 32 (i 1).val) (BitVec.ofNat 32 (i 2).val))
    ((∑ d : Fin 64, q (ix2 (i 1) ⟨(i 0).val * 64 + d.val, by have : (i 0).val < 8 := (i 0).isLt; omega⟩) *
        k (ix2 (i 2) ⟨(i 0).val * 64 + d.val, by have : (i 0).val < 8 := (i 0).isLt; omega⟩)) * Ideal.ofBits .f32 1040187392#32
      + c (ix2 (i 1) (i 0)) - c (ix2 (i 2) (i 0)))
    (Ideal.ofBits .f32 4286578688#32)

/-- The exponentials of the logits minus their row's maximum. -/
def ex (L : FVec Ideal S8x4096x4096 .f32) : FVec Ideal S8x4096x4096 .f32 :=
  Host.exp (subf L (broadcastInDim S8x4096x4096 ![0, 1, 2] bcast_S8x4096x1_S8x4096x4096_0_1_2
    (broadcastInDim S8x4096x1 ![0, 1] bcast_S8x4096_S8x4096x1_0_1
      (maximumf (broadcastInDim S8x4096 ![] bcast_S_S8x4096 (constant S_ .f32 0xFF800000#32))
        (Host.reduce FloatOps.maximumf L (constant S_ .f32 0xFF800000#32) reducesTo_S8x4096x4096_S8x4096_d2 h_S_)))))

/-- The softmax of the logits along their last axis. -/
def sm (L : FVec Ideal S8x4096x4096 .f32) : FVec Ideal S8x4096x4096 .f32 :=
  Host.divf (ex L) (broadcastInDim S8x4096x4096 ![0, 1, 2] bcast_S8x4096x1_S8x4096x4096_0_1_2
    (broadcastInDim S8x4096x1 ![0, 1] bcast_S8x4096_S8x4096x1_0_1
      (Host.reduceAdd (ex L) (constant S_ .f32 0x00000000#32) reducesTo_S8x4096x4096_S8x4096_d2 h_S_)))

/-- The attention's output. -/
def Go (q k v : FVec Ideal S4096x512 .f32) (c : FVec Ideal S4096x8 .f32) : FVec Ideal S4096x512 .f32 := fun i =>
  ∑ s : Fin 4096, sm (Glg q k c) (ix3 ⟨(i 1).val / 64, by have : (i 1).val < 512 := (i 1).isLt; omega⟩ (i 0) s) * v (ix2 s (i 1))

/-- The array `lg` that the call reads, out of the arguments. -/
theorem V_lg (c : Dev nD) : @Eq (FVec Ideal S8x4096x4096 .f32) (V m c main_v23) (Glg (argQ m c) (argK m c) (argC m c)) := by
  unfold V
  simp only [hostOps0, hostOps0_1, hostOps0_2, List.flatten_cons, List.flatten_nil, List.append_nil, List.cons_append,
    List.nil_append]
  after_results
  funext i
  pointwise [Glg]

/-- The array `p` that the call reads, out of the arguments. -/
theorem V_p (c : Dev nD) : @Eq (FVec Ideal S8x4096x4096 .f32) (V m c main_v34) (sm (V m c main_v23)) := by
  unfold V
  simp only [hostOps0, hostOps0_1, hostOps0_2, List.flatten_cons, List.flatten_nil, List.append_nil, List.cons_append,
    List.nil_append]
  after_results
  rfl

/-- The array `o0` that the call reads, out of the arguments. -/
theorem V_o0 (c : Dev nD) : @Eq (FVec Ideal S4096x512 .f32) (V m c main_v39)
    (shapeCast S4096x512 (transpose S4096x8x64 [1, 0, 2] (Host.dotGeneral dot_S8x4096x4096_S8x4096x64_S8x4096x64_2_1_1_2_0_0 none (@id (FVec Ideal S8x4096x4096 .f32) (V m c main_v34))
      (transpose S8x4096x64 [1, 0, 2] (shapeCast S4096x8x64 (argV m c) shapeCasts_S4096x512_S4096x8x64) transposes_S4096x8x64_S8x4096x64_1_0_2)) transposes_S8x4096x64_S4096x8x64_1_0_2) shapeCasts_S4096x8x64_S4096x512) := by
  unfold V
  simp only [hostOps0, hostOps0_1, hostOps0_2, List.flatten_cons, List.flatten_nil, List.append_nil, List.cons_append,
    List.nil_append]
  after_results
  rfl

/-- The array `o` that the call reads, out of the arguments. -/
theorem V_o (c : Dev nD) : @Eq (FVec Ideal S4096x512 .f32) (V m c main_v39) (Go (argQ m c) (argK m c) (argV m c) (argC m c)) := by
  rw [V_o0, V_p, V_lg]
  generalize hP : sm (Glg (argQ m c) (argK m c) (argC m c)) = P
  funext i
  simp only [Go, hP]
  pointwise
  exact Finset.sum_congr rfl fun s _ => rfl

/-- Rounding division by 64 of a column number, as the host lines spell it. -/
theorem floor_div : ∀ r : Fin 512,
    Scalar.select
          (IntOp.andi
            (IntOp.cmpi CmpIPredicate.ne
              (if BitVec.ofNat 32 r.val = 0 then (0 : BitVec 32) else if (BitVec.ofNat 32 r.val).msb = true then -1 else 1)
              (if (64#32) = 0 then 0
              else if BitVec.msb (64#32) = true then -1 else 1))
            (IntOp.cmpi CmpIPredicate.ne
              (IntOp.remsi ArithUnit.host (BitVec.ofNat 32 r.val) (64#32)) 0#32))
          (IntOp.subi (IntOp.divsi ArithUnit.host (BitVec.ofNat 32 r.val) (64#32)) 1#32)
          (IntOp.divsi ArithUnit.host (BitVec.ofNat 32 r.val) (64#32)) = BitVec.ofNat 32 (r.val / 64) := by decide +kernel

/-- Which head a column of the output belongs to, as a 0/1 array. -/
def Gsel : FVec Ideal S512x128 .f32 := fun i => if (i 0).val / 64 = (i 1).val then 1 else 0

/-- The array `sel` that the call reads, out of the arguments. -/
theorem V_sel (c : Dev nD) : @Eq (FVec Ideal S512x128 .f32) (V m c main_v51) Gsel := by
  unfold V
  simp only [hostOps0, hostOps0_1, hostOps0_2, List.flatten_cons, List.flatten_nil, List.append_nil, List.cons_append,
    List.nil_append]
  after_results
  simp only [StableHlo.TRef.toBuf, StableHlo.TRef.ofBuf, cast_eq]
  funext i
  pointwise [Gsel]
  have h0 : (i 0).val < 512 := (i 0).isLt
  have h1 : (i 1).val < 128 := (i 1).isLt
  have key := floor_div ⟨(i 0).val, h0⟩
  refine (congrArg (fun z => FloatOps.uitofp (F := Ideal) .f32 (IntOp.cmpi CmpIPredicate.eq z (BitVec.ofNat 32 (i 1).val))) key).trans ?_
  show FloatOps.uitofp (F := Ideal) .f32 (IntOp.cmpi CmpIPredicate.eq (BitVec.ofNat 32 ((i 0).val / 64)) (BitVec.ofNat 32 (i 1).val)) = _
  by_cases h : (i 0).val / 64 = (i 1).val
  · rw [if_pos h, h]
    simp only [IntOp.cmpi, beq_self_eq_true]
    exact Nat.cast_one
  · rw [if_neg h]
    have hne : BitVec.ofNat 32 ((i 0).val / 64) ≠ BitVec.ofNat 32 (i 1).val := fun e => h (by
      have := congrArg BitVec.toNat e
      simp only [BitVec.toNat_ofNat] at this
      omega)
    rw [show IntOp.cmpi CmpIPredicate.eq (BitVec.ofNat 32 ((i 0).val / 64)) (BitVec.ofNat 32 (i 1).val) = 0#1 by
      simp only [IntOp.cmpi, beq_eq_false_iff_ne.mpr hne]; rfl]
    exact Nat.cast_zero

/-- What input window 0 holds at a grid point, out of the arguments. -/
theorem in0 (c : Dev nD) (t : Fin cfg0.N) (y : S512x1024.Idx) : (iblk m c 0 t : FVec Ideal S512x1024 .bf16) y =
    argCt m c ((win0_0.blk t).view.emb y) := congrFun (V_ct m c) _

/-- What input window 1 holds at a grid point, out of the arguments. -/
theorem in1 (c : Dev nD) (t : Fin cfg0.N) (y : S1024x512.Idx) : (iblk m c 1 t : FVec Ideal S1024x512 .bf16) y =
    argW m c (ix2 ((win0_1.blk t).view.emb y 1) ((win0_1.blk t).view.emb y 0)) := (congrFun (V_w m c) _).trans (by pointwise)

/-- What input window 2 holds at a grid point, out of the arguments. -/
theorem in2 (c : Dev nD) (t : Fin cfg0.N) (y : S512x512.Idx) : (iblk m c 2 t : FVec Ideal S512x512 .f32) y =
    Go (argQ m c) (argK m c) (argV m c) (argC m c) ((win0_2.blk t).view.emb y) := congrFun (V_o m c) _

/-- What input window 3 holds at a grid point, out of the arguments. -/
theorem in3 (c : Dev nD) (t : Fin cfg0.N) (y : S512x128.Idx) : (iblk m c 3 t : FVec Ideal S512x128 .f32) y =
    Gsel ((win0_3.blk t).view.emb y) := congrFun (V_sel m c) _

/-- The cotangent of the attention's output after the call. -/
theorem final4 (c : Dev nD) : (dats m 0 c).arrAt 4 cfg0.N = Gdo (argW m c) (argCt m c) := by
  refine (dats m 0 c).arrAt_eq_of_covers 4 _ (by decide +kernel) fun t hf y => ?_
  blk_simp
  rw [after0_4]
  frame_out
  obtain ⟨i0, i1, i2, i3, i4, i5⟩ := index t
  unfold_payloads
  pointwise [Gdo]
  simp only [in0 m c t, in1 m c t]
  blk_point [i0, i1, i4]

/-- The element-wise product whose rows are summed. -/
def Gx (w : FVec Ideal S512x1024 .f32) (ct : FVec Ideal S4096x1024 .f32) (o : FVec Ideal S4096x512 .f32) (r : Fin 4096)
    (k : Fin 512) : EReal := (∑ j : Fin 1024, ct (ix2 r j) * w (ix2 k j)) * o (ix2 r k)

/-- The row sums as the call takes them: of a value cut into three parts, each against the 0/1 array. -/
def Gdelta (w : FVec Ideal S512x1024 .f32) (ct : FVec Ideal S4096x1024 .f32) (o : FVec Ideal S4096x512 .f32) :
    FVec Ideal S4096x128 .f32 := fun i =>
  ∑ k : Fin 512, Gx w ct o (i 0) k * Gsel (ix2 k (i 1))
    + ∑ k : Fin 512, (Gx w ct o (i 0) k - Gx w ct o (i 0) k) * Gsel (ix2 k (i 1))
    + ∑ k : Fin 512, (Gx w ct o (i 0) k - Gx w ct o (i 0) k - (Gx w ct o (i 0) k - Gx w ct o (i 0) k)) * Gsel (ix2 k (i 1))

set_option maxHeartbeats 4000000 in
/-- The row sums of each head of the cotangent times the output, after the call. -/
theorem final5 (c : Dev nD) : (dats m 0 c).arrAt 5 cfg0.N =
    Gdelta (argW m c) (argCt m c) (Go (argQ m c) (argK m c) (argV m c) (argC m c)) := by
  refine (dats m 0 c).arrAt_eq_of_covers 5 _ (by decide +kernel) fun t hf y => ?_
  blk_simp
  rw [after0_5]
  frame_out
  obtain ⟨i0, i1, i2, i3, i4, i5⟩ := index t
  unfold_payloads
  pointwise [Gdelta, Gx]
  simp only [in0 m c t, in1 m c t, in2 m c t, in3 m c t]
  generalize Go (argQ m c) (argK m c) (argV m c) (argC m c) = O
  generalize Gsel = Z
  blk_point [i0, i1, i2, i3, i5]

end Cert.AttnOutIdeal.Closed

end
-- ==== Proof.Reals.Softmax.lean ====
/- The softmax of a row that may be masked by minus infinity, at real numbers. -/
module

public import proofs.«01_k».proof.Proof.Reals.Basic

@[expose] public section

noncomputable section

namespace Cert.Reals

open Idealize.ShloMosaic Idealize.ShloMosaic.TcCoe

/-- The f32 word of minus infinity. -/
theorem ofBits_neg_inf : Ideal.ofBits .f32 0xFF800000#32 = ⊥ := by
  simp [Ideal.ofBits, Ideal.ieee]

/-- The host's maximum over the last axis, at an element. -/
theorem reduce_max3 {n0 n1 n2 : ℕ} {u : Shape} (L : FVec Ideal (⟨3, ![n0, n1, n2]⟩ : Shape) .f32) (w : BitVec 32)
    (h : (⟨3, ![n0, n1, n2]⟩ : Shape).ReducesTo [2] (⟨2, ![n0, n1]⟩ : Shape)) (hu : 0 < u.numel) (a : Fin n0) (b : Fin n1) :
    Host.reduce FloatOps.maximumf L (constant u .f32 w) h hu (ix2 a b)
      = Finset.univ.fold max (Ideal.ofBits .f32 w) fun k : Fin n2 => L (ix3 a b k) := by
  simp only [pointwise]

/-- The largest entry of a row without plus infinity, not all of it minus infinity, is a real. -/
theorem fold_max_real {n : ℕ} (f : Fin n → EReal) (h1 : ∀ k, f k ≠ ⊤) (h2 : ∃ k, f k ≠ ⊥) :
    ∃ r : ℝ, Finset.univ.fold max (⊥ : EReal) f = r := by
  have hs : Finset.univ.fold max (⊥ : EReal) f = Finset.univ.sup f := rfl
  rw [hs]
  have ht : Finset.univ.sup f ≠ ⊤ :=
    ((Finset.sup_lt_iff (bot_lt_top : (⊥ : EReal) < ⊤)).2 fun k _ => lt_top_iff_ne_top.2 (h1 k)).ne
  have hb : Finset.univ.sup f ≠ ⊥ := by
    obtain ⟨k, hk⟩ := h2
    exact ((bot_lt_iff_ne_bot.2 hk).trans_le (Finset.le_sup (f := f) (Finset.mem_univ k))).ne'
  exact ⟨_, (EReal.coe_toReal ht hb).symm⟩

/-- The exponential of an entry minus a real is a real not below zero, above it unless the entry is minus infinity. -/
theorem exp_sub_real (x : EReal) (M : ℝ) (h : x ≠ ⊤) : ∃ p : ℝ, Ideal.exp (x - M) = p ∧ 0 ≤ p ∧ (x ≠ ⊥ → 0 < p) := by
  induction x with
  | bot => exact ⟨0, by rw [EReal.bot_sub, EReal.coe_zero]; rfl, le_rfl, fun h => absurd rfl h⟩
  | top => exact absurd rfl h
  | coe r => exact ⟨Real.exp (r - M), by rw [← EReal.coe_sub, exp_coe], (Real.exp_pos _).le, fun _ => Real.exp_pos _⟩

/-- The softmax of such a row consists of reals. -/
theorem softmax_real {n : ℕ} (f : Fin n → EReal) (h1 : ∀ k, f k ≠ ⊤) (h2 : ∃ k, f k ≠ ⊥) :
    ∃ p : Fin n → ℝ, ∀ k, Ideal.div (Ideal.exp (f k - max ⊥ (Finset.univ.fold max (⊥ : EReal) f)))
      (∑ j, Ideal.exp (f j - max ⊥ (Finset.univ.fold max (⊥ : EReal) f))) = p k := by
  obtain ⟨M, hM⟩ := fold_max_real f h1 h2
  rw [hM, max_eq_right bot_le]
  choose e he hn hp using fun k => exp_sub_real (f k) M (h1 k)
  obtain ⟨k0, hk0⟩ := h2
  have hs : 0 < ∑ j, e j := Finset.sum_pos' (fun j _ => hn j) ⟨k0, Finset.mem_univ _, hp k0 hk0⟩
  refine ⟨fun k => e k / ∑ j, e j, fun k => ?_⟩
  simp only [he, coe_sum]
  exact div_coe _ _ hs.ne'

end Cert.Reals

end
-- ==== Proof.AttnOut.Soft.lean ====
/- The attention's weights at an element, and the realness of the attention's output. -/
module

public import proofs.«01_k».proof.Proof.AttnOut.Kernel
public import proofs.«01_k».proof.Proof.Reals.Softmax

@[expose] public section

set_option maxRecDepth 16384

noncomputable section

namespace Cert.AttnOutIdeal.Closed

open Cert.AttnOutIdeal Cert.AttnOutIdeal.Gen Idealize.ShloMosaic Idealize.ShloMosaic.TcCoe Idealize.SL.Sem Cert.Reals

/-- A row's value spread over the row, at an element. -/
theorem spread_apply (R : FVec Ideal S8x4096 .f32) (h : Fin 8) (q s : Fin 4096) :
    (broadcastInDim S8x4096x4096 ![0, 1, 2] bcast_S8x4096x1_S8x4096x4096_0_1_2
      (broadcastInDim S8x4096x1 ![0, 1] bcast_S8x4096_S8x4096x1_0_1 R)) (ix3 h q s) = R (ix2 h q) := by
  pointwise

/-- An entry of the exponential of a difference. -/
theorem exp_sub_apply (L R : FVec Ideal S8x4096x4096 .f32) (i : S8x4096x4096.Idx) :
    Host.exp (subf L R) i = Ideal.exp (L i - R i) := rfl

/-- An entry of a maximum. -/
theorem max_apply (L R : FVec Ideal S8x4096 .f32) (i : S8x4096.Idx) : maximumf L R i = max (L i) (R i) := rfl

/-- An entry of the array of minus infinities. -/
theorem fill_apply (i : S8x4096.Idx) : (broadcastInDim S8x4096 ![] bcast_S_S8x4096 (constant S_ .f32 0xFF800000#32) :
    FVec Ideal S8x4096 .f32) i = Ideal.ofBits .f32 0xFF800000#32 := rfl

/-- The exponentials, at an element. -/
theorem ex_apply (L : FVec Ideal S8x4096x4096 .f32) (h : Fin 8) (q s : Fin 4096) :
    ex L (ix3 h q s) = Ideal.exp (L (ix3 h q s) - max ⊥ (Finset.univ.fold max ⊥ fun k : Fin 4096 => L (ix3 h q k))) := by
  unfold ex
  rw [exp_sub_apply, spread_apply, max_apply, fill_apply, reduce_max3, ofBits_neg_inf]

/-- The softmax, at an element. -/
theorem sm_apply (L : FVec Ideal S8x4096x4096 .f32) (h : Fin 8) (q s : Fin 4096) :
    sm L (ix3 h q s) = Ideal.div (ex L (ix3 h q s)) (∑ k : Fin 4096, ex L (ix3 h q k)) := by
  unfold sm
  generalize ex L = E
  pointwise

/-- From real arguments the attention's weights are reals. -/
theorem sm_real (q k : S4096x512.Idx → ℝ) (c : S4096x8.Idx → ℝ) (h : Fin 8) (r : Fin 4096) :
    ∃ p : Fin 4096 → ℝ, ∀ s, sm (Glg (up q) (up k) (up c)) (ix3 h r s) = p s := by
  have hl : ∀ s : Fin 4096, ∃ l : ℝ, Glg (up q) (up k) (up c) (ix3 h r s)
      = Scalar.select (IntOp.cmpi .sge (BitVec.ofNat 32 r.val) (BitVec.ofNat 32 s.val)) (l : EReal) ⊥ := fun s => by
    refine ⟨(∑ d : Fin 64, q (ix2 r ⟨h.val * 64 + d.val, by omega⟩) * k (ix2 s ⟨h.val * 64 + d.val, by omega⟩)) * (1 / 8)
      + c (ix2 r h) - c (ix2 s h), ?_⟩
    rw [EReal.coe_sub, EReal.coe_add, EReal.coe_mul, ← coe_sum, ← ofBits_eighth, ← ofBits_neg_inf]
    rfl
  choose l hl using hl
  obtain ⟨p, hp⟩ := softmax_real (fun s => Glg (up q) (up k) (up c) (ix3 h r s)) (fun s => by
      rw [hl s]
      unfold Scalar.select
      split <;> simp) ⟨r, by
      rw [hl r, show IntOp.cmpi .sge (BitVec.ofNat 32 r.val) (BitVec.ofNat 32 r.val) = 1#1 by simp [IntOp.cmpi, BitVec.sle]]
      exact EReal.coe_ne_bot _⟩
  refine ⟨p, fun s => ?_⟩
  rw [sm_apply]
  simp only [ex_apply]
  exact hp s

/-- From real arguments the attention's output is real. -/
theorem Go_real (q k v : S4096x512.Idx → ℝ) (c : S4096x8.Idx → ℝ) (i : S4096x512.Idx) :
    ∃ o : ℝ, Go (up q) (up k) (up v) (up c) i = o := by
  obtain ⟨p, hp⟩ := sm_real q k c ⟨(i 1).val / 64, by have : (i 1).val < 512 := (i 1).isLt; omega⟩ (i 0)
  refine ⟨∑ s : Fin 4096, p s * v (ix2 s (i 1)), ?_⟩
  unfold Go
  simp only [hp, up_apply]
  rw [← coe_sum]
  exact Finset.sum_congr rfl fun s _ => (EReal.coe_mul _ _).symm

end Cert.AttnOutIdeal.Closed

end
-- ==== Proof.AttnOut.Ref.lean ====
/- The attention output's reference, read at an element. -/
module

public import proofs.«01_k».proof.Proof.AttnOut.Soft
public import proofs.«01_k».proof.Proof.Gen.AttnOutRefIdeal.Read

@[expose] public section

set_option maxRecDepth 16384

noncomputable section

namespace Cert.AttnOutRefIdeal.Closed

open Cert.AttnOutRefIdeal Cert.AttnOutRefIdeal.Read Idealize.ShloMosaic Idealize.ShloMosaic.TcCoe Idealize.SL.Sem Cert.Reals
open Cert.AttnOutIdeal.Closed

variable (q k v : FVec Ideal S4096x512 .f32) (c : FVec Ideal S4096x8 .f32) (w : FVec Ideal S512x1024 .f32)
  (ct : FVec Ideal S4096x1024 .f32)

/-- The reference's masked logits. -/
theorem ref_lg : val_main_v19 (F := Ideal) q k c = Glg q k c := by
  funext i
  unfold val_main_v19 val_main_v11 val_main_v10 val_main_v9 val_main_v8 val_main_v7 val_main_v6 val_main_v5 val_main_v4 val_main_v3 val_main_v2 val_main_v1 val_main_v0 val_main_cst val_main_call0_v1 val_main_call0_v2
    val_main_call0_v0 val_main_cst_0 val_main_v18 val_main_v17 val_main_v16 val_main_v15 val_main_v14 val_main_v13 val_main_v12
  pointwise [Glg]
  rfl

/-- The reference's weights. -/
theorem ref_p : val_main_v30 (F := Ideal) q k c = sm (val_main_v19 (F := Ideal) q k c) := rfl

/-- The reference's output. -/
theorem ref_o : val_main_v34 (F := Ideal) q k v c = Go q k v c := by
  funext i
  unfold val_main_v34 val_main_v33 val_main_v32 val_main_v31
  rw [ref_p, ref_lg]
  unfold Go
  generalize sm (Glg q k c) = P
  pointwise
  exact Finset.sum_congr rfl fun s _ => mul_comm _ _

/-- The cotangent of the attention's output. -/
theorem ref_do : val_main_v36 (F := Ideal) w ct = Gdo w ct := by
  funext i
  rw [val_main_v36_apply]
  unfold Gdo
  pointwise
  reads_congr <;> first | rfl | exact congrArg _ (funext fun k => by fin_cases k <;> rfl)

/-- The row sums. -/
theorem ref_delta (i : S4096x128.Idx) : val_main_v40 (F := Ideal) q k v c w ct i =
    if h : (i 1).val < 8 then ∑ d : Fin 64, Gx w ct (Go q k v c) (i 0) ⟨(i 1).val * 64 + d.val, by omega⟩ else 0 := by
  unfold val_main_v40 val_main_v39 val_main_v38 val_main_v37 val_main_call1_v0 val_main_c val_main_cst_4
  rw [ref_o, ref_do]
  generalize Go q k v c = O
  pointwise [Gx, Gdo]
  have hz : @Eq EReal (FloatOps.sitofp (F := Ideal) FTy.f32 0#32) 0 := by
    show (((0#32 : BitVec 32).toInt : ℝ) : EReal) = 0
    simp
  rw [hz]

end Cert.AttnOutRefIdeal.Closed

end
-- ==== Proof.AttnOut.Main.lean ====
/- The attention output's gradient call against the derivative of the plain forward lines. -/
module

public import proofs.«01_k».proof.Defs
public import proofs.«01_k».proof.Proof.AttnOut.Ref
public import proofs.«01_k».proof.Proof.Gen.AttnOutRefIdeal.Run
public import proofs.«01_k».proof.Proof.Gen.Pre_finite_attnout

@[expose] public section

set_option maxRecDepth 16384

noncomputable section

namespace Cert.Proof

open Idealize.ShloMosaic Idealize.ShloMosaic.TcCoe Idealize.SL.Sem Cert.Reals
open Cert.AttnOutIdeal.Closed Cert.AttnOutRefIdeal.Closed Cert.AttnOutRefIdeal.Read

/-- The precondition of the call: every argument is an array of reals. -/
theorem pre_attnout (q k v : FVec Ideal Cert.AttnOutIdeal.S4096x512 .f32) (c : FVec Ideal Cert.AttnOutIdeal.S4096x8 .f32)
    (w : FVec Ideal Cert.AttnOutIdeal.S512x1024 .f32) (ct : FVec Ideal Cert.AttnOutIdeal.S4096x1024 .f32)
    (h : Cert.Pre_finite_attnout.fn (F := Ideal) q k v c w ct = fun _ => 1#1) :
    (∃ r, q = up r) ∧ (∃ r, k = up r) ∧ (∃ r, v = up r) ∧ (∃ r, c = up r) ∧ (∃ r, w = up r) ∧ (∃ r, ct = up r) := by
  unfold Cert.Pre_finite_attnout.fn at h
  dsimp only at h
  try unfold Cert.Pre_finite_attnout.fn_part1 at h
  try dsimp only at h
  simp only [andi_ones] at h
  obtain ⟨⟨⟨⟨⟨h0, h1⟩, h2⟩, h3⟩, h4⟩, h5⟩ := h
  exact ⟨real_of_all _ _ _ _ _ _ h0, real_of_all _ _ _ _ _ _ h1, real_of_all _ _ _ _ _ _ h2, real_of_all _ _ _ _ _ _ h3,
    real_of_all _ _ _ _ _ _ h4, real_of_all _ _ _ _ _ _ h5⟩

/-- A sum over the 512 columns against the 0/1 array is the sum over the head's 64 columns. -/
theorem sum_sel (f : Fin 512 → EReal) (n : Fin 128) : ∑ k : Fin 512, f k * Gsel (ix2 k n) =
    if h : n.val < 8 then ∑ d : Fin 64, f ⟨n.val * 64 + d.val, by omega⟩ else 0 := by
  have e : ∀ k : Fin 512, Gsel (ix2 k n) = if k.val / 64 = n.val then 1 else 0 := fun _ => rfl
  have hs : ∑ k : Fin 512, f k * Gsel (ix2 k n)
      = ∑ p : Fin 8, ∑ d : Fin 64, if p.val = n.val then f ⟨p.val * 64 + d.val, by omega⟩ else 0 := by
    refine (Fin.sum_mul_add_congr (S := 8) (n := 64) (fun p d hl => ?_)).symm
    rw [e]
    have : (p.val * 64 + d.val) / 64 = p.val := by omega
    show _ = f ⟨p.val * 64 + d.val, _⟩ * if (p.val * 64 + d.val) / 64 = n.val then (1 : EReal) else 0
    rw [this]
    split
    · rw [mul_one]
    · rw [mul_zero]
  rw [hs]
  by_cases h : n.val < 8
  · rw [dif_pos h]
    refine (Finset.sum_eq_single (⟨n.val, h⟩ : Fin 8) (fun p _ hp => ?_) (fun hn => absurd (Finset.mem_univ _) hn)).trans ?_
    · exact Finset.sum_eq_zero fun d _ => if_neg fun he => hp (Fin.ext he)
    · exact Finset.sum_congr rfl fun d _ => if_pos rfl
  · rw [dif_neg h]
    exact Finset.sum_eq_zero fun p _ => Finset.sum_eq_zero fun d _ => if_neg (by omega)

section
variable (q k v : Cert.AttnOutIdeal.S4096x512.Idx → ℝ) (c : Cert.AttnOutIdeal.S4096x8.Idx → ℝ)
  (w : Cert.AttnOutIdeal.S512x1024.Idx → ℝ) (ct : Cert.AttnOutIdeal.S4096x1024.Idx → ℝ)

/-- The summed products are reals. -/
theorem Gx_real (r : Fin 4096) (j : Fin 512) :
    ∃ x : ℝ, Gx (up w) (up ct) (Go (up q) (up k) (up v) (up c)) r j = x := by
  obtain ⟨o, ho⟩ := Go_real q k v c (ix2 r j)
  refine ⟨(∑ i : Fin 1024, ct (ix2 r i) * w (ix2 j i)) * o, ?_⟩
  unfold Gx
  rw [ho, EReal.coe_mul, ← coe_sum]
  simp only [up_apply, EReal.coe_mul]

/-- The row sums of the call are the sums over each head's columns. -/
theorem attnout_delta : val_main_v40 (F := Ideal) (up q) (up k) (up v) (up c) (up w) (up ct)
    = Gdelta (up w) (up ct) (Go (up q) (up k) (up v) (up c)) := by
  funext i
  refine (ref_delta _ _ _ _ _ _ i).trans ?_
  unfold Gdelta
  generalize hO : Go (up q) (up k) (up v) (up c) = O
  have key : ∀ (r : Fin 4096) (n : Fin 128), (if h : n.val < 8 then ∑ d : Fin 64, Gx (up w) (up ct) O r ⟨n.val * 64 + d.val, by omega⟩
      else 0) = ∑ j : Fin 512, Gx (up w) (up ct) O r j * Gsel (ix2 j n)
        + ∑ j : Fin 512, (Gx (up w) (up ct) O r j - Gx (up w) (up ct) O r j) * Gsel (ix2 j n)
        + ∑ j : Fin 512, (Gx (up w) (up ct) O r j - Gx (up w) (up ct) O r j - (Gx (up w) (up ct) O r j - Gx (up w) (up ct) O r j))
            * Gsel (ix2 j n) := fun r n => by
    have hz : ∀ j, Gx (up w) (up ct) O r j - Gx (up w) (up ct) O r j = 0 := fun j => by
      obtain ⟨x, hx⟩ := Gx_real q k v c w ct r j
      rw [hO] at hx
      rw [hx, ← EReal.coe_sub, sub_self, EReal.coe_zero]
    simp only [hz, sub_zero, zero_mul, Finset.sum_const_zero, add_zero]
    exact (sum_sel _ n).symm
  exact key (i 0) (i 1)
end

/-- The attention output's gradient call computes the derivatives of the forward lines, from real arguments. -/
theorem algebraic_attnout : Cert.algebraic_AttnOutIdeal_AttnOutRefIdeal_pre_finite_attnout := by
  intro m ρ m' ρ' hpre hag
  refine ⟨fun c => Gdo (argW m c) (argCt m c),
    fun c => Gdelta (argW m c) (argCt m c) (Go (argQ m c) (argK m c) (argV m c) (argC m c)), ?_, ?_⟩
  · exact (θ_run _ _ _).mono (fun r h c => by
      obtain ⟨h4, h5, hr⟩ := h c
      exact ⟨h4.trans (final4 m c), h5.trans (final5 m c), hr⟩)
      (Cert.AttnOutIdeal.Value.run_blocks m ρ)
  · refine (θ_run _ _ _).mono (fun r h c => ?_) (Cert.AttnOutRefIdeal.Value.run m' ρ')
    obtain ⟨h4, h5, hr⟩ := h c
    obtain ⟨a0, a1, a2, a3, a4, a5⟩ := hag c
    obtain ⟨⟨q, hq⟩, ⟨k, hk⟩, ⟨v, hv⟩, ⟨cc, hc⟩, ⟨w, hw⟩, ⟨ct, hct⟩⟩ :=
      pre_attnout (argQ m c) (argK m c) (argV m c) (argC m c) (argW m c) (argCt m c) (hpre c)
    refine ⟨h4.trans ?_, h5.trans ?_, hr⟩
    · rw [val_main_v36_eq, a4, a5]
      exact ref_do _ _
    · rw [val_main_v40_eq, a0, a1, a2, a3, a4, a5]
      show val_main_v40 (F := Ideal) (argQ m c) (argK m c) (argV m c) (argC m c) (argW m c) (argCt m c)
        = Gdelta (argW m c) (argCt m c) (Go (argQ m c) (argK m c) (argV m c) (argC m c))
      rw [hq, hk, hv, hc, hw, hct]
      exact attnout_delta q k v cc w ct

end Cert.Proof

end
-- ==== Proof.Reals.Window.lean ====
/- A host sum over a sliding window of rows, as one sum; suffix sums of a real sequence split at a block. -/
module

public import proofs.«01_k».proof.Proof.Reals.Basic

@[expose] public section

noncomputable section

namespace Cert.Reals

open Idealize.ShloMosaic Idealize.ShloMosaic.TcCoe

/-- A left fold of additions is its start plus the list's sum. -/
theorem foldl_add {ι : Type} (f : ι → EReal) : ∀ (l : List ι) (v : EReal), l.foldl (fun r n => r + f n) v = v + (l.map f).sum
  | [], v => (add_zero v).symm
  | a :: l, v => by rw [List.foldl_cons, foldl_add f l, List.map_cons, List.sum_cons, add_assoc]

/-- The positions of a window one column wide are its rows. -/
theorem sum_column {N : ℕ} (f : (⟨2, ![N, 1]⟩ : Shape).Idx → EReal) : ∑ i, f i = ∑ a : Fin N, f (ix2 a 0) := by
  refine (Fintype.sum_bijective (fun a : Fin N => (ix2 a (0 : Fin 1) : (⟨2, ![N, 1]⟩ : Shape).Idx)) ⟨fun a b h => ?_, fun i => ⟨i 0, ?_⟩⟩ _ _
    fun a => rfl).symm
  · exact congrFun h 0
  · funext a
    fin_cases a
    · rfl
    · exact (Subsingleton.elim (0 : Fin 1) (i 1))

/-- The host's sum over a window of `N` rows, padded by zeros: the rows the window meets. -/
theorem window_rows {N C : ℕ} (lo hi : ℕ) (x : (⟨2, ![N, C]⟩ : Shape).Idx → EReal)
    (h : (⟨2, ![N, C]⟩ : Shape).ReduceWindows ![N, 1] ![1, 1] ![lo, 0] ![hi, 0] (⟨2, ![N, C]⟩ : Shape))
    (i : (⟨2, ![N, C]⟩ : Shape).Idx) :
    Ideal.hostReduceWindowAdd (s := ⟨2, ![N, C]⟩) (t := ⟨2, ![N, C]⟩) ![N, 1] ![1, 1] ![lo, 0] ![hi, 0] h x 0 i
      = ∑ a : Fin N, if h : lo ≤ (i 0).val + a.val ∧ (i 0).val + a.val - lo < N then
          x (ix2 ⟨(i 0).val + a.val - lo, h.2⟩ (i 1)) else 0 := by
  unfold Ideal.hostReduceWindowAdd Host.reduceWindow
  refine (foldl_add _ _ _).trans ?_
  rw [zero_add, ← Fin.sum_univ_def]
  refine (Fintype.sum_equiv (⟨2, ![N, 1]⟩ : Shape).rowMajor.symm _ (fun w : (⟨2, ![N, 1]⟩ : Shape).Idx =>
    if hin : ∀ a : Fin 2, (![lo, 0] : Fin 2 → ℕ) a ≤ (i a).val * (![1, 1] : Fin 2 → ℕ) a + (w a).val
        ∧ (i a).val * (![1, 1] : Fin 2 → ℕ) a + (w a).val - (![lo, 0] : Fin 2 → ℕ) a < (⟨2, ![N, C]⟩ : Shape).size a
      then x (fun a => ⟨(i a).val * (![1, 1] : Fin 2 → ℕ) a + (w a).val - (![lo, 0] : Fin 2 → ℕ) a, (hin a).2⟩) else (0 : EReal))
    fun n => by beta_reduce; congr 1).trans ?_
  rw [sum_column]
  refine Finset.sum_congr rfl fun a _ => ?_
  by_cases hc : lo ≤ (i 0).val + a.val ∧ (i 0).val + a.val - lo < N
  · rw [dif_pos hc, dif_pos]
    · congr 1
      funext b
      fin_cases b
      · exact Fin.ext (by simp)
      · exact Fin.ext (by simp)
    · intro b
      fin_cases b
      · simpa using hc
      · have := (i 1).isLt
        simpa using this
  · rw [dif_neg hc, dif_neg]
    intro hb
    exact hc (by simpa using hb 0)

/-- Zero past the end of a finite real sequence. -/
def rext {N : ℕ} (e : Fin N → ℝ) : ℕ → ℝ := fun n => if h : n < N then e ⟨n, h⟩ else 0

/-- The sum of a real sequence from position `r` on. -/
def suffix {N : ℕ} (e : Fin N → ℝ) (r : ℕ) : ℝ := ∑ q ∈ Finset.Ico r N, rext e q

/-- A window that starts at `r` and is as long as the sequence sums its suffix. -/
theorem sum_window_suffix {N : ℕ} (e : Fin N → ℝ) (r : ℕ) (hr : r ≤ N) : ∑ a : Fin N, rext e (r + a.val) = suffix e r := by
  have hz : ∀ n, N ≤ n → rext e n = 0 := fun n hn => dif_neg (by omega)
  rw [Fin.sum_univ_eq_sum_range (fun a => rext e (r + a)) N, suffix, Finset.sum_Ico_eq_sum_range]
  generalize rext e = E at hz ⊢
  obtain ⟨k, rfl⟩ := Nat.exists_eq_add_of_le hr
  rw [Nat.add_sub_cancel_left, Nat.add_comm r k, Finset.sum_range_add]
  exact add_eq_left.2 (Finset.sum_eq_zero fun q _ => hz _ (by omega))

/-- A suffix that starts inside a block of `n` positions: the block's rest and the suffix after the block. -/
theorem suffix_block {N n : ℕ} (e : Fin N → ℝ) (o : ℕ) (p : Fin n) (h : o + n ≤ N) :
    suffix e (o + p.val) = (∑ j : Fin n, if p.val ≤ j.val then rext e (o + j.val) else 0) + suffix e (o + n) := by
  unfold suffix
  rw [← Finset.sum_Ico_consecutive _ (show o + p.val ≤ o + n by omega) h]
  congr 1
  rw [Fin.sum_univ_eq_sum_range (fun j => if p.val ≤ j then rext e (o + j) else 0) n, Finset.sum_Ico_eq_sum_range,
    ← Finset.sum_filter]
  rw [show (Finset.range n).filter (fun j => p.val ≤ j) = Finset.Ico p.val n by ext; simp; omega, Finset.sum_Ico_eq_sum_range]
  rw [show o + n - (o + p.val) = n - p.val by omega]
  exact Finset.sum_congr rfl fun j _ => by rw [add_assoc]

/-- Nothing follows the end. -/
theorem suffix_end {N : ℕ} (e : Fin N → ℝ) : suffix e N = 0 := by
  unfold suffix
  rw [Finset.Ico_self, Finset.sum_empty]

end Cert.Reals

end
-- ==== Proof.Forget.Kernel.lean ====
/- The forget gate's gradient call: each result as one closed form of real arguments. -/
module

public import proofs.«01_k».proof.Proof.Gen.ForgetIdeal.Value
public import proofs.«01_k».proof.Proof.Reals.Window
public import Idealize.ShloMosaic.Lib.Pipeline.ValueKit
public import Idealize.ShloMosaic.Lib.Pipeline.ReadBack

@[expose] public section

set_option maxRecDepth 16384

noncomputable section

namespace Cert.ForgetIdeal.Closed

open Cert.ForgetIdeal Cert.ForgetIdeal.Gen Idealize.ShloMosaic Idealize.ShloMosaic.TcCoe Idealize.SL.Sem Cert.Reals
open Idealize.ShloMosaic.Pipeline (Dat)

variable (m : (ℓ : Loc nD τ sig) → Buf (Elt Ideal) ℓ)

/-- The arguments, as arrays. -/
abbrev argF (c : Dev nD) : FVec Ideal S4096x8 .f32 := m ((c : Thread nD τ).loc main_arg0)
abbrev argB (c : Dev nD) : FVec Ideal S1x8 .f32 := m ((c : Thread nD τ).loc main_arg1)
abbrev argQ (c : Dev nD) : FVec Ideal S4096x8 .f32 := m ((c : Thread nD τ).loc main_arg2)
abbrev argK (c : Dev nD) : FVec Ideal S4096x8 .f32 := m ((c : Thread nD τ).loc main_arg3)

/-- The block that each window takes at each grid point. -/
theorem index : ∀ t : Fin cfg0.N,
    win0_0.index t = ![7 - t.val, 0] ∧ win0_1.index t = ![7 - t.val, 0] ∧ win0_2.index t = ![7 - t.val, 0]
    ∧ win0_3.index t = ![0, 0] ∧ win0_4.index t = ![7 - t.val, 0] ∧ win0_5.index t = ![0, 0]
    ∧ win0_6.index t = ![0, 7 - t.val] :=
  (by decide +kernel : ∀ t : Fin grid0.N, _)

/-- The integer zero the host pads with, as a float. -/
theorem pad_zero32 : @Eq EReal (FloatOps.sitofp (F := Ideal) FTy.f32 0#32) 0 := by
  show (((0#32 : BitVec 32).toInt : ℝ) : EReal) = 0
  simp

/-- The row of the array that row `p` of the block at grid point `t` is: the grid runs from the last block to the first. -/
abbrev at_ (t : Fin cfg0.N) (p : Fin 512) : Fin 4096 := ⟨(7 - t.val) * 512 + p.val, by omega⟩

/-- A row of eight reals, zero on the lanes past the eighth. -/
def lane (x : Fin 8 → ℝ) (n : Fin 128) : ℝ := if h : n.val < 8 then x ⟨n.val, h⟩ else 0

/-- The array `q` that the call reads, out of the arguments. -/
theorem V_q (c : Dev nD) : @Eq (FVec Ideal S4096x128 .f32) (V m c main_v0)
    (pad S4096x128 ![0, 0] ![0, 120] ![0, 0] (argQ m c) (sitofp .f32 (constantI S_ 32 0#32)) pads_S4096x8_S4096x128_000_01200 h_S_) := by
  unfold V hostOps0 hostOps0_1 hostOps0_2 hostOps0_3
  simp only [List.flatten_cons, List.flatten_nil, List.append_nil, List.cons_append, List.nil_append]; after_results
  simp only [StableHlo.TRef.toBuf, StableHlo.TRef.ofBuf, cast_eq]

/-- An entry of the array `q` that the host code prepares. -/
theorem V_q_at (c : Dev nD) (i : S4096x128.Idx) : (V m c main_v0 : FVec Ideal S4096x128 .f32) i =
    if h : (i 1).val < 8 then argQ m c (ix2 (i 0) ⟨(i 1).val, h⟩) else 0 := by
  rw [V_q]
  pointwise [pad_zero32]

/-- The array `k` that the call reads, out of the arguments. -/
theorem V_k (c : Dev nD) : @Eq (FVec Ideal S4096x128 .f32) (V m c main_v1)
    (pad S4096x128 ![0, 0] ![0, 120] ![0, 0] (argK m c) (sitofp .f32 (constantI S_ 32 0#32)) pads_S4096x8_S4096x128_000_01200 h_S_) := by
  unfold V hostOps0 hostOps0_1 hostOps0_2 hostOps0_3
  simp only [List.flatten_cons, List.flatten_nil, List.append_nil, List.cons_append, List.nil_append]; after_results
  simp only [StableHlo.TRef.toBuf, StableHlo.TRef.ofBuf, cast_eq]

/-- An entry of the array `k` that the host code prepares. -/
theorem V_k_at (c : Dev nD) (i : S4096x128.Idx) : (V m c main_v1 : FVec Ideal S4096x128 .f32) i =
    if h : (i 1).val < 8 then argK m c (ix2 (i 0) ⟨(i 1).val, h⟩) else 0 := by
  rw [V_k]
  pointwise [pad_zero32]

/-- The array `f` that the call reads, out of the arguments. -/
theorem V_f (c : Dev nD) : @Eq (FVec Ideal S4096x128 .f32) (V m c main_v2)
    (pad S4096x128 ![0, 0] ![0, 120] ![0, 0] (argF m c) (sitofp .f32 (constantI S_ 32 0#32)) pads_S4096x8_S4096x128_000_01200 h_S_) := by
  unfold V hostOps0 hostOps0_1 hostOps0_2 hostOps0_3
  simp only [List.flatten_cons, List.flatten_nil, List.append_nil, List.cons_append, List.nil_append]; after_results
  simp only [StableHlo.TRef.toBuf, StableHlo.TRef.ofBuf, cast_eq]

/-- An entry of the array `f` that the host code prepares. -/
theorem V_f_at (c : Dev nD) (i : S4096x128.Idx) : (V m c main_v2 : FVec Ideal S4096x128 .f32) i =
    if h : (i 1).val < 8 then argF m c (ix2 (i 0) ⟨(i 1).val, h⟩) else 0 := by
  rw [V_f]
  pointwise [pad_zero32]

/-- The array `b` that the call reads, out of the arguments. -/
theorem V_b (c : Dev nD) : @Eq (FVec Ideal S1x128 .f32) (V m c main_v3)
    (pad S1x128 ![0, 0] ![0, 120] ![0, 0] (argB m c) (sitofp .f32 (constantI S_ 32 0#32)) pads_S1x8_S1x128_000_01200 h_S_) := by
  unfold V hostOps0 hostOps0_1 hostOps0_2 hostOps0_3
  simp only [List.flatten_cons, List.flatten_nil, List.append_nil, List.cons_append, List.nil_append]; after_results
  simp only [StableHlo.TRef.toBuf, StableHlo.TRef.ofBuf, cast_eq]

/-- An entry of the array `b` that the host code prepares. -/
theorem V_b_at (c : Dev nD) (i : S1x128.Idx) : (V m c main_v3 : FVec Ideal S1x128 .f32) i =
    if h : (i 1).val < 8 then argB m c (ix2 0 ⟨(i 1).val, h⟩) else 0 := by
  rw [V_b]
  pointwise [pad_zero32]

section
variable (c : Dev nD) (t : Fin cfg0.N) (p : Fin 512) (n : Fin 128)

/-- What input window 0 holds at a grid point, out of the arguments. -/
theorem in0 (q : S4096x8.Idx → ℝ) (hq : argQ m c = up q) : (iblk m c 0 t : FVec Ideal S512x128 .f32) (ix2 p n) =
    ((lane (fun h => q (ix2 (at_ t p) h)) n : ℝ) : EReal) := by
  obtain ⟨i0, -⟩ := index t
  have e : (iblk m c 0 t : FVec Ideal S512x128 .f32) (ix2 p n) = (V m c main_v0 : FVec Ideal S4096x128 .f32) (ix2 (at_ t p) n) := by
    refine congrArg (V m c main_v0 : FVec Ideal S4096x128 .f32) ?_
    blk_point [i0]
  refine e.trans ((V_q_at m c _).trans ?_)
  unfold lane
  by_cases h : n.val < 8
  · exact (dif_pos h).trans (by rw [dif_pos h, hq]; rfl)
  · exact (dif_neg h).trans (by rw [dif_neg h]; rfl)
/-- What input window 1 holds at a grid point, out of the arguments. -/
theorem in1 (k : S4096x8.Idx → ℝ) (hk : argK m c = up k) : (iblk m c 1 t : FVec Ideal S512x128 .f32) (ix2 p n) =
    ((lane (fun h => k (ix2 (at_ t p) h)) n : ℝ) : EReal) := by
  obtain ⟨-, i1, -⟩ := index t
  have e : (iblk m c 1 t : FVec Ideal S512x128 .f32) (ix2 p n) = (V m c main_v1 : FVec Ideal S4096x128 .f32) (ix2 (at_ t p) n) := by
    refine congrArg (V m c main_v1 : FVec Ideal S4096x128 .f32) ?_
    blk_point [i1]
  refine e.trans ((V_k_at m c _).trans ?_)
  unfold lane
  by_cases h : n.val < 8
  · exact (dif_pos h).trans (by rw [dif_pos h, hk]; rfl)
  · exact (dif_neg h).trans (by rw [dif_neg h]; rfl)
/-- What input window 2 holds at a grid point, out of the arguments. -/
theorem in2 (f : S4096x8.Idx → ℝ) (hf : argF m c = up f) : (iblk m c 2 t : FVec Ideal S512x128 .f32) (ix2 p n) =
    ((lane (fun h => f (ix2 (at_ t p) h)) n : ℝ) : EReal) := by
  obtain ⟨-, -, i2, -⟩ := index t
  have e : (iblk m c 2 t : FVec Ideal S512x128 .f32) (ix2 p n) = (V m c main_v2 : FVec Ideal S4096x128 .f32) (ix2 (at_ t p) n) := by
    refine congrArg (V m c main_v2 : FVec Ideal S4096x128 .f32) ?_
    blk_point [i2]
  refine e.trans ((V_f_at m c _).trans ?_)
  unfold lane
  by_cases h : n.val < 8
  · exact (dif_pos h).trans (by rw [dif_pos h, hf]; rfl)
  · exact (dif_neg h).trans (by rw [dif_neg h]; rfl)
/-- What input window 3 holds at a grid point, out of the arguments. -/
theorem in3 (b : S1x8.Idx → ℝ) (hb : argB m c = up b) : (iblk m c 3 t : FVec Ideal S1x128 .f32) (ix2 0 n) =
    ((lane (fun h => b (ix2 0 h)) n : ℝ) : EReal) := by
  obtain ⟨-, -, -, i3, -⟩ := index t
  have e : (iblk m c 3 t : FVec Ideal S1x128 .f32) (ix2 0 n) = (V m c main_v3 : FVec Ideal S1x128 .f32) (ix2 0 n) := by
    refine congrArg (V m c main_v3 : FVec Ideal S1x128 .f32) ?_
    blk_point [i3]
  refine e.trans ((V_b_at m c _).trans ?_)
  unfold lane
  by_cases h : n.val < 8
  · exact (dif_pos h).trans (by rw [dif_pos h, hb]; rfl)
  · exact (dif_neg h).trans (by rw [dif_neg h]; rfl)
end

/-- The body's triangle of ones: its entry at row `p`, column `j`. -/
theorem triangle (p j : Fin 512) : @Eq EReal
    (FloatOps.sitofp (F := Ideal) FTy.f32 (BitVec.setWidth 32 (IntOp.cmpi .sle (BitVec.ofNat 32 p.val) (BitVec.ofNat 32 j.val))))
    ((if p.val ≤ j.val then 1 else 0 : ℝ) : EReal) := by
  rw [WordCmp.cmpi_sle_ofNat (by omega) (by omega)]
  show ((((BitVec.setWidth 32 (BitVec.ofBool (decide (p.val ≤ j.val)))).toInt : ℤ) : ℝ) : EReal) = _
  by_cases h : p.val ≤ j.val
  · rw [if_pos h, decide_eq_true h]; simp
  · rw [if_neg h, decide_eq_false h]; simp

/-- The running sum the body forms for a block: the block's rows from row `p` on, and what follows the block. -/
theorem pay7_apply (a b : FVec Ideal S512x128 .f32) (v : FVec Ideal S1x128 .f32) (ra rb : Fin 512 → Fin 128 → ℝ) (rv : Fin 128 → ℝ)
    (ha : ∀ p n, a (ix2 p n) = ((ra p n : ℝ) : EReal)) (hb : ∀ p n, b (ix2 p n) = ((rb p n : ℝ) : EReal))
    (hv : ∀ n, v (ix2 0 n) = ((rv n : ℝ) : EReal)) (p : Fin 512) (n : Fin 128) :
    @Eq EReal (k0_pay7 (F := Ideal) a b v (ix2 p n))
      (((∑ j : Fin 512, if p.val ≤ j.val then ra j n + rb j n else 0) + rv n : ℝ) : EReal) := by
  unfold_payloads
  pointwise
  simp only [ha, hb, hv, triangle, ← EReal.coe_add, ← EReal.coe_sub, ← EReal.coe_mul, coe_sum]
  refine congrArg _ ?_
  simp

/-- The body's gradient of the gate's argument at an element. -/
theorem pay1_apply (v : FVec Ideal S512x128 .f32) (f : FVec Ideal S512x128 .f32) (b : FVec Ideal S1x128 .f32)
    (rv rf : Fin 512 → Fin 128 → ℝ) (rb : Fin 128 → ℝ)
    (hv : ∀ p n, v (ix2 p n) = ((rv p n : ℝ) : EReal)) (hf : ∀ p n, f (ix2 p n) = ((rf p n : ℝ) : EReal))
    (hb : ∀ n, b (ix2 0 n) = ((rb n : ℝ) : EReal)) (p : Fin 512) (n : Fin 128) :
    @Eq EReal (k0_pay1 (F := Ideal) v (k0_pay9 f) (k0_pay10 b) (ix2 p n))
      ((if n.val < 8 then rv p n * (1 / (1 + Real.exp (rf p n + rb n))) else 0 : ℝ) : EReal) := by
  unfold_payloads
  pointwise
  simp only [hf, hb, hv]
  rw [WordCmp.cmpi_slt_ofNat (by omega) (by omega), WordCmp.select_ofBool]
  by_cases h : n.val < 8
  · rw [decide_eq_true h, if_pos rfl, if_pos h]
    rw [← EReal.coe_add, ← EReal.coe_zero, ← EReal.coe_sub, ← EReal.coe_sub, exp_coe, ← EReal.coe_one, ← EReal.coe_add,
      div_coe _ _ (by positivity), ← EReal.coe_mul, zero_sub, zero_sub, neg_neg]
  · rw [decide_eq_false h, if_neg h]
    rfl

/-- The running sum of the block at a grid point, over what the point before it left. -/
abbrev sums (c : Dev nD) (t : Fin cfg0.N) (v : FVec Ideal S1x128 .f32) : FVec Ideal S512x128 .f32 :=
  k0_pay7 (iblk m c 0 t) (iblk m c 1 t) v

/-- What the first grid point leaves. -/
theorem outs_first (c : Dev nD) (t : Fin cfg0.N) (h : t.val % 8 = 0) :
    outsAt0 m c t.val t.isLt = (k0_pay2 (sums m c t (k0_pay5 (F := Ideal))) (k0_pay9 (iblk m c 2 t)) (k0_pay10 (iblk m c 3 t)),
      k0_pay4 (sums m c t (k0_pay5 (F := Ideal))) (k0_pay9 (iblk m c 2 t)) (k0_pay10 (iblk m c 3 t)) (k0_pay6 (F := Ideal)),
      k0_pay3 (sums m c t (k0_pay5 (F := Ideal))) (k0_pay9 (iblk m c 2 t)) (k0_pay10 (iblk m c 3 t)),
      k0_pay8 (iblk m c 0 t) (iblk m c 1 t) (k0_pay5 (F := Ideal))) := by
  rw [outsAt0_A m c t h]
  refine Prod.ext ?_ (Prod.ext ?_ (Prod.ext ?_ ?_)) <;> frame_out

/-- What a later grid point leaves, over what the one before it left. -/
theorem outs_later (c : Dev nD) (t : Fin cfg0.N) (h : ¬t.val % 8 = 0) :
    let o := outsAt0 m c (t.val - 1) (Nat.lt_of_le_of_lt (Nat.sub_le _ _) t.isLt)
    outsAt0 m c t.val t.isLt = (k0_pay2 (sums m c t o.2.2.2) (k0_pay9 (iblk m c 2 t)) (k0_pay10 (iblk m c 3 t)),
      k0_pay4 (sums m c t o.2.2.2) (k0_pay9 (iblk m c 2 t)) (k0_pay10 (iblk m c 3 t)) o.2.1,
      k0_pay3 (sums m c t o.2.2.2) (k0_pay9 (iblk m c 2 t)) (k0_pay10 (iblk m c 3 t)),
      k0_pay8 (iblk m c 0 t) (iblk m c 1 t) o.2.2.2) := by
  dsimp only
  rw [outsAt0_B m c t h]
  generalize outsAt0 m c (t.val - 1) _ = o
  refine Prod.ext ?_ (Prod.ext ?_ (Prod.ext ?_ ?_)) <;> (frame_out; rw [read_unread_whole])

/-- An entry of one of the arrays that the body computes. -/
theorem pay8_apply (a b : FVec Ideal S512x128 .f32) (v : FVec Ideal S1x128 .f32) (n : Fin 128) :
    @Eq EReal (k0_pay8 (F := Ideal) a b v (ix2 0 n)) (k0_pay7 (F := Ideal) a b v (ix2 0 n)) := by
  unfold k0_pay8
  generalize k0_pay7 (F := Ideal) a b v = H
  pointwise

/-- What the point before left in the running row. -/
def prev (c : Dev nD) (t : Fin cfg0.N) : FVec Ideal S1x128 .f32 :=
  if t.val % 8 = 0 then k0_pay5 else (outsAt0 m c (t.val - 1) (Nat.lt_of_le_of_lt (Nat.sub_le _ _) t.isLt)).2.2.2

/-- The gradient of the gate's argument on the block at a grid point. -/
abbrev df (c : Dev nD) (t : Fin cfg0.N) : FVec Ideal S512x128 .f32 :=
  k0_pay1 (sums m c t (prev m c t)) (k0_pay9 (iblk m c 2 t)) (k0_pay10 (iblk m c 3 t))

/-- What the body leaves in its output `row` at a grid point. -/
theorem outs_row (c : Dev nD) (t : Fin cfg0.N) :
    (outsAt0 m c t.val t.isLt).2.2.2 = k0_pay8 (iblk m c 0 t) (iblk m c 1 t) (prev m c t) := by
  unfold prev
  by_cases h : t.val % 8 = 0
  · rw [outs_first m c t h, if_pos h]
  · rw [outs_later m c t h, if_neg h]

/-- What the body leaves in its output `df` at a grid point. -/
theorem outs_df (c : Dev nD) (t : Fin cfg0.N) : (outsAt0 m c t.val t.isLt).1 =
    k0_pay2 (sums m c t (prev m c t)) (k0_pay9 (iblk m c 2 t)) (k0_pay10 (iblk m c 3 t)) := by
  unfold prev
  by_cases h : t.val % 8 = 0
  · rw [outs_first m c t h, if_pos h]
  · rw [outs_later m c t h, if_neg h]

/-- What the body leaves in its output `dt` at a grid point. -/
theorem outs_dt (c : Dev nD) (t : Fin cfg0.N) : (outsAt0 m c t.val t.isLt).2.2.1 =
    k0_pay3 (sums m c t (prev m c t)) (k0_pay9 (iblk m c 2 t)) (k0_pay10 (iblk m c 3 t)) := by
  unfold prev
  by_cases h : t.val % 8 = 0
  · rw [outs_first m c t h, if_pos h]
  · rw [outs_later m c t h, if_neg h]

/-- The sum of the two cotangents of the running sum, by lane and row. -/
def ct (q k : S4096x8.Idx → ℝ) (n : Fin 128) : Fin 4096 → ℝ := fun r =>
  lane (fun h => q (ix2 r h)) n + lane (fun h => k (ix2 r h)) n

/-- The gate's gradient: the cotangents from the row on, times the derivative of the log-sigmoid. -/
def dfr (f : S4096x8.Idx → ℝ) (b : S1x8.Idx → ℝ) (q k : S4096x8.Idx → ℝ) (r : Fin 4096) (h : Fin 8) : ℝ :=
  suffix (fun j => q (ix2 j h) + k (ix2 j h)) r.val * (1 / (1 + Real.exp (f (ix2 r h) + b (ix2 0 h))))

/-- The three results, over real arguments. -/
def Gdf (f : S4096x8.Idx → ℝ) (b : S1x8.Idx → ℝ) (q k : S4096x8.Idx → ℝ) : FVec Ideal S4096x128 .bf16 := fun i =>
  ((lane (dfr f b q k (i 0)) (i 1) : ℝ) : EReal)
def Gdb (f : S4096x8.Idx → ℝ) (b : S1x8.Idx → ℝ) (q k : S4096x8.Idx → ℝ) : FVec Ideal S1x128 .f32 := fun i =>
  ((lane (fun h => ∑ r : Fin 4096, dfr f b q k r h) (i 1) : ℝ) : EReal)
def Gdt (f : S4096x8.Idx → ℝ) (b : S1x8.Idx → ℝ) (q k : S4096x8.Idx → ℝ) : FVec Ideal S128x4096 .bf16 := fun i =>
  ((lane (dfr f b q k (i 1)) (i 0) : ℝ) : EReal)

section
variable (c : Dev nD) (f : S4096x8.Idx → ℝ) (b : S1x8.Idx → ℝ) (q k : S4096x8.Idx → ℝ)
  (hf : argF m c = up f) (hb : argB m c = up b) (hq : argQ m c = up q) (hk : argK m c = up k)
include hq hk

/-- The running sum of a block, once the row before it holds what follows the block. -/
theorem sums_apply (t : Fin cfg0.N) (v : FVec Ideal S1x128 .f32)
    (hv : ∀ n, v (ix2 0 n) = ((suffix (ct q k n) ((7 - t.val) * 512 + 512) : ℝ) : EReal)) (p : Fin 512) (n : Fin 128) :
    sums m c t v (ix2 p n) = ((suffix (ct q k n) ((7 - t.val) * 512 + p.val) : ℝ) : EReal) := by
  refine (pay7_apply _ _ _ _ _ _ (fun p n => in0 m c t p n q hq) (fun p n => in1 m c t p n k hk) hv p n).trans ?_
  rw [suffix_block (ct q k n) _ p (by omega)]
  refine congrArg (fun a : ℝ => ((a + _ : ℝ) : EReal)) (Finset.sum_congr rfl fun j _ => ?_)
  unfold rext
  rw [dif_pos (show (7 - t.val) * 512 + j.val < 4096 by omega)]
  rfl

/-- The running column sums after a number of grid points. -/
theorem row_apply : ∀ (n : ℕ) (hn : n < cfg0.N) (j : Fin 128),
    (outsAt0 m c n hn).2.2.2 (ix2 0 j) = ((suffix (ct q k j) ((7 - n) * 512) : ℝ) : EReal)
  | 0, hn, j => by
    refine (congrFun (outs_row m c ⟨0, hn⟩) _).trans ((pay8_apply _ _ _ j).trans ?_)
    refine (sums_apply m c q k hq hk ⟨0, hn⟩ _ (fun n => ?_) 0 j).trans rfl
    unfold prev
    rw [if_pos (show (⟨0, hn⟩ : Fin cfg0.N).val % 8 = 0 from rfl)]
    show (k0_pay5 (F := Ideal) (ix2 0 n) : EReal) = ((suffix (ct q k n) 4096 : ℝ) : EReal)
    rw [suffix_end]
    unfold_payloads
    pointwise
    rfl
  | n' + 1, hn, j => by
    have hlt : n' + 1 < 8 := lt_of_lt_of_eq hn N_0
    refine (congrFun (outs_row m c ⟨n' + 1, hn⟩) _).trans ((pay8_apply _ _ _ j).trans ?_)
    refine (sums_apply m c q k hq hk ⟨n' + 1, hn⟩ _ (fun n => ?_) 0 j).trans rfl
    unfold prev
    rw [if_neg (show ¬(n' + 1) % 8 = 0 by omega)]
    refine (row_apply n' (Nat.lt_of_succ_lt hn) n).trans ?_
    rw [show (7 - n') * 512 = (7 - (n' + 1)) * 512 + 512 by omega]

/-- The column sums that a grid point takes over from the ones before. -/
theorem prev_apply (t : Fin cfg0.N) (n : Fin 128) :
    prev m c t (ix2 0 n) = ((suffix (ct q k n) ((7 - t.val) * 512 + 512) : ℝ) : EReal) := by
  have hlt : t.val < 8 := lt_of_lt_of_eq t.isLt N_0
  unfold prev
  by_cases h : t.val % 8 = 0
  · rw [if_pos h, show (7 - t.val) * 512 + 512 = 4096 by omega, suffix_end]
    unfold_payloads
    pointwise
    rfl
  · rw [if_neg h, show (7 - t.val) * 512 + 512 = (7 - (t.val - 1)) * 512 by omega]
    exact row_apply m c q k hq hk _ _ n

include hf hb

/-- An entry of the gate gradient, on a block. -/
theorem df_apply (t : Fin cfg0.N) (p : Fin 512) (n : Fin 128) :
    df m c t (ix2 p n) = ((lane (dfr f b q k (at_ t p)) n : ℝ) : EReal) := by
  refine (pay1_apply _ _ _ (fun p n => suffix (ct q k n) ((7 - t.val) * 512 + p.val)) (fun p n => lane (fun h => f (ix2 (at_ t p) h)) n)
    (fun n => lane (fun h => b (ix2 0 h)) n) (fun p n => sums_apply m c q k hq hk t _ (prev_apply m c q k hq hk t) p n)
    (fun p n => in2 m c t p n f hf) (fun n => in3 m c t n b hb) p n).trans ?_
  by_cases h : n.val < 8
  · have e : ct q k n = fun j => q (ix2 j ⟨n.val, h⟩) + k (ix2 j ⟨n.val, h⟩) := by
      funext j
      unfold ct lane
      rw [dif_pos h, dif_pos h]
    rw [if_pos h, e]
    unfold lane dfr
    rw [dif_pos h, dif_pos h, dif_pos h]
  · rw [if_neg h]
    unfold lane
    rw [dif_neg h]

/-- The array of output window 4 after the run. -/
theorem final4 : (dats m 0 c).arrAt 4 cfg0.N = Gdf f b q k := by
  refine (dats m 0 c).arrAt_eq_of_covers 4 _ (by decide +kernel) fun t hf' y => ?_
  blk_simp
  rw [after0_4, outs_df]
  obtain ⟨-, -, -, -, i4, -⟩ := index t
  refine Eq.trans (congrArg (df m c t) (funext fun a => by fin_cases a <;> rfl)) ((df_apply m c f b q k hf hb hq hk t (y 0) (y 1)).trans ?_)
  refine congrArg (Gdf f b q k) (a₁ := ix2 (at_ t (y 0)) (y 1)) ?_
  blk_point [i4]

/-- The array of output window 6 after the run. -/
theorem final6 : (dats m 0 c).arrAt 6 cfg0.N = Gdt f b q k := by
  refine (dats m 0 c).arrAt_eq_of_covers 6 _ (by decide +kernel) fun t hf' y => ?_
  blk_simp
  rw [after0_6, outs_dt]
  obtain ⟨-, -, -, -, -, -, i6⟩ := index t
  refine Eq.trans ?_ ((df_apply m c f b q k hf hb hq hk t (y 1) (y 0)).trans ?_)
  · unfold k0_pay3 df
    generalize k0_pay1 (F := Ideal) _ _ _ = H
    pointwise
  · refine congrArg (Gdt f b q k) (a₁ := ix2 (y 0) (at_ t (y 1))) ?_
    blk_point [i6]

/-- The last grid point. -/
abbrev last : Fin cfg0.N := ⟨7, by decide +kernel⟩

omit hf hb hq hk in
/-- An entry of one of the arrays that the body computes. -/
theorem pay4_apply (c : Dev nD) (t : Fin cfg0.N) (v : FVec Ideal S1x128 .f32) (i : S1x128.Idx) :
    @Eq EReal (k0_pay4 (F := Ideal) (sums m c t (prev m c t)) (k0_pay9 (iblk m c 2 t)) (k0_pay10 (iblk m c 3 t)) v i)
      (v i + ∑ p : Fin 512, df m c t (ix2 p (i 1))) := by
  unfold k0_pay4 df
  generalize k0_pay1 (F := Ideal) _ _ _ = H
  pointwise

omit hf hb hq hk in
/-- What output window 5 holds after the last grid point: the sum of the parts of all of them. -/
theorem acc5 (t : Fin cfg0.N) (ht : t.val + 1 = cfg0.N) (i : S1x128.Idx) :
    (outsAt0 m c t.val t.isLt).2.1 i = 0 + ∑ p : Fin cfg0.N, ∑ r : Fin 512, df m c p (ix2 r (i 1)) := by
  refine Pipeline.eq_sum_fin_of_reset_step_apply_last (fun n hn => (outsAt0 m c n hn).2.1) 8 (fun _ => (0 : EReal))
    (fun p i => ∑ r : Fin 512, df m c p (ix2 r (i 1))) (fun t h i => ?_) (fun t h i => ?_) (by decide +kernel) t ht i
  · have e := pay4_apply m c t (k0_pay6 (F := Ideal)) i
    have e0 : @Eq EReal (k0_pay6 (F := Ideal) i) 0 := by unfold_payloads; pointwise
    rw [outs_first m c t h]
    unfold prev at e
    rw [if_pos h, e0] at e
    exact e
  · have e := pay4_apply m c t (outsAt0 m c (t.val - 1) (Nat.lt_of_le_of_lt (Nat.sub_le _ _) t.isLt)).2.1 i
    rw [outs_later m c t h]
    unfold prev at e
    rw [if_neg h] at e
    exact e

/-- The array of output window 5 after the run. -/
theorem final5 : (dats m 0 c).arrAt 5 cfg0.N = Gdb f b q k := by
  funext i
  refine ((dats m 0 c).arrAt_emb_eq_after_last 5 last (by decide +kernel) i).trans ?_
  blk_simp
  rw [after0_5]
  refine (acc5 m c last rfl _).trans ?_
  rw [zero_add]
  have e : Gdb f b q k i = ∑ r : Fin 4096, ((lane (dfr f b q k r) (i 1) : ℝ) : EReal) := by
    unfold Gdb
    rw [coe_sum]
    refine congrArg _ ?_
    unfold lane
    split
    · rfl
    · rw [Finset.sum_const_zero]
  rw [e]
  refine (Finset.sum_congr rfl fun p _ => Finset.sum_congr rfl fun r _ =>
    df_apply m c f b q k hf hb hq hk p r (i 1)).trans ?_
  refine (Equiv.sum_comp (Fin.revPerm (n := 8)) fun p : Fin 8 => ∑ r : Fin 512, ((lane (dfr f b q k (at_ p r)) (i 1) : ℝ) : EReal)).symm.trans ?_
  exact Fin.sum_mul_add_congr (S := 8) (n := 512) (fun p r hl => by
    refine congrArg (fun a => ((lane (dfr f b q k a) (i 1) : ℝ) : EReal)) (Fin.ext ?_)
    show (7 - (Fin.rev p).val) * 512 + r.val = _
    rw [Fin.val_rev]
    have := p.isLt
    simp only
    omega)
end

end Cert.ForgetIdeal.Closed

end
-- ==== Proof.Forget.Ref.lean ====
/- The derivative of the forget gate's plain forward lines, element by element, at real arguments. -/
module

public import proofs.«01_k».proof.Proof.Gen.ForgetRefIdeal.Read
public import proofs.«01_k».proof.Proof.Forget.Kernel

@[expose] public section

set_option maxRecDepth 16384

noncomputable section

namespace Cert.ForgetRefIdeal.Closed

open Cert.ForgetRefIdeal Cert.ForgetRefIdeal.Gen Cert.ForgetRefIdeal.Read Idealize.ShloMosaic Idealize.ShloMosaic.TcCoe Cert.Reals
open Cert.ForgetIdeal.Closed (dfr Gdf Gdb Gdt lane pad_zero32)

/-- The integer zero the host pads with, as a narrow float. -/
theorem pad_zero16 : @Eq EReal (FloatOps.sitofp (F := Ideal) FTy.bf16 0#32) 0 := by
  show (((0#32 : BitVec 32).toInt : ℝ) : EReal) = 0
  simp

/-- The derivative of the log-sigmoid as the host writes it, at a real: the exponential of `y` minus the softplus of `y`. -/
theorem gate_real (y : ℝ) : Real.exp (y - (max y 0 + Real.log (1 + Real.exp (-|y|)))) = 1 / (1 + Real.exp (-y)) := by
  rw [sub_add_eq_sub_sub, Real.exp_sub, Real.exp_log (by positivity)]
  rcases le_total 0 y with h | h
  · rw [max_eq_left h, abs_of_nonneg h, sub_self, Real.exp_zero]
  · rw [max_eq_right h, abs_of_nonpos h, sub_zero, neg_neg, Real.exp_neg, div_eq_div_iff (by positivity) (by positivity), one_mul, mul_add, mul_one,
      mul_inv_cancel₀ (Real.exp_ne_zero y), add_comm]

/-- The same at the extended reals, with the host's guards against what is no real. -/
theorem gate_ideal (y : ℝ) : Ideal.exp ((if (y : EReal) = ⊤ then 0 else (y : EReal)) -
      if (if (y : EReal) ≠ (y : EReal) then (y : EReal) else max (y : EReal) 0 + Ideal.log1p (Ideal.exp (-max (y : EReal) (-(y : EReal))))) = ⊤ then 0
      else if (y : EReal) ≠ (y : EReal) then (y : EReal) else max (y : EReal) 0 + Ideal.log1p (Ideal.exp (-max (y : EReal) (-(y : EReal)))))
    = ((Real.exp (y - (max y 0 + Real.log (1 + Real.exp (-|y|)))) : ℝ) : EReal) := by
  have e : max (y : EReal) 0 + Ideal.log1p (Ideal.exp (-max (y : EReal) (-(y : EReal))))
      = ((max y 0 + Real.log (1 + Real.exp (-|y|)) : ℝ) : EReal) := by
    unfold Ideal.log1p
    rw [← EReal.coe_zero, neg_coe, max_coe, max_coe, neg_coe, exp_coe, ← EReal.coe_one, ← EReal.coe_add,
      log_coe _ (by positivity), ← EReal.coe_add, abs_eq_max_neg]
  rw [if_neg (EReal.coe_ne_top y), if_neg (show ¬((y : EReal) ≠ (y : EReal)) from fun h => h rfl), e, if_neg (EReal.coe_ne_top _), ← EReal.coe_sub, exp_coe]

section
variable (f : S4096x8.Idx → ℝ) (b : S1x8.Idx → ℝ) (q k : S4096x8.Idx → ℝ)

/-- An entry of the gate's derivative. -/
theorem gate_apply (i : S4096x8.Idx) : @Eq EReal (val_main_v4_1 (F := Ideal) (up f) (up b) i)
    ((1 / (1 + Real.exp (f i + b (ix2 0 (i 1)))) : ℝ) : EReal) := by
  unfold val_main_v4_1 val_main_call0_call0_v21 val_main_call0_call0_v20 val_main_call0_call0_v18 val_main_call0_call0_v17 val_main_call0_call0_v16
    val_main_call0_call0_v14 val_main_call0_call0_v13 val_main_call0_v1_0 val_main_call0_call0_v4 val_main_call0_call0_v11
    val_main_call0_call0_v10 val_main_call0_call0_v9 val_main_call0_call0_v8 val_main_call0_call0_v7 val_main_call0_call0_v3 val_main_call0_call0_v6 val_main_call0_call0_v5
    val_main_call0_call0_v1 val_main_call0_call0_v0 val_main_call0_call0_v2 val_main_call0_v0 val_main_v3 val_main_v2 val_main_v1 val_main_v0
    val_main_call0_call0_v19 val_main_call0_call0_v15
    val_main_call0_call0_cst val_main_call0_call0_cst_0 val_main_call0_call0_cst_1 val_main_call0_call0_cst_2 val_main_call0_call0_cst_3
  pointwise [up_apply]
  have e : -(((f i : ℝ) : EReal) + ((b (ix2 0 (i 1)) : ℝ) : EReal)) = ((-(f i + b (ix2 0 (i 1))) : ℝ) : EReal) := by
    rw [← EReal.coe_add, neg_coe]
  rw [ofBits_inf]
  refine Eq.trans ?_ (congrArg (fun a : ℝ => (a : EReal)) ((gate_real (-(f i + b (ix2 0 (i 1))))).trans (by rw [neg_neg])))
  rw [e]
  generalize -(f i + b (ix2 0 (i 1))) = y
  exact gate_ideal y

/-- An entry of the suffix sums. -/
theorem sums_apply (i : S4096x8.Idx) : @Eq EReal (val_main_v7 (F := Ideal) (up q) (up k) i)
    ((suffix (fun j : Fin 4096 => q (ix2 j (i 1)) + k (ix2 j (i 1))) (i 0).val : ℝ) : EReal) := by
  unfold val_main_v7 Host.reduceWindowAdd
  have h0 : @Eq EReal (val_main_call2_call0_v0 (F := Ideal) (Shape.Idx.first h_S_)) 0 := by
    unfold val_main_call2_call0_v0 val_main_call2_call0_cst
    pointwise
  show Ideal.hostReduceWindowAdd _ _ _ _ _ _ _ _ = _
  rw [h0]
  refine (window_rows (N := 4096) (C := 8) 0 4095 _ _ i).trans ?_
  refine Eq.trans ?_ ((coe_sum Finset.univ fun a : Fin 4096 => rext (fun j : Fin 4096 => q (ix2 j (i 1)) + k (ix2 j (i 1))) ((i 0).val + a.val)).trans
    (congrArg (fun a : ℝ => (a : EReal)) (sum_window_suffix _ _ (le_of_lt (i 0).isLt))))
  refine Finset.sum_congr rfl fun a _ => ?_
  unfold rext
  by_cases hc : (i 0).val + a.val < 4096
  · rw [dif_pos ⟨Nat.zero_le _, hc⟩, dif_pos hc]
    rfl
  · rw [dif_neg (fun h => hc h.2), dif_neg hc]
    rfl

/-- The gradient before it is rounded and padded. -/
theorem df_apply (i : S4096x8.Idx) : @Eq EReal (val_main_v8 (F := Ideal) (up f) (up b) (up q) (up k) i)
    ((dfr f b q k (i 0) (i 1) : ℝ) : EReal) := by
  unfold val_main_v8 val_main_call3_v1 val_main_call3_v0
  have hs := sums_apply q k
  have hg := gate_apply f b
  generalize val_main_v7 (F := Ideal) (up q) (up k) = S at hs ⊢
  generalize val_main_v4_1 (F := Ideal) (up f) (up b) = E at hg ⊢
  pointwise
  rw [hs, hg, ← EReal.coe_neg, ← EReal.coe_mul, ← EReal.coe_neg, neg_mul, neg_neg]
  have hi : i = ix2 (i 0) (i 1) := funext fun a => by fin_cases a <;> rfl
  exact congrArg (fun j => ((suffix (fun j => q (ix2 j (i 1)) + k (ix2 j (i 1))) (i 0).val * (1 / (1 + Real.exp (f j + b (ix2 0 (i 1))))) : ℝ) : EReal)) hi

/-- The gate gradient of the reference. -/
theorem ref_df : val_main_v14 (F := Ideal) (up f) (up b) (up q) (up k) = Gdf f b q k := by
  funext i
  unfold val_main_v14 val_main_v13 val_main_call4_v0 val_main_c
  have hd := df_apply f b q k
  generalize val_main_v8 (F := Ideal) (up f) (up b) (up q) (up k) = D at hd ⊢
  pointwise [pad_zero16]
  unfold Gdf lane
  split
  · exact hd _
  · rfl

/-- The transposed gate gradient of the reference. -/
theorem ref_dt : val_main_v17 (F := Ideal) (up f) (up b) (up q) (up k) = Gdt f b q k := by
  funext i
  unfold val_main_v17 val_main_v16 val_main_v13 val_main_call6_v0 val_main_c_2
  have hd := df_apply f b q k
  generalize val_main_v8 (F := Ideal) (up f) (up b) (up q) (up k) = D at hd ⊢
  pointwise [pad_zero16]
  unfold Gdt lane
  split
  · exact hd _
  · rfl

/-- The bias gradient of the reference. -/
theorem ref_db : val_main_v15 (F := Ideal) (up f) (up b) (up q) (up k) = Gdb f b q k := by
  funext i
  unfold val_main_v15 val_main_v12 val_main_v11 val_main_v10 val_main_v9 val_main_call5_v0 val_main_c_1 val_main_cst val_main_cst_0
  have hd := df_apply f b q k
  generalize val_main_v8 (F := Ideal) (up f) (up b) (up q) (up k) = D at hd ⊢
  pointwise [pad_zero32]
  unfold Gdb lane
  split
  · rw [Fin.sum_univ_one]
    simp only [hd, coe_sum]
    rfl
  · rfl
end

end Cert.ForgetRefIdeal.Closed

end
-- ==== Proof.Forget.Main.lean ====
/- The forget gate's gradient call against the derivative of the plain forward lines. -/
module

public import proofs.«01_k».proof.Defs
public import proofs.«01_k».proof.Proof.Forget.Ref
public import proofs.«01_k».proof.Proof.Gen.ForgetRefIdeal.Run
public import proofs.«01_k».proof.Proof.Gen.Pre_finite_forget

@[expose] public section

set_option maxRecDepth 16384

noncomputable section

namespace Cert.Proof

open Idealize.ShloMosaic Idealize.ShloMosaic.TcCoe Idealize.SL.Sem Cert.Reals
open Cert.ForgetIdeal.Closed Cert.ForgetRefIdeal.Closed Cert.ForgetRefIdeal.Read

/-- The precondition of the forget gate's call: every argument is an array of reals. -/
theorem pre_forget (f : FVec Ideal Cert.ForgetIdeal.S4096x8 .f32) (b : FVec Ideal Cert.ForgetIdeal.S1x8 .f32)
    (q k : FVec Ideal Cert.ForgetIdeal.S4096x8 .f32) (h : Cert.Pre_finite_forget.fn (F := Ideal) f b q k = fun _ => 1#1) :
    (∃ r, f = up r) ∧ (∃ r, b = up r) ∧ (∃ r, q = up r) ∧ (∃ r, k = up r) := by
  unfold Cert.Pre_finite_forget.fn at h
  dsimp only at h
  try unfold Cert.Pre_finite_forget.fn_part1 at h
  try dsimp only at h
  simp only [andi_ones] at h
  obtain ⟨⟨⟨h0, h1⟩, h2⟩, h3⟩ := h
  exact ⟨real_of_all _ _ _ _ _ _ h0, real_of_all _ _ _ _ _ _ h1, real_of_all _ _ _ _ _ _ h2, real_of_all _ _ _ _ _ _ h3⟩

/-- The forget gate's gradient call computes the derivatives of the forward lines, from real arguments. -/
theorem algebraic_forget : Cert.algebraic_ForgetIdeal_ForgetRefIdeal_pre_finite_forget := by
  intro m ρ m' ρ' hpre hag
  have hr := fun c => pre_forget (argF m c) (argB m c) (argQ m c) (argK m c) (hpre c)
  choose f hf using fun c => (hr c).1
  choose b hb using fun c => (hr c).2.1
  choose q hq using fun c => (hr c).2.2.1
  choose k hk using fun c => (hr c).2.2.2
  refine ⟨fun c => Gdf (f c) (b c) (q c) (k c), fun c => Gdb (f c) (b c) (q c) (k c), fun c => Gdt (f c) (b c) (q c) (k c), ?_, ?_⟩
  · exact (θ_run _ _ _).mono (fun r h c => by
      obtain ⟨h4, h5, h6, hr⟩ := h c
      exact ⟨h4.trans (final4 m c _ _ _ _ (hf c) (hb c) (hq c) (hk c)), h5.trans (final5 m c _ _ _ _ (hf c) (hb c) (hq c) (hk c)),
        h6.trans (final6 m c _ _ _ _ (hf c) (hb c) (hq c) (hk c)), hr⟩)
      (Cert.ForgetIdeal.Value.run_blocks m ρ)
  · refine (θ_run _ _ _).mono (fun r h c => ?_) (Cert.ForgetRefIdeal.Value.run m' ρ')
    obtain ⟨h4, h5, h6, hr⟩ := h c
    obtain ⟨a0, a1, a2, a3⟩ := hag c
    refine ⟨h4.trans ?_, h5.trans ?_, h6.trans ?_, hr⟩
    · rw [val_main_v14_eq, a0, a1, a2, a3]
      refine Eq.trans ?_ (ref_df (f c) (b c) (q c) (k c))
      rw [← hf, ← hb, ← hq, ← hk]
    · rw [val_main_v15_eq, a0, a1, a2, a3]
      refine Eq.trans ?_ (ref_db (f c) (b c) (q c) (k c))
      rw [← hf, ← hb, ← hq, ← hk]
    · rw [val_main_v17_eq, a0, a1, a2, a3]
      refine Eq.trans ?_ (ref_dt (f c) (b c) (q c) (k c))
      rw [← hf, ← hb, ← hq, ← hk]

end Cert.Proof

end
-- ==== Proof.Reals.Gelu.lean ====
/- The Gaussian error unit in its tanh form, and the spatial gating unit's forward pass and gradient, over the reals. -/
module

public import proofs.«01_k».proof.Proof.Reals.Basic

@[expose] public section

noncomputable section

namespace Cert.Reals

open Idealize.ShloMosaic

/-- The factor inside the tanh, the rational its f32 word denotes. -/
def geluK : ℝ := 13386282 / 16777216

/-- The f32 word of that factor. -/
theorem ofBits_geluK : Ideal.ofBits .f32 0x3F4C422A#32 = ((geluK : ℝ) : EReal) := by
  unfold geluK
  simp [Ideal.ofBits, Ideal.ieee, -EReal.coe_mul]; norm_num

/-- The f32 word of 512. -/
theorem ofBits_512 : Ideal.ofBits .f32 0x44000000#32 = ((512 : ℝ) : EReal) := by
  simp [Ideal.ofBits, Ideal.ieee, -EReal.coe_mul]; norm_num

/-- The f32 word of 3. -/
theorem ofBits_three : Ideal.ofBits .f32 0x40400000#32 = ((3 : ℝ) : EReal) := by
  simp [Ideal.ofBits, Ideal.ieee, -EReal.coe_mul]; norm_num

/-- The f32 word of 1. -/
theorem ofBits_one : Ideal.ofBits .f32 0x3F800000#32 = ((1 : ℝ) : EReal) := by
  simp [Ideal.ofBits, Ideal.ieee, -EReal.coe_mul]; norm_num

/-- The hyperbolic tangent of a real. -/
theorem tanh_coe (x : ℝ) : Ideal.tanh (x : EReal) = ((Real.tanh x : ℝ) : EReal) := rfl

/-- The tanh of the unit at a real. -/
def geluT (x : ℝ) : ℝ := Real.tanh (geluK * (x + 8943 / 200000 * (x * x * x)))

/-- The Gaussian error unit at a real. -/
def gelu (x : ℝ) : ℝ := 1 / 2 * x * (1 + geluT x)

/-- Its derivative. -/
def geluD (x : ℝ) : ℝ :=
  1 / 2 * (1 + geluT x) + 1 / 2 * x * (1 - geluT x * geluT x) * (geluK * (1 + 26829 / 200000 * (x * x)))

/-- A row of 512: its mean, its centred entries, its reciprocal deviation and its normalised entries. -/
def mean (x : Fin 512 → ℝ) : ℝ := (∑ k, x k) / 512
def cen (x : Fin 512 → ℝ) (k : Fin 512) : ℝ := x k - mean x
def var (x : Fin 512 → ℝ) : ℝ := (∑ k, cen x k * cen x k) / 512 + eps
def rdev (x : Fin 512 → ℝ) : ℝ := (Real.sqrt (var x))⁻¹
def lnorm (x : Fin 512 → ℝ) (k : Fin 512) : ℝ := cen x k * rdev x

/-- The variance plus epsilon is positive. -/
theorem var_pos (x : Fin 512 → ℝ) : 0 < var x :=
  add_pos_of_nonneg_of_pos (div_nonneg (Finset.sum_nonneg fun k _ => mul_self_nonneg (cen x k)) (by norm_num)) eps_pos

/-- The gradient of a row's normalisation, of the cotangent `u`. -/
def lbwd (x u : Fin 512 → ℝ) (k : Fin 512) : ℝ :=
  rdev x * (u k - (∑ j, u j) / 512 - lnorm x k * ((∑ j, u j * lnorm x j) / 512))

/-- The unit's arguments: the two halves of its input, the norm's scale and shift, the masked mixing weights, the bias by head
    and position, and the cotangent of the gated product. -/
structure Args where
  u : Fin 4096 → Fin 512 → ℝ
  v : Fin 4096 → Fin 512 → ℝ
  g : Fin 512 → ℝ
  b : Fin 512 → ℝ
  w : Fin 8 → Fin 128 → Fin 128 → ℝ
  s : Fin 8 → Fin 128 → ℝ
  d : Fin 4096 → Fin 512 → ℝ

namespace Args

variable (a : Args)

/-- The head of a column. -/
abbrev head (n : Fin 512) : Fin 8 := ⟨n.val / 64, by omega⟩
/-- A row's place in its window of 128 rows, and the row at place `j` of the same window. -/
abbrev pos (r : Fin 4096) : Fin 128 := ⟨r.val % 128, by omega⟩
abbrev row (r : Fin 4096) (j : Fin 128) : Fin 4096 := ⟨r.val / 128 * 128 + j.val, by omega⟩
/-- The row at place `j` of window `k`. -/
abbrev win (k : Fin 32) (j : Fin 128) : Fin 4096 := ⟨k.val * 128 + j.val, by omega⟩

/-- The row that the norm sees. -/
def act (r : Fin 4096) (n : Fin 512) : ℝ := gelu (a.v r n)
/-- The normalised, scaled and shifted row. -/
def vn (r : Fin 4096) (n : Fin 512) : ℝ := lnorm (a.act r) n * a.g n + a.b n
/-- The mix of a window's rows, by head, with its bias. -/
def mix (r : Fin 4096) (n : Fin 512) : ℝ := (∑ j, a.w (head n) (pos r) j * a.vn (row r j) n) + a.s (head n) (pos r)
/-- The gradient of the first half. -/
def du (r : Fin 4096) (n : Fin 512) : ℝ := a.d r n * a.mix r n * geluD (a.u r n)
/-- The gradient of the mix. -/
def dm (r : Fin 4096) (n : Fin 512) : ℝ := a.d r n * gelu (a.u r n)
/-- The gradient of the scaled and shifted row. -/
def dvn (r : Fin 4096) (n : Fin 512) : ℝ := ∑ j, a.w (head n) j (pos r) * a.dm (row r j) n
/-- The gradient of the second half. -/
def dv (r : Fin 4096) (n : Fin 512) : ℝ := lbwd (a.act r) (fun k => a.dvn r k * a.g k) n * geluD (a.v r n)
/-- The gradients of the mixing weights, of the bias by position and column, of the scale and of the shift. -/
def dw (h : Fin 8) (i j : Fin 128) : ℝ :=
  ∑ k, ∑ e : Fin 64, a.dm (win k i) ⟨h.val * 64 + e.val, by omega⟩ * a.vn (win k j) ⟨h.val * 64 + e.val, by omega⟩
def db (i : Fin 128) (n : Fin 512) : ℝ := ∑ k, a.dm (win k i) n
def dg (n : Fin 512) : ℝ := ∑ r, a.dvn r n * lnorm (a.act r) n
def dbeta (n : Fin 512) : ℝ := ∑ r, a.dvn r n

end Args

end Cert.Reals

end
-- ==== Proof.Sgu.Kernel.lean ====
/- The spatial gating unit's gradient call: what its body reads, as entries of real arguments. -/
module

public import proofs.«01_k».proof.Proof.Gen.SguIdeal.Value
public import proofs.«01_k».proof.Proof.Reals.Gelu
public import Idealize.ShloMosaic.Lib.Pipeline.ValueKit
public import Idealize.ShloMosaic.Lib.Pipeline.ReadBack

@[expose] public section

set_option maxRecDepth 16384

noncomputable section

namespace Cert.SguIdeal.Closed

open Cert.SguIdeal Cert.SguIdeal.Gen Idealize.ShloMosaic Idealize.ShloMosaic.TcCoe Idealize.SL.Sem Cert.Reals
open Idealize.ShloMosaic.Pipeline (Dat)

variable (m : (ℓ : Loc nD τ sig) → Buf (Elt Ideal) ℓ)

/-- The arguments, as arrays. -/
abbrev argP (c : Dev nD) : FVec Ideal S4096x4616 .f32 := m ((c : Thread nD τ).loc main_arg0)
abbrev argG (c : Dev nD) : FVec Ideal S1x512 .f32 := m ((c : Thread nD τ).loc main_arg1)
abbrev argB (c : Dev nD) : FVec Ideal S1x512 .f32 := m ((c : Thread nD τ).loc main_arg2)
abbrev argW (c : Dev nD) : FVec Ideal S1x8x128x128 .f32 := m ((c : Thread nD τ).loc main_arg3)
abbrev argS (c : Dev nD) : FVec Ideal S1x8x128 .f32 := m ((c : Thread nD τ).loc main_arg4)
abbrev argO (c : Dev nD) : FVec Ideal S1x512x1024 .f32 := m ((c : Thread nD τ).loc main_arg5)
abbrev argD (c : Dev nD) : FVec Ideal S4096x1024 .f32 := m ((c : Thread nD τ).loc main_arg6)

/-- The block that each window takes at each grid point. -/
theorem index : ∀ t : Fin cfg0.N,
    win0_0.index t = ![t.val, 0] ∧ win0_1.index t = ![t.val, 1] ∧ win0_2.index t = ![t.val, 0]
    ∧ win0_3.index t = ![0, 0] ∧ win0_4.index t = ![0, 0] ∧ win0_5.index t = ![0, 0] ∧ win0_6.index t = ![0, 0, 0]
    ∧ win0_7.index t = ![0, 0, 0] ∧ win0_8.index t = ![0, 0] ∧ win0_9.index t = ![t.val, 0] ∧ win0_10.index t = ![t.val, 0]
    ∧ win0_15.index t = ![0, t.val] :=
  (by decide +kernel : ∀ t : Fin grid0.N, _)

/-- The chunk of each position, and the mask of the positions that each may mix: those of its own chunk and of earlier ones. -/
abbrev chunk : IVec S128 32 :=
  let p := iotaInDim S128 32 0
  let q := constantI S_ 32 64#32
  let d := Host.divsi p (broadcastInDim S128 ![] bcast_S_S128 q)
  select (andi (cmpi .ne (signi p) (broadcastInDim S128 ![] bcast_S_S128 (signi q)))
      (cmpi .ne (Host.remsi p (broadcastInDim S128 ![] bcast_S_S128 q)) (broadcastInDim S128 ![] bcast_S_S128 (constantI S_ 32 0#32))))
    (subi d (broadcastInDim S128 ![] bcast_S_S128 (constantI S_ 32 1#32))) d
/-- The positions that each position may mix. -/
def mask : IVec S128x128 1 :=
  cmpi .sle (broadcastInDim S128x128 ![0, 1] bcast_S1x128_S128x128_0_1 (broadcastInDim S1x128 ![1] bcast_S128_S1x128_1 chunk))
    (broadcastInDim S128x128 ![0, 1] bcast_S128x1_S128x128_0_1 (broadcastInDim S128x1 ![0] bcast_S128_S128x1_0 chunk))

/-- The masked weights, as the host forms them. -/
def wmask (c : Dev nD) : FVec Ideal S8x128x128 .f32 :=
  select (broadcastInDim S8x128x128 ![0, 1, 2] bcast_S1x128x128_S8x128x128_0_1_2
      (broadcastInDim S1x128x128 ![1, 2] bcast_S128x128_S1x128x128_1_2 mask))
    (shapeCast S8x128x128 (argW m c) shapeCasts_S1x8x128x128_S8x128x128)
    (broadcastInDim S8x128x128 ![] bcast_S_S8x128x128 (constant (F := Ideal) S_ .f32 0x00000000#32))

/-- The array `p` that the call reads, out of the arguments. -/
theorem V_p (c : Dev nD) : @Eq (FVec Ideal S4096x3200 .bf16) (V m c main_v4)
    (truncf .bf16 (concatenate S4096x3200 1 [⟨S4096x3072, extractStridedSlice S4096x3072 ![0, 1544] (argP m c) slices_S4096x4616_S4096x3072_0_1544⟩,
      ⟨S4096x128, pad S4096x128 ![0, 0] ![0, 120] ![0, 0] (extractStridedSlice S4096x8 ![0, 1536] (argP m c) slices_S4096x4616_S4096x8_0_1536)
        (sitofp .f32 (constantI S_ 32 0#32)) pads_S4096x8_S4096x128_000_01200 h_S_⟩] concatenates_S4096x3072_S4096x128_S4096x3200_d1) bitsLt_bf16_f32) := by
  unfold V hostOps0 hostOps0_1 hostOps0_2 hostOps0_3 hostOps0_4 hostOps0_5 hostOps0_6
  simp only [List.flatten_cons, List.flatten_nil, List.append_nil, List.cons_append, List.nil_append]; after_results
  simp only [StableHlo.TRef.toBuf, StableHlo.TRef.ofBuf, cast_eq]

/-- The array `w` that the call reads, out of the arguments. -/
theorem V_w (c : Dev nD) : @Eq (FVec Ideal S4x256x128 .bf16) (V m c main_v16)
    (truncf .bf16 (shapeCast S4x256x128 (wmask m c) shapeCasts_S8x128x128_S4x256x128) bitsLt_bf16_f32) := by
  unfold V hostOps0 hostOps0_1 hostOps0_2 hostOps0_3 hostOps0_4 hostOps0_5 hostOps0_6
  simp only [List.flatten_cons, List.flatten_nil, List.append_nil, List.cons_append, List.nil_append]; after_results
  simp only [StableHlo.TRef.toBuf, StableHlo.TRef.ofBuf, cast_eq]
  rfl

/-- The array `wt` that the call reads, out of the arguments. -/
theorem V_wt (c : Dev nD) : @Eq (FVec Ideal S4x256x128 .bf16) (V m c main_v19)
    (truncf .bf16 (shapeCast S4x256x128 (transpose S8x128x128 [0, 2, 1] (wmask m c) transposes_S8x128x128_S8x128x128_0_2_1)
      shapeCasts_S8x128x128_S4x256x128) bitsLt_bf16_f32) := by
  unfold V hostOps0 hostOps0_1 hostOps0_2 hostOps0_3 hostOps0_4 hostOps0_5 hostOps0_6
  simp only [List.flatten_cons, List.flatten_nil, List.append_nil, List.cons_append, List.nil_append]; after_results
  simp only [StableHlo.TRef.toBuf, StableHlo.TRef.ofBuf, cast_eq]
  rfl

/-- The array `s` that the call reads, out of the arguments. -/
theorem V_s (c : Dev nD) : @Eq (FVec Ideal S128x512 .f32) (V m c main_v23)
    (transpose S128x512 [1, 0] (shapeCast S512x128 (broadcastInDim S8x64x128 ![0, 2] bcast_S8x128_S8x64x128_0_2
      (shapeCast S8x128 (argS m c) shapeCasts_S1x8x128_S8x128)) shapeCasts_S8x64x128_S512x128) transposes_S512x128_S128x512_1_0) := by
  unfold V hostOps0 hostOps0_1 hostOps0_2 hostOps0_3 hostOps0_4 hostOps0_5 hostOps0_6
  simp only [List.flatten_cons, List.flatten_nil, List.append_nil, List.cons_append, List.nil_append]; after_results
  rfl

/-- The array `o` that the call reads, out of the arguments. -/
theorem V_o (c : Dev nD) : @Eq (FVec Ideal S1024x512 .bf16) (V m c main_v26)
    (truncf .bf16 (transpose S1024x512 [1, 0] (shapeCast S512x1024 (argO m c) shapeCasts_S1x512x1024_S512x1024)
      transposes_S512x1024_S1024x512_1_0) bitsLt_bf16_f32) := by
  unfold V hostOps0 hostOps0_1 hostOps0_2 hostOps0_3 hostOps0_4 hostOps0_5 hostOps0_6
  simp only [List.flatten_cons, List.flatten_nil, List.append_nil, List.cons_append, List.nil_append]; after_results
  rfl

/-- The array `d` that the call reads, out of the arguments. -/
theorem V_d (c : Dev nD) : @Eq (FVec Ideal S4096x1024 .bf16) (V m c main_v27) (truncf .bf16 (argD m c) bitsLt_bf16_f32) := by
  unfold V hostOps0 hostOps0_1 hostOps0_2 hostOps0_3 hostOps0_4 hostOps0_5 hostOps0_6
  simp only [List.flatten_cons, List.flatten_nil, List.append_nil, List.cons_append, List.nil_append]; after_results

/-- What the arguments hold, as reals. -/
structure Holds (c : Dev nD) (a : Args) : Prop where
  u : ∀ r n, argP m c (ix2 r ⟨1544 + n.val, by omega⟩) = ((a.u r n : ℝ) : EReal)
  v : ∀ r n, argP m c (ix2 r ⟨2056 + n.val, by omega⟩) = ((a.v r n : ℝ) : EReal)
  g : ∀ n, argG m c (ix2 0 n) = ((a.g n : ℝ) : EReal)
  b : ∀ n, argB m c (ix2 0 n) = ((a.b n : ℝ) : EReal)
  w : ∀ h i j, wmask m c (ix3 h i j) = ((a.w h i j : ℝ) : EReal)
  s : ∀ h i, argS m c (ix3 0 h i) = ((a.s h i : ℝ) : EReal)
  d : ∀ r n, @Eq EReal (∑ k : Fin 1024, argD m c (ix2 r k) * argO m c (ix3 0 n k)) ((a.d r n : ℝ) : EReal)

/-- The row of the array that row `p` of the block at grid point `t` is. -/
abbrev at_ (t : Fin cfg0.N) (p : Fin 512) : Fin 4096 := ⟨t.val * 512 + p.val, by have := lt_of_lt_of_eq t.isLt N_0; omega⟩

/-- An entry of the array `p` that the host code prepares. -/
theorem V_p_at (c : Dev nD) (i : S4096x3200.Idx) (h : (i 1).val < 3072) : @Eq EReal ((V m c main_v4 : FVec Ideal S4096x3200 .bf16) i)
    (argP m c (ix2 (i 0) ⟨1544 + (i 1).val, by omega⟩)) := by
  rw [V_p]
  pointwise
  exact dif_pos h

section
variable (c : Dev nD) (t : Fin cfg0.N) (a : Args) (H : Holds m c a)
include H

/-- What input window 0 holds at a grid point, out of the arguments. -/
theorem in0 (p n : Fin 512) : (X0_0 m c t : FVec Ideal S512x512 .bf16) (ix2 p n) = ((a.u (at_ t p) n : ℝ) : EReal) := by
  obtain ⟨i0, -⟩ := index t
  refine Eq.trans ?_ (H.u (at_ t p) n)
  refine Eq.trans ?_ (V_p_at m c (ix2 (at_ t p) ⟨n.val, by omega⟩) (show n.val < 3072 by omega))
  unfold X0_0 Pipeline.Window.fill
  rw [dif_pos (moved0_0 t _)]
  refine congrArg (V m c main_v4 : FVec Ideal S4096x3200 .bf16) ?_
  blk_point [i0]
/-- What input window 1 holds at a grid point, out of the arguments. -/
theorem in1 (p n : Fin 512) : (X0_1 m c t : FVec Ideal S512x512 .bf16) (ix2 p n) = ((a.v (at_ t p) n : ℝ) : EReal) := by
  obtain ⟨-, i1, -⟩ := index t
  refine Eq.trans ?_ (H.v (at_ t p) n)
  refine Eq.trans ?_ ((V_p_at m c (ix2 (at_ t p) ⟨512 + n.val, by omega⟩) (show 512 + n.val < 3072 by omega)).trans
    (congrArg (argP m c) (congrArg (ix2 (at_ t p)) (Fin.ext (show 1544 + (512 + n.val) = 2056 + n.val by omega)))))
  unfold X0_1 Pipeline.Window.fill
  rw [dif_pos (moved0_1 t _)]
  refine congrArg (V m c main_v4 : FVec Ideal S4096x3200 .bf16) ?_
  blk_point [i1]
/-- What input window 4 holds at a grid point, out of the arguments. -/
theorem in4 (n : Fin 512) : (iblk m c 4 t : FVec Ideal S1x512 .f32) (ix2 0 n) = ((a.g n : ℝ) : EReal) := by
  obtain ⟨-, -, -, -, i4, -⟩ := index t
  refine Eq.trans ?_ (H.g n)
  refine Eq.trans ?_ (congrFun (V_main_arg1 m c) (ix2 0 n))
  refine congrArg (V m c main_arg1 : FVec Ideal S1x512 .f32) ?_
  blk_point [i4]
/-- What input window 5 holds at a grid point, out of the arguments. -/
theorem in5 (n : Fin 512) : (iblk m c 5 t : FVec Ideal S1x512 .f32) (ix2 0 n) = ((a.b n : ℝ) : EReal) := by
  obtain ⟨-, -, -, -, -, i5, -⟩ := index t
  refine Eq.trans ?_ (H.b n)
  refine Eq.trans ?_ (congrFun (V_main_arg2 m c) (ix2 0 n))
  refine congrArg (V m c main_arg2 : FVec Ideal S1x512 .f32) ?_
  blk_point [i5]
/-- What input window 6 holds at a grid point, out of the arguments. -/
theorem in6 (p : Fin 4) (q : Fin 256) (j : Fin 128) : (iblk m c 6 t : FVec Ideal S4x256x128 .bf16) (ix3 p q j) =
    ((a.w ⟨p.val * 2 + q.val / 128, by omega⟩ ⟨q.val % 128, by omega⟩ j : ℝ) : EReal) := by
  obtain ⟨-, -, -, -, -, -, i6, -⟩ := index t
  refine Eq.trans ?_ (H.w _ _ j)
  have e : (iblk m c 6 t : FVec Ideal S4x256x128 .bf16) (ix3 p q j) = (V m c main_v16 : FVec Ideal S4x256x128 .bf16) (ix3 p q j) := by
    refine congrArg (V m c main_v16 : FVec Ideal S4x256x128 .bf16) ?_
    blk_point [i6]
  refine e.trans ((congrFun (V_w m c) _).trans ?_)
  generalize wmask m c = W
  pointwise
/-- What input window 7 holds at a grid point, out of the arguments. -/
theorem in7 (p : Fin 4) (q : Fin 256) (j : Fin 128) : (iblk m c 7 t : FVec Ideal S4x256x128 .bf16) (ix3 p q j) =
    ((a.w ⟨p.val * 2 + q.val / 128, by omega⟩ j ⟨q.val % 128, by omega⟩ : ℝ) : EReal) := by
  obtain ⟨-, -, -, -, -, -, -, i7, -⟩ := index t
  refine Eq.trans ?_ (H.w _ j _)
  have e : (iblk m c 7 t : FVec Ideal S4x256x128 .bf16) (ix3 p q j) = (V m c main_v19 : FVec Ideal S4x256x128 .bf16) (ix3 p q j) := by
    refine congrArg (V m c main_v19 : FVec Ideal S4x256x128 .bf16) ?_
    blk_point [i7]
  refine e.trans ((congrFun (V_wt m c) _).trans ?_)
  generalize wmask m c = W
  pointwise
/-- What input window 8 holds at a grid point, out of the arguments. -/
theorem in8 (r : Fin 128) (n : Fin 512) : (iblk m c 8 t : FVec Ideal S128x512 .f32) (ix2 r n) = ((a.s (Args.head n) r : ℝ) : EReal) := by
  obtain ⟨-, -, -, -, -, -, -, -, i8, -⟩ := index t
  refine Eq.trans ?_ (H.s _ r)
  have e : (iblk m c 8 t : FVec Ideal S128x512 .f32) (ix2 r n) = (V m c main_v23 : FVec Ideal S128x512 .f32) (ix2 r n) := by
    refine congrArg (V m c main_v23 : FVec Ideal S128x512 .f32) ?_
    blk_point [i8]
  refine e.trans ((congrFun (V_s m c) _).trans ?_)
  pointwise
/-- The cotangent of the gated product, on a block. -/
theorem dsg_apply (p n : Fin 512) : @Eq EReal (k0_pay17 (F := Ideal) (iblk m c 2 t) (iblk m c 3 t) (ix2 p n)) ((a.d (at_ t p) n : ℝ) : EReal) := by
  obtain ⟨-, -, i2, i3, -⟩ := index t
  refine Eq.trans ?_ (H.d (at_ t p) n)
  have e2 : ∀ k : Fin 1024, (iblk m c 2 t : FVec Ideal S512x1024 .bf16) (ix2 p k) = argD m c (ix2 (at_ t p) k) := fun k => by
    refine Eq.trans ?_ (congrFun (V_d m c) (ix2 (at_ t p) k))
    refine congrArg (V m c main_v27 : FVec Ideal S4096x1024 .bf16) ?_
    blk_point [i2]
  have e3 : ∀ k : Fin 1024, (iblk m c 3 t : FVec Ideal S1024x512 .bf16) (ix2 k n) = argO m c (ix3 0 n k) := fun k => by
    have e : (iblk m c 3 t : FVec Ideal S1024x512 .bf16) (ix2 k n) = (V m c main_v26 : FVec Ideal S1024x512 .bf16) (ix2 k n) := by
      refine congrArg (V m c main_v26 : FVec Ideal S1024x512 .bf16) ?_
      blk_point [i3]
    refine e.trans ((congrFun (V_o m c) _).trans ?_)
    pointwise
  generalize iblk m c 2 t = A at e2
  generalize iblk m c 3 t = B at e3
  unfold_payloads
  pointwise
  simp only [e2, e3]
end

end Cert.SguIdeal.Closed

end
-- ==== Proof.Sgu.Facts.lean ====
/- The spatial gating unit's gradient call: the facts of its blocks that its results share, and its first result. -/
module

public import proofs.«01_k».proof.Proof.Sgu.Kernel

@[expose] public section

set_option maxRecDepth 16384

noncomputable section
namespace Cert.SguIdeal.Closed
open Cert.SguIdeal Cert.SguIdeal.Gen Idealize.ShloMosaic Idealize.ShloMosaic.TcCoe Idealize.SL.Sem Cert.Reals
open Idealize.ShloMosaic.Pipeline (Dat)

/-- The named constants. -/
theorem named_c : @Eq EReal (Named.named κ "gelu_c" 0x3D372713#32 : Ideal .f32) ((8943 / 200000 : ℝ) : EReal) := rfl
/-- The named constant of the derivative. -/
theorem named_c3 : @Eq EReal (Named.named κ "gelu_c3" 0x3E095D4F#32 : Ideal .f32) ((26829 / 200000 : ℝ) : EReal) := rfl
/-- Division by 512. -/
theorem div_512 (x : ℝ) : Ideal.div (x : EReal) ((512 : ℝ) : EReal) = ((x / 512 : ℝ) : EReal) := div_coe x 512 (by norm_num)

section
variable (X : FVec Ideal S512x512 .bf16) (x : Fin 512 → Fin 512 → ℝ) (h : ∀ i, @Eq EReal (X i) ((x (i 0) (i 1) : ℝ) : EReal))
include h

/-- An entry of the centred rows of a block. -/
theorem cen_apply (i : S512x512.Idx) : @Eq EReal (k0_pay9 (F := Ideal) X i) ((cen (fun n => gelu (x (i 0) n)) (i 1) : ℝ) : EReal) := by
  unfold_payloads
  pointwise
  simp only [h, named_c, named_c3, ofBits_geluK, ofBits_half, ofBits_512, ofBits_one, tanh_coe, ← EReal.coe_mul, ← EReal.coe_add, ← EReal.coe_sub, coe_sum, div_512, ← EReal.coe_one]
  rfl
/-- The reciprocal deviation of a row of a block. -/
theorem rdev_apply (i : S512x1.Idx) : @Eq EReal (k0_pay10 (F := Ideal) X i) ((rdev (fun n => gelu (x (i 0) n)) : ℝ) : EReal) := by
  have e := cen_apply X x h
  unfold k0_pay10
  generalize k0_pay9 (F := Ideal) X = C at e
  pointwise
  simp only [e, ofBits_512, ofBits_eps, ← EReal.coe_mul, ← EReal.coe_add, coe_sum, div_512]
  exact rsqrt_coe _ (var_pos _)
/-- An entry of the normalised rows of a block. -/
theorem lnorm_apply (i : S512x512.Idx) : @Eq EReal (k0_pay11 (F := Ideal) X i) ((lnorm (fun n => gelu (x (i 0) n)) (i 1) : ℝ) : EReal) := by
  have e := cen_apply X x h
  have e' := rdev_apply X x h
  unfold k0_pay11
  generalize k0_pay9 (F := Ideal) X = C at e
  generalize k0_pay10 (F := Ideal) X = R at e'
  pointwise
  simp only [e, e', ← EReal.coe_mul]
  rfl
end

/-- An entry of the normalised, scaled and shifted rows of a block. -/
theorem vn_apply (G B : FVec Ideal S1x512 .f32) (L : FVec Ideal S512x512 .f32) (g b : Fin 512 → ℝ) (l : Fin 512 → Fin 512 → ℝ)
    (hg : ∀ i, @Eq EReal (G i) ((g (i 1) : ℝ) : EReal)) (hb : ∀ i, @Eq EReal (B i) ((b (i 1) : ℝ) : EReal))
    (hl : ∀ i, @Eq EReal (L i) ((l (i 0) (i 1) : ℝ) : EReal)) (i : S512x512.Idx) :
    @Eq EReal (k0_pay12 (F := Ideal) G B L i) ((l (i 0) (i 1) * g (i 1) + b (i 1) : ℝ) : EReal) := by
  unfold k0_pay12
  pointwise
  simp only [hg, hb, hl, ← EReal.coe_mul, ← EReal.coe_add]
  rfl

variable (m : (ℓ : Loc nD τ sig) → Buf (Elt Ideal) ℓ) (c : Dev nD) (t : Fin cfg0.N) (a : Args) (H : Holds m c a)

/-- What the body reads at a grid point, by the arrays that it reads. -/
structure Reads (t : Fin cfg0.N) (a : Args) (U X : FVec Ideal S512x512 .bf16) (D : FVec Ideal S512x512 .f32) (L : FVec Ideal S512x512 .f32)
    (N : FVec Ideal S512x512 .bf16) (R : FVec Ideal S512x1 .f32) (G : FVec Ideal S1x512 .f32) (W T : FVec Ideal S4x256x128 .bf16) (S : FVec Ideal S128x512 .f32) : Prop where
  u : ∀ p n, @Eq EReal (U (ix2 p n)) ((a.u (at_ t p) n : ℝ) : EReal)
  v : ∀ p n, @Eq EReal (X (ix2 p n)) ((a.v (at_ t p) n : ℝ) : EReal)
  d : ∀ p n, @Eq EReal (D (ix2 p n)) ((a.d (at_ t p) n : ℝ) : EReal)
  l : ∀ p n, @Eq EReal (L (ix2 p n)) ((lnorm (a.act (at_ t p)) n : ℝ) : EReal)
  n : ∀ p n, @Eq EReal (N (ix2 p n)) ((a.vn (at_ t p) n : ℝ) : EReal)
  r : ∀ p, @Eq EReal (R (ix2 p 0)) ((rdev (a.act (at_ t p)) : ℝ) : EReal)
  g : ∀ n, @Eq EReal (G (ix2 0 n)) ((a.g n : ℝ) : EReal)
  w : ∀ (p : Fin 4) (q : Fin 256) (j : Fin 128), @Eq EReal (W (ix3 p q j)) ((a.w ⟨p.val * 2 + q.val / 128, by omega⟩ ⟨q.val % 128, by omega⟩ j : ℝ) : EReal)
  wt : ∀ (p : Fin 4) (q : Fin 256) (j : Fin 128), @Eq EReal (T (ix3 p q j)) ((a.w ⟨p.val * 2 + q.val / 128, by omega⟩ j ⟨q.val % 128, by omega⟩ : ℝ) : EReal)
  s : ∀ p n, @Eq EReal (S (ix2 p n)) ((a.s (Args.head n) p : ℝ) : EReal)

include H in
/-- What the body reads at a grid point, out of the arguments. -/
theorem reads : Reads t a (X0_0 m c t) (X0_1 m c t) (k0_pay17 (F := Ideal) (iblk m c 2 t) (iblk m c 3 t)) (k0_pay11 (F := Ideal) (X0_1 m c t))
    (k0_pay12 (F := Ideal) (iblk m c 4 t) (iblk m c 5 t) (k0_pay11 (F := Ideal) (X0_1 m c t))) (k0_pay10 (F := Ideal) (X0_1 m c t))
    (iblk m c 4 t) (iblk m c 6 t) (iblk m c 7 t) (iblk m c 8 t) := by
  have hv : ∀ i : S512x512.Idx, @Eq EReal ((X0_1 m c t : FVec Ideal S512x512 .bf16) i) ((a.v (at_ t (i 0)) (i 1) : ℝ) : EReal) := fun i =>
    (congrArg (X0_1 m c t : FVec Ideal S512x512 .bf16) (eq_ix2 i)).trans (in1 m c t a H _ _)
  have hg : ∀ i : S1x512.Idx, @Eq EReal ((iblk m c 4 t : FVec Ideal S1x512 .f32) i) ((a.g (i 1) : ℝ) : EReal) := fun i =>
    (congrArg (iblk m c 4 t : FVec Ideal S1x512 .f32) ((eq_ix2 i).trans (congrArg (fun k => ix2 k (i 1)) (Subsingleton.elim (α := Fin 1) _ _)))).trans (in4 m c t a H _)
  have hb : ∀ i : S1x512.Idx, @Eq EReal ((iblk m c 5 t : FVec Ideal S1x512 .f32) i) ((a.b (i 1) : ℝ) : EReal) := fun i =>
    (congrArg (iblk m c 5 t : FVec Ideal S1x512 .f32) ((eq_ix2 i).trans (congrArg (fun k => ix2 k (i 1)) (Subsingleton.elim (α := Fin 1) _ _)))).trans (in5 m c t a H _)
  have hl := lnorm_apply (X0_1 m c t) (fun p => a.v (at_ t p)) hv
  exact {
    u := in0 m c t a H
    v := in1 m c t a H
    d := dsg_apply m c t a H
    l := fun p n => hl (ix2 p n)
    n := fun p n => vn_apply (iblk m c 4 t) (iblk m c 5 t) _ a.g a.b (fun p => lnorm (a.act (at_ t p))) hg hb hl (ix2 p n)
    r := fun p => rdev_apply (X0_1 m c t) (fun p => a.v (at_ t p)) hv (ix2 p 0)
    g := in4 m c t a H
    w := in6 m c t a H
    wt := in7 m c t a H
    s := in8 m c t a H }

/-- The word compare of a lane with the middle of its tile, as a select between the two heads of the tile: at lane `q` of tile `k`
    it gives what a quantity of heads is at the lane's own head. -/
theorem sel_head (f : Fin 8 → ℝ) (k q : ℕ) (hk : k < 4) (hq : q < 128) (x y : EReal) (h : Fin 8) (hh : h.val = (k * 128 + q) / 64)
    (hx : x = ((f ⟨k * 2, by omega⟩ : ℝ) : EReal)) (hy : y = ((f ⟨k * 2 + 1, by omega⟩ : ℝ) : EReal)) :
    (Scalar.select (IntOp.cmpi .slt (BitVec.ofNat 32 q) 64#32) x y) = ((f h : ℝ) : EReal) := by
  rw [show (64#32 : BitVec 32) = BitVec.ofNat 32 64 from rfl, WordCmp.cmpi_slt_ofNat (by omega) (by omega), WordCmp.select_ofBool]
  by_cases c : q < 64
  · rw [decide_eq_true c, if_pos rfl, hx, show h = ⟨k * 2, by omega⟩ from Fin.ext (by show h.val = k * 2; omega)]
  · rw [decide_eq_false c, if_neg (by simp), hy, show h = ⟨k * 2 + 1, by omega⟩ from Fin.ext (by show h.val = k * 2 + 1; omega)]
/-- The mix of a window's rows without its bias. -/
def mix0 (a : Args) (r : Fin 4096) (n : Fin 512) : ℝ := ∑ j, a.w (Args.head n) (Args.pos r) j * a.vn (Args.row r j) n
/-- The four tiles of a row's mix, side by side. -/
def tiles (W : Fin 4 → Fin 256 → Fin 128 → EReal) (N : Fin 128 → Fin 512 → EReal) (p : Fin 128) (q : Fin 512) : EReal :=
    if h : q.val < 128 then
      Scalar.select (IntOp.cmpi .slt (BitVec.ofNat 32 q.val) 64#32) (∑ x, W 0 ⟨p.val, by omega⟩ x * N x q) (∑ x, W 0 ⟨128 + p.val, by omega⟩ x * N x q)
    else if h : q.val - 128 < 128 then
      Scalar.select (IntOp.cmpi .slt (BitVec.ofNat 32 (q.val - 128)) 64#32)
        (∑ x, W 1 ⟨p.val, by omega⟩ x * N x ⟨128 + (q.val - 128), by omega⟩) (∑ x, W 1 ⟨128 + p.val, by omega⟩ x * N x ⟨128 + (q.val - 128), by omega⟩)
    else if h : q.val - 128 - 128 < 128 then
      Scalar.select (IntOp.cmpi .slt (BitVec.ofNat 32 (q.val - 128 - 128)) 64#32)
        (∑ x, W 2 ⟨p.val, by omega⟩ x * N x ⟨256 + (q.val - 128 - 128), by omega⟩)
        (∑ x, W 2 ⟨128 + p.val, by omega⟩ x * N x ⟨256 + (q.val - 128 - 128), by omega⟩)
    else
      Scalar.select (IntOp.cmpi .slt (BitVec.ofNat 32 (q.val - 128 - 128 - 128)) 64#32)
        (∑ x, W 3 ⟨p.val, by omega⟩ x * N x ⟨384 + (q.val - 128 - 128 - 128), by omega⟩)
        (∑ x, W 3 ⟨128 + p.val, by omega⟩ x * N x ⟨384 + (q.val - 128 - 128 - 128), by omega⟩)
/-- They give the mix. -/
theorem mix_sel (a : Args) (r : Fin 4096) (W : Fin 4 → Fin 256 → Fin 128 → EReal)
    (hW : ∀ p q j, W p q j = ((a.w ⟨p.val * 2 + q.val / 128, by omega⟩ ⟨q.val % 128, by omega⟩ j : ℝ) : EReal))
    (N : Fin 128 → Fin 512 → EReal) (hN : ∀ j n, N j n = ((a.vn (Args.row r j) n : ℝ) : EReal)) (p : Fin 128) (hp : p.val = r.val % 128) (q : Fin 512) :
    tiles W N p q = ((mix0 a r q : ℝ) : EReal) := by
  have e : ∀ (k : Fin 4) (i : Fin 256) (n : Fin 512) (e : ℕ) (he : e < 8), n = q → i.val % 128 = p.val → e = k.val * 2 + i.val / 128 →
      ∑ x, W k i x * N x n = (((fun h => ∑ j, a.w h (Args.pos r) j * a.vn (Args.row r j) q) ⟨e, he⟩ : ℝ) : EReal) := by
    intro k i n e he hn hi hh
    subst hn hh
    simp only [hW, hN, ← EReal.coe_mul, coe_sum]
    rw [show (⟨i.val % 128, by omega⟩ : Fin 128) = Args.pos r from Fin.ext (by show i.val % 128 = r.val % 128; omega)]
  have hl := p.isLt
  have hq := q.isLt
  unfold tiles
  split_ifs with h1 h2 h3
  · exact sel_head (fun h => ∑ j, a.w h (Args.pos r) j * a.vn (Args.row r j) q) 0 _ (by omega) h1 _ _ (Args.head q) (by show q.val / 64 = _; omega)
      (e 0 _ _ _ _ rfl (Nat.mod_eq_of_lt hl) (by show _ = 0 * 2 + p.val / 128; omega))
      (e 0 _ _ _ _ rfl (by show (128 + p.val) % 128 = _; omega) (by show _ = 0 * 2 + (128 + p.val) / 128; omega))
  · exact sel_head (fun h => ∑ j, a.w h (Args.pos r) j * a.vn (Args.row r j) q) 1 _ (by omega) h2 _ _ (Args.head q) (by show q.val / 64 = _; omega)
      (e 1 _ _ _ _ (Fin.ext (by show 128 + (q.val - 128) = _; omega)) (Nat.mod_eq_of_lt hl) (by show _ = 1 * 2 + p.val / 128; omega))
      (e 1 _ _ _ _ (Fin.ext (by show 128 + (q.val - 128) = _; omega)) (by show (128 + p.val) % 128 = _; omega)
        (by show _ = 1 * 2 + (128 + p.val) / 128; omega))
  · exact sel_head (fun h => ∑ j, a.w h (Args.pos r) j * a.vn (Args.row r j) q) 2 _ (by omega) h3 _ _ (Args.head q) (by show q.val / 64 = _; omega)
      (e 2 _ _ _ _ (Fin.ext (by show 256 + (q.val - 128 - 128) = _; omega)) (Nat.mod_eq_of_lt hl) (by show _ = 2 * 2 + p.val / 128; omega))
      (e 2 _ _ _ _ (Fin.ext (by show 256 + (q.val - 128 - 128) = _; omega)) (by show (128 + p.val) % 128 = _; omega)
        (by show _ = 2 * 2 + (128 + p.val) / 128; omega))
  · exact sel_head (fun h => ∑ j, a.w h (Args.pos r) j * a.vn (Args.row r j) q) 3 _ (by omega) (by omega) _ _ (Args.head q) (by show q.val / 64 = _; omega)
      (e 3 _ _ _ _ (Fin.ext (by show 384 + (q.val - 128 - 128 - 128) = _; omega)) (Nat.mod_eq_of_lt hl) (by show _ = 3 * 2 + p.val / 128; omega))
      (e 3 _ _ _ _ (Fin.ext (by show 384 + (q.val - 128 - 128 - 128) = _; omega)) (by show (128 + p.val) % 128 = _; omega)
        (by show _ = 3 * 2 + (128 + p.val) / 128; omega))
/-- The derivative of the unit, as the body computes it. -/
theorem geluD_coe (U : Ideal .f32) (u : ℝ) (h : @Eq EReal U (u : EReal)) :
    @Eq EReal (Ideal.ofBits .f32 0x3F000000#32 * (1 + Ideal.tanh (Ideal.ofBits .f32 0x3F4C422A#32 * (U + (Named.named κ "gelu_c" 0x3D372713#32 : Ideal .f32) * (U * U * U)))) +
      Ideal.ofBits .f32 0x3F000000#32 * U *
        (1 - Ideal.tanh (Ideal.ofBits .f32 0x3F4C422A#32 * (U + (Named.named κ "gelu_c" 0x3D372713#32 : Ideal .f32) * (U * U * U))) *
          Ideal.tanh (Ideal.ofBits .f32 0x3F4C422A#32 * (U + (Named.named κ "gelu_c" 0x3D372713#32 : Ideal .f32) * (U * U * U)))) *
        (Ideal.ofBits .f32 0x3F4C422A#32 * (1 + (Named.named κ "gelu_c3" 0x3E095D4F#32 : Ideal .f32) * (U * U)))) ((geluD u : ℝ) : EReal) := by
  simp only [h, named_c, named_c3, ofBits_geluK, ofBits_half, tanh_coe, ← EReal.coe_mul, ← EReal.coe_add, ← EReal.coe_sub, ← EReal.coe_one]
  rfl
/-- The gradient of the first half, of what it is a product of. -/
theorem du_of (a : Args) (r : Fin 4096) (n : Fin 512) (D M S E : EReal) (hD : D = ((a.d r n : ℝ) : EReal)) (hM : M = ((mix0 a r n : ℝ) : EReal))
    (hS : S = ((a.s (Args.head n) (Args.pos r) : ℝ) : EReal)) (hE : E = ((geluD (a.u r n) : ℝ) : EReal)) :
    D * (M + S) * E = ((a.du r n : ℝ) : EReal) := by
  subst hD hM hS hE
  simp only [← EReal.coe_mul, ← EReal.coe_add]
  rfl

/-- The gradient of the first half, as the body computes it at row `i` of a block, which is place `p` of its window of 128 rows. -/
theorem du_tile {t : Fin cfg0.N} {a : Args} {U X : FVec Ideal S512x512 .bf16} {D L : FVec Ideal S512x512 .f32} {N : FVec Ideal S512x512 .bf16}
    {R : FVec Ideal S512x1 .f32} {G : FVec Ideal S1x512 .f32} {W T : FVec Ideal S4x256x128 .bf16} {S : FVec Ideal S128x512 .f32}
    (hR : Reads t a U X D L N R G W T S) (o : ℕ) (ho : o % 128 = 0) (p : Fin 128) (q : Fin 512) (i : Fin 512) (hi : i.val = o + p.val)
    (r : Fin 128 → Fin 512) (hr : ∀ j, (r j).val = o + j.val) (E : EReal) (hE : E = ((geluD (a.u (at_ t i) q) : ℝ) : EReal)) :
    @Eq EReal (D (ix2 i q) * (tiles (fun p q j => W (ix3 p q j)) (fun j n => N (ix2 (r j) n)) p q + S (ix2 p q)) * E)
      ((a.du (at_ t i) q : ℝ) : EReal) :=
  have hp : p.val = (at_ t i).val % 128 := by show p.val = (t.val * 512 + i.val) % 128; have := p.isLt; omega
  du_of a (at_ t i) q _ _ _ _ (hR.d i q)
    (mix_sel a (at_ t i) (fun p q j => W (ix3 p q j)) hR.w (fun j n => N (ix2 (r j) n)) (fun j n => (hR.n _ n).trans
      (congrArg (fun x => ((a.vn x n : ℝ) : EReal)) (Fin.ext (by
        show t.val * 512 + (r j).val = (t.val * 512 + i.val) / 128 * 128 + j.val; have := hr j; have := p.isLt; omega)))) p hp q)
    ((hR.s p q).trans (congrArg (fun x => ((a.s (Args.head q) x : ℝ) : EReal)) (Fin.ext hp))) hE

/-- A block of a result that lies by rows, and its entry at a place of a tile of the block. -/
def rowsBlk (t : Fin cfg0.N) (f : Fin 4096 → Fin 512 → ℝ) (y : S512x512.Idx) : EReal := ((f (at_ t (y 0)) (y 1) : ℝ) : EReal)
/-- An entry of a tile of the block, by its place in the tile. -/
theorem rowsBlk_emb (t : Fin cfg0.N) (f : Fin 4096 → Fin 512 → ℝ) (o o' r w : ℕ)
    (inb : ∀ i : Fin S512x512.rank, (![o, o'] : Fin 2 → ℕ) i + (![r, w] : Fin 2 → ℕ) i ≤ S512x512.size i) (x : (⟨2, ![r, w]⟩ : Shape).Idx)
    (p : Fin r) (q : Fin w) (hx : x = ix2 p q) (k : Fin 4096) (n : Fin 512) (hk : k.val = t.val * 512 + (o + p.val)) (hn : n.val = o' + q.val) :
    ((f k n : ℝ) : EReal) = rowsBlk t f ((Rect.unit (s := S512x512) ![o, o'] ![r, w] inb).emb x) := by
  subst hx
  unfold rowsBlk
  refine congrArg₂ (fun k n => ((f k n : ℝ) : EReal)) (Fin.ext ?_) (Fin.ext ?_)
  · rw [hk]; show _ = t.val * 512 + (o + 1 * p.val); omega
  · rw [hn]; show _ = o' + 1 * q.val; omega
set_option maxHeartbeats 1000000 in
include H in
/-- The gradient of the first half, on a block. -/
theorem out9 (y : S512x512.Idx) : @Eq EReal ((outsAt0 m c t.val t.isLt).1 y) ((a.du (at_ t (y 0)) (y 1) : ℝ) : EReal) := by
  have hR := reads m c t a H
  have ht := lt_of_lt_of_eq t.isLt N_0
  by_cases hA : t.val % 8 = 0
  all_goals
    first | rw [outsAt0_A m c t hA] | rw [outsAt0_B m c t hA]
    frame_open
    simp (disch := decide) only [↓ View.readCov_skip, ↓ View.readCov_cons_toLoadRect, ↓ View.readCov_fill]
    frame_out
    simp only [k0_pay20, k0_pay21, k0_pay22, k0_pay23, k0_pay24, k0_pay25]
    revert hR
    generalize k0_pay17 (F := Ideal) (iblk m c 2 t) (iblk m c 3 t) = D
    generalize k0_pay12 (F := Ideal) (iblk m c 4 t) (iblk m c 5 t) (k0_pay11 (X0_1 m c t)) = N
    generalize k0_pay11 (F := Ideal) (X0_1 m c t) = L
    generalize k0_pay10 (F := Ideal) (X0_1 m c t) = R
    generalize X0_1 m c t = X
    generalize X0_0 m c t = U
    generalize iblk m c 4 t = G
    generalize iblk m c 6 t = W
    generalize iblk m c 7 t = T
    generalize iblk m c 8 t = S
    intro hR
    refine View.canon_apply_of_pieces (Val := Elt Ideal) (S := S512x512) (e := .bf16) (rowsBlk t a.du) _ ?_ y ?_
    · refine View.PiecesOf.mem (Val := Elt Ideal) (s := S512x512) (e := .bf16) (G := rowsBlk t a.du) ?_
      refine ⟨fun x => ?_, fun x => ?_, fun x => ?_, fun x => ?_, trivial⟩
      all_goals
        obtain ⟨p, q, rfl⟩ : ∃ (p : Fin 128) (q : Fin 512), x = (ix2 p q : (⟨2, ![128, 512]⟩ : Shape).Idx) := ⟨x 0, x 1, eq_ix2 x⟩
      · refine Eq.trans ?_ (rowsBlk_emb t a.du _ _ _ _ (by decide) _ p q rfl (at_ t ⟨384 + p.val, by omega⟩) q rfl (Nat.zero_add _).symm)
        unfold_payloads
        pointwise
        exact du_tile hR 384 rfl p q ⟨384 + p.val, by omega⟩ rfl (fun j => ⟨384 + j.val, by omega⟩) (fun _ => rfl) _ (geluD_coe _ _ (hR.u _ q))
      · refine Eq.trans ?_ (rowsBlk_emb t a.du _ _ _ _ (by decide) _ p q rfl (at_ t ⟨256 + p.val, by omega⟩) q rfl (Nat.zero_add _).symm)
        unfold_payloads
        pointwise
        exact du_tile hR 256 rfl p q ⟨256 + p.val, by omega⟩ rfl (fun j => ⟨256 + j.val, by omega⟩) (fun _ => rfl) _ (geluD_coe _ _ (hR.u _ q))
      · refine Eq.trans ?_ (rowsBlk_emb t a.du _ _ _ _ (by decide) _ p q rfl (at_ t ⟨128 + p.val, by omega⟩) q rfl (Nat.zero_add _).symm)
        unfold_payloads
        pointwise
        exact du_tile hR 128 rfl p q ⟨128 + p.val, by omega⟩ rfl (fun j => ⟨128 + j.val, by omega⟩) (fun _ => rfl) _ (geluD_coe _ _ (hR.u _ q))
      · refine Eq.trans ?_ (rowsBlk_emb t a.du _ _ _ _ (by decide) _ p q rfl (at_ t ⟨p.val, by omega⟩) q (congrArg (t.val * 512 + ·) (Nat.zero_add _).symm) (Nat.zero_add _).symm)
        unfold_payloads
        pointwise
        exact du_tile hR 0 rfl p q ⟨p.val, by omega⟩ (Nat.zero_add _).symm (fun j => ⟨j.val, by omega⟩) (fun _ => (Nat.zero_add _).symm) _ (geluD_coe _ _ (hR.u _ q))
    · exact View.cover_of_tiledL _ ![128, 512] (by sl_kernel_rfl) y
end Cert.SguIdeal.Closed
end
-- ==== Proof.Sgu.Dvn.lean ====
/- The spatial gating unit's gradient call: the gradient of the rows that the mix takes, tile by tile. -/
module

public import proofs.«01_k».proof.Proof.Sgu.Facts

@[expose] public section

set_option maxRecDepth 16384

noncomputable section
namespace Cert.SguIdeal.Closed
open Cert.SguIdeal Cert.SguIdeal.Gen Idealize.ShloMosaic Idealize.ShloMosaic.TcCoe Idealize.SL.Sem Cert.Reals
open Idealize.ShloMosaic.Pipeline (Dat)
variable (t : Fin cfg0.N) (a : Args) (U X : FVec Ideal S512x512 .bf16) (D : FVec Ideal S512x512 .f32) (L : FVec Ideal S512x512 .f32)
    (N : FVec Ideal S512x512 .bf16) (R : FVec Ideal S512x1 .f32) (G : FVec Ideal S1x512 .f32) (W T : FVec Ideal S4x256x128 .bf16) (S : FVec Ideal S128x512 .f32)

/-- The loads of the four windows of the first half and of the four pairs of transposed weights, and the first window of the cotangent. -/
abbrev U0 := View.ld (Val := Elt Ideal) (e' := .bf16) U (Rect.unit (s := S512x512) ![0, 0] ![128, 512] inb_S512x512_S128x512_0_0)
abbrev U1 := View.ld (Val := Elt Ideal) (e' := .bf16) U (Rect.unit (s := S512x512) ![128, 0] ![128, 512] inb_S512x512_S128x512_128_0)
abbrev U2 := View.ld (Val := Elt Ideal) (e' := .bf16) U (Rect.unit (s := S512x512) ![256, 0] ![128, 512] inb_S512x512_S128x512_256_0)
abbrev U3 := View.ld (Val := Elt Ideal) (e' := .bf16) U (Rect.unit (s := S512x512) ![384, 0] ![128, 512] inb_S512x512_S128x512_384_0)
abbrev T0 := View.ld (Val := Elt Ideal) (e' := .bf16) T (Rect.unit (s := S4x256x128) ![0, 0, 0] ![1, 256, 128] inb_S4x256x128_S1x256x128_0_0_0)
abbrev T1 := View.ld (Val := Elt Ideal) (e' := .bf16) T (Rect.unit (s := S4x256x128) ![1, 0, 0] ![1, 256, 128] inb_S4x256x128_S1x256x128_1_0_0)
abbrev T2 := View.ld (Val := Elt Ideal) (e' := .bf16) T (Rect.unit (s := S4x256x128) ![2, 0, 0] ![1, 256, 128] inb_S4x256x128_S1x256x128_2_0_0)
abbrev T3 := View.ld (Val := Elt Ideal) (e' := .bf16) T (Rect.unit (s := S4x256x128) ![3, 0, 0] ![1, 256, 128] inb_S4x256x128_S1x256x128_3_0_0)
abbrev D0 := extractStridedSlice S128x512 ![0, 0] D slices_S512x512_o0_0_S128x512

/-- The stores of the gradient of the rows that the mix takes. -/
abbrev dvnPieces : List (View.Piece (Elt Ideal) S512x512 .f32) :=
  [⟨Rect.unit ![384, 384] ![128, 128] inb_S512x512_S128x128_384_384,
      k0_pay125 k0_pay7 (k0_pay112 (k0_pay104 (U3 U)) (k0_pay105 D) (k0_pay109 (k0_pay104 (U3 U))) (FloatOps.ofBits FTy.f32 1056964608#32)) (T3 T)⟩,
    ⟨Rect.unit ![384, 256] ![128, 128] inb_S512x512_S128x128_384_256,
      k0_pay121 k0_pay7 (k0_pay112 (k0_pay104 (U3 U)) (k0_pay105 D) (k0_pay109 (k0_pay104 (U3 U))) (FloatOps.ofBits FTy.f32 1056964608#32)) (T2 T)⟩,
    ⟨Rect.unit ![384, 128] ![128, 128] inb_S512x512_S128x128_384_128,
      k0_pay118 (k0_pay117 k0_pay7 (k0_pay104 (U3 U)) (k0_pay105 D) (k0_pay109 (k0_pay104 (U3 U))) (FloatOps.ofBits FTy.f32 1056964608#32) (T1 T))⟩,
    ⟨Rect.unit ![384, 0] ![128, 128] inb_S512x512_S128x128_384_0,
      k0_pay114 k0_pay7 (k0_pay104 (U3 U)) (k0_pay105 D) (k0_pay109 (k0_pay104 (U3 U))) (FloatOps.ofBits FTy.f32 1056964608#32) (T0 T)⟩,
    ⟨Rect.unit ![256, 384] ![128, 128] inb_S512x512_S128x128_256_384,
      k0_pay102 (k0_pay101 k0_pay7 (k0_pay86 (k0_pay76 (U2 U)) (k0_pay77 D)) (T3 T))⟩,
    ⟨Rect.unit ![256, 256] ![128, 128] inb_S512x512_S128x128_256_256,
      k0_pay98 k0_pay7 (k0_pay86 (k0_pay76 (U2 U)) (k0_pay77 D)) (T2 T)⟩,
    ⟨Rect.unit ![256, 128] ![128, 128] inb_S512x512_S128x128_256_128,
      k0_pay92 k0_pay7 (k0_pay86 (k0_pay76 (U2 U)) (k0_pay77 D)) (T1 T)⟩,
    ⟨Rect.unit ![256, 0] ![128, 128] inb_S512x512_S128x128_256_0,
      k0_pay89 k0_pay7 (k0_pay87 (k0_pay76 (U2 U)) (k0_pay77 D)) (k0_pay88 (T0 T)) (constant S256x128 FTy.f32 0#32)⟩,
    ⟨Rect.unit ![128, 384] ![128, 128] inb_S512x512_S128x128_128_384,
      k0_pay71 k0_pay7 (k0_pay58 (k0_pay44 (U1 U)) (k0_pay45 D)) (T3 T)⟩,
    ⟨Rect.unit ![128, 256] ![128, 128] inb_S512x512_S128x128_128_256,
      k0_pay68 k0_pay7 (k0_pay66 (k0_pay58 (k0_pay44 (U1 U)) (k0_pay45 D))) (k0_pay67 (T2 T)) (constant S256x128 FTy.f32 0#32)⟩,
    ⟨Rect.unit ![128, 128] ![128, 128] inb_S512x512_S128x128_128_128,
      k0_pay64 k0_pay7 (k0_pay58 (k0_pay44 (U1 U)) (k0_pay45 D)) (T1 T)⟩,
    ⟨Rect.unit ![128, 0] ![128, 128] inb_S512x512_S128x128_128_0,
      k0_pay60 k0_pay7 (k0_pay44 (U1 U)) (k0_pay45 D) (T0 T)⟩,
    ⟨Rect.unit ![0, 384] ![128, 128] inb_S512x512_S128x128_0_384,
      k0_pay42 k0_pay7 (k0_pay30 (k0_pay19 (U0 U)) (D0 D)) (T3 T)⟩,
    ⟨Rect.unit ![0, 256] ![128, 128] inb_S512x512_S128x128_0_256,
      k0_pay38 k0_pay7 (k0_pay30 (k0_pay19 (U0 U)) (D0 D)) (T2 T)⟩,
    ⟨Rect.unit ![0, 128] ![128, 128] inb_S512x512_S128x128_0_128,
      k0_pay35 k0_pay7 (k0_pay34 (k0_pay19 (U0 U)) (D0 D)) (T1 T)⟩,
    ⟨Rect.unit ![0, 0] ![128, 128] inb_S512x512_S128x128_0_0,
      k0_pay32 k0_pay7 (k0_pay19 (U0 U)) (D0 D) (T0 T)⟩]

variable {t a U X D L N R G W T S}
/-- The unit at an entry, as the body computes it. -/
abbrev geluE (U : EReal) : EReal :=
  Ideal.ofBits .f32 0x3F000000#32 * U * (1 + Ideal.tanh (Ideal.ofBits .f32 0x3F4C422A#32 * (U + (Named.named κ "gelu_c" 0x3D372713#32 : Ideal .f32) * (U * U * U))))
/-- The unit's value at a real, as the body computes it. -/
theorem geluE_coe (u : ℝ) : geluE (u : EReal) = ((gelu u : ℝ) : EReal) := by
  simp only [geluE, named_c, ofBits_geluK, ofBits_half, tanh_coe, ← EReal.coe_mul, ← EReal.coe_add, ← EReal.coe_one]
  rfl
/-- One tile of the gradient of the rows that the mix takes. -/
theorem dvn_tile (hR : Reads t a U X D L N R G W T S) (o o' : ℕ) (k : Fin 4)
    (inb : ∀ i : Fin S512x512.rank, (![o, o'] : Fin 2 → ℕ) i + (![128, 128] : Fin 2 → ℕ) i ≤ S512x512.size i) (p q : Fin 128)
    (r : Fin 128 → Fin 512) (n : Fin 512) (ho : o % 128 = 0) (ho' : o' = k.val * 128) (hr : ∀ j, (r j).val = o + j.val) (hn : n.val = o' + q.val) :
    Scalar.select (IntOp.cmpi .slt (BitVec.ofNat 32 q.val) 64#32)
      (∑ x, T (ix3 k ⟨p.val, by omega⟩ x) * (D (ix2 (r x) n) * geluE (U (ix2 (r x) n))))
      (∑ x, T (ix3 k ⟨128 + p.val, by omega⟩ x) * (D (ix2 (r x) n) * geluE (U (ix2 (r x) n)))) =
    rowsBlk t a.dvn ((Rect.unit (s := S512x512) ![o, o'] ![128, 128] inb).emb (ix2 p q)) := by
  have ht := lt_of_lt_of_eq t.isLt N_0
  have hp := p.isLt
  have hrp := hr p
  refine Eq.trans ?_ (rowsBlk_emb t a.dvn o o' 128 128 inb _ p q rfl (at_ t (r p)) n (by show t.val * 512 + (r p).val = _; omega) hn)
  have e : ∀ (i : Fin 256) (e : ℕ) (he : e < 8), i.val % 128 = p.val → e = k.val * 2 + i.val / 128 →
      ∑ x, T (ix3 k i x) * (D (ix2 (r x) n) * geluE (U (ix2 (r x) n))) =
        (((fun h => ∑ j, a.w h j (Args.pos (at_ t (r p))) * a.dm (Args.row (at_ t (r p)) j) n) ⟨e, he⟩ : ℝ) : EReal) := by
    intro i e he hi hh
    subst hh
    rw [← coe_sum]
    refine Finset.sum_congr rfl fun j _ => ?_
    rw [hR.wt, hR.d, hR.u, geluE_coe, ← EReal.coe_mul, ← EReal.coe_mul]
    rw [show (⟨i.val % 128, by omega⟩ : Fin 128) = Args.pos (at_ t (r p)) from Fin.ext (by show i.val % 128 = (t.val * 512 + (r p).val) % 128; omega),
      show at_ t (r j) = Args.row (at_ t (r p)) j from Fin.ext (by
        show t.val * 512 + (r j).val = (t.val * 512 + (r p).val) / 128 * 128 + j.val; have := hr j; omega)]
    rfl
  exact sel_head (fun h => ∑ j, a.w h j (Args.pos (at_ t (r p))) * a.dm (Args.row (at_ t (r p)) j) n) k.val q.val k.isLt q.isLt _ _ (Args.head n)
    (by show n.val / 64 = _; omega) (e _ _ _ (Nat.mod_eq_of_lt hp) (by show _ = k.val * 2 + p.val / 128; omega))
    (e _ _ _ (by show (128 + p.val) % 128 = _; omega) (by show _ = k.val * 2 + (128 + p.val) / 128; omega))

set_option maxHeartbeats 1000000 in
/-- Every store of it. -/
theorem dvn_pieces (hR : Reads t a U X D L N R G W T S) : View.PiecesOf (Val := Elt Ideal) (s := S512x512) (e := .f32) (rowsBlk t a.dvn) (dvnPieces U D T) := by
  have ht := lt_of_lt_of_eq t.isLt N_0
  refine ⟨fun x => ?_, fun x => ?_, fun x => ?_, fun x => ?_, fun x => ?_, fun x => ?_, fun x => ?_, fun x => ?_, fun x => ?_, fun x => ?_, fun x => ?_,
    fun x => ?_, fun x => ?_, fun x => ?_, fun x => ?_, fun x => ?_, trivial⟩
  all_goals
    obtain ⟨p, q, rfl⟩ : ∃ (p : Fin 128) (q : Fin 128), x = (ix2 p q : (⟨2, ![128, 128]⟩ : Shape).Idx) := ⟨x 0, x 1, eq_ix2 x⟩
    simp only [U0, U1, U2, U3, T0, T1, T2, T3, D0]
    unfold_payloads
    pointwise
  · exact dvn_tile hR 384 384 3 (by decide) p q (fun j => ⟨384 + j.val, by omega⟩) ⟨384 + q.val, by omega⟩ rfl rfl (fun _ => rfl) rfl
  · exact dvn_tile hR 384 256 2 (by decide) p q (fun j => ⟨384 + j.val, by omega⟩) ⟨256 + q.val, by omega⟩ rfl rfl (fun _ => rfl) rfl
  · exact dvn_tile hR 384 128 1 (by decide) p q (fun j => ⟨384 + j.val, by omega⟩) ⟨128 + q.val, by omega⟩ rfl rfl (fun _ => rfl) rfl
  · exact dvn_tile hR 384 0 0 (by decide) p q (fun j => ⟨384 + j.val, by omega⟩) ⟨q.val, by omega⟩ rfl rfl (fun _ => rfl) (Nat.zero_add _).symm
  · exact dvn_tile hR 256 384 3 (by decide) p q (fun j => ⟨256 + j.val, by omega⟩) ⟨384 + q.val, by omega⟩ rfl rfl (fun _ => rfl) rfl
  · exact dvn_tile hR 256 256 2 (by decide) p q (fun j => ⟨256 + j.val, by omega⟩) ⟨256 + q.val, by omega⟩ rfl rfl (fun _ => rfl) rfl
  · exact dvn_tile hR 256 128 1 (by decide) p q (fun j => ⟨256 + j.val, by omega⟩) ⟨128 + q.val, by omega⟩ rfl rfl (fun _ => rfl) rfl
  · exact dvn_tile hR 256 0 0 (by decide) p q (fun j => ⟨256 + j.val, by omega⟩) ⟨q.val, by omega⟩ rfl rfl (fun _ => rfl) (Nat.zero_add _).symm
  · exact dvn_tile hR 128 384 3 (by decide) p q (fun j => ⟨128 + j.val, by omega⟩) ⟨384 + q.val, by omega⟩ rfl rfl (fun _ => rfl) rfl
  · exact dvn_tile hR 128 256 2 (by decide) p q (fun j => ⟨128 + j.val, by omega⟩) ⟨256 + q.val, by omega⟩ rfl rfl (fun _ => rfl) rfl
  · exact dvn_tile hR 128 128 1 (by decide) p q (fun j => ⟨128 + j.val, by omega⟩) ⟨128 + q.val, by omega⟩ rfl rfl (fun _ => rfl) rfl
  · exact dvn_tile hR 128 0 0 (by decide) p q (fun j => ⟨128 + j.val, by omega⟩) ⟨q.val, by omega⟩ rfl rfl (fun _ => rfl) (Nat.zero_add _).symm
  · exact dvn_tile hR 0 384 3 (by decide) p q (fun j => ⟨j.val, by omega⟩) ⟨384 + q.val, by omega⟩ rfl rfl (fun _ => (Nat.zero_add _).symm) rfl
  · exact dvn_tile hR 0 256 2 (by decide) p q (fun j => ⟨j.val, by omega⟩) ⟨256 + q.val, by omega⟩ rfl rfl (fun _ => (Nat.zero_add _).symm) rfl
  · exact dvn_tile hR 0 128 1 (by decide) p q (fun j => ⟨j.val, by omega⟩) ⟨128 + q.val, by omega⟩ rfl rfl (fun _ => (Nat.zero_add _).symm) rfl
  · exact dvn_tile hR 0 0 0 (by decide) p q (fun j => ⟨j.val, by omega⟩) ⟨q.val, by omega⟩ rfl rfl (fun _ => (Nat.zero_add _).symm) (Nat.zero_add _).symm

/-- Read back whole, the stores give the gradient of the rows that the mix takes. -/
theorem dvn_read (hR : Reads t a U X D L N R G W T S) (p q : Fin 512) :
    @Eq EReal ((View.whole cc0_scratch0).readCov (Val := Elt Ideal) (dvnPieces U D T)
      (Rect.unit (s := S512x512) ![0, 0] ![512, 512] inb_S512x512_S512x512_0_0).toLoadRect (ix2 p q)) ((a.dvn (at_ t p) q : ℝ) : EReal) := by
  rw [View.readCov_eq_canon']
  refine (View.canon_apply_of_pieces (Val := Elt Ideal) (S := S512x512) (e := .f32) (rowsBlk t a.dvn) _ (dvn_pieces hR).mem _
    (View.cover_of_tiledL _ ![128, 128] (by sl_kernel_rfl) _)).trans ?_
  refine (rowsBlk_emb t a.dvn 0 0 512 512 inb_S512x512_S512x512_0_0 _ p q rfl (at_ t p) q (by show t.val * 512 + p.val = t.val * 512 + (0 + p.val); omega) (Nat.zero_add _).symm).symm

end Cert.SguIdeal.Closed
end
-- ==== Proof.Sgu.Dv.lean ====
/- The spatial gating unit's gradient call: the gradient of its second half, by rows, and of both halves, by columns. -/
module

public import proofs.«01_k».proof.Proof.Sgu.Dvn

@[expose] public section

set_option maxRecDepth 16384

noncomputable section

namespace Cert.SguIdeal.Closed

open Cert.SguIdeal Cert.SguIdeal.Gen Idealize.ShloMosaic Idealize.ShloMosaic.TcCoe Idealize.SL.Sem Cert.Reals
open Idealize.ShloMosaic.Pipeline (Dat)

/-- The gradient of the second half, as the body computes it. -/
theorem dv_of {t : Fin cfg0.N} {a : Args} {U X : FVec Ideal S512x512 .bf16} {D L : FVec Ideal S512x512 .f32} {N : FVec Ideal S512x512 .bf16}
    {R : FVec Ideal S512x1 .f32} {G : FVec Ideal S1x512 .f32} {W T : FVec Ideal S4x256x128 .bf16} {S : FVec Ideal S128x512 .f32}
    (hR : Reads t a U X D L N R G W T S) (V : FVec Ideal S512x512 .f32) (hV : ∀ p q, @Eq EReal (V (ix2 p q)) ((a.dvn (at_ t p) q : ℝ) : EReal))
    (p q : Fin 512) (E : EReal) (hE : E = ((geluD (a.v (at_ t p) q) : ℝ) : EReal)) :
    @Eq EReal (R (ix2 p 0) *
        (V (ix2 p q) * G (ix2 0 q) - Ideal.div (∑ x, V (ix2 p x) * G (ix2 0 x)) (Ideal.ofBits FTy.f32 1140850688#32) -
          L (ix2 p q) * Ideal.div (∑ x, V (ix2 p x) * G (ix2 0 x) * L (ix2 p x)) (Ideal.ofBits FTy.f32 1140850688#32)) * E)
      ((a.dv (at_ t p) q : ℝ) : EReal) := by
  subst hE
  simp only [hV, hR.r, hR.g, hR.l, ofBits_512, ← EReal.coe_mul, ← EReal.coe_add, ← EReal.coe_sub, coe_sum, div_512]
  rfl

variable (m : (ℓ : Loc nD τ sig) → Buf (Elt Ideal) ℓ) (c : Dev nD) (t : Fin cfg0.N) (a : Args) (H : Holds m c a)

set_option maxHeartbeats 1000000 in
include H in
/-- The gradient of the second half, on a block. -/
theorem out10 (y : S512x512.Idx) : @Eq EReal ((outsAt0 m c t.val t.isLt).2.1 y) ((a.dv (at_ t (y 0)) (y 1) : ℝ) : EReal) := by
  have hR := reads m c t a H
  by_cases hA : t.val % 8 = 0
  all_goals
    first | rw [outsAt0_A m c t hA] | rw [outsAt0_B m c t hA]
    frame_open
    simp (disch := decide) only [↓ View.readCov_skip, ↓ View.readCov_cons_toLoadRect, ↓ View.readCov_fill]
    frame_out
    simp only [k0_pay20, k0_pay21, k0_pay22, k0_pay23, k0_pay24, k0_pay25]
    revert hR
    generalize k0_pay17 (F := Ideal) (iblk m c 2 t) (iblk m c 3 t) = D
    generalize k0_pay12 (F := Ideal) (iblk m c 4 t) (iblk m c 5 t) (k0_pay11 (X0_1 m c t)) = N
    generalize k0_pay11 (F := Ideal) (X0_1 m c t) = L
    generalize k0_pay10 (F := Ideal) (X0_1 m c t) = R
    generalize X0_1 m c t = X
    generalize X0_0 m c t = U
    generalize iblk m c 4 t = G
    generalize iblk m c 6 t = W
    generalize iblk m c 7 t = T
    generalize iblk m c 8 t = S
    intro hR
    have hV := dvn_read hR
    obtain ⟨V, hV'⟩ : ∃ V, V = (View.whole cc0_scratch0).readCov (Val := Elt Ideal) (dvnPieces U D T)
      (Rect.unit (s := S512x512) ![0, 0] ![512, 512] inb_S512x512_S512x512_0_0).toLoadRect := ⟨_, rfl⟩
    rw [← hV'] at hV ⊢
    obtain ⟨p, q, rfl⟩ : ∃ (p : Fin 512) (q : Fin 512), y = (ix2 p q : (⟨2, ![512, 512]⟩ : Shape).Idx) := ⟨y 0, y 1, eq_ix2 y⟩
    unfold_payloads
    pointwise
    exact dv_of hR V hV p q _ (geluD_coe _ _ (hR.v p q))

/-- The gradients of both halves, side by side. -/
def both (a : Args) (k : Fin 1024) (r : Fin 4096) : ℝ := if h : k.val < 512 then a.du r ⟨k.val, h⟩ else a.dv r ⟨k.val - 512, by omega⟩
/-- The first 512 of the two halves. -/
theorem both_lo (a : Args) (k : Fin 512) (r : Fin 4096) : both a ⟨k.val, by omega⟩ r = a.du r k := dif_pos k.isLt
/-- The last 512 of the two halves. -/
theorem both_hi (a : Args) (k : Fin 512) (r : Fin 4096) : both a ⟨512 + k.val, by omega⟩ r = a.dv r k :=
  (dif_neg (by simp)).trans (congrArg (a.dv r) (Fin.ext (Nat.add_sub_cancel_left _ _)))

/-- A block of a result that lies by columns, and its entry at a place of a tile of the block. -/
def colsBlk (t : Fin cfg0.N) (f : Fin 1024 → Fin 4096 → ℝ) (y : S1024x512.Idx) : EReal := ((f (y 0) (at_ t (y 1)) : ℝ) : EReal)
/-- An entry of a tile of the block, by its place in the tile. -/
theorem colsBlk_emb (t : Fin cfg0.N) (f : Fin 1024 → Fin 4096 → ℝ) (o o' r w : ℕ)
    (inb : ∀ i : Fin S1024x512.rank, (![o, o'] : Fin 2 → ℕ) i + (![r, w] : Fin 2 → ℕ) i ≤ S1024x512.size i) (x : (⟨2, ![r, w]⟩ : Shape).Idx)
    (q : Fin r) (p : Fin w) (hx : x = ix2 q p) (n : Fin 1024) (i : Fin 512) (hn : n.val = o + q.val) (hi : i.val = o' + p.val) :
    ((f n (at_ t i) : ℝ) : EReal) = colsBlk t f ((Rect.unit (s := S1024x512) ![o, o'] ![r, w] inb).emb x) := by
  subst hx
  unfold colsBlk
  refine congrArg₂ (fun k n => ((f k (at_ t n) : ℝ) : EReal)) (Fin.ext ?_) (Fin.ext ?_)
  · rw [hn]; show _ = o + 1 * q.val; omega
  · rw [hi]; show _ = o' + 1 * p.val; omega

set_option maxHeartbeats 1000000 in
include H in
/-- The gradient of both halves by columns, on a block. -/
theorem out15 (y : S1024x512.Idx) : @Eq EReal ((outsAt0 m c t.val t.isLt).2.2.2.2.2.2 y) (colsBlk t (both a) y) := by
  have hR := reads m c t a H
  by_cases hA : t.val % 8 = 0
  all_goals
    first | rw [outsAt0_A m c t hA] | rw [outsAt0_B m c t hA]
    frame_open
    simp (disch := decide) only [↓ View.readCov_skip, ↓ View.readCov_cons_toLoadRect, ↓ View.readCov_fill]
    frame_out
    simp only [k0_pay20, k0_pay21, k0_pay22, k0_pay23, k0_pay24, k0_pay25]
    revert hR
    generalize k0_pay17 (F := Ideal) (iblk m c 2 t) (iblk m c 3 t) = D
    generalize k0_pay12 (F := Ideal) (iblk m c 4 t) (iblk m c 5 t) (k0_pay11 (X0_1 m c t)) = N
    generalize k0_pay11 (F := Ideal) (X0_1 m c t) = L
    generalize k0_pay10 (F := Ideal) (X0_1 m c t) = R
    generalize X0_1 m c t = X
    generalize X0_0 m c t = U
    generalize iblk m c 4 t = G
    generalize iblk m c 6 t = W
    generalize iblk m c 7 t = T
    generalize iblk m c 8 t = S
    intro hR
    have hV := dvn_read hR
    obtain ⟨V, hV'⟩ : ∃ V, V = (View.whole cc0_scratch0).readCov (Val := Elt Ideal) (dvnPieces U D T)
      (Rect.unit (s := S512x512) ![0, 0] ![512, 512] inb_S512x512_S512x512_0_0).toLoadRect := ⟨_, rfl⟩
    rw [← hV'] at hV ⊢
    refine View.canon_apply_of_pieces (Val := Elt Ideal) (S := S1024x512) (e := .bf16) (colsBlk t (both a)) _ ?_ y ?_
    · refine View.PiecesOf.mem (Val := Elt Ideal) (s := S1024x512) (e := .bf16) (G := colsBlk t (both a)) ?_
      refine ⟨fun x => ?_, fun x => ?_, fun x => ?_, fun x => ?_, fun x => ?_, trivial⟩
      · obtain ⟨q, p, rfl⟩ : ∃ (q : Fin 512) (p : Fin 512), x = (ix2 q p : (⟨2, ![512, 512]⟩ : Shape).Idx) := ⟨x 0, x 1, eq_ix2 x⟩
        refine Eq.trans ?_ (colsBlk_emb t (both a) _ _ _ _ (by decide) _ q p rfl ⟨512 + q.val, by omega⟩ p rfl (Nat.zero_add _).symm)
        rw [both_hi]
        unfold_payloads
        pointwise
        exact dv_of hR V hV p q _ (geluD_coe _ _ (hR.v p q))
      all_goals
        obtain ⟨q, p, rfl⟩ : ∃ (q : Fin 512) (p : Fin 128), x = (ix2 q p : (⟨2, ![512, 128]⟩ : Shape).Idx) := ⟨x 0, x 1, eq_ix2 x⟩
      · refine Eq.trans ?_ (colsBlk_emb t (both a) _ _ _ _ (by decide) _ q p rfl ⟨q.val, by omega⟩ ⟨384 + p.val, by omega⟩ (Nat.zero_add _).symm rfl)
        rw [both_lo]
        unfold_payloads
        pointwise
        exact du_tile hR 384 rfl p q ⟨384 + p.val, by omega⟩ rfl (fun j => ⟨384 + j.val, by omega⟩) (fun _ => rfl) _ (geluD_coe _ _ (hR.u _ q))
      · refine Eq.trans ?_ (colsBlk_emb t (both a) _ _ _ _ (by decide) _ q p rfl ⟨q.val, by omega⟩ ⟨256 + p.val, by omega⟩ (Nat.zero_add _).symm rfl)
        rw [both_lo]
        unfold_payloads
        pointwise
        exact du_tile hR 256 rfl p q ⟨256 + p.val, by omega⟩ rfl (fun j => ⟨256 + j.val, by omega⟩) (fun _ => rfl) _ (geluD_coe _ _ (hR.u _ q))
      · refine Eq.trans ?_ (colsBlk_emb t (both a) _ _ _ _ (by decide) _ q p rfl ⟨q.val, by omega⟩ ⟨128 + p.val, by omega⟩ (Nat.zero_add _).symm rfl)
        rw [both_lo]
        unfold_payloads
        pointwise
        exact du_tile hR 128 rfl p q ⟨128 + p.val, by omega⟩ rfl (fun j => ⟨128 + j.val, by omega⟩) (fun _ => rfl) _ (geluD_coe _ _ (hR.u _ q))
      · refine Eq.trans ?_ (colsBlk_emb t (both a) _ _ _ _ (by decide) _ q p rfl ⟨q.val, by omega⟩ ⟨p.val, by omega⟩ (Nat.zero_add _).symm (Nat.zero_add _).symm)
        rw [both_lo]
        unfold_payloads
        pointwise
        exact du_tile hR 0 rfl p q ⟨p.val, by omega⟩ (Nat.zero_add _).symm (fun j => ⟨j.val, by omega⟩) (fun _ => (Nat.zero_add _).symm) _ (geluD_coe _ _ (hR.u _ q))
    · exact View.cover_of_tiledBy _ ![512, 128] (by sl_kernel_rfl) y

end Cert.SguIdeal.Closed

end
-- ==== Proof.Sgu.Acc.lean ====
/- The spatial gating unit's gradient call: the results that it sums over its grid points. -/
module

public import proofs.«01_k».proof.Proof.Sgu.Dv

@[expose] public section

set_option maxRecDepth 16384

noncomputable section

namespace Cert.SguIdeal.Closed

open Cert.SguIdeal Cert.SguIdeal.Gen Idealize.ShloMosaic Idealize.ShloMosaic.TcCoe Idealize.SL.Sem Cert.Reals
open Idealize.ShloMosaic.Pipeline (Dat)

/-- The window of 128 rows that window `w` of the block at grid point `t` is, and a sum over the four windows of a block. -/
abbrev win_ (t : Fin cfg0.N) (w : Fin 4) : Fin 32 := ⟨t.val * 4 + w.val, by have := lt_of_lt_of_eq t.isLt N_0; omega⟩
def four (t : Fin cfg0.N) (f : Fin 32 → ℝ) : ℝ := ∑ w, f (win_ t w)

/-- A window's part of the weights' gradient. -/
def dwTerm (a : Args) (h : Fin 8) (i j : Fin 128) (k : Fin 32) : ℝ :=
  ∑ e : Fin 64, a.dm (Args.win k i) ⟨h.val * 64 + e.val, by omega⟩ * a.vn (Args.win k j) ⟨h.val * 64 + e.val, by omega⟩

/-- A sum over 128 lanes of which one half counts. -/
theorem half_sum (q : Fin 256) (F : Fin 128 → ℝ) : (∑ x, if x.val < 64 ↔ q.val < 128 then F x else 0) =
    ∑ e : Fin 64, F ⟨q.val / 128 * 64 + e.val, by omega⟩ := by
  refine (Fin.sum_univ_add (a := 64) (b := 64) fun x : Fin 128 => if x.val < 64 ↔ q.val < 128 then F x else 0).trans ?_
  by_cases h : q.val < 128
  · refine (congrArg₂ (· + ·) (Finset.sum_congr rfl fun e _ => ?_) (Finset.sum_eq_zero fun e _ => ?_)).trans (add_zero _)
    · refine (if_pos ?_).trans (congrArg F (Fin.ext ?_))
      · exact iff_of_true (show e.val < 64 from e.isLt) h
      · show e.val = q.val / 128 * 64 + e.val; omega
    · refine if_neg fun c => ?_
      have := c.2 h
      have : 64 + e.val < 64 := this
      omega
  · refine (congrArg₂ (· + ·) (Finset.sum_eq_zero fun e _ => ?_) (Finset.sum_congr rfl fun e _ => ?_)).trans (zero_add _)
    · exact if_neg fun c => h (c.1 (show e.val < 64 from e.isLt))
    · refine (if_pos ?_).trans (congrArg F (Fin.ext ?_))
      · refine iff_of_false ?_ h
        show ¬ 64 + e.val < 64
        omega
      · show 64 + e.val = q.val / 128 * 64 + e.val; omega

section
variable {t : Fin cfg0.N} {a : Args} {U X : FVec Ideal S512x512 .bf16} {D L : FVec Ideal S512x512 .f32} {N : FVec Ideal S512x512 .bf16}
    {R : FVec Ideal S512x1 .f32} {G : FVec Ideal S1x512 .f32} {W T : FVec Ideal S4x256x128 .bf16} {S : FVec Ideal S128x512 .f32}

/-- The mix's gradient at an entry of a block. -/
theorem dm_of (hR : Reads t a U X D L N R G W T S) (r n : Fin 512) :
    @Eq EReal (D (ix2 r n) * geluE (U (ix2 r n))) ((a.dm (at_ t r) n : ℝ) : EReal) := by
  rw [hR.d, hR.u, geluE_coe, ← EReal.coe_mul]
  rfl

/-- One window's part of the weights' gradient, as the body computes it: the lanes of the two heads of tile `k` side by side,
    each against zeros at the other's rows. -/
theorem dw_tile (hR : Reads t a U X D L N R G W T S) (k w : Fin 4) (q : Fin 256) (j : Fin 128) (r : q.val < 128 → Fin 512)
    (r' : ¬ q.val < 128 → Fin 512) (col : Fin 128 → Fin 512) (rj : Fin 512) (hr : ∀ h, (r h).val = w.val * 128 + q.val)
    (hr' : ∀ h, (r' h).val = w.val * 128 + (q.val - 128)) (hc : ∀ x, (col x).val = k.val * 128 + x.val) (hj : rj.val = w.val * 128 + j.val) :
    @Eq EReal (∑ x : Fin 128, (if h : q.val < 128 then
        Scalar.select (IntOp.cmpi .slt (BitVec.ofNat 32 x.val) 64#32) (D (ix2 (r h) (col x)) * geluE (U (ix2 (r h) (col x)))) 0
      else Scalar.select (IntOp.cmpi .slt (BitVec.ofNat 32 x.val) 64#32) 0 (D (ix2 (r' h) (col x)) * geluE (U (ix2 (r' h) (col x))))) * N (ix2 rj (col x)))
      ((dwTerm a ⟨k.val * 2 + q.val / 128, by omega⟩ ⟨q.val % 128, by omega⟩ j (win_ t w) : ℝ) : EReal) := by
  have ht := lt_of_lt_of_eq t.isLt N_0
  have hq := q.isLt
  have hj' := j.isLt
  refine Eq.trans ?_ (congrArg (fun x : ℝ => (x : EReal)) ((half_sum q fun x =>
    a.dm (Args.win (win_ t w) ⟨q.val % 128, by omega⟩) (col x) * a.vn (Args.win (win_ t w) j) (col x)).trans
    (Finset.sum_congr rfl fun e _ => ?_)))
  · rw [← coe_sum]
    refine Finset.sum_congr rfl fun x _ => ?_
    rw [show (64#32 : BitVec 32) = BitVec.ofNat 32 64 from rfl, WordCmp.cmpi_slt_ofNat (by omega) (by omega), hR.n,
      show at_ t rj = Args.win (win_ t w) j from Fin.ext (by show t.val * 512 + rj.val = (t.val * 4 + w.val) * 128 + j.val; omega)]
    by_cases h : q.val < 128
    · rw [dif_pos h, WordCmp.select_ofBool, dm_of hR,
        show at_ t (r h) = Args.win (win_ t w) ⟨q.val % 128, by omega⟩ from Fin.ext (by
          show t.val * 512 + (r h).val = (t.val * 4 + w.val) * 128 + q.val % 128; have := hr h; omega)]
      by_cases hx : x.val < 64
      · simp [hx, h]
      · simp [hx, h]
    · rw [dif_neg h, WordCmp.select_ofBool, dm_of hR,
        show at_ t (r' h) = Args.win (win_ t w) ⟨q.val % 128, by omega⟩ from Fin.ext (by
          show t.val * 512 + (r' h).val = (t.val * 4 + w.val) * 128 + q.val % 128; have := hr' h; omega)]
      by_cases hx : x.val < 64
      · simp [hx, h]
      · simp [hx, h]
  · rw [show col ⟨q.val / 128 * 64 + e.val, by omega⟩ = ⟨(k.val * 2 + q.val / 128) * 64 + e.val, by omega⟩ from Fin.ext (by
      rw [hc]; show k.val * 128 + (q.val / 128 * 64 + e.val) = (k.val * 2 + q.val / 128) * 64 + e.val; omega)]

/-- The four windows' parts together. -/
theorem four_of (f : Fin 32 → ℝ) (A B C E : EReal) (hA : A = ((f (win_ t 0) : ℝ) : EReal)) (hB : B = ((f (win_ t 1) : ℝ) : EReal))
    (hC : C = ((f (win_ t 2) : ℝ) : EReal)) (hE : E = ((f (win_ t 3) : ℝ) : EReal)) : A + B + C + E = ((four t f : ℝ) : EReal) := by
  subst hA hB hC hE
  simp only [← EReal.coe_add, four, Fin.sum_univ_four]
/-- The four windows' parts over what was there before. -/
theorem four_of' (f : Fin 32 → ℝ) (P A B C E : EReal) (hA : A = ((f (win_ t 0) : ℝ) : EReal)) (hB : B = ((f (win_ t 1) : ℝ) : EReal))
    (hC : C = ((f (win_ t 2) : ℝ) : EReal)) (hE : E = ((f (win_ t 3) : ℝ) : EReal)) : P + A + B + C + E = P + ((four t f : ℝ) : EReal) := by
  rw [← four_of f A B C E hA hB hC hE, add_assoc, add_assoc, add_assoc, add_assoc, add_assoc]

/-- The mix's gradient at a place of a window of a block. -/
theorem dm_at (hR : Reads t a U X D L N R G W T S) (w : Fin 4) (i : Fin 128) (r n : Fin 512) (hr : r.val = w.val * 128 + i.val) :
    @Eq EReal (D (ix2 r n) * geluE (U (ix2 r n))) ((a.dm (Args.win (win_ t w) i) n : ℝ) : EReal) :=
  (dm_of hR r n).trans (congrArg (fun x => ((a.dm x n : ℝ) : EReal)) (Fin.ext (by
    show t.val * 512 + r.val = (t.val * 4 + w.val) * 128 + i.val; omega)))
end

/-- The place in the whole of an entry of one tile of heads. -/
theorem emb3 (k : Fin 4) (inb : ∀ i : Fin S4x256x128.rank, (![k.val, 0, 0] : Fin 3 → ℕ) i + (![1, 256, 128] : Fin 3 → ℕ) i ≤ S4x256x128.size i)
    (p : Fin 1) (q : Fin 256) (j : Fin 128) :
    (Rect.unit (s := S4x256x128) ![k.val, 0, 0] ![1, 256, 128] inb).emb (ix3 p q j) = (ix3 k q j : S4x256x128.Idx) := by
  funext i
  have := p.isLt
  refine Fin.ext ?_
  fin_cases i
  · show k.val + 1 * p.val = k.val; omega
  · show 0 + 1 * q.val = q.val; omega
  · show 0 + 1 * j.val = j.val; omega

/-- Four stores that cover the whole, over others. -/
theorem canon4 (G : S4x256x128.Idx → Elt Ideal .f32) (p1 p2 p3 p4 : View.Piece (Elt Ideal) S4x256x128 .f32) (Q : List (View.Piece (Elt Ideal) S4x256x128 .f32))
    (h : View.PiecesOf G [p1, p2, p3, p4]) (y : S4x256x128.Idx) (hc : ∃ p ∈ [p1, p2, p3, p4], y ∈ p.1.set) :
    View.canon (p1 :: p2 :: p3 :: p4 :: Q) y = G y :=
  View.canon_append_of_piecesOf G Q [p1, p2, p3, p4] h y hc

variable (m : (ℓ : Loc nD τ sig) → Buf (Elt Ideal) ℓ) (c : Dev nD) (t : Fin cfg0.N) (a : Args) (H : Holds m c a)

/-- A block's part of each sum. -/
def dwBlk (a : Args) (t : Fin cfg0.N) (y : S4x256x128.Idx) : EReal :=
  ((four t (dwTerm a ⟨(y 0).val * 2 + (y 1).val / 128, by have := (y 0).isLt; have : (y 0).val < 4 := this; have : (y 1).val < 256 := (y 1).isLt; omega⟩
    ⟨(y 1).val % 128, by omega⟩ (y 2)) : ℝ) : EReal)
def dbBlk (a : Args) (t : Fin cfg0.N) (y : S128x512.Idx) : EReal := ((four t (fun k => a.dm (Args.win k (y 0)) (y 1)) : ℝ) : EReal)
def dgBlk (a : Args) (t : Fin cfg0.N) (y : S1x512.Idx) : EReal := ((∑ r : Fin 512, a.dvn (at_ t r) (y 1) * lnorm (a.act (at_ t r)) (y 1) : ℝ) : EReal)
def dbetaBlk (a : Args) (t : Fin cfg0.N) (y : S1x512.Idx) : EReal := ((∑ r : Fin 512, a.dvn (at_ t r) (y 1) : ℝ) : EReal)

set_option maxHeartbeats 2000000 in
include H in
/-- The bias's gradient at the first grid point: its own part. -/
theorem db_first (h : t.val % 8 = 0) (y : S128x512.Idx) : @Eq EReal ((outsAt0 m c t.val t.isLt).2.2.2.1 y) (dbBlk a t y) := by
    have hR := reads m c t a H
    rw [outsAt0_A m c t h]
    frame_open
    simp (disch := decide) only [↓ View.readCov_skip, ↓ View.readCov_cons_toLoadRect, ↓ View.readCov_fill]
    frame_out
    simp only [k0_pay20, k0_pay21, k0_pay22, k0_pay23, k0_pay24, k0_pay25]
    revert hR
    generalize k0_pay17 (F := Ideal) (iblk m c 2 t) (iblk m c 3 t) = D
    generalize k0_pay12 (F := Ideal) (iblk m c 4 t) (iblk m c 5 t) (k0_pay11 (X0_1 m c t)) = N
    generalize k0_pay11 (F := Ideal) (X0_1 m c t) = L
    generalize k0_pay10 (F := Ideal) (X0_1 m c t) = R
    generalize X0_1 m c t = X
    generalize X0_0 m c t = U
    generalize iblk m c 4 t = G
    generalize iblk m c 6 t = W
    generalize iblk m c 7 t = T
    generalize iblk m c 8 t = S
    intro hR
    obtain ⟨p, q, rfl⟩ : ∃ (p : Fin 128) (q : Fin 512), y = (ix2 p q : (⟨2, ![128, 512]⟩ : Shape).Idx) := ⟨y 0, y 1, eq_ix2 y⟩
    unfold_payloads
    simp only [View.ld]
    pointwise
    exact four_of (fun k => a.dm (Args.win k p) q) _ _ _ _
      (dm_at hR 0 p ⟨p.val, by omega⟩ q (Nat.zero_add _).symm)
      (dm_at hR 1 p ⟨128 + p.val, by omega⟩ q rfl)
      (dm_at hR 2 p ⟨256 + p.val, by omega⟩ q rfl)
      (dm_at hR 3 p ⟨384 + p.val, by omega⟩ q rfl)

set_option maxHeartbeats 2000000 in
include H in
/-- The bias's gradient at a later grid point: its own part over what the point before left. -/
theorem db_later (h : ¬ t.val % 8 = 0) (y : S128x512.Idx) : @Eq EReal ((outsAt0 m c t.val t.isLt).2.2.2.1 y)
    ((outsAt0 m c (t.val - 1) (Nat.lt_of_le_of_lt (Nat.sub_le _ _) t.isLt)).2.2.2.1 y + dbBlk a t y) := by
    have hR := reads m c t a H
    rw [outsAt0_B m c t h]
    frame_open
    simp (disch := decide) only [↓ View.readCov_skip, ↓ View.readCov_cons_toLoadRect, ↓ View.readCov_fill]
    frame_out
    simp only [k0_pay20, k0_pay21, k0_pay22, k0_pay23, k0_pay24, k0_pay25]
    revert hR
    generalize k0_pay17 (F := Ideal) (iblk m c 2 t) (iblk m c 3 t) = D
    generalize k0_pay12 (F := Ideal) (iblk m c 4 t) (iblk m c 5 t) (k0_pay11 (X0_1 m c t)) = N
    generalize k0_pay11 (F := Ideal) (X0_1 m c t) = L
    generalize k0_pay10 (F := Ideal) (X0_1 m c t) = R
    generalize X0_1 m c t = X
    generalize X0_0 m c t = U
    generalize iblk m c 4 t = G
    generalize iblk m c 6 t = W
    generalize iblk m c 7 t = T
    generalize iblk m c 8 t = S
    intro hR
    obtain ⟨p, q, rfl⟩ : ∃ (p : Fin 128) (q : Fin 512), y = (ix2 p q : (⟨2, ![128, 512]⟩ : Shape).Idx) := ⟨y 0, y 1, eq_ix2 y⟩
    unfold_payloads
    simp only [View.ld]
    pointwise
    exact congrArg (_ + ·) (four_of (fun k => a.dm (Args.win k p) q) _ _ _ _
      (dm_at hR 0 p ⟨p.val, by omega⟩ q (Nat.zero_add _).symm)
      (dm_at hR 1 p ⟨128 + p.val, by omega⟩ q rfl)
      (dm_at hR 2 p ⟨256 + p.val, by omega⟩ q rfl)
      (dm_at hR 3 p ⟨384 + p.val, by omega⟩ q rfl))

set_option maxHeartbeats 2000000 in
include H in
/-- The scale's gradient at the first grid point: its own part. -/
theorem dg_first (h : t.val % 8 = 0) (y : S1x512.Idx) : @Eq EReal ((outsAt0 m c t.val t.isLt).2.2.2.2.1 y) (dgBlk a t y) := by
    have hR := reads m c t a H
    rw [outsAt0_A m c t h]
    frame_open
    simp (disch := decide) only [↓ View.readCov_skip, ↓ View.readCov_cons_toLoadRect, ↓ View.readCov_fill]
    frame_out
    simp only [k0_pay20, k0_pay21, k0_pay22, k0_pay23, k0_pay24, k0_pay25]
    revert hR
    generalize k0_pay17 (F := Ideal) (iblk m c 2 t) (iblk m c 3 t) = D
    generalize k0_pay12 (F := Ideal) (iblk m c 4 t) (iblk m c 5 t) (k0_pay11 (X0_1 m c t)) = N
    generalize k0_pay11 (F := Ideal) (X0_1 m c t) = L
    generalize k0_pay10 (F := Ideal) (X0_1 m c t) = R
    generalize X0_1 m c t = X
    generalize X0_0 m c t = U
    generalize iblk m c 4 t = G
    generalize iblk m c 6 t = W
    generalize iblk m c 7 t = T
    generalize iblk m c 8 t = S
    intro hR
    have hV := dvn_read hR
    obtain ⟨V, hV'⟩ : ∃ V, V = (View.whole cc0_scratch0).readCov (Val := Elt Ideal) (dvnPieces U D T)
      (Rect.unit (s := S512x512) ![0, 0] ![512, 512] inb_S512x512_S512x512_0_0).toLoadRect := ⟨_, rfl⟩
    rw [← hV'] at hV ⊢
    obtain ⟨p, q, rfl⟩ : ∃ (p : Fin 1) (q : Fin 512), y = (ix2 p q : (⟨2, ![1, 512]⟩ : Shape).Idx) := ⟨y 0, y 1, eq_ix2 y⟩
    unfold_payloads
    pointwise
    refine Eq.trans (Finset.sum_congr rfl fun x _ => ?_) (coe_sum Finset.univ fun r : Fin 512 => a.dvn (at_ t r) q * lnorm (a.act (at_ t r)) q)
    rw [hV, hR.l, ← EReal.coe_mul]

set_option maxHeartbeats 2000000 in
include H in
/-- The scale's gradient at a later grid point: its own part over what the point before left. -/
theorem dg_later (h : ¬ t.val % 8 = 0) (y : S1x512.Idx) : @Eq EReal ((outsAt0 m c t.val t.isLt).2.2.2.2.1 y)
    ((outsAt0 m c (t.val - 1) (Nat.lt_of_le_of_lt (Nat.sub_le _ _) t.isLt)).2.2.2.2.1 y + dgBlk a t y) := by
    have hR := reads m c t a H
    rw [outsAt0_B m c t h]
    frame_open
    simp (disch := decide) only [↓ View.readCov_skip, ↓ View.readCov_cons_toLoadRect, ↓ View.readCov_fill]
    frame_out
    simp only [k0_pay20, k0_pay21, k0_pay22, k0_pay23, k0_pay24, k0_pay25]
    revert hR
    generalize k0_pay17 (F := Ideal) (iblk m c 2 t) (iblk m c 3 t) = D
    generalize k0_pay12 (F := Ideal) (iblk m c 4 t) (iblk m c 5 t) (k0_pay11 (X0_1 m c t)) = N
    generalize k0_pay11 (F := Ideal) (X0_1 m c t) = L
    generalize k0_pay10 (F := Ideal) (X0_1 m c t) = R
    generalize X0_1 m c t = X
    generalize X0_0 m c t = U
    generalize iblk m c 4 t = G
    generalize iblk m c 6 t = W
    generalize iblk m c 7 t = T
    generalize iblk m c 8 t = S
    intro hR
    have hV := dvn_read hR
    obtain ⟨V, hV'⟩ : ∃ V, V = (View.whole cc0_scratch0).readCov (Val := Elt Ideal) (dvnPieces U D T)
      (Rect.unit (s := S512x512) ![0, 0] ![512, 512] inb_S512x512_S512x512_0_0).toLoadRect := ⟨_, rfl⟩
    rw [← hV'] at hV ⊢
    obtain ⟨p, q, rfl⟩ : ∃ (p : Fin 1) (q : Fin 512), y = (ix2 p q : (⟨2, ![1, 512]⟩ : Shape).Idx) := ⟨y 0, y 1, eq_ix2 y⟩
    unfold_payloads
    pointwise
    refine congrArg (_ + ·) ?_
    refine Eq.trans (Finset.sum_congr rfl fun x _ => ?_) (coe_sum Finset.univ fun r : Fin 512 => a.dvn (at_ t r) q * lnorm (a.act (at_ t r)) q)
    rw [hV, hR.l, ← EReal.coe_mul]

set_option maxHeartbeats 2000000 in
include H in
/-- The shift's gradient at the first grid point: its own part. -/
theorem dbeta_first (h : t.val % 8 = 0) (y : S1x512.Idx) : @Eq EReal ((outsAt0 m c t.val t.isLt).2.2.2.2.2.1 y) (dbetaBlk a t y) := by
    have hR := reads m c t a H
    rw [outsAt0_A m c t h]
    frame_open
    simp (disch := decide) only [↓ View.readCov_skip, ↓ View.readCov_cons_toLoadRect, ↓ View.readCov_fill]
    frame_out
    simp only [k0_pay20, k0_pay21, k0_pay22, k0_pay23, k0_pay24, k0_pay25]
    revert hR
    generalize k0_pay17 (F := Ideal) (iblk m c 2 t) (iblk m c 3 t) = D
    generalize k0_pay12 (F := Ideal) (iblk m c 4 t) (iblk m c 5 t) (k0_pay11 (X0_1 m c t)) = N
    generalize k0_pay11 (F := Ideal) (X0_1 m c t) = L
    generalize k0_pay10 (F := Ideal) (X0_1 m c t) = R
    generalize X0_1 m c t = X
    generalize X0_0 m c t = U
    generalize iblk m c 4 t = G
    generalize iblk m c 6 t = W
    generalize iblk m c 7 t = T
    generalize iblk m c 8 t = S
    intro hR
    have hV := dvn_read hR
    obtain ⟨V, hV'⟩ : ∃ V, V = (View.whole cc0_scratch0).readCov (Val := Elt Ideal) (dvnPieces U D T)
      (Rect.unit (s := S512x512) ![0, 0] ![512, 512] inb_S512x512_S512x512_0_0).toLoadRect := ⟨_, rfl⟩
    rw [← hV'] at hV ⊢
    obtain ⟨p, q, rfl⟩ : ∃ (p : Fin 1) (q : Fin 512), y = (ix2 p q : (⟨2, ![1, 512]⟩ : Shape).Idx) := ⟨y 0, y 1, eq_ix2 y⟩
    unfold_payloads
    pointwise
    refine Eq.trans (Finset.sum_congr rfl fun x _ => ?_) (coe_sum Finset.univ fun r : Fin 512 => a.dvn (at_ t r) q)
    rw [hV]

set_option maxHeartbeats 2000000 in
include H in
/-- The shift's gradient at a later grid point: its own part over what the point before left. -/
theorem dbeta_later (h : ¬ t.val % 8 = 0) (y : S1x512.Idx) : @Eq EReal ((outsAt0 m c t.val t.isLt).2.2.2.2.2.1 y)
    ((outsAt0 m c (t.val - 1) (Nat.lt_of_le_of_lt (Nat.sub_le _ _) t.isLt)).2.2.2.2.2.1 y + dbetaBlk a t y) := by
    have hR := reads m c t a H
    rw [outsAt0_B m c t h]
    frame_open
    simp (disch := decide) only [↓ View.readCov_skip, ↓ View.readCov_cons_toLoadRect, ↓ View.readCov_fill]
    frame_out
    simp only [k0_pay20, k0_pay21, k0_pay22, k0_pay23, k0_pay24, k0_pay25]
    revert hR
    generalize k0_pay17 (F := Ideal) (iblk m c 2 t) (iblk m c 3 t) = D
    generalize k0_pay12 (F := Ideal) (iblk m c 4 t) (iblk m c 5 t) (k0_pay11 (X0_1 m c t)) = N
    generalize k0_pay11 (F := Ideal) (X0_1 m c t) = L
    generalize k0_pay10 (F := Ideal) (X0_1 m c t) = R
    generalize X0_1 m c t = X
    generalize X0_0 m c t = U
    generalize iblk m c 4 t = G
    generalize iblk m c 6 t = W
    generalize iblk m c 7 t = T
    generalize iblk m c 8 t = S
    intro hR
    have hV := dvn_read hR
    obtain ⟨V, hV'⟩ : ∃ V, V = (View.whole cc0_scratch0).readCov (Val := Elt Ideal) (dvnPieces U D T)
      (Rect.unit (s := S512x512) ![0, 0] ![512, 512] inb_S512x512_S512x512_0_0).toLoadRect := ⟨_, rfl⟩
    rw [← hV'] at hV ⊢
    obtain ⟨p, q, rfl⟩ : ∃ (p : Fin 1) (q : Fin 512), y = (ix2 p q : (⟨2, ![1, 512]⟩ : Shape).Idx) := ⟨y 0, y 1, eq_ix2 y⟩
    unfold_payloads
    pointwise
    refine congrArg (_ + ·) ?_
    refine Eq.trans (Finset.sum_congr rfl fun x _ => ?_) (coe_sum Finset.univ fun r : Fin 512 => a.dvn (at_ t r) q)
    rw [hV]

set_option maxHeartbeats 2000000 in
include H in
/-- The weights' gradient at the first grid point: its own part. -/
theorem dw_first (h : t.val % 8 = 0) (y : S4x256x128.Idx) : @Eq EReal ((outsAt0 m c t.val t.isLt).2.2.1 y) (dwBlk a t y) := by
    have hR := reads m c t a H
    rw [outsAt0_A m c t h]
    frame_open
    simp (disch := decide) only [↓ View.readCov_skip, ↓ View.readCov_cons_toLoadRect, ↓ View.readCov_fill]
    frame_out
    simp only [k0_pay20, k0_pay21, k0_pay22, k0_pay23, k0_pay24, k0_pay25]
    revert hR
    generalize k0_pay17 (F := Ideal) (iblk m c 2 t) (iblk m c 3 t) = D
    generalize k0_pay12 (F := Ideal) (iblk m c 4 t) (iblk m c 5 t) (k0_pay11 (X0_1 m c t)) = N
    generalize k0_pay11 (F := Ideal) (X0_1 m c t) = L
    generalize k0_pay10 (F := Ideal) (X0_1 m c t) = R
    generalize X0_1 m c t = X
    generalize X0_0 m c t = U
    generalize iblk m c 4 t = G
    generalize iblk m c 6 t = W
    generalize iblk m c 7 t = T
    generalize iblk m c 8 t = S
    intro hR
    let G0 : S4x256x128.Idx → Elt Ideal .f32 := fun y => dwBlk a t y
    refine canon4 G0 _ _ _ _ _ ?_ y (View.cover_of_tiledL _ ![1, 256, 128] (by sl_kernel_rfl) y)
    refine ⟨fun x => ?_, fun x => ?_, fun x => ?_, fun x => ?_, trivial⟩
    all_goals
      obtain ⟨p, q, j, rfl⟩ : ∃ (p : Fin 1) (q : Fin 256) (j : Fin 128), x = (ix3 p q j : (⟨3, ![1, 256, 128]⟩ : Shape).Idx) := ⟨x 0, x 1, x 2, eq_ix3 x⟩
    · refine Eq.trans ?_ (congrArg G0 (emb3 3 (by decide) p q j)).symm
      unfold_payloads
      simp only [View.ld]
      pointwise
      exact four_of (dwTerm a _ _ j) _ _ _ _
        (dw_tile hR 3 0 q j (fun h => ⟨q.val, by omega⟩) (fun h => ⟨q.val - 128, by omega⟩) (fun x => ⟨384 + x.val, by omega⟩) ⟨j.val, by omega⟩ (fun _ => (Nat.zero_add _).symm) (fun _ => (Nat.zero_add _).symm) (fun _ => rfl) (Nat.zero_add _).symm)
        (dw_tile hR 3 1 q j (fun h => ⟨128 + q.val, by omega⟩) (fun h => ⟨128 + (q.val - 128), by omega⟩) (fun x => ⟨384 + x.val, by omega⟩) ⟨128 + j.val, by omega⟩ (fun _ => rfl) (fun _ => rfl) (fun _ => rfl) rfl)
        (dw_tile hR 3 2 q j (fun h => ⟨256 + q.val, by omega⟩) (fun h => ⟨256 + (q.val - 128), by omega⟩) (fun x => ⟨384 + x.val, by omega⟩) ⟨256 + j.val, by omega⟩ (fun _ => rfl) (fun _ => rfl) (fun _ => rfl) rfl)
        (dw_tile hR 3 3 q j (fun h => ⟨384 + q.val, by omega⟩) (fun h => ⟨384 + (q.val - 128), by omega⟩) (fun x => ⟨384 + x.val, by omega⟩) ⟨384 + j.val, by omega⟩ (fun _ => rfl) (fun _ => rfl) (fun _ => rfl) rfl)
    · refine Eq.trans ?_ (congrArg G0 (emb3 2 (by decide) p q j)).symm
      unfold_payloads
      simp only [View.ld]
      pointwise
      exact four_of (dwTerm a _ _ j) _ _ _ _
        (dw_tile hR 2 0 q j (fun h => ⟨q.val, by omega⟩) (fun h => ⟨q.val - 128, by omega⟩) (fun x => ⟨256 + x.val, by omega⟩) ⟨j.val, by omega⟩ (fun _ => (Nat.zero_add _).symm) (fun _ => (Nat.zero_add _).symm) (fun _ => rfl) (Nat.zero_add _).symm)
        (dw_tile hR 2 1 q j (fun h => ⟨128 + q.val, by omega⟩) (fun h => ⟨128 + (q.val - 128), by omega⟩) (fun x => ⟨256 + x.val, by omega⟩) ⟨128 + j.val, by omega⟩ (fun _ => rfl) (fun _ => rfl) (fun _ => rfl) rfl)
        (dw_tile hR 2 2 q j (fun h => ⟨256 + q.val, by omega⟩) (fun h => ⟨256 + (q.val - 128), by omega⟩) (fun x => ⟨256 + x.val, by omega⟩) ⟨256 + j.val, by omega⟩ (fun _ => rfl) (fun _ => rfl) (fun _ => rfl) rfl)
        (dw_tile hR 2 3 q j (fun h => ⟨384 + q.val, by omega⟩) (fun h => ⟨384 + (q.val - 128), by omega⟩) (fun x => ⟨256 + x.val, by omega⟩) ⟨384 + j.val, by omega⟩ (fun _ => rfl) (fun _ => rfl) (fun _ => rfl) rfl)
    · refine Eq.trans ?_ (congrArg G0 (emb3 1 (by decide) p q j)).symm
      unfold_payloads
      simp only [View.ld]
      pointwise
      exact four_of (dwTerm a _ _ j) _ _ _ _
        (dw_tile hR 1 0 q j (fun h => ⟨q.val, by omega⟩) (fun h => ⟨q.val - 128, by omega⟩) (fun x => ⟨128 + x.val, by omega⟩) ⟨j.val, by omega⟩ (fun _ => (Nat.zero_add _).symm) (fun _ => (Nat.zero_add _).symm) (fun _ => rfl) (Nat.zero_add _).symm)
        (dw_tile hR 1 1 q j (fun h => ⟨128 + q.val, by omega⟩) (fun h => ⟨128 + (q.val - 128), by omega⟩) (fun x => ⟨128 + x.val, by omega⟩) ⟨128 + j.val, by omega⟩ (fun _ => rfl) (fun _ => rfl) (fun _ => rfl) rfl)
        (dw_tile hR 1 2 q j (fun h => ⟨256 + q.val, by omega⟩) (fun h => ⟨256 + (q.val - 128), by omega⟩) (fun x => ⟨128 + x.val, by omega⟩) ⟨256 + j.val, by omega⟩ (fun _ => rfl) (fun _ => rfl) (fun _ => rfl) rfl)
        (dw_tile hR 1 3 q j (fun h => ⟨384 + q.val, by omega⟩) (fun h => ⟨384 + (q.val - 128), by omega⟩) (fun x => ⟨128 + x.val, by omega⟩) ⟨384 + j.val, by omega⟩ (fun _ => rfl) (fun _ => rfl) (fun _ => rfl) rfl)
    · refine Eq.trans ?_ (congrArg G0 (emb3 0 (by decide) p q j)).symm
      unfold_payloads
      simp only [View.ld]
      pointwise
      exact four_of (dwTerm a _ _ j) _ _ _ _
        (dw_tile hR 0 0 q j (fun h => ⟨q.val, by omega⟩) (fun h => ⟨q.val - 128, by omega⟩) (fun x => ⟨x.val, by omega⟩) ⟨j.val, by omega⟩ (fun _ => (Nat.zero_add _).symm) (fun _ => (Nat.zero_add _).symm) (fun _ => (Nat.zero_add _).symm) (Nat.zero_add _).symm)
        (dw_tile hR 0 1 q j (fun h => ⟨128 + q.val, by omega⟩) (fun h => ⟨128 + (q.val - 128), by omega⟩) (fun x => ⟨x.val, by omega⟩) ⟨128 + j.val, by omega⟩ (fun _ => rfl) (fun _ => rfl) (fun _ => (Nat.zero_add _).symm) rfl)
        (dw_tile hR 0 2 q j (fun h => ⟨256 + q.val, by omega⟩) (fun h => ⟨256 + (q.val - 128), by omega⟩) (fun x => ⟨x.val, by omega⟩) ⟨256 + j.val, by omega⟩ (fun _ => rfl) (fun _ => rfl) (fun _ => (Nat.zero_add _).symm) rfl)
        (dw_tile hR 0 3 q j (fun h => ⟨384 + q.val, by omega⟩) (fun h => ⟨384 + (q.val - 128), by omega⟩) (fun x => ⟨x.val, by omega⟩) ⟨384 + j.val, by omega⟩ (fun _ => rfl) (fun _ => rfl) (fun _ => (Nat.zero_add _).symm) rfl)

set_option maxHeartbeats 2000000 in
include H in
/-- The weights' gradient at a later grid point: its own part over what the point before left. -/
theorem dw_later (h : ¬ t.val % 8 = 0) (y : S4x256x128.Idx) : @Eq EReal ((outsAt0 m c t.val t.isLt).2.2.1 y)
    ((outsAt0 m c (t.val - 1) (Nat.lt_of_le_of_lt (Nat.sub_le _ _) t.isLt)).2.2.1 y + dwBlk a t y) := by
    have hR := reads m c t a H
    rw [outsAt0_B m c t h]
    frame_open
    simp (disch := decide) only [↓ View.readCov_skip, ↓ View.readCov_cons_toLoadRect, ↓ View.readCov_fill]
    frame_out
    simp only [k0_pay20, k0_pay21, k0_pay22, k0_pay23, k0_pay24, k0_pay25]
    revert hR
    generalize k0_pay17 (F := Ideal) (iblk m c 2 t) (iblk m c 3 t) = D
    generalize k0_pay12 (F := Ideal) (iblk m c 4 t) (iblk m c 5 t) (k0_pay11 (X0_1 m c t)) = N
    generalize k0_pay11 (F := Ideal) (X0_1 m c t) = L
    generalize k0_pay10 (F := Ideal) (X0_1 m c t) = R
    generalize X0_1 m c t = X
    generalize X0_0 m c t = U
    generalize iblk m c 4 t = G
    generalize iblk m c 6 t = W
    generalize iblk m c 7 t = T
    generalize iblk m c 8 t = S
    intro hR
    let G0 : S4x256x128.Idx → Elt Ideal .f32 := fun y => (outsAt0 m c (t.val - 1) (Nat.lt_of_le_of_lt (Nat.sub_le _ _) t.isLt)).2.2.1 y + dwBlk a t y
    refine canon4 G0 _ _ _ _ _ ?_ y (View.cover_of_tiledL _ ![1, 256, 128] (by sl_kernel_rfl) y)
    refine ⟨fun x => ?_, fun x => ?_, fun x => ?_, fun x => ?_, trivial⟩
    all_goals
      obtain ⟨p, q, j, rfl⟩ : ∃ (p : Fin 1) (q : Fin 256) (j : Fin 128), x = (ix3 p q j : (⟨3, ![1, 256, 128]⟩ : Shape).Idx) := ⟨x 0, x 1, x 2, eq_ix3 x⟩
    · refine Eq.trans ?_ (congrArg G0 (emb3 3 (by decide) p q j)).symm
      unfold_payloads
      simp only [View.ld]
      pointwise
      exact four_of' (dwTerm a _ _ j) _ _ _ _ _
        (dw_tile hR 3 0 q j (fun h => ⟨q.val, by omega⟩) (fun h => ⟨q.val - 128, by omega⟩) (fun x => ⟨384 + x.val, by omega⟩) ⟨j.val, by omega⟩ (fun _ => (Nat.zero_add _).symm) (fun _ => (Nat.zero_add _).symm) (fun _ => rfl) (Nat.zero_add _).symm)
        (dw_tile hR 3 1 q j (fun h => ⟨128 + q.val, by omega⟩) (fun h => ⟨128 + (q.val - 128), by omega⟩) (fun x => ⟨384 + x.val, by omega⟩) ⟨128 + j.val, by omega⟩ (fun _ => rfl) (fun _ => rfl) (fun _ => rfl) rfl)
        (dw_tile hR 3 2 q j (fun h => ⟨256 + q.val, by omega⟩) (fun h => ⟨256 + (q.val - 128), by omega⟩) (fun x => ⟨384 + x.val, by omega⟩) ⟨256 + j.val, by omega⟩ (fun _ => rfl) (fun _ => rfl) (fun _ => rfl) rfl)
        (dw_tile hR 3 3 q j (fun h => ⟨384 + q.val, by omega⟩) (fun h => ⟨384 + (q.val - 128), by omega⟩) (fun x => ⟨384 + x.val, by omega⟩) ⟨384 + j.val, by omega⟩ (fun _ => rfl) (fun _ => rfl) (fun _ => rfl) rfl)
    · refine Eq.trans ?_ (congrArg G0 (emb3 2 (by decide) p q j)).symm
      unfold_payloads
      simp only [View.ld]
      pointwise
      exact four_of' (dwTerm a _ _ j) _ _ _ _ _
        (dw_tile hR 2 0 q j (fun h => ⟨q.val, by omega⟩) (fun h => ⟨q.val - 128, by omega⟩) (fun x => ⟨256 + x.val, by omega⟩) ⟨j.val, by omega⟩ (fun _ => (Nat.zero_add _).symm) (fun _ => (Nat.zero_add _).symm) (fun _ => rfl) (Nat.zero_add _).symm)
        (dw_tile hR 2 1 q j (fun h => ⟨128 + q.val, by omega⟩) (fun h => ⟨128 + (q.val - 128), by omega⟩) (fun x => ⟨256 + x.val, by omega⟩) ⟨128 + j.val, by omega⟩ (fun _ => rfl) (fun _ => rfl) (fun _ => rfl) rfl)
        (dw_tile hR 2 2 q j (fun h => ⟨256 + q.val, by omega⟩) (fun h => ⟨256 + (q.val - 128), by omega⟩) (fun x => ⟨256 + x.val, by omega⟩) ⟨256 + j.val, by omega⟩ (fun _ => rfl) (fun _ => rfl) (fun _ => rfl) rfl)
        (dw_tile hR 2 3 q j (fun h => ⟨384 + q.val, by omega⟩) (fun h => ⟨384 + (q.val - 128), by omega⟩) (fun x => ⟨256 + x.val, by omega⟩) ⟨384 + j.val, by omega⟩ (fun _ => rfl) (fun _ => rfl) (fun _ => rfl) rfl)
    · refine Eq.trans ?_ (congrArg G0 (emb3 1 (by decide) p q j)).symm
      unfold_payloads
      simp only [View.ld]
      pointwise
      exact four_of' (dwTerm a _ _ j) _ _ _ _ _
        (dw_tile hR 1 0 q j (fun h => ⟨q.val, by omega⟩) (fun h => ⟨q.val - 128, by omega⟩) (fun x => ⟨128 + x.val, by omega⟩) ⟨j.val, by omega⟩ (fun _ => (Nat.zero_add _).symm) (fun _ => (Nat.zero_add _).symm) (fun _ => rfl) (Nat.zero_add _).symm)
        (dw_tile hR 1 1 q j (fun h => ⟨128 + q.val, by omega⟩) (fun h => ⟨128 + (q.val - 128), by omega⟩) (fun x => ⟨128 + x.val, by omega⟩) ⟨128 + j.val, by omega⟩ (fun _ => rfl) (fun _ => rfl) (fun _ => rfl) rfl)
        (dw_tile hR 1 2 q j (fun h => ⟨256 + q.val, by omega⟩) (fun h => ⟨256 + (q.val - 128), by omega⟩) (fun x => ⟨128 + x.val, by omega⟩) ⟨256 + j.val, by omega⟩ (fun _ => rfl) (fun _ => rfl) (fun _ => rfl) rfl)
        (dw_tile hR 1 3 q j (fun h => ⟨384 + q.val, by omega⟩) (fun h => ⟨384 + (q.val - 128), by omega⟩) (fun x => ⟨128 + x.val, by omega⟩) ⟨384 + j.val, by omega⟩ (fun _ => rfl) (fun _ => rfl) (fun _ => rfl) rfl)
    · refine Eq.trans ?_ (congrArg G0 (emb3 0 (by decide) p q j)).symm
      unfold_payloads
      simp only [View.ld]
      pointwise
      exact four_of' (dwTerm a _ _ j) _ _ _ _ _
        (dw_tile hR 0 0 q j (fun h => ⟨q.val, by omega⟩) (fun h => ⟨q.val - 128, by omega⟩) (fun x => ⟨x.val, by omega⟩) ⟨j.val, by omega⟩ (fun _ => (Nat.zero_add _).symm) (fun _ => (Nat.zero_add _).symm) (fun _ => (Nat.zero_add _).symm) (Nat.zero_add _).symm)
        (dw_tile hR 0 1 q j (fun h => ⟨128 + q.val, by omega⟩) (fun h => ⟨128 + (q.val - 128), by omega⟩) (fun x => ⟨x.val, by omega⟩) ⟨128 + j.val, by omega⟩ (fun _ => rfl) (fun _ => rfl) (fun _ => (Nat.zero_add _).symm) rfl)
        (dw_tile hR 0 2 q j (fun h => ⟨256 + q.val, by omega⟩) (fun h => ⟨256 + (q.val - 128), by omega⟩) (fun x => ⟨x.val, by omega⟩) ⟨256 + j.val, by omega⟩ (fun _ => rfl) (fun _ => rfl) (fun _ => (Nat.zero_add _).symm) rfl)
        (dw_tile hR 0 3 q j (fun h => ⟨384 + q.val, by omega⟩) (fun h => ⟨384 + (q.val - 128), by omega⟩) (fun x => ⟨x.val, by omega⟩) ⟨384 + j.val, by omega⟩ (fun _ => rfl) (fun _ => rfl) (fun _ => (Nat.zero_add _).symm) rfl)

end Cert.SguIdeal.Closed

end
-- ==== Proof.Sgu.Finals.lean ====
/- The spatial gating unit's gradient call: each result as one closed form of real arguments. -/
module

public import proofs.«01_k».proof.Proof.Sgu.Acc

@[expose] public section

set_option maxRecDepth 16384

noncomputable section

namespace Cert.SguIdeal.Closed

open Cert.SguIdeal Cert.SguIdeal.Gen Idealize.ShloMosaic Idealize.ShloMosaic.TcCoe Idealize.SL.Sem Cert.Reals
open Idealize.ShloMosaic.Pipeline (Dat)

/-- The seven results: the gradients of the two halves, of the mixing weights (a pair of heads to a tile), of the bias by position
    and column, of the norm's scale and shift, and of both halves by columns. -/
def Gdu (a : Args) : FVec Ideal S4096x512 .bf16 := fun i => ((a.du (i 0) (i 1) : ℝ) : EReal)
def Gdv (a : Args) : FVec Ideal S4096x512 .bf16 := fun i => ((a.dv (i 0) (i 1) : ℝ) : EReal)
def Gdw (a : Args) : FVec Ideal S4x256x128 .f32 := fun y =>
  ((a.dw ⟨(y 0).val * 2 + (y 1).val / 128, by have : (y 0).val < 4 := (y 0).isLt; have : (y 1).val < 256 := (y 1).isLt; omega⟩
    ⟨(y 1).val % 128, by omega⟩ (y 2) : ℝ) : EReal)
def Gdbias (a : Args) : FVec Ideal S128x512 .f32 := fun i => ((a.db (i 0) (i 1) : ℝ) : EReal)
def Gdscale (a : Args) : FVec Ideal S1x512 .f32 := fun i => ((a.dg (i 1) : ℝ) : EReal)
def Gdshift (a : Args) : FVec Ideal S1x512 .f32 := fun i => ((a.dbeta (i 1) : ℝ) : EReal)
def Gboth (a : Args) : FVec Ideal S1024x4096 .bf16 := fun i => ((both a (i 0) (i 1) : ℝ) : EReal)

variable (m : (ℓ : Loc nD τ sig) → Buf (Elt Ideal) ℓ) (c : Dev nD) (a : Args) (H : Holds m c a)
include H

/-- The array of output window 9 after the run. -/
theorem final9 : (dats m 0 c).arrAt 9 cfg0.N = Gdu a := by
  refine (dats m 0 c).arrAt_eq_of_covers 9 _ (by decide +kernel) fun t hf' y => ?_
  blk_simp
  rw [after0_9]
  obtain ⟨-, -, -, -, -, -, -, -, -, i9, -⟩ := index t
  refine (out9 m c t a H _).trans ?_
  refine congrArg (Gdu a) (a₁ := ix2 (at_ t (y 0)) (y 1)) ?_
  blk_point [i9]
/-- The array of output window 10 after the run. -/
theorem final10 : (dats m 0 c).arrAt 10 cfg0.N = Gdv a := by
  refine (dats m 0 c).arrAt_eq_of_covers 10 _ (by decide +kernel) fun t hf' y => ?_
  blk_simp
  rw [after0_10]
  obtain ⟨-, -, -, -, -, -, -, -, -, -, i10, -⟩ := index t
  refine (out10 m c t a H _).trans ?_
  refine congrArg (Gdv a) (a₁ := ix2 (at_ t (y 0)) (y 1)) ?_
  blk_point [i10]
/-- The array of output window 15 after the run. -/
theorem final15 : (dats m 0 c).arrAt 15 cfg0.N = Gboth a := by
  refine (dats m 0 c).arrAt_eq_of_covers 15 _ (by decide +kernel) fun t hf' y => ?_
  blk_simp
  rw [after0_15]
  obtain ⟨-, -, -, -, -, -, -, -, -, -, -, i15⟩ := index t
  refine (out15 m c t a H _).trans ?_
  refine congrArg (Gboth a) (a₁ := ix2 (y 0) (at_ t (y 1))) ?_
  blk_point [i15]

/-- The last grid point. -/
abbrev last : Fin cfg0.N := ⟨7, by decide +kernel⟩

omit H in
/-- The four windows of each of the eight blocks are the windows, and their rows are the rows. -/
theorem sum_four (f : Fin 32 → ℝ) : @Eq EReal (∑ p : Fin cfg0.N, ((four p f : ℝ) : EReal)) ((∑ k, f k : ℝ) : EReal) := by
  rw [coe_sum]
  exact congrArg _ (Fin.sum_mul_add_congr (S := 8) (n := 4) (fun p w h => rfl))
omit H in
/-- A sum over the blocks of sums over their rows is the sum over all rows. -/
theorem sum_rows (f : Fin 4096 → ℝ) : @Eq EReal (∑ p : Fin cfg0.N, ((∑ r : Fin 512, f (at_ p r) : ℝ) : EReal)) ((∑ r, f r : ℝ) : EReal) := by
  rw [coe_sum]
  exact congrArg _ (Fin.sum_mul_add_congr (S := 8) (n := 512) (fun p r h => rfl))

/-- What output window 11 holds after the last grid point: the sum of the parts of all of them. -/
theorem acc11 (t : Fin cfg0.N) (ht : t.val + 1 = cfg0.N) (i : S4x256x128.Idx) :
    @Eq EReal ((outsAt0 m c t.val t.isLt).2.2.1 i) (0 + ∑ p : Fin cfg0.N, dwBlk a p i) :=
  Pipeline.eq_sum_fin_of_reset_step_apply_last (fun n hn => (outsAt0 m c n hn).2.2.1) 8 (fun _ => (0 : EReal))
    (fun p i => dwBlk a p i) (fun t h i => (dw_first m c t a H h i).trans (zero_add _).symm) (fun t h i => dw_later m c t a H h i)
    (by decide +kernel) t ht i
/-- The array of output window 11 after the run. -/
theorem final11 : (dats m 0 c).arrAt 11 cfg0.N = Gdw a := by
  funext i
  refine ((dats m 0 c).arrAt_emb_eq_after_last 11 last (by decide +kernel) i).trans ?_
  blk_simp
  rw [after0_11]
  refine (acc11 m c a H last rfl _).trans ?_
  rw [zero_add]
  exact sum_four (dwTerm a _ _ _)
/-- What output window 12 holds after the last grid point: the sum of the parts of all of them. -/
theorem acc12 (t : Fin cfg0.N) (ht : t.val + 1 = cfg0.N) (i : S128x512.Idx) :
    @Eq EReal ((outsAt0 m c t.val t.isLt).2.2.2.1 i) (0 + ∑ p : Fin cfg0.N, dbBlk a p i) :=
  Pipeline.eq_sum_fin_of_reset_step_apply_last (fun n hn => (outsAt0 m c n hn).2.2.2.1) 8 (fun _ => (0 : EReal))
    (fun p i => dbBlk a p i) (fun t h i => (db_first m c t a H h i).trans (zero_add _).symm) (fun t h i => db_later m c t a H h i)
    (by decide +kernel) t ht i
/-- The array of output window 12 after the run. -/
theorem final12 : (dats m 0 c).arrAt 12 cfg0.N = Gdbias a := by
  funext i
  refine ((dats m 0 c).arrAt_emb_eq_after_last 12 last (by decide +kernel) i).trans ?_
  blk_simp
  rw [after0_12]
  refine (acc12 m c a H last rfl _).trans ?_
  rw [zero_add]
  exact sum_four fun k => a.dm (Args.win k _) _
/-- What output window 13 holds after the last grid point: the sum of the parts of all of them. -/
theorem acc13 (t : Fin cfg0.N) (ht : t.val + 1 = cfg0.N) (i : S1x512.Idx) :
    @Eq EReal ((outsAt0 m c t.val t.isLt).2.2.2.2.1 i) (0 + ∑ p : Fin cfg0.N, dgBlk a p i) :=
  Pipeline.eq_sum_fin_of_reset_step_apply_last (fun n hn => (outsAt0 m c n hn).2.2.2.2.1) 8 (fun _ => (0 : EReal))
    (fun p i => dgBlk a p i) (fun t h i => (dg_first m c t a H h i).trans (zero_add _).symm) (fun t h i => dg_later m c t a H h i)
    (by decide +kernel) t ht i
/-- The array of output window 13 after the run. -/
theorem final13 : (dats m 0 c).arrAt 13 cfg0.N = Gdscale a := by
  funext i
  refine ((dats m 0 c).arrAt_emb_eq_after_last 13 last (by decide +kernel) i).trans ?_
  blk_simp
  rw [after0_13]
  refine (acc13 m c a H last rfl _).trans ?_
  rw [zero_add]
  exact sum_rows fun r => a.dvn r _ * lnorm (a.act r) _
/-- What output window 14 holds after the last grid point: the sum of the parts of all of them. -/
theorem acc14 (t : Fin cfg0.N) (ht : t.val + 1 = cfg0.N) (i : S1x512.Idx) :
    @Eq EReal ((outsAt0 m c t.val t.isLt).2.2.2.2.2.1 i) (0 + ∑ p : Fin cfg0.N, dbetaBlk a p i) :=
  Pipeline.eq_sum_fin_of_reset_step_apply_last (fun n hn => (outsAt0 m c n hn).2.2.2.2.2.1) 8 (fun _ => (0 : EReal))
    (fun p i => dbetaBlk a p i) (fun t h i => (dbeta_first m c t a H h i).trans (zero_add _).symm) (fun t h i => dbeta_later m c t a H h i)
    (by decide +kernel) t ht i
/-- The array of output window 14 after the run. -/
theorem final14 : (dats m 0 c).arrAt 14 cfg0.N = Gdshift a := by
  funext i
  refine ((dats m 0 c).arrAt_emb_eq_after_last 14 last (by decide +kernel) i).trans ?_
  blk_simp
  rw [after0_14]
  refine (acc14 m c a H last rfl _).trans ?_
  rw [zero_add]
  exact sum_rows fun r => a.dvn r _

end Cert.SguIdeal.Closed

end
-- ==== Proof.Sgu.Ref.lean ====
/- The derivative of the spatial gating unit's plain forward lines, element by element, at real arguments. -/
module

public import proofs.«01_k».proof.Proof.Gen.SguRefIdeal.Read
public import proofs.«01_k».proof.Proof.Sgu.Finals

@[expose] public section

set_option maxRecDepth 16384

noncomputable section

namespace Cert.SguRefIdeal.Closed

open Cert.SguRefIdeal Cert.SguRefIdeal.Gen Cert.SguRefIdeal.Read Idealize.ShloMosaic Idealize.ShloMosaic.TcCoe Cert.Reals

/-- What the arguments hold, as reals, at the places that the forward lines read. -/
structure Holds (x0 : FVec Ideal S4096x4616 .f32) (x1 x2 : FVec Ideal S1x512 .f32) (x3 : FVec Ideal S1x8x128x128 .f32)
    (x4 : FVec Ideal S1x8x128 .f32) (x5 : FVec Ideal S1x512x1024 .f32) (x6 : FVec Ideal S4096x1024 .f32) (a : Args) : Prop where
  u : ∀ i, @Eq EReal (val_main_v0 (F := Ideal) x0 i) ((a.u (i 0) (i 1) : ℝ) : EReal)
  v : ∀ i, @Eq EReal (val_main_v1 (F := Ideal) x0 i) ((a.v (i 0) (i 1) : ℝ) : EReal)
  g : ∀ n, @Eq EReal (x1 (ix2 0 n)) ((a.g n : ℝ) : EReal)
  b : ∀ n, @Eq EReal (x2 (ix2 0 n)) ((a.b n : ℝ) : EReal)
  w : ∀ i, @Eq EReal (val_main_v11 (F := Ideal) x3 i) ((a.w (i 0) (i 1) (i 2) : ℝ) : EReal)
  s : ∀ h i, @Eq EReal (x4 (ix3 0 h i)) ((a.s h i : ℝ) : EReal)
  d : ∀ i, @Eq EReal (val_main_v98 (F := Ideal) x5 x6 i) ((a.d (i 0) (i 1) : ℝ) : EReal)

/-- The unit of the forward lines on an array: its tanh, the factor of its argument, its value, and the product of its derivative
    with a cotangent. -/
def tanhE (U : FVec Ideal S4096x512 .f32) : FVec Ideal S4096x512 .f32 :=
  Host.tanh (mulf (broadcastInDim S4096x512 ![] bcast_S_S4096x512 (constant S_ .f32 0x3F4C422A#32))
    (addf U (mulf (broadcastInDim S4096x512 ![] bcast_S_S4096x512
      (Host.divf (constant S_ .f32 0x472EAB00#32) (constant S_ .f32 0x49742400#32))) (mulf (mulf U U) U))))
def halfE (U : FVec Ideal S4096x512 .f32) : FVec Ideal S4096x512 .f32 :=
  mulf (broadcastInDim S4096x512 ![] bcast_S_S4096x512 (constant S_ .f32 0x3F000000#32))
    (addf (broadcastInDim S4096x512 ![] bcast_S_S4096x512 (constant S_ .f32 0x3F800000#32)) (tanhE U))
def unitE (U : FVec Ideal S4096x512 .f32) : FVec Ideal S4096x512 .f32 := mulf U (halfE U)
def innerE (U M : FVec Ideal S4096x512 .f32) : FVec Ideal S4096x512 .f32 :=
  mulf (broadcastInDim S4096x512 ![] bcast_S_S4096x512 (constant S_ .f32 0x3F4C422A#32))
    (mulf (mulf (broadcastInDim S4096x512 ![] bcast_S_S4096x512 (constant S_ .f32 0x3F000000#32)) (mulf U M))
      (mulf (addf (broadcastInDim S4096x512 ![] bcast_S_S4096x512 (constant S_ .f32 0x3F800000#32)) (tanhE U))
        (subf (broadcastInDim S4096x512 ![] bcast_S_S4096x512 (constant S_ .f32 0x3F800000#32)) (tanhE U))))
def backE (U M : FVec Ideal S4096x512 .f32) : FVec Ideal S4096x512 .f32 :=
  addf (addf (mulf M (halfE U)) (innerE U M))
    (mulf (mulf (broadcastInDim S4096x512 ![] bcast_S_S4096x512
        (Host.divf (constant S_ .f32 0x472EAB00#32) (constant S_ .f32 0x49742400#32))) (innerE U M))
      (mulf (broadcastInDim S4096x512 ![] bcast_S_S4096x512 (constant S_ .f32 0x40400000#32)) (mulf U U)))

/-- The f32 words of 44715 and of a million, and their quotient. -/
theorem ofBits_num : Ideal.ofBits .f32 0x472EAB00#32 = ((44715 : ℝ) : EReal) := by
  simp [Ideal.ofBits, Ideal.ieee, -EReal.coe_mul]; norm_num
/-- The f32 word of a million. -/
theorem ofBits_den : Ideal.ofBits .f32 0x49742400#32 = ((1000000 : ℝ) : EReal) := by
  simp [Ideal.ofBits, Ideal.ieee, -EReal.coe_mul]; norm_num
/-- The quotient of those two words. -/
theorem quot : Ideal.div (Ideal.ofBits .f32 0x472EAB00#32) (Ideal.ofBits .f32 0x49742400#32) = ((8943 / 200000 : ℝ) : EReal) := by
  rw [ofBits_num, ofBits_den, div_coe _ _ (by norm_num)]
  norm_num

/-- The tanh at a real. -/
theorem tanhE_coe {U : FVec Ideal S4096x512 .f32} {i : S4096x512.Idx} {x : ℝ} (h : @Eq EReal (U i) ((x : ℝ) : EReal)) :
    @Eq EReal (tanhE U i) ((geluT x : ℝ) : EReal) := by
  unfold tanhE
  pointwise
  simp only [h, quot, ofBits_geluK, tanh_coe, ← EReal.coe_mul, ← EReal.coe_add]
  rfl

/-- The unit at a real. -/
theorem unitE_coe {U : FVec Ideal S4096x512 .f32} {i : S4096x512.Idx} {x : ℝ} (h : @Eq EReal (U i) ((x : ℝ) : EReal)) :
    @Eq EReal (unitE U i) ((gelu x : ℝ) : EReal) := by
  have ht := tanhE_coe h
  unfold unitE halfE
  generalize tanhE U = T at ht ⊢
  pointwise
  simp only [h, ht, ofBits_half, ← EReal.coe_one, ← EReal.coe_mul, ← EReal.coe_add]
  refine congrArg _ ?_
  unfold gelu
  ring

/-- The derivative's product at a real. -/
theorem backE_coe {U M : FVec Ideal S4096x512 .f32} {i : S4096x512.Idx} {x y : ℝ} (h : @Eq EReal (U i) ((x : ℝ) : EReal))
    (hy : @Eq EReal (M i) ((y : ℝ) : EReal)) : @Eq EReal (backE U M i) ((y * geluD x : ℝ) : EReal) := by
  have ht := tanhE_coe h
  unfold backE innerE halfE
  generalize tanhE U = T at ht ⊢
  pointwise
  simp only [h, hy, ht, quot, ofBits_half, ofBits_three, ofBits_geluK, ← EReal.coe_one, ← EReal.coe_mul, ← EReal.coe_add, ← EReal.coe_sub]
  refine congrArg _ ?_
  unfold geluD
  ring

/-- The gradient of a row's normalisation as differentiation of its lines writes it, and that it is the closed form. -/
theorem lbwd_eq (x u : Fin 512 → ℝ) (k : Fin 512) :
    u k * rdev x + cen x k * ((∑ j, cen x j * u j) * (-(1 / 2) * (rdev x / var x)) / 512)
        + (∑ j, cen x j * u j) * (-(1 / 2) * (rdev x / var x)) / 512 * cen x k
      + (∑ l, -(u l * rdev x + cen x l * ((∑ j, cen x j * u j) * (-(1 / 2) * (rdev x / var x)) / 512)
        + (∑ j, cen x j * u j) * (-(1 / 2) * (rdev x / var x)) / 512 * cen x l)) / 512 = lbwd x u k := by
  have h1 : rdev x / var x = rdev x * rdev x * rdev x := by
    have : rdev x * rdev x = (var x)⁻¹ := by
      unfold rdev
      rw [← mul_inv, Real.mul_self_sqrt (var_pos x).le]
    rw [this, div_eq_mul_inv]
    ring
  have h0 : ∑ l, cen x l = 0 := by
    unfold cen mean
    rw [Finset.sum_sub_distrib, Finset.sum_const, Finset.card_univ, Fintype.card_fin, nsmul_eq_mul]
    push_cast
    ring
  have h2 : ∑ j, u j * lnorm x j = (∑ j, cen x j * u j) * rdev x := by
    rw [Finset.sum_mul]
    exact Finset.sum_congr rfl fun j _ => by unfold lnorm; ring
  unfold lbwd
  rw [h1, h2]
  generalize ∑ j, cen x j * u j = S
  have h3 : ∑ l, -(u l * rdev x + cen x l * (S * (-(1 / 2) * (rdev x * rdev x * rdev x)) / 512)
      + S * (-(1 / 2) * (rdev x * rdev x * rdev x)) / 512 * cen x l) = -((∑ l, u l) * rdev x) := by
    calc _ = ∑ l, (-(u l * rdev x) + cen x l * (-2 * (S * (-(1 / 2) * (rdev x * rdev x * rdev x)) / 512))) :=
          Finset.sum_congr rfl fun l _ => by ring
      _ = _ := by rw [Finset.sum_add_distrib, Finset.sum_neg_distrib, ← Finset.sum_mul, ← Finset.sum_mul, h0]; ring
  rw [h3]
  unfold lnorm
  ring

variable {x0 : FVec Ideal S4096x4616 .f32} {x1 x2 : FVec Ideal S1x512 .f32} {x3 : FVec Ideal S1x8x128x128 .f32}
    {x4 : FVec Ideal S1x8x128 .f32} {x5 : FVec Ideal S1x512x1024 .f32} {x6 : FVec Ideal S4096x1024 .f32} {a : Args} (H : Holds x0 x1 x2 x3 x4 x5 x6 a)
include H

/-- The first half's unit. -/
theorem gate_u (i : S4096x512.Idx) : @Eq EReal (val_main_v37 (F := Ideal) x0 i) ((gelu (a.u (i 0) (i 1)) : ℝ) : EReal) :=
  unitE_coe (H.u i)

/-- The second half's unit: the row that the norm sees. -/
theorem act_v (i : S4096x512.Idx) : @Eq EReal (val_main_v59 (F := Ideal) x0 i) ((a.act (i 0) (i 1) : ℝ) : EReal) :=
  unitE_coe (H.v i)

/-- The centred row. -/
theorem cen_v (i : S4096x512.Idx) : @Eq EReal (val_main_v67 (F := Ideal) x0 i) ((cen (a.act (i 0)) (i 1) : ℝ) : EReal) := by
  have hA := act_v H
  unfold val_main_v67 val_main_v66 val_main_v65 val_main_v64 val_main_v63 val_main_v62 val_main_cst_16 val_main_cst_17
  generalize val_main_v59 (F := Ideal) x0 = A at hA ⊢
  pointwise
  simp only [hA, coe_sum, ofBits_512, div_coe _ _ (show (512 : ℝ) ≠ 0 by norm_num), ← EReal.coe_sub]
  rfl

/-- Its variance, with epsilon. -/
theorem var_v (i : S4096x1.Idx) : @Eq EReal (val_main_v74 (F := Ideal) x0 i) ((var (a.act (i 0)) : ℝ) : EReal) := by
  have hC := cen_v H
  unfold val_main_v74 val_main_v73 val_main_v72 val_main_v71 val_main_v70 val_main_v69 val_main_v68 val_main_cst_18 val_main_cst_19 val_main_cst_20
  generalize val_main_v67 (F := Ideal) x0 = C at hC ⊢
  pointwise
  simp only [hC, coe_sum, ofBits_512, ofBits_eps, div_coe _ _ (show (512 : ℝ) ≠ 0 by norm_num), ← EReal.coe_mul, ← EReal.coe_add]
  rfl

/-- Its reciprocal deviation. -/
theorem rdev_v (i : S4096x1.Idx) : @Eq EReal (val_main_v75 (F := Ideal) x0 i) ((rdev (a.act (i 0)) : ℝ) : EReal) := by
  have hV := var_v H i
  unfold val_main_v75
  generalize val_main_v74 (F := Ideal) x0 = V at hV ⊢
  pointwise
  rw [hV]
  exact rsqrt_coe _ (var_pos _)

/-- The normalised row. -/
theorem lnorm_v (i : S4096x512.Idx) : @Eq EReal (val_main_v80 (F := Ideal) x0 i) ((lnorm (a.act (i 0)) (i 1) : ℝ) : EReal) := by
  have hC := cen_v H
  have hR := rdev_v H
  unfold val_main_v80 val_main_v79
  generalize val_main_v67 (F := Ideal) x0 = C at hC ⊢
  generalize val_main_v75 (F := Ideal) x0 = R at hR ⊢
  pointwise
  simp only [hC, hR, ← EReal.coe_mul]
  rfl

/-- The normalised row, scaled and shifted. -/
theorem vn_v (i : S4096x512.Idx) : @Eq EReal (val_main_v86 (F := Ideal) x0 x1 x2 i) ((a.vn (i 0) (i 1) : ℝ) : EReal) := by
  have hL := lnorm_v H
  have hg := H.g (i 1)
  have hb := H.b (i 1)
  unfold val_main_v86 val_main_v85 val_main_v84 val_main_v83 val_main_v82 val_main_v81 val_main_v61 val_main_v60
  generalize val_main_v80 (F := Ideal) x0 = L at hL ⊢
  pointwise
  rw [hL, hg, hb, ← EReal.coe_mul, ← EReal.coe_add]
  rfl

/-- The mix of a window's rows. -/
theorem mix_v (i : S4096x512.Idx) : @Eq EReal (val_main_v94 (F := Ideal) x0 x1 x2 x3 x4 i) ((a.mix (i 0) (i 1) : ℝ) : EReal) := by
  have hw := H.w
  have hN := vn_v H
  have hs := H.s
  unfold val_main_v94 val_main_v93 val_main_v92 val_main_v91 val_main_v90 val_main_v89 val_main_v88 val_main_v87 val_main_v15 val_main_v14 val_main_v13 val_main_v12
  generalize val_main_v11 (F := Ideal) x3 = W at hw ⊢
  generalize val_main_v86 (F := Ideal) x0 x1 x2 = N at hN ⊢
  pointwise
  simp only [hw, hN, hs, ← EReal.coe_mul, coe_sum, ← EReal.coe_add]
  refine congrArg _ ?_
  unfold Args.mix
  refine congrArg (· + _) (Finset.sum_congr rfl fun j _ => mul_comm _ _)

/-- The mix's gradient. -/
theorem dm_v (i : S4096x512.Idx) : @Eq EReal (val_main_v99 (F := Ideal) x0 x5 x6 i) ((a.dm (i 0) (i 1) : ℝ) : EReal) := by
  have hg := gate_u H
  have hd := H.d
  unfold val_main_v99
  generalize val_main_v37 (F := Ideal) x0 = A at hg ⊢
  generalize val_main_v98 (F := Ideal) x5 x6 = D at hd ⊢
  pointwise
  simp only [hg, hd, ← EReal.coe_mul]
  exact congrArg _ (mul_comm _ _)

/-- The gradient of the scaled and shifted row. -/
theorem dvn_v (i : S4096x512.Idx) : @Eq EReal (val_main_v110 (F := Ideal) x0 x3 x5 x6 i) ((a.dvn (i 0) (i 1) : ℝ) : EReal) := by
  have hw := H.w
  have hM := dm_v H
  unfold val_main_v110 val_main_v109 val_main_v108 val_main_v106 val_main_v105 val_main_v101
  generalize val_main_v11 (F := Ideal) x3 = W at hw ⊢
  generalize val_main_v99 (F := Ideal) x0 x5 x6 = M at hM ⊢
  pointwise
  simp only [hw, hM, ← EReal.coe_mul, coe_sum]
  refine congrArg _ ?_
  unfold Args.dvn
  refine Finset.sum_congr rfl fun j _ => mul_comm _ _

/-- The first half's gradient. -/
theorem du_v (i : S4096x512.Idx) : @Eq EReal (val_main_v168 (F := Ideal) x0 x1 x2 x3 x4 x5 x6 i) ((a.du (i 0) (i 1) : ℝ) : EReal) := by
  have hm : @Eq EReal (val_main_v100 (F := Ideal) x0 x1 x2 x3 x4 x5 x6 i) ((a.d (i 0) (i 1) * a.mix (i 0) (i 1) : ℝ) : EReal) := by
    have hd := H.d
    have hX := mix_v H
    unfold val_main_v100
    generalize val_main_v94 (F := Ideal) x0 x1 x2 x3 x4 = X at hX ⊢
    generalize val_main_v98 (F := Ideal) x5 x6 = D at hd ⊢
    pointwise
    simp only [hd, hX, ← EReal.coe_mul]
  exact backE_coe (H.u i) hm

/-- The bias's gradient. -/
theorem db_v (i : S128x512.Idx) : @Eq EReal (val_main_v104 (F := Ideal) x0 x5 x6 i) ((a.db (i 0) (i 1) : ℝ) : EReal) := by
  have hM := dm_v H
  unfold val_main_v104 val_main_v103 val_main_v102 val_main_v101 val_main_cst_22 val_main_cst_23
  generalize val_main_v99 (F := Ideal) x0 x5 x6 = M at hM ⊢
  pointwise
  simp only [hM, coe_sum, Fin.sum_univ_one]
  rfl

/-- The mixing weights' gradient. -/
theorem dw_v (i : S4x256x128.Idx) : @Eq EReal (val_main_v170 (F := Ideal) x0 x1 x2 x5 x6 i)
    ((a.dw ⟨(i 0).val * 2 + (i 1).val / 128, by have : (i 0).val < 4 := (i 0).isLt; have : (i 1).val < 256 := (i 1).isLt; omega⟩
      ⟨(i 1).val % 128, by omega⟩ (i 2) : ℝ) : EReal) := by
  have hM := dm_v H
  have hN := vn_v H
  unfold val_main_v170 val_main_v107 val_main_v106 val_main_v105 val_main_v101 val_main_v87
  generalize val_main_v86 (F := Ideal) x0 x1 x2 = N at hN ⊢
  generalize val_main_v99 (F := Ideal) x0 x5 x6 = M at hM ⊢
  pointwise
  simp only [hM, hN, ← EReal.coe_mul, coe_sum]
  rfl

/-- The scale's gradient. -/
theorem dg_v (i : S1x512.Idx) : @Eq EReal (val_main_v143 (F := Ideal) x0 x3 x5 x6 i) ((a.dg (i 1) : ℝ) : EReal) := by
  have hL := lnorm_v H
  have hD := dvn_v H
  unfold val_main_v143 val_main_v119 val_main_v116 val_main_v115 val_main_v114 val_main_cst_26 val_main_cst_27
  generalize val_main_v80 (F := Ideal) x0 = L at hL ⊢
  generalize val_main_v110 (F := Ideal) x0 x3 x5 x6 = D at hD ⊢
  pointwise
  simp only [hL, hD, ← EReal.coe_mul, coe_sum, Fin.sum_univ_one]
  refine congrArg _ (Finset.sum_congr rfl fun j _ => mul_comm _ _)

/-- The shift's gradient. -/
theorem dbeta_v (i : S1x512.Idx) : @Eq EReal (val_main_v142 (F := Ideal) x0 x3 x5 x6 i) ((a.dbeta (i 1) : ℝ) : EReal) := by
  have hD := dvn_v H
  unfold val_main_v142 val_main_v113 val_main_v112 val_main_v111 val_main_cst_24 val_main_cst_25
  generalize val_main_v110 (F := Ideal) x0 x3 x5 x6 = D at hD ⊢
  pointwise
  simp only [hD, coe_sum, Fin.sum_univ_one]
  rfl

/-- The cotangent of the normalised row. -/
theorem cot_v (i : S4096x512.Idx) : @Eq EReal (val_main_v118 (F := Ideal) x0 x1 x3 x5 x6 i)
    ((a.dvn (i 0) (i 1) * a.g (i 1) : ℝ) : EReal) := by
  have hD := dvn_v H
  have hg := H.g (i 1)
  unfold val_main_v118 val_main_v117 val_main_v81 val_main_v60
  generalize val_main_v110 (F := Ideal) x0 x3 x5 x6 = D at hD ⊢
  pointwise
  rw [hD, hg, ← EReal.coe_mul]

/-- What differentiating the variance multiplies the centred row with, by row. -/
theorem coef_v (i : S4096x512.Idx) : @Eq EReal (val_main_v129 (F := Ideal) x0 x1 x3 x5 x6 i)
    (((∑ j, cen (a.act (i 0)) j * (a.dvn (i 0) j * a.g j)) * (-(1 / 2) * (rdev (a.act (i 0)) / var (a.act (i 0)))) / 512 : ℝ) : EReal) := by
  have hQ := cot_v H
  have hC := cen_v H
  have hR := rdev_v H
  have hV := var_v H
  unfold val_main_v129 val_main_v128 val_main_v127 val_main_v126 val_main_v125 val_main_v122 val_main_v121 val_main_v120 val_main_v78
    val_main_v77 val_main_v76 val_main_cst_21 val_main_cst_28 val_main_cst_29 val_main_cst_30
  generalize val_main_v118 (F := Ideal) x0 x1 x3 x5 x6 = Q at hQ ⊢
  generalize val_main_v67 (F := Ideal) x0 = C at hC ⊢
  generalize val_main_v75 (F := Ideal) x0 = R at hR ⊢
  generalize val_main_v74 (F := Ideal) x0 = V at hV ⊢
  pointwise
  simp only [hQ, hC, hR, hV, Fin.sum_univ_one, ← EReal.coe_mul, coe_sum, ofBits_512, ofBits_neg_half,
    div_coe _ _ (show (512 : ℝ) ≠ 0 by norm_num), div_coe _ _ (var_pos _).ne']
  exact rfl

/-- The gradient of the row that the norm sees. -/
theorem dact_v (i : S4096x512.Idx) : @Eq EReal (val_main_v141 (F := Ideal) x0 x1 x3 x5 x6 i)
    ((lbwd (a.act (i 0)) (fun k => a.dvn (i 0) k * a.g k) (i 1) : ℝ) : EReal) := by
  have hQ := cot_v H
  have hC := cen_v H
  have hR := rdev_v H
  have hT := coef_v H
  unfold val_main_v141 val_main_v140 val_main_v139 val_main_v138 val_main_v137 val_main_v136 val_main_v135 val_main_v134 val_main_v133
    val_main_v132 val_main_v131 val_main_v130 val_main_v124 val_main_v123 val_main_cst_31 val_main_cst_32 val_main_cst_33
  generalize val_main_v118 (F := Ideal) x0 x1 x3 x5 x6 = Q at hQ ⊢
  generalize val_main_v67 (F := Ideal) x0 = C at hC ⊢
  generalize val_main_v75 (F := Ideal) x0 = R at hR ⊢
  generalize val_main_v129 (F := Ideal) x0 x1 x3 x5 x6 = T at hT ⊢
  pointwise
  simp only [hQ, hC, hR, hT, Fin.sum_univ_one, neg_coe, ← EReal.coe_mul, ← EReal.coe_add, coe_sum, ofBits_512,
    div_coe _ _ (show (512 : ℝ) ≠ 0 by norm_num)]
  exact congrArg _ (lbwd_eq _ (fun k => a.dvn (i 0) k * a.g k) _)

/-- The second half's gradient. -/
theorem dv_v (i : S4096x512.Idx) : @Eq EReal (val_main_v169 (F := Ideal) x0 x1 x3 x5 x6 i) ((a.dv (i 0) (i 1) : ℝ) : EReal) :=
  backE_coe (H.v i) (dact_v H i)

end Cert.SguRefIdeal.Closed

end
-- ==== Proof.Sgu.Main.lean ====
/- The spatial gating unit's gradient call against the derivative of the plain forward lines. -/
module

public import proofs.«01_k».proof.Defs
public import proofs.«01_k».proof.Proof.Sgu.Ref
public import proofs.«01_k».proof.Proof.Gen.SguRefIdeal.Run
public import proofs.«01_k».proof.Proof.Gen.Pre_finite_sgu

@[expose] public section

set_option maxRecDepth 16384

noncomputable section

namespace Cert.Proof

open Idealize.ShloMosaic Idealize.ShloMosaic.TcCoe Idealize.SL.Sem Cert.Reals Idealize.ShloMosaic.IdealRules
open Cert.SguIdeal Cert.SguIdeal.Closed Cert.SguRefIdeal.Closed Cert.SguRefIdeal.Read

/-- The precondition of the spatial gating unit's call: every argument is an array of reals. -/
theorem pre_sgu (p : FVec Ideal S4096x4616 .f32) (g b : FVec Ideal S1x512 .f32) (w : FVec Ideal S1x8x128x128 .f32)
    (s : FVec Ideal S1x8x128 .f32) (o : FVec Ideal S1x512x1024 .f32) (d : FVec Ideal S4096x1024 .f32)
    (h : Cert.Pre_finite_sgu.fn (F := Ideal) p g b w s o d = fun _ => 1#1) :
    (∃ r, p = up r) ∧ (∃ r, g = up r) ∧ (∃ r, b = up r) ∧ (∃ r, w = up r) ∧ (∃ r, s = up r) ∧ (∃ r, o = up r) ∧ ∃ r, d = up r := by
  unfold Cert.Pre_finite_sgu.fn at h
  dsimp only at h
  unfold Cert.Pre_finite_sgu.fn_part1 at h
  dsimp only at h
  simp only [andi_ones] at h
  obtain ⟨⟨⟨⟨⟨⟨h0, h1⟩, h2⟩, h3⟩, h4⟩, h5⟩, h6⟩ := h
  exact ⟨real_of_all _ _ _ _ _ _ h0, real_of_all _ _ _ _ _ _ h1, real_of_all _ _ _ _ _ _ h2, real_of_all _ _ _ _ _ _ h3,
    real_of_all _ _ _ _ _ _ h4, real_of_all _ _ _ _ _ _ h5, real_of_all _ _ _ _ _ _ h6⟩

/-- The unit's real arguments, out of the arrays of the call. -/
def argsOf (p : S4096x4616.Idx → ℝ) (g b : S1x512.Idx → ℝ) (w : S1x8x128x128.Idx → ℝ) (s : S1x8x128.Idx → ℝ)
    (o : S1x512x1024.Idx → ℝ) (d : S4096x1024.Idx → ℝ) : Args where
  u r n := p (ix2 r ⟨1544 + n.val, by omega⟩)
  v r n := p (ix2 r ⟨2056 + n.val, by omega⟩)
  g n := g (ix2 0 n)
  b n := b (ix2 0 n)
  w h i j := if mask (ix2 i j) = 1#1 then w (ix4 0 h i j) else 0
  s h i := s (ix3 0 h i)
  d r n := ∑ k : Fin 1024, d (ix2 r k) * o (ix3 0 n k)

/-- A real or zero, by a bit. -/
theorem select_coe (q : BitVec 1) (x : ℝ) :
    @Eq EReal (Scalar.select (α := EReal) q (x : EReal) 0) ((if q = 1#1 then x else 0 : ℝ) : EReal) := by
  unfold Scalar.select
  by_cases h : q = 1#1 <;> simp [h]

variable (p : S4096x4616.Idx → ℝ) (g b : S1x512.Idx → ℝ) (w : S1x8x128x128.Idx → ℝ) (s : S1x8x128.Idx → ℝ)
    (o : S1x512x1024.Idx → ℝ) (d : S4096x1024.Idx → ℝ)

/-- The kernel's arguments hold them. -/
theorem holds_kernel (m : (ℓ : Loc nD τ sig) → Buf (Elt Ideal) ℓ) (c : Dev nD) (hp : argP m c = up p) (hg : argG m c = up g)
    (hb : argB m c = up b) (hw : argW m c = up w) (hs : argS m c = up s) (ho : argO m c = up o) (hd : argD m c = up d) :
    Cert.SguIdeal.Closed.Holds m c (argsOf p g b w s o d) where
  u r n := by rw [hp]; rfl
  v r n := by rw [hp]; rfl
  g n := by rw [hg]; rfl
  b n := by rw [hb]; rfl
  w h i j := by
    unfold wmask argsOf
    rw [hw]
    generalize mask = M
    pointwise
    exact select_coe _ _
  s h i := by rw [hs]; rfl
  d r n := by
    rw [hd, ho]
    simp only [up_apply, ← EReal.coe_mul, coe_sum]
    rfl

/-- The reference's arguments hold them. -/
theorem holds_ref : Cert.SguRefIdeal.Closed.Holds (up p) (up g) (up b) (up w) (up s) (up o) (up d) (argsOf p g b w s o d) where
  u i := by
    unfold val_main_v0 argsOf
    pointwise
    rfl
  v i := by
    unfold val_main_v1 argsOf
    pointwise
    rfl
  g n := rfl
  b n := rfl
  w i := by
    have e : val_main_v8 (F := Ideal) = mask := rfl
    unfold val_main_v11 val_main_call1_v1 val_main_call1_v2 val_main_call1_v0 val_main_c_0 val_main_v10 val_main_v9 argsOf
    rw [e]
    generalize mask = M
    pointwise
    have z : @Eq EReal (FloatOps.sitofp (F := Ideal) .f32 (0#32)) 0 := by
      show (((0#32 : BitVec 32).toInt : ℝ) : EReal) = 0
      simp
    rw [z]
    exact select_coe _ _
  s h i := rfl
  d i := by
    unfold val_main_v98 val_main_v96 argsOf
    pointwise
    simp only [up_apply, ← EReal.coe_mul, coe_sum]

/-- Both halves by columns, of the reference. -/
theorem ref_both {a : Args} {x0 : FVec Ideal S4096x4616 .f32} {x1 x2 : FVec Ideal S1x512 .f32} {x3 : FVec Ideal S1x8x128x128 .f32}
    {x4 : FVec Ideal S1x8x128 .f32} {x5 : FVec Ideal S1x512x1024 .f32} {x6 : FVec Ideal S4096x1024 .f32}
    (H : Cert.SguRefIdeal.Closed.Holds x0 x1 x2 x3 x4 x5 x6 a) : val_main_v172 (F := Ideal) x0 x1 x2 x3 x4 x5 x6 = Gboth a := by
  have hu := du_v H
  have hv := dv_v H
  funext i
  unfold val_main_v172 val_main_v171 Gboth
  generalize val_main_v168 (F := Ideal) x0 x1 x2 x3 x4 x5 x6 = U at hu ⊢
  generalize val_main_v169 (F := Ideal) x0 x1 x3 x5 x6 = V at hv ⊢
  pointwise
  unfold both
  by_cases h : (i 0).val < 512
  · rw [dif_pos h, dif_pos h]
    exact hu _
  · rw [dif_neg h, dif_neg h]
    exact hv _

/-- The two constants that the kernel's tanh unit names. -/
theorem preserves_sgu : Cert.preserves_Sgu_SguIdeal :=
  ⟨named_const.statement _ _ _ _ _ rfl, named_const.statement _ _ _ _ _ rfl⟩

/-- The spatial gating unit's gradient call computes the derivatives of the forward lines, from real arguments. -/
theorem algebraic_sgu : Cert.algebraic_SguIdeal_SguRefIdeal_pre_finite_sgu := by
  intro m ρ m' ρ' hpre hag
  have hr := fun c => pre_sgu (argP m c) (argG m c) (argB m c) (argW m c) (argS m c) (argO m c) (argD m c) (hpre c)
  choose p hp using fun c => (hr c).1
  choose g hg using fun c => (hr c).2.1
  choose b hb using fun c => (hr c).2.2.1
  choose w hw using fun c => (hr c).2.2.2.1
  choose s hs using fun c => (hr c).2.2.2.2.1
  choose o ho using fun c => (hr c).2.2.2.2.2.1
  choose d hd using fun c => (hr c).2.2.2.2.2.2
  have HK := fun c => holds_kernel (p c) (g c) (b c) (w c) (s c) (o c) (d c) m c (hp c) (hg c) (hb c) (hw c) (hs c) (ho c) (hd c)
  have HR := fun c => holds_ref (p c) (g c) (b c) (w c) (s c) (o c) (d c)
  obtain ⟨a, ha⟩ : ∃ a : Dev nD → Args, ∀ c, argsOf (p c) (g c) (b c) (w c) (s c) (o c) (d c) = a c := ⟨_, fun _ => rfl⟩
  simp only [ha] at HK HR
  refine ⟨fun c => Gdu (a c), fun c => Gdv (a c), fun c => Gdw (a c), fun c => Gdbias (a c), fun c => Gdscale (a c),
    fun c => Gdshift (a c), fun c => Gboth (a c), ?_, ?_⟩
  · exact (θ_run _ _ _).mono (fun r h c => by
      obtain ⟨h9, h10, h11, h12, h13, h14, h15, hr⟩ := h c
      exact ⟨h9.trans (final9 m c _ (HK c)), h10.trans (final10 m c _ (HK c)), h11.trans (final11 m c _ (HK c)),
        h12.trans (final12 m c _ (HK c)), h13.trans (final13 m c _ (HK c)), h14.trans (final14 m c _ (HK c)),
        h15.trans (final15 m c _ (HK c)), hr⟩)
      (Cert.SguIdeal.Value.run_blocks m ρ)
  · refine (θ_run _ _ _).mono (fun r h c => ?_) (Cert.SguRefIdeal.Value.run m' ρ')
    obtain ⟨h9, h10, h11, h12, h13, h14, h15, hr⟩ := h c
    obtain ⟨a0, a1, a2, a3, a4, a5, a6⟩ := hag c
    have HR := HR c
    have e0 : StableHlo.launchContents m' c (Proc.tc.devRef Cert.SguRefIdeal.main_arg0) = argP m c := a0
    have e1 : StableHlo.launchContents m' c (Proc.tc.devRef Cert.SguRefIdeal.main_arg1) = argG m c := a1
    have e2 : StableHlo.launchContents m' c (Proc.tc.devRef Cert.SguRefIdeal.main_arg2) = argB m c := a2
    have e3 : StableHlo.launchContents m' c (Proc.tc.devRef Cert.SguRefIdeal.main_arg3) = argW m c := a3
    have e4 : StableHlo.launchContents m' c (Proc.tc.devRef Cert.SguRefIdeal.main_arg4) = argS m c := a4
    have e5 : StableHlo.launchContents m' c (Proc.tc.devRef Cert.SguRefIdeal.main_arg5) = argO m c := a5
    have e6 : StableHlo.launchContents m' c (Proc.tc.devRef Cert.SguRefIdeal.main_arg6) = argD m c := a6
    rw [← hp, ← hg, ← hb, ← hw, ← hs, ← ho, ← hd] at HR
    refine ⟨h9.trans ?_, h10.trans ?_, h11.trans ?_, h12.trans ?_, h13.trans ?_, h14.trans ?_, h15.trans ?_, hr⟩
    · rw [val_main_v168_eq, e0, e1, e2, e3, e4, e5, e6]
      exact funext fun i => du_v HR i
    · rw [val_main_v169_eq, e0, e1, e3, e5, e6]
      exact funext fun i => dv_v HR i
    · rw [val_main_v170_eq, e0, e1, e2, e5, e6]
      exact funext fun i => dw_v HR i
    · rw [val_main_v104_eq, e0, e5, e6]
      exact funext fun i => db_v HR i
    · rw [val_main_v143_eq, e0, e3, e5, e6]
      exact funext fun i => dg_v HR i
    · rw [val_main_v142_eq, e0, e3, e5, e6]
      exact funext fun i => dbeta_v HR i
    · rw [val_main_v172_eq, e0, e1, e2, e3, e4, e5, e6]
      exact ref_both HR

end Cert.Proof

end
-- ==== Proof.Act.Kernel.lean ====
/- The squared-ReLU call: each result as one closed form of the arguments. -/
module

public import proofs.«01_k».proof.Proof.Gen.ActIdeal.Value
public import Idealize.ShloMosaic.Lib.Pointwise
public import Idealize.ShloMosaic.Lib.Pipeline.ValueKit

@[expose] public section

set_option maxRecDepth 16384

noncomputable section

namespace Cert.ActIdeal.Closed

open Cert.ActIdeal Cert.ActIdeal.Gen Idealize.ShloMosaic Idealize.ShloMosaic.TcCoe Idealize.SL.Sem
open Idealize.ShloMosaic.Pipeline (Dat)

variable (m : (ℓ : Loc nD τ sig) → Buf (Elt Ideal) ℓ)

/-- The rectified product with `w_up`, squared, at row `r`, column `k`. -/
def act (h : FVec Ideal S4096x1024 .f32) (w : FVec Ideal S1024x4096 .f32) (r k : Fin 4096) : EReal :=
  max (∑ j : Fin 1024, h (ix2 r j) * w (ix2 j k)) 0 * max (∑ j : Fin 1024, h (ix2 r j) * w (ix2 j k)) 0

/-- The activation. -/
def Ga (h : FVec Ideal S4096x1024 .f32) (w : FVec Ideal S1024x4096 .f32) : FVec Ideal S4096x4096 .bf16 :=
  fun i => act h w (i 0) (i 1)

/-- The activation, transposed. -/
def Gt (h : FVec Ideal S4096x1024 .f32) (w : FVec Ideal S1024x4096 .f32) : FVec Ideal S4096x4096 .bf16 :=
  fun i => act h w (i 1) (i 0)

/-- The arguments, as arrays. -/
abbrev argH (c : Dev nD) : FVec Ideal S4096x1024 .f32 := m ((c : Thread nD τ).loc main_arg0)
abbrev argW (c : Dev nD) : FVec Ideal S1024x4096 .f32 := m ((c : Thread nD τ).loc main_arg1)

/-- The block each window is on at a grid point: row block `t / 4`, column block `t % 4`. -/
theorem index : ∀ t : Fin cfg0.N,
    win0_0.index t = ![t.val / 4, 0] ∧ win0_1.index t = ![t.val % 4, 0] ∧ win0_2.index t = ![t.val / 4, t.val % 4]
    ∧ win0_3.index t = ![t.val % 4, t.val / 4] := (by decide +kernel : ∀ t : Fin grid0.N, _)

/-- The activation after the call. -/
theorem final2 (c : Dev nD) : (dats m 0 c).arrAt 2 cfg0.N = Ga (argH m c) (argW m c) := by
  refine (dats m 0 c).arrAt_eq_of_covers 2 _ (by decide +kernel) fun t hf y => ?_
  blk_simp
  rw [after0_2]
  frame_out
  obtain ⟨i0, i1, i2, i3⟩ := index t
  unfold_payloads
  pointwise [Ga, act]
  blk_point [iblk, V, i0, i1, i2]

/-- The transposed activation after the call. -/
theorem final3 (c : Dev nD) : (dats m 0 c).arrAt 3 cfg0.N = Gt (argH m c) (argW m c) := by
  refine (dats m 0 c).arrAt_eq_of_covers 3 _ (by decide +kernel) fun t hf y => ?_
  blk_simp
  rw [after0_3]
  frame_out
  obtain ⟨i0, i1, i2, i3⟩ := index t
  unfold_payloads
  pointwise [Gt, act]
  blk_point [iblk, V, i0, i1, i3]

end Cert.ActIdeal.Closed

end
-- ==== Proof.Act.Main.lean ====
/- The squared-ReLU call against the plain forward lines. -/
module

public import proofs.«01_k».proof.Defs
public import proofs.«01_k».proof.Proof.Act.Kernel
public import proofs.«01_k».proof.Proof.Gen.ActRefIdeal.Run

@[expose] public section

set_option maxRecDepth 16384

noncomputable section

namespace Cert.Proof

open Idealize.ShloMosaic Idealize.ShloMosaic.TcCoe Idealize.SL.Sem
open Cert.ActIdeal.Closed

/-- The squared-ReLU call computes the forward lines, from any arguments. -/
theorem algebraic_act : Cert.algebraic_ActIdeal_ActRefIdeal := by
  intro m ρ m' ρ' _ hag
  refine ⟨fun c => Ga (argH m c) (argW m c), fun c => Gt (argH m c) (argW m c), ?_, ?_⟩
  · exact (θ_run _ _ _).mono (fun r h c => by
      obtain ⟨h2, h3, hr⟩ := h c
      exact ⟨h2.trans (final2 m c), h3.trans (final3 m c), hr⟩) (Cert.ActIdeal.Value.run_blocks m ρ)
  · refine (θ_run _ _ _).mono (fun r h c => ?_) (Cert.ActRefIdeal.Value.run m' ρ')
    obtain ⟨h2, h3, hr⟩ := h c
    obtain ⟨a0, a1⟩ := hag c
    refine ⟨h2.trans ?_, h3.trans ?_, hr⟩ <;> rw [a0, a1]
    all_goals
      funext i
      pointwise [Ga, Gt, act]
      try rfl

end Cert.Proof

end
-- ==== Proof.Merge.Kernel.lean ====
/- The gated sum of the branches: each result as one closed form of the arguments. -/
module

public import proofs.«01_k».proof.Proof.Gen.MergeIdeal.Value
public import Idealize.ShloMosaic.Lib.Pointwise
public import Idealize.ShloMosaic.Lib.Pipeline.ValueKit

@[expose] public section

set_option maxRecDepth 16384

noncomputable section

namespace Cert.MergeIdeal.Closed

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

/-- The logistic function as both programs spell it. -/
def sig1 (x : EReal) : EReal := Ideal.div 1 (1 + Ideal.exp (0 - x))

/-- A branch behind its projection, at row `r`, column `k`. -/
def proj (o : FVec Ideal S4096x512 .f32) (w : FVec Ideal S1x512x1024 .f32) (r : Fin 4096) (k : Fin 1024) : EReal :=
  ∑ j : Fin 512, o (ix2 r j) * w (ix3 0 j k)

/-- Column `k` of the first (`s = 0`) or second (`s = 1`) half of the gates. -/
def col (s : Fin 2) (k : Fin 1024) : Fin 2048 := ⟨s.val * 1024 + k.val, by omega⟩

/-- The gated sum at row `r`, column `k`. -/
def mix (o sg : FVec Ideal S4096x512 .f32) (g : FVec Ideal S4096x2048 .f32) (wa wb : FVec Ideal S1x512x1024 .f32)
    (r : Fin 4096) (k : Fin 1024) : EReal :=
  sig1 (g (ix2 r (col 0 k))) * proj o wa r k + sig1 (g (ix2 r (col 1 k))) * proj sg wb r k

/-- The gated sums. -/
def Gm (o sg : FVec Ideal S4096x512 .f32) (g : FVec Ideal S4096x2048 .f32) (wa wb : FVec Ideal S1x512x1024 .f32) :
    FVec Ideal S4096x1024 .bf16 := fun i => mix o sg g wa wb (i 0) (i 1)

/-- The gated sums, transposed. -/
def Gt (o sg : FVec Ideal S4096x512 .f32) (g : FVec Ideal S4096x2048 .f32) (wa wb : FVec Ideal S1x512x1024 .f32) :
    FVec Ideal S1024x4096 .bf16 := fun i => mix o sg g wa wb (i 1) (i 0)

/-- A branch behind its projection. -/
def Gy (o : FVec Ideal S4096x512 .f32) (w : FVec Ideal S1x512x1024 .f32) : FVec Ideal S4096x1024 .bf16 :=
  fun i => proj o w (i 0) (i 1)

/-- The arguments, as arrays. -/
abbrev argO (c : Dev nD) : FVec Ideal S4096x512 .f32 := m ((c : Thread nD τ).loc main_arg0)
abbrev argS (c : Dev nD) : FVec Ideal S4096x512 .f32 := m ((c : Thread nD τ).loc main_arg1)
abbrev argG (c : Dev nD) : FVec Ideal S4096x2048 .f32 := m ((c : Thread nD τ).loc main_arg2)
abbrev argWa (c : Dev nD) : FVec Ideal S1x512x1024 .f32 := m ((c : Thread nD τ).loc main_arg3)
abbrev argWb (c : Dev nD) : FVec Ideal S1x512x1024 .f32 := m ((c : Thread nD τ).loc main_arg4)

/-- The block each window is on at a grid point; the gates' windows are on column blocks 1 and 2 of the padded array. -/
theorem index : ∀ t : Fin cfg0.N,
    win0_0.index t = ![t.val, 0] ∧ win0_1.index t = ![t.val, 0] ∧ win0_2.index t = ![0, 0] ∧ win0_3.index t = ![0, 0]
    ∧ win0_4.index t = ![t.val, 1] ∧ win0_5.index t = ![t.val, 2] ∧ win0_6.index t = ![t.val, 0]
    ∧ win0_7.index t = ![t.val, 0] ∧ win0_8.index t = ![t.val, 0] ∧ win0_9.index t = ![0, t.val] :=
  (by decide +kernel : ∀ t : Fin grid0.N, _)

/-- The array `v1` that the call reads, out of the arguments. -/
theorem V_v1 (c : Dev nD) : @Eq (FVec Ideal S4096x3200 .bf16) (V m c main_v1)
    (truncf .bf16 (pad S4096x3200 ![0, 1024] ![0, 128] ![0, 0] (argG m c) (sitofp .f32 (constantI S_ 32 0#32))
      pads_S4096x2048_S4096x3200_000_10241280 h_S_) bitsLt_bf16_f32) := by
  unfold V
  simp only [hostOps0, hostOps0_1, hostOps0_2, List.flatten_cons, List.flatten_nil, List.append_nil, List.cons_append,
    List.nil_append]
  after_results
  rfl

/-- The padded gates at a column of the gates. -/
theorem V_v1_apply (c : Dev nD) (i : S4096x3200.Idx) (r : Fin 4096) (k : Fin 2048) (h0 : r.val = (i 0).val)
    (h1 : 1024 + k.val = (i 1).val) :
    (V m c main_v1 : FVec Ideal S4096x3200 .bf16) i = argG m c (ix2 r k) := by
  rw [V_v1]
  pointwise
  rw [dif_pos (by omega)]
  exact congrArg (argG m c) (Shape.idx_ext₂ h0.symm (by show (i 1).val - 1024 = k.val; omega))

/-- An element of the first gate window at a grid point: the first half of the gates. -/
theorem gateA (c : Dev nD) (t : Fin cfg0.N) (y : S512x1024.Idx) (r : Fin 4096) (k : Fin 1024)
    (hr : r.val = t.val * 512 + (y 0).val) (hk : k.val = (y 1).val) :
    (X0_4 m c t : FVec Ideal S512x1024 .bf16) y = argG m c (ix2 r (col 0 k)) := by
  obtain ⟨-, -, -, -, i2, -⟩ := index t
  unfold X0_4 Pipeline.Window.fill
  rw [dif_pos (moved0_4 t y)]
  blk_simp [iblk]
  refine V_v1_apply m c _ _ _ ?_ ?_
  · blk_simp [i2]; exact hr
  · blk_simp [i2]; show 1024 + (0 * 1024 + k.val) = 1 * 1024 + (y 1).val; omega

/-- An element of the second gate window at a grid point: the second half of the gates. -/
theorem gateB (c : Dev nD) (t : Fin cfg0.N) (y : S512x1024.Idx) (r : Fin 4096) (k : Fin 1024)
    (hr : r.val = t.val * 512 + (y 0).val) (hk : k.val = (y 1).val) :
    (X0_5 m c t : FVec Ideal S512x1024 .bf16) y = argG m c (ix2 r (col 1 k)) := by
  obtain ⟨-, -, -, -, -, i2, -⟩ := index t
  unfold X0_5 Pipeline.Window.fill
  rw [dif_pos (moved0_5 t y)]
  blk_simp [iblk]
  refine V_v1_apply m c _ _ _ ?_ ?_
  · blk_simp [i2]; exact hr
  · blk_simp [i2]; show 1024 + (1 * 1024 + k.val) = 2 * 1024 + (y 1).val; omega
/-- An element of the array `v5` that the call reads: the first branch's weights, transposed. -/
theorem V_v5 (c : Dev nD) (i : S1024x512.Idx) (r : Fin 512) (k : Fin 1024) (h0 : k.val = (i 0).val) (h1 : r.val = (i 1).val) :
    (V m c main_v5 : FVec Ideal S1024x512 .bf16) i = argWa m c (ix3 0 r k) := by
  unfold V
  simp only [hostOps0, hostOps0_1, hostOps0_2, List.flatten_cons, List.flatten_nil, List.append_nil, List.cons_append,
    List.nil_append]
  after_results
  pointwise
  refine congrArg (argWa m c) (funext fun a => ?_)
  fin_cases a <;> refine Fin.ext ?_ <;> first | rfl | simp [h0, h1]

/-- An element of the array `v8` that the call reads: the second branch's weights, transposed. -/
theorem V_v8 (c : Dev nD) (i : S1024x512.Idx) (r : Fin 512) (k : Fin 1024) (h0 : k.val = (i 0).val) (h1 : r.val = (i 1).val) :
    (V m c main_v8 : FVec Ideal S1024x512 .bf16) i = argWb m c (ix3 0 r k) := by
  unfold V
  simp only [hostOps0, hostOps0_1, hostOps0_2, List.flatten_cons, List.flatten_nil, List.append_nil, List.cons_append,
    List.nil_append]
  after_results
  pointwise
  refine congrArg (argWb m c) (funext fun a => ?_)
  fin_cases a <;> refine Fin.ext ?_ <;> first | rfl | simp [h0, h1]

/-- The gated sums after the call. -/
theorem final6 (c : Dev nD) : (dats m 0 c).arrAt 6 cfg0.N = Gm (argO m c) (argS m c) (argG m c) (argWa m c) (argWb m c) := by
  refine (dats m 0 c).arrAt_eq_of_covers 6 _ (by decide +kernel) fun t hf y => ?_
  blk_simp
  rw [after0_6]
  simp only [outsAt0]
  frame_out
  obtain ⟨i0, i1, i2, i3, i4, i5, i6, i7, i8, i9⟩ := index t
  unfold_payloads
  pointwise [Gm, mix, proj, sig1]
  rw [gateA m c t y ((win0_6.blk t).view.emb y 0) ((win0_6.blk t).view.emb y 1) (by blk_simp [i6]) (by blk_simp [i6])]
  rw [gateB m c t y ((win0_6.blk t).view.emb y 0) ((win0_6.blk t).view.emb y 1) (by blk_simp [i6]) (by blk_simp [i6])]
  blk_point [iblk, V, i0, i1, i2, i3, i6]
  all_goals first | exact V_v5 m c _ _ _ (by blk_simp [i2, i6]) (by blk_simp [i2, i6]) | exact V_v8 m c _ _ _ (by blk_simp [i3, i6]) (by blk_simp [i3, i6])

/-- The first branch behind its projection, after the call. -/
theorem final7 (c : Dev nD) : (dats m 0 c).arrAt 7 cfg0.N = Gy (argO m c) (argWa m c) := by
  refine (dats m 0 c).arrAt_eq_of_covers 7 _ (by decide +kernel) fun t hf y => ?_
  blk_simp
  rw [after0_7]
  simp only [outsAt0]
  frame_out
  obtain ⟨i0, i1, i2, i3, i4, i5, i6, i7, i8, i9⟩ := index t
  unfold_payloads
  pointwise [Gy, proj]
  blk_point [iblk, V, i0, i2, i7]
  all_goals first | exact V_v5 m c _ _ _ (by blk_simp [i2, i7]) (by blk_simp [i2, i7])

/-- The second branch behind its projection, after the call. -/
theorem final8 (c : Dev nD) : (dats m 0 c).arrAt 8 cfg0.N = Gy (argS m c) (argWb m c) := by
  refine (dats m 0 c).arrAt_eq_of_covers 8 _ (by decide +kernel) fun t hf y => ?_
  blk_simp
  rw [after0_8]
  simp only [outsAt0]
  frame_out
  obtain ⟨i0, i1, i2, i3, i4, i5, i6, i7, i8, i9⟩ := index t
  unfold_payloads
  pointwise [Gy, proj]
  blk_point [iblk, V, i1, i3, i8]
  all_goals first | exact V_v8 m c _ _ _ (by blk_simp [i3, i8]) (by blk_simp [i3, i8])

/-- The transposed gated sums after the call. -/
theorem final9 (c : Dev nD) : (dats m 0 c).arrAt 9 cfg0.N = Gt (argO m c) (argS m c) (argG m c) (argWa m c) (argWb m c) := by
  refine (dats m 0 c).arrAt_eq_of_covers 9 _ (by decide +kernel) fun t hf y => ?_
  blk_simp
  rw [after0_9]
  simp only [outsAt0]
  frame_out
  obtain ⟨i0, i1, i2, i3, i4, i5, i6, i7, i8, i9⟩ := index t
  unfold_payloads
  pointwise [Gt, mix, proj, sig1]
  rw [gateA m c t (ix2 (y 1) (y 0)) ((win0_9.blk t).view.emb y 1) ((win0_9.blk t).view.emb y 0) (by blk_simp [i9]) (by blk_simp [i9])]
  rw [gateB m c t (ix2 (y 1) (y 0)) ((win0_9.blk t).view.emb y 1) ((win0_9.blk t).view.emb y 0) (by blk_simp [i9]) (by blk_simp [i9])]
  blk_point [iblk, V, i0, i1, i2, i3, i9]
  all_goals first | exact V_v5 m c _ _ _ (by blk_simp [i2, i9]) (by blk_simp [i2, i9]) | exact V_v8 m c _ _ _ (by blk_simp [i3, i9]) (by blk_simp [i3, i9])

end Cert.MergeIdeal.Closed

end
-- ==== Proof.Merge.Ref.lean ====
/- The reference of the gated sum, result by result, read at an element. -/
module

public import proofs.«01_k».proof.Proof.Merge.Kernel
public import proofs.«01_k».proof.Proof.Gen.MergeRefIdeal.Read

@[expose] public section

set_option maxRecDepth 16384

noncomputable section

namespace Cert.MergeRefIdeal.Closed

open Cert.MergeRefIdeal Cert.MergeRefIdeal.Read Idealize.ShloMosaic Idealize.ShloMosaic.TcCoe Idealize.SL.Sem
open Cert.MergeIdeal.Closed

variable (o sg : FVec Ideal S4096x512 .f32) (g : FVec Ideal S4096x2048 .f32) (wa wb : FVec Ideal S1x512x1024 .f32)

/-- The first branch behind its projection. -/
theorem ref_a : val_main_v22 (F := Ideal) o wa = Gy o wa := by
  funext i
  unfold val_main_v22 val_main_v1 val_main_v0
  pointwise [Gy, proj]
  try rfl

/-- The second branch behind its projection. -/
theorem ref_b : val_main_v23 (F := Ideal) sg wb = Gy sg wb := by
  funext i
  unfold val_main_v23 val_main_v3 val_main_v2
  pointwise [Gy, proj]
  try rfl

/-- The gated sums. -/
theorem ref_m : val_main_v21 (F := Ideal) o sg g wa wb = Gm o sg g wa wb := by
  funext i
  unfold val_main_v21 val_main_v20 val_main_v19 val_main_v18 val_main_v17 val_main_v16 val_main_v15 val_main_v14 val_main_v13
    val_main_v12 val_main_v11 val_main_v10 val_main_v9 val_main_v8 val_main_v7 val_main_v6 val_main_v5 val_main_v4 val_main_v3
    val_main_v2 val_main_v1 val_main_v0 val_main_cst val_main_cst_0 val_main_cst_1 val_main_cst_2
  pointwise [Gm, mix, proj, sig1]
  simp only [zero_sub]
  reads_congr <;> first
    | rfl
    | exact congrArg g (Shape.idx_ext₂ rfl (Nat.zero_add _).symm)
    | exact congrArg g (Shape.idx_ext₂ rfl (by show 1024 + _ = 1 * 1024 + _; omega))

/-- The gated sums, transposed. -/
theorem ref_t : val_main_v24 (F := Ideal) o sg g wa wb = Gt o sg g wa wb := by
  funext i
  have hh := ref_m o sg g wa wb
  unfold val_main_v24
  generalize val_main_v21 (F := Ideal) o sg g wa wb = r at hh ⊢
  subst hh
  pointwise [Gm]
  rfl

end Cert.MergeRefIdeal.Closed

end
-- ==== Proof.Merge.Main.lean ====
/- The gated sum of the branches against the plain forward lines. -/
module

public import proofs.«01_k».proof.Defs
public import proofs.«01_k».proof.Proof.Merge.Kernel
public import proofs.«01_k».proof.Proof.Gen.MergeRefIdeal.Run
public import proofs.«01_k».proof.Proof.Merge.Ref

@[expose] public section

set_option maxRecDepth 16384

noncomputable section

namespace Cert.Proof

open Idealize.ShloMosaic Idealize.ShloMosaic.TcCoe Idealize.SL.Sem
open Cert.MergeIdeal.Closed Cert.MergeRefIdeal.Read Cert.MergeRefIdeal.Closed

/-- The call of the gated sum computes the forward lines, from any arguments. -/
theorem algebraic_merge : Cert.algebraic_MergeIdeal_MergeRefIdeal := by
  intro m ρ m' ρ' _ hag
  refine ⟨fun c => Gm (argO m c) (argS m c) (argG m c) (argWa m c) (argWb m c), fun c => Gy (argO m c) (argWa m c), fun c => Gy (argS m c) (argWb m c), fun c => Gt (argO m c) (argS m c) (argG m c) (argWa m c) (argWb m c), ?_, ?_⟩
  · exact (θ_run _ _ _).mono (fun r h c => by
      obtain ⟨h6, h7, h8, h9, hr⟩ := h c
      exact ⟨h6.trans (final6 m c), h7.trans (final7 m c), h8.trans (final8 m c), h9.trans (final9 m c), hr⟩) (Cert.MergeIdeal.Value.run_blocks m ρ)
  · refine (θ_run _ _ _).mono (fun r h c => ?_) (Cert.MergeRefIdeal.Value.run m' ρ')
    obtain ⟨h6, h7, h8, h9, hr⟩ := h c
    obtain ⟨a0, a1, a2, a3, a4⟩ := hag c
    refine ⟨h6.trans ?_, h7.trans ?_, h8.trans ?_, h9.trans ?_, hr⟩
    · rw [val_main_v21_eq, a0, a1, a2, a3, a4]
      exact ref_m _ _ _ _ _
    · rw [val_main_v22_eq, a0, a3]
      exact ref_a _ _
    · rw [val_main_v23_eq, a1, a4]
      exact ref_b _ _
    · rw [val_main_v24_eq, a0, a1, a2, a3, a4]
      exact ref_t _ _ _ _ _

end Cert.Proof

end
-- ==== Proof.Resid.Kernel.lean ====
/- The residual and the second norm: each result as one closed form of the arguments. -/
module

public import proofs.«01_k».proof.Proof.Gen.ResidIdeal.Value
public import Idealize.ShloMosaic.Lib.Pointwise
public import Idealize.ShloMosaic.Lib.Pipeline.ValueKit

@[expose] public section

set_option maxRecDepth 16384

noncomputable section

namespace Cert.ResidIdeal.Closed

open Cert.ResidIdeal Cert.ResidIdeal.Gen Idealize.ShloMosaic Idealize.ShloMosaic.TcCoe Idealize.SL.Sem
open Idealize.ShloMosaic.Pipeline (Dat)

variable (m : (ℓ : Loc nD τ sig) → Buf (Elt Ideal) ℓ)

/-- The residual sum at row `r`, column `k`. -/
def res (mg : FVec Ideal S4096x1024 .f32) (x : FVec Ideal S1x4096x1024 .f32) (w : FVec Ideal S1x1024x1024 .f32)
    (r : Fin 4096) (k : Fin 1024) : EReal := x (ix3 0 r k) + ∑ j : Fin 1024, mg (ix2 r j) * w (ix3 0 j k)

/-- The residual sums. -/
def Gx (mg : FVec Ideal S4096x1024 .f32) (x : FVec Ideal S1x4096x1024 .f32) (w : FVec Ideal S1x1024x1024 .f32) :
    FVec Ideal S4096x1024 .f32 := fun i => res mg x w (i 0) (i 1)

/-- The reciprocal root mean square of a row. -/
def rms (y : FVec Ideal S4096x1024 .f32) (r : Fin 4096) : EReal :=
  Ideal.rsqrt (Ideal.div (∑ k : Fin 1024, y (ix2 r k) * y (ix2 r k)) (Ideal.ofBits .f32 0x44800000#32)
    + Ideal.ofBits .f32 0x358637BD#32)

/-- The normed rows. -/
def Gh (y : FVec Ideal S4096x1024 .f32) (g : FVec Ideal S1x1024 .f32) : FVec Ideal S4096x1024 .bf16 :=
  fun i => y (ix2 (i 0) (i 1)) * rms y (i 0) * g (ix2 0 (i 1))

/-- The normed rows, transposed. -/
def Gt (y : FVec Ideal S4096x1024 .f32) (g : FVec Ideal S1x1024 .f32) : FVec Ideal S1024x4096 .bf16 :=
  fun i => y (ix2 (i 1) (i 0)) * rms y (i 1) * g (ix2 0 (i 0))

/-- The reciprocal root mean squares. -/
def Gr (y : FVec Ideal S4096x1024 .f32) : FVec Ideal S4096x1 .f32 := fun i => rms y (i 0)

/-- The arguments, as arrays. -/
abbrev argM (c : Dev nD) : FVec Ideal S4096x1024 .f32 := m ((c : Thread nD τ).loc main_arg0)
abbrev argX (c : Dev nD) : FVec Ideal S1x4096x1024 .f32 := m ((c : Thread nD τ).loc main_arg1)
abbrev argW (c : Dev nD) : FVec Ideal S1x1024x1024 .f32 := m ((c : Thread nD τ).loc main_arg2)
abbrev argG (c : Dev nD) : FVec Ideal S1x1024 .f32 := m ((c : Thread nD τ).loc main_arg3)

/-- The block each window is on at a grid point. -/
theorem index : ∀ t : Fin cfg0.N,
    win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, t.val]
    ∧ win0_7.index t = ![t.val, 0] := (by decide +kernel : ∀ t : Fin grid0.N, _)

/-- The residual sums after the call. -/
theorem final4 (c : Dev nD) : (dats m 0 c).arrAt 4 cfg0.N = Gx (argM m c) (argX m c) (argW m c) := by
  refine (dats m 0 c).arrAt_eq_of_covers 4 _ (by decide +kernel) fun t hf y => ?_
  blk_simp
  rw [after0_4]
  frame_out
  obtain ⟨i0, i1, i2, i3, i4, i5, i6, i7⟩ := index t
  unfold_payloads
  pointwise [Gx, res]
  blk_point [iblk, V, i0, i1, i2, i4]

/-- The normed rows after the call. -/
theorem final5 (c : Dev nD) : (dats m 0 c).arrAt 5 cfg0.N = Gh (Gx (argM m c) (argX m c) (argW m c)) (argG m c) := by
  refine (dats m 0 c).arrAt_eq_of_covers 5 _ (by decide +kernel) fun t hf y => ?_
  blk_simp
  rw [after0_5]
  frame_out
  obtain ⟨i0, i1, i2, i3, i4, i5, i6, i7⟩ := index t
  unfold_payloads
  pointwise [Gh, rms, Gx, res]
  blk_point [iblk, V, i0, i1, i2, i3, i5]

/-- The transposed normed rows after the call. -/
theorem final6 (c : Dev nD) : (dats m 0 c).arrAt 6 cfg0.N = Gt (Gx (argM m c) (argX m c) (argW m c)) (argG m c) := by
  refine (dats m 0 c).arrAt_eq_of_covers 6 _ (by decide +kernel) fun t hf y => ?_
  blk_simp
  rw [after0_6]
  frame_out
  obtain ⟨i0, i1, i2, i3, i4, i5, i6, i7⟩ := index t
  unfold_payloads
  pointwise [Gt, rms, Gx, res]
  blk_point [iblk, V, i0, i1, i2, i3, i6]

/-- The reciprocal root mean squares after the call. -/
theorem final7 (c : Dev nD) : (dats m 0 c).arrAt 7 cfg0.N = Gr (Gx (argM m c) (argX m c) (argW m c)) := by
  refine (dats m 0 c).arrAt_eq_of_covers 7 _ (by decide +kernel) fun t hf y => ?_
  blk_simp
  rw [after0_7]
  frame_out
  obtain ⟨i0, i1, i2, i3, i4, i5, i6, i7⟩ := index t
  unfold_payloads
  pointwise [Gr, rms, Gx, res]
  blk_point [iblk, V, i0, i1, i2, i7]

end Cert.ResidIdeal.Closed

end
-- ==== Proof.Resid.Ref.lean ====
/- The reference of the residual and the second norm, result by result, read at an element. -/
module

public import proofs.«01_k».proof.Proof.Resid.Kernel
public import proofs.«01_k».proof.Proof.Gen.ResidRefIdeal.Read

@[expose] public section

set_option maxRecDepth 16384

noncomputable section

namespace Cert.ResidRefIdeal.Closed

open Cert.ResidRefIdeal Cert.ResidRefIdeal.Read Idealize.ShloMosaic Idealize.ShloMosaic.TcCoe Idealize.SL.Sem
open Cert.ResidIdeal.Closed

variable (mg : FVec Ideal S4096x1024 .f32) (x : FVec Ideal S1x4096x1024 .f32) (w : FVec Ideal S1x1024x1024 .f32)
  (g : FVec Ideal S1x1024 .f32)

/-- The residual sums. -/
theorem ref_x : val_main_v3 (F := Ideal) mg x w = Gx mg x w := by
  funext i
  unfold val_main_v3 val_main_v2 val_main_v1 val_main_v0
  pointwise [Gx, res]
  try rfl

/-- The reciprocal root mean squares. -/
theorem ref_r : val_main_v11 (F := Ideal) mg x w = Gr (Gx mg x w) := by
  funext i
  have hx := ref_x mg x w
  unfold val_main_v11 val_main_v10 val_main_v9 val_main_v8 val_main_v7 val_main_v6 val_main_v5 val_main_v4
    val_main_cst val_main_cst_0 val_main_cst_1
  generalize val_main_v3 (F := Ideal) mg x w = y at hx ⊢
  rw [← hx]
  pointwise [Gr, rms]
  try rfl

/-- The normed rows. -/
theorem ref_h : val_main_v18 (F := Ideal) mg x w g = Gh (Gx mg x w) g := by
  funext i
  have hx := ref_x mg x w
  have hr := ref_r mg x w
  unfold val_main_v18 val_main_v17 val_main_v16 val_main_v15 val_main_v14 val_main_v13 val_main_v12
  generalize val_main_v11 (F := Ideal) mg x w = r at hr ⊢
  generalize val_main_v3 (F := Ideal) mg x w = y at hx ⊢
  rw [← hx] at hr ⊢
  subst hr
  pointwise [Gh, Gr]
  try rfl

/-- The normed rows, transposed. -/
theorem ref_t : val_main_v19 (F := Ideal) mg x w g = Gt (Gx mg x w) g := by
  funext i
  have hh := ref_h mg x w g
  unfold val_main_v19
  generalize val_main_v18 (F := Ideal) mg x w g = r at hh ⊢
  subst hh
  pointwise [Gh]
  try rfl

end Cert.ResidRefIdeal.Closed

end
-- ==== Proof.Resid.Main.lean ====
/- The residual and the second norm against the plain forward lines. -/
module

public import proofs.«01_k».proof.Defs
public import proofs.«01_k».proof.Proof.Resid.Kernel
public import proofs.«01_k».proof.Proof.Gen.ResidRefIdeal.Run
public import proofs.«01_k».proof.Proof.Resid.Ref

@[expose] public section

set_option maxRecDepth 16384

noncomputable section

namespace Cert.Proof

open Idealize.ShloMosaic Idealize.ShloMosaic.TcCoe Idealize.SL.Sem
open Cert.ResidIdeal.Closed Cert.ResidRefIdeal.Read Cert.ResidRefIdeal.Closed

/-- The call of the residual and the second norm computes the forward lines, from any arguments. -/
theorem algebraic_resid : Cert.algebraic_ResidIdeal_ResidRefIdeal := by
  intro m ρ m' ρ' _ hag
  refine ⟨fun c => Gx (argM m c) (argX m c) (argW m c), fun c => Gh (Gx (argM m c) (argX m c) (argW m c)) (argG m c), fun c => Gt (Gx (argM m c) (argX m c) (argW m c)) (argG m c), fun c => Gr (Gx (argM m c) (argX m c) (argW m c)), ?_, ?_⟩
  · exact (θ_run _ _ _).mono (fun r h c => by
      obtain ⟨h4, h5, h6, h7, hr⟩ := h c
      exact ⟨h4.trans (final4 m c), h5.trans (final5 m c), h6.trans (final6 m c), h7.trans (final7 m c), hr⟩) (Cert.ResidIdeal.Value.run_blocks m ρ)
  · refine (θ_run _ _ _).mono (fun r h c => ?_) (Cert.ResidRefIdeal.Value.run m' ρ')
    obtain ⟨h4, h5, h6, h7, hr⟩ := h c
    obtain ⟨a0, a1, a2, a3⟩ := hag c
    refine ⟨h4.trans ?_, h5.trans ?_, h6.trans ?_, h7.trans ?_, hr⟩
    · rw [val_main_v3_eq, a0, a1, a2]
      exact ref_x _ _ _
    · rw [val_main_v18_eq, a0, a1, a2, a3]
      exact ref_h _ _ _ _
    · rw [val_main_v19_eq, a0, a1, a2, a3]
      exact ref_t _ _ _ _
    · rw [val_main_v11_eq, a0, a1, a2]
      exact ref_r _ _ _

end Cert.Proof

end
-- ==== Proof.Rms.Kernel.lean ====
/- The first norm: each result as one closed form of the arguments. -/
module

public import proofs.«01_k».proof.Proof.Gen.RmsIdeal.Value
public import Idealize.ShloMosaic.Lib.Pointwise
public import Idealize.ShloMosaic.Lib.Pipeline.ValueKit

@[expose] public section

set_option maxRecDepth 16384

noncomputable section

namespace Cert.RmsIdeal.Closed

open Cert.RmsIdeal Cert.RmsIdeal.Gen Idealize.ShloMosaic Idealize.ShloMosaic.TcCoe Idealize.SL.Sem
open Idealize.ShloMosaic.Pipeline (Dat)

variable (m : (ℓ : Loc nD τ sig) → Buf (Elt Ideal) ℓ)

/-- The reciprocal root mean square of row `r`. -/
def rms (x : FVec Ideal S1x4096x1024 .f32) (r : Fin 4096) : EReal :=
  Ideal.rsqrt (Ideal.div (∑ k : Fin 1024, x (ix3 0 r k) * x (ix3 0 r k)) (Ideal.ofBits .f32 0x44800000#32)
    + Ideal.ofBits .f32 0x358637BD#32)

/-- The normed row `r` at column `k`. -/
def normed (x : FVec Ideal S1x4096x1024 .f32) (g : FVec Ideal S1x1024 .f32) (r : Fin 4096) (k : Fin 1024) : EReal :=
  x (ix3 0 r k) * rms x r * g (ix2 0 k)

/-- The normed rows. -/
def Gh (x : FVec Ideal S1x4096x1024 .f32) (g : FVec Ideal S1x1024 .f32) : FVec Ideal S4096x1024 .bf16 :=
  fun i => normed x g (i 0) (i 1)

/-- The normed rows, transposed. -/
def Gt (x : FVec Ideal S1x4096x1024 .f32) (g : FVec Ideal S1x1024 .f32) : FVec Ideal S1024x4096 .bf16 :=
  fun i => normed x g (i 1) (i 0)

/-- The reciprocal root mean squares. -/
def Gr (x : FVec Ideal S1x4096x1024 .f32) : FVec Ideal S4096x1 .f32 := fun i => rms x (i 0)

/-- The arguments, as arrays. -/
abbrev argX (c : Dev nD) : FVec Ideal S1x4096x1024 .f32 := m ((c : Thread nD τ).loc main_arg0)
abbrev argG (c : Dev nD) : FVec Ideal S1x1024 .f32 := m ((c : Thread nD τ).loc main_arg1)

/-- The block each window is on at a grid point. -/
theorem index : ∀ t : Fin cfg0.N,
    win0_0.index t = ![t.val, 0] ∧ win0_1.index t = ![0, 0] ∧ win0_2.index t = ![t.val, 0]
    ∧ win0_3.index t = ![0, t.val] ∧ win0_4.index t = ![t.val, 0] := (by decide +kernel : ∀ t : Fin grid0.N, _)

/-- The normed rows after the call. -/
theorem final2 (c : Dev nD) : (dats m 0 c).arrAt 2 cfg0.N = Gh (argX m c) (argG m c) := by
  refine (dats m 0 c).arrAt_eq_of_covers 2 _ (by decide +kernel) fun t hf y => ?_
  blk_simp
  rw [after0_2]
  frame_out
  obtain ⟨i0, i1, i2, i3, i4⟩ := index t
  unfold_payloads
  pointwise [Gh, normed, rms]
  blk_point [iblk, V, i0, i1, i2]

/-- The transposed normed rows after the call. -/
theorem final3 (c : Dev nD) : (dats m 0 c).arrAt 3 cfg0.N = Gt (argX m c) (argG m c) := by
  refine (dats m 0 c).arrAt_eq_of_covers 3 _ (by decide +kernel) fun t hf y => ?_
  blk_simp
  rw [after0_3]
  frame_out
  obtain ⟨i0, i1, i2, i3, i4⟩ := index t
  unfold_payloads
  pointwise [Gt, normed, rms]
  blk_point [iblk, V, i0, i1, i3]

/-- The reciprocal root mean squares after the call. -/
theorem final4 (c : Dev nD) : (dats m 0 c).arrAt 4 cfg0.N = Gr (argX m c) := by
  refine (dats m 0 c).arrAt_eq_of_covers 4 _ (by decide +kernel) fun t hf y => ?_
  blk_simp
  rw [after0_4]
  frame_out
  obtain ⟨i0, i1, i2, i3, i4⟩ := index t
  unfold_payloads
  pointwise [Gr, rms]
  blk_point [iblk, V, i0, i1, i4]

end Cert.RmsIdeal.Closed

end
-- ==== Proof.Rms.Ref.lean ====
/- The first norm's reference, result by result, read at an element. -/
module

public import proofs.«01_k».proof.Proof.Rms.Kernel
public import proofs.«01_k».proof.Proof.Gen.RmsRefIdeal.Read

@[expose] public section

set_option maxRecDepth 16384

noncomputable section

namespace Cert.RmsRefIdeal.Closed

open Cert.RmsRefIdeal Cert.RmsRefIdeal.Read Idealize.ShloMosaic Idealize.ShloMosaic.TcCoe Idealize.SL.Sem
open Cert.RmsIdeal.Closed

variable (x : FVec Ideal S1x4096x1024 .f32) (g : FVec Ideal S1x1024 .f32)

/-- The reciprocal root mean squares. -/
theorem ref_r : val_main_v9 (F := Ideal) x = Gr x := by
  funext i
  unfold val_main_v9 val_main_v8 val_main_v7 val_main_v6 val_main_v5 val_main_v4 val_main_v3 val_main_v2 val_main_v1 val_main_v0
    val_main_cst val_main_cst_0 val_main_cst_1
  pointwise [Gr, rms]
  try rfl

/-- The normed rows. -/
theorem ref_h : val_main_v17 (F := Ideal) x g = Gh x g := by
  funext i
  have hr := ref_r x
  unfold val_main_v17 val_main_v16 val_main_v15 val_main_v14 val_main_v13 val_main_v12 val_main_v11 val_main_v10
  generalize val_main_v9 (F := Ideal) x = r at hr ⊢
  subst hr
  pointwise [Gh, normed]
  try rfl

/-- The normed rows, transposed. -/
theorem ref_t : val_main_v18 (F := Ideal) x g = Gt x g := by
  funext i
  have hh := ref_h x g
  unfold val_main_v18
  generalize val_main_v17 (F := Ideal) x g = r at hh ⊢
  subst hh
  pointwise [Gh]
  try rfl

end Cert.RmsRefIdeal.Closed

end
-- ==== Proof.Rms.Main.lean ====
/- The first norm against the plain forward lines. -/
module

public import proofs.«01_k».proof.Defs
public import proofs.«01_k».proof.Proof.Rms.Kernel
public import proofs.«01_k».proof.Proof.Gen.RmsRefIdeal.Run
public import proofs.«01_k».proof.Proof.Rms.Ref

@[expose] public section

set_option maxRecDepth 16384

noncomputable section

namespace Cert.Proof

open Idealize.ShloMosaic Idealize.ShloMosaic.TcCoe Idealize.SL.Sem
open Cert.RmsIdeal.Closed Cert.RmsRefIdeal.Read Cert.RmsRefIdeal.Closed

/-- The first norm's call computes the forward lines, from any arguments. -/
theorem algebraic_rms : Cert.algebraic_RmsIdeal_RmsRefIdeal := by
  intro m ρ m' ρ' _ hag
  refine ⟨fun c => Gh (argX m c) (argG m c), fun c => Gt (argX m c) (argG m c), fun c => Gr (argX m c), ?_, ?_⟩
  · exact (θ_run _ _ _).mono (fun r h c => by
      obtain ⟨h2, h3, h4, hr⟩ := h c
      exact ⟨h2.trans (final2 m c), h3.trans (final3 m c), h4.trans (final4 m c), hr⟩) (Cert.RmsIdeal.Value.run_blocks m ρ)
  · refine (θ_run _ _ _).mono (fun r h c => ?_) (Cert.RmsRefIdeal.Value.run m' ρ')
    obtain ⟨h2, h3, h4, hr⟩ := h c
    obtain ⟨a0, a1⟩ := hag c
    refine ⟨h2.trans ?_, h3.trans ?_, h4.trans ?_, hr⟩
    · rw [val_main_v17_eq, a0, a1]
      exact ref_h _ _
    · rw [val_main_v18_eq, a0, a1]
      exact ref_t _ _
    · rw [val_main_v9_eq, a0]
      exact ref_r _

end Cert.Proof

end
-- ==== Proof.Reals.Before.lean ====
/- Sums of a real sequence up to a position: over a host window, and split at a block. -/
module

public import proofs.«01_k».proof.Proof.Reals.Window

@[expose] public section

noncomputable section

namespace Cert.Reals

/-- The sum of the first `r` entries of a real sequence. -/
def before {N : ℕ} (e : Fin N → ℝ) (r : ℕ) : ℝ := ∑ q ∈ Finset.range r, rext e q

/-- Nothing comes before the start. -/
theorem before_zero {N : ℕ} (e : Fin N → ℝ) : before e 0 = 0 := by
  unfold before
  rw [Finset.range_zero, Finset.sum_empty]

/-- A window as long as the sequence that ends at position `r` sums the entries up to it. -/
theorem sum_window_before {N : ℕ} (e : Fin N → ℝ) (r : ℕ) (hr : r < N) :
    ∑ a : Fin N, (if N - 1 ≤ r + a.val then rext e (r + a.val - (N - 1)) else 0) = before e (r + 1) := by
  rw [Fin.sum_univ_eq_sum_range (fun a => if N - 1 ≤ r + a then rext e (r + a - (N - 1)) else 0) N]
  generalize hE : rext e = E
  unfold before
  rw [hE]
  obtain ⟨k, rfl⟩ := Nat.exists_eq_add_of_le (show r + 1 ≤ N from hr)
  rw [Nat.add_comm (r + 1) k, Finset.sum_range_add]
  have hz : ∑ a ∈ Finset.range k, (if k + (r + 1) - 1 ≤ r + a then E (r + a - (k + (r + 1) - 1)) else 0) = 0 :=
    Finset.sum_eq_zero fun a ha => if_neg (by have := Finset.mem_range.1 ha; omega)
  rw [hz, zero_add]
  refine Finset.sum_congr rfl fun a _ => ?_
  rw [if_pos (by omega), show r + (k + a) - (k + (r + 1) - 1) = a by omega]

/-- A sum that ends inside a block of `n` positions: the part in the block, and what comes before the block. -/
theorem before_block {N n : ℕ} (e : Fin N → ℝ) (o : ℕ) (p : Fin n) :
    before e (o + (p.val + 1)) = (∑ j : Fin n, if j.val ≤ p.val then rext e (o + j.val) else 0) + before e o := by
  unfold before
  rw [Finset.sum_range_add, add_comm]
  congr 1
  rw [Fin.sum_univ_eq_sum_range (fun j => if j ≤ p.val then rext e (o + j) else 0) n, ← Finset.sum_filter]
  rw [show (Finset.range n).filter (fun j => j ≤ p.val) = Finset.range (p.val + 1) by ext; simp; omega]

end Cert.Reals

end
-- ==== Proof.Cum.Kernel.lean ====
/- The running sum of the forget gates' logarithms: the result as one closed form of real arguments. -/
module

public import proofs.«01_k».proof.Proof.Gen.CumIdeal.Value
public import proofs.«01_k».proof.Proof.Reals.Before
public import Idealize.ShloMosaic.Lib.Pipeline.ValueKit
public import Idealize.ShloMosaic.Lib.Pipeline.ReadBack

@[expose] public section

set_option maxRecDepth 16384

noncomputable section

namespace Cert.CumIdeal.Closed

open Cert.CumIdeal Cert.CumIdeal.Gen Idealize.ShloMosaic Idealize.ShloMosaic.TcCoe Idealize.SL.Sem Cert.Reals
open Idealize.ShloMosaic.Pipeline (Dat)

variable (m : (ℓ : Loc nD τ sig) → Buf (Elt Ideal) ℓ)

/-- The arguments, as arrays. -/
abbrev argF (c : Dev nD) : FVec Ideal S4096x8 .f32 := m ((c : Thread nD τ).loc main_arg0)
abbrev argB (c : Dev nD) : FVec Ideal S1x8 .f32 := m ((c : Thread nD τ).loc main_arg1)

/-- The block that each window takes at each grid point. -/
theorem index : ∀ t : Fin cfg0.N,
    win0_0.index t = ![t.val, 0] ∧ win0_1.index t = ![0, 0] ∧ win0_2.index t = ![t.val, 0] :=
  (by decide +kernel : ∀ t : Fin grid0.N, _)

/-- The integer zero the host pads with, as a float. -/
theorem pad_zero : @Eq EReal (FloatOps.sitofp (F := Ideal) FTy.f32 0#32) 0 := by
  show (((0#32 : BitVec 32).toInt : ℝ) : EReal) = 0
  simp

/-- The row of the array that row `p` of the block at grid point `t` is. -/
abbrev at_ (t : Fin cfg0.N) (p : Fin 512) : Fin 4096 := ⟨t.val * 512 + p.val, by have := lt_of_lt_of_eq t.isLt N_0; omega⟩

/-- A row of eight reals, zero on the lanes past the eighth. -/
def lane (x : Fin 8 → ℝ) (n : Fin 128) : ℝ := if h : n.val < 8 then x ⟨n.val, h⟩ else 0

/-- An entry of the padded gates that the host code prepares. -/
theorem V_f_at (c : Dev nD) (i : S4096x128.Idx) : (V m c main_v0 : FVec Ideal S4096x128 .f32) i =
    if h : (i 1).val < 8 then argF m c (ix2 (i 0) ⟨(i 1).val, h⟩) else 0 := by
  have e : @Eq (FVec Ideal S4096x128 .f32) (V m c main_v0)
      (pad S4096x128 ![0, 0] ![0, 120] ![0, 0] (argF m c) (sitofp .f32 (constantI S_ 32 0#32)) pads_S4096x8_S4096x128_000_01200 h_S_) := by
    unfold V hostOps0 hostOps0_1 hostOps0_2
    simp only [List.flatten_cons, List.flatten_nil, List.append_nil, List.cons_append, List.nil_append]; after_results
    simp only [StableHlo.TRef.toBuf, StableHlo.TRef.ofBuf, cast_eq]
  rw [e]
  pointwise [pad_zero]

/-- An entry of the padded biases that the host code prepares. -/
theorem V_b_at (c : Dev nD) (i : S1x128.Idx) : (V m c main_v1 : FVec Ideal S1x128 .f32) i =
    if h : (i 1).val < 8 then argB m c (ix2 0 ⟨(i 1).val, h⟩) else 0 := by
  have e : @Eq (FVec Ideal S1x128 .f32) (V m c main_v1)
      (pad S1x128 ![0, 0] ![0, 120] ![0, 0] (argB m c) (sitofp .f32 (constantI S_ 32 0#32)) pads_S1x8_S1x128_000_01200 h_S_) := by
    unfold V hostOps0 hostOps0_1 hostOps0_2
    simp only [List.flatten_cons, List.flatten_nil, List.append_nil, List.cons_append, List.nil_append]; after_results
    simp only [StableHlo.TRef.toBuf, StableHlo.TRef.ofBuf, cast_eq]
  rw [e]
  pointwise [pad_zero]

section
variable (c : Dev nD) (t : Fin cfg0.N) (p : Fin 512) (n : Fin 128)

/-- What the gates' window holds at a grid point. -/
theorem in0 (f : S4096x8.Idx → ℝ) (hf : argF m c = up f) : (iblk m c 0 t : FVec Ideal S512x128 .f32) (ix2 p n) =
    ((lane (fun h => f (ix2 (at_ t p) h)) n : ℝ) : EReal) := by
  obtain ⟨i0, -⟩ := index t
  have e : (iblk m c 0 t : FVec Ideal S512x128 .f32) (ix2 p n) = (V m c main_v0 : FVec Ideal S4096x128 .f32) (ix2 (at_ t p) n) := by
    refine congrArg (V m c main_v0 : FVec Ideal S4096x128 .f32) ?_
    blk_point [i0]
  refine e.trans ((V_f_at m c _).trans ?_)
  unfold lane
  by_cases h : n.val < 8
  · exact (dif_pos h).trans (by rw [dif_pos h, hf]; rfl)
  · exact (dif_neg h).trans (by rw [dif_neg h]; rfl)

/-- What the biases' window holds at a grid point. -/
theorem in1 (b : S1x8.Idx → ℝ) (hb : argB m c = up b) : (iblk m c 1 t : FVec Ideal S1x128 .f32) (ix2 0 n) =
    ((lane (fun h => b (ix2 0 h)) n : ℝ) : EReal) := by
  obtain ⟨-, i1, -⟩ := index t
  have e : (iblk m c 1 t : FVec Ideal S1x128 .f32) (ix2 0 n) = (V m c main_v1 : FVec Ideal S1x128 .f32) (ix2 0 n) := by
    refine congrArg (V m c main_v1 : FVec Ideal S1x128 .f32) ?_
    blk_point [i1]
  refine e.trans ((V_b_at m c _).trans ?_)
  unfold lane
  by_cases h : n.val < 8
  · exact (dif_pos h).trans (by rw [dif_pos h, hb]; rfl)
  · exact (dif_neg h).trans (by rw [dif_neg h]; rfl)
end

/-- The body's triangle of ones: its entry at row `p`, column `j`. -/
theorem triangle (p j : Fin 512) : @Eq EReal
    (FloatOps.sitofp (F := Ideal) FTy.f32 (BitVec.setWidth 32 (IntOp.cmpi .sge (BitVec.ofNat 32 p.val) (BitVec.ofNat 32 j.val))))
    ((if j.val ≤ p.val then 1 else 0 : ℝ) : EReal) := by
  rw [WordCmp.cmpi_sge_ofNat (by omega) (by omega)]
  show ((((BitVec.setWidth 32 (BitVec.ofBool (decide (j.val ≤ p.val)))).toInt : ℤ) : ℝ) : EReal) = _
  by_cases h : j.val ≤ p.val
  · rw [if_pos h, decide_eq_true h]; simp
  · rw [if_neg h, decide_eq_false h]; simp

/-- The logarithm of the logistic function. -/
def lsig (z : ℝ) : ℝ := min z 0 - Real.log (1 + Real.exp (-|z|))

/-- The same as the body computes it, at a real. -/
theorem lsig_ideal (z : ℝ) : @Eq EReal (min (z : EReal) 0 - Ideal.log (1 + Ideal.exp (0 - FloatOps.absf (F := Ideal) (φ := .f32) (z : EReal))))
    ((lsig z : ℝ) : EReal) := by
  change min (z : EReal) 0 - Ideal.log (1 + Ideal.exp (0 - max (z : EReal) (-(z : EReal)))) = _
  unfold lsig
  have hm : min (z : EReal) ((0 : ℝ) : EReal) = ((min z 0 : ℝ) : EReal) := by
    rcases le_total z 0 with h | h
    · rw [min_eq_left h, min_eq_left (EReal.coe_le_coe_iff.2 h)]
    · rw [min_eq_right h, min_eq_right (EReal.coe_le_coe_iff.2 h)]
  rw [zero_sub, neg_coe, max_coe, neg_coe, exp_coe, ← EReal.coe_one, ← EReal.coe_add, log_coe _ (by positivity), ← EReal.coe_zero, hm,
    ← EReal.coe_sub, abs_eq_max_neg]

/-- The running sum the body forms for a block: the block's rows up to row `p`, and what comes before the block. -/
theorem pay3_apply (a : FVec Ideal S512x128 .f32) (b v : FVec Ideal S1x128 .f32) (ra : Fin 512 → Fin 128 → ℝ) (rb rv : Fin 128 → ℝ)
    (ha : ∀ p n, a (ix2 p n) = ((ra p n : ℝ) : EReal)) (hb : ∀ n, b (ix2 0 n) = ((rb n : ℝ) : EReal))
    (hv : ∀ n, v (ix2 0 n) = ((rv n : ℝ) : EReal)) (p : Fin 512) (n : Fin 128) :
    @Eq EReal (k0_pay3 (F := Ideal) a b v (ix2 p n))
      (((∑ j : Fin 512, if j.val ≤ p.val then lsig (ra j n + rb n) else 0) + rv n : ℝ) : EReal) := by
  unfold_payloads
  pointwise
  simp only [ha, hb, hv, triangle, ← EReal.coe_add, lsig_ideal]
  simp only [← EReal.coe_sub, ← EReal.coe_mul, coe_sum, ← EReal.coe_add]
  refine congrArg _ ?_
  simp

/-- What the first grid point leaves. -/
theorem outs_first (c : Dev nD) (t : Fin cfg0.N) (h : t.val % 8 = 0) :
    outsAt0 m c t.val t.isLt = (k0_pay3 (iblk m c 0 t) (iblk m c 1 t) (k0_pay2 (F := Ideal)),
      k0_pay1 (k0_pay3 (iblk m c 0 t) (iblk m c 1 t) (k0_pay2 (F := Ideal)))) := by
  rw [outsAt0_A m c t h]
  refine Prod.ext ?_ ?_ <;> frame_out

/-- What a later grid point leaves, over what the one before it left. -/
theorem outs_later (c : Dev nD) (t : Fin cfg0.N) (h : ¬t.val % 8 = 0) :
    let o := outsAt0 m c (t.val - 1) (Nat.lt_of_le_of_lt (Nat.sub_le _ _) t.isLt)
    outsAt0 m c t.val t.isLt = (k0_pay3 (iblk m c 0 t) (iblk m c 1 t) o.2,
      k0_pay1 (k0_pay3 (iblk m c 0 t) (iblk m c 1 t) o.2)) := by
  dsimp only
  rw [outsAt0_B m c t h]
  generalize outsAt0 m c (t.val - 1) _ = o
  refine Prod.ext ?_ ?_ <;> (frame_out; rw [read_unread_whole])

/-- The row the body carries on: the last of the block's running sums. -/
theorem pay1_apply (H : FVec Ideal S512x128 .f32) (n : Fin 128) :
    @Eq EReal (k0_pay1 (F := Ideal) H (ix2 0 n)) (H (ix2 ⟨511, by decide⟩ n)) := by
  unfold k0_pay1
  pointwise
  try rfl

/-- What the points before left in the carried row. -/
def prev (c : Dev nD) (t : Fin cfg0.N) : FVec Ideal S1x128 .f32 :=
  if t.val % 8 = 0 then k0_pay2 else (outsAt0 m c (t.val - 1) (Nat.lt_of_le_of_lt (Nat.sub_le _ _) t.isLt)).2

/-- The running sums of the block at a grid point. -/
abbrev sums (c : Dev nD) (t : Fin cfg0.N) : FVec Ideal S512x128 .f32 := k0_pay3 (iblk m c 0 t) (iblk m c 1 t) (prev m c t)

/-- What a grid point leaves. -/
theorem outs (c : Dev nD) (t : Fin cfg0.N) : outsAt0 m c t.val t.isLt = (sums m c t, k0_pay1 (sums m c t)) := by
  unfold sums prev
  by_cases h : t.val % 8 = 0
  · rw [outs_first m c t h, if_pos h]
  · rw [outs_later m c t h, if_neg h]

/-- The logarithm of a lane's gate at a row. -/
def gate (f : S4096x8.Idx → ℝ) (b : S1x8.Idx → ℝ) (n : Fin 128) : Fin 4096 → ℝ := fun r =>
  lsig (lane (fun h => f (ix2 r h)) n + lane (fun h => b (ix2 0 h)) n)

/-- The running sums of the gates' logarithms, over real arguments. -/
def Gc (f : S4096x8.Idx → ℝ) (b : S1x8.Idx → ℝ) : FVec Ideal S4096x128 .f32 := fun i =>
  ((before (gate f b (i 1)) ((i 0).val + 1) : ℝ) : EReal)

section
variable (c : Dev nD) (f : S4096x8.Idx → ℝ) (b : S1x8.Idx → ℝ) (hf : argF m c = up f) (hb : argB m c = up b)
include hf hb

/-- The running sums of a block, once the carried row holds the sums before the block. -/
theorem sums_apply (t : Fin cfg0.N) (hv : ∀ n, prev m c t (ix2 0 n) = ((before (gate f b n) (t.val * 512) : ℝ) : EReal))
    (p : Fin 512) (n : Fin 128) : sums m c t (ix2 p n) = ((before (gate f b n) (t.val * 512 + (p.val + 1)) : ℝ) : EReal) := by
  have hlt : t.val < 8 := lt_of_lt_of_eq t.isLt N_0
  refine (pay3_apply _ _ _ _ _ _ (fun p n => in0 m c t p n f hf) (fun n => in1 m c t n b hb) hv p n).trans ?_
  rw [before_block (gate f b n) _ p]
  refine congrArg (fun a : ℝ => ((a + _ : ℝ) : EReal)) (Finset.sum_congr rfl fun j _ => ?_)
  unfold rext
  rw [dif_pos (show t.val * 512 + j.val < 4096 by omega)]
  rfl

/-- The carried row after a number of grid points. -/
theorem row_apply : ∀ (n : ℕ) (hn : n < cfg0.N) (j : Fin 128),
    (outsAt0 m c n hn).2 (ix2 0 j) = ((before (gate f b j) ((n + 1) * 512) : ℝ) : EReal)
  | 0, hn, j => by
    refine (congrFun (congrArg Prod.snd (outs m c ⟨0, hn⟩)) _).trans ((pay1_apply (sums m c ⟨0, hn⟩) j).trans ?_)
    refine (sums_apply m c f b hf hb ⟨0, hn⟩ (fun n => ?_) _ j).trans rfl
    unfold prev
    rw [if_pos (show (⟨0, hn⟩ : Fin cfg0.N).val % 8 = 0 from rfl)]
    show (k0_pay2 (F := Ideal) (ix2 0 n) : EReal) = ((before (gate f b n) 0 : ℝ) : EReal)
    rw [before_zero]
    unfold_payloads
    pointwise
    rfl
  | n' + 1, hn, j => by
    have hlt : n' + 1 < 8 := lt_of_lt_of_eq hn N_0
    refine (congrFun (congrArg Prod.snd (outs m c ⟨n' + 1, hn⟩)) _).trans ((pay1_apply (sums m c ⟨n' + 1, hn⟩) j).trans ?_)
    refine (sums_apply m c f b hf hb ⟨n' + 1, hn⟩ (fun n => ?_) _ j).trans ?_
    · unfold prev
      rw [if_neg (show ¬(n' + 1) % 8 = 0 by omega)]
      exact row_apply n' (Nat.lt_of_succ_lt hn) n
    · rw [show (n' + 1) * 512 + (511 + 1) = (n' + 1 + 1) * 512 by omega]

/-- The carried row that a grid point takes over from the ones before. -/
theorem prev_apply (t : Fin cfg0.N) (n : Fin 128) : prev m c t (ix2 0 n) = ((before (gate f b n) (t.val * 512) : ℝ) : EReal) := by
  have hlt : t.val < 8 := lt_of_lt_of_eq t.isLt N_0
  unfold prev
  by_cases h : t.val % 8 = 0
  · rw [if_pos h, show t.val * 512 = 0 by omega, before_zero]
    unfold_payloads
    pointwise
    rfl
  · rw [if_neg h, show t.val * 512 = (t.val - 1 + 1) * 512 by omega]
    exact row_apply m c f b hf hb _ _ n

/-- The array of running sums after the run. -/
theorem final2 : (dats m 0 c).arrAt 2 cfg0.N = Gc f b := by
  refine (dats m 0 c).arrAt_eq_of_covers 2 _ (by decide +kernel) fun t hf' y => ?_
  blk_simp
  rw [after0_2, outs]
  obtain ⟨-, -, i2⟩ := index t
  refine Eq.trans (congrArg (sums m c t) (funext fun a => by fin_cases a <;> rfl))
    ((sums_apply m c f b hf hb t (prev_apply m c f b hf hb t) (y 0) (y 1)).trans ?_)
  refine congrArg (Gc f b) (a₁ := ix2 (at_ t (y 0)) (y 1)) ?_
  blk_point [i2]
end

end Cert.CumIdeal.Closed

end
-- ==== Proof.Cum.Ref.lean ====
/- The running sum of the forget gates' logarithms as the plain forward lines compute it, at real arguments. -/
module

public import proofs.«01_k».proof.Proof.Gen.CumRefIdeal.Read
public import proofs.«01_k».proof.Proof.Cum.Kernel

@[expose] public section

set_option maxRecDepth 16384

noncomputable section

namespace Cert.CumRefIdeal.Closed

open Cert.CumRefIdeal Cert.CumRefIdeal.Gen Cert.CumRefIdeal.Read Idealize.ShloMosaic Idealize.ShloMosaic.TcCoe Cert.Reals
open Cert.CumIdeal.Closed (Gc gate lsig lane pad_zero)

/-- The logarithm of the logistic function as the host writes it, at a real. -/
theorem lsig_host (z : ℝ) : -(max (-(z : EReal)) 0 + Ideal.log1p (Ideal.exp (-max (-(z : EReal)) (- -(z : EReal)))))
    = ((lsig z : ℝ) : EReal) := by
  unfold lsig Ideal.log1p
  rw [← EReal.coe_zero, neg_coe, max_coe, neg_coe, max_coe, neg_coe, exp_coe, ← EReal.coe_one, ← EReal.coe_add,
    log_coe _ (by positivity), ← EReal.coe_add, neg_coe, neg_add, ← min_neg_neg, neg_neg, neg_zero, ← sub_eq_add_neg, abs_eq_max_neg,
    max_comm (-z) z]

section
variable (f : S4096x8.Idx → ℝ) (b : S1x8.Idx → ℝ)

/-- A padded real row, as the host code pads it. -/
theorem lane_host (x : Fin 8 → EReal) (r : Fin 8 → ℝ) (hx : ∀ h, x h = ((r h : ℝ) : EReal)) (n : Fin 128) :
    (if h : n.val < 8 then x ⟨n.val, h⟩ else 0) = ((lane r n : ℝ) : EReal) := by
  unfold lane
  by_cases h : n.val < 8
  · rw [dif_pos h, dif_pos h, hx]
  · rw [dif_neg h, dif_neg h, EReal.coe_zero]

/-- The argument of the logistic function at an element. -/
theorem arg_apply (i : S4096x128.Idx) : @Eq EReal (val_main_v5 (F := Ideal) (up f) (up b) i)
    ((lane (fun h => f (ix2 (i 0) h)) (i 1) + lane (fun h => b (ix2 0 h)) (i 1) : ℝ) : EReal) := by
  unfold val_main_v5 val_main_v4 val_main_v3 val_main_v2 val_main_v1 val_main_v0 val_main_call0_v0 val_main_call1_v0 val_main_c val_main_c_0
  pointwise [pad_zero]
  rw [EReal.coe_add]
  refine congrArg₂ (· + ·) ?_ ?_
  · exact lane_host (fun h => up f (ix2 (i 0) h)) _ (fun h => rfl) (i 1)
  · exact lane_host (fun h => up b (ix2 0 h)) _ (fun h => rfl) (i 1)

/-- The gate's logarithm at an element. -/
theorem gate_apply (i : S4096x128.Idx) : @Eq EReal (val_main_v6 (F := Ideal) (up f) (up b) i) ((gate f b (i 1) (i 0) : ℝ) : EReal) := by
  have ha := arg_apply f b i
  unfold val_main_v6 val_main_call2_v1 val_main_call2_call0_v11 val_main_call2_call0_v10 val_main_call2_call0_v9 val_main_call2_call0_v8
    val_main_call2_call0_v7 val_main_call2_call0_v6 val_main_call2_call0_v5 val_main_call2_call0_v4 val_main_call2_call0_v3
    val_main_call2_call0_v2 val_main_call2_call0_v1 val_main_call2_call0_v0 val_main_call2_v0 val_main_call2_call0_cst
  generalize val_main_v5 (F := Ideal) (up f) (up b) = A at ha ⊢
  pointwise
  rw [ha]
  try rw [if_neg (fun h => h rfl)]
  exact lsig_host _

/-- The running sums of the reference. -/
theorem ref_c : val_main_v7 (F := Ideal) (up f) (up b) = Gc f b := by
  funext i
  have hg := gate_apply f b
  unfold val_main_v7 Host.reduceWindowAdd
  have h0 : @Eq EReal (val_main_call3_call0_v0 (F := Ideal) (Shape.Idx.first h_S_)) 0 := by
    unfold val_main_call3_call0_v0 val_main_call3_call0_cst
    pointwise
  show Ideal.hostReduceWindowAdd _ _ _ _ _ _ _ _ = _
  rw [h0]
  generalize val_main_v6 (F := Ideal) (up f) (up b) = A at hg ⊢
  refine (window_rows (N := 4096) (C := 128) 4095 0 _ _ i).trans ?_
  unfold Gc
  rw [← sum_window_before (gate f b (i 1)) (i 0).val (i 0).isLt, ← coe_sum]
  refine Finset.sum_congr rfl fun a _ => ?_
  unfold rext
  by_cases hc : 4095 ≤ (i 0).val + a.val
  · have hlt : (i 0).val + a.val - 4095 < 4096 := by have h0 : (i 0).val < 4096 := (i 0).isLt; omega
    rw [dif_pos ⟨hc, hlt⟩, if_pos hc, dif_pos (show (i 0).val + a.val - (4096 - 1) < 4096 from hlt)]
    exact hg _
  · rw [dif_neg (fun h => hc h.1), if_neg hc, EReal.coe_zero]
end

end Cert.CumRefIdeal.Closed

end
-- ==== Proof.Cum.Main.lean ====
/- The running sum of the forget gates' logarithms against the plain forward lines. -/
module

public import proofs.«01_k».proof.Defs
public import proofs.«01_k».proof.Proof.Cum.Ref
public import proofs.«01_k».proof.Proof.Gen.CumRefIdeal.Run
public import proofs.«01_k».proof.Proof.Gen.Pre_finite_cum

@[expose] public section

set_option maxRecDepth 16384

noncomputable section

namespace Cert.Proof

open Idealize.ShloMosaic Idealize.ShloMosaic.TcCoe Idealize.SL.Sem Cert.Reals
open Cert.CumIdeal.Closed Cert.CumRefIdeal.Closed Cert.CumRefIdeal.Read

/-- The precondition of the call: both arguments are arrays of reals. -/
theorem pre_cum (f : FVec Ideal Cert.CumIdeal.S4096x8 .f32) (b : FVec Ideal Cert.CumIdeal.S1x8 .f32)
    (h : Cert.Pre_finite_cum.fn (F := Ideal) f b = fun _ => 1#1) : (∃ r, f = up r) ∧ (∃ r, b = up r) := by
  unfold Cert.Pre_finite_cum.fn at h
  dsimp only at h
  try unfold Cert.Pre_finite_cum.fn_part1 at h
  try dsimp only at h
  simp only [andi_ones] at h
  obtain ⟨h0, h1⟩ := h
  exact ⟨real_of_all _ _ _ _ _ _ h0, real_of_all _ _ _ _ _ _ h1⟩

/-- The call computes the running sums of the forward lines, from real arguments. -/
theorem algebraic_cum : Cert.algebraic_CumIdeal_CumRefIdeal_pre_finite_cum := by
  intro m ρ m' ρ' hpre hag
  have hr := fun c => pre_cum (argF m c) (argB m c) (hpre c)
  choose f hf using fun c => (hr c).1
  choose b hb using fun c => (hr c).2
  refine ⟨fun c => Gc (f c) (b c), ?_, ?_⟩
  · exact (θ_run _ _ _).mono (fun r h c => by
      obtain ⟨h2, hr⟩ := h c
      exact ⟨h2.trans (final2 m c _ _ (hf c) (hb c)), hr⟩) (Cert.CumIdeal.Value.run_blocks m ρ)
  · refine (θ_run _ _ _).mono (fun r h c => ?_) (Cert.CumRefIdeal.Value.run m' ρ')
    obtain ⟨h2, hr⟩ := h c
    obtain ⟨a0, a1⟩ := hag c
    refine ⟨h2.trans ?_, hr⟩
    rw [val_main_v7_eq, a0, a1]
    refine Eq.trans ?_ (ref_c (f c) (b c))
    rw [← hf, ← hb]

end Cert.Proof

end
-- ==== Proof.Mix.Kernel.lean ====
/- The spatial gating unit: what its blocks hold and what its body makes of them, element by element. -/
module

public import proofs.«01_k».proof.Proof.Gen.MixIdeal.Value
public import proofs.«01_k».proof.Proof.Reals.Basic
public import Idealize.ShloMosaic.Lib.Pipeline.ValueKit
public import Idealize.ShloMosaic.Lib.Pipeline.ReadBack

@[expose] public section

set_option maxRecDepth 16384

noncomputable section

namespace Cert.MixIdeal.Closed

open Cert.MixIdeal Cert.MixIdeal.Gen Idealize.ShloMosaic Idealize.ShloMosaic.TcCoe Idealize.SL.Sem
open Idealize.ShloMosaic.Pipeline (Dat)

variable (m : (ℓ : Loc nD τ sig) → Buf (Elt Ideal) ℓ)

/-- The arguments, as arrays. -/
abbrev argP (c : Dev nD) : FVec Ideal S4096x4616 .f32 := m ((c : Thread nD τ).loc main_arg0)
abbrev argG (c : Dev nD) : FVec Ideal S1x512 .f32 := m ((c : Thread nD τ).loc main_arg1)
abbrev argB (c : Dev nD) : FVec Ideal S1x512 .f32 := m ((c : Thread nD τ).loc main_arg2)
abbrev argW (c : Dev nD) : FVec Ideal S1x8x128x128 .f32 := m ((c : Thread nD τ).loc main_arg3)
abbrev argS (c : Dev nD) : FVec Ideal S1x8x128 .f32 := m ((c : Thread nD τ).loc main_arg4)

/-- The block that each window takes at each grid point. -/
theorem index : ∀ t : Fin cfg0.N,
    win0_0.index t = ![t.val, 0] ∧ win0_1.index t = ![t.val, 1] ∧ win0_2.index t = ![0, 0]
    ∧ win0_3.index t = ![0, 0] ∧ win0_4.index t = ![0, 0, 0] ∧ win0_5.index t = ![0, 0] ∧ win0_6.index t = ![t.val, 0]
    ∧ win0_7.index t = ![0, t.val] :=
  (by decide +kernel : ∀ t : Fin grid0.N, _)

/-- The tanh unit. -/
def unit (x : EReal) : EReal :=
  Ideal.ofBits .f32 0x3F000000#32 * x * (1 + Ideal.tanh (Ideal.ofBits .f32 0x3F4C422A#32 * (x + ((8943 / 200000 : ℝ) : EReal) * (x * x * x))))

/-- A row minus its mean. -/
def cen (x : Fin 512 → EReal) (n : Fin 512) : EReal := x n - Ideal.div (∑ k, x k) (Ideal.ofBits .f32 0x44000000#32)

/-- The reciprocal deviation of a row. -/
def rdev (x : Fin 512 → EReal) : EReal :=
  Ideal.rsqrt (Ideal.div (∑ k, cen x k * cen x k) (Ideal.ofBits .f32 0x44000000#32) + Ideal.ofBits .f32 0x358637BD#32)

/-- What the unit reads: the two halves of its rows, the norm's scale and shift, the masked mixing weights and the bias. -/
structure Args where
  u : Fin 4096 → Fin 512 → EReal
  v : Fin 4096 → Fin 512 → EReal
  g : Fin 512 → EReal
  b : Fin 512 → EReal
  w : Fin 8 → Fin 128 → Fin 128 → EReal
  s : Fin 8 → Fin 128 → EReal

namespace Args

/-- The head of a lane, the place of a row in its window of 128 rows, and the row at a place of the same window. -/
abbrev head (n : Fin 512) : Fin 8 := ⟨n.val / 64, by omega⟩
abbrev pos (r : Fin 4096) : Fin 128 := ⟨r.val % 128, by omega⟩
abbrev row (r : Fin 4096) (j : Fin 128) : Fin 4096 := ⟨r.val / 128 * 128 + j.val, by omega⟩

/-- The row the norm sees, the normed row, the mix of a window's rows, and the gated row. -/
def act (a : Args) (r : Fin 4096) : Fin 512 → EReal := fun n => unit (a.v r n)
def vn (a : Args) (r : Fin 4096) (n : Fin 512) : EReal := cen (a.act r) n * rdev (a.act r) * a.g n + a.b n
def mix0 (a : Args) (r : Fin 4096) (n : Fin 512) : EReal := ∑ j, a.w (head n) (pos r) j * a.vn (row r j) n
def sg (a : Args) (r : Fin 4096) (n : Fin 512) : EReal := unit (a.u r n) * (a.mix0 r n + a.s (head n) (pos r))

end Args

/-- The chunk of each position, and the mask of the positions that each may mix: those of its own chunk and of earlier ones. -/
abbrev chunk : IVec S128 32 :=
  let p := iotaInDim S128 32 0
  let q := constantI S_ 32 64#32
  let d := Host.divsi p (broadcastInDim S128 ![] bcast_S_S128 q)
  select (andi (cmpi .ne (signi p) (broadcastInDim S128 ![] bcast_S_S128 (signi q)))
      (cmpi .ne (Host.remsi p (broadcastInDim S128 ![] bcast_S_S128 q)) (broadcastInDim S128 ![] bcast_S_S128 (constantI S_ 32 0#32))))
    (subi d (broadcastInDim S128 ![] bcast_S_S128 (constantI S_ 32 1#32))) d
/-- The positions that each position may mix. -/
def mask : IVec S128x128 1 :=
  cmpi .sle (broadcastInDim S128x128 ![0, 1] bcast_S1x128_S128x128_0_1 (broadcastInDim S1x128 ![1] bcast_S128_S1x128_1 chunk))
    (broadcastInDim S128x128 ![0, 1] bcast_S128x1_S128x128_0_1 (broadcastInDim S128x1 ![0] bcast_S128_S128x1_0 chunk))

/-- What the unit reads, out of the arrays of the call. -/
def argsOf (p : FVec Ideal S4096x4616 .f32) (g b : FVec Ideal S1x512 .f32) (w : FVec Ideal S1x8x128x128 .f32) (s : FVec Ideal S1x8x128 .f32) : Args where
  u r n := p (ix2 r ⟨1544 + n.val, by omega⟩)
  v r n := p (ix2 r ⟨2056 + n.val, by omega⟩)
  g n := g (ix2 0 n)
  b n := b (ix2 0 n)
  w h i j := Scalar.select (mask (ix2 i j)) (w (ix4 0 h i j)) (0 : EReal)
  s h i := s (ix3 0 h i)

/-- What the unit reads on a device. -/
abbrev args (c : Dev nD) : Args := argsOf (argP m c) (argG m c) (argB m c) (argW m c) (argS m c)

/-- The masked weights, as the host forms them. -/
def wmask (c : Dev nD) : FVec Ideal S8x128x128 .f32 :=
  select (broadcastInDim S8x128x128 ![0, 1, 2] bcast_S1x128x128_S8x128x128_0_1_2
      (broadcastInDim S1x128x128 ![1, 2] bcast_S128x128_S1x128x128_1_2 mask))
    (shapeCast S8x128x128 (argW m c) shapeCasts_S1x8x128x128_S8x128x128)
    (broadcastInDim S8x128x128 ![] bcast_S_S8x128x128 (constant (F := Ideal) S_ .f32 0x00000000#32))

/-- A masked weight. -/
theorem wmask_apply (c : Dev nD) (h : Fin 8) (i j : Fin 128) : @Eq EReal (wmask m c (ix3 h i j)) ((args m c).w h i j) := by
  unfold wmask args argsOf
  generalize mask = M
  pointwise

/-- The rows that the call reads, out of the arguments. -/
theorem V_p (c : Dev nD) : @Eq (FVec Ideal S4096x3200 .bf16) (V m c main_v4)
    (truncf .bf16 (concatenate S4096x3200 1 [⟨S4096x3072, extractStridedSlice S4096x3072 ![0, 1544] (argP m c) slices_S4096x4616_S4096x3072_0_1544⟩,
      ⟨S4096x128, pad S4096x128 ![0, 0] ![0, 120] ![0, 0] (extractStridedSlice S4096x8 ![0, 1536] (argP m c) slices_S4096x4616_S4096x8_0_1536)
        (sitofp .f32 (constantI S_ 32 0#32)) pads_S4096x8_S4096x128_000_01200 h_S_⟩] concatenates_S4096x3072_S4096x128_S4096x3200_d1) bitsLt_bf16_f32) := by
  unfold V hostOps0 hostOps0_1 hostOps0_2 hostOps0_3 hostOps0_4 hostOps0_5 hostOps0_6
  simp only [List.flatten_cons, List.flatten_nil, List.append_nil, List.cons_append, List.nil_append]; after_results
  simp only [StableHlo.TRef.toBuf, StableHlo.TRef.ofBuf, cast_eq]

/-- The mixing weights that the call reads, two heads to a tile, out of the arguments. -/
theorem V_w (c : Dev nD) : @Eq (FVec Ideal S4x256x128 .bf16) (V m c main_v16)
    (truncf .bf16 (shapeCast S4x256x128 (wmask m c) shapeCasts_S8x128x128_S4x256x128) bitsLt_bf16_f32) := by
  unfold V hostOps0 hostOps0_1 hostOps0_2 hostOps0_3 hostOps0_4 hostOps0_5 hostOps0_6
  simp only [List.flatten_cons, List.flatten_nil, List.append_nil, List.cons_append, List.nil_append]; after_results
  simp only [StableHlo.TRef.toBuf, StableHlo.TRef.ofBuf, cast_eq]
  rfl

/-- The bias that the call reads, out of the arguments. -/
theorem V_s (c : Dev nD) : @Eq (FVec Ideal S128x512 .f32) (V m c main_v20)
    (transpose S128x512 [1, 0] (shapeCast S512x128 (broadcastInDim S8x64x128 ![0, 2] bcast_S8x128_S8x64x128_0_2
      (shapeCast S8x128 (argS m c) shapeCasts_S1x8x128_S8x128)) shapeCasts_S8x64x128_S512x128) transposes_S512x128_S128x512_1_0) := by
  unfold V hostOps0 hostOps0_1 hostOps0_2 hostOps0_3 hostOps0_4 hostOps0_5 hostOps0_6
  simp only [List.flatten_cons, List.flatten_nil, List.append_nil, List.cons_append, List.nil_append]; after_results
  rfl

/-- The row of the array that row `p` of the block at grid point `t` is. -/
abbrev at_ (t : Fin cfg0.N) (p : Fin 512) : Fin 4096 := ⟨t.val * 512 + p.val, by have := lt_of_lt_of_eq t.isLt N_0; omega⟩

/-- An entry of the rows that the host code prepares. -/
theorem V_p_at (c : Dev nD) (i : S4096x3200.Idx) (h : (i 1).val < 3072) : @Eq EReal ((V m c main_v4 : FVec Ideal S4096x3200 .bf16) i)
    (argP m c (ix2 (i 0) ⟨1544 + (i 1).val, by omega⟩)) := by
  rw [V_p]
  pointwise
  exact dif_pos h

section
variable (c : Dev nD) (t : Fin cfg0.N)

/-- What the window of the first half holds at a grid point. -/
theorem in0 (p n : Fin 512) : @Eq EReal ((X0_0 m c t : FVec Ideal S512x512 .bf16) (ix2 p n)) ((args m c).u (at_ t p) n) := by
  obtain ⟨i0, -⟩ := index t
  refine Eq.trans ?_ (V_p_at m c (ix2 (at_ t p) ⟨n.val, by omega⟩) (show n.val < 3072 by omega))
  unfold X0_0 Pipeline.Window.fill
  rw [dif_pos (moved0_0 t _)]
  refine congrArg (V m c main_v4 : FVec Ideal S4096x3200 .bf16) ?_
  blk_point [i0]
/-- What the window of the second half holds at a grid point. -/
theorem in1 (p n : Fin 512) : @Eq EReal ((X0_1 m c t : FVec Ideal S512x512 .bf16) (ix2 p n)) ((args m c).v (at_ t p) n) := by
  obtain ⟨-, i1, -⟩ := index t
  refine Eq.trans ?_ ((V_p_at m c (ix2 (at_ t p) ⟨512 + n.val, by omega⟩) (show 512 + n.val < 3072 by omega)).trans
    (congrArg (argP m c) (congrArg (ix2 (at_ t p)) (Fin.ext (show 1544 + (512 + n.val) = 2056 + n.val by omega)))))
  unfold X0_1 Pipeline.Window.fill
  rw [dif_pos (moved0_1 t _)]
  refine congrArg (V m c main_v4 : FVec Ideal S4096x3200 .bf16) ?_
  blk_point [i1]
/-- What the window of the scale holds at a grid point. -/
theorem in2 (n : Fin 512) : @Eq EReal ((iblk m c 2 t : FVec Ideal S1x512 .f32) (ix2 0 n)) ((args m c).g n) := by
  obtain ⟨-, -, i2, -⟩ := index t
  refine Eq.trans ?_ (congrFun (V_main_arg1 m c) (ix2 0 n))
  refine congrArg (V m c main_arg1 : FVec Ideal S1x512 .f32) ?_
  blk_point [i2]
/-- What the window of the shift holds at a grid point. -/
theorem in3 (n : Fin 512) : @Eq EReal ((iblk m c 3 t : FVec Ideal S1x512 .f32) (ix2 0 n)) ((args m c).b n) := by
  obtain ⟨-, -, -, i3, -⟩ := index t
  refine Eq.trans ?_ (congrFun (V_main_arg2 m c) (ix2 0 n))
  refine congrArg (V m c main_arg2 : FVec Ideal S1x512 .f32) ?_
  blk_point [i3]
/-- What the window of the mixing weights holds at a grid point. -/
theorem in4 (p : Fin 4) (q : Fin 256) (j : Fin 128) : @Eq EReal ((iblk m c 4 t : FVec Ideal S4x256x128 .bf16) (ix3 p q j))
    ((args m c).w ⟨p.val * 2 + q.val / 128, by omega⟩ ⟨q.val % 128, by omega⟩ j) := by
  obtain ⟨-, -, -, -, i4, -⟩ := index t
  refine Eq.trans ?_ (wmask_apply m c _ _ j)
  have e : (iblk m c 4 t : FVec Ideal S4x256x128 .bf16) (ix3 p q j) = (V m c main_v16 : FVec Ideal S4x256x128 .bf16) (ix3 p q j) := by
    refine congrArg (V m c main_v16 : FVec Ideal S4x256x128 .bf16) ?_
    blk_point [i4]
  refine e.trans ((congrFun (V_w m c) _).trans ?_)
  generalize wmask m c = W
  pointwise
/-- What the window of the bias holds at a grid point. -/
theorem in5 (r : Fin 128) (n : Fin 512) : @Eq EReal ((iblk m c 5 t : FVec Ideal S128x512 .f32) (ix2 r n)) ((args m c).s (Args.head n) r) := by
  obtain ⟨-, -, -, -, -, i5, -⟩ := index t
  have e : (iblk m c 5 t : FVec Ideal S128x512 .f32) (ix2 r n) = (V m c main_v20 : FVec Ideal S128x512 .f32) (ix2 r n) := by
    refine congrArg (V m c main_v20 : FVec Ideal S128x512 .f32) ?_
    blk_point [i5]
  refine e.trans ((congrFun (V_s m c) _).trans ?_)
  unfold args argsOf
  pointwise
end

/-- The named constant. -/
theorem named_c : @Eq EReal (Named.named κ "gelu_c" 0x3D372713#32 : Ideal .f32) ((8943 / 200000 : ℝ) : EReal) := rfl

/-- An entry of the normed rows of a block. -/
theorem pay4_apply (X : FVec Ideal S512x512 .bf16) (G B : FVec Ideal S1x512 .f32) (p n : Fin 512) :
    @Eq EReal (k0_pay4 (F := Ideal) X G B (ix2 p n))
      (cen (fun k => unit (X (ix2 p k))) n * rdev (fun k => unit (X (ix2 p k))) * G (ix2 0 n) + B (ix2 0 n)) := by
  unfold_payloads
  pointwise [cen, rdev, unit, named_c]
  try rfl

/-- What the body reads at a grid point, by the arrays that it reads. -/
structure Reads (t : Fin cfg0.N) (a : Args) (U : FVec Ideal S512x512 .bf16) (N : FVec Ideal S512x512 .bf16) (W : FVec Ideal S4x256x128 .bf16)
    (S : FVec Ideal S128x512 .f32) : Prop where
  u : ∀ p n, @Eq EReal (U (ix2 p n)) (a.u (at_ t p) n)
  n : ∀ p n, @Eq EReal (N (ix2 p n)) (a.vn (at_ t p) n)
  w : ∀ (p : Fin 4) (q : Fin 256) (j : Fin 128), @Eq EReal (W (ix3 p q j)) (a.w ⟨p.val * 2 + q.val / 128, by omega⟩ ⟨q.val % 128, by omega⟩ j)
  s : ∀ p n, @Eq EReal (S (ix2 p n)) (a.s (Args.head n) p)

/-- What the body reads at a grid point, out of the arguments. -/
theorem reads (c : Dev nD) (t : Fin cfg0.N) : Reads t (args m c) (X0_0 m c t)
    (k0_pay4 (F := Ideal) (X0_1 m c t) (iblk m c 2 t) (iblk m c 3 t)) (iblk m c 4 t) (iblk m c 5 t) where
  u := in0 m c t
  n p n := by
    refine (pay4_apply _ _ _ p n).trans ?_
    unfold Args.vn Args.act
    simp only [in1, in2, in3]
  w := in4 m c t
  s := in5 m c t

/-- The word compare of a lane with the middle of its tile, as a select between the two heads of the tile: at lane `q` of tile `k`
    it gives what a quantity of heads is at the lane's own head. -/
theorem sel_head (f : Fin 8 → EReal) (k q : ℕ) (hk : k < 4) (hq : q < 128) (x y : EReal) (h : Fin 8) (hh : h.val = (k * 128 + q) / 64)
    (hx : x = f ⟨k * 2, by omega⟩) (hy : y = f ⟨k * 2 + 1, by omega⟩) :
    Scalar.select (IntOp.cmpi .slt (BitVec.ofNat 32 q) 64#32) x y = f h := by
  rw [show (64#32 : BitVec 32) = BitVec.ofNat 32 64 from rfl, WordCmp.cmpi_slt_ofNat (by omega) (by omega), WordCmp.select_ofBool]
  by_cases c : q < 64
  · rw [decide_eq_true c, if_pos rfl, hx, show h = ⟨k * 2, by omega⟩ from Fin.ext (by show h.val = k * 2; omega)]
  · rw [decide_eq_false c, if_neg (by simp), hy, show h = ⟨k * 2 + 1, by omega⟩ from Fin.ext (by show h.val = k * 2 + 1; omega)]

/-- The four tiles of a row's mix, side by side. -/
def tiles (W : Fin 4 → Fin 256 → Fin 128 → EReal) (N : Fin 128 → Fin 512 → EReal) (p : Fin 128) (q : Fin 512) : EReal :=
    if h : q.val < 128 then
      Scalar.select (IntOp.cmpi .slt (BitVec.ofNat 32 q.val) 64#32) (∑ x, W 0 ⟨p.val, by omega⟩ x * N x q) (∑ x, W 0 ⟨128 + p.val, by omega⟩ x * N x q)
    else if h : q.val - 128 < 128 then
      Scalar.select (IntOp.cmpi .slt (BitVec.ofNat 32 (q.val - 128)) 64#32)
        (∑ x, W 1 ⟨p.val, by omega⟩ x * N x ⟨128 + (q.val - 128), by omega⟩) (∑ x, W 1 ⟨128 + p.val, by omega⟩ x * N x ⟨128 + (q.val - 128), by omega⟩)
    else if h : q.val - 128 - 128 < 128 then
      Scalar.select (IntOp.cmpi .slt (BitVec.ofNat 32 (q.val - 128 - 128)) 64#32)
        (∑ x, W 2 ⟨p.val, by omega⟩ x * N x ⟨256 + (q.val - 128 - 128), by omega⟩)
        (∑ x, W 2 ⟨128 + p.val, by omega⟩ x * N x ⟨256 + (q.val - 128 - 128), by omega⟩)
    else
      Scalar.select (IntOp.cmpi .slt (BitVec.ofNat 32 (q.val - 128 - 128 - 128)) 64#32)
        (∑ x, W 3 ⟨p.val, by omega⟩ x * N x ⟨384 + (q.val - 128 - 128 - 128), by omega⟩)
        (∑ x, W 3 ⟨128 + p.val, by omega⟩ x * N x ⟨384 + (q.val - 128 - 128 - 128), by omega⟩)

/-- They give the mix. -/
theorem mix_sel (a : Args) (r : Fin 4096) (W : Fin 4 → Fin 256 → Fin 128 → EReal)
    (hW : ∀ p q j, W p q j = a.w ⟨p.val * 2 + q.val / 128, by omega⟩ ⟨q.val % 128, by omega⟩ j)
    (N : Fin 128 → Fin 512 → EReal) (hN : ∀ j n, N j n = a.vn (Args.row r j) n) (p : Fin 128) (hp : p.val = r.val % 128) (q : Fin 512) :
    tiles W N p q = a.mix0 r q := by
  have e : ∀ (k : Fin 4) (i : Fin 256) (n : Fin 512) (e : ℕ) (he : e < 8), n = q → i.val % 128 = p.val → e = k.val * 2 + i.val / 128 →
      ∑ x, W k i x * N x n = (fun h => ∑ j, a.w h (Args.pos r) j * a.vn (Args.row r j) q) ⟨e, he⟩ := by
    intro k i n e he hn hi hh
    subst hn hh
    simp only [hW, hN]
    rw [show (⟨i.val % 128, by omega⟩ : Fin 128) = Args.pos r from Fin.ext (by show i.val % 128 = r.val % 128; omega)]
  have hl := p.isLt
  have hq := q.isLt
  unfold tiles
  split_ifs with h1 h2 h3
  · exact sel_head (fun h => ∑ j, a.w h (Args.pos r) j * a.vn (Args.row r j) q) 0 _ (by omega) h1 _ _ (Args.head q) (by show q.val / 64 = _; omega)
      (e 0 _ _ _ _ rfl (Nat.mod_eq_of_lt hl) (by show _ = 0 * 2 + p.val / 128; omega))
      (e 0 _ _ _ _ rfl (by show (128 + p.val) % 128 = _; omega) (by show _ = 0 * 2 + (128 + p.val) / 128; omega))
  · exact sel_head (fun h => ∑ j, a.w h (Args.pos r) j * a.vn (Args.row r j) q) 1 _ (by omega) h2 _ _ (Args.head q) (by show q.val / 64 = _; omega)
      (e 1 _ _ _ _ (Fin.ext (by show 128 + (q.val - 128) = _; omega)) (Nat.mod_eq_of_lt hl) (by show _ = 1 * 2 + p.val / 128; omega))
      (e 1 _ _ _ _ (Fin.ext (by show 128 + (q.val - 128) = _; omega)) (by show (128 + p.val) % 128 = _; omega)
        (by show _ = 1 * 2 + (128 + p.val) / 128; omega))
  · exact sel_head (fun h => ∑ j, a.w h (Args.pos r) j * a.vn (Args.row r j) q) 2 _ (by omega) h3 _ _ (Args.head q) (by show q.val / 64 = _; omega)
      (e 2 _ _ _ _ (Fin.ext (by show 256 + (q.val - 128 - 128) = _; omega)) (Nat.mod_eq_of_lt hl) (by show _ = 2 * 2 + p.val / 128; omega))
      (e 2 _ _ _ _ (Fin.ext (by show 256 + (q.val - 128 - 128) = _; omega)) (by show (128 + p.val) % 128 = _; omega)
        (by show _ = 2 * 2 + (128 + p.val) / 128; omega))
  · exact sel_head (fun h => ∑ j, a.w h (Args.pos r) j * a.vn (Args.row r j) q) 3 _ (by omega) (by omega) _ _ (Args.head q) (by show q.val / 64 = _; omega)
      (e 3 _ _ _ _ (Fin.ext (by show 384 + (q.val - 128 - 128 - 128) = _; omega)) (Nat.mod_eq_of_lt hl) (by show _ = 3 * 2 + p.val / 128; omega))
      (e 3 _ _ _ _ (Fin.ext (by show 384 + (q.val - 128 - 128 - 128) = _; omega)) (by show (128 + p.val) % 128 = _; omega)
        (by show _ = 3 * 2 + (128 + p.val) / 128; omega))

/-- The gated row, as the body computes it at row `i` of a block, which is place `p` of its window of 128 rows. -/
theorem sg_tile {t : Fin cfg0.N} {a : Args} {U N : FVec Ideal S512x512 .bf16} {W : FVec Ideal S4x256x128 .bf16} {S : FVec Ideal S128x512 .f32}
    (hR : Reads t a U N W S) (o : ℕ) (ho : o % 128 = 0) (p : Fin 128) (q : Fin 512) (i : Fin 512) (hi : i.val = o + p.val)
    (r : Fin 128 → Fin 512) (hr : ∀ j, (r j).val = o + j.val) :
    @Eq EReal (unit (U (ix2 i q)) * (tiles (fun p q j => W (ix3 p q j)) (fun j n => N (ix2 (r j) n)) p q + S (ix2 p q))) (a.sg (at_ t i) q) := by
  have hp : p.val = (at_ t i).val % 128 := by show p.val = (t.val * 512 + i.val) % 128; have := p.isLt; omega
  unfold Args.sg
  rw [hR.u, mix_sel a (at_ t i) (fun p q j => W (ix3 p q j)) hR.w (fun j n => N (ix2 (r j) n)) (fun j n => (hR.n _ n).trans
      (congrArg (fun x => a.vn x n) (Fin.ext (by
        show t.val * 512 + (r j).val = (t.val * 512 + i.val) / 128 * 128 + j.val; have := hr j; have := p.isLt; omega)))) p hp q]
  refine congrArg (fun x => unit _ * (_ + x)) ((hR.s p q).trans ?_)
  exact congrArg (fun x => a.s (Args.head q) x) (Fin.ext hp)

/-- A block of the result that lies by rows, and its entry at a place of a tile of the block. -/
def rowsBlk (t : Fin cfg0.N) (f : Fin 4096 → Fin 512 → EReal) (y : S512x512.Idx) : EReal := f (at_ t (y 0)) (y 1)
/-- An entry of a tile of the block, by its place in the tile. -/
theorem rowsBlk_emb (t : Fin cfg0.N) (f : Fin 4096 → Fin 512 → EReal) (o o' r w : ℕ)
    (inb : ∀ i : Fin S512x512.rank, (![o, o'] : Fin 2 → ℕ) i + (![r, w] : Fin 2 → ℕ) i ≤ S512x512.size i) (x : (⟨2, ![r, w]⟩ : Shape).Idx)
    (p : Fin r) (q : Fin w) (hx : x = ix2 p q) (i n : Fin 512) (hi : i.val = o + p.val) (hn : n.val = o' + q.val) :
    f (at_ t i) n = rowsBlk t f ((Rect.unit (s := S512x512) ![o, o'] ![r, w] inb).emb x) := by
  subst hx
  unfold rowsBlk
  refine congrArg₂ (fun k n => f (at_ t k) n) (Fin.ext ?_) (Fin.ext ?_)
  · rw [hi]; show _ = o + 1 * p.val; omega
  · rw [hn]; show _ = o' + 1 * q.val; omega

/-- A block of the result that lies by columns, and its entry at a place of a tile of the block. -/
def colsBlk (t : Fin cfg0.N) (f : Fin 4096 → Fin 512 → EReal) (y : S512x512.Idx) : EReal := f (at_ t (y 1)) (y 0)
/-- An entry of a tile of the block, by its place in the tile. -/
theorem colsBlk_emb (t : Fin cfg0.N) (f : Fin 4096 → Fin 512 → EReal) (o o' r w : ℕ)
    (inb : ∀ i : Fin S512x512.rank, (![o, o'] : Fin 2 → ℕ) i + (![r, w] : Fin 2 → ℕ) i ≤ S512x512.size i) (x : (⟨2, ![r, w]⟩ : Shape).Idx)
    (q : Fin r) (p : Fin w) (hx : x = ix2 q p) (n i : Fin 512) (hn : n.val = o + q.val) (hi : i.val = o' + p.val) :
    f (at_ t i) n = colsBlk t f ((Rect.unit (s := S512x512) ![o, o'] ![r, w] inb).emb x) := by
  subst hx
  unfold colsBlk
  refine congrArg₂ (fun k n => f (at_ t k) n) (Fin.ext ?_) (Fin.ext ?_)
  · rw [hi]; show _ = o' + 1 * p.val; omega
  · rw [hn]; show _ = o + 1 * q.val; omega

end Cert.MixIdeal.Closed

end
-- ==== Proof.Mix.Finals.lean ====
/- The spatial gating unit: its two results, each as one closed form of the arguments. -/
module

public import proofs.«01_k».proof.Proof.Mix.Kernel

@[expose] public section

set_option maxRecDepth 16384

noncomputable section

namespace Cert.MixIdeal.Closed

open Cert.MixIdeal Cert.MixIdeal.Gen Idealize.ShloMosaic Idealize.ShloMosaic.TcCoe Idealize.SL.Sem
open Idealize.ShloMosaic.Pipeline (Dat)

variable (m : (ℓ : Loc nD τ sig) → Buf (Elt Ideal) ℓ) (c : Dev nD)

section
variable (t : Fin cfg0.N)
/-- The block of output window 6: the gated rows of the grid point. -/
theorem out6 (y : S512x512.Idx) : @Eq EReal ((outsAt0 m c t).1 y) (rowsBlk t (args m c).sg y) := by
  have hR := reads m c t
  simp only [outsAt0]
  frame_out
  generalize args m c = a at hR ⊢
  generalize k0_pay4 (F := Ideal) (X0_1 m c t) (iblk m c 2 t) (iblk m c 3 t) = N at hR ⊢
  generalize X0_0 m c t = U at hR ⊢
  generalize iblk m c 4 t = W at hR ⊢
  generalize iblk m c 5 t = S at hR ⊢
  refine View.canon_apply_of_pieces (Val := Elt Ideal) (S := S512x512) (e := .bf16) (rowsBlk t a.sg) _ ?_ y ?_
  · refine View.PiecesOf.mem (Val := Elt Ideal) (s := S512x512) (e := .bf16) (G := rowsBlk t a.sg) ?_
    refine ⟨fun x => ?_, fun x => ?_, fun x => ?_, fun x => ?_, trivial⟩
    all_goals
      obtain ⟨p, q, rfl⟩ : ∃ (p : Fin 128) (q : Fin 512), x = (ix2 p q : (⟨2, ![128, 512]⟩ : Shape).Idx) := ⟨x 0, x 1, eq_ix2 x⟩
    · refine Eq.trans ?_ (rowsBlk_emb t a.sg _ _ _ _ (by decide) _ p q rfl ⟨384 + p.val, by omega⟩ q rfl (Nat.zero_add _).symm)
      unfold_payloads
      pointwise [unit, named_c]
      exact sg_tile hR 384 rfl p q ⟨384 + p.val, by omega⟩ rfl (fun j => ⟨384 + j.val, by omega⟩) (fun _ => rfl)
    · refine Eq.trans ?_ (rowsBlk_emb t a.sg _ _ _ _ (by decide) _ p q rfl ⟨256 + p.val, by omega⟩ q rfl (Nat.zero_add _).symm)
      unfold_payloads
      pointwise [unit, named_c]
      exact sg_tile hR 256 rfl p q ⟨256 + p.val, by omega⟩ rfl (fun j => ⟨256 + j.val, by omega⟩) (fun _ => rfl)
    · refine Eq.trans ?_ (rowsBlk_emb t a.sg _ _ _ _ (by decide) _ p q rfl ⟨128 + p.val, by omega⟩ q rfl (Nat.zero_add _).symm)
      unfold_payloads
      pointwise [unit, named_c]
      exact sg_tile hR 128 rfl p q ⟨128 + p.val, by omega⟩ rfl (fun j => ⟨128 + j.val, by omega⟩) (fun _ => rfl)
    · refine Eq.trans ?_ (rowsBlk_emb t a.sg _ _ _ _ (by decide) _ p q rfl ⟨p.val, by omega⟩ q (Nat.zero_add _).symm (Nat.zero_add _).symm)
      unfold_payloads
      pointwise [unit, named_c]
      exact sg_tile hR 0 rfl p q ⟨p.val, by omega⟩ (Nat.zero_add _).symm (fun j => ⟨j.val, by omega⟩) (fun _ => (Nat.zero_add _).symm)
  · exact View.cover_of_tiledL _ ![128, 512] (by sl_kernel_rfl) y

/-- The block of output window 7: the gated rows of the grid point, by columns. -/
theorem out7 (y : S512x512.Idx) : @Eq EReal ((outsAt0 m c t).2 y) (colsBlk t (args m c).sg y) := by
  have hR := reads m c t
  simp only [outsAt0]
  frame_out
  generalize args m c = a at hR ⊢
  generalize k0_pay4 (F := Ideal) (X0_1 m c t) (iblk m c 2 t) (iblk m c 3 t) = N at hR ⊢
  generalize X0_0 m c t = U at hR ⊢
  generalize iblk m c 4 t = W at hR ⊢
  generalize iblk m c 5 t = S at hR ⊢
  refine View.canon_apply_of_pieces (Val := Elt Ideal) (S := S512x512) (e := .bf16) (colsBlk t a.sg) _ ?_ y ?_
  · refine View.PiecesOf.mem (Val := Elt Ideal) (s := S512x512) (e := .bf16) (G := colsBlk t a.sg) ?_
    refine ⟨fun x => ?_, fun x => ?_, fun x => ?_, fun x => ?_, trivial⟩
    all_goals
      obtain ⟨q, p, rfl⟩ : ∃ (q : Fin 512) (p : Fin 128), x = (ix2 q p : (⟨2, ![512, 128]⟩ : Shape).Idx) := ⟨x 0, x 1, eq_ix2 x⟩
    · refine Eq.trans ?_ (colsBlk_emb t a.sg _ _ _ _ (by decide) _ q p rfl q ⟨384 + p.val, by omega⟩ (Nat.zero_add _).symm rfl)
      unfold_payloads
      pointwise [unit, named_c]
      exact sg_tile hR 384 rfl p q ⟨384 + p.val, by omega⟩ rfl (fun j => ⟨384 + j.val, by omega⟩) (fun _ => rfl)
    · refine Eq.trans ?_ (colsBlk_emb t a.sg _ _ _ _ (by decide) _ q p rfl q ⟨256 + p.val, by omega⟩ (Nat.zero_add _).symm rfl)
      unfold_payloads
      pointwise [unit, named_c]
      exact sg_tile hR 256 rfl p q ⟨256 + p.val, by omega⟩ rfl (fun j => ⟨256 + j.val, by omega⟩) (fun _ => rfl)
    · refine Eq.trans ?_ (colsBlk_emb t a.sg _ _ _ _ (by decide) _ q p rfl q ⟨128 + p.val, by omega⟩ (Nat.zero_add _).symm rfl)
      unfold_payloads
      pointwise [unit, named_c]
      exact sg_tile hR 128 rfl p q ⟨128 + p.val, by omega⟩ rfl (fun j => ⟨128 + j.val, by omega⟩) (fun _ => rfl)
    · refine Eq.trans ?_ (colsBlk_emb t a.sg _ _ _ _ (by decide) _ q p rfl q ⟨p.val, by omega⟩ (Nat.zero_add _).symm (Nat.zero_add _).symm)
      unfold_payloads
      pointwise [unit, named_c]
      exact sg_tile hR 0 rfl p q ⟨p.val, by omega⟩ (Nat.zero_add _).symm (fun j => ⟨j.val, by omega⟩) (fun _ => (Nat.zero_add _).symm)
  · exact View.cover_of_tiledL _ ![512, 128] (by sl_kernel_rfl) y

end

/-- The gated rows, and the same by columns. -/
def Gsg (a : Args) : FVec Ideal S4096x512 .bf16 := fun i => a.sg (i 0) (i 1)
def Gsgt (a : Args) : FVec Ideal S512x4096 .bf16 := fun i => a.sg (i 1) (i 0)

/-- The array of output window 6 after the run. -/
theorem final6 : (dats m 0 c).arrAt 6 cfg0.N = Gsg (args m c) := by
  refine (dats m 0 c).arrAt_eq_of_covers 6 _ (by decide +kernel) fun t hf' y => ?_
  blk_simp
  rw [after0_6]
  obtain ⟨-, -, -, -, -, -, i6, -⟩ := index t
  refine (out6 m c t _).trans ?_
  refine congrArg (Gsg (args m c)) (a₁ := ix2 (at_ t (y 0)) (y 1)) ?_
  blk_point [i6]
/-- The array of output window 7 after the run. -/
theorem final7 : (dats m 0 c).arrAt 7 cfg0.N = Gsgt (args m c) := by
  refine (dats m 0 c).arrAt_eq_of_covers 7 _ (by decide +kernel) fun t hf' y => ?_
  blk_simp
  rw [after0_7]
  obtain ⟨-, -, -, -, -, -, -, i7⟩ := index t
  refine (out7 m c t _).trans ?_
  refine congrArg (Gsgt (args m c)) (a₁ := ix2 (y 0) (at_ t (y 1))) ?_
  blk_point [i7]

end Cert.MixIdeal.Closed

end
-- ==== Proof.Mix.Ref.lean ====
/- The spatial gating unit's plain forward lines, element by element. -/
module

public import proofs.«01_k».proof.Proof.Gen.MixRefIdeal.Read
public import proofs.«01_k».proof.Proof.Mix.Finals

@[expose] public section

set_option maxRecDepth 16384

noncomputable section

namespace Cert.MixRefIdeal.Closed

open Cert.MixRefIdeal Cert.MixRefIdeal.Gen Cert.MixRefIdeal.Read Idealize.ShloMosaic Idealize.ShloMosaic.TcCoe Cert.Reals
open Cert.MixIdeal.Closed (Args argsOf cen rdev mask Gsg Gsgt)

/-- The f32 words of 44715 and of a million, and their quotient. -/
theorem ofBits_num : Ideal.ofBits .f32 0x472EAB00#32 = ((44715 : ℝ) : EReal) := by
  simp [Ideal.ofBits, Ideal.ieee, -EReal.coe_mul]; norm_num
/-- The f32 word of a million. -/
theorem ofBits_den : Ideal.ofBits .f32 0x49742400#32 = ((1000000 : ℝ) : EReal) := by
  simp [Ideal.ofBits, Ideal.ieee, -EReal.coe_mul]; norm_num
/-- The quotient of those two words. -/
theorem quot : Ideal.div (Ideal.ofBits .f32 0x472EAB00#32) (Ideal.ofBits .f32 0x49742400#32) = ((8943 / 200000 : ℝ) : EReal) := by
  rw [ofBits_num, ofBits_den, div_coe _ _ (by norm_num)]
  norm_num

/-- The unit of the forward lines on an array. -/
def unitE (U : FVec Ideal S4096x512 .f32) : FVec Ideal S4096x512 .f32 :=
  mulf U (mulf (broadcastInDim S4096x512 ![] bcast_S_S4096x512 (constant S_ .f32 0x3F000000#32))
    (addf (broadcastInDim S4096x512 ![] bcast_S_S4096x512 (constant S_ .f32 0x3F800000#32))
      (Host.tanh (mulf (broadcastInDim S4096x512 ![] bcast_S_S4096x512 (constant S_ .f32 0x3F4C422A#32))
        (addf U (mulf (broadcastInDim S4096x512 ![] bcast_S_S4096x512
          (Host.divf (constant S_ .f32 0x472EAB00#32) (constant S_ .f32 0x49742400#32))) (mulf (mulf U U) U)))))))
/-- It is the unit of each entry. -/
theorem unitE_apply (U : FVec Ideal S4096x512 .f32) (i : S4096x512.Idx) : @Eq EReal (unitE U i) (Cert.MixIdeal.Closed.unit (U i)) := by
  unfold unitE Cert.MixIdeal.Closed.unit
  pointwise
  rw [quot, mul_left_comm, ← mul_assoc]

variable (x0 : FVec Ideal S4096x4616 .f32) (x1 x2 : FVec Ideal S1x512 .f32) (x3 : FVec Ideal S1x8x128x128 .f32) (x4 : FVec Ideal S1x8x128 .f32)

/-- The unit of the first half. -/
theorem v14_apply (r : Fin 4096) (n : Fin 512) : @Eq EReal (val_main_v14 (F := Ideal) x0 (ix2 r n))
    (Cert.MixIdeal.Closed.unit ((argsOf x0 x1 x2 x3 x4).u r n)) := by
  refine (unitE_apply (val_main_v0 (F := Ideal) x0) _).trans (congrArg _ ?_)
  unfold val_main_v0 argsOf
  pointwise
  try rfl
/-- The unit of the second half. -/
theorem v29_apply (r : Fin 4096) (n : Fin 512) : @Eq EReal (val_main_v29 (F := Ideal) x0 (ix2 r n)) ((argsOf x0 x1 x2 x3 x4).act r n) := by
  refine (unitE_apply (val_main_v15 (F := Ideal) x0) _).trans ?_
  unfold Args.act
  refine congrArg _ ?_
  unfold val_main_v15 argsOf
  pointwise
  try rfl
/-- A row minus its mean. -/
theorem v35_apply (r : Fin 4096) (n : Fin 512) : @Eq EReal (val_main_v35 (F := Ideal) x0 (ix2 r n)) (cen ((argsOf x0 x1 x2 x3 x4).act r) n) := by
  have h := fun n => v29_apply x0 x1 x2 x3 x4 r n
  unfold val_main_v35 val_main_v34 val_main_v33 val_main_v32 val_main_v31 val_main_v30 val_main_cst_9 val_main_cst_10
  generalize val_main_v29 (F := Ideal) x0 = X at h ⊢
  unfold cen
  pointwise
  simp only [h]
  try rfl
/-- The reciprocal deviation of a row. -/
theorem v44_apply (r : Fin 4096) (n : Fin 512) : @Eq EReal (val_main_v44 (F := Ideal) x0 (ix2 r n)) (rdev ((argsOf x0 x1 x2 x3 x4).act r)) := by
  have h := fun n => v35_apply x0 x1 x2 x3 x4 r n
  unfold val_main_v44 val_main_v43 val_main_v42 val_main_v41 val_main_v40 val_main_v39 val_main_v38 val_main_v37 val_main_v36 val_main_cst_11 val_main_cst_12 val_main_cst_13
  generalize val_main_v35 (F := Ideal) x0 = X at h ⊢
  unfold rdev
  pointwise
  simp only [h]
  try rfl
/-- A normed entry. -/
theorem v53_apply (r : Fin 4096) (n : Fin 512) : @Eq EReal (val_main_v53 (F := Ideal) x0 x1 x2 (ix2 r n)) ((argsOf x0 x1 x2 x3 x4).vn r n) := by
  have h := v35_apply x0 x1 x2 x3 x4 r n
  have h' := v44_apply x0 x1 x2 x3 x4 r n
  unfold val_main_v53 val_main_v52 val_main_v51 val_main_v50 val_main_v49 val_main_v48 val_main_v47 val_main_v46 val_main_v45
  unfold Args.vn
  rw [← h, ← h']
  generalize val_main_v35 (F := Ideal) x0 = X
  generalize val_main_v44 (F := Ideal) x0 = Y
  unfold argsOf
  pointwise
  try rfl
/-- A masked weight. -/
theorem v63_apply (h : Fin 8) (i j : Fin 128) : @Eq EReal (val_main_v63 (F := Ideal) x3 (ix3 h i j)) ((argsOf x0 x1 x2 x3 x4).w h i j) := by
  have e : (val_main_v60 (F := Ideal) : IVec S128x128 1) = mask := rfl
  unfold val_main_v63 val_main_call1_v2 val_main_call1_v1 val_main_call1_v0 val_main_c_14 val_main_v62 val_main_v61
  rw [e]
  unfold argsOf
  generalize mask = M
  pointwise
  refine congrArg (Scalar.select _ _) ?_
  show (((0#32 : BitVec 32).toInt : ℝ) : EReal) = 0
  simp
/-- A gated entry. -/
theorem v74_apply (r : Fin 4096) (n : Fin 512) : @Eq EReal (val_main_v74 (F := Ideal) x0 x1 x2 x3 x4 (ix2 r n)) ((argsOf x0 x1 x2 x3 x4).sg r n) := by
  have hu := v14_apply x0 x1 x2 x3 x4 r n
  have hn := fun r n => v53_apply x0 x1 x2 x3 x4 r n
  have hw := fun h i j => v63_apply x0 x1 x2 x3 x4 h i j
  unfold val_main_v74 val_main_v73 val_main_v72 val_main_v71 val_main_v70 val_main_v69 val_main_v68 val_main_v67 val_main_v66 val_main_v65 val_main_v64
  unfold Args.sg Args.mix0
  rw [← hu]
  simp only [← hn, ← hw]
  generalize val_main_v14 (F := Ideal) x0 = X
  generalize val_main_v53 (F := Ideal) x0 x1 x2 = Y
  generalize val_main_v63 (F := Ideal) x3 = Z
  unfold argsOf
  pointwise
  exact congrArg (fun z => X (ix2 r n) * (z + _)) (Finset.sum_congr rfl fun j _ => mul_comm _ _)

/-- The gated rows of the forward lines. -/
theorem ref_sg : val_main_v74 (F := Ideal) x0 x1 x2 x3 x4 = Gsg (argsOf x0 x1 x2 x3 x4) := by
  funext i
  conv_lhs => rw [eq_ix2 i]
  exact v74_apply x0 x1 x2 x3 x4 (i 0) (i 1)
/-- The same by columns. -/
theorem ref_sgt : val_main_v75 (F := Ideal) x0 x1 x2 x3 x4 = Gsgt (argsOf x0 x1 x2 x3 x4) := by
  unfold val_main_v75
  rw [ref_sg]
  funext i
  unfold Gsg Gsgt
  pointwise
  try rfl

end Cert.MixRefIdeal.Closed

end
-- ==== Proof.Mix.Main.lean ====
/- The spatial gating unit against the plain forward lines. -/
module

public import proofs.«01_k».proof.Defs
public import proofs.«01_k».proof.Proof.Mix.Finals
public import proofs.«01_k».proof.Proof.Gen.MixRefIdeal.Run
public import proofs.«01_k».proof.Proof.Mix.Ref

@[expose] public section

set_option maxRecDepth 16384

noncomputable section

namespace Cert.Proof

open Idealize.ShloMosaic Idealize.ShloMosaic.TcCoe Idealize.SL.Sem Idealize.ShloMosaic.IdealRules
open Cert.MixIdeal.Closed Cert.MixRefIdeal.Read Cert.MixRefIdeal.Closed

/-- Naming the unit's rounded constant keeps the call. -/
theorem preserves_mix : Cert.preserves_Mix_MixIdeal := named_const.statement _ _ _ _ _ rfl

/-- The spatial gating unit's call computes the forward lines, from any arguments. -/
theorem algebraic_mix : Cert.algebraic_MixIdeal_MixRefIdeal := by
  intro m ρ m' ρ' _ hag
  refine ⟨fun c => Gsg (args m c), fun c => Gsgt (args m c), ?_, ?_⟩
  · exact (θ_run _ _ _).mono (fun r h c => by
      obtain ⟨h6, h7, hr⟩ := h c
      exact ⟨h6.trans (final6 m c), h7.trans (final7 m c), hr⟩) (Cert.MixIdeal.Value.run_blocks m ρ)
  · refine (θ_run _ _ _).mono (fun r h c => ?_) (Cert.MixRefIdeal.Value.run m' ρ')
    obtain ⟨h6, h7, hr⟩ := h c
    obtain ⟨a0, a1, a2, a3, a4⟩ := hag c
    refine ⟨h6.trans ?_, h7.trans ?_, hr⟩
    · rw [val_main_v74_eq, a0, a1, a2, a3, a4]
      exact ref_sg _ _ _ _ _
    · rw [val_main_v75_eq, a0, a1, a2, a3, a4]
      exact ref_sgt _ _ _ _ _

end Cert.Proof

end
-- ==== Proof.Gw.Kernel.lean ====
/- A weight's gradient: the result as one closed form of the arguments. -/
module

public import proofs.«01_k».proof.Proof.Gen.GwIdeal.Value
public import Idealize.ShloMosaic.Lib.Pointwise
public import Idealize.ShloMosaic.Lib.Pipeline.ValueKit

@[expose] public section

set_option maxRecDepth 16384

noncomputable section

namespace Cert.GwIdeal.Closed

open Cert.GwIdeal Cert.GwIdeal.Gen Idealize.ShloMosaic Idealize.ShloMosaic.TcCoe Idealize.SL.Sem
open Idealize.ShloMosaic.Pipeline (Dat)

variable (m : (ℓ : Loc nD τ sig) → Buf (Elt Ideal) ℓ)

/-- The product of the transposed activation and the cotangent. -/
def Gp (a : FVec Ideal S4096x4096 .bf16) (d : FVec Ideal S4096x1024 .bf16) : FVec Ideal S4096x1024 .f32 :=
  fun i => ∑ j : Fin 4096, a (ix2 j (i 0)) * d (ix2 j (i 1))

/-- The arguments, as arrays. -/
abbrev argA (c : Dev nD) : FVec Ideal S4096x4096 .bf16 := m ((c : Thread nD τ).loc main_arg0)
abbrev argD (c : Dev nD) : FVec Ideal S4096x1024 .bf16 := m ((c : Thread nD τ).loc main_arg1)

/-- The block each window is on at a grid point. -/
theorem index : ∀ t : Fin cfg0.N,
    win0_0.index t = ![t.val, 0] ∧ win0_1.index t = ![0, 0] ∧ win0_2.index t = ![t.val, 0] :=
  (by decide +kernel : ∀ t : Fin grid0.N, _)

/-- An element of the array `v0` that the call reads: the activation, transposed. -/
theorem V_v0 (c : Dev nD) (i : S4096x4096.Idx) (r k : Fin 4096) (h0 : k.val = (i 0).val) (h1 : r.val = (i 1).val) :
    (V m c main_v0 : FVec Ideal S4096x4096 .bf16) i = argA m c (ix2 r k) := by
  unfold V
  simp only [hostOps0]
  after_results
  pointwise
  refine congrArg (argA m c) (funext fun a => ?_)
  fin_cases a <;> refine Fin.ext ?_ <;> first | rfl | simp [h0, h1]

/-- The gradient after the call. -/
theorem final2 (c : Dev nD) : (dats m 0 c).arrAt 2 cfg0.N = Gp (argA m c) (argD m c) := by
  refine (dats m 0 c).arrAt_eq_of_covers 2 _ (by decide +kernel) fun t hf y => ?_
  blk_simp
  rw [after0_2]
  simp only [outsAt0]
  frame_out
  obtain ⟨i0, i1, i2⟩ := index t
  unfold_payloads
  pointwise [Gp]
  blk_simp [iblk, i0, i1, i2]
  show @Eq EReal _ _
  refine Finset.sum_congr (M := EReal) rfl fun j _ => ?_
  refine congrArg₂ (fun a b : EReal => a * b) ?_ ?_
  · exact V_v0 m c _ _ _ (by blk_simp [i0, i2]) (by blk_simp [i0, i2])
  · refine congrArg (argD m c) (Shape.idx_ext₂ ?_ ?_) <;> blk_simp [i1, i2]

end Cert.GwIdeal.Closed

end
-- ==== Proof.Gw.Ref.lean ====
/- The plain product of a weight's gradient, read at an element. -/
module

public import proofs.«01_k».proof.Proof.Gw.Kernel
public import proofs.«01_k».proof.Proof.Gen.GwRefIdeal.Read

@[expose] public section

set_option maxRecDepth 16384

noncomputable section

namespace Cert.GwRefIdeal.Closed

open Cert.GwRefIdeal Cert.GwRefIdeal.Read Idealize.ShloMosaic Idealize.ShloMosaic.TcCoe Idealize.SL.Sem
open Cert.GwIdeal.Closed

variable (a : FVec Ideal S4096x4096 .bf16) (d : FVec Ideal S4096x1024 .bf16)

/-- The product of the transposed activation and the cotangent. -/
theorem ref_g : val_main_v3 (F := Ideal) a d = Gp a d := by
  funext i
  unfold val_main_v3 val_main_v2 val_main_v1 val_main_v0
  pointwise [Gp]
  try rfl

end Cert.GwRefIdeal.Closed

end
-- ==== Proof.Gw.Main.lean ====
/- A weight's gradient against the plain product. -/
module

public import proofs.«01_k».proof.Defs
public import proofs.«01_k».proof.Proof.Gw.Kernel
public import proofs.«01_k».proof.Proof.Gen.GwRefIdeal.Run
public import proofs.«01_k».proof.Proof.Gw.Ref

@[expose] public section

set_option maxRecDepth 16384

noncomputable section

namespace Cert.Proof

open Idealize.ShloMosaic Idealize.ShloMosaic.TcCoe Idealize.SL.Sem
open Cert.GwIdeal.Closed Cert.GwRefIdeal.Read Cert.GwRefIdeal.Closed

/-- The call of a weight's gradient computes the plain product, from any arguments. -/
theorem algebraic_gw : Cert.algebraic_GwIdeal_GwRefIdeal := by
  intro m ρ m' ρ' _ hag
  refine ⟨fun c => Gp (argA m c) (argD m c), ?_, ?_⟩
  · exact (θ_run _ _ _).mono (fun r h c => by
      obtain ⟨h2, hr⟩ := h c
      exact ⟨h2.trans (final2 m c), hr⟩) (Cert.GwIdeal.Value.run_blocks m ρ)
  · refine (θ_run _ _ _).mono (fun r h c => ?_) (Cert.GwRefIdeal.Value.run m' ρ')
    obtain ⟨h2, hr⟩ := h c
    obtain ⟨a0, a1⟩ := hag c
    refine ⟨h2.trans ?_, hr⟩
    · rw [val_main_v3_eq, a0, a1]
      exact ref_g _ _

end Cert.Proof

end
-- ==== Proof.Rest.Kernel.lean ====
/- The projection to all but q, k and v: each result as one closed form of the arguments. -/
module

public import proofs.«01_k».proof.Proof.Gen.RestIdeal.Value
public import Idealize.ShloMosaic.Lib.Pointwise
public import Idealize.ShloMosaic.Lib.Pipeline.ValueKit

@[expose] public section

set_option maxRecDepth 16384

noncomputable section

namespace Cert.RestIdeal.Closed

open Cert.RestIdeal Cert.RestIdeal.Gen Idealize.ShloMosaic Idealize.ShloMosaic.TcCoe Idealize.SL.Sem
open Idealize.ShloMosaic.Pipeline (Dat)

variable (m : (ℓ : Loc nD τ sig) → Buf (Elt Ideal) ℓ)

/-- Column `k` of the reordered weights at row `j`: the columns from 1544 on, then the eight from 1536 on, then zeros. -/
def wcol (w : FVec Ideal S1x1024x4616 .f32) (k : ℕ) (j : Fin 1024) : EReal :=
  if h : k < 3072 then w (ix3 0 j ⟨1544 + k, by omega⟩)
  else if h' : k - 3072 < 8 then w (ix3 0 j ⟨1536 + (k - 3072), by omega⟩) else 0

/-- The projection at row `r` and column `k` of the reordered weights. -/
def proj (h : FVec Ideal S4096x1024 .bf16) (w : FVec Ideal S1x1024x4616 .f32) (r : Fin 4096) (k : ℕ) : EReal :=
  ∑ j : Fin 1024, h (ix2 r j) * wcol w k j

/-- The projection. -/
def Gp (h : FVec Ideal S4096x1024 .bf16) (w : FVec Ideal S1x1024x4616 .f32) : FVec Ideal S4096x3200 .bf16 :=
  fun i => proj h w (i 0) (i 1).val

/-- The forget logits, on 128 lanes. -/
def Gf (h : FVec Ideal S4096x1024 .bf16) (w : FVec Ideal S1x1024x4616 .f32) : FVec Ideal S4096x128 .f32 :=
  fun i => proj h w (i 0) (3072 + (i 1).val)

/-- The arguments, as arrays. -/
abbrev argH (c : Dev nD) : FVec Ideal S4096x1024 .bf16 := m ((c : Thread nD τ).loc main_arg0)
abbrev argW (c : Dev nD) : FVec Ideal S1x1024x4616 .f32 := m ((c : Thread nD τ).loc main_arg1)

/-- The block each window is on at a grid point. -/
theorem index : ∀ t : Fin cfg0.N,
    win0_0.index t = ![t.val, 0] ∧ win0_1.index t = ![0, 0] ∧ win0_2.index t = ![t.val, 0] ∧ win0_3.index t = ![t.val, 0] :=
  (by decide +kernel : ∀ t : Fin grid0.N, _)

/-- The integer zero the host pads with, as a float. -/
theorem pad_zero : @Eq EReal (FloatOps.sitofp (F := Ideal) FTy.bf16 0#32) 0 := by
  show (((0#32 : BitVec 32).toInt : ℝ) : EReal) = 0
  simp

/-- The weights, transposed and rounded. -/
abbrev wT (c : Dev nD) : FVec Ideal S4616x1024 .bf16 :=
  truncf .bf16 (transpose S4616x1024 [1, 0] (shapeCast S1024x4616 (argW m c) shapeCasts_S1x1024x4616_S1024x4616)
    transposes_S1024x4616_S4616x1024_1_0) bitsLt_bf16_f32

/-- The array `v6` that the call reads, out of the arguments. -/
theorem V_w (c : Dev nD) : @Eq (FVec Ideal S3200x1024 .bf16) (V m c main_v6)
    (concatenate S3200x1024 0 [
      ⟨S3072x1024, extractStridedSlice S3072x1024 ![1544, 0] (wT m c) slices_S4616x1024_S3072x1024_1544_0⟩,
      ⟨S128x1024, pad S128x1024 ![0, 0] ![120, 0] ![0, 0]
        (extractStridedSlice S8x1024 ![1536, 0] (wT m c) slices_S4616x1024_S8x1024_1536_0)
        (sitofp .bf16 (constantI S_ 32 0#32)) pads_S8x1024_S128x1024_01200_000 h_S_⟩]
      concatenates_S3072x1024_S128x1024_S3200x1024_d0) := by
  unfold V hostOps0 hostOps0_1 hostOps0_2
  simp only [List.flatten_cons, List.flatten_nil, List.append_nil, List.cons_append, List.nil_append]; after_results
  simp only [StableHlo.TRef.toBuf, StableHlo.TRef.ofBuf, cast_eq]; rfl

/-- An element of the array `v6` that the call reads. -/
theorem V_v6 (c : Dev nD) (i : S3200x1024.Idx) (k : ℕ) (r : Fin 1024) (h0 : k = (i 0).val) (h1 : r.val = (i 1).val) :
    (V m c main_v6 : FVec Ideal S3200x1024 .bf16) i = wcol (argW m c) k r := by
  obtain rfl : r = i 1 := Fin.ext h1
  subst h0
  rw [V_w]
  pointwise [wcol, pad_zero]
  try rfl

/-- The projection after the call. -/
theorem final2 (c : Dev nD) : (dats m 0 c).arrAt 2 cfg0.N = Gp (argH m c) (argW m c) := by
  refine (dats m 0 c).arrAt_eq_of_covers 2 _ (by decide +kernel) fun t hf y => ?_
  blk_simp
  rw [after0_2]
  frame_out
  obtain ⟨i0, i1, i2, i3⟩ := index t
  unfold_payloads
  pointwise [Gp, proj]
  show @Eq EReal _ _
  refine Finset.sum_congr (M := EReal) rfl fun j _ => ?_
  blk_simp [iblk, i0, i1, i2]
  refine congrArg₂ (fun a b : EReal => a * b) ?_ ?_
  · refine congrArg (argH m c) (Shape.idx_ext₂ ?_ ?_) <;> blk_simp [i0, i2]
  · exact V_v6 m c _ _ _ (by blk_simp [i1, i2]) (by blk_simp [i1, i2])

/-- The forget logits after the call. -/
theorem final3 (c : Dev nD) : (dats m 0 c).arrAt 3 cfg0.N = Gf (argH m c) (argW m c) := by
  refine (dats m 0 c).arrAt_eq_of_covers 3 _ (by decide +kernel) fun t hf y => ?_
  blk_simp
  rw [after0_3]
  frame_out
  obtain ⟨i0, i1, i2, i3⟩ := index t
  unfold_payloads
  pointwise [Gf, proj]
  show @Eq EReal _ _
  refine Finset.sum_congr (M := EReal) rfl fun j _ => ?_
  blk_simp [iblk, i0, i1, i3]
  refine congrArg₂ (fun a b : EReal => a * b) ?_ ?_
  · refine congrArg (argH m c) (Shape.idx_ext₂ ?_ ?_) <;> blk_simp [i0, i3]
  · exact V_v6 m c _ _ _ (by blk_simp [i1, i3]) (by blk_simp [i1, i3])

end Cert.RestIdeal.Closed

end
-- ==== Proof.Rest.Ref.lean ====
/- The plain lines of the projection to all but q, k and v, result by result, read at an element. -/
module

public import proofs.«01_k».proof.Proof.Rest.Kernel
public import proofs.«01_k».proof.Proof.Gen.RestRefIdeal.Read

@[expose] public section

set_option maxRecDepth 16384

noncomputable section

namespace Cert.RestRefIdeal.Closed

open Cert.RestRefIdeal Cert.RestRefIdeal.Read Idealize.ShloMosaic Idealize.ShloMosaic.TcCoe Idealize.SL.Sem
open Cert.RestIdeal.Closed

variable (h : FVec Ideal S4096x1024 .bf16) (w : FVec Ideal S1x1024x4616 .f32)

/-- The integer zero the lines pad with, as a float. -/
theorem pad_zero : @Eq EReal (FloatOps.sitofp (F := Ideal) FTy.f32 0#32) 0 := by
  show (((0#32 : BitVec 32).toInt : ℝ) : EReal) = 0
  simp

/-- The product, before its columns are put in order. -/
theorem ref_dot (r : Fin 4096) (k : Fin 3080) : val_main_v5 (F := Ideal) h w (ix2 r k) =
    ∑ j : Fin 1024, h (ix2 r j) * w (ix3 0 j ⟨1536 + k.val, by omega⟩) := by
  unfold val_main_v5 val_main_v4 val_main_v3 val_main_v2 val_main_v1 val_main_v0
  pointwise
  try rfl

/-- The forget logits, on 128 lanes. -/
theorem ref_f : val_main_v8 (F := Ideal) h w = Gf h w := by
  funext i
  have hd := ref_dot h w
  unfold val_main_v8 val_main_v6 val_main_call0_v0 val_main_c
  generalize val_main_v5 (F := Ideal) h w = p at hd ⊢
  pointwise [Gf, proj, wcol, pad_zero]
  show @Eq EReal _ _
  by_cases h8 : (i 1).val < 8
  · simp only [dif_pos h8]
    exact hd _ _
  · simp only [dif_neg h8, mul_zero, Finset.sum_const_zero]

/-- The projection. -/
theorem ref_p : val_main_v10 (F := Ideal) h w = Gp h w := by
  funext i
  have hd := ref_dot h w
  have hf := ref_f h w
  unfold val_main_v10 val_main_v9 val_main_v7
  generalize val_main_v8 (F := Ideal) h w = f at hf ⊢
  subst hf
  generalize val_main_v5 (F := Ideal) h w = p at hd ⊢
  pointwise [Gp, Gf, proj, wcol]
  show @Eq EReal _ _
  by_cases h1 : (i 1).val < 3072
  · simp only [dif_pos h1]
    refine (hd _ _).trans (Finset.sum_congr rfl fun j _ => ?_)
    refine congrArg (fun k => h (ix2 (i 0) j) * w (ix3 0 j k)) (Fin.ext ?_)
    show 1536 + (8 + (i 1).val) = 1544 + (i 1).val
    omega
  · simp only [dif_neg h1]

end Cert.RestRefIdeal.Closed

end
-- ==== Proof.Rest.Main.lean ====
/- The projection to all but q, k and v against the plain lines. -/
module

public import proofs.«01_k».proof.Defs
public import proofs.«01_k».proof.Proof.Rest.Kernel
public import proofs.«01_k».proof.Proof.Gen.RestRefIdeal.Run
public import proofs.«01_k».proof.Proof.Rest.Ref

@[expose] public section

set_option maxRecDepth 16384

noncomputable section

namespace Cert.Proof

open Idealize.ShloMosaic Idealize.ShloMosaic.TcCoe Idealize.SL.Sem
open Cert.RestIdeal.Closed Cert.RestRefIdeal.Read Cert.RestRefIdeal.Closed

/-- The call of the projection computes the plain lines, from any arguments. -/
theorem algebraic_rest : Cert.algebraic_RestIdeal_RestRefIdeal := by
  intro m ρ m' ρ' _ hag
  refine ⟨fun c => Gp (argH m c) (argW m c), fun c => Gf (argH m c) (argW m c), ?_, ?_⟩
  · exact (θ_run _ _ _).mono (fun r h c => by
      obtain ⟨h2, h3, hr⟩ := h c
      exact ⟨h2.trans (final2 m c), h3.trans (final3 m c), hr⟩) (Cert.RestIdeal.Value.run_blocks m ρ)
  · refine (θ_run _ _ _).mono (fun r h c => ?_) (Cert.RestRefIdeal.Value.run m' ρ')
    obtain ⟨h2, h3, hr⟩ := h c
    obtain ⟨a0, a1⟩ := hag c
    refine ⟨h2.trans ?_, h3.trans ?_, hr⟩
    · rw [val_main_v10_eq, a0, a1]
      exact ref_p _ _
    · rw [val_main_v8_eq, a0, a1]
      exact ref_f _ _

end Cert.Proof

end
-- ==== Proof.Adam.Kernel.lean ====
/- The optimiser on a shard: each result as one closed form of the arguments. -/
module

public import proofs.«01_k».proof.Proof.Gen.AdamIdeal.Value
public import Idealize.ShloMosaic.Lib.Pointwise
public import Idealize.ShloMosaic.Lib.Pipeline.ValueKit

@[expose] public section

set_option maxRecDepth 16384

noncomputable section

namespace Cert.AdamIdeal.Closed

open Cert.AdamIdeal Cert.AdamIdeal.Gen Idealize.ShloMosaic Idealize.ShloMosaic.TcCoe Idealize.SL.Sem
open Idealize.ShloMosaic.Pipeline (Dat)

variable (m : (ℓ : Loc nD τ sig) → Buf (Elt Ideal) ℓ)

/-- The gradient: the device's own sum and the three that arrived. -/
def Gg (own : FVec Ideal S1024x512 .f32) (rc : FVec Ideal S3x1024x512 .bf16) :
    FVec Ideal S1024x512 .f32 :=
  fun i => own (ix2 (i 0) (i 1)) + rc (ix3 0 (i 0) (i 1)) + rc (ix3 1 (i 0) (i 1)) + rc (ix3 2 (i 0) (i 1))

/-- The first moment. -/
def Gm (g : FVec Ideal S1024x512 .f32) (a : FVec Ideal S1x1024x512 .f32) : FVec Ideal S1024x512 .f32 :=
  fun i => Ideal.ofBits .f32 0x3F666666#32 * a (ix3 0 (i 0) (i 1)) + Ideal.ofBits .f32 0x3DCCCCCD#32 * g (ix2 (i 0) (i 1))

/-- The second moment. -/
def Gs (g : FVec Ideal S1024x512 .f32) (a : FVec Ideal S1x1024x512 .f32) : FVec Ideal S1024x512 .f32 :=
  fun i => Ideal.ofBits .f32 0x3F7FBE77#32 * a (ix3 0 (i 0) (i 1))
    + Ideal.ofBits .f32 0x3A83126F#32 * (g (ix2 (i 0) (i 1)) * g (ix2 (i 0) (i 1)))

/-- The update of the weights. -/
def Gd (m1 m2 : FVec Ideal S1024x512 .f32) (w : FVec Ideal S1x1024x512 .f32) : FVec Ideal S1024x512 .f32 :=
  fun i => Ideal.ofBits .f32 0xBA83126F#32
    * (Ideal.div (Ideal.div (m1 (ix2 (i 0) (i 1))) (Ideal.ofBits .f32 0x3F26BD02#32))
        (Ideal.sqrt (Ideal.div (m2 (ix2 (i 0) (i 1))) (Ideal.ofBits .f32 0x3C231ACC#32)) + Ideal.ofBits .f32 0x322BCC77#32)
      + Ideal.ofBits .f32 0x3C23D70A#32 * w (ix3 0 (i 0) (i 1)))

/-- The arguments, as arrays. -/
abbrev argO (c : Dev nD) : FVec Ideal S1024x512 .f32 := m ((c : Thread nD τ).loc main_arg0)
abbrev argR (c : Dev nD) : FVec Ideal S3x1024x512 .bf16 := m ((c : Thread nD τ).loc main_arg1)
abbrev argW (c : Dev nD) : FVec Ideal S1x1024x512 .f32 := m ((c : Thread nD τ).loc main_arg2)
abbrev argM (c : Dev nD) : FVec Ideal S1x1024x512 .f32 := m ((c : Thread nD τ).loc main_arg3)
abbrev argV (c : Dev nD) : FVec Ideal S1x1024x512 .f32 := m ((c : Thread nD τ).loc main_arg4)

/-- The block each window is on at a grid point. -/
theorem index : ∀ t : Fin cfg0.N,
    win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![t.val, 0] := (by decide +kernel : ∀ t : Fin grid0.N, _)

/-- The gradient after the call. -/
theorem final5 (c : Dev nD) : (dats m 0 c).arrAt 5 cfg0.N
    = Gg (argO m c) (argR m c) := by
  refine (dats m 0 c).arrAt_eq_of_covers 5 _ (by decide +kernel) fun t hf y => ?_
  blk_simp
  rw [after0_5]
  frame_out
  obtain ⟨i0, i1, i2, i3, i4, i5, i6, i7, i8⟩ := index t
  unfold_payloads
  pointwise [Gg]
  blk_point [iblk, V, i0, i1, i2, i3, i4, i5]

/-- The update after the call. -/
theorem final6 (c : Dev nD) : (dats m 0 c).arrAt 6 cfg0.N
    = Gd (Gm (Gg (argO m c) (argR m c)) (argM m c)) (Gs (Gg (argO m c) (argR m c)) (argV m c)) (argW m c) := by
  refine (dats m 0 c).arrAt_eq_of_covers 6 _ (by decide +kernel) fun t hf y => ?_
  blk_simp
  rw [after0_6]
  frame_out
  obtain ⟨i0, i1, i2, i3, i4, i5, i6, i7, i8⟩ := index t
  unfold_payloads
  pointwise [Gd, Gm, Gs, Gg]
  blk_point [iblk, V, i0, i1, i2, i3, i4, i6]

/-- The first moment after the call. -/
theorem final7 (c : Dev nD) : (dats m 0 c).arrAt 7 cfg0.N
    = Gm (Gg (argO m c) (argR m c)) (argM m c) := by
  refine (dats m 0 c).arrAt_eq_of_covers 7 _ (by decide +kernel) fun t hf y => ?_
  blk_simp
  rw [after0_7]
  frame_out
  obtain ⟨i0, i1, i2, i3, i4, i5, i6, i7, i8⟩ := index t
  unfold_payloads
  pointwise [Gm, Gg]
  blk_point [iblk, V, i0, i1, i2, i3, i4, i7]

/-- The second moment after the call. -/
theorem final8 (c : Dev nD) : (dats m 0 c).arrAt 8 cfg0.N
    = Gs (Gg (argO m c) (argR m c)) (argV m c) := by
  refine (dats m 0 c).arrAt_eq_of_covers 8 _ (by decide +kernel) fun t hf y => ?_
  blk_simp
  rw [after0_8]
  frame_out
  obtain ⟨i0, i1, i2, i3, i4, i5, i6, i7, i8⟩ := index t
  unfold_payloads
  pointwise [Gs, Gg]
  blk_point [iblk, V, i0, i1, i2, i3, i4, i8]

end Cert.AdamIdeal.Closed

end
-- ==== Proof.Adam.Ref.lean ====
/- The plain lines of the optimiser, result by result, read at an element. -/
module

public import proofs.«01_k».proof.Proof.Adam.Kernel
public import proofs.«01_k».proof.Proof.Gen.AdamRefIdeal.Read

@[expose] public section

set_option maxRecDepth 16384

noncomputable section

namespace Cert.AdamRefIdeal.Closed

open Cert.AdamRefIdeal Cert.AdamRefIdeal.Read Idealize.ShloMosaic Idealize.ShloMosaic.TcCoe Idealize.SL.Sem
open Cert.AdamIdeal.Closed

variable (own : FVec Ideal S1024x512 .f32) (rc : FVec Ideal S3x1024x512 .bf16) (w a b : FVec Ideal S1x1024x512 .f32)

/-- The gradient: the sum over the three that arrived, added to the device's own. -/
theorem ref_g : val_main_v2 (F := Ideal) own rc = Gg own rc := by
  funext i
  unfold val_main_v2 val_main_v1 val_main_v0 val_main_cst
  pointwise [Gg, Fin.sum_univ_three, add_assoc]
  try rfl

/-- The first moment. -/
theorem ref_m : val_main_v8 (F := Ideal) own rc a = Gm (Gg own rc) a := by
  funext i
  have hg := ref_g own rc
  unfold val_main_v8 val_main_v7 val_main_v6 val_main_v5 val_main_v4 val_main_v3 val_main_cst_0 val_main_cst_1
  generalize val_main_v2 (F := Ideal) own rc = g at hg ⊢
  rw [← hg]
  pointwise [Gm]
  try rfl

/-- The second moment. -/
theorem ref_s : val_main_v15 (F := Ideal) own rc b = Gs (Gg own rc) b := by
  funext i
  have hg := ref_g own rc
  unfold val_main_v15 val_main_v14 val_main_v13 val_main_v12 val_main_v11 val_main_v10 val_main_v9 val_main_cst_2 val_main_cst_3
  generalize val_main_v2 (F := Ideal) own rc = g at hg ⊢
  rw [← hg]
  pointwise [Gs]
  try rfl

/-- The update. -/
theorem ref_d : val_main_v29 (F := Ideal) own rc w a b = Gd (Gm (Gg own rc) a) (Gs (Gg own rc) b) w := by
  funext i
  have hm := ref_m own rc a
  have hs := ref_s own rc b
  unfold val_main_v29 val_main_v28 val_main_v27 val_main_v26 val_main_v25 val_main_v24 val_main_v23 val_main_v22 val_main_v21
    val_main_v20 val_main_v19 val_main_v18 val_main_v17 val_main_v16 val_main_cst_4 val_main_cst_5 val_main_cst_6
    val_main_cst_7 val_main_cst_8
  generalize val_main_v8 (F := Ideal) own rc a = x at hm ⊢
  generalize val_main_v15 (F := Ideal) own rc b = y at hs ⊢
  rw [← hm, ← hs]
  pointwise [Gd]
  try rfl

end Cert.AdamRefIdeal.Closed

end
-- ==== Proof.Adam.Main.lean ====
/- The optimiser on a shard against its plain lines. -/
module

public import proofs.«01_k».proof.Defs
public import proofs.«01_k».proof.Proof.Adam.Kernel
public import proofs.«01_k».proof.Proof.Gen.AdamRefIdeal.Run
public import proofs.«01_k».proof.Proof.Adam.Ref

@[expose] public section

set_option maxRecDepth 16384

noncomputable section

namespace Cert.Proof

open Idealize.ShloMosaic Idealize.ShloMosaic.TcCoe Idealize.SL.Sem
open Cert.AdamIdeal.Closed Cert.AdamRefIdeal.Read Cert.AdamRefIdeal.Closed

/-- The call of the optimiser computes the plain lines, from any arguments. -/
theorem algebraic_adam : Cert.algebraic_AdamIdeal_AdamRefIdeal := by
  intro m ρ m' ρ' _ hag
  refine ⟨fun c => Gg (argO m c) (argR m c), fun c => Gd (Gm (Gg (argO m c) (argR m c)) (argM m c)) (Gs (Gg (argO m c) (argR m c)) (argV m c)) (argW m c), fun c => Gm (Gg (argO m c) (argR m c)) (argM m c), fun c => Gs (Gg (argO m c) (argR m c)) (argV m c), ?_, ?_⟩
  · exact (θ_run _ _ _).mono (fun r h c => by
      obtain ⟨h5, h6, h7, h8, hr⟩ := h c
      exact ⟨h5.trans (final5 m c), h6.trans (final6 m c), h7.trans (final7 m c), h8.trans (final8 m c), hr⟩) (Cert.AdamIdeal.Value.run_blocks m ρ)
  · refine (θ_run _ _ _).mono (fun r h c => ?_) (Cert.AdamRefIdeal.Value.run m' ρ')
    obtain ⟨h5, h6, h7, h8, hr⟩ := h c
    obtain ⟨a0, a1, a2, a3, a4⟩ := hag c
    refine ⟨h5.trans ?_, h6.trans ?_, h7.trans ?_, h8.trans ?_, hr⟩
    · rw [val_main_v2_eq, a0, a1]
      exact ref_g _ _
    · rw [val_main_v29_eq, a0, a1, a2, a3, a4]
      exact ref_d _ _ _ _ _
    · rw [val_main_v8_eq, a0, a1, a3]
      exact ref_m _ _ _
    · rw [val_main_v15_eq, a0, a1, a4]
      exact ref_s _ _ _

end Cert.Proof

end
-- ==== Proof.Tiny.Kernel.lean ====
/- The optimiser on the small parameters: each result as one closed form of the arguments. -/
module

public import proofs.«01_k».proof.Proof.Gen.TinyIdeal.Value
public import Idealize.ShloMosaic.Lib.Pointwise
public import Idealize.ShloMosaic.Lib.Pipeline.ValueKit

@[expose] public section

set_option maxRecDepth 16384

noncomputable section

namespace Cert.TinyIdeal.Closed

open Cert.TinyIdeal Cert.TinyIdeal.Gen Idealize.ShloMosaic Idealize.ShloMosaic.TcCoe Idealize.SL.Sem
open Idealize.ShloMosaic.Pipeline (Dat)

variable (m : (ℓ : Loc nD τ sig) → Buf (Elt Ideal) ℓ)

/-- The five small parameters in rows of 128, one after the other. -/
def pk (b : FVec Ideal S1x8x128 .f32) (n : FVec Ideal S1x1024 .f32) (f : FVec Ideal S1024 .f32) (g l : FVec Ideal S1x512 .f32) :
    FVec Ideal S32x128 .f32 := fun i =>
  if h0 : (i 0).val < 8 then b (ix3 0 ⟨(i 0).val, h0⟩ (i 1))
  else if h1 : (i 0).val < 16 then n (ix2 0 ⟨((i 0).val - 8) * 128 + (i 1).val, by have : (i 1).val < 128 := (i 1).isLt; omega⟩)
  else if h2 : (i 0).val < 24 then f (ix1 ⟨((i 0).val - 16) * 128 + (i 1).val, by have : (i 1).val < 128 := (i 1).isLt; omega⟩)
  else if h3 : (i 0).val < 28 then g (ix2 0 ⟨((i 0).val - 24) * 128 + (i 1).val, by have : (i 1).val < 128 := (i 1).isLt; omega⟩)
  else l (ix2 0 ⟨((i 0).val - 28) * 128 + (i 1).val, by have : (i 1).val < 128 := (i 1).isLt; have : (i 0).val < 32 := (i 0).isLt; omega⟩)

/-- The arguments, as arrays: the gathered gradients, and the parameters and both moments in rows of 128. -/
abbrev argG (c : Dev nD) : FVec Ideal S8x1056x128 .f32 := m ((c : Thread nD τ).loc main_arg0)
abbrev argW (c : Dev nD) : FVec Ideal S32x128 .f32 := pk (m ((c : Thread nD τ).loc main_arg1)) (m ((c : Thread nD τ).loc main_arg2))
  (m ((c : Thread nD τ).loc main_arg3)) (m ((c : Thread nD τ).loc main_arg4)) (m ((c : Thread nD τ).loc main_arg5))
abbrev argM (c : Dev nD) : FVec Ideal S32x128 .f32 := pk (m ((c : Thread nD τ).loc main_arg6)) (m ((c : Thread nD τ).loc main_arg7))
  (m ((c : Thread nD τ).loc main_arg8)) (m ((c : Thread nD τ).loc main_arg9)) (m ((c : Thread nD τ).loc main_arg10))
abbrev argV (c : Dev nD) : FVec Ideal S32x128 .f32 := pk (m ((c : Thread nD τ).loc main_arg11)) (m ((c : Thread nD τ).loc main_arg12))
  (m ((c : Thread nD τ).loc main_arg13)) (m ((c : Thread nD τ).loc main_arg14)) (m ((c : Thread nD τ).loc main_arg15))

set_option maxHeartbeats 2000000 in
/-- The array `v15` that the call reads: the parameters in rows of 128. -/
theorem V_v15 (c : Dev nD) : @Eq (FVec Ideal S32x128 .f32) (V m c main_v15) (argW m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, List.flatten_cons, List.flatten_nil, List.append_nil, List.cons_append, List.nil_append]
  after_results
  simp only [StableHlo.TRef.toBuf, StableHlo.TRef.ofBuf, cast_eq]
  funext i
  pointwise [pk]
  after_results_simp
  simp only [StableHlo.TRef.toBuf, StableHlo.TRef.ofBuf, cast_eq]
  pointwise
  have l0 : (i 0).val < 32 := (i 0).isLt
  have l1 : (i 1).val < 128 := (i 1).isLt
  simp only [Nat.sub_sub, Nat.reduceAdd]
  by_cases c0 : (i 0).val < 8
  · have d0 : (i 0).val * 128 + (i 1).val < 1024 := by omega
    have e0 : ((i 0).val * 128 + (i 1).val) / 128 = (i 0).val := by omega
    have e1 : ((i 0).val * 128 + (i 1).val) % 128 = (i 1).val := by omega
    simp only [dif_pos c0, dif_pos d0, e0, e1]
    rfl
  by_cases c1 : (i 0).val < 16
  · have c1' : (i 0).val - 8 < 8 := by omega
    have d1 : ((i 0).val - 8) * 128 + (i 1).val < 1024 := by omega
    simp only [dif_neg c0, dif_pos c1, dif_pos c1', dif_pos d1]
  have c1' : ¬ (i 0).val - 8 < 8 := by omega
  by_cases c2 : (i 0).val < 24
  · have c2' : (i 0).val - 16 < 8 := by omega
    have d2 : ((i 0).val - 16) * 128 + (i 1).val < 1024 := by omega
    simp only [dif_neg c0, dif_neg c1, dif_neg c1', dif_pos c2, dif_pos c2', dif_pos d2]
  have c2' : ¬ (i 0).val - 16 < 8 := by omega
  by_cases c3 : (i 0).val < 28
  · have c3' : (i 0).val - 24 < 4 := by omega
    have d3 : ((i 0).val - 24) * 128 + (i 1).val < 512 := by omega
    simp only [dif_neg c0, dif_neg c1, dif_neg c1', dif_neg c2, dif_neg c2', dif_pos c3, dif_pos c3', dif_pos d3]
  have c3' : ¬ (i 0).val - 24 < 4 := by omega
  have d4 : ((i 0).val - 28) * 128 + (i 1).val < 512 := by omega
  simp only [dif_neg c0, dif_neg c1, dif_neg c1', dif_neg c2, dif_neg c2', dif_neg c3, dif_neg c3', dif_pos d4]

set_option maxHeartbeats 2000000 in
/-- The array `v31` that the call reads: the first moments in rows of 128. -/
theorem V_v31 (c : Dev nD) : @Eq (FVec Ideal S32x128 .f32) (V m c main_v31) (argM m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, List.flatten_cons, List.flatten_nil, List.append_nil, List.cons_append, List.nil_append]
  after_results
  simp only [StableHlo.TRef.toBuf, StableHlo.TRef.ofBuf, cast_eq]
  funext i
  pointwise [pk]
  after_results_simp
  simp only [StableHlo.TRef.toBuf, StableHlo.TRef.ofBuf, cast_eq]
  pointwise
  have l0 : (i 0).val < 32 := (i 0).isLt
  have l1 : (i 1).val < 128 := (i 1).isLt
  simp only [Nat.sub_sub, Nat.reduceAdd]
  by_cases c0 : (i 0).val < 8
  · have d0 : (i 0).val * 128 + (i 1).val < 1024 := by omega
    have e0 : ((i 0).val * 128 + (i 1).val) / 128 = (i 0).val := by omega
    have e1 : ((i 0).val * 128 + (i 1).val) % 128 = (i 1).val := by omega
    simp only [dif_pos c0, dif_pos d0, e0, e1]
    rfl
  by_cases c1 : (i 0).val < 16
  · have c1' : (i 0).val - 8 < 8 := by omega
    have d1 : ((i 0).val - 8) * 128 + (i 1).val < 1024 := by omega
    simp only [dif_neg c0, dif_pos c1, dif_pos c1', dif_pos d1]
  have c1' : ¬ (i 0).val - 8 < 8 := by omega
  by_cases c2 : (i 0).val < 24
  · have c2' : (i 0).val - 16 < 8 := by omega
    have d2 : ((i 0).val - 16) * 128 + (i 1).val < 1024 := by omega
    simp only [dif_neg c0, dif_neg c1, dif_neg c1', dif_pos c2, dif_pos c2', dif_pos d2]
  have c2' : ¬ (i 0).val - 16 < 8 := by omega
  by_cases c3 : (i 0).val < 28
  · have c3' : (i 0).val - 24 < 4 := by omega
    have d3 : ((i 0).val - 24) * 128 + (i 1).val < 512 := by omega
    simp only [dif_neg c0, dif_neg c1, dif_neg c1', dif_neg c2, dif_neg c2', dif_pos c3, dif_pos c3', dif_pos d3]
  have c3' : ¬ (i 0).val - 24 < 4 := by omega
  have d4 : ((i 0).val - 28) * 128 + (i 1).val < 512 := by omega
  simp only [dif_neg c0, dif_neg c1, dif_neg c1', dif_neg c2, dif_neg c2', dif_neg c3, dif_neg c3', dif_pos d4]

set_option maxHeartbeats 2000000 in
/-- The array `v47` that the call reads: the second moments in rows of 128. -/
theorem V_v47 (c : Dev nD) : @Eq (FVec Ideal S32x128 .f32) (V m c main_v47) (argV m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, List.flatten_cons, List.flatten_nil, List.append_nil, List.cons_append, List.nil_append]
  after_results
  simp only [StableHlo.TRef.toBuf, StableHlo.TRef.ofBuf, cast_eq]
  funext i
  pointwise [pk]
  after_results_simp
  simp only [StableHlo.TRef.toBuf, StableHlo.TRef.ofBuf, cast_eq]
  pointwise
  have l0 : (i 0).val < 32 := (i 0).isLt
  have l1 : (i 1).val < 128 := (i 1).isLt
  simp only [Nat.sub_sub, Nat.reduceAdd]
  by_cases c0 : (i 0).val < 8
  · have d0 : (i 0).val * 128 + (i 1).val < 1024 := by omega
    have e0 : ((i 0).val * 128 + (i 1).val) / 128 = (i 0).val := by omega
    have e1 : ((i 0).val * 128 + (i 1).val) % 128 = (i 1).val := by omega
    simp only [dif_pos c0, dif_pos d0, e0, e1]
    rfl
  by_cases c1 : (i 0).val < 16
  · have c1' : (i 0).val - 8 < 8 := by omega
    have d1 : ((i 0).val - 8) * 128 + (i 1).val < 1024 := by omega
    simp only [dif_neg c0, dif_pos c1, dif_pos c1', dif_pos d1]
  have c1' : ¬ (i 0).val - 8 < 8 := by omega
  by_cases c2 : (i 0).val < 24
  · have c2' : (i 0).val - 16 < 8 := by omega
    have d2 : ((i 0).val - 16) * 128 + (i 1).val < 1024 := by omega
    simp only [dif_neg c0, dif_neg c1, dif_neg c1', dif_pos c2, dif_pos c2', dif_pos d2]
  have c2' : ¬ (i 0).val - 16 < 8 := by omega
  by_cases c3 : (i 0).val < 28
  · have c3' : (i 0).val - 24 < 4 := by omega
    have d3 : ((i 0).val - 24) * 128 + (i 1).val < 512 := by omega
    simp only [dif_neg c0, dif_neg c1, dif_neg c1', dif_neg c2, dif_neg c2', dif_pos c3, dif_pos c3', dif_pos d3]
  have c3' : ¬ (i 0).val - 24 < 4 := by omega
  have d4 : ((i 0).val - 28) * 128 + (i 1).val < 512 := by omega
  simp only [dif_neg c0, dif_neg c1, dif_neg c1', dif_neg c2, dif_neg c2', dif_neg c3, dif_neg c3', dif_pos d4]

/-- The gradient: the sum over the eight devices of rows 1024 to 1055. -/
def Gg (x : FVec Ideal S8x1056x128 .f32) : FVec Ideal S32x128 .f32 := fun i =>
  let r : Fin 1056 := ⟨1024 + (i 0).val, by have : (i 0).val < 32 := (i 0).isLt; omega⟩
  x (ix3 0 r (i 1)) + x (ix3 1 r (i 1)) + x (ix3 2 r (i 1)) + x (ix3 3 r (i 1)) + x (ix3 4 r (i 1)) + x (ix3 5 r (i 1))
    + x (ix3 6 r (i 1)) + x (ix3 7 r (i 1))

/-- The first moment of a value with gradient `g`. -/
def mom (g a : EReal) : EReal := Ideal.ofBits .f32 0x3F666666#32 * a + Ideal.ofBits .f32 0x3DCCCCCD#32 * g

/-- The second moment of a value with gradient `g`. -/
def sq (g a : EReal) : EReal := Ideal.ofBits .f32 0x3F7FBE77#32 * a + Ideal.ofBits .f32 0x3A83126F#32 * (g * g)

/-- The update of the value `w` with the moments `p` and `q`. -/
def upd (p q w : EReal) : EReal :=
  Ideal.ofBits .f32 0xBA83126F#32
    * (Ideal.div (Ideal.div p (Ideal.ofBits .f32 0x3F26BD02#32))
        (Ideal.sqrt (Ideal.div q (Ideal.ofBits .f32 0x3C231ACC#32)) + Ideal.ofBits .f32 0x322BCC77#32)
      + Ideal.ofBits .f32 0x3C23D70A#32 * w)

/-- The first moments. -/
def Gm (g a : FVec Ideal S32x128 .f32) : FVec Ideal S32x128 .f32 := fun i => mom (g i) (a i)

/-- The second moments. -/
def Gs (g a : FVec Ideal S32x128 .f32) : FVec Ideal S32x128 .f32 := fun i => sq (g i) (a i)

/-- The updates. -/
def Gd (p q w : FVec Ideal S32x128 .f32) : FVec Ideal S32x128 .f32 := fun i => upd (p i) (q i) (w i)

/-- The block each window is on at the one grid point. -/
theorem index : ∀ t : Fin cfg0.N,
    win0_0.index t = ![0, 32, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

/-- The block of the gradients that the call reads: rows 1024 to 1055 of every device. -/
theorem blk0 (c : Dev nD) (t : Fin cfg0.N) (i : S8x32x128.Idx) : @Eq EReal (iblk m c 0 t i)
    (argG m c (ix3 (i 0) ⟨1024 + (i 1).val, by have : (i 1).val < 32 := (i 1).isLt; omega⟩ (i 2))) := by
  obtain ⟨i0, -⟩ := index t
  show @Eq EReal _ _
  rw [show argG m c = (V m c main_arg0 : FVec Ideal S8x1056x128 .f32) from (V_main_arg0 m c).symm]
  refine congrArg (V m c main_arg0 : FVec Ideal S8x1056x128 .f32) (funext fun d => Fin.ext ?_)
  fin_cases d <;> blk_simp [i0] <;> rfl

/-- The block of the parameters that the call reads: all of them. -/
theorem blk1 (c : Dev nD) (t : Fin cfg0.N) (i : S32x128.Idx) : @Eq EReal (iblk m c 1 t i) (argW m c i) := by
  obtain ⟨-, i1, -⟩ := index t
  rw [← V_v15]
  refine congrArg (V m c main_v15 : FVec Ideal S32x128 .f32) (Shape.idx_ext₂ ?_ ?_) <;> blk_simp [i1]

/-- The block of the first moments that the call reads: all of them. -/
theorem blk2 (c : Dev nD) (t : Fin cfg0.N) (i : S32x128.Idx) : @Eq EReal (iblk m c 2 t i) (argM m c i) := by
  obtain ⟨-, -, i2, -⟩ := index t
  rw [← V_v31]
  refine congrArg (V m c main_v31 : FVec Ideal S32x128 .f32) (Shape.idx_ext₂ ?_ ?_) <;> blk_simp [i2]

/-- The block of the second moments that the call reads: all of them. -/
theorem blk3 (c : Dev nD) (t : Fin cfg0.N) (i : S32x128.Idx) : @Eq EReal (iblk m c 3 t i) (argV m c i) := by
  obtain ⟨-, -, -, i3, -⟩ := index t
  rw [← V_v47]
  refine congrArg (V m c main_v47 : FVec Ideal S32x128 .f32) (Shape.idx_ext₂ ?_ ?_) <;> blk_simp [i3]

/-- What the call reads of one device's gradients. -/
abbrev part (c : Dev nD) (t : Fin cfg0.N) (y : S32x128.Idx) (k : Fin 8) : EReal := iblk m c 0 t (ix3 k (y 0) (y 1))

/-- The sum over the eight devices, out of what the call reads. -/
theorem sum0 (c : Dev nD) (t : Fin cfg0.N) (y : S32x128.Idx) : @Eq EReal (Gg (argG m c) y)
    (part m c t y 0 + part m c t y 1 + part m c t y 2 + part m c t y 3 + part m c t y 4 + part m c t y 5 + part m c t y 6
      + part m c t y 7) := by
  have h : ∀ k : Fin 8, part m c t y k = _ := fun k => blk0 m c t (ix3 k (y 0) (y 1))
  rw [h, h, h, h, h, h, h, h]
  rfl

/-- The gradient after the call. -/
theorem final4 (c : Dev nD) : (dats m 0 c).arrAt 4 cfg0.N = Gg (argG m c) := by
  refine (dats m 0 c).arrAt_eq_of_covers 4 _ (by decide +kernel) fun t hf y => ?_
  blk_simp
  rw [after0_4]
  frame_out
  obtain ⟨-, -, -, -, i4, i5, i6, i7⟩ := index t
  unfold_payloads
  have e : (win0_4.blk t).view.emb y = (y : S32x128.Idx) := Shape.idx_ext₂ (by blk_simp [i4]) (by blk_simp [i4])
  pointwise
  blk_simp
  change S32x128.Idx at y
  rw [e, sum0 m c t y]
  try rfl

/-- The update after the call. -/
theorem final5 (c : Dev nD) : (dats m 0 c).arrAt 5 cfg0.N = Gd (Gm (Gg (argG m c)) (argM m c)) (Gs (Gg (argG m c)) (argV m c)) (argW m c) := by
  refine (dats m 0 c).arrAt_eq_of_covers 5 _ (by decide +kernel) fun t hf y => ?_
  blk_simp
  rw [after0_5]
  frame_out
  obtain ⟨-, -, -, -, i4, i5, i6, i7⟩ := index t
  unfold_payloads
  have e : (win0_5.blk t).view.emb y = (y : S32x128.Idx) := Shape.idx_ext₂ (by blk_simp [i5]) (by blk_simp [i5])
  pointwise [Gd, Gm, Gs, upd, mom, sq]
  blk_simp
  change S32x128.Idx at y
  rw [e, sum0 m c t y, ← blk1 m c t y, ← blk2 m c t y, ← blk3 m c t y]
  try rfl

/-- The first moment after the call. -/
theorem final6 (c : Dev nD) : (dats m 0 c).arrAt 6 cfg0.N = Gm (Gg (argG m c)) (argM m c) := by
  refine (dats m 0 c).arrAt_eq_of_covers 6 _ (by decide +kernel) fun t hf y => ?_
  blk_simp
  rw [after0_6]
  frame_out
  obtain ⟨-, -, -, -, i4, i5, i6, i7⟩ := index t
  unfold_payloads
  have e : (win0_6.blk t).view.emb y = (y : S32x128.Idx) := Shape.idx_ext₂ (by blk_simp [i6]) (by blk_simp [i6])
  pointwise [Gm, mom]
  blk_simp
  change S32x128.Idx at y
  rw [e, sum0 m c t y, ← blk2 m c t y]
  try rfl

/-- The second moment after the call. -/
theorem final7 (c : Dev nD) : (dats m 0 c).arrAt 7 cfg0.N = Gs (Gg (argG m c)) (argV m c) := by
  refine (dats m 0 c).arrAt_eq_of_covers 7 _ (by decide +kernel) fun t hf y => ?_
  blk_simp
  rw [after0_7]
  frame_out
  obtain ⟨-, -, -, -, i4, i5, i6, i7⟩ := index t
  unfold_payloads
  have e : (win0_7.blk t).view.emb y = (y : S32x128.Idx) := Shape.idx_ext₂ (by blk_simp [i7]) (by blk_simp [i7])
  pointwise [Gs, sq]
  blk_simp
  change S32x128.Idx at y
  rw [e, sum0 m c t y, ← blk3 m c t y]
  try rfl

end Cert.TinyIdeal.Closed

end
-- ==== Proof.Tiny.Ref.lean ====
/- The plain lines of the optimiser on the small parameters, result by result. -/
module

public import proofs.«01_k».proof.Proof.Tiny.Kernel
public import proofs.«01_k».proof.Proof.Gen.TinyRefIdeal.Read

@[expose] public section

set_option maxRecDepth 16384

noncomputable section

namespace Cert.TinyRefIdeal.Closed

open Cert.TinyRefIdeal Cert.TinyRefIdeal.Read Idealize.ShloMosaic Idealize.ShloMosaic.TcCoe Idealize.SL.Sem
open Cert.TinyIdeal.Closed

set_option maxHeartbeats 2000000 in
/-- Five parameters, each laid in rows of 128 and put one after the other. -/
theorem cat_pk (b : FVec Ideal S1x8x128 .f32) (n : FVec Ideal S1x1024 .f32) (f : FVec Ideal S1024 .f32) (g l : FVec Ideal S1x512 .f32) :
    @Eq (FVec Ideal S32x128 .f32) (concatenate S32x128 0 [⟨S8x128, shapeCast _ b (by decide)⟩,
      ⟨S8x128, shapeCast _ n (by decide)⟩, ⟨S8x128, shapeCast _ f (by decide)⟩,
      ⟨S4x128, shapeCast _ g (by decide)⟩, ⟨S4x128, shapeCast _ l (by decide)⟩]
      (show Shape.Concatenates [S8x128, S8x128, S8x128, S4x128, S4x128] S32x128 0 by decide)) (pk b n f g l) := by
  funext i
  pointwise [pk]
  simp only [Nat.sub_sub, Nat.reduceAdd]
  by_cases c0 : (i 0).val < 8
  · simp only [dif_pos c0]
  by_cases c1 : (i 0).val < 16
  · have c1' : (i 0).val - 8 < 8 := by omega
    simp only [dif_neg c0, dif_pos c1, dif_pos c1']
  have c1' : ¬ (i 0).val - 8 < 8 := by omega
  by_cases c2 : (i 0).val < 24
  · have c2' : (i 0).val - 16 < 8 := by omega
    simp only [dif_neg c0, dif_neg c1, dif_neg c1', dif_pos c2, dif_pos c2']
  have c2' : ¬ (i 0).val - 16 < 8 := by omega
  by_cases c3 : (i 0).val < 28
  · have c3' : (i 0).val - 24 < 4 := by omega
    simp only [dif_neg c0, dif_neg c1, dif_neg c1', dif_neg c2, dif_neg c2', dif_pos c3, dif_pos c3']
  have c3' : ¬ (i 0).val - 24 < 4 := by omega
  simp only [dif_neg c0, dif_neg c1, dif_neg c1', dif_neg c2, dif_neg c2', dif_neg c3, dif_neg c3']

variable (x : FVec Ideal S8x1056x128 .f32) (b b' b'' : FVec Ideal S1x8x128 .f32) (n n' n'' : FVec Ideal S1x1024 .f32)
  (f f' f'' : FVec Ideal S1024 .f32) (g g' g'' l l' l'' : FVec Ideal S1x512 .f32)

/-- The gradients. -/
theorem ref_g : val_main_v136 (F := Ideal) x = Gg x := by
  refine (cat_pk (val_main_v2 (F := Ideal) x) (val_main_v28 (F := Ideal) x) (val_main_v54 (F := Ideal) x) (val_main_v80 (F := Ideal) x)
    (val_main_v106 (F := Ideal) x)).trans ?_
  funext i
  unfold val_main_v2 val_main_v28 val_main_v54 val_main_v80 val_main_v106 val_main_v1 val_main_v27 val_main_v53 val_main_v79
    val_main_v105 val_main_v0 val_main_cst
  pointwise [pk, Gg, Fin.sum_univ_eight]
  have l0 : (i 0).val < 32 := (i 0).isLt
  have l1 : (i 1).val < 128 := (i 1).isLt
  by_cases c0 : (i 0).val < 8
  · simp only [dif_pos c0]
  by_cases c1 : (i 0).val < 16
  · have e : 1032 + (((i 0).val - 8) * 128 + (i 1).val) / 128 = 1024 + (i 0).val := by omega
    simp only [dif_neg c0, dif_pos c1, e]
  by_cases c2 : (i 0).val < 24
  · have e : 1040 + (((i 0).val - 16) * 128 + (i 1).val) / 128 = 1024 + (i 0).val := by omega
    simp only [dif_neg c0, dif_neg c1, dif_pos c2, e]
  by_cases c3 : (i 0).val < 28
  · have e : 1048 + (((i 0).val - 24) * 128 + (i 1).val) / 128 = 1024 + (i 0).val := by omega
    simp only [dif_neg c0, dif_neg c1, dif_neg c2, dif_pos c3, e]
  have e : 1052 + (((i 0).val - 28) * 128 + (i 1).val) / 128 = 1024 + (i 0).val := by omega
  simp only [dif_neg c0, dif_neg c1, dif_neg c2, dif_neg c3, e]

/-- Rows of first moments are the first moments of rows. -/
theorem pk_mom : pk (fun i => mom (b i) (b' i)) (fun i => mom (n i) (n' i)) (fun i => mom (f i) (f' i)) (fun i => mom (g i) (g' i))
    (fun i => mom (l i) (l' i)) = Gm (pk b n f g l) (pk b' n' f' g' l') := by
  funext i
  simp only [pk, Gm]
  split_ifs <;> rfl

/-- Rows of second moments are the second moments of rows. -/
theorem pk_sq : pk (fun i => sq (b i) (b' i)) (fun i => sq (n i) (n' i)) (fun i => sq (f i) (f' i)) (fun i => sq (g i) (g' i))
    (fun i => sq (l i) (l' i)) = Gs (pk b n f g l) (pk b' n' f' g' l') := by
  funext i
  simp only [pk, Gs]
  split_ifs <;> rfl

/-- Rows of updates are the updates of rows. -/
theorem pk_upd : pk (fun i => upd (b i) (b' i) (b'' i)) (fun i => upd (n i) (n' i) (n'' i)) (fun i => upd (f i) (f' i) (f'' i))
    (fun i => upd (g i) (g' i) (g'' i)) (fun i => upd (l i) (l' i) (l'' i))
    = Gd (pk b n f g l) (pk b' n' f' g' l') (pk b'' n'' f'' g'' l'') := by
  funext i
  simp only [pk, Gd]
  split_ifs <;> rfl

/-- The first moments. -/
theorem ref_m : val_main_v148 (F := Ideal) x b n f g l = Gm (Gg x) (pk b n f g l) := by
  rw [← ref_g]
  refine (cat_pk (val_main_v7 (F := Ideal) x b) (val_main_v33 (F := Ideal) x n) (val_main_v59 (F := Ideal) x f)
    (val_main_v85 (F := Ideal) x g) (val_main_v111 (F := Ideal) x l)).trans ?_
  refine Eq.trans ?_ (congrArg (fun z => Gm z (pk b n f g l)) (cat_pk (val_main_v2 (F := Ideal) x) (val_main_v28 (F := Ideal) x)
    (val_main_v54 (F := Ideal) x) (val_main_v80 (F := Ideal) x) (val_main_v106 (F := Ideal) x)).symm)
  exact pk_mom _ _ _ _ _ _ _ _ _ _

/-- The second moments. -/
theorem ref_s : val_main_v154 (F := Ideal) x b n f g l = Gs (Gg x) (pk b n f g l) := by
  rw [← ref_g]
  refine (cat_pk (val_main_v13 (F := Ideal) x b) (val_main_v39 (F := Ideal) x n) (val_main_v65 (F := Ideal) x f)
    (val_main_v91 (F := Ideal) x g) (val_main_v117 (F := Ideal) x l)).trans ?_
  refine Eq.trans ?_ (congrArg (fun z => Gs z (pk b n f g l)) (cat_pk (val_main_v2 (F := Ideal) x) (val_main_v28 (F := Ideal) x)
    (val_main_v54 (F := Ideal) x) (val_main_v80 (F := Ideal) x) (val_main_v106 (F := Ideal) x)).symm)
  exact pk_sq _ _ _ _ _ _ _ _ _ _

/-- The updates. -/
theorem ref_d : val_main_v142 (F := Ideal) x b n f g l b' n' f' g' l' b'' n'' f'' g'' l''
    = Gd (Gm (Gg x) (pk b' n' f' g' l')) (Gs (Gg x) (pk b'' n'' f'' g'' l'')) (pk b n f g l) := by
  rw [← ref_m, ← ref_s]
  refine (cat_pk (val_main_v26 (F := Ideal) x b b' b'') (val_main_v52 (F := Ideal) x n n' n'') (val_main_v78 (F := Ideal) x f f' f'')
    (val_main_v104 (F := Ideal) x g g' g'') (val_main_v130 (F := Ideal) x l l' l'')).trans ?_
  refine Eq.trans ?_ (congrArg₂ (fun z w => Gd z w (pk b n f g l))
    (cat_pk (val_main_v7 (F := Ideal) x b') (val_main_v33 (F := Ideal) x n') (val_main_v59 (F := Ideal) x f')
      (val_main_v85 (F := Ideal) x g') (val_main_v111 (F := Ideal) x l')).symm
    (cat_pk (val_main_v13 (F := Ideal) x b'') (val_main_v39 (F := Ideal) x n'') (val_main_v65 (F := Ideal) x f'')
      (val_main_v91 (F := Ideal) x g'') (val_main_v117 (F := Ideal) x l'')).symm)
  exact pk_upd _ _ _ _ _ _ _ _ _ _ _ _ _ _ _

end Cert.TinyRefIdeal.Closed

end
-- ==== Proof.Tiny.Main.lean ====
/- The optimiser on the small parameters against its plain lines. -/
module

public import proofs.«01_k».proof.Defs
public import proofs.«01_k».proof.Proof.Tiny.Kernel
public import proofs.«01_k».proof.Proof.Gen.TinyRefIdeal.Run
public import proofs.«01_k».proof.Proof.Tiny.Ref

@[expose] public section

set_option maxRecDepth 16384

noncomputable section

namespace Cert.Proof

open Idealize.ShloMosaic Idealize.ShloMosaic.TcCoe Idealize.SL.Sem
open Cert.TinyIdeal.Closed Cert.TinyRefIdeal.Read Cert.TinyRefIdeal.Closed

/-- The call of the optimiser on the small parameters computes the plain lines, from any arguments. -/
theorem algebraic_tiny : Cert.algebraic_TinyIdeal_TinyRefIdeal := by
  intro m ρ m' ρ' _ hag
  refine ⟨fun c => Gg (argG m c), fun c => Gd (Gm (Gg (argG m c)) (argM m c)) (Gs (Gg (argG m c)) (argV m c)) (argW m c), fun c => Gm (Gg (argG m c)) (argM m c), fun c => Gs (Gg (argG m c)) (argV m c), ?_, ?_⟩
  · exact (θ_run _ _ _).mono (fun r h c => by
      obtain ⟨h4, h5, h6, h7, hr⟩ := h c
      exact ⟨h4.trans (final4 m c), h5.trans (final5 m c), h6.trans (final6 m c), h7.trans (final7 m c), hr⟩) (Cert.TinyIdeal.Value.run_blocks m ρ)
  · refine (θ_run _ _ _).mono (fun r h c => ?_) (Cert.TinyRefIdeal.Value.run m' ρ')
    obtain ⟨h4, h5, h6, h7, hr⟩ := h c
    obtain ⟨a0, a1, a2, a3, a4, a5, a6, a7, a8, a9, a10, a11, a12, a13, a14, a15⟩ := hag c
    refine ⟨h4.trans ?_, h5.trans ?_, h6.trans ?_, h7.trans ?_, hr⟩
    · rw [val_main_v136_eq]
      change val_main_v136 (F := Ideal)
        (m' (c.tc.loc Cert.TinyRefIdeal.main_arg0)) = _
      rw [a0]
      exact ref_g _
    · rw [val_main_v142_eq]
      change val_main_v142 (F := Ideal)
        (m' (c.tc.loc Cert.TinyRefIdeal.main_arg0)) (m' (c.tc.loc Cert.TinyRefIdeal.main_arg1))
        (m' (c.tc.loc Cert.TinyRefIdeal.main_arg2)) (m' (c.tc.loc Cert.TinyRefIdeal.main_arg3))
        (m' (c.tc.loc Cert.TinyRefIdeal.main_arg4)) (m' (c.tc.loc Cert.TinyRefIdeal.main_arg5))
        (m' (c.tc.loc Cert.TinyRefIdeal.main_arg6)) (m' (c.tc.loc Cert.TinyRefIdeal.main_arg7))
        (m' (c.tc.loc Cert.TinyRefIdeal.main_arg8)) (m' (c.tc.loc Cert.TinyRefIdeal.main_arg9))
        (m' (c.tc.loc Cert.TinyRefIdeal.main_arg10)) (m' (c.tc.loc Cert.TinyRefIdeal.main_arg11))
        (m' (c.tc.loc Cert.TinyRefIdeal.main_arg12)) (m' (c.tc.loc Cert.TinyRefIdeal.main_arg13))
        (m' (c.tc.loc Cert.TinyRefIdeal.main_arg14)) (m' (c.tc.loc Cert.TinyRefIdeal.main_arg15)) = _
      rw [a0, a1, a2, a3, a4, a5, a6, a7, a8, a9, a10, a11, a12, a13, a14, a15]
      exact ref_d _ _ _ _ _ _ _ _ _ _ _ _ _ _ _ _
    · rw [val_main_v148_eq]
      change val_main_v148 (F := Ideal)
        (m' (c.tc.loc Cert.TinyRefIdeal.main_arg0)) (m' (c.tc.loc Cert.TinyRefIdeal.main_arg6))
        (m' (c.tc.loc Cert.TinyRefIdeal.main_arg7)) (m' (c.tc.loc Cert.TinyRefIdeal.main_arg8))
        (m' (c.tc.loc Cert.TinyRefIdeal.main_arg9)) (m' (c.tc.loc Cert.TinyRefIdeal.main_arg10)) = _
      rw [a0, a6, a7, a8, a9, a10]
      exact ref_m _ _ _ _ _ _
    · rw [val_main_v154_eq]
      change val_main_v154 (F := Ideal)
        (m' (c.tc.loc Cert.TinyRefIdeal.main_arg0)) (m' (c.tc.loc Cert.TinyRefIdeal.main_arg11))
        (m' (c.tc.loc Cert.TinyRefIdeal.main_arg12)) (m' (c.tc.loc Cert.TinyRefIdeal.main_arg13))
        (m' (c.tc.loc Cert.TinyRefIdeal.main_arg14)) (m' (c.tc.loc Cert.TinyRefIdeal.main_arg15)) = _
      rw [a0, a11, a12, a13, a14, a15]
      exact ref_s _ _ _ _ _ _

end Cert.Proof

end
-- ==== Proof.lean ====
module

public import proofs.«01_k».proof.Defs
public import proofs.«01_k».proof.Proof.Gen.Relu2
public import proofs.«01_k».proof.Proof.Gen.Relu2Ideal
public import proofs.«01_k».proof.Proof.Gen.Relu2RefIdeal
public import proofs.«01_k».proof.Proof.Gen.Gates
public import proofs.«01_k».proof.Proof.Gen.GatesIdeal
public import proofs.«01_k».proof.Proof.Gen.GatesRefIdeal
public import proofs.«01_k».proof.Proof.Gen.Loss
public import proofs.«01_k».proof.Proof.Gen.LossIdeal
public import proofs.«01_k».proof.Proof.Gen.LossRefIdeal
public import proofs.«01_k».proof.Proof.Gen.Norm2
public import proofs.«01_k».proof.Proof.Gen.Norm2Ideal
public import proofs.«01_k».proof.Proof.Gen.Norm2RefIdeal
public import proofs.«01_k».proof.Proof.Gen.Norm1
public import proofs.«01_k».proof.Proof.Gen.Norm1Ideal
public import proofs.«01_k».proof.Proof.Gen.Norm1RefIdeal
public import proofs.«01_k».proof.Proof.Gen.AttnOut
public import proofs.«01_k».proof.Proof.Gen.AttnOutIdeal
public import proofs.«01_k».proof.Proof.Gen.AttnOutRefIdeal
public import proofs.«01_k».proof.Proof.Gen.Forget
public import proofs.«01_k».proof.Proof.Gen.ForgetIdeal
public import proofs.«01_k».proof.Proof.Gen.ForgetRefIdeal
public import proofs.«01_k».proof.Proof.Gen.Sgu
public import proofs.«01_k».proof.Proof.Gen.SguIdeal
public import proofs.«01_k».proof.Proof.Gen.SguRefIdeal
public import proofs.«01_k».proof.Proof.Gen.Act
public import proofs.«01_k».proof.Proof.Gen.ActIdeal
public import proofs.«01_k».proof.Proof.Gen.ActRefIdeal
public import proofs.«01_k».proof.Proof.Gen.Merge
public import proofs.«01_k».proof.Proof.Gen.MergeIdeal
public import proofs.«01_k».proof.Proof.Gen.MergeRefIdeal
public import proofs.«01_k».proof.Proof.Gen.Resid
public import proofs.«01_k».proof.Proof.Gen.ResidIdeal
public import proofs.«01_k».proof.Proof.Gen.ResidRefIdeal
public import proofs.«01_k».proof.Proof.Gen.Rms
public import proofs.«01_k».proof.Proof.Gen.RmsIdeal
public import proofs.«01_k».proof.Proof.Gen.RmsRefIdeal
public import proofs.«01_k».proof.Proof.Gen.Cum
public import proofs.«01_k».proof.Proof.Gen.CumIdeal
public import proofs.«01_k».proof.Proof.Gen.CumRefIdeal
public import proofs.«01_k».proof.Proof.Gen.Mix
public import proofs.«01_k».proof.Proof.Gen.MixIdeal
public import proofs.«01_k».proof.Proof.Gen.MixRefIdeal
public import proofs.«01_k».proof.Proof.Gen.Gw
public import proofs.«01_k».proof.Proof.Gen.GwIdeal
public import proofs.«01_k».proof.Proof.Gen.GwRefIdeal
public import proofs.«01_k».proof.Proof.Gen.Rest
public import proofs.«01_k».proof.Proof.Gen.RestIdeal
public import proofs.«01_k».proof.Proof.Gen.RestRefIdeal
public import proofs.«01_k».proof.Proof.Gen.Adam
public import proofs.«01_k».proof.Proof.Gen.AdamIdeal
public import proofs.«01_k».proof.Proof.Gen.AdamRefIdeal
public import proofs.«01_k».proof.Proof.Gen.Tiny
public import proofs.«01_k».proof.Proof.Gen.TinyIdeal
public import proofs.«01_k».proof.Proof.Gen.TinyRefIdeal
public import proofs.«01_k».proof.Proof.Gen.Relu2.Frame
public import proofs.«01_k».proof.Proof.Gen.Relu2Ideal.Frame
public import proofs.«01_k».proof.Proof.Gen.Relu2Ideal.Value
public import proofs.«01_k».proof.Proof.Gen.Relu2RefIdeal.Run
public import proofs.«01_k».proof.Proof.Gen.Relu2RefIdeal.Read
public import proofs.«01_k».proof.Proof.Relu2.Main
public import proofs.«01_k».proof.Proof.Gen.Gates.Frame
public import proofs.«01_k».proof.Proof.Gen.GatesIdeal.Frame
public import proofs.«01_k».proof.Proof.Gen.GatesIdeal.Value
public import proofs.«01_k».proof.Proof.Gen.GatesRefIdeal.Run
public import proofs.«01_k».proof.Proof.Gen.GatesRefIdeal.Read
public import proofs.«01_k».proof.Proof.Gates.Main
public import proofs.«01_k».proof.Proof.Gen.Loss.Frame
public import proofs.«01_k».proof.Proof.Gen.LossIdeal.Frame
public import proofs.«01_k».proof.Proof.Gen.LossIdeal.Value
public import proofs.«01_k».proof.Proof.Gen.LossRefIdeal.Run
public import proofs.«01_k».proof.Proof.Gen.LossRefIdeal.Read
public import proofs.«01_k».proof.Proof.Loss.Main
public import proofs.«01_k».proof.Proof.Gen.Pre_finite_loss
public import proofs.«01_k».proof.Proof.Gen.Norm2.Frame
public import proofs.«01_k».proof.Proof.Gen.Norm2Ideal.Frame
public import proofs.«01_k».proof.Proof.Gen.Norm2Ideal.Value
public import proofs.«01_k».proof.Proof.Gen.Norm2RefIdeal.Run
public import proofs.«01_k».proof.Proof.Gen.Norm2RefIdeal.Read
public import proofs.«01_k».proof.Proof.Norm2.Main
public import proofs.«01_k».proof.Proof.Gen.Pre_finite_norm2
public import proofs.«01_k».proof.Proof.Gen.Norm1.Frame
public import proofs.«01_k».proof.Proof.Gen.Norm1Ideal.Frame
public import proofs.«01_k».proof.Proof.Gen.Norm1Ideal.Value
public import proofs.«01_k».proof.Proof.Gen.Norm1RefIdeal.Run
public import proofs.«01_k».proof.Proof.Gen.Norm1RefIdeal.Read
public import proofs.«01_k».proof.Proof.Norm1.Main
public import proofs.«01_k».proof.Proof.Gen.Pre_finite_norm1
public import proofs.«01_k».proof.Proof.Gen.AttnOut.Frame
public import proofs.«01_k».proof.Proof.Gen.AttnOutIdeal.Frame
public import proofs.«01_k».proof.Proof.Gen.AttnOutIdeal.Value
public import proofs.«01_k».proof.Proof.Gen.AttnOutRefIdeal.Run
public import proofs.«01_k».proof.Proof.Gen.AttnOutRefIdeal.Read
public import proofs.«01_k».proof.Proof.AttnOut.Main
public import proofs.«01_k».proof.Proof.Gen.Pre_finite_attnout
public import proofs.«01_k».proof.Proof.Gen.Forget.Frame
public import proofs.«01_k».proof.Proof.Gen.ForgetIdeal.Frame
public import proofs.«01_k».proof.Proof.Gen.ForgetIdeal.Value
public import proofs.«01_k».proof.Proof.Gen.ForgetRefIdeal.Run
public import proofs.«01_k».proof.Proof.Gen.ForgetRefIdeal.Read
public import proofs.«01_k».proof.Proof.Forget.Main
public import proofs.«01_k».proof.Proof.Gen.Pre_finite_forget
public import proofs.«01_k».proof.Proof.Gen.Sgu.Frame
public import proofs.«01_k».proof.Proof.Gen.SguIdeal.Frame
public import proofs.«01_k».proof.Proof.Gen.SguIdeal.Value
public import proofs.«01_k».proof.Proof.Gen.SguRefIdeal.Run
public import proofs.«01_k».proof.Proof.Gen.SguRefIdeal.Read
public import proofs.«01_k».proof.Proof.Sgu.Main
public import proofs.«01_k».proof.Proof.Gen.Pre_finite_sgu
public import proofs.«01_k».proof.Proof.Gen.Act.Frame
public import proofs.«01_k».proof.Proof.Gen.ActIdeal.Frame
public import proofs.«01_k».proof.Proof.Gen.ActIdeal.Value
public import proofs.«01_k».proof.Proof.Gen.ActRefIdeal.Run
public import proofs.«01_k».proof.Proof.Gen.ActRefIdeal.Read
public import proofs.«01_k».proof.Proof.Act.Main
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Merge.Main
public import proofs.«01_k».proof.Proof.Gen.Resid.Frame
public import proofs.«01_k».proof.Proof.Gen.ResidIdeal.Frame
public import proofs.«01_k».proof.Proof.Gen.ResidIdeal.Value
public import proofs.«01_k».proof.Proof.Gen.ResidRefIdeal.Run
public import proofs.«01_k».proof.Proof.Gen.ResidRefIdeal.Read
public import proofs.«01_k».proof.Proof.Resid.Main
public import proofs.«01_k».proof.Proof.Gen.Rms.Frame
public import proofs.«01_k».proof.Proof.Gen.RmsIdeal.Frame
public import proofs.«01_k».proof.Proof.Gen.RmsIdeal.Value
public import proofs.«01_k».proof.Proof.Gen.RmsRefIdeal.Run
public import proofs.«01_k».proof.Proof.Gen.RmsRefIdeal.Read
public import proofs.«01_k».proof.Proof.Rms.Main
public import proofs.«01_k».proof.Proof.Gen.Cum.Frame
public import proofs.«01_k».proof.Proof.Gen.CumIdeal.Frame
public import proofs.«01_k».proof.Proof.Gen.CumIdeal.Value
public import proofs.«01_k».proof.Proof.Gen.CumRefIdeal.Run
public import proofs.«01_k».proof.Proof.Gen.CumRefIdeal.Read
public import proofs.«01_k».proof.Proof.Cum.Main
public import proofs.«01_k».proof.Proof.Gen.Pre_finite_cum
public import proofs.«01_k».proof.Proof.Gen.Mix.Frame
public import proofs.«01_k».proof.Proof.Gen.MixIdeal.Frame
public import proofs.«01_k».proof.Proof.Gen.MixIdeal.Value
public import proofs.«01_k».proof.Proof.Gen.MixRefIdeal.Run
public import proofs.«01_k».proof.Proof.Gen.MixRefIdeal.Read
public import proofs.«01_k».proof.Proof.Mix.Main
public import proofs.«01_k».proof.Proof.Gen.Gw.Frame
public import proofs.«01_k».proof.Proof.Gen.GwIdeal.Frame
public import proofs.«01_k».proof.Proof.Gen.GwIdeal.Value
public import proofs.«01_k».proof.Proof.Gen.GwRefIdeal.Run
public import proofs.«01_k».proof.Proof.Gen.GwRefIdeal.Read
public import proofs.«01_k».proof.Proof.Gw.Main
public import proofs.«01_k».proof.Proof.Gen.Rest.Frame
public import proofs.«01_k».proof.Proof.Gen.RestIdeal.Frame
public import proofs.«01_k».proof.Proof.Gen.RestIdeal.Value
public import proofs.«01_k».proof.Proof.Gen.RestRefIdeal.Run
public import proofs.«01_k».proof.Proof.Gen.RestRefIdeal.Read
public import proofs.«01_k».proof.Proof.Rest.Main
public import proofs.«01_k».proof.Proof.Gen.Adam.Frame
public import proofs.«01_k».proof.Proof.Gen.AdamIdeal.Frame
public import proofs.«01_k».proof.Proof.Gen.AdamIdeal.Value
public import proofs.«01_k».proof.Proof.Gen.AdamRefIdeal.Run
public import proofs.«01_k».proof.Proof.Gen.AdamRefIdeal.Read
public import proofs.«01_k».proof.Proof.Adam.Main
public import proofs.«01_k».proof.Proof.Gen.Tiny.Frame
public import proofs.«01_k».proof.Proof.Gen.TinyIdeal.Frame
public import proofs.«01_k».proof.Proof.Gen.TinyIdeal.Value
public import proofs.«01_k».proof.Proof.Gen.TinyRefIdeal.Run
public import proofs.«01_k».proof.Proof.Gen.TinyRefIdeal.Read
public import proofs.«01_k».proof.Proof.Tiny.Main

@[expose] public section

noncomputable section

namespace Cert.Proof

open Idealize.ShloMosaic Idealize.SL.Sem

/-- All the claims. A kernel's frame is its generated one; a reference's is its run, whose machine has no semaphore. -/
theorem claim : Cert.Claim :=
  ⟨Cert.Relu2.Gen.facts, Cert.Relu2Ideal.Gen.facts, Cert.Relu2RefIdeal.Gen.facts, Cert.Gates.Gen.facts, Cert.GatesIdeal.Gen.facts, Cert.GatesRefIdeal.Gen.facts, Cert.Loss.Gen.facts, Cert.LossIdeal.Gen.facts, Cert.LossRefIdeal.Gen.facts, Cert.Norm2.Gen.facts, Cert.Norm2Ideal.Gen.facts, Cert.Norm2RefIdeal.Gen.facts, Cert.Norm1.Gen.facts, Cert.Norm1Ideal.Gen.facts, Cert.Norm1RefIdeal.Gen.facts, Cert.AttnOut.Gen.facts, Cert.AttnOutIdeal.Gen.facts, Cert.AttnOutRefIdeal.Gen.facts, Cert.Forget.Gen.facts, Cert.ForgetIdeal.Gen.facts, Cert.ForgetRefIdeal.Gen.facts, Cert.Sgu.Gen.facts, Cert.SguIdeal.Gen.facts, Cert.SguRefIdeal.Gen.facts, Cert.Act.Gen.facts, Cert.ActIdeal.Gen.facts, Cert.ActRefIdeal.Gen.facts, Cert.Merge.Gen.facts, Cert.MergeIdeal.Gen.facts, Cert.MergeRefIdeal.Gen.facts, Cert.Resid.Gen.facts, Cert.ResidIdeal.Gen.facts, Cert.ResidRefIdeal.Gen.facts, Cert.Rms.Gen.facts, Cert.RmsIdeal.Gen.facts, Cert.RmsRefIdeal.Gen.facts, Cert.Cum.Gen.facts, Cert.CumIdeal.Gen.facts, Cert.CumRefIdeal.Gen.facts, Cert.Mix.Gen.facts, Cert.MixIdeal.Gen.facts, Cert.MixRefIdeal.Gen.facts, Cert.Gw.Gen.facts, Cert.GwIdeal.Gen.facts, Cert.GwRefIdeal.Gen.facts, Cert.Rest.Gen.facts, Cert.RestIdeal.Gen.facts, Cert.RestRefIdeal.Gen.facts, Cert.Adam.Gen.facts, Cert.AdamIdeal.Gen.facts, Cert.AdamRefIdeal.Gen.facts, Cert.Tiny.Gen.facts, Cert.TinyIdeal.Gen.facts, Cert.TinyRefIdeal.Gen.facts, Cert.Pre_finite_loss.Gen.facts, Cert.Pre_finite_norm2.Gen.facts, Cert.Pre_finite_norm1.Gen.facts, Cert.Pre_finite_attnout.Gen.facts, Cert.Pre_finite_forget.Gen.facts, Cert.Pre_finite_sgu.Gen.facts, Cert.Pre_finite_cum.Gen.facts,
    fun m ρ _ => Cert.Relu2.Gen.frame m ρ,
    fun m ρ _ => Cert.Relu2Ideal.Gen.frame m ρ,
    fun m ρ _ => (θ_run _ _ _).mono (fun r h => ⟨fun c => (h c).2, sem_eq_zero_of_no_sems rfl r.2⟩)
      (Cert.Relu2RefIdeal.Value.run m ρ),
    fun m ρ _ => Cert.Gates.Gen.frame m ρ,
    fun m ρ _ => Cert.GatesIdeal.Gen.frame m ρ,
    fun m ρ _ => (θ_run _ _ _).mono (fun r h => ⟨fun c => (h c).2.2.2.2.2, sem_eq_zero_of_no_sems rfl r.2⟩)
      (Cert.GatesRefIdeal.Value.run m ρ),
    fun m ρ _ => Cert.Loss.Gen.frame m ρ,
    fun m ρ _ => Cert.LossIdeal.Gen.frame m ρ,
    fun m ρ _ => Cert.LossIdeal.Gen.frame m ρ,
    fun m ρ _ => (θ_run _ _ _).mono (fun r h => ⟨fun c => (h c).2.2.2.2, sem_eq_zero_of_no_sems rfl r.2⟩)
      (Cert.LossRefIdeal.Value.run m ρ),
    fun m ρ _ => (θ_run _ _ _).mono (fun r h => ⟨fun c => (h c).2.2.2.2, sem_eq_zero_of_no_sems rfl r.2⟩)
      (Cert.LossRefIdeal.Value.run m ρ),
    fun m ρ _ => Cert.Norm2.Gen.frame m ρ,
    fun m ρ _ => Cert.Norm2Ideal.Gen.frame m ρ,
    fun m ρ _ => Cert.Norm2Ideal.Gen.frame m ρ,
    fun m ρ _ => (θ_run _ _ _).mono (fun r h => ⟨fun c => (h c).2.2, sem_eq_zero_of_no_sems rfl r.2⟩)
      (Cert.Norm2RefIdeal.Value.run m ρ),
    fun m ρ _ => (θ_run _ _ _).mono (fun r h => ⟨fun c => (h c).2.2, sem_eq_zero_of_no_sems rfl r.2⟩)
      (Cert.Norm2RefIdeal.Value.run m ρ),
    fun m ρ _ => Cert.Norm1.Gen.frame m ρ,
    fun m ρ _ => Cert.Norm1Ideal.Gen.frame m ρ,
    fun m ρ _ => Cert.Norm1Ideal.Gen.frame m ρ,
    fun m ρ _ => (θ_run _ _ _).mono (fun r h => ⟨fun c => (h c).2.2, sem_eq_zero_of_no_sems rfl r.2⟩)
      (Cert.Norm1RefIdeal.Value.run m ρ),
    fun m ρ _ => (θ_run _ _ _).mono (fun r h => ⟨fun c => (h c).2.2, sem_eq_zero_of_no_sems rfl r.2⟩)
      (Cert.Norm1RefIdeal.Value.run m ρ),
    fun m ρ _ => Cert.AttnOut.Gen.frame m ρ,
    fun m ρ _ => Cert.AttnOutIdeal.Gen.frame m ρ,
    fun m ρ _ => Cert.AttnOutIdeal.Gen.frame m ρ,
    fun m ρ _ => (θ_run _ _ _).mono (fun r h => ⟨fun c => (h c).2.2, sem_eq_zero_of_no_sems rfl r.2⟩)
      (Cert.AttnOutRefIdeal.Value.run m ρ),
    fun m ρ _ => (θ_run _ _ _).mono (fun r h => ⟨fun c => (h c).2.2, sem_eq_zero_of_no_sems rfl r.2⟩)
      (Cert.AttnOutRefIdeal.Value.run m ρ),
    fun m ρ _ => Cert.Forget.Gen.frame m ρ,
    fun m ρ _ => Cert.ForgetIdeal.Gen.frame m ρ,
    fun m ρ _ => Cert.ForgetIdeal.Gen.frame m ρ,
    fun m ρ _ => (θ_run _ _ _).mono (fun r h => ⟨fun c => (h c).2.2.2, sem_eq_zero_of_no_sems rfl r.2⟩)
      (Cert.ForgetRefIdeal.Value.run m ρ),
    fun m ρ _ => (θ_run _ _ _).mono (fun r h => ⟨fun c => (h c).2.2.2, sem_eq_zero_of_no_sems rfl r.2⟩)
      (Cert.ForgetRefIdeal.Value.run m ρ),
    fun m ρ _ => Cert.Sgu.Gen.frame m ρ,
    fun m ρ _ => Cert.SguIdeal.Gen.frame m ρ,
    fun m ρ _ => Cert.SguIdeal.Gen.frame m ρ,
    fun m ρ _ => (θ_run _ _ _).mono (fun r h => ⟨fun c => (h c).2.2.2.2.2.2.2, sem_eq_zero_of_no_sems rfl r.2⟩)
      (Cert.SguRefIdeal.Value.run m ρ),
    fun m ρ _ => (θ_run _ _ _).mono (fun r h => ⟨fun c => (h c).2.2.2.2.2.2.2, sem_eq_zero_of_no_sems rfl r.2⟩)
      (Cert.SguRefIdeal.Value.run m ρ),
    fun m ρ _ => Cert.Act.Gen.frame m ρ,
    fun m ρ _ => Cert.ActIdeal.Gen.frame m ρ,
    fun m ρ _ => (θ_run _ _ _).mono (fun r h => ⟨fun c => (h c).2.2, sem_eq_zero_of_no_sems rfl r.2⟩)
      (Cert.ActRefIdeal.Value.run m ρ),
    fun m ρ _ => Cert.Merge.Gen.frame m ρ,
    fun m ρ _ => Cert.MergeIdeal.Gen.frame m ρ,
    fun m ρ _ => (θ_run _ _ _).mono (fun r h => ⟨fun c => (h c).2.2.2.2, sem_eq_zero_of_no_sems rfl r.2⟩)
      (Cert.MergeRefIdeal.Value.run m ρ),
    fun m ρ _ => Cert.Resid.Gen.frame m ρ,
    fun m ρ _ => Cert.ResidIdeal.Gen.frame m ρ,
    fun m ρ _ => (θ_run _ _ _).mono (fun r h => ⟨fun c => (h c).2.2.2.2, sem_eq_zero_of_no_sems rfl r.2⟩)
      (Cert.ResidRefIdeal.Value.run m ρ),
    fun m ρ _ => Cert.Rms.Gen.frame m ρ,
    fun m ρ _ => Cert.RmsIdeal.Gen.frame m ρ,
    fun m ρ _ => (θ_run _ _ _).mono (fun r h => ⟨fun c => (h c).2.2.2, sem_eq_zero_of_no_sems rfl r.2⟩)
      (Cert.RmsRefIdeal.Value.run m ρ),
    fun m ρ _ => Cert.Cum.Gen.frame m ρ,
    fun m ρ _ => Cert.CumIdeal.Gen.frame m ρ,
    fun m ρ _ => Cert.CumIdeal.Gen.frame m ρ,
    fun m ρ _ => (θ_run _ _ _).mono (fun r h => ⟨fun c => (h c).2, sem_eq_zero_of_no_sems rfl r.2⟩)
      (Cert.CumRefIdeal.Value.run m ρ),
    fun m ρ _ => (θ_run _ _ _).mono (fun r h => ⟨fun c => (h c).2, sem_eq_zero_of_no_sems rfl r.2⟩)
      (Cert.CumRefIdeal.Value.run m ρ),
    fun m ρ _ => Cert.Mix.Gen.frame m ρ,
    fun m ρ _ => Cert.MixIdeal.Gen.frame m ρ,
    fun m ρ _ => (θ_run _ _ _).mono (fun r h => ⟨fun c => (h c).2.2, sem_eq_zero_of_no_sems rfl r.2⟩)
      (Cert.MixRefIdeal.Value.run m ρ),
    fun m ρ _ => Cert.Gw.Gen.frame m ρ,
    fun m ρ _ => Cert.GwIdeal.Gen.frame m ρ,
    fun m ρ _ => (θ_run _ _ _).mono (fun r h => ⟨fun c => (h c).2, sem_eq_zero_of_no_sems rfl r.2⟩)
      (Cert.GwRefIdeal.Value.run m ρ),
    fun m ρ _ => Cert.Rest.Gen.frame m ρ,
    fun m ρ _ => Cert.RestIdeal.Gen.frame m ρ,
    fun m ρ _ => (θ_run _ _ _).mono (fun r h => ⟨fun c => (h c).2.2, sem_eq_zero_of_no_sems rfl r.2⟩)
      (Cert.RestRefIdeal.Value.run m ρ),
    fun m ρ _ => Cert.Adam.Gen.frame m ρ,
    fun m ρ _ => Cert.AdamIdeal.Gen.frame m ρ,
    fun m ρ _ => (θ_run _ _ _).mono (fun r h => ⟨fun c => (h c).2.2.2.2, sem_eq_zero_of_no_sems rfl r.2⟩)
      (Cert.AdamRefIdeal.Value.run m ρ),
    fun m ρ _ => Cert.Tiny.Gen.frame m ρ,
    fun m ρ _ => Cert.TinyIdeal.Gen.frame m ρ,
    fun m ρ _ => (θ_run _ _ _).mono (fun r h => ⟨fun c => (h c).2.2.2.2, sem_eq_zero_of_no_sems rfl r.2⟩)
      (Cert.TinyRefIdeal.Value.run m ρ),
    trivial,
    algebraic_relu2,
    trivial,
    algebraic_gates,
    trivial,
    algebraic_loss,
    trivial,
    algebraic_norm2,
    trivial,
    algebraic_norm1,
    trivial,
    algebraic_attnout,
    trivial,
    algebraic_forget,
    preserves_sgu,
    algebraic_sgu,
    trivial,
    algebraic_act,
    trivial,
    algebraic_merge,
    trivial,
    algebraic_resid,
    trivial,
    algebraic_rms,
    trivial,
    algebraic_cum,
    preserves_mix,
    algebraic_mix,
    trivial,
    algebraic_gw,
    trivial,
    algebraic_rest,
    trivial,
    algebraic_adam,
    trivial,
    algebraic_tiny⟩

end Cert.Proof

end
